-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_on_first_slot [hKernel3Ideal : Cert.Kernel3Ideal.Facts] [hReference3Ideal : Cert.Reference3Ideal.Facts] [hOn_first_slot : Cert.On_first_slot.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨4, ![4, 2, 1024, 1024]⟩ : Shape).Idx, (Cert.On_first_slot.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) i = 1#1 → r.2.mem ((c.tc : Thread Cert.Kernel3Ideal.nD Cert.Kernel3Ideal.τ).loc Cert.Kernel3Ideal.main_v2) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨4, ![4, 2, 1024, 1024]⟩ : Shape).Idx, (Cert.On_first_slot.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) i = 1#1 → r.2.mem ((c.tc : Thread Cert.Reference3Ideal.nD Cert.Reference3Ideal.τ).loc Cert.Reference3Ideal.main_v8) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference2Ideal_on_latent_rows [hKernel5Ideal : Cert.Kernel5Ideal.Facts] [hReference2Ideal : Cert.Reference2Ideal.Facts] [hOn_latent_rows : Cert.On_latent_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel5Ideal m →
    (∀ c : Dev Cert.Kernel5Ideal.nD,
      m' ((c.tc : Thread Cert.Reference2Ideal.nD Cert.Reference2Ideal.τ).loc Cert.Reference2Ideal.main_arg0) = m ((c.tc : Thread Cert.Kernel5Ideal.nD Cert.Kernel5Ideal.τ).loc Cert.Kernel5Ideal.main_arg0)
      ∧ m' ((c.tc : Thread Cert.Reference2Ideal.nD Cert.Reference2Ideal.τ).loc Cert.Reference2Ideal.main_arg1) = m ((c.tc : Thread Cert.Kernel5Ideal.nD Cert.Kernel5Ideal.τ).loc Cert.Kernel5Ideal.main_arg1)
      ∧ m' ((c.tc : Thread Cert.Reference2Ideal.nD Cert.Reference2Ideal.τ).loc Cert.Reference2Ideal.main_arg2) = m ((c.tc : Thread Cert.Kernel5Ideal.nD Cert.Kernel5Ideal.τ).loc Cert.Kernel5Ideal.main_arg2)
      ∧ m' ((c.tc : Thread Cert.Reference2Ideal.nD Cert.Reference2Ideal.τ).loc Cert.Reference2Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![4608, 1024]⟩ : Shape).Idx, (Cert.On_latent_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 i = 1#1 → r.2.mem ((c.tc : Thread Cert.Kernel5Ideal.nD Cert.Kernel5Ideal.τ).loc Cert.Kernel5Ideal.main_v11_0) i = v0 c i)
          ∧ (∀ i : (⟨2, ![4608, 4096]⟩ : Shape).Idx, (Cert.On_latent_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 i = 1#1 → r.2.mem ((c.tc : Thread Cert.Kernel5Ideal.nD Cert.Kernel5Ideal.τ).loc Cert.Kernel5Ideal.main_v11_1) i = v1 c i)
          ∧ (∀ i : (⟨2, ![4608, 1024]⟩ : Shape).Idx, (Cert.On_latent_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 i = 1#1 → r.2.mem ((c.tc : Thread Cert.Kernel5Ideal.nD Cert.Kernel5Ideal.τ).loc Cert.Kernel5Ideal.main_v11_2) i = v2 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4608, 1024]⟩ : Shape).Idx, (Cert.On_latent_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 i = 1#1 → r.2.mem ((c.tc : Thread Cert.Reference2Ideal.nD Cert.Reference2Ideal.τ).loc Cert.Reference2Ideal.main_v13) i = v0 c i)
          ∧ (∀ i : (⟨2, ![4608, 4096]⟩ : Shape).Idx, (Cert.On_latent_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 i = 1#1 → r.2.mem ((c.tc : Thread Cert.Reference2Ideal.nD Cert.Reference2Ideal.τ).loc Cert.Reference2Ideal.main_v14) i = v1 c i)
          ∧ (∀ i : (⟨2, ![4608, 1024]⟩ : Shape).Idx, (Cert.On_latent_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 i = 1#1 → r.2.mem ((c.tc : Thread Cert.Reference2Ideal.nD Cert.Reference2Ideal.τ).loc Cert.Reference2Ideal.main_v15) i = v2 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel6_Kernel6Ideal : Prop :=
  True

def algebraic_Kernel6Ideal_Reference6Ideal_on_first_slot [hKernel6Ideal : Cert.Kernel6Ideal.Facts] [hReference6Ideal : Cert.Reference6Ideal.Facts] [hOn_first_slot : Cert.On_first_slot.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨4, ![4, 2, 1024, 1024]⟩ : Shape).Idx, (Cert.On_first_slot.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) i = 1#1 → r.2.mem ((c.tc : Thread Cert.Kernel6Ideal.nD Cert.Kernel6Ideal.τ).loc Cert.Kernel6Ideal.main_v2) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨4, ![4, 2, 1024, 1024]⟩ : Shape).Idx, (Cert.On_first_slot.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) i = 1#1 → r.2.mem ((c.tc : Thread Cert.Reference6Ideal.nD Cert.Reference6Ideal.τ).loc Cert.Reference6Ideal.main_v10) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)) (v4 : (c : Dev Cert.Kernel8Ideal.nD) → Buf (Elt Ideal) ((c.tc : Thread Cert.Kernel8Ideal.nD Cert.Kernel8Ideal.τ).loc Cert.Kernel8Ideal.main_v9_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_v9_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v53) = v2 c
          ∧ r.2.mem ((c.tc : Thread Cert.Reference8Ideal.nD Cert.Reference8Ideal.τ).loc Cert.Reference8Ideal.main_v56) = v3 c
          ∧ r.2.mem ((c.tc : Thread Cert.Reference8Ideal.nD Cert.Reference8Ideal.τ).loc Cert.Reference8Ideal.main_v57) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference8Ideal_on_latent_rows9 [hKernel9Ideal : Cert.Kernel9Ideal.Facts] [hReference8Ideal : Cert.Reference8Ideal.Facts] [hOn_latent_rows9 : Cert.On_latent_rows9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel9Ideal m →
    (∀ c : Dev Cert.Kernel9Ideal.nD,
      m' ((c.tc : Thread Cert.Reference8Ideal.nD Cert.Reference8Ideal.τ).loc Cert.Reference8Ideal.main_arg0) = m ((c.tc : Thread Cert.Kernel9Ideal.nD Cert.Kernel9Ideal.τ).loc Cert.Kernel9Ideal.main_arg0)
      ∧ m' ((c.tc : Thread Cert.Reference8Ideal.nD Cert.Reference8Ideal.τ).loc Cert.Reference8Ideal.main_arg1) = m ((c.tc : Thread Cert.Kernel9Ideal.nD Cert.Kernel9Ideal.τ).loc Cert.Kernel9Ideal.main_arg1)
      ∧ m' ((c.tc : Thread Cert.Reference8Ideal.nD Cert.Reference8Ideal.τ).loc Cert.Reference8Ideal.main_arg2) = m ((c.tc : Thread Cert.Kernel9Ideal.nD Cert.Kernel9Ideal.τ).loc Cert.Kernel9Ideal.main_arg2)
      ∧ m' ((c.tc : Thread Cert.Reference8Ideal.nD Cert.Reference8Ideal.τ).loc Cert.Reference8Ideal.main_arg3) = m ((c.tc : Thread Cert.Kernel9Ideal.nD Cert.Kernel9Ideal.τ).loc Cert.Kernel9Ideal.main_arg3)
      ∧ m' ((c.tc : Thread Cert.Reference8Ideal.nD Cert.Reference8Ideal.τ).loc Cert.Reference8Ideal.main_arg4) = m ((c.tc : Thread Cert.Kernel9Ideal.nD Cert.Kernel9Ideal.τ).loc Cert.Kernel9Ideal.main_arg4)
      ∧ m' ((c.tc : Thread Cert.Reference8Ideal.nD Cert.Reference8Ideal.τ).loc Cert.Reference8Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)) (v2 : (c : Dev Cert.Kernel9Ideal.nD) → Buf (Elt Ideal) ((c.tc : Thread Cert.Kernel9Ideal.nD Cert.Kernel9Ideal.τ).loc Cert.Kernel9Ideal.main_v9_2)) (v3 : (c : Dev Cert.Kernel9Ideal.nD) → Buf (Elt Ideal) ((c.tc : Thread Cert.Kernel9Ideal.nD Cert.Kernel9Ideal.τ).loc Cert.Kernel9Ideal.main_v9_3)) (v4 : (c : Dev Cert.Kernel9Ideal.nD) → Buf (Elt Ideal) ((c.tc : Thread Cert.Kernel9Ideal.nD Cert.Kernel9Ideal.τ).loc Cert.Kernel9Ideal.main_v9_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          (∀ i : (⟨2, ![4608, 1024]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).1 i = 1#1 → r.2.mem ((c.tc : Thread Cert.Kernel9Ideal.nD Cert.Kernel9Ideal.τ).loc Cert.Kernel9Ideal.main_v9_0) i = v0 c i)
          ∧ (∀ i : (⟨2, ![4608, 1024]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.1 i = 1#1 → r.2.mem ((c.tc : Thread Cert.Kernel9Ideal.nD Cert.Kernel9Ideal.τ).loc Cert.Kernel9Ideal.main_v9_1) i = v1 c i)
          ∧ (∀ i : (⟨2, ![4608, 1024]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.1 i = 1#1 → r.2.mem ((c.tc : Thread Cert.Kernel9Ideal.nD Cert.Kernel9Ideal.τ).loc Cert.Kernel9Ideal.main_v9_2) i = v2 c i)
          ∧ (∀ i : (⟨2, ![4608, 4096]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2.1 i = 1#1 → r.2.mem ((c.tc : Thread Cert.Kernel9Ideal.nD Cert.Kernel9Ideal.τ).loc Cert.Kernel9Ideal.main_v9_3) i = v3 c i)
          ∧ (∀ i : (⟨2, ![4608, 1024]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2.2 i = 1#1 → r.2.mem ((c.tc : Thread Cert.Kernel9Ideal.nD Cert.Kernel9Ideal.τ).loc Cert.Kernel9Ideal.main_v9_4) i = v4 c i)
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          (∀ i : (⟨2, ![4608, 1024]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).1 i = 1#1 → r.2.mem ((c.tc : Thread Cert.Reference8Ideal.nD Cert.Reference8Ideal.τ).loc Cert.Reference8Ideal.main_v52) i = v0 c i)
          ∧ (∀ i : (⟨2, ![4608, 1024]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.1 i = 1#1 → r.2.mem ((c.tc : Thread Cert.Reference8Ideal.nD Cert.Reference8Ideal.τ).loc Cert.Reference8Ideal.main_v28) i = v1 c i)
          ∧ (∀ i : (⟨2, ![4608, 1024]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.1 i = 1#1 → r.2.mem ((c.tc : Thread Cert.Reference8Ideal.nD Cert.Reference8Ideal.τ).loc Cert.Reference8Ideal.main_v53) i = v2 c i)
          ∧ (∀ i : (⟨2, ![4608, 4096]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2.1 i = 1#1 → r.2.mem ((c.tc : Thread Cert.Reference8Ideal.nD Cert.Reference8Ideal.τ).loc Cert.Reference8Ideal.main_v56) i = v3 c i)
          ∧ (∀ i : (⟨2, ![4608, 1024]⟩ : Shape).Idx, (Cert.On_latent_rows9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2.2 i = 1#1 → r.2.mem ((c.tc : Thread Cert.Reference8Ideal.nD Cert.Reference8Ideal.τ).loc Cert.Reference8Ideal.main_v57) i = v4 c i)
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)) (v2 : (c : Dev Cert.Kernel14Ideal.nD) → Buf (Elt Ideal) ((c.tc : Thread Cert.Kernel14Ideal.nD Cert.Kernel14Ideal.τ).loc Cert.Kernel14Ideal.main_v5_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_v5_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v34) = v1 c
          ∧ r.2.mem ((c.tc : Thread Cert.Reference14Ideal.nD Cert.Reference14Ideal.τ).loc Cert.Reference14Ideal.main_v35) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference14Ideal_on_latent_rows15 [hKernel15Ideal : Cert.Kernel15Ideal.Facts] [hReference14Ideal : Cert.Reference14Ideal.Facts] [hOn_latent_rows15 : Cert.On_latent_rows15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel15Ideal m →
    (∀ c : Dev Cert.Kernel15Ideal.nD,
      m' ((c.tc : Thread Cert.Reference14Ideal.nD Cert.Reference14Ideal.τ).loc Cert.Reference14Ideal.main_arg0) = m ((c.tc : Thread Cert.Kernel15Ideal.nD Cert.Kernel15Ideal.τ).loc Cert.Kernel15Ideal.main_arg0)
      ∧ m' ((c.tc : Thread Cert.Reference14Ideal.nD Cert.Reference14Ideal.τ).loc Cert.Reference14Ideal.main_arg1) = m ((c.tc : Thread Cert.Kernel15Ideal.nD Cert.Kernel15Ideal.τ).loc Cert.Kernel15Ideal.main_arg1)
      ∧ m' ((c.tc : Thread Cert.Reference14Ideal.nD Cert.Reference14Ideal.τ).loc Cert.Reference14Ideal.main_arg2) = m ((c.tc : Thread Cert.Kernel15Ideal.nD Cert.Kernel15Ideal.τ).loc Cert.Kernel15Ideal.main_arg2)
      ∧ m' ((c.tc : Thread Cert.Reference14Ideal.nD Cert.Reference14Ideal.τ).loc Cert.Reference14Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)) (v2 : (c : Dev Cert.Kernel15Ideal.nD) → Buf (Elt Ideal) ((c.tc : Thread Cert.Kernel15Ideal.nD Cert.Kernel15Ideal.τ).loc Cert.Kernel15Ideal.main_v5_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          (∀ i : (⟨2, ![4608, 2048]⟩ : Shape).Idx, (Cert.On_latent_rows15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 i = 1#1 → r.2.mem ((c.tc : Thread Cert.Kernel15Ideal.nD Cert.Kernel15Ideal.τ).loc Cert.Kernel15Ideal.main_v5_0) i = v0 c i)
          ∧ (∀ i : (⟨2, ![4608, 1024]⟩ : Shape).Idx, (Cert.On_latent_rows15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 i = 1#1 → r.2.mem ((c.tc : Thread Cert.Kernel15Ideal.nD Cert.Kernel15Ideal.τ).loc Cert.Kernel15Ideal.main_v5_1) i = v1 c i)
          ∧ (∀ i : (⟨2, ![4608, 1024]⟩ : Shape).Idx, (Cert.On_latent_rows15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2 i = 1#1 → r.2.mem ((c.tc : Thread Cert.Kernel15Ideal.nD Cert.Kernel15Ideal.τ).loc Cert.Kernel15Ideal.main_v5_2) i = v2 c i)
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          (∀ i : (⟨2, ![4608, 2048]⟩ : Shape).Idx, (Cert.On_latent_rows15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 i = 1#1 → r.2.mem ((c.tc : Thread Cert.Reference14Ideal.nD Cert.Reference14Ideal.τ).loc Cert.Reference14Ideal.main_v25) i = v0 c i)
          ∧ (∀ i : (⟨2, ![4608, 1024]⟩ : Shape).Idx, (Cert.On_latent_rows15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 i = 1#1 → r.2.mem ((c.tc : Thread Cert.Reference14Ideal.nD Cert.Reference14Ideal.τ).loc Cert.Reference14Ideal.main_v34) i = v1 c i)
          ∧ (∀ i : (⟨2, ![4608, 1024]⟩ : Shape).Idx, (Cert.On_latent_rows15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2 i = 1#1 → r.2.mem ((c.tc : Thread Cert.Reference14Ideal.nD Cert.Reference14Ideal.τ).loc Cert.Reference14Ideal.main_v35) i = v2 c i)
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)) (v2 : (c : Dev Cert.Kernel16Ideal.nD) → Buf (Elt Ideal) ((c.tc : Thread Cert.Kernel16Ideal.nD Cert.Kernel16Ideal.τ).loc Cert.Kernel16Ideal.main_v6_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_v6_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v48) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v49) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference16Ideal_on_latent_rows17 [hKernel17Ideal : Cert.Kernel17Ideal.Facts] [hReference16Ideal : Cert.Reference16Ideal.Facts] [hOn_latent_rows17 : Cert.On_latent_rows17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel17Ideal m →
    (∀ c : Dev Cert.Kernel17Ideal.nD,
      m' ((c.tc : Thread Cert.Reference16Ideal.nD Cert.Reference16Ideal.τ).loc Cert.Reference16Ideal.main_arg0) = m ((c.tc : Thread Cert.Kernel17Ideal.nD Cert.Kernel17Ideal.τ).loc Cert.Kernel17Ideal.main_arg0)
      ∧ m' ((c.tc : Thread Cert.Reference16Ideal.nD Cert.Reference16Ideal.τ).loc Cert.Reference16Ideal.main_arg1) = m ((c.tc : Thread Cert.Kernel17Ideal.nD Cert.Kernel17Ideal.τ).loc Cert.Kernel17Ideal.main_arg1)
      ∧ m' ((c.tc : Thread Cert.Reference16Ideal.nD Cert.Reference16Ideal.τ).loc Cert.Reference16Ideal.main_arg2) = m ((c.tc : Thread Cert.Kernel17Ideal.nD Cert.Kernel17Ideal.τ).loc Cert.Kernel17Ideal.main_arg2)
      ∧ m' ((c.tc : Thread Cert.Reference16Ideal.nD Cert.Reference16Ideal.τ).loc Cert.Reference16Ideal.main_arg3) = m ((c.tc : Thread Cert.Kernel17Ideal.nD Cert.Kernel17Ideal.τ).loc Cert.Kernel17Ideal.main_arg3)
      ∧ m' ((c.tc : Thread Cert.Reference16Ideal.nD Cert.Reference16Ideal.τ).loc Cert.Reference16Ideal.main_arg4) = m ((c.tc : Thread Cert.Kernel17Ideal.nD Cert.Kernel17Ideal.τ).loc Cert.Kernel17Ideal.main_arg4)
      ∧ m' ((c.tc : Thread Cert.Reference16Ideal.nD Cert.Reference16Ideal.τ).loc Cert.Reference16Ideal.main_arg5) = m ((c.tc : Thread Cert.Kernel17Ideal.nD Cert.Kernel17Ideal.τ).loc Cert.Kernel17Ideal.main_arg5)
      ∧ m' ((c.tc : Thread Cert.Reference16Ideal.nD Cert.Reference16Ideal.τ).loc Cert.Reference16Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v6_0)) (v1 : (c : Dev Cert.Kernel17Ideal.nD) → Buf (Elt Ideal) ((c.tc : Thread Cert.Kernel17Ideal.nD Cert.Kernel17Ideal.τ).loc Cert.Kernel17Ideal.main_v6_1)) (v2 : (c : Dev Cert.Kernel17Ideal.nD) → Buf (Elt Ideal) ((c.tc : Thread Cert.Kernel17Ideal.nD Cert.Kernel17Ideal.τ).loc Cert.Kernel17Ideal.main_v6_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          (∀ i : (⟨2, ![4608, 1024]⟩ : Shape).Idx, (Cert.On_latent_rows17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).1 i = 1#1 → r.2.mem ((c.tc : Thread Cert.Kernel17Ideal.nD Cert.Kernel17Ideal.τ).loc Cert.Kernel17Ideal.main_v6_0) i = v0 c i)
          ∧ (∀ i : (⟨2, ![4608, 1024]⟩ : Shape).Idx, (Cert.On_latent_rows17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.1 i = 1#1 → r.2.mem ((c.tc : Thread Cert.Kernel17Ideal.nD Cert.Kernel17Ideal.τ).loc Cert.Kernel17Ideal.main_v6_1) i = v1 c i)
          ∧ (∀ i : (⟨2, ![4608, 1024]⟩ : Shape).Idx, (Cert.On_latent_rows17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2 i = 1#1 → r.2.mem ((c.tc : Thread Cert.Kernel17Ideal.nD Cert.Kernel17Ideal.τ).loc Cert.Kernel17Ideal.main_v6_2) i = v2 c i)
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          (∀ i : (⟨2, ![4608, 1024]⟩ : Shape).Idx, (Cert.On_latent_rows17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).1 i = 1#1 → r.2.mem ((c.tc : Thread Cert.Reference16Ideal.nD Cert.Reference16Ideal.τ).loc Cert.Reference16Ideal.main_v48) i = v0 c i)
          ∧ (∀ i : (⟨2, ![4608, 1024]⟩ : Shape).Idx, (Cert.On_latent_rows17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.1 i = 1#1 → r.2.mem ((c.tc : Thread Cert.Reference16Ideal.nD Cert.Reference16Ideal.τ).loc Cert.Reference16Ideal.main_v24) i = v1 c i)
          ∧ (∀ i : (⟨2, ![4608, 1024]⟩ : Shape).Idx, (Cert.On_latent_rows17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2 i = 1#1 → r.2.mem ((c.tc : Thread Cert.Reference16Ideal.nD Cert.Reference16Ideal.τ).loc Cert.Reference16Ideal.main_v49) i = v2 c i)
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v8_0)) (v1 : (c : Dev Cert.Kernel20Ideal.nD) → Buf (Elt Ideal) ((c.tc : Thread Cert.Kernel20Ideal.nD Cert.Kernel20Ideal.τ).loc Cert.Kernel20Ideal.main_v8_1)) (v2 : (c : Dev Cert.Kernel20Ideal.nD) → Buf (Elt Ideal) ((c.tc : Thread Cert.Kernel20Ideal.nD Cert.Kernel20Ideal.τ).loc Cert.Kernel20Ideal.main_v8_2)) (v3 : (c : Dev Cert.Kernel20Ideal.nD) → Buf (Elt Ideal) ((c.tc : Thread Cert.Kernel20Ideal.nD Cert.Kernel20Ideal.τ).loc Cert.Kernel20Ideal.main_v8_3)) (v4 : (c : Dev Cert.Kernel20Ideal.nD) → Buf (Elt Ideal) ((c.tc : Thread Cert.Kernel20Ideal.nD Cert.Kernel20Ideal.τ).loc Cert.Kernel20Ideal.main_v8_4)) (v5 : (c : Dev Cert.Kernel20Ideal.nD) → Buf (Elt Ideal) ((c.tc : Thread Cert.Kernel20Ideal.nD Cert.Kernel20Ideal.τ).loc Cert.Kernel20Ideal.main_v8_5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v8_0) = v0 c
          ∧ r.2.mem ((c.tc : Thread Cert.Kernel20Ideal.nD Cert.Kernel20Ideal.τ).loc Cert.Kernel20Ideal.main_v8_1) = v1 c
          ∧ r.2.mem ((c.tc : Thread Cert.Kernel20Ideal.nD Cert.Kernel20Ideal.τ).loc Cert.Kernel20Ideal.main_v8_2) = v2 c
          ∧ r.2.mem ((c.tc : Thread Cert.Kernel20Ideal.nD Cert.Kernel20Ideal.τ).loc Cert.Kernel20Ideal.main_v8_3) = v3 c
          ∧ r.2.mem ((c.tc : Thread Cert.Kernel20Ideal.nD Cert.Kernel20Ideal.τ).loc Cert.Kernel20Ideal.main_v8_4) = v4 c
          ∧ r.2.mem ((c.tc : Thread Cert.Kernel20Ideal.nD Cert.Kernel20Ideal.τ).loc Cert.Kernel20Ideal.main_v8_5) = v5 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v77) = v0 c
          ∧ r.2.mem ((c.tc : Thread Cert.Reference20Ideal.nD Cert.Reference20Ideal.τ).loc Cert.Reference20Ideal.main_v53) = v1 c
          ∧ r.2.mem ((c.tc : Thread Cert.Reference20Ideal.nD Cert.Reference20Ideal.τ).loc Cert.Reference20Ideal.main_v78) = v2 c
          ∧ r.2.mem ((c.tc : Thread Cert.Reference20Ideal.nD Cert.Reference20Ideal.τ).loc Cert.Reference20Ideal.main_v79) = v3 c
          ∧ r.2.mem ((c.tc : Thread Cert.Reference20Ideal.nD Cert.Reference20Ideal.τ).loc Cert.Reference20Ideal.main_v80) = v4 c
          ∧ r.2.mem ((c.tc : Thread Cert.Reference20Ideal.nD Cert.Reference20Ideal.τ).loc Cert.Reference20Ideal.main_v81) = v5 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def algebraic_Kernel21Ideal_Reference20Ideal_on_latent_rows21 [hKernel21Ideal : Cert.Kernel21Ideal.Facts] [hReference20Ideal : Cert.Reference20Ideal.Facts] [hOn_latent_rows21 : Cert.On_latent_rows21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel21Ideal m →
    (∀ c : Dev Cert.Kernel21Ideal.nD,
      m' ((c.tc : Thread Cert.Reference20Ideal.nD Cert.Reference20Ideal.τ).loc Cert.Reference20Ideal.main_arg0) = m ((c.tc : Thread Cert.Kernel21Ideal.nD Cert.Kernel21Ideal.τ).loc Cert.Kernel21Ideal.main_arg0)
      ∧ m' ((c.tc : Thread Cert.Reference20Ideal.nD Cert.Reference20Ideal.τ).loc Cert.Reference20Ideal.main_arg1) = m ((c.tc : Thread Cert.Kernel21Ideal.nD Cert.Kernel21Ideal.τ).loc Cert.Kernel21Ideal.main_arg1)
      ∧ m' ((c.tc : Thread Cert.Reference20Ideal.nD Cert.Reference20Ideal.τ).loc Cert.Reference20Ideal.main_arg2) = m ((c.tc : Thread Cert.Kernel21Ideal.nD Cert.Kernel21Ideal.τ).loc Cert.Kernel21Ideal.main_arg2)
      ∧ m' ((c.tc : Thread Cert.Reference20Ideal.nD Cert.Reference20Ideal.τ).loc Cert.Reference20Ideal.main_arg3) = m ((c.tc : Thread Cert.Kernel21Ideal.nD Cert.Kernel21Ideal.τ).loc Cert.Kernel21Ideal.main_arg3)
      ∧ m' ((c.tc : Thread Cert.Reference20Ideal.nD Cert.Reference20Ideal.τ).loc Cert.Reference20Ideal.main_arg4) = m ((c.tc : Thread Cert.Kernel21Ideal.nD Cert.Kernel21Ideal.τ).loc Cert.Kernel21Ideal.main_arg4)
      ∧ m' ((c.tc : Thread Cert.Reference20Ideal.nD Cert.Reference20Ideal.τ).loc Cert.Reference20Ideal.main_arg5) = m ((c.tc : Thread Cert.Kernel21Ideal.nD Cert.Kernel21Ideal.τ).loc Cert.Kernel21Ideal.main_arg5)
      ∧ m' ((c.tc : Thread Cert.Reference20Ideal.nD Cert.Reference20Ideal.τ).loc Cert.Reference20Ideal.main_arg6) = m ((c.tc : Thread Cert.Kernel21Ideal.nD Cert.Kernel21Ideal.τ).loc Cert.Kernel21Ideal.main_arg6)
      ∧ m' ((c.tc : Thread Cert.Reference20Ideal.nD Cert.Reference20Ideal.τ).loc Cert.Reference20Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v8_0)) (v1 : (c : Dev Cert.Kernel21Ideal.nD) → Buf (Elt Ideal) ((c.tc : Thread Cert.Kernel21Ideal.nD Cert.Kernel21Ideal.τ).loc Cert.Kernel21Ideal.main_v8_1)) (v2 : (c : Dev Cert.Kernel21Ideal.nD) → Buf (Elt Ideal) ((c.tc : Thread Cert.Kernel21Ideal.nD Cert.Kernel21Ideal.τ).loc Cert.Kernel21Ideal.main_v8_2)) (v3 : (c : Dev Cert.Kernel21Ideal.nD) → Buf (Elt Ideal) ((c.tc : Thread Cert.Kernel21Ideal.nD Cert.Kernel21Ideal.τ).loc Cert.Kernel21Ideal.main_v8_3)) (v4 : (c : Dev Cert.Kernel21Ideal.nD) → Buf (Elt Ideal) ((c.tc : Thread Cert.Kernel21Ideal.nD Cert.Kernel21Ideal.τ).loc Cert.Kernel21Ideal.main_v8_4)) (v5 : (c : Dev Cert.Kernel21Ideal.nD) → Buf (Elt Ideal) ((c.tc : Thread Cert.Kernel21Ideal.nD Cert.Kernel21Ideal.τ).loc Cert.Kernel21Ideal.main_v8_5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).1 i = 1#1 → r.2.mem ((c.tc : Thread Cert.Kernel21Ideal.nD Cert.Kernel21Ideal.τ).loc Cert.Kernel21Ideal.main_v8_0) i = v0 c i)
          ∧ (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.1 i = 1#1 → r.2.mem ((c.tc : Thread Cert.Kernel21Ideal.nD Cert.Kernel21Ideal.τ).loc Cert.Kernel21Ideal.main_v8_1) i = v1 c i)
          ∧ (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.1 i = 1#1 → r.2.mem ((c.tc : Thread Cert.Kernel21Ideal.nD Cert.Kernel21Ideal.τ).loc Cert.Kernel21Ideal.main_v8_2) i = v2 c i)
          ∧ (∀ i : (⟨2, ![4608, 2048]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.1 i = 1#1 → r.2.mem ((c.tc : Thread Cert.Kernel21Ideal.nD Cert.Kernel21Ideal.τ).loc Cert.Kernel21Ideal.main_v8_3) i = v3 c i)
          ∧ (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.2.1 i = 1#1 → r.2.mem ((c.tc : Thread Cert.Kernel21Ideal.nD Cert.Kernel21Ideal.τ).loc Cert.Kernel21Ideal.main_v8_4) i = v4 c i)
          ∧ (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.2.2 i = 1#1 → r.2.mem ((c.tc : Thread Cert.Kernel21Ideal.nD Cert.Kernel21Ideal.τ).loc Cert.Kernel21Ideal.main_v8_5) i = v5 c i)
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).1 i = 1#1 → r.2.mem ((c.tc : Thread Cert.Reference20Ideal.nD Cert.Reference20Ideal.τ).loc Cert.Reference20Ideal.main_v77) i = v0 c i)
          ∧ (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.1 i = 1#1 → r.2.mem ((c.tc : Thread Cert.Reference20Ideal.nD Cert.Reference20Ideal.τ).loc Cert.Reference20Ideal.main_v53) i = v1 c i)
          ∧ (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.1 i = 1#1 → r.2.mem ((c.tc : Thread Cert.Reference20Ideal.nD Cert.Reference20Ideal.τ).loc Cert.Reference20Ideal.main_v78) i = v2 c i)
          ∧ (∀ i : (⟨2, ![4608, 2048]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.1 i = 1#1 → r.2.mem ((c.tc : Thread Cert.Reference20Ideal.nD Cert.Reference20Ideal.τ).loc Cert.Reference20Ideal.main_v79) i = v3 c i)
          ∧ (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.2.1 i = 1#1 → r.2.mem ((c.tc : Thread Cert.Reference20Ideal.nD Cert.Reference20Ideal.τ).loc Cert.Reference20Ideal.main_v80) i = v4 c i)
          ∧ (∀ i : (⟨2, ![4608, 1024]⟩ : Shape).Idx, (Cert.On_latent_rows21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.2.2 i = 1#1 → r.2.mem ((c.tc : Thread Cert.Reference20Ideal.nD Cert.Reference20Ideal.τ).loc Cert.Reference20Ideal.main_v81) i = v5 c i)
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)) (v2 : (c : Dev Cert.Kernel18Ideal.nD) → Buf (Elt Ideal) ((c.tc : Thread Cert.Kernel18Ideal.nD Cert.Kernel18Ideal.τ).loc Cert.Kernel18Ideal.main_v5_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_v5_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v25) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal_on_latent_rows19 [hKernel19Ideal : Cert.Kernel19Ideal.Facts] [hReference19Ideal : Cert.Reference19Ideal.Facts] [hOn_latent_rows19 : Cert.On_latent_rows19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          (∀ i : (⟨2, ![4608, 1024]⟩ : Shape).Idx, (Cert.On_latent_rows19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).1 i = 1#1 → r.2.mem ((c.tc : Thread Cert.Kernel19Ideal.nD Cert.Kernel19Ideal.τ).loc Cert.Kernel19Ideal.main_v5_0) i = v0 c i)
          ∧ (∀ i : (⟨2, ![4608, 2048]⟩ : Shape).Idx, (Cert.On_latent_rows19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).2.1 i = 1#1 → r.2.mem ((c.tc : Thread Cert.Kernel19Ideal.nD Cert.Kernel19Ideal.τ).loc Cert.Kernel19Ideal.main_v5_1) i = v1 c i)
          ∧ (∀ i : (⟨2, ![1, 2048]⟩ : Shape).Idx, (Cert.On_latent_rows19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).2.2 i = 1#1 → r.2.mem ((c.tc : Thread Cert.Kernel19Ideal.nD Cert.Kernel19Ideal.τ).loc Cert.Kernel19Ideal.main_v5_2) i = v2 c i)
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          (∀ i : (⟨2, ![4608, 1024]⟩ : Shape).Idx, (Cert.On_latent_rows19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).1 i = 1#1 → r.2.mem ((c.tc : Thread Cert.Reference19Ideal.nD Cert.Reference19Ideal.τ).loc Cert.Reference19Ideal.main_v23) i = v0 c i)
          ∧ (∀ i : (⟨2, ![4608, 2048]⟩ : Shape).Idx, (Cert.On_latent_rows19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).2.1 i = 1#1 → r.2.mem ((c.tc : Thread Cert.Reference19Ideal.nD Cert.Reference19Ideal.τ).loc Cert.Reference19Ideal.main_v24) i = v1 c i)
          ∧ (∀ i : (⟨2, ![1, 2048]⟩ : Shape).Idx, (Cert.On_latent_rows19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).2.2 i = 1#1 → r.2.mem ((c.tc : Thread Cert.Reference19Ideal.nD Cert.Reference19Ideal.τ).loc Cert.Reference19Ideal.main_v47) i = v2 c i)
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hOn_first_slot : Cert.On_first_slot.Facts) (hOn_latent_rows : Cert.On_latent_rows.Facts) (hOn_latent_rows9 : Cert.On_latent_rows9.Facts) (hOn_latent_rows15 : Cert.On_latent_rows15.Facts) (hOn_latent_rows17 : Cert.On_latent_rows17.Facts) (hOn_latent_rows21 : Cert.On_latent_rows21.Facts) (hOn_latent_rows19 : Cert.On_latent_rows19.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_first_slot (hKernel3Ideal := hKernel3Ideal) (hReference3Ideal := hReference3Ideal) (hOn_first_slot := hOn_first_slot)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference2Ideal_on_latent_rows (hKernel5Ideal := hKernel5Ideal) (hReference2Ideal := hReference2Ideal) (hOn_latent_rows := hOn_latent_rows)
    ∧ preserves_Kernel6_Kernel6Ideal
    ∧ algebraic_Kernel6Ideal_Reference6Ideal_on_first_slot (hKernel6Ideal := hKernel6Ideal) (hReference6Ideal := hReference6Ideal) (hOn_first_slot := hOn_first_slot)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference8Ideal_on_latent_rows9 (hKernel9Ideal := hKernel9Ideal) (hReference8Ideal := hReference8Ideal) (hOn_latent_rows9 := hOn_latent_rows9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference14Ideal_on_latent_rows15 (hKernel15Ideal := hKernel15Ideal) (hReference14Ideal := hReference14Ideal) (hOn_latent_rows15 := hOn_latent_rows15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference16Ideal_on_latent_rows17 (hKernel17Ideal := hKernel17Ideal) (hReference16Ideal := hReference16Ideal) (hOn_latent_rows17 := hOn_latent_rows17)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference20Ideal_on_latent_rows21 (hKernel21Ideal := hKernel21Ideal) (hReference20Ideal := hReference20Ideal) (hOn_latent_rows21 := hOn_latent_rows21)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_on_latent_rows19 (hKernel19Ideal := hKernel19Ideal) (hReference19Ideal := hReference19Ideal) (hOn_latent_rows19 := hOn_latent_rows19)
-- ==== On_first_slot.lean ====
abbrev S4608x1024 : Shape := ⟨2, ![4608, 1024]⟩
abbrev S4608x4096 : Shape := ⟨2, ![4608, 4096]⟩
abbrev S2 : Shape := ⟨1, ![2]⟩
abbrev S1x2x1x1 : Shape := ⟨4, ![1, 2, 1, 1]⟩
abbrev S_ : Shape := ⟨0, ![]⟩
abbrev S4x2x1024x1024 : Shape := ⟨4, ![4, 2, 1024, 1024]⟩

class Facts : Prop where
  bcast_S2_S1x2x1x1_1 : S2.BroadcastsInDim S1x2x1x1 (![1] : Fin 1 → Fin S1x2x1x1.rank)
  bcast_S_S1x2x1x1 : S_.BroadcastsInDim S1x2x1x1 (![] : Fin 0 → Fin S1x2x1x1.rank)
  bcast_S1x2x1x1_S4x2x1024x1024_0_1_2_3 : S1x2x1x1.BroadcastsInDim S4x2x1024x1024 (![0, 1, 2, 3] : Fin 4 → Fin S4x2x1024x1024.rank)

variable [Facts]

def fn {F : FTy → Type} [FloatOps F] (main_arg0 : FVec F S4608x1024 .f32) (main_arg1 : FVec F S4608x4096 .f32) : IVec S4x2x1024x1024 1 :=
  let main_v0 : IVec S2 32 := iotaInDim S2 32 0
  let main_v1 : IVec S1x2x1x1 32 := broadcastInDim S1x2x1x1 ![1] bcast_S2_S1x2x1x1_1 main_v0
  let main_c : IVec S_ 32 := constantI S_ 32 0#32
  let main_v2 : IVec S1x2x1x1 32 := broadcastInDim S1x2x1x1 ![] bcast_S_S1x2x1x1 main_c
  let main_v3 : IVec S1x2x1x1 1 := cmpi .eq main_v1 main_v2
  let main_v4 : IVec S4x2x1024x1024 1 := broadcastInDim S4x2x1024x1024 ![0, 1, 2, 3] bcast_S1x2x1x1_S4x2x1024x1024_0_1_2_3 main_v3
  main_v4
-- ==== On_latent_rows.lean ====
abbrev S4608x1024 : Shape := ⟨2, ![4608, 1024]⟩
abbrev S1024x4096 : Shape := ⟨2, ![1024, 4096]⟩
abbrev S4096x1024 : Shape := ⟨2, ![4096, 1024]⟩
abbrev S4608 : Shape := ⟨1, ![4608]⟩
abbrev S4608x1 : Shape := ⟨2, ![4608, 1]⟩
abbrev S_ : Shape := ⟨0, ![]⟩
abbrev S4608x4096 : Shape := ⟨2, ![4608, 4096]⟩

class Facts : Prop where
  bcast_S4608_S4608x1_0 : S4608.BroadcastsInDim S4608x1 (![0] : Fin 1 → Fin S4608x1.rank)
  bcast_S_S4608x1 : S_.BroadcastsInDim S4608x1 (![] : Fin 0 → Fin S4608x1.rank)
  bcast_S4608x1_S4608x1024_0_1 : S4608x1.BroadcastsInDim S4608x1024 (![0, 1] : Fin 2 → Fin S4608x1024.rank)
  bcast_S4608x1_S4608x4096_0_1 : S4608x1.BroadcastsInDim S4608x4096 (![0, 1] : Fin 2 → Fin S4608x4096.rank)

variable [Facts]

def fn {F : FTy → Type} [FloatOps F] (main_arg0 : FVec F S4608x1024 .f32) (main_arg1 : FVec F S1024x4096 .f32) (main_arg2 : FVec F S4096x1024 .f32) (main_arg3 : FVec F S4608x1024 .f32) : IVec S4608x1024 1 × IVec S4608x4096 1 × IVec S4608x1024 1 :=
  let main_v0 : IVec S4608 32 := iotaInDim S4608 32 0
  let main_v1 : IVec S4608x1 32 := broadcastInDim S4608x1 ![0] bcast_S4608_S4608x1_0 main_v0
  let main_c : IVec S_ 32 := constantI S_ 32 512#32
  let main_v2 : IVec S4608x1 32 := broadcastInDim S4608x1 ![] bcast_S_S4608x1 main_c
  let main_v3 : IVec S4608x1 1 := cmpi .sge main_v1 main_v2
  let main_v4 : IVec S4608x1024 1 := broadcastInDim S4608x1024 ![0, 1] bcast_S4608x1_S4608x1024_0_1 main_v3
  let main_v5 : IVec S4608x4096 1 := broadcastInDim S4608x4096 ![0, 1] bcast_S4608x1_S4608x4096_0_1 main_v3
  let main_v6 : IVec S4608x1024 1 := broadcastInDim S4608x1024 ![0, 1] bcast_S4608x1_S4608x1024_0_1 main_v3
  (main_v4, main_v5, main_v6)
-- ==== On_latent_rows15.lean ====
abbrev S4608x1024 : Shape := ⟨2, ![4608, 1024]⟩
abbrev S2x8x6144 : Shape := ⟨3, ![2, 8, 6144]⟩
abbrev S1024x2048 : Shape := ⟨2, ![1024, 2048]⟩
abbrev S2048 : Shape := ⟨1, ![2048]⟩
abbrev S4608 : Shape := ⟨1, ![4608]⟩
abbrev S4608x1 : Shape := ⟨2, ![4608, 1]⟩
abbrev S_ : Shape := ⟨0, ![]⟩
abbrev S4608x2048 : Shape := ⟨2, ![4608, 2048]⟩

class Facts : Prop where
  bcast_S4608_S4608x1_0 : S4608.BroadcastsInDim S4608x1 (![0] : Fin 1 → Fin S4608x1.rank)
  bcast_S_S4608x1 : S_.BroadcastsInDim S4608x1 (![] : Fin 0 → Fin S4608x1.rank)
  bcast_S4608x1_S4608x2048_0_1 : S4608x1.BroadcastsInDim S4608x2048 (![0, 1] : Fin 2 → Fin S4608x2048.rank)
  bcast_S4608x1_S4608x1024_0_1 : S4608x1.BroadcastsInDim S4608x1024 (![0, 1] : Fin 2 → Fin S4608x1024.rank)

variable [Facts]

def fn {F : FTy → Type} [FloatOps F] (main_arg0 : FVec F S4608x1024 .f32) (main_arg1 : FVec F S2x8x6144 .f32) (main_arg2 : FVec F S1024x2048 .f32) (main_arg3 : FVec F S2048 .f32) : IVec S4608x2048 1 × IVec S4608x1024 1 × IVec S4608x1024 1 :=
  let main_v0 : IVec S4608 32 := iotaInDim S4608 32 0
  let main_v1 : IVec S4608x1 32 := broadcastInDim S4608x1 ![0] bcast_S4608_S4608x1_0 main_v0
  let main_c : IVec S_ 32 := constantI S_ 32 512#32
  let main_v2 : IVec S4608x1 32 := broadcastInDim S4608x1 ![] bcast_S_S4608x1 main_c
  let main_v3 : IVec S4608x1 1 := cmpi .sge main_v1 main_v2
  let main_v4 : IVec S4608x2048 1 := broadcastInDim S4608x2048 ![0, 1] bcast_S4608x1_S4608x2048_0_1 main_v3
  let main_v5 : IVec S4608x1024 1 := broadcastInDim S4608x1024 ![0, 1] bcast_S4608x1_S4608x1024_0_1 main_v3
  let main_v6 : IVec S4608x1024 1 := broadcastInDim S4608x1024 ![0, 1] bcast_S4608x1_S4608x1024_0_1 main_v3
  (main_v4, main_v5, main_v6)
-- ==== On_latent_rows17.lean ====
abbrev S4608x1024 : Shape := ⟨2, ![4608, 1024]⟩
abbrev S2x8x6144 : Shape := ⟨3, ![2, 8, 6144]⟩
abbrev S1024x1024 : Shape := ⟨2, ![1024, 1024]⟩
abbrev S1024 : Shape := ⟨1, ![1024]⟩
abbrev S4608 : Shape := ⟨1, ![4608]⟩
abbrev S4608x1 : Shape := ⟨2, ![4608, 1]⟩
abbrev S_ : Shape := ⟨0, ![]⟩

class Facts : Prop where
  bcast_S4608_S4608x1_0 : S4608.BroadcastsInDim S4608x1 (![0] : Fin 1 → Fin S4608x1.rank)
  bcast_S_S4608x1 : S_.BroadcastsInDim S4608x1 (![] : Fin 0 → Fin S4608x1.rank)
  bcast_S4608x1_S4608x1024_0_1 : S4608x1.BroadcastsInDim S4608x1024 (![0, 1] : Fin 2 → Fin S4608x1024.rank)

variable [Facts]

def fn {F : FTy → Type} [FloatOps F] (main_arg0 : FVec F S4608x1024 .f32) (main_arg1 : FVec F S4608x1024 .f32) (main_arg2 : FVec F S2x8x6144 .f32) (main_arg3 : FVec F S1024x1024 .f32) (main_arg4 : FVec F S1024 .f32) (main_arg5 : FVec F S1024 .f32) (main_arg6 : FVec F S1024 .f32) : IVec S4608x1024 1 × IVec S4608x1024 1 × IVec S4608x1024 1 :=
  let main_v0 : IVec S4608 32 := iotaInDim S4608 32 0
  let main_v1 : IVec S4608x1 32 := broadcastInDim S4608x1 ![0] bcast_S4608_S4608x1_0 main_v0
  let main_c : IVec S_ 32 := constantI S_ 32 512#32
  let main_v2 : IVec S4608x1 32 := broadcastInDim S4608x1 ![] bcast_S_S4608x1 main_c
  let main_v3 : IVec S4608x1 1 := cmpi .sge main_v1 main_v2
  let main_v4 : IVec S4608x1024 1 := broadcastInDim S4608x1024 ![0, 1] bcast_S4608x1_S4608x1024_0_1 main_v3
  (main_v4, main_v4, main_v4)
-- ==== On_latent_rows19.lean ====
abbrev S4608x1024 : Shape := ⟨2, ![4608, 1024]⟩
abbrev S4608x2048 : Shape := ⟨2, ![4608, 2048]⟩
abbrev S1024x2048 : Shape := ⟨2, ![1024, 2048]⟩
abbrev S4608 : Shape := ⟨1, ![4608]⟩
abbrev S4608x1 : Shape := ⟨2, ![4608, 1]⟩
abbrev S_ : Shape := ⟨0, ![]⟩
abbrev S1x2048 : Shape := ⟨2, ![1, 2048]⟩

class Facts : Prop where
  bcast_S4608_S4608x1_0 : S4608.BroadcastsInDim S4608x1 (![0] : Fin 1 → Fin S4608x1.rank)
  bcast_S_S4608x1 : S_.BroadcastsInDim S4608x1 (![] : Fin 0 → Fin S4608x1.rank)
  bcast_S4608x1_S4608x1024_0_1 : S4608x1.BroadcastsInDim S4608x1024 (![0, 1] : Fin 2 → Fin S4608x1024.rank)
  bcast_S4608x1_S4608x2048_0_1 : S4608x1.BroadcastsInDim S4608x2048 (![0, 1] : Fin 2 → Fin S4608x2048.rank)
  bcast_S_S1x2048 : S_.BroadcastsInDim S1x2048 (![] : Fin 0 → Fin S1x2048.rank)

variable [Facts]

def fn {F : FTy → Type} [FloatOps F] (main_arg0 : FVec F S4608x1024 .f32) (main_arg1 : FVec F S4608x2048 .f32) (main_arg2 : FVec F S1024x2048 .f32) : IVec S4608x1024 1 × IVec S4608x2048 1 × IVec S1x2048 1 :=
  let main_v0 : IVec S4608 32 := iotaInDim S4608 32 0
  let main_v1 : IVec S4608x1 32 := broadcastInDim S4608x1 ![0] bcast_S4608_S4608x1_0 main_v0
  let main_c : IVec S_ 32 := constantI S_ 32 512#32
  let main_v2 : IVec S4608x1 32 := broadcastInDim S4608x1 ![] bcast_S_S4608x1 main_c
  let main_v3 : IVec S4608x1 1 := cmpi .sge main_v1 main_v2
  let main_v4 : IVec S4608x1024 1 := broadcastInDim S4608x1024 ![0, 1] bcast_S4608x1_S4608x1024_0_1 main_v3
  let main_v5 : IVec S4608x2048 1 := broadcastInDim S4608x2048 ![0, 1] bcast_S4608x1_S4608x2048_0_1 main_v3
  let main_c_0 : IVec S_ 1 := constantI S_ 1 1#1
  let main_v6 : IVec S1x2048 1 := broadcastInDim S1x2048 ![] bcast_S_S1x2048 main_c_0
  (main_v4, main_v5, main_v6)
-- ==== On_latent_rows21.lean ====
abbrev S4608x1024 : Shape := ⟨2, ![4608, 1024]⟩
abbrev S2x4608x1024 : Shape := ⟨3, ![2, 4608, 1024]⟩
abbrev S2x8x6144 : Shape := ⟨3, ![2, 8, 6144]⟩
abbrev S1024 : Shape := ⟨1, ![1024]⟩
abbrev S1024x2048 : Shape := ⟨2, ![1024, 2048]⟩
abbrev S2048 : Shape := ⟨1, ![2048]⟩
abbrev S4608 : Shape := ⟨1, ![4608]⟩
abbrev S4608x1 : Shape := ⟨2, ![4608, 1]⟩
abbrev S_ : Shape := ⟨0, ![]⟩
abbrev S4608x2048 : Shape := ⟨2, ![4608, 2048]⟩

class Facts : Prop where
  bcast_S4608_S4608x1_0 : S4608.BroadcastsInDim S4608x1 (![0] : Fin 1 → Fin S4608x1.rank)
  bcast_S_S4608x1 : S_.BroadcastsInDim S4608x1 (![] : Fin 0 → Fin S4608x1.rank)
  bcast_S4608x1_S4608x1024_0_1 : S4608x1.BroadcastsInDim S4608x1024 (![0, 1] : Fin 2 → Fin S4608x1024.rank)
  bcast_S4608x1_S4608x2048_0_1 : S4608x1.BroadcastsInDim S4608x2048 (![0, 1] : Fin 2 → Fin S4608x2048.rank)

variable [Facts]

def fn {F : FTy → Type} [FloatOps F] (main_arg0 : FVec F S4608x1024 .f32) (main_arg1 : FVec F S2x4608x1024 .f32) (main_arg2 : FVec F S2x8x6144 .f32) (main_arg3 : FVec F S1024 .f32) (main_arg4 : FVec F S1024x2048 .f32) (main_arg5 : FVec F S2048 .f32) (main_arg6 : FVec F S1024 .f32) (main_arg7 : FVec F S1024 .f32) : IVec S4608x1024 1 × IVec S4608x1024 1 × IVec S4608x1024 1 × IVec S4608x2048 1 × IVec S4608x1024 1 × IVec S4608x1024 1 :=
  let main_v0 : IVec S4608 32 := iotaInDim S4608 32 0
  let main_v1 : IVec S4608x1 32 := broadcastInDim S4608x1 ![0] bcast_S4608_S4608x1_0 main_v0
  let main_c : IVec S_ 32 := constantI S_ 32 512#32
  let main_v2 : IVec S4608x1 32 := broadcastInDim S4608x1 ![] bcast_S_S4608x1 main_c
  let main_v3 : IVec S4608x1 1 := cmpi .sge main_v1 main_v2
  let main_v4 : IVec S4608x1024 1 := broadcastInDim S4608x1024 ![0, 1] bcast_S4608x1_S4608x1024_0_1 main_v3
  let main_v5 : IVec S4608x1024 1 := broadcastInDim S4608x1024 ![0, 1] bcast_S4608x1_S4608x1024_0_1 main_v3
  let main_v6 : IVec S4608x1024 1 := broadcastInDim S4608x1024 ![0, 1] bcast_S4608x1_S4608x1024_0_1 main_v3
  let main_v7 : IVec S4608x2048 1 := broadcastInDim S4608x2048 ![0, 1] bcast_S4608x1_S4608x2048_0_1 main_v3
  let main_v8 : IVec S4608x1024 1 := broadcastInDim S4608x1024 ![0, 1] bcast_S4608x1_S4608x1024_0_1 main_v3
  let main_v9 : IVec S4608x1024 1 := broadcastInDim S4608x1024 ![0, 1] bcast_S4608x1_S4608x1024_0_1 main_v3
  (main_v4, main_v5, main_v6, main_v7, main_v8, main_v9)
-- ==== On_latent_rows9.lean ====
abbrev S4608x1024 : Shape := ⟨2, ![4608, 1024]⟩
abbrev S2x8x6144 : Shape := ⟨3, ![2, 8, 6144]⟩
abbrev S1024x4096 : Shape := ⟨2, ![1024, 4096]⟩
abbrev S4096x1024 : Shape := ⟨2, ![4096, 1024]⟩
abbrev S1024 : Shape := ⟨1, ![1024]⟩
abbrev S4608 : Shape := ⟨1, ![4608]⟩
abbrev S4608x1 : Shape := ⟨2, ![4608, 1]⟩
abbrev S_ : Shape := ⟨0, ![]⟩
abbrev S4608x4096 : Shape := ⟨2, ![4608, 4096]⟩

class Facts : Prop where
  bcast_S4608_S4608x1_0 : S4608.BroadcastsInDim S4608x1 (![0] : Fin 1 → Fin S4608x1.rank)
  bcast_S_S4608x1 : S_.BroadcastsInDim S4608x1 (![] : Fin 0 → Fin S4608x1.rank)
  bcast_S4608x1_S4608x1024_0_1 : S4608x1.BroadcastsInDim S4608x1024 (![0, 1] : Fin 2 → Fin S4608x1024.rank)
  bcast_S4608x1_S4608x4096_0_1 : S4608x1.BroadcastsInDim S4608x4096 (![0, 1] : Fin 2 → Fin S4608x4096.rank)

variable [Facts]

def fn {F : FTy → Type} [FloatOps F] (main_arg0 : FVec F S4608x1024 .f32) (main_arg1 : FVec F S2x8x6144 .f32) (main_arg2 : FVec F S1024x4096 .f32) (main_arg3 : FVec F S4096x1024 .f32) (main_arg4 : FVec F S1024 .f32) (main_arg5 : FVec F S1024 .f32) : IVec S4608x1024 1 × IVec S4608x1024 1 × IVec S4608x1024 1 × IVec S4608x4096 1 × IVec S4608x1024 1 :=
  let main_v0 : IVec S4608 32 := iotaInDim S4608 32 0
  let main_v1 : IVec S4608x1 32 := broadcastInDim S4608x1 ![0] bcast_S4608_S4608x1_0 main_v0
  let main_c : IVec S_ 32 := constantI S_ 32 512#32
  let main_v2 : IVec S4608x1 32 := broadcastInDim S4608x1 ![] bcast_S_S4608x1 main_c
  let main_v3 : IVec S4608x1 1 := cmpi .sge main_v1 main_v2
  let main_v4 : IVec S4608x1024 1 := broadcastInDim S4608x1024 ![0, 1] bcast_S4608x1_S4608x1024_0_1 main_v3
  let main_v5 : IVec S4608x1024 1 := broadcastInDim S4608x1024 ![0, 1] bcast_S4608x1_S4608x1024_0_1 main_v3
  let main_v6 : IVec S4608x1024 1 := broadcastInDim S4608x1024 ![0, 1] bcast_S4608x1_S4608x1024_0_1 main_v3
  let main_v7 : IVec S4608x4096 1 := broadcastInDim S4608x4096 ![0, 1] bcast_S4608x1_S4608x4096_0_1 main_v3
  let main_v8 : IVec S4608x1024 1 := broadcastInDim S4608x1024 ![0, 1] bcast_S4608x1_S4608x1024_0_1 main_v3
  (main_v4, main_v5, main_v6, main_v7, main_v8)
-- ==== Kernel.lean ====
abbrev S2x2048x1024 : Shape := ⟨3, ![2, 2048, 1024]⟩
abbrev S2x256x1024 : Shape := ⟨3, ![2, 256, 1024]⟩
abbrev S2x64x16x64 : Shape := ⟨4, ![2, 64, 16, 64]⟩
abbrev S64x128 : Shape := ⟨2, ![64, 128]⟩
abbrev S8x64x1024 : Shape := ⟨3, ![8, 64, 1024]⟩
abbrev S64x8x1024 : Shape := ⟨3, ![64, 8, 1024]⟩
abbrev S512x1024 : Shape := ⟨2, ![512, 1024]⟩
abbrev S8x512x1024 : Shape := ⟨3, ![8, 512, 1024]⟩
abbrev S512x8x1024 : Shape := ⟨3, ![512, 8, 1024]⟩
abbrev S4096x1024 : Shape := ⟨2, ![4096, 1024]⟩
abbrev S4608x1024 : Shape := ⟨2, ![4608, 1024]⟩
abbrev S8x8 : Shape := ⟨2, ![8, 8]⟩
abbrev S_ : Shape := ⟨0, ![]⟩
abbrev S2x64x64x16 : Shape := ⟨4, ![2, 64, 64, 16]⟩
abbrev S2x8x8x64x16 : Shape := ⟨5, ![2, 8, 8, 64, 16]⟩
abbrev S2x8x8x64x1x16 : Shape := ⟨6, ![2, 8, 8, 64, 1, 16]⟩
abbrev S1x1x8x1x8x1 : Shape := ⟨6, ![1, 1, 8, 1, 8, 1]⟩
abbrev S2x8x8x64x8x16 : Shape := ⟨6, ![2, 8, 8, 64, 8, 16]⟩
abbrev S2x8x512x128 : Shape := ⟨4, ![2, 8, 512, 128]⟩
abbrev S2x8x1024x128 : Shape := ⟨4, ![2, 8, 1024, 128]⟩
abbrev S64x2x64 : Shape := ⟨3, ![64, 2, 64]⟩
abbrev S2x64x64 : Shape := ⟨3, ![2, 64, 64]⟩
abbrev S2x4096 : Shape := ⟨2, ![2, 4096]⟩
abbrev S2x1x4096 : Shape := ⟨3, ![2, 1, 4096]⟩
abbrev S2x2x4096 : Shape := ⟨3, ![2, 2, 4096]⟩
abbrev S2x2x1x4096 : Shape := ⟨4, ![2, 2, 1, 4096]⟩
abbrev S2x2x8x4096 : Shape := ⟨4, ![2, 2, 8, 4096]⟩
abbrev S256x1024 : Shape := ⟨2, ![256, 1024]⟩
abbrev S1x8x1024x128 : Shape := ⟨4, ![1, 8, 1024, 128]⟩
abbrev S1x2x8x4096 : Shape := ⟨4, ![1, 2, 8, 4096]⟩
abbrev S256x8192 : Shape := ⟨2, ![256, 8192]⟩
abbrev S2x8x4096 : Shape := ⟨3, ![2, 8, 4096]⟩
abbrev S256x128 : Shape := ⟨2, ![256, 128]⟩
abbrev S1x1x1024x128 : Shape := ⟨4, ![1, 1, 1024, 128]⟩
abbrev S1024x128 : Shape := ⟨2, ![1024, 128]⟩
abbrev S1x1x8x512 : Shape := ⟨4, ![1, 1, 8, 512]⟩
abbrev S8x512 : Shape := ⟨2, ![8, 512]⟩
abbrev S1x8x512 : Shape := ⟨3, ![1, 8, 512]⟩

abbrev nBuf : Space → Nat
  | .hbm => 52
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x64x16x64, .f32⟩
  | .hbm, ⟨3, _⟩ => ⟨S2x64x16x64, .f32⟩
  | .hbm, ⟨4, _⟩ => ⟨S64x128, .f32⟩
  | .hbm, ⟨5, _⟩ => ⟨S64x128, .f32⟩
  | .hbm, ⟨6, _⟩ => ⟨S8x64x1024, .f32⟩
  | .hbm, ⟨7, _⟩ => ⟨S64x8x1024, .f32⟩
  | .hbm, ⟨8, _⟩ => ⟨S512x1024, .f32⟩
  | .hbm, ⟨9, _⟩ => ⟨S8x512x1024, .f32⟩
  | .hbm, ⟨10, _⟩ => ⟨S512x8x1024, .f32⟩
  | .hbm, ⟨11, _⟩ => ⟨S4096x1024, .f32⟩
  | .hbm, ⟨12, _⟩ => ⟨S4608x1024, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S2x64x64x16, .f32⟩
  | .hbm, ⟨21, _⟩ => ⟨S2x8x8x64x16, .f32⟩
  | .hbm, ⟨22, _⟩ => ⟨S2x8x8x64x1x16, .f32⟩
  | .hbm, ⟨23, _⟩ => ⟨S1x1x8x1x8x1, .f32⟩
  | .hbm, ⟨24, _⟩ => ⟨S2x8x8x64x8x16, .f32⟩
  | .hbm, ⟨25, _⟩ => ⟨S2x8x8x64x8x16, .f32⟩
  | .hbm, ⟨26, _⟩ => ⟨S2x8x8x64x8x16, .f32⟩
  | .hbm, ⟨27, _⟩ => ⟨S2x8x512x128, .f32⟩
  | .hbm, ⟨28, _⟩ => ⟨S2x64x64x16, .f32⟩
  | .hbm, ⟨29, _⟩ => ⟨S2x8x8x64x16, .f32⟩
  | .hbm, ⟨30, _⟩ => ⟨S2x8x8x64x1x16, .f32⟩
  | .hbm, ⟨31, _⟩ => ⟨S1x1x8x1x8x1, .f32⟩
  | .hbm, ⟨32, _⟩ => ⟨S2x8x8x64x8x16, .f32⟩
  | .hbm, ⟨33, _⟩ => ⟨S2x8x8x64x8x16, .f32⟩
  | .hbm, ⟨34, _⟩ => ⟨S2x8x8x64x8x16, .f32⟩
  | .hbm, ⟨35, _⟩ => ⟨S2x8x512x128, .f32⟩
  | .hbm, ⟨36, _⟩ => ⟨S2x8x512x128, .f32⟩
  | .hbm, ⟨37, _⟩ => ⟨S2x8x1024x128, .f32⟩
  | .hbm, ⟨38, _⟩ => ⟨S2x8x1024x128, .bf16⟩
  | .hbm, ⟨39, _⟩ => ⟨S64x2x64, .f32⟩
  | .hbm, ⟨40, _⟩ => ⟨S2x64x64, .f32⟩
  | .hbm, ⟨41, _⟩ => ⟨S2x4096, .f32⟩
  | .hbm, ⟨42, _⟩ => ⟨S64x2x64, .f32⟩
  | .hbm, ⟨43, _⟩ => ⟨S2x64x64, .f32⟩
  | .hbm, ⟨44, _⟩ => ⟨S2x4096, .f32⟩
  | .hbm, ⟨45, _⟩ => ⟨S2x4096, .f32⟩
  | .hbm, ⟨46, _⟩ => ⟨S2x1x4096, .f32⟩
  | .hbm, ⟨47, _⟩ => ⟨S2x1x4096, .f32⟩
  | .hbm, ⟨48, _⟩ => ⟨S2x2x4096, .f32⟩
  | .hbm, ⟨49, _⟩ => ⟨S2x2x1x4096, .f32⟩
  | .hbm, ⟨50, _⟩ => ⟨S2x2x8x4096, .f32⟩
  | .hbm, ⟨51, _⟩ => ⟨S2x2x8x4096, .f32⟩
  | .local _ .vmem, ⟨0, _⟩ => ⟨S256x1024, .f32⟩
  | .local _ .vmem, ⟨1, _⟩ => ⟨S256x1024, .f32⟩
  | .local _ .vmem, ⟨2, _⟩ => ⟨S1x8x1024x128, .bf16⟩
  | .local _ .vmem, ⟨3, _⟩ => ⟨S1x8x1024x128, .bf16⟩
  | .local _ .vmem, ⟨4, _⟩ => ⟨S1x2x8x4096, .f32⟩
  | .local _ .vmem, ⟨5, _⟩ => ⟨S1x2x8x4096, .f32⟩
  | .local _ .vmem, ⟨6, _⟩ => ⟨S1x2x8x4096, .f32⟩
  | .local _ .vmem, ⟨7, _⟩ => ⟨S1x2x8x4096, .f32⟩
  | .local _ .vmem, ⟨8, _⟩ => ⟨S256x8192, .f32⟩
  | .local _ .vmem, ⟨9, _⟩ => ⟨S2x8x4096, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_70 : BitVec 32 := 0#32
  let c8_i32 : BitVec 32 := 8#32
  let v79 : BitVec 32 := Scalar.addi c0_i32_70 c8_i32
  let c1_i32_71 : BitVec 32 := 1#32
  ⟨c0_i32_70, v79, c1_i32_71⟩
def k0_mult1 (i : grid0.Coords) (k0_t1 : Fin k0_t1_loop.trips) : BitVec 32 :=
  let c0_i32_70 : BitVec 32 := 0#32
  let c1_i32_71 : BitVec 32 := 1#32
  let arg8 : BitVec 32 := Scf.iv c0_i32_70 c1_i32_71 k0_t1
  let c4_i32 : BitVec 32 := 4#32
  let v186 : BitVec 32 := Scalar.muli arg8 c4_i32
  let c0_i32_215 : BitVec 32 := 0#32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  v192
def k0_off1 (i : grid0.Coords) (k0_t1 : Fin k0_t1_loop.trips) (c0_i32_215 : BitVec 32) : Fin 2 → Nat :=
  let c0_i32_70 : BitVec 32 := 0#32
  let c1_i32_71 : BitVec 32 := 1#32
  let arg8 : BitVec 32 := Scf.iv c0_i32_70 c1_i32_71 k0_t1
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v194 : Index := Scalar.indexCast v193
  let c0_217 : Index := 0#32
  ![v194.toNat, 0]
def k0_off2 (i : grid0.Coords) (k0_t1 : Fin k0_t1_loop.trips) (c0_i32_215 : BitVec 32) : Fin 2 → Nat :=
  let c0_i32_70 : BitVec 32 := 0#32
  let c1_i32_71 : BitVec 32 := 1#32
  let arg8 : BitVec 32 := Scf.iv c0_i32_70 c1_i32_71 k0_t1
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v196 : Index := Scalar.indexCast v193
  let c512_218 : Index := 512#32
  ![v196.toNat, 512]
def k0_off3 (i : grid0.Coords) (k0_t1 : Fin k0_t1_loop.trips) (c0_i32_215 : BitVec 32) : Fin 2 → Nat :=
  let c0_i32_70 : BitVec 32 := 0#32
  let c1_i32_71 : BitVec 32 := 1#32
  let arg8 : BitVec 32 := Scf.iv c0_i32_70 c1_i32_71 k0_t1
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v206 : Index := Scalar.indexCast v193
  let c1024_219 : Index := 1024#32
  ![v206.toNat, 1024]
def k0_off4 (i : grid0.Coords) (k0_t1 : Fin k0_t1_loop.trips) (c0_i32_215 : BitVec 32) : Fin 2 → Nat :=
  let c0_i32_70 : BitVec 32 := 0#32
  let c1_i32_71 : BitVec 32 := 1#32
  let arg8 : BitVec 32 := Scf.iv c0_i32_70 c1_i32_71 k0_t1
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v208 : Index := Scalar.indexCast v193
  let c1536_220 : Index := 1536#32
  ![v208.toNat, 1536]
def k0_mult2 (i : grid0.Coords) (k0_t1 : Fin k0_t1_loop.trips) : BitVec 32 :=
  let c0_i32_70 : BitVec 32 := 0#32
  let c1_i32_71 : BitVec 32 := 1#32
  let arg8 : BitVec 32 := Scf.iv c0_i32_70 c1_i32_71 k0_t1
  let c4_i32_221 : BitVec 32 := 4#32
  let v218 : BitVec 32 := Scalar.muli arg8 c4_i32_221
  let c1_i32_222 : BitVec 32 := 1#32
  let v219 : BitVec 32 := Scalar.addi v218 c1_i32_222
  let c1_i32 : BitVec 32 := 1#32
  let arg0 : BitVec 32 := BitVec.ofNat 32 (i 0).val
  let v62 : BitVec 32 := Scalar.subi c1_i32 arg0
  let c31_i32_224 : BitVec 32 := 31#32
  let c2_i32_223 : BitVec 32 := 2#32
  let v220 : BitVec 32 := Scalar.muli c2_i32_223 v219
  let v221 : BitVec 32 := Scalar.subi c31_i32_224 v220
  let v222 : BitVec 32 := Scalar.muli v62 v221
  let v223 : BitVec 32 := Scalar.addi v219 v222
  let c8_i32_225 : BitVec 32 := 8#32
  let v224 : BitVec 32 := Scalar.muli v223 c8_i32_225
  v224
def k0_mult3 (i : grid0.Coords) (k0_t1 : Fin k0_t1_loop.trips) : BitVec 32 :=
  let c0_i32_70 : BitVec 32 := 0#32
  let c1_i32_71 : BitVec 32 := 1#32
  let arg8 : BitVec 32 := Scf.iv c0_i32_70 c1_i32_71 k0_t1
  let c4_i32_230 : BitVec 32 := 4#32
  let v250 : BitVec 32 := Scalar.muli arg8 c4_i32_230
  let c2_i32_231 : BitVec 32 := 2#32
  let v251 : BitVec 32 := Scalar.addi v250 c2_i32_231
  let c1_i32 : BitVec 32 := 1#32
  let arg0 : BitVec 32 := BitVec.ofNat 32 (i 0).val
  let v62 : BitVec 32 := Scalar.subi c1_i32 arg0
  let c31_i32_233 : BitVec 32 := 31#32
  let c2_i32_232 : BitVec 32 := 2#32
  let v252 : BitVec 32 := Scalar.muli c2_i32_232 v251
  let v253 : BitVec 32 := Scalar.subi c31_i32_233 v252
  let v254 : BitVec 32 := Scalar.muli v62 v253
  let v255 : BitVec 32 := Scalar.addi v251 v254
  let c8_i32_234 : BitVec 32 := 8#32
  let v256 : BitVec 32 := Scalar.muli v255 c8_i32_234
  v256
def k0_mult4 (i : grid0.Coords) (k0_t1 : Fin k0_t1_loop.trips) : BitVec 32 :=
  let c0_i32_70 : BitVec 32 := 0#32
  let c1_i32_71 : BitVec 32 := 1#32
  let arg8 : BitVec 32 := Scf.iv c0_i32_70 c1_i32_71 k0_t1
  let c4_i32_239 : BitVec 32 := 4#32
  let v282 : BitVec 32 := Scalar.muli arg8 c4_i32_239
  let c3_i32 : BitVec 32 := 3#32
  let v283 : BitVec 32 := Scalar.addi v282 c3_i32
  let c1_i32 : BitVec 32 := 1#32
  let arg0 : BitVec 32 := BitVec.ofNat 32 (i 0).val
  let v62 : BitVec 32 := Scalar.subi c1_i32 arg0
  let c31_i32_241 : BitVec 32 := 31#32
  let c2_i32_240 : BitVec 32 := 2#32
  let v284 : BitVec 32 := Scalar.muli c2_i32_240 v283
  let v285 : BitVec 32 := Scalar.subi c31_i32_241 v284
  let v286 : BitVec 32 := Scalar.muli v62 v285
  let v287 : BitVec 32 := Scalar.addi v283 v286
  let c8_i32_242 : BitVec 32 := 8#32
  let v288 : BitVec 32 := Scalar.muli v287 c8_i32_242
  v288
@[reducible] def k0_t2_loop : Scf.Loop 32 :=
  let c0_i32_112 : BitVec 32 := 0#32
  let c8_i32_113 : BitVec 32 := 8#32
  let v109 : BitVec 32 := Scalar.addi c0_i32_112 c8_i32_113
  let c1_i32_114 : BitVec 32 := 1#32
  ⟨c0_i32_112, v109, c1_i32_114⟩
def k0_mult5 (i : grid0.Coords) (k0_t2 : Fin k0_t2_loop.trips) : BitVec 32 :=
  let c0_i32_112 : BitVec 32 := 0#32
  let c1_i32_114 : BitVec 32 := 1#32
  let arg8 : BitVec 32 := Scf.iv c0_i32_112 c1_i32_114 k0_t2
  let c4_i32 : BitVec 32 := 4#32
  let v186 : BitVec 32 := Scalar.muli arg8 c4_i32
  let c0_i32_215 : BitVec 32 := 0#32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  v192
def k0_off5 (i : grid0.Coords) (k0_t2 : Fin k0_t2_loop.trips) (c0_i32_215 : BitVec 32) : Fin 2 → Nat :=
  let c0_i32_112 : BitVec 32 := 0#32
  let c1_i32_114 : BitVec 32 := 1#32
  let arg8 : BitVec 32 := Scf.iv c0_i32_112 c1_i32_114 k0_t2
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v194 : Index := Scalar.indexCast v193
  let c2048_217 : Index := 2048#32
  ![v194.toNat, 2048]
def k0_off6 (i : grid0.Coords) (k0_t2 : Fin k0_t2_loop.trips) (c0_i32_215 : BitVec 32) : Fin 2 → Nat :=
  let c0_i32_112 : BitVec 32 := 0#32
  let c1_i32_114 : BitVec 32 := 1#32
  let arg8 : BitVec 32 := Scf.iv c0_i32_112 c1_i32_114 k0_t2
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v196 : Index := Scalar.indexCast v193
  let c2560_218 : Index := 2560#32
  ![v196.toNat, 2560]
def k0_off7 (i : grid0.Coords) (k0_t2 : Fin k0_t2_loop.trips) (c0_i32_215 : BitVec 32) : Fin 2 → Nat :=
  let c0_i32_112 : BitVec 32 := 0#32
  let c1_i32_114 : BitVec 32 := 1#32
  let arg8 : BitVec 32 := Scf.iv c0_i32_112 c1_i32_114 k0_t2
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v206 : Index := Scalar.indexCast v193
  let c3072_219 : Index := 3072#32
  ![v206.toNat, 3072]
def k0_off8 (i : grid0.Coords) (k0_t2 : Fin k0_t2_loop.trips) (c0_i32_215 : BitVec 32) : Fin 2 → Nat :=
  let c0_i32_112 : BitVec 32 := 0#32
  let c1_i32_114 : BitVec 32 := 1#32
  let arg8 : BitVec 32 := Scf.iv c0_i32_112 c1_i32_114 k0_t2
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v208 : Index := Scalar.indexCast v193
  let c3584_220 : Index := 3584#32
  ![v208.toNat, 3584]
def k0_mult6 (i : grid0.Coords) (k0_t2 : Fin k0_t2_loop.trips) : BitVec 32 :=
  let c0_i32_112 : BitVec 32 := 0#32
  let c1_i32_114 : BitVec 32 := 1#32
  let arg8 : BitVec 32 := Scf.iv c0_i32_112 c1_i32_114 k0_t2
  let c4_i32_221 : BitVec 32 := 4#32
  let v218 : BitVec 32 := Scalar.muli arg8 c4_i32_221
  let c1_i32_222 : BitVec 32 := 1#32
  let v219 : BitVec 32 := Scalar.addi v218 c1_i32_222
  let c1_i32 : BitVec 32 := 1#32
  let arg0 : BitVec 32 := BitVec.ofNat 32 (i 0).val
  let v62 : BitVec 32 := Scalar.subi c1_i32 arg0
  let c31_i32_224 : BitVec 32 := 31#32
  let c2_i32_223 : BitVec 32 := 2#32
  let v220 : BitVec 32 := Scalar.muli c2_i32_223 v219
  let v221 : BitVec 32 := Scalar.subi c31_i32_224 v220
  let v222 : BitVec 32 := Scalar.muli v62 v221
  let v223 : BitVec 32 := Scalar.addi v219 v222
  let c8_i32_225 : BitVec 32 := 8#32
  let v224 : BitVec 32 := Scalar.muli v223 c8_i32_225
  v224
def k0_mult7 (i : grid0.Coords) (k0_t2 : Fin k0_t2_loop.trips) : BitVec 32 :=
  let c0_i32_112 : BitVec 32 := 0#32
  let c1_i32_114 : BitVec 32 := 1#32
  let arg8 : BitVec 32 := Scf.iv c0_i32_112 c1_i32_114 k0_t2
  let c4_i32_230 : BitVec 32 := 4#32
  let v250 : BitVec 32 := Scalar.muli arg8 c4_i32_230
  let c2_i32_231 : BitVec 32 := 2#32
  let v251 : BitVec 32 := Scalar.addi v250 c2_i32_231
  let c1_i32 : BitVec 32 := 1#32
  let arg0 : BitVec 32 := BitVec.ofNat 32 (i 0).val
  let v62 : BitVec 32 := Scalar.subi c1_i32 arg0
  let c31_i32_233 : BitVec 32 := 31#32
  let c2_i32_232 : BitVec 32 := 2#32
  let v252 : BitVec 32 := Scalar.muli c2_i32_232 v251
  let v253 : BitVec 32 := Scalar.subi c31_i32_233 v252
  let v254 : BitVec 32 := Scalar.muli v62 v253
  let v255 : BitVec 32 := Scalar.addi v251 v254
  let c8_i32_234 : BitVec 32 := 8#32
  let v256 : BitVec 32 := Scalar.muli v255 c8_i32_234
  v256
def k0_mult8 (i : grid0.Coords) (k0_t2 : Fin k0_t2_loop.trips) : BitVec 32 :=
  let c0_i32_112 : BitVec 32 := 0#32
  let c1_i32_114 : BitVec 32 := 1#32
  let arg8 : BitVec 32 := Scf.iv c0_i32_112 c1_i32_114 k0_t2
  let c4_i32_239 : BitVec 32 := 4#32
  let v282 : BitVec 32 := Scalar.muli arg8 c4_i32_239
  let c3_i32 : BitVec 32 := 3#32
  let v283 : BitVec 32 := Scalar.addi v282 c3_i32
  let c1_i32 : BitVec 32 := 1#32
  let arg0 : BitVec 32 := BitVec.ofNat 32 (i 0).val
  let v62 : BitVec 32 := Scalar.subi c1_i32 arg0
  let c31_i32_241 : BitVec 32 := 31#32
  let c2_i32_240 : BitVec 32 := 2#32
  let v284 : BitVec 32 := Scalar.muli c2_i32_240 v283
  let v285 : BitVec 32 := Scalar.subi c31_i32_241 v284
  let v286 : BitVec 32 := Scalar.muli v62 v285
  let v287 : BitVec 32 := Scalar.addi v283 v286
  let c8_i32_242 : BitVec 32 := 8#32
  let v288 : BitVec 32 := Scalar.muli v287 c8_i32_242
  v288
@[reducible] def k0_t3_loop : Scf.Loop 32 :=
  let c0_i32_155 : BitVec 32 := 0#32
  let c8_i32_156 : BitVec 32 := 8#32
  let v139 : BitVec 32 := Scalar.addi c0_i32_155 c8_i32_156
  let c1_i32_157 : BitVec 32 := 1#32
  ⟨c0_i32_155, v139, c1_i32_157⟩
def k0_mult9 (i : grid0.Coords) (k0_t3 : Fin k0_t3_loop.trips) : BitVec 32 :=
  let c0_i32_155 : BitVec 32 := 0#32
  let c1_i32_157 : BitVec 32 := 1#32
  let arg8 : BitVec 32 := Scf.iv c0_i32_155 c1_i32_157 k0_t3
  let c4_i32 : BitVec 32 := 4#32
  let v186 : BitVec 32 := Scalar.muli arg8 c4_i32
  let c0_i32_215 : BitVec 32 := 0#32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  v192
def k0_off9 (i : grid0.Coords) (k0_t3 : Fin k0_t3_loop.trips) (c0_i32_215 : BitVec 32) : Fin 2 → Nat :=
  let c0_i32_155 : BitVec 32 := 0#32
  let c1_i32_157 : BitVec 32 := 1#32
  let arg8 : BitVec 32 := Scf.iv c0_i32_155 c1_i32_157 k0_t3
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v194 : Index := Scalar.indexCast v193
  let c4096_217 : Index := 4096#32
  ![v194.toNat, 4096]
def k0_off10 (i : grid0.Coords) (k0_t3 : Fin k0_t3_loop.trips) (c0_i32_215 : BitVec 32) : Fin 2 → Nat :=
  let c0_i32_155 : BitVec 32 := 0#32
  let c1_i32_157 : BitVec 32 := 1#32
  let arg8 : BitVec 32 := Scf.iv c0_i32_155 c1_i32_157 k0_t3
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v196 : Index := Scalar.indexCast v193
  let c4608 : Index := 4608#32
  ![v196.toNat, 4608]
def k0_off11 (i : grid0.Coords) (k0_t3 : Fin k0_t3_loop.trips) (c0_i32_215 : BitVec 32) : Fin 2 → Nat :=
  let c0_i32_155 : BitVec 32 := 0#32
  let c1_i32_157 : BitVec 32 := 1#32
  let arg8 : BitVec 32 := Scf.iv c0_i32_155 c1_i32_157 k0_t3
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v206 : Index := Scalar.indexCast v193
  let c5120_218 : Index := 5120#32
  ![v206.toNat, 5120]
def k0_off12 (i : grid0.Coords) (k0_t3 : Fin k0_t3_loop.trips) (c0_i32_215 : BitVec 32) : Fin 2 → Nat :=
  let c0_i32_155 : BitVec 32 := 0#32
  let c1_i32_157 : BitVec 32 := 1#32
  let arg8 : BitVec 32 := Scf.iv c0_i32_155 c1_i32_157 k0_t3
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v208 : Index := Scalar.indexCast v193
  let c5632 : Index := 5632#32
  ![v208.toNat, 5632]
def k0_mult10 (i : grid0.Coords) (k0_t3 : Fin k0_t3_loop.trips) : BitVec 32 :=
  let c0_i32_155 : BitVec 32 := 0#32
  let c1_i32_157 : BitVec 32 := 1#32
  let arg8 : BitVec 32 := Scf.iv c0_i32_155 c1_i32_157 k0_t3
  let c4_i32_219 : BitVec 32 := 4#32
  let v218 : BitVec 32 := Scalar.muli arg8 c4_i32_219
  let c1_i32_220 : BitVec 32 := 1#32
  let v219 : BitVec 32 := Scalar.addi v218 c1_i32_220
  let c1_i32 : BitVec 32 := 1#32
  let arg0 : BitVec 32 := BitVec.ofNat 32 (i 0).val
  let v62 : BitVec 32 := Scalar.subi c1_i32 arg0
  let c31_i32_222 : BitVec 32 := 31#32
  let c2_i32_221 : BitVec 32 := 2#32
  let v220 : BitVec 32 := Scalar.muli c2_i32_221 v219
  let v221 : BitVec 32 := Scalar.subi c31_i32_222 v220
  let v222 : BitVec 32 := Scalar.muli v62 v221
  let v223 : BitVec 32 := Scalar.addi v219 v222
  let c8_i32_223 : BitVec 32 := 8#32
  let v224 : BitVec 32 := Scalar.muli v223 c8_i32_223
  v224
def k0_mult11 (i : grid0.Coords) (k0_t3 : Fin k0_t3_loop.trips) : BitVec 32 :=
  let c0_i32_155 : BitVec 32 := 0#32
  let c1_i32_157 : BitVec 32 := 1#32
  let arg8 : BitVec 32 := Scf.iv c0_i32_155 c1_i32_157 k0_t3
  let c4_i32_228 : BitVec 32 := 4#32
  let v250 : BitVec 32 := Scalar.muli arg8 c4_i32_228
  let c2_i32_229 : BitVec 32 := 2#32
  let v251 : BitVec 32 := Scalar.addi v250 c2_i32_229
  let c1_i32 : BitVec 32 := 1#32
  let arg0 : BitVec 32 := BitVec.ofNat 32 (i 0).val
  let v62 : BitVec 32 := Scalar.subi c1_i32 arg0
  let c31_i32_231 : BitVec 32 := 31#32
  let c2_i32_230 : BitVec 32 := 2#32
  let v252 : BitVec 32 := Scalar.muli c2_i32_230 v251
  let v253 : BitVec 32 := Scalar.subi c31_i32_231 v252
  let v254 : BitVec 32 := Scalar.muli v62 v253
  let v255 : BitVec 32 := Scalar.addi v251 v254
  let c8_i32_232 : BitVec 32 := 8#32
  let v256 : BitVec 32 := Scalar.muli v255 c8_i32_232
  v256
def k0_mult12 (i : grid0.Coords) (k0_t3 : Fin k0_t3_loop.trips) : BitVec 32 :=
  let c0_i32_155 : BitVec 32 := 0#32
  let c1_i32_157 : BitVec 32 := 1#32
  let arg8 : BitVec 32 := Scf.iv c0_i32_155 c1_i32_157 k0_t3
  let c4_i32_237 : BitVec 32 := 4#32
  let v282 : BitVec 32 := Scalar.muli arg8 c4_i32_237
  let c3_i32 : BitVec 32 := 3#32
  let v283 : BitVec 32 := Scalar.addi v282 c3_i32
  let c1_i32 : BitVec 32 := 1#32
  let arg0 : BitVec 32 := BitVec.ofNat 32 (i 0).val
  let v62 : BitVec 32 := Scalar.subi c1_i32 arg0
  let c31_i32_239 : BitVec 32 := 31#32
  let c2_i32_238 : BitVec 32 := 2#32
  let v284 : BitVec 32 := Scalar.muli c2_i32_238 v283
  let v285 : BitVec 32 := Scalar.subi c31_i32_239 v284
  let v286 : BitVec 32 := Scalar.muli v62 v285
  let v287 : BitVec 32 := Scalar.addi v283 v286
  let c8_i32_240 : BitVec 32 := 8#32
  let v288 : BitVec 32 := Scalar.muli v287 c8_i32_240
  v288
@[reducible] def k0_t4_loop : Scf.Loop 32 :=
  let c0_i32_198 : BitVec 32 := 0#32
  let c8_i32_199 : BitVec 32 := 8#32
  let v169 : BitVec 32 := Scalar.addi c0_i32_198 c8_i32_199
  let c1_i32_200 : BitVec 32 := 1#32
  ⟨c0_i32_198, v169, c1_i32_200⟩
def k0_mult13 (i : grid0.Coords) (k0_t4 : Fin k0_t4_loop.trips) : BitVec 32 :=
  let c0_i32_198 : BitVec 32 := 0#32
  let c1_i32_200 : BitVec 32 := 1#32
  let arg8 : BitVec 32 := Scf.iv c0_i32_198 c1_i32_200 k0_t4
  let c4_i32 : BitVec 32 := 4#32
  let v186 : BitVec 32 := Scalar.muli arg8 c4_i32
  let c0_i32_215 : BitVec 32 := 0#32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  v192
def k0_off13 (i : grid0.Coords) (k0_t4 : Fin k0_t4_loop.trips) (c0_i32_215 : BitVec 32) : Fin 2 → Nat :=
  let c0_i32_198 : BitVec 32 := 0#32
  let c1_i32_200 : BitVec 32 := 1#32
  let arg8 : BitVec 32 := Scf.iv c0_i32_198 c1_i32_200 k0_t4
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v194 : Index := Scalar.indexCast v193
  let c6144_217 : Index := 6144#32
  ![v194.toNat, 6144]
def k0_off14 (i : grid0.Coords) (k0_t4 : Fin k0_t4_loop.trips) (c0_i32_215 : BitVec 32) : Fin 2 → Nat :=
  let c0_i32_198 : BitVec 32 := 0#32
  let c1_i32_200 : BitVec 32 := 1#32
  let arg8 : BitVec 32 := Scf.iv c0_i32_198 c1_i32_200 k0_t4
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v196 : Index := Scalar.indexCast v193
  let c6656 : Index := 6656#32
  ![v196.toNat, 6656]
def k0_off15 (i : grid0.Coords) (k0_t4 : Fin k0_t4_loop.trips) (c0_i32_215 : BitVec 32) : Fin 2 → Nat :=
  let c0_i32_198 : BitVec 32 := 0#32
  let c1_i32_200 : BitVec 32 := 1#32
  let arg8 : BitVec 32 := Scf.iv c0_i32_198 c1_i32_200 k0_t4
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v206 : Index := Scalar.indexCast v193
  let c7168_218 : Index := 7168#32
  ![v206.toNat, 7168]
def k0_off16 (i : grid0.Coords) (k0_t4 : Fin k0_t4_loop.trips) (c0_i32_215 : BitVec 32) : Fin 2 → Nat :=
  let c0_i32_198 : BitVec 32 := 0#32
  let c1_i32_200 : BitVec 32 := 1#32
  let arg8 : BitVec 32 := Scf.iv c0_i32_198 c1_i32_200 k0_t4
  let c4_i32 : BitVec 32 := 4#32
  let v186 : BitVec 32 := Scalar.muli arg8 c4_i32
  let v187 : BitVec 32 := Scalar.addi v186 c0_i32_215
  let c1_i32 : BitVec 32 := 1#32
  let arg0 : BitVec 32 := BitVec.ofNat 32 (i 0).val
  let v62 : BitVec 32 := Scalar.subi c1_i32 arg0
  let c31_i32 : BitVec 32 := 31#32
  let c2_i32 : BitVec 32 := 2#32
  let v188 : BitVec 32 := Scalar.muli c2_i32 v187
  let v189 : BitVec 32 := Scalar.subi c31_i32 v188
  let v190 : BitVec 32 := Scalar.muli v62 v189
  let v191 : BitVec 32 := Scalar.addi v187 v190
  let c8_i32_216 : BitVec 32 := 8#32
  let v192 : BitVec 32 := Scalar.muli v191 c8_i32_216
  let v193 : BitVec 32 := v192
  let v208 : Index := Scalar.indexCast v193
  let c7680 : Index := 7680#32
  ![v208.toNat, 7680]
def k0_mult14 (i : grid0.Coords) (k0_t4 : Fin k0_t4_loop.trips) : BitVec 32 :=
  let c0_i32_198 : BitVec 32 := 0#32
  let c1_i32_200 : BitVec 32 := 1#32
  let arg8 : BitVec 32 := Scf.iv c0_i32_198 c1_i32_200 k0_t4
  let c4_i32_219 : BitVec 32 := 4#32
  let v218 : BitVec 32 := Scalar.muli arg8 c4_i32_219
  let c1_i32_220 : BitVec 32 := 1#32
  let v219 : BitVec 32 := Scalar.addi v218 c1_i32_220
  let c1_i32 : BitVec 32 := 1#32
  let arg0 : BitVec 32 := BitVec.ofNat 32 (i 0).val
  let v62 : BitVec 32 := Scalar.subi c1_i32 arg0
  let c31_i32_222 : BitVec 32 := 31#32
  let c2_i32_221 : BitVec 32 := 2#32
  let v220 : BitVec 32 := Scalar.muli c2_i32_221 v219
  let v221 : BitVec 32 := Scalar.subi c31_i32_222 v220
  let v222 : BitVec 32 := Scalar.muli v62 v221
  let v223 : BitVec 32 := Scalar.addi v219 v222
  let c8_i32_223 : BitVec 32 := 8#32
  let v224 : BitVec 32 := Scalar.muli v223 c8_i32_223
  v224
def k0_mult15 (i : grid0.Coords) (k0_t4 : Fin k0_t4_loop.trips) : BitVec 32 :=
  let c0_i32_198 : BitVec 32 := 0#32
  let c1_i32_200 : BitVec 32 := 1#32
  let arg8 : BitVec 32 := Scf.iv c0_i32_198 c1_i32_200 k0_t4
  let c4_i32_228 : BitVec 32 := 4#32
  let v250 : BitVec 32 := Scalar.muli arg8 c4_i32_228
  let c2_i32_229 : BitVec 32 := 2#32
  let v251 : BitVec 32 := Scalar.addi v250 c2_i32_229
  let c1_i32 : BitVec 32 := 1#32
  let arg0 : BitVec 32 := BitVec.ofNat 32 (i 0).val
  let v62 : BitVec 32 := Scalar.subi c1_i32 arg0
  let c31_i32_231 : BitVec 32 := 31#32
  let c2_i32_230 : BitVec 32 := 2#32
  let v252 : BitVec 32 := Scalar.muli c2_i32_230 v251
  let v253 : BitVec 32 := Scalar.subi c31_i32_231 v252
  let v254 : BitVec 32 := Scalar.muli v62 v253
  let v255 : BitVec 32 := Scalar.addi v251 v254
  let c8_i32_232 : BitVec 32 := 8#32
  let v256 : BitVec 32 := Scalar.muli v255 c8_i32_232
  v256
def k0_mult16 (i : grid0.Coords) (k0_t4 : Fin k0_t4_loop.trips) : BitVec 32 :=
  let c0_i32_198 : BitVec 32 := 0#32
  let c1_i32_200 : BitVec 32 := 1#32
  let arg8 : BitVec 32 := Scf.iv c0_i32_198 c1_i32_200 k0_t4
  let c4_i32_237 : BitVec 32 := 4#32
  let v282 : BitVec 32 := Scalar.muli arg8 c4_i32_237
  let c3_i32 : BitVec 32 := 3#32
  let v283 : BitVec 32 := Scalar.addi v282 c3_i32
  let c1_i32 : BitVec 32 := 1#32
  let arg0 : BitVec 32 := BitVec.ofNat 32 (i 0).val
  let v62 : BitVec 32 := Scalar.subi c1_i32 arg0
  let c31_i32_239 : BitVec 32 := 31#32
  let c2_i32_238 : BitVec 32 := 2#32
  let v284 : BitVec 32 := Scalar.muli c2_i32_238 v283
  let v285 : BitVec 32 := Scalar.subi c31_i32_239 v284
  let v286 : BitVec 32 := Scalar.muli v62 v285
  let v287 : BitVec 32 := Scalar.addi v283 v286
  let c8_i32_240 : BitVec 32 := 8#32
  let v288 : BitVec 32 := Scalar.muli v287 c8_i32_240
  v288
def k0_cond2 (i : grid0.Coords) : BitVec 1 :=
  let arg1 : BitVec 32 := BitVec.ofNat 32 (i 1).val
  let c15_i32 : BitVec 32 := 15#32
  let v183 : BitVec 1 := Scalar.cmpi .eq arg1 c15_i32
  let v184 : BitVec 32 := Scalar.extui v183
  let c0_i32_214 : BitVec 32 := 0#32
  let v185 : BitVec 1 := Scalar.cmpi .ne v184 c0_i32_214
  v185

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let v1 : BitVec 32 := Scalar.subi c1_i32 arg0
  let c2_i32_0 : BitVec 32 := 2#32
  let v2 : BitVec 32 := Scalar.muli c2_i32_0 arg1
  let c15_i32 : BitVec 32 := 15#32
  let v3 : BitVec 32 := Scalar.subi c15_i32 v2
  let v4 : BitVec 32 := Scalar.muli v1 v3
  let v5 : BitVec 32 := Scalar.addi v0 v4
  let c0_i32 : BitVec 32 := 0#32
  let c0_i32_1 : BitVec 32 := 0#32
  ![v5.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S2x2048x1024 : Shape := ⟨3, ![2, 2048, 1024]⟩
abbrev S2x256x1024 : Shape := ⟨3, ![2, 256, 1024]⟩
abbrev S2x64x16x64 : Shape := ⟨4, ![2, 64, 16, 64]⟩
abbrev S64x128 : Shape := ⟨2, ![64, 128]⟩
abbrev S64x2x64 : Shape := ⟨3, ![64, 2, 64]⟩
abbrev S2x64x64 : Shape := ⟨3, ![2, 64, 64]⟩
abbrev S2x1x1x64x64 : Shape := ⟨5, ![2, 1, 1, 64, 64]⟩
abbrev S_ : Shape := ⟨0, ![]⟩
abbrev S2x2x4x64x64 : Shape := ⟨5, ![2, 2, 4, 64, 64]⟩
abbrev S2x4x512x64x16 : Shape := ⟨5, ![2, 4, 512, 64, 16]⟩
abbrev S512x2x4x64x16 : Shape := ⟨5, ![512, 2, 4, 64, 16]⟩
abbrev S512x1x2x4x64x16 : Shape := ⟨6, ![512, 1, 2, 4, 64, 16]⟩
abbrev S512x2x2x4x64x16 : Shape := ⟨6, ![512, 2, 2, 4, 64, 16]⟩
abbrev S1x2x2x4x64x16 : Shape := ⟨6, ![1, 2, 2, 4, 64, 16]⟩
abbrev S2x2x4x64x16 : Shape := ⟨5, ![2, 2, 4, 64, 16]⟩
abbrev S2x64x16x2x4 : Shape := ⟨5, ![2, 64, 16, 2, 4]⟩
abbrev S2x64x2x4x64 : Shape := ⟨5, ![2, 64, 2, 4, 64]⟩
abbrev S2x1x2x4x64x64 : Shape := ⟨6, ![2, 1, 2, 4, 64, 64]⟩
abbrev S2x2x2x4x64x64 : Shape := ⟨6, ![2, 2, 2, 4, 64, 64]⟩
abbrev S2x2x8x4096 : Shape := ⟨4, ![2, 2, 8, 4096]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x64x16x64, .f32⟩
  | .hbm, ⟨3, _⟩ => ⟨S2x64x16x64, .f32⟩
  | .hbm, ⟨4, _⟩ => ⟨S64x128, .f32⟩
  | .hbm, ⟨5, _⟩ => ⟨S64x128, .f32⟩
  | .hbm, ⟨6, _⟩ => ⟨S64x2x64, .f32⟩
  | .hbm, ⟨7, _⟩ => ⟨S2x64x64, .f32⟩
  | .hbm, ⟨8, _⟩ => ⟨S2x1x1x64x64, .f32⟩
  | .hbm, ⟨9, _⟩ => ⟨S64x2x64, .f32⟩
  | .hbm, ⟨10, _⟩ => ⟨S2x64x64, .f32⟩
  | .hbm, ⟨11, _⟩ => ⟨S2x1x1x64x64, .f32⟩
  | .hbm, ⟨12, _⟩ => ⟨S_, .f32⟩
  | .hbm, ⟨13, _⟩ => ⟨S2x2x4x64x64, .f32⟩
  | .hbm, ⟨14, _⟩ => ⟨S2x4x512x64x16, .f32⟩
  | .hbm, ⟨15, _⟩ => ⟨S512x2x4x64x16, .f32⟩
  | .hbm, ⟨16, _⟩ => ⟨S512x1x2x4x64x16, .f32⟩
  | .hbm, ⟨17, _⟩ => ⟨S512x1x2x4x64x16, .f32⟩
  | .hbm, ⟨18, _⟩ => ⟨S_, .f32⟩
  | .hbm, ⟨19, _⟩ => ⟨S512x2x2x4x64x16, .f32⟩
  | .hbm, ⟨20, _⟩ => ⟨S512x1x2x4x64x16, .f32⟩
  | .hbm, ⟨21, _⟩ => ⟨S_, .f32⟩
  | .hbm, ⟨22, _⟩ => ⟨S512x2x2x4x64x16, .f32⟩
  | .hbm, ⟨23, _⟩ => ⟨S512x2x2x4x64x16, .f32⟩
  | .hbm, ⟨24, _⟩ => ⟨S_, .f32⟩
  | .hbm, ⟨25, _⟩ => ⟨S2x2x4x64x64, .f32⟩
  | .hbm, ⟨26, _⟩ => ⟨S_, .f32⟩
  | .hbm, ⟨27, _⟩ => ⟨S2x2x4x64x64, .f32⟩
  | .hbm, ⟨28, _⟩ => ⟨S_, .i32⟩
  | .hbm, ⟨29, _⟩ => ⟨S512x2x2x4x64x16, .f32⟩
  | .hbm, ⟨30, _⟩ => ⟨S2x1x1x64x64, .f32⟩
  | .hbm, ⟨31, _⟩ => ⟨S2x1x1x64x64, .f32⟩
  | .hbm, ⟨32, _⟩ => ⟨S2x64x16x64, .f32⟩
  | .hbm, ⟨33, _⟩ => ⟨S2x64x16x64, .f32⟩
  | .hbm, ⟨34, _⟩ => ⟨S_, .i32⟩
  | .hbm, ⟨35, _⟩ => ⟨S2x2x4x64x64, .f32⟩
  | .hbm, ⟨36, _⟩ => ⟨S2x2x4x64x64, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x2x2x4x64x16, .f32⟩
  | .hbm, ⟨49, _⟩ => ⟨S2x2x4x64x16, .f32⟩
  | .hbm, ⟨50, _⟩ => ⟨S2x2x4x64x64, .f32⟩
  | .hbm, ⟨51, _⟩ => ⟨S2x2x4x64x64, .f32⟩
  | .hbm, ⟨52, _⟩ => ⟨S2x2x4x64x64, .f32⟩
  | .hbm, ⟨53, _⟩ => ⟨S2x2x4x64x64, .f32⟩
  | .hbm, ⟨54, _⟩ => ⟨S2x2x4x64x64, .f32⟩
  | .hbm, ⟨55, _⟩ => ⟨S2x2x4x64x64, .f32⟩
  | .hbm, ⟨56, _⟩ => ⟨S2x2x4x64x64, .f32⟩
  | .hbm, ⟨57, _⟩ => ⟨S2x2x4x64x64, .f32⟩
  | .hbm, ⟨58, _⟩ => ⟨S2x2x4x64x64, .f32⟩
  | .hbm, ⟨59, _⟩ => ⟨S2x2x4x64x64, .f32⟩
  | .hbm, ⟨60, _⟩ => ⟨S2x2x4x64x64, .f32⟩
  | .hbm, ⟨61, _⟩ => ⟨S2x2x4x64x16, .f32⟩
  | .hbm, ⟨62, _⟩ => ⟨S2x64x16x2x4, .f32⟩
  | .hbm, ⟨63, _⟩ => ⟨S2x64x2x4x64, .f32⟩
  | .hbm, ⟨64, _⟩ => ⟨S2x2x4x64x64, .f32⟩
  | .hbm, ⟨65, _⟩ => ⟨S2x2x4x64x64, .f32⟩
  | .hbm, ⟨66, _⟩ => ⟨S2x64x16x2x4, .f32⟩
  | .hbm, ⟨67, _⟩ => ⟨S2x64x2x4x64, .f32⟩
  | .hbm, ⟨68, _⟩ => ⟨S2x2x4x64x64, .f32⟩
  | .hbm, ⟨69, _⟩ => ⟨S2x2x4x64x64, .f32⟩
  | .hbm, ⟨70, _⟩ => ⟨S_, .i32⟩
  | .hbm, ⟨71, _⟩ => ⟨S_, .i32⟩
  | .hbm, ⟨72, _⟩ => ⟨S2x1x2x4x64x64, .f32⟩
  | .hbm, ⟨73, _⟩ => ⟨S2x1x2x4x64x64, .f32⟩
  | .hbm, ⟨74, _⟩ => ⟨S2x2x2x4x64x64, .f32⟩
  | .hbm, ⟨75, _⟩ => ⟨S2x2x8x4096, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_c : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev main_v17_5 : Ref sig .tc := ⟨.hbm, 34, rfl⟩
abbrev main_v17_6 : Ref sig .tc := ⟨.hbm, 35, rfl⟩
abbrev main_v17_7 : Ref sig .tc := ⟨.hbm, 36, rfl⟩
abbrev main_while0c_c_11 : Ref sig .tc := ⟨.hbm, 37, rfl⟩
abbrev main_while0c_v22 : Ref sig .tc := ⟨.hbm, 38, rfl⟩
abbrev main_while0b_c_11 : Ref sig .tc := ⟨.hbm, 39, rfl⟩
abbrev main_while0b_v22 : Ref sig .tc := ⟨.hbm, 40, rfl⟩
abbrev main_while0b_c_12 : Ref sig .tc := ⟨.hbm, 41, rfl⟩
abbrev main_while0b_v23 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_c_1 : Ref sig .tc := ⟨.hbm, 45, rfl⟩
abbrev main_while0b_call0_c_2 : Ref sig .tc := ⟨.hbm, 46, rfl⟩
abbrev main_while0b_call0_c_3 : Ref sig .tc := ⟨.hbm, 47, rfl⟩
abbrev main_while0b_call0_v0 : Ref sig .tc := ⟨.hbm, 48, rfl⟩
abbrev main_while0b_v24 : Ref sig .tc := ⟨.hbm, 49, rfl⟩
abbrev main_while0b_v25 : Ref sig .tc := ⟨.hbm, 50, rfl⟩
abbrev main_while0b_v26 : Ref sig .tc := ⟨.hbm, 51, rfl⟩
abbrev main_while0b_v27 : Ref sig .tc := ⟨.hbm, 52, rfl⟩
abbrev main_while0b_v28 : Ref sig .tc := ⟨.hbm, 53, rfl⟩
abbrev main_while0b_v29 : Ref sig .tc := ⟨.hbm, 54, rfl⟩
abbrev main_while0b_v30 : Ref sig .tc := ⟨.hbm, 55, rfl⟩
abbrev main_while0b_v31 : Ref sig .tc := ⟨.hbm, 56, rfl⟩
abbrev main_while0b_v32 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_v36 : Ref sig .tc := ⟨.hbm, 61, rfl⟩
abbrev main_while0b_v37 : Ref sig .tc := ⟨.hbm, 62, rfl⟩
abbrev main_while0b_v38 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_c_13 : Ref sig .tc := ⟨.hbm, 70, rfl⟩
abbrev main_while0b_v45 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S_ : Shape := ⟨0, ![]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4x2x1024x1024 : Shape := ⟨4, ![4, 2, 1024, 1024]⟩
abbrev S512x1024 : Shape := ⟨2, ![512, 1024]⟩
abbrev S512x4096 : Shape := ⟨2, ![512, 4096]⟩
abbrev S1x1x1024x1024 : Shape := ⟨4, ![1, 1, 1024, 1024]⟩
abbrev S1024x1024 : Shape := ⟨2, ![1024, 1024]⟩

abbrev nBuf : Space → Nat
  | .hbm => 20
  | .vmem => 12
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4096x1024, .f32⟩
  | .hbm, ⟨3, _⟩ => ⟨S4608x1024, .f32⟩
  | .hbm, ⟨4, _⟩ => ⟨S4608x4096, .f32⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S4608x4096, .f32⟩
  | .hbm, ⟨9, _⟩ => ⟨S4608x4096, .bf16⟩
  | .hbm, ⟨10, _⟩ => ⟨S1024x4x1024, .f32⟩
  | .hbm, ⟨11, _⟩ => ⟨S4x1024x1024, .f32⟩
  | .hbm, ⟨12, _⟩ => ⟨S4x1024x1024, .f32⟩
  | .hbm, ⟨13, _⟩ => ⟨S4x1x1024x1024, .f32⟩
  | .hbm, ⟨14, _⟩ => ⟨S4x1x1024x1024, .f32⟩
  | .hbm, ⟨15, _⟩ => ⟨S4x2x1024x1024, .f32⟩
  | .hbm, ⟨16, _⟩ => ⟨S4x2x1024x1024, .bf16⟩
  | .hbm, ⟨17, _⟩ => ⟨S4608x1024, .f32⟩
  | .hbm, ⟨18, _⟩ => ⟨S4608x4096, .bf16⟩
  | .hbm, ⟨19, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4x1x1024x1024, .bf16⟩
  | .local _ .vmem, ⟨5, _⟩ => ⟨S4x1x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4096x1024, .f32⟩
  | .hbm, ⟨3, _⟩ => ⟨S4608x1024, .f32⟩
  | .hbm, ⟨4, _⟩ => ⟨S4608x4096, .f32⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S_, .f32⟩
  | .hbm, ⟨9, _⟩ => ⟨S4608x4096, .f32⟩
  | .hbm, ⟨10, _⟩ => ⟨S4608x4096, .i1⟩
  | .hbm, ⟨11, _⟩ => ⟨S_, .f32⟩
  | .hbm, ⟨12, _⟩ => ⟨S4608x4096, .f32⟩
  | .hbm, ⟨13, _⟩ => ⟨S4608x4096, .f32⟩
  | .hbm, ⟨14, _⟩ => ⟨S_, .f32⟩
  | .hbm, ⟨15, _⟩ => ⟨S4608x4096, .f32⟩
  | .hbm, ⟨16, _⟩ => ⟨S4608x4096, .f32⟩
  | .hbm, ⟨17, _⟩ => ⟨S4608x1024, .f32⟩
  | .hbm, ⟨18, _⟩ => ⟨S4608x4096, .f32⟩
  | .hbm, ⟨19, _⟩ => ⟨S4608x4096, .f32⟩
  | .hbm, ⟨20, _⟩ => ⟨S_, .f32⟩
  | .hbm, ⟨21, _⟩ => ⟨S4608x4096, .f32⟩
  | .hbm, ⟨22, _⟩ => ⟨S4608x4096, .f32⟩
  | .hbm, ⟨23, _⟩ => ⟨S4608x1024, .f32⟩
  | .hbm, ⟨24, _⟩ => ⟨S4608x4096, .bf16⟩
  | .hbm, ⟨25, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel3.lean ====
abbrev S4608x1024 : Shape := ⟨2, ![4608, 1024]⟩
abbrev S4608x4096 : Shape := ⟨2, ![4608, 4096]⟩
abbrev S4x2x1024x1024 : Shape := ⟨4, ![4, 2, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4608x1024, .f32⟩
  | .hbm, ⟨1, _⟩ => ⟨S4608x4096, .f32⟩
  | .hbm, ⟨2, _⟩ => ⟨S4608x1024, .bf16⟩
  | .hbm, ⟨3, _⟩ => ⟨S4608x4096, .bf16⟩
  | .hbm, ⟨4, _⟩ => ⟨S4x2x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1x1024x1024, .f32⟩
  | .local _ .vmem, ⟨13, _⟩ => ⟨S1x1x1024x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_13 : BitVec 32 := 0#32
  let v19 : BitVec 1 := Scalar.cmpi .ne v18 c0_i32_13
  v19

def k0_cond2 (i : grid0.Coords) : BitVec 1 :=
  let arg1 : BitVec 32 := BitVec.ofNat 32 (i 1).val
  let c0_i32_14 : BitVec 32 := 0#32
  let v20 : BitVec 1 := Scalar.cmpi .sgt arg1 c0_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  ![v2.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4608x1024 : Shape := ⟨2, ![4608, 1024]⟩
abbrev S4608x4096 : Shape := ⟨2, ![4608, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4x2x1024x1024 : Shape := ⟨4, ![4, 2, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x4096, .f32⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | .hbm, ⟨8, _⟩ => ⟨S_, .f32⟩
  | .hbm, ⟨9, _⟩ => ⟨S4x1024x1024, .f32⟩
  | .hbm, ⟨10, _⟩ => ⟨S4x1x1024x1024, .f32⟩
  | .hbm, ⟨11, _⟩ => ⟨S4x1x1024x1024, .f32⟩
  | .hbm, ⟨12, _⟩ => ⟨S4x2x1024x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S4608x4096 : Shape := ⟨2, ![4608, 4096]⟩
abbrev S4608x1024 : Shape := ⟨2, ![4608, 1024]⟩
abbrev S4x2x1024x1024 : Shape := ⟨4, ![4, 2, 1024, 1024]⟩
abbrev S_ : Shape := ⟨0, ![]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4608x4096, .f32⟩
  | .hbm, ⟨1, _⟩ => ⟨S4608x1024, .f32⟩
  | .hbm, ⟨2, _⟩ => ⟨S4x2x1024x1024, .f32⟩
  | .hbm, ⟨3, _⟩ => ⟨S_, .f32⟩
  | .hbm, ⟨4, _⟩ => ⟨S4608x4096, .f32⟩
  | .hbm, ⟨5, _⟩ => ⟨S4608x4096, .f32⟩
  | .hbm, ⟨6, _⟩ => ⟨S4608x4096, .f32⟩
  | .hbm, ⟨7, _⟩ => ⟨S4608x4096, .bf16⟩
  | .hbm, ⟨8, _⟩ => ⟨S4608x1024, .bf16⟩
  | .hbm, ⟨9, _⟩ => ⟨S4x2x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1x1024x1024, .f32⟩
  | .local _ .vmem, ⟨13, _⟩ => ⟨S1x1x1024x1024, .f32⟩
  | _, _ => ⟨S4608x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_13 : BitVec 32 := 0#32
  let v19 : BitVec 1 := Scalar.cmpi .ne v18 c0_i32_13
  v19

def k0_cond2 (i : grid0.Coords) : BitVec 1 :=
  let arg1 : BitVec 32 := BitVec.ofNat 32 (i 1).val
  let c0_i32_14 : BitVec 32 := 0#32
  let v20 : BitVec 1 := Scalar.cmpi .sgt arg1 c0_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S4608x4096 : Shape := ⟨2, ![4608, 4096]⟩
abbrev S4608x1024 : Shape := ⟨2, ![4608, 1024]⟩
abbrev S4x2x1024x1024 : Shape := ⟨4, ![4, 2, 1024, 1024]⟩
abbrev S_ : Shape := ⟨0, ![]⟩
abbrev S4096x1024 : Shape := ⟨2, ![4096, 1024]⟩
abbrev S1024x4096 : Shape := ⟨2, ![1024, 4096]⟩
abbrev S4x1x1024x1024 : Shape := ⟨4, ![4, 1, 1024, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4608x4096, .f32⟩
  | .hbm, ⟨1, _⟩ => ⟨S4608x1024, .f32⟩
  | .hbm, ⟨2, _⟩ => ⟨S4x2x1024x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S4608x4096, .f32⟩
  | .hbm, ⟨9, _⟩ => ⟨S1024x4096, .f32⟩
  | .hbm, ⟨10, _⟩ => ⟨S4096x1024, .f32⟩
  | .hbm, ⟨11, _⟩ => ⟨S4x1x1024x1024, .f32⟩
  | .hbm, ⟨12, _⟩ => ⟨S4x1024x1024, .f32⟩
  | .hbm, ⟨13, _⟩ => ⟨S4x1024x1024, .f32⟩
  | .hbm, ⟨14, _⟩ => ⟨S4x1x1024x1024, .f32⟩
  | .hbm, ⟨15, _⟩ => ⟨S4x1x1024x1024, .f32⟩
  | .hbm, ⟨16, _⟩ => ⟨S4x2x1024x1024, .f32⟩
  | _, _ => ⟨S4608x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel5.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S_ : Shape := ⟨0, ![]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4x2x1024x1024 : Shape := ⟨4, ![4, 2, 1024, 1024]⟩
abbrev S512x1024 : Shape := ⟨2, ![512, 1024]⟩
abbrev S512x4096 : Shape := ⟨2, ![512, 4096]⟩
abbrev S1x1x1024x1024 : Shape := ⟨4, ![1, 1, 1024, 1024]⟩
abbrev S1024x1024 : Shape := ⟨2, ![1024, 1024]⟩

abbrev nBuf : Space → Nat
  | .hbm => 20
  | .vmem => 12
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4096x1024, .f32⟩
  | .hbm, ⟨3, _⟩ => ⟨S4608x1024, .f32⟩
  | .hbm, ⟨4, _⟩ => ⟨S4608x4096, .f32⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S4608x4096, .f32⟩
  | .hbm, ⟨9, _⟩ => ⟨S4608x4096, .bf16⟩
  | .hbm, ⟨10, _⟩ => ⟨S1024x4x1024, .f32⟩
  | .hbm, ⟨11, _⟩ => ⟨S4x1024x1024, .f32⟩
  | .hbm, ⟨12, _⟩ => ⟨S4x1024x1024, .f32⟩
  | .hbm, ⟨13, _⟩ => ⟨S4x1x1024x1024, .f32⟩
  | .hbm, ⟨14, _⟩ => ⟨S4x1x1024x1024, .f32⟩
  | .hbm, ⟨15, _⟩ => ⟨S4x2x1024x1024, .f32⟩
  | .hbm, ⟨16, _⟩ => ⟨S4x2x1024x1024, .bf16⟩
  | .hbm, ⟨17, _⟩ => ⟨S4608x1024, .f32⟩
  | .hbm, ⟨18, _⟩ => ⟨S4608x4096, .bf16⟩
  | .hbm, ⟨19, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4x1x1024x1024, .bf16⟩
  | .local _ .vmem, ⟨5, _⟩ => ⟨S4x1x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6.lean ====
abbrev S4608x1024 : Shape := ⟨2, ![4608, 1024]⟩
abbrev S4608x4096 : Shape := ⟨2, ![4608, 4096]⟩
abbrev S4x2x1024x1024 : Shape := ⟨4, ![4, 2, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 5
  | .vmem => 18
  | .smem => 0
  | _ => 0

abbrev bufTy : (tb : Table) → Fin (tcTables nBuf tb) → BufTy
  | .hbm, ⟨0, _⟩ => ⟨S4608x1024, .f32⟩
  | .hbm, ⟨1, _⟩ => ⟨S4608x4096, .f32⟩
  | .hbm, ⟨2, _⟩ => ⟨S4608x1024, .bf16⟩
  | .hbm, ⟨3, _⟩ => ⟨S4608x4096, .bf16⟩
  | .hbm, ⟨4, _⟩ => ⟨S4x2x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1x1024x1024, .f32⟩
  | .local _ .vmem, ⟨17, _⟩ => ⟨S1x1x1024x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_18 : BitVec 32 := 0#32
  let v25 : BitVec 1 := Scalar.cmpi .ne v24 c0_i32_18
  v25

def k0_cond2 (i : grid0.Coords) : BitVec 1 :=
  let arg1 : BitVec 32 := BitVec.ofNat 32 (i 1).val
  let c0_i32_19 : BitVec 32 := 0#32
  let v26 : BitVec 1 := Scalar.cmpi .sgt arg1 c0_i32_19
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![v2.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S4608x1024 : Shape := ⟨2, ![4608, 1024]⟩
abbrev S4608x4096 : Shape := ⟨2, ![4608, 4096]⟩
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4x2x1024x1024 : Shape := ⟨4, ![4, 2, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x4096, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x1024, .f32⟩
  | .hbm, ⟨7, _⟩ => ⟨S1024x4096, .f32⟩
  | .hbm, ⟨8, _⟩ => ⟨S1024x4x1024, .f32⟩
  | .hbm, ⟨9, _⟩ => ⟨S4x1024x1024, .f32⟩
  | .hbm, ⟨10, _⟩ => ⟨S_, .f32⟩
  | .hbm, ⟨11, _⟩ => ⟨S4x1024x1024, .f32⟩
  | .hbm, ⟨12, _⟩ => ⟨S4x1x1024x1024, .f32⟩
  | .hbm, ⟨13, _⟩ => ⟨S4x1x1024x1024, .f32⟩
  | .hbm, ⟨14, _⟩ => ⟨S4x2x1024x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S4608x4096 : Shape := ⟨2, ![4608, 4096]⟩
abbrev S4608x1024 : Shape := ⟨2, ![4608, 1024]⟩
abbrev S4x2x1024x1024 : Shape := ⟨4, ![4, 2, 1024, 1024]⟩
abbrev S_ : Shape := ⟨0, ![]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4608x4096, .f32⟩
  | .hbm, ⟨1, _⟩ => ⟨S4608x1024, .f32⟩
  | .hbm, ⟨2, _⟩ => ⟨S4x2x1024x1024, .f32⟩
  | .hbm, ⟨3, _⟩ => ⟨S_, .f32⟩
  | .hbm, ⟨4, _⟩ => ⟨S4608x4096, .f32⟩
  | .hbm, ⟨5, _⟩ => ⟨S4608x4096, .f32⟩
  | .hbm, ⟨6, _⟩ => ⟨S4608x4096, .f32⟩
  | .hbm, ⟨7, _⟩ => ⟨S4608x4096, .bf16⟩
  | .hbm, ⟨8, _⟩ => ⟨S4608x1024, .bf16⟩
  | .hbm, ⟨9, _⟩ => ⟨S4x2x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1x1024x1024, .f32⟩
  | .local _ .vmem, ⟨17, _⟩ => ⟨S1x1x1024x1024, .f32⟩
  | _, _ => ⟨S4608x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_18 : BitVec 32 := 0#32
  let v25 : BitVec 1 := Scalar.cmpi .ne v24 c0_i32_18
  v25

def k0_cond2 (i : grid0.Coords) : BitVec 1 :=
  let arg1 : BitVec 32 := BitVec.ofNat 32 (i 1).val
  let c0_i32_19 : BitVec 32 := 0#32
  let v26 : BitVec 1 := Scalar.cmpi .sgt arg1 c0_i32_19
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S4608x4096 : Shape := ⟨2, ![4608, 4096]⟩
abbrev S4608x1024 : Shape := ⟨2, ![4608, 1024]⟩
abbrev S4x2x1024x1024 : Shape := ⟨4, ![4, 2, 1024, 1024]⟩
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1x1024x1024 : Shape := ⟨4, ![4, 1, 1024, 1024]⟩
abbrev S4x1024x1024 : Shape := ⟨3, ![4, 1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4608x4096, .f32⟩
  | .hbm, ⟨1, _⟩ => ⟨S4608x1024, .f32⟩
  | .hbm, ⟨2, _⟩ => ⟨S4x2x1024x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S1024x4096, .f32⟩
  | .hbm, ⟨12, _⟩ => ⟨S4096x1024, .f32⟩
  | .hbm, ⟨13, _⟩ => ⟨S4x1x1024x1024, .f32⟩
  | .hbm, ⟨14, _⟩ => ⟨S4x1024x1024, .f32⟩
  | .hbm, ⟨15, _⟩ => ⟨S4x1024x1024, .f32⟩
  | .hbm, ⟨16, _⟩ => ⟨S4x1x1024x1024, .f32⟩
  | .hbm, ⟨17, _⟩ => ⟨S4x1x1024x1024, .f32⟩
  | .hbm, ⟨18, _⟩ => ⟨S4x2x1024x1024, .f32⟩
  | _, _ => ⟨S4608x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel8.lean ====
abbrev S4608x1024 : Shape := ⟨2, ![4608, 1024]⟩
abbrev S2x8x6144 : Shape := ⟨3, ![2, 8, 6144]⟩
abbrev S1024x4096 : Shape := ⟨2, ![1024, 4096]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4x2x1024x1024 : Shape := ⟨4, ![4, 2, 1024, 1024]⟩
abbrev S1x1024 : Shape := ⟨2, ![1, 1024]⟩
abbrev S4608x4096 : Shape := ⟨2, ![4608, 4096]⟩
abbrev S512x1024 : Shape := ⟨2, ![512, 1024]⟩
abbrev S1x8x6144 : Shape := ⟨3, ![1, 8, 6144]⟩
abbrev S512x4096 : Shape := ⟨2, ![512, 4096]⟩
abbrev S1x8x1024 : Shape := ⟨3, ![1, 8, 1024]⟩
abbrev S8x1024 : Shape := ⟨2, ![8, 1024]⟩
abbrev S64x8x1024 : Shape := ⟨3, ![64, 8, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 20
  | .vmem => 18
  | .smem => 0
  | _ => 0

abbrev bufTy : (tb : Table) → Fin (tcTables nBuf tb) → BufTy
  | .hbm, ⟨0, _⟩ => ⟨S4608x1024, .f32⟩
  | .hbm, ⟨1, _⟩ => ⟨S2x8x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x4x1024, .f32⟩
  | .hbm, ⟨7, _⟩ => ⟨S4x1024x1024, .f32⟩
  | .hbm, ⟨8, _⟩ => ⟨S4x1024x1024, .f32⟩
  | .hbm, ⟨9, _⟩ => ⟨S4x1x1024x1024, .f32⟩
  | .hbm, ⟨10, _⟩ => ⟨S4x1x1024x1024, .f32⟩
  | .hbm, ⟨11, _⟩ => ⟨S4x2x1024x1024, .f32⟩
  | .hbm, ⟨12, _⟩ => ⟨S4x2x1024x1024, .bf16⟩
  | .hbm, ⟨13, _⟩ => ⟨S1x1024, .f32⟩
  | .hbm, ⟨14, _⟩ => ⟨S1x1024, .f32⟩
  | .hbm, ⟨15, _⟩ => ⟨S4608x1024, .f32⟩
  | .hbm, ⟨16, _⟩ => ⟨S4608x1024, .f32⟩
  | .hbm, ⟨17, _⟩ => ⟨S4608x1024, .bf16⟩
  | .hbm, ⟨18, _⟩ => ⟨S4608x4096, .bf16⟩
  | .hbm, ⟨19, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x8x6144, .f32⟩
  | .local _ .vmem, ⟨3, _⟩ => ⟨S1x8x6144, .f32⟩
  | .local _ .vmem, ⟨4, _⟩ => ⟨S4x1x1024x1024, .bf16⟩
  | .local _ .vmem, ⟨5, _⟩ => ⟨S4x1x1024x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .bf16⟩
  | .local _ .vmem, ⟨17, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 1 := Scalar.cmpi .sge v0 c1_i32
  let c1_i32_0 : BitVec 32 := 1#32
  let c0_i32_1 : BitVec 32 := 0#32
  let v2 : BitVec 32 := Scalar.select v1 c1_i32_0 c0_i32_1
  let c0_i32_2 : BitVec 32 := 0#32
  let c0_i32_3 : BitVec 32 := 0#32
  let c0_i32_4 : BitVec 32 := 0#32
  ![v2.toNat, c0_i32_2.toNat, c0_i32_3.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S4608x1024 : Shape := ⟨2, ![4608, 1024]⟩
abbrev S2x8x6144 : Shape := ⟨3, ![2, 8, 6144]⟩
abbrev S1024x4096 : Shape := ⟨2, ![1024, 4096]⟩
abbrev S4096x1024 : Shape := ⟨2, ![4096, 1024]⟩
abbrev S1024 : Shape := ⟨1, ![1024]⟩
abbrev S1x8x6144 : Shape := ⟨3, ![1, 8, 6144]⟩
abbrev S8x6144 : Shape := ⟨2, ![8, 6144]⟩
abbrev S1x8x1x6144 : Shape := ⟨4, ![1, 8, 1, 6144]⟩
abbrev S64x8x1x6144 : Shape := ⟨4, ![64, 8, 1, 6144]⟩
abbrev S512x6144 : Shape := ⟨2, ![512, 6144]⟩
abbrev S512x8x1x6144 : Shape := ⟨4, ![512, 8, 1, 6144]⟩
abbrev S4096x6144 : Shape := ⟨2, ![4096, 6144]⟩
abbrev S4608x6144 : Shape := ⟨2, ![4608, 6144]⟩
abbrev S_ : Shape := ⟨0, ![]⟩
abbrev S4608x4096 : Shape := ⟨2, ![4608, 4096]⟩
abbrev S4608 : Shape := ⟨1, ![4608]⟩
abbrev S4608x1 : Shape := ⟨2, ![4608, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S2x8x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1x8x6144, .f32⟩
  | .hbm, ⟨7, _⟩ => ⟨S8x6144, .f32⟩
  | .hbm, ⟨8, _⟩ => ⟨S1x8x1x6144, .f32⟩
  | .hbm, ⟨9, _⟩ => ⟨S64x8x1x6144, .f32⟩
  | .hbm, ⟨10, _⟩ => ⟨S512x6144, .f32⟩
  | .hbm, ⟨11, _⟩ => ⟨S1x8x6144, .f32⟩
  | .hbm, ⟨12, _⟩ => ⟨S8x6144, .f32⟩
  | .hbm, ⟨13, _⟩ => ⟨S1x8x1x6144, .f32⟩
  | .hbm, ⟨14, _⟩ => ⟨S512x8x1x6144, .f32⟩
  | .hbm, ⟨15, _⟩ => ⟨S4096x6144, .f32⟩
  | .hbm, ⟨16, _⟩ => ⟨S4608x6144, .f32⟩
  | .hbm, ⟨17, _⟩ => ⟨S4608x1024, .f32⟩
  | .hbm, ⟨18, _⟩ => ⟨S4608x1024, .f32⟩
  | .hbm, ⟨19, _⟩ => ⟨S4608x1024, .f32⟩
  | .hbm, ⟨20, _⟩ => ⟨S4608x1024, .f32⟩
  | .hbm, ⟨21, _⟩ => ⟨S4608x1024, .f32⟩
  | .hbm, ⟨22, _⟩ => ⟨S4608x1024, .f32⟩
  | .hbm, ⟨23, _⟩ => ⟨S_, .f32⟩
  | .hbm, ⟨24, _⟩ => ⟨S4608x1024, .f32⟩
  | .hbm, ⟨25, _⟩ => ⟨S4608x1024, .f32⟩
  | .hbm, ⟨26, _⟩ => ⟨S4608x1024, .f32⟩
  | .hbm, ⟨27, _⟩ => ⟨S4608x1024, .f32⟩
  | .hbm, ⟨28, _⟩ => ⟨S4608x4096, .f32⟩
  | .hbm, ⟨29, _⟩ => ⟨S_, .f32⟩
  | .hbm, ⟨30, _⟩ => ⟨S4608x4096, .f32⟩
  | .hbm, ⟨31, _⟩ => ⟨S4608x4096, .f32⟩
  | .hbm, ⟨32, _⟩ => ⟨S4608x4096, .f32⟩
  | .hbm, ⟨33, _⟩ => ⟨S4608x1024, .f32⟩
  | .hbm, ⟨34, _⟩ => ⟨S_, .f32⟩
  | .hbm, ⟨35, _⟩ => ⟨S4608x1024, .f32⟩
  | .hbm, ⟨36, _⟩ => ⟨S4608x1024, .f32⟩
  | .hbm, ⟨37, _⟩ => ⟨S4608x1024, .f32⟩
  | .hbm, ⟨38, _⟩ => ⟨S4608x1024, .f32⟩
  | .hbm, ⟨39, _⟩ => ⟨S_, .f32⟩
  | .hbm, ⟨40, _⟩ => ⟨S4608, .f32⟩
  | .hbm, ⟨41, _⟩ => ⟨S4608x1, .f32⟩
  | .hbm, ⟨42, _⟩ => ⟨S_, .f32⟩
  | .hbm, ⟨43, _⟩ => ⟨S4608x1, .f32⟩
  | .hbm, ⟨44, _⟩ => ⟨S4608x1, .f32⟩
  | .hbm, ⟨45, _⟩ => ⟨S4608x1024, .f32⟩
  | .hbm, ⟨46, _⟩ => ⟨S4608x1024, .f32⟩
  | .hbm, ⟨47, _⟩ => ⟨S4608x1024, .f32⟩
  | .hbm, ⟨48, _⟩ => ⟨S_, .f32⟩
  | .hbm, ⟨49, _⟩ => ⟨S4608, .f32⟩
  | .hbm, ⟨50, _⟩ => ⟨S4608x1, .f32⟩
  | .hbm, ⟨51, _⟩ => ⟨S_, .f32⟩
  | .hbm, ⟨52, _⟩ => ⟨S4608x1, .f32⟩
  | .hbm, ⟨53, _⟩ => ⟨S4608x1, .f32⟩
  | .hbm, ⟨54, _⟩ => ⟨S4608x1024, .f32⟩
  | .hbm, ⟨55, _⟩ => ⟨S4608x1024, .f32⟩
  | .hbm, ⟨56, _⟩ => ⟨S_, .f32⟩
  | .hbm, ⟨57, _⟩ => ⟨S4608x1, .f32⟩
  | .hbm, ⟨58, _⟩ => ⟨S4608x1, .f32⟩
  | .hbm, ⟨59, _⟩ => ⟨S4608x1, .f32⟩
  | .hbm, ⟨60, _⟩ => ⟨S4608x1024, .f32⟩
  | .hbm, ⟨61, _⟩ => ⟨S4608x1024, .f32⟩
  | .hbm, ⟨62, _⟩ => ⟨S1x1024, .f32⟩
  | .hbm, ⟨63, _⟩ => ⟨S4608x1024, .f32⟩
  | .hbm, ⟨64, _⟩ => ⟨S4608x1024, .f32⟩
  | .hbm, ⟨65, _⟩ => ⟨S1x1024, .f32⟩
  | .hbm, ⟨66, _⟩ => ⟨S4608x1024, .f32⟩
  | .hbm, ⟨67, _⟩ => ⟨S4608x1024, .f32⟩
  | .hbm, ⟨68, _⟩ => ⟨S4608x1024, .bf16⟩
  | .hbm, ⟨69, _⟩ => ⟨S_, .f32⟩
  | .hbm, ⟨70, _⟩ => ⟨S4608x4096, .f32⟩
  | .hbm, ⟨71, _⟩ => ⟨S4608x4096, .f32⟩
  | .hbm, ⟨72, _⟩ => ⟨S4608x4096, .f32⟩
  | .hbm, ⟨73, _⟩ => ⟨S4608x4096, .bf16⟩
  | .hbm, ⟨74, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call1_cst : Ref sig .tc := ⟨.hbm, 69, rfl⟩
abbrev main_call1_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Kernel9.lean ====
abbrev S4608x1024 : Shape := ⟨2, ![4608, 1024]⟩
abbrev S2x8x6144 : Shape := ⟨3, ![2, 8, 6144]⟩
abbrev S1024x4096 : Shape := ⟨2, ![1024, 4096]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4x2x1024x1024 : Shape := ⟨4, ![4, 2, 1024, 1024]⟩
abbrev S1x1024 : Shape := ⟨2, ![1, 1024]⟩
abbrev S4608x4096 : Shape := ⟨2, ![4608, 4096]⟩
abbrev S512x1024 : Shape := ⟨2, ![512, 1024]⟩
abbrev S1x8x6144 : Shape := ⟨3, ![1, 8, 6144]⟩
abbrev S512x4096 : Shape := ⟨2, ![512, 4096]⟩
abbrev S1x8x1024 : Shape := ⟨3, ![1, 8, 1024]⟩
abbrev S8x1024 : Shape := ⟨2, ![8, 1024]⟩
abbrev S64x8x1024 : Shape := ⟨3, ![64, 8, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 20
  | .vmem => 18
  | .smem => 0
  | _ => 0

abbrev bufTy : (tb : Table) → Fin (tcTables nBuf tb) → BufTy
  | .hbm, ⟨0, _⟩ => ⟨S4608x1024, .f32⟩
  | .hbm, ⟨1, _⟩ => ⟨S2x8x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x4x1024, .f32⟩
  | .hbm, ⟨7, _⟩ => ⟨S4x1024x1024, .f32⟩
  | .hbm, ⟨8, _⟩ => ⟨S4x1024x1024, .f32⟩
  | .hbm, ⟨9, _⟩ => ⟨S4x1x1024x1024, .f32⟩
  | .hbm, ⟨10, _⟩ => ⟨S4x1x1024x1024, .f32⟩
  | .hbm, ⟨11, _⟩ => ⟨S4x2x1024x1024, .f32⟩
  | .hbm, ⟨12, _⟩ => ⟨S4x2x1024x1024, .bf16⟩
  | .hbm, ⟨13, _⟩ => ⟨S1x1024, .f32⟩
  | .hbm, ⟨14, _⟩ => ⟨S1x1024, .f32⟩
  | .hbm, ⟨15, _⟩ => ⟨S4608x1024, .f32⟩
  | .hbm, ⟨16, _⟩ => ⟨S4608x1024, .f32⟩
  | .hbm, ⟨17, _⟩ => ⟨S4608x1024, .bf16⟩
  | .hbm, ⟨18, _⟩ => ⟨S4608x4096, .bf16⟩
  | .hbm, ⟨19, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x8x6144, .f32⟩
  | .local _ .vmem, ⟨3, _⟩ => ⟨S1x8x6144, .f32⟩
  | .local _ .vmem, ⟨4, _⟩ => ⟨S4x1x1024x1024, .bf16⟩
  | .local _ .vmem, ⟨5, _⟩ => ⟨S4x1x1024x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .bf16⟩
  | .local _ .vmem, ⟨17, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .sge v0 c1_i32_0
  let c1_i32_1 : BitVec 32 := 1#32
  let c0_i32 : BitVec 32 := 0#32
  let v2 : BitVec 32 := Scalar.select v1 c1_i32_1 c0_i32
  let c0_i32_2 : BitVec 32 := 0#32
  let c0_i32_3 : BitVec 32 := 0#32
  let c0_i32_4 : BitVec 32 := 0#32
  ![v2.toNat, c0_i32_2.toNat, c0_i32_3.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel10.lean ====
abbrev S4608x1024 : Shape := ⟨2, ![4608, 1024]⟩
abbrev S4608x2048 : Shape := ⟨2, ![4608, 2048]⟩
abbrev S4x1x1024x512 : Shape := ⟨4, ![4, 1, 1024, 512]⟩
abbrev S512x1024 : Shape := ⟨2, ![512, 1024]⟩
abbrev S512x512 : Shape := ⟨2, ![512, 512]⟩
abbrev S1x1x1024x512 : Shape := ⟨4, ![1, 1, 1024, 512]⟩
abbrev S1024x512 : Shape := ⟨2, ![1024, 512]⟩

abbrev nBuf : Space → Nat
  | .hbm => 5
  | .vmem => 14
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S4608x1024, .bf16⟩
  | .hbm, ⟨3, _⟩ => ⟨S4608x2048, .bf16⟩
  | .hbm, ⟨4, _⟩ => ⟨S4x1x1024x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x1x1024x512, .f32⟩
  | .local _ .vmem, ⟨13, _⟩ => ⟨S1x1x1024x512, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_13 : BitVec 32 := 0#32
  let v19 : BitVec 1 := Scalar.cmpi .ne v18 c0_i32_13
  v19

def k0_cond2 (i : grid0.Coords) : BitVec 1 :=
  let arg1 : BitVec 32 := BitVec.ofNat 32 (i 1).val
  let c0_i32_14 : BitVec 32 := 0#32
  let v20 : BitVec 1 := Scalar.cmpi .sgt arg1 c0_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  ![v2.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference10Ideal.lean ====
abbrev S4608x1024 : Shape := ⟨2, ![4608, 1024]⟩
abbrev S4608x2048 : Shape := ⟨2, ![4608, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩
abbrev S4x1x1024x512 : Shape := ⟨4, ![4, 1, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | .hbm, ⟨8, _⟩ => ⟨S4x1x1024x512, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4608x1024 : Shape := ⟨2, ![4608, 1024]⟩
abbrev S4608x2048 : Shape := ⟨2, ![4608, 2048]⟩
abbrev S4x1x1024x512 : Shape := ⟨4, ![4, 1, 1024, 512]⟩
abbrev S512x1024 : Shape := ⟨2, ![512, 1024]⟩
abbrev S512x512 : Shape := ⟨2, ![512, 512]⟩
abbrev S1x1x1024x512 : Shape := ⟨4, ![1, 1, 1024, 512]⟩
abbrev S1024x512 : Shape := ⟨2, ![1024, 512]⟩

abbrev nBuf : Space → Nat
  | .hbm => 5
  | .vmem => 18
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S4608x1024, .bf16⟩
  | .hbm, ⟨3, _⟩ => ⟨S4608x2048, .bf16⟩
  | .hbm, ⟨4, _⟩ => ⟨S4x1x1024x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x1x1024x512, .f32⟩
  | .local _ .vmem, ⟨17, _⟩ => ⟨S1x1x1024x512, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_18 : BitVec 32 := 0#32
  let v25 : BitVec 1 := Scalar.cmpi .ne v24 c0_i32_18
  v25

def k0_cond2 (i : grid0.Coords) : BitVec 1 :=
  let arg1 : BitVec 32 := BitVec.ofNat 32 (i 1).val
  let c0_i32_19 : BitVec 32 := 0#32
  let v26 : BitVec 1 := Scalar.cmpi .sgt arg1 c0_i32_19
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![v2.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference11Ideal.lean ====
abbrev S4608x1024 : Shape := ⟨2, ![4608, 1024]⟩
abbrev S4608x2048 : Shape := ⟨2, ![4608, 2048]⟩
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩
abbrev S4x1x1024x512 : Shape := ⟨4, ![4, 1, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S2048x1024, .f32⟩
  | .hbm, ⟨7, _⟩ => ⟨S1024x2048, .f32⟩
  | .hbm, ⟨8, _⟩ => ⟨S1024x4x512, .f32⟩
  | .hbm, ⟨9, _⟩ => ⟨S4x1024x512, .f32⟩
  | .hbm, ⟨10, _⟩ => ⟨S4x1x1024x512, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4608x1024 : Shape := ⟨2, ![4608, 1024]⟩
abbrev S4x1x256x1024 : Shape := ⟨4, ![4, 1, 256, 1024]⟩
abbrev S512x256 : Shape := ⟨2, ![512, 256]⟩
abbrev S512x1024 : Shape := ⟨2, ![512, 1024]⟩
abbrev S1x1x256x1024 : Shape := ⟨4, ![1, 1, 256, 1024]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S4608x1024, .bf16⟩
  | .hbm, ⟨3, _⟩ => ⟨S4608x1024, .bf16⟩
  | .hbm, ⟨4, _⟩ => ⟨S4x1x256x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1x256x1024, .f32⟩
  | .local _ .vmem, ⟨13, _⟩ => ⟨S1x1x256x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_13 : BitVec 32 := 0#32
  let v19 : BitVec 1 := Scalar.cmpi .ne v18 c0_i32_13
  v19

def k0_cond2 (i : grid0.Coords) : BitVec 1 :=
  let arg1 : BitVec 32 := BitVec.ofNat 32 (i 1).val
  let c0_i32_14 : BitVec 32 := 0#32
  let v20 : BitVec 1 := Scalar.cmpi .sgt arg1 c0_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference12Ideal.lean ====
abbrev S4608x1024 : Shape := ⟨2, ![4608, 1024]⟩
abbrev S_ : Shape := ⟨0, ![]⟩
abbrev S1024x1024 : Shape := ⟨2, ![1024, 1024]⟩
abbrev S4x1x256x1024 : Shape := ⟨4, ![4, 1, 256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x1x256x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4608x1024 : Shape := ⟨2, ![4608, 1024]⟩
abbrev S4x1x256x1024 : Shape := ⟨4, ![4, 1, 256, 1024]⟩
abbrev S512x256 : Shape := ⟨2, ![512, 256]⟩
abbrev S512x1024 : Shape := ⟨2, ![512, 1024]⟩
abbrev S1x1x256x1024 : Shape := ⟨4, ![1, 1, 256, 1024]⟩
abbrev S256x1024 : Shape := ⟨2, ![256, 1024]⟩

abbrev nBuf : Space → Nat
  | .hbm => 5
  | .vmem => 18
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S4608x1024, .bf16⟩
  | .hbm, ⟨3, _⟩ => ⟨S4608x1024, .bf16⟩
  | .hbm, ⟨4, _⟩ => ⟨S4x1x256x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1x256x1024, .f32⟩
  | .local _ .vmem, ⟨17, _⟩ => ⟨S1x1x256x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_18 : BitVec 32 := 0#32
  let v25 : BitVec 1 := Scalar.cmpi .ne v24 c0_i32_18
  v25

def k0_cond2 (i : grid0.Coords) : BitVec 1 :=
  let arg1 : BitVec 32 := BitVec.ofNat 32 (i 1).val
  let c0_i32_19 : BitVec 32 := 0#32
  let v26 : BitVec 1 := Scalar.cmpi .sgt arg1 c0_i32_19
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference13Ideal.lean ====
abbrev S4608x1024 : Shape := ⟨2, ![4608, 1024]⟩
abbrev S4096x1024 : Shape := ⟨2, ![4096, 1024]⟩
abbrev S_ : Shape := ⟨0, ![]⟩
abbrev S1024x1024 : Shape := ⟨2, ![1024, 1024]⟩
abbrev S4x1x256x1024 : Shape := ⟨4, ![4, 1, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x1x256x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4608x1024 : Shape := ⟨2, ![4608, 1024]⟩
abbrev S2x8x6144 : Shape := ⟨3, ![2, 8, 6144]⟩
abbrev S1024x2048 : Shape := ⟨2, ![1024, 2048]⟩
abbrev S2048 : Shape := ⟨1, ![2048]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S1x2048 : Shape := ⟨2, ![1, 2048]⟩
abbrev S4608x2048 : Shape := ⟨2, ![4608, 2048]⟩
abbrev S512x1024 : Shape := ⟨2, ![512, 1024]⟩
abbrev S1x8x6144 : Shape := ⟨3, ![1, 8, 6144]⟩
abbrev S512x2048 : Shape := ⟨2, ![512, 2048]⟩
abbrev S1x8x1024 : Shape := ⟨3, ![1, 8, 1024]⟩
abbrev S8x1024 : Shape := ⟨2, ![8, 1024]⟩
abbrev S64x8x1024 : Shape := ⟨3, ![64, 8, 1024]⟩
abbrev S1x1x1024x512 : Shape := ⟨4, ![1, 1, 1024, 512]⟩
abbrev S1024x512 : Shape := ⟨2, ![1024, 512]⟩
abbrev S512x512 : Shape := ⟨2, ![512, 512]⟩

abbrev nBuf : Space → Nat
  | .hbm => 12
  | .vmem => 12
  | .smem => 0
  | _ => 0

abbrev bufTy : (tb : Table) → Fin (tcTables nBuf tb) → BufTy
  | .hbm, ⟨0, _⟩ => ⟨S4608x1024, .f32⟩
  | .hbm, ⟨1, _⟩ => ⟨S2x8x6144, .f32⟩
  | .hbm, ⟨2, _⟩ => ⟨S1024x2048, .f32⟩
  | .hbm, ⟨3, _⟩ => ⟨S2048, .f32⟩
  | .hbm, ⟨4, _⟩ => ⟨S1024x4x512, .f32⟩
  | .hbm, ⟨5, _⟩ => ⟨S4x1024x512, .f32⟩
  | .hbm, ⟨6, _⟩ => ⟨S4x1x1024x512, .f32⟩
  | .hbm, ⟨7, _⟩ => ⟨S4x1x1024x512, .bf16⟩
  | .hbm, ⟨8, _⟩ => ⟨S1x2048, .f32⟩
  | .hbm, ⟨9, _⟩ => ⟨S4608x2048, .bf16⟩
  | .hbm, ⟨10, _⟩ => ⟨S4608x1024, .f32⟩
  | .hbm, ⟨11, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x8x6144, .f32⟩
  | .local _ .vmem, ⟨3, _⟩ => ⟨S1x8x6144, .f32⟩
  | .local _ .vmem, ⟨4, _⟩ => ⟨S4x1x1024x512, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 1 := Scalar.cmpi .sge v0 c1_i32
  let c1_i32_0 : BitVec 32 := 1#32
  let c0_i32_1 : BitVec 32 := 0#32
  let v2 : BitVec 32 := Scalar.select v1 c1_i32_0 c0_i32_1
  let c0_i32_2 : BitVec 32 := 0#32
  let c0_i32_3 : BitVec 32 := 0#32
  let c0_i32_4 : BitVec 32 := 0#32
  ![v2.toNat, c0_i32_2.toNat, c0_i32_3.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4608x1024 : Shape := ⟨2, ![4608, 1024]⟩
abbrev S2x8x6144 : Shape := ⟨3, ![2, 8, 6144]⟩
abbrev S1024x2048 : Shape := ⟨2, ![1024, 2048]⟩
abbrev S2048 : Shape := ⟨1, ![2048]⟩
abbrev S1x8x6144 : Shape := ⟨3, ![1, 8, 6144]⟩
abbrev S8x6144 : Shape := ⟨2, ![8, 6144]⟩
abbrev S1x8x1x6144 : Shape := ⟨4, ![1, 8, 1, 6144]⟩
abbrev S64x8x1x6144 : Shape := ⟨4, ![64, 8, 1, 6144]⟩
abbrev S512x6144 : Shape := ⟨2, ![512, 6144]⟩
abbrev S512x8x1x6144 : Shape := ⟨4, ![512, 8, 1, 6144]⟩
abbrev S4096x6144 : Shape := ⟨2, ![4096, 6144]⟩
abbrev S4608x6144 : Shape := ⟨2, ![4608, 6144]⟩
abbrev S_ : Shape := ⟨0, ![]⟩
abbrev S4608x2048 : Shape := ⟨2, ![4608, 2048]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S2x8x6144, .f32⟩
  | .hbm, ⟨2, _⟩ => ⟨S1024x2048, .f32⟩
  | .hbm, ⟨3, _⟩ => ⟨S2048, .f32⟩
  | .hbm, ⟨4, _⟩ => ⟨S1x8x6144, .f32⟩
  | .hbm, ⟨5, _⟩ => ⟨S8x6144, .f32⟩
  | .hbm, ⟨6, _⟩ => ⟨S1x8x1x6144, .f32⟩
  | .hbm, ⟨7, _⟩ => ⟨S64x8x1x6144, .f32⟩
  | .hbm, ⟨8, _⟩ => ⟨S512x6144, .f32⟩
  | .hbm, ⟨9, _⟩ => ⟨S1x8x6144, .f32⟩
  | .hbm, ⟨10, _⟩ => ⟨S8x6144, .f32⟩
  | .hbm, ⟨11, _⟩ => ⟨S1x8x1x6144, .f32⟩
  | .hbm, ⟨12, _⟩ => ⟨S512x8x1x6144, .f32⟩
  | .hbm, ⟨13, _⟩ => ⟨S4096x6144, .f32⟩
  | .hbm, ⟨14, _⟩ => ⟨S4608x6144, .f32⟩
  | .hbm, ⟨15, _⟩ => ⟨S4608x1024, .f32⟩
  | .hbm, ⟨16, _⟩ => ⟨S4608x1024, .f32⟩
  | .hbm, ⟨17, _⟩ => ⟨S4608x1024, .f32⟩
  | .hbm, ⟨18, _⟩ => ⟨S4608x1024, .f32⟩
  | .hbm, ⟨19, _⟩ => ⟨S4608x1024, .f32⟩
  | .hbm, ⟨20, _⟩ => ⟨S4608x1024, .f32⟩
  | .hbm, ⟨21, _⟩ => ⟨S_, .f32⟩
  | .hbm, ⟨22, _⟩ => ⟨S4608x1024, .f32⟩
  | .hbm, ⟨23, _⟩ => ⟨S4608x1024, .f32⟩
  | .hbm, ⟨24, _⟩ => ⟨S4608x1024, .f32⟩
  | .hbm, ⟨25, _⟩ => ⟨S4608x1024, .f32⟩
  | .hbm, ⟨26, _⟩ => ⟨S4608x2048, .f32⟩
  | .hbm, ⟨27, _⟩ => ⟨S1x2048, .f32⟩
  | .hbm, ⟨28, _⟩ => ⟨S4608x2048, .f32⟩
  | .hbm, ⟨29, _⟩ => ⟨S4608x2048, .f32⟩
  | .hbm, ⟨30, _⟩ => ⟨S4608x2048, .bf16⟩
  | .hbm, ⟨31, _⟩ => ⟨S4608x1024, .f32⟩
  | .hbm, ⟨32, _⟩ => ⟨S4608x1024, .f32⟩
  | .hbm, ⟨33, _⟩ => ⟨S4608x1024, .f32⟩
  | .hbm, ⟨34, _⟩ => ⟨S4608x1024, .f32⟩
  | .hbm, ⟨35, _⟩ => ⟨S_, .f32⟩
  | .hbm, ⟨36, _⟩ => ⟨S4608x1024, .f32⟩
  | .hbm, ⟨37, _⟩ => ⟨S4608x1024, .f32⟩
  | .hbm, ⟨38, _⟩ => ⟨S_, .f32⟩
  | .hbm, ⟨39, _⟩ => ⟨S4608x1024, .f32⟩
  | .hbm, ⟨40, _⟩ => ⟨S4608x1024, .f32⟩
  | .hbm, ⟨41, _⟩ => ⟨S4608x1024, .f32⟩
  | .hbm, ⟨42, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel15.lean ====
abbrev S4608x1024 : Shape := ⟨2, ![4608, 1024]⟩
abbrev S2x8x6144 : Shape := ⟨3, ![2, 8, 6144]⟩
abbrev S1024x2048 : Shape := ⟨2, ![1024, 2048]⟩
abbrev S2048 : Shape := ⟨1, ![2048]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S1x2048 : Shape := ⟨2, ![1, 2048]⟩
abbrev S4608x2048 : Shape := ⟨2, ![4608, 2048]⟩
abbrev S512x1024 : Shape := ⟨2, ![512, 1024]⟩
abbrev S1x8x6144 : Shape := ⟨3, ![1, 8, 6144]⟩
abbrev S512x2048 : Shape := ⟨2, ![512, 2048]⟩
abbrev S1x8x1024 : Shape := ⟨3, ![1, 8, 1024]⟩
abbrev S8x1024 : Shape := ⟨2, ![8, 1024]⟩
abbrev S64x8x1024 : Shape := ⟨3, ![64, 8, 1024]⟩
abbrev S1x1x1024x512 : Shape := ⟨4, ![1, 1, 1024, 512]⟩
abbrev S1024x512 : Shape := ⟨2, ![1024, 512]⟩
abbrev S512x512 : Shape := ⟨2, ![512, 512]⟩

abbrev nBuf : Space → Nat
  | .hbm => 12
  | .vmem => 12
  | .smem => 0
  | _ => 0

abbrev bufTy : (tb : Table) → Fin (tcTables nBuf tb) → BufTy
  | .hbm, ⟨0, _⟩ => ⟨S4608x1024, .f32⟩
  | .hbm, ⟨1, _⟩ => ⟨S2x8x6144, .f32⟩
  | .hbm, ⟨2, _⟩ => ⟨S1024x2048, .f32⟩
  | .hbm, ⟨3, _⟩ => ⟨S2048, .f32⟩
  | .hbm, ⟨4, _⟩ => ⟨S1024x4x512, .f32⟩
  | .hbm, ⟨5, _⟩ => ⟨S4x1024x512, .f32⟩
  | .hbm, ⟨6, _⟩ => ⟨S4x1x1024x512, .f32⟩
  | .hbm, ⟨7, _⟩ => ⟨S4x1x1024x512, .bf16⟩
  | .hbm, ⟨8, _⟩ => ⟨S1x2048, .f32⟩
  | .hbm, ⟨9, _⟩ => ⟨S4608x2048, .bf16⟩
  | .hbm, ⟨10, _⟩ => ⟨S4608x1024, .f32⟩
  | .hbm, ⟨11, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x8x6144, .f32⟩
  | .local _ .vmem, ⟨3, _⟩ => ⟨S1x8x6144, .f32⟩
  | .local _ .vmem, ⟨4, _⟩ => ⟨S4x1x1024x512, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .sge v0 c1_i32_0
  let c1_i32_1 : BitVec 32 := 1#32
  let c0_i32 : BitVec 32 := 0#32
  let v2 : BitVec 32 := Scalar.select v1 c1_i32_1 c0_i32
  let c0_i32_2 : BitVec 32 := 0#32
  let c0_i32_3 : BitVec 32 := 0#32
  let c0_i32_4 : BitVec 32 := 0#32
  ![v2.toNat, c0_i32_2.toNat, c0_i32_3.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16.lean ====
abbrev S4608x1024 : Shape := ⟨2, ![4608, 1024]⟩
abbrev S2x8x6144 : Shape := ⟨3, ![2, 8, 6144]⟩
abbrev S1024x1024 : Shape := ⟨2, ![1024, 1024]⟩
abbrev S1024 : Shape := ⟨1, ![1024]⟩
abbrev S4x1x256x1024 : Shape := ⟨4, ![4, 1, 256, 1024]⟩
abbrev S1x1024 : Shape := ⟨2, ![1, 1024]⟩
abbrev S512x1024 : Shape := ⟨2, ![512, 1024]⟩
abbrev S1x8x6144 : Shape := ⟨3, ![1, 8, 6144]⟩
abbrev S512x256 : Shape := ⟨2, ![512, 256]⟩
abbrev S1x1x256x1024 : Shape := ⟨4, ![1, 1, 256, 1024]⟩
abbrev S256x1024 : Shape := ⟨2, ![256, 1024]⟩
abbrev S1x8x1024 : Shape := ⟨3, ![1, 8, 1024]⟩
abbrev S8x1024 : Shape := ⟨2, ![8, 1024]⟩
abbrev S64x8x1024 : Shape := ⟨3, ![64, 8, 1024]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S2x8x6144, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x1x256x1024, .f32⟩
  | .hbm, ⟨8, _⟩ => ⟨S4x1x256x1024, .bf16⟩
  | .hbm, ⟨9, _⟩ => ⟨S4608x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4608x1024, .f32⟩
  | .hbm, ⟨14, _⟩ => ⟨S4608x1024, .f32⟩
  | .hbm, ⟨15, _⟩ => ⟨S4608x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x8x6144, .f32⟩
  | .local _ .vmem, ⟨5, _⟩ => ⟨S1x8x6144, .f32⟩
  | .local _ .vmem, ⟨6, _⟩ => ⟨S4x1x256x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 1 := Scalar.cmpi .sge v0 c1_i32
  let c1_i32_0 : BitVec 32 := 1#32
  let c0_i32_1 : BitVec 32 := 0#32
  let v2 : BitVec 32 := Scalar.select v1 c1_i32_0 c0_i32_1
  let c0_i32_2 : BitVec 32 := 0#32
  let c0_i32_3 : BitVec 32 := 0#32
  let c0_i32_4 : BitVec 32 := 0#32
  ![v2.toNat, c0_i32_2.toNat, c0_i32_3.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S4608x1024 : Shape := ⟨2, ![4608, 1024]⟩
abbrev S2x8x6144 : Shape := ⟨3, ![2, 8, 6144]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1x8x6144 : Shape := ⟨3, ![1, 8, 6144]⟩
abbrev S8x6144 : Shape := ⟨2, ![8, 6144]⟩
abbrev S1x8x1x6144 : Shape := ⟨4, ![1, 8, 1, 6144]⟩
abbrev S64x8x1x6144 : Shape := ⟨4, ![64, 8, 1, 6144]⟩
abbrev S512x6144 : Shape := ⟨2, ![512, 6144]⟩
abbrev S512x8x1x6144 : Shape := ⟨4, ![512, 8, 1, 6144]⟩
abbrev S4096x6144 : Shape := ⟨2, ![4096, 6144]⟩
abbrev S4608x6144 : Shape := ⟨2, ![4608, 6144]⟩
abbrev S4608 : Shape := ⟨1, ![4608]⟩
abbrev S4608x1 : Shape := ⟨2, ![4608, 1]⟩

abbrev nBuf : Space → Nat
  | .hbm => 63
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S2x8x6144, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4608x1024, .f32⟩
  | .hbm, ⟨8, _⟩ => ⟨S1x1024, .f32⟩
  | .hbm, ⟨9, _⟩ => ⟨S4608x1024, .f32⟩
  | .hbm, ⟨10, _⟩ => ⟨S4608x1024, .f32⟩
  | .hbm, ⟨11, _⟩ => ⟨S_, .f32⟩
  | .hbm, ⟨12, _⟩ => ⟨S4608x1024, .f32⟩
  | .hbm, ⟨13, _⟩ => ⟨S4608x1024, .f32⟩
  | .hbm, ⟨14, _⟩ => ⟨S1x8x6144, .f32⟩
  | .hbm, ⟨15, _⟩ => ⟨S8x6144, .f32⟩
  | .hbm, ⟨16, _⟩ => ⟨S1x8x1x6144, .f32⟩
  | .hbm, ⟨17, _⟩ => ⟨S64x8x1x6144, .f32⟩
  | .hbm, ⟨18, _⟩ => ⟨S512x6144, .f32⟩
  | .hbm, ⟨19, _⟩ => ⟨S1x8x6144, .f32⟩
  | .hbm, ⟨20, _⟩ => ⟨S8x6144, .f32⟩
  | .hbm, ⟨21, _⟩ => ⟨S1x8x1x6144, .f32⟩
  | .hbm, ⟨22, _⟩ => ⟨S512x8x1x6144, .f32⟩
  | .hbm, ⟨23, _⟩ => ⟨S4096x6144, .f32⟩
  | .hbm, ⟨24, _⟩ => ⟨S4608x6144, .f32⟩
  | .hbm, ⟨25, _⟩ => ⟨S4608x1024, .f32⟩
  | .hbm, ⟨26, _⟩ => ⟨S4608x1024, .f32⟩
  | .hbm, ⟨27, _⟩ => ⟨S4608x1024, .f32⟩
  | .hbm, ⟨28, _⟩ => ⟨S4608x1024, .f32⟩
  | .hbm, ⟨29, _⟩ => ⟨S4608x1024, .f32⟩
  | .hbm, ⟨30, _⟩ => ⟨S4608x1024, .f32⟩
  | .hbm, ⟨31, _⟩ => ⟨S4608x1024, .f32⟩
  | .hbm, ⟨32, _⟩ => ⟨S4608x1024, .f32⟩
  | .hbm, ⟨33, _⟩ => ⟨S_, .f32⟩
  | .hbm, ⟨34, _⟩ => ⟨S4608, .f32⟩
  | .hbm, ⟨35, _⟩ => ⟨S4608x1, .f32⟩
  | .hbm, ⟨36, _⟩ => ⟨S_, .f32⟩
  | .hbm, ⟨37, _⟩ => ⟨S4608x1, .f32⟩
  | .hbm, ⟨38, _⟩ => ⟨S4608x1, .f32⟩
  | .hbm, ⟨39, _⟩ => ⟨S4608x1024, .f32⟩
  | .hbm, ⟨40, _⟩ => ⟨S4608x1024, .f32⟩
  | .hbm, ⟨41, _⟩ => ⟨S4608x1024, .f32⟩
  | .hbm, ⟨42, _⟩ => ⟨S_, .f32⟩
  | .hbm, ⟨43, _⟩ => ⟨S4608, .f32⟩
  | .hbm, ⟨44, _⟩ => ⟨S4608x1, .f32⟩
  | .hbm, ⟨45, _⟩ => ⟨S_, .f32⟩
  | .hbm, ⟨46, _⟩ => ⟨S4608x1, .f32⟩
  | .hbm, ⟨47, _⟩ => ⟨S4608x1, .f32⟩
  | .hbm, ⟨48, _⟩ => ⟨S4608x1024, .f32⟩
  | .hbm, ⟨49, _⟩ => ⟨S4608x1024, .f32⟩
  | .hbm, ⟨50, _⟩ => ⟨S_, .f32⟩
  | .hbm, ⟨51, _⟩ => ⟨S4608x1, .f32⟩
  | .hbm, ⟨52, _⟩ => ⟨S4608x1, .f32⟩
  | .hbm, ⟨53, _⟩ => ⟨S4608x1, .f32⟩
  | .hbm, ⟨54, _⟩ => ⟨S4608x1024, .f32⟩
  | .hbm, ⟨55, _⟩ => ⟨S4608x1024, .f32⟩
  | .hbm, ⟨56, _⟩ => ⟨S1x1024, .f32⟩
  | .hbm, ⟨57, _⟩ => ⟨S4608x1024, .f32⟩
  | .hbm, ⟨58, _⟩ => ⟨S4608x1024, .f32⟩
  | .hbm, ⟨59, _⟩ => ⟨S1x1024, .f32⟩
  | .hbm, ⟨60, _⟩ => ⟨S4608x1024, .f32⟩
  | .hbm, ⟨61, _⟩ => ⟨S4608x1024, .f32⟩
  | .hbm, ⟨62, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel17.lean ====
abbrev S4608x1024 : Shape := ⟨2, ![4608, 1024]⟩
abbrev S2x8x6144 : Shape := ⟨3, ![2, 8, 6144]⟩
abbrev S1024x1024 : Shape := ⟨2, ![1024, 1024]⟩
abbrev S1024 : Shape := ⟨1, ![1024]⟩
abbrev S4x1x256x1024 : Shape := ⟨4, ![4, 1, 256, 1024]⟩
abbrev S1x1024 : Shape := ⟨2, ![1, 1024]⟩
abbrev S512x1024 : Shape := ⟨2, ![512, 1024]⟩
abbrev S1x8x6144 : Shape := ⟨3, ![1, 8, 6144]⟩
abbrev S512x256 : Shape := ⟨2, ![512, 256]⟩
abbrev S1x1x256x1024 : Shape := ⟨4, ![1, 1, 256, 1024]⟩
abbrev S256x1024 : Shape := ⟨2, ![256, 1024]⟩
abbrev S1x8x1024 : Shape := ⟨3, ![1, 8, 1024]⟩
abbrev S8x1024 : Shape := ⟨2, ![8, 1024]⟩
abbrev S64x8x1024 : Shape := ⟨3, ![64, 8, 1024]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S2x8x6144, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x1x256x1024, .f32⟩
  | .hbm, ⟨8, _⟩ => ⟨S4x1x256x1024, .bf16⟩
  | .hbm, ⟨9, _⟩ => ⟨S4608x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4608x1024, .f32⟩
  | .hbm, ⟨14, _⟩ => ⟨S4608x1024, .f32⟩
  | .hbm, ⟨15, _⟩ => ⟨S4608x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x8x6144, .f32⟩
  | .local _ .vmem, ⟨5, _⟩ => ⟨S1x8x6144, .f32⟩
  | .local _ .vmem, ⟨6, _⟩ => ⟨S4x1x256x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .sge v0 c1_i32_0
  let c1_i32_1 : BitVec 32 := 1#32
  let c0_i32 : BitVec 32 := 0#32
  let v2 : BitVec 32 := Scalar.select v1 c1_i32_1 c0_i32
  let c0_i32_2 : BitVec 32 := 0#32
  let c0_i32_3 : BitVec 32 := 0#32
  let c0_i32_4 : BitVec 32 := 0#32
  ![v2.toNat, c0_i32_2.toNat, c0_i32_3.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel20.lean ====
abbrev S4608x1024 : Shape := ⟨2, ![4608, 1024]⟩
abbrev S2x4608x1024 : Shape := ⟨3, ![2, 4608, 1024]⟩
abbrev S2x8x6144 : Shape := ⟨3, ![2, 8, 6144]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S1x2048 : Shape := ⟨2, ![1, 2048]⟩
abbrev S4608x2048 : Shape := ⟨2, ![4608, 2048]⟩
abbrev S512x1024 : Shape := ⟨2, ![512, 1024]⟩
abbrev S2x512x1024 : Shape := ⟨3, ![2, 512, 1024]⟩
abbrev S1x8x6144 : Shape := ⟨3, ![1, 8, 6144]⟩
abbrev S512x2048 : Shape := ⟨2, ![512, 2048]⟩
abbrev S1x8x1024 : Shape := ⟨3, ![1, 8, 1024]⟩
abbrev S8x1024 : Shape := ⟨2, ![8, 1024]⟩
abbrev S64x8x1024 : Shape := ⟨3, ![64, 8, 1024]⟩
abbrev S1x512x1024 : Shape := ⟨3, ![1, 512, 1024]⟩
abbrev S1x1x1024x512 : Shape := ⟨4, ![1, 1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 23
  | .smem => 0
  | _ => 0

abbrev bufTy : (tb : Table) → Fin (tcTables nBuf tb) → BufTy
  | .hbm, ⟨0, _⟩ => ⟨S4608x1024, .f32⟩
  | .hbm, ⟨1, _⟩ => ⟨S2x4608x1024, .f32⟩
  | .hbm, ⟨2, _⟩ => ⟨S2x8x6144, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x4x512, .f32⟩
  | .hbm, ⟨10, _⟩ => ⟨S4x1024x512, .f32⟩
  | .hbm, ⟨11, _⟩ => ⟨S4x1x1024x512, .f32⟩
  | .hbm, ⟨12, _⟩ => ⟨S4x1x1024x512, .bf16⟩
  | .hbm, ⟨13, _⟩ => ⟨S1x2048, .f32⟩
  | .hbm, ⟨14, _⟩ => ⟨S1x1024, .f32⟩
  | .hbm, ⟨15, _⟩ => ⟨S1x1024, .f32⟩
  | .hbm, ⟨16, _⟩ => ⟨S4608x1024, .f32⟩
  | .hbm, ⟨17, _⟩ => ⟨S4608x1024, .f32⟩
  | .hbm, ⟨18, _⟩ => ⟨S4608x1024, .bf16⟩
  | .hbm, ⟨19, _⟩ => ⟨S4608x2048, .bf16⟩
  | .hbm, ⟨20, _⟩ => ⟨S4608x1024, .bf16⟩
  | .hbm, ⟨21, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S2x512x1024, .f32⟩
  | .local _ .vmem, ⟨3, _⟩ => ⟨S2x512x1024, .f32⟩
  | .local _ .vmem, ⟨4, _⟩ => ⟨S1x8x6144, .f32⟩
  | .local _ .vmem, ⟨5, _⟩ => ⟨S1x8x6144, .f32⟩
  | .local _ .vmem, ⟨6, _⟩ => ⟨S1x1024, .f32⟩
  | .local _ .vmem, ⟨7, _⟩ => ⟨S4x1x1024x512, .bf16⟩
  | .local _ .vmem, ⟨8, _⟩ => ⟨S1x2048, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 1 := Scalar.cmpi .sge v0 c1_i32
  let c1_i32_0 : BitVec 32 := 1#32
  let c0_i32_1 : BitVec 32 := 0#32
  let v2 : BitVec 32 := Scalar.select v1 c1_i32_0 c0_i32_1
  let c0_i32_2 : BitVec 32 := 0#32
  let c0_i32_3 : BitVec 32 := 0#32
  let c0_i32_4 : BitVec 32 := 0#32
  ![v2.toNat, c0_i32_2.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference20Ideal.lean ====
abbrev S4608x1024 : Shape := ⟨2, ![4608, 1024]⟩
abbrev S2x4608x1024 : Shape := ⟨3, ![2, 4608, 1024]⟩
abbrev S2x8x6144 : Shape := ⟨3, ![2, 8, 6144]⟩
abbrev S1024 : Shape := ⟨1, ![1024]⟩
abbrev S1024x2048 : Shape := ⟨2, ![1024, 2048]⟩
abbrev S2048 : Shape := ⟨1, ![2048]⟩
abbrev S1x8x6144 : Shape := ⟨3, ![1, 8, 6144]⟩
abbrev S8x6144 : Shape := ⟨2, ![8, 6144]⟩
abbrev S1x8x1x6144 : Shape := ⟨4, ![1, 8, 1, 6144]⟩
abbrev S64x8x1x6144 : Shape := ⟨4, ![64, 8, 1, 6144]⟩
abbrev S512x6144 : Shape := ⟨2, ![512, 6144]⟩
abbrev S512x8x1x6144 : Shape := ⟨4, ![512, 8, 1, 6144]⟩
abbrev S4096x6144 : Shape := ⟨2, ![4096, 6144]⟩
abbrev S4608x6144 : Shape := ⟨2, ![4608, 6144]⟩
abbrev S_ : Shape := ⟨0, ![]⟩
abbrev S1x1024 : Shape := ⟨2, ![1, 1024]⟩
abbrev S1x4608x1024 : Shape := ⟨3, ![1, 4608, 1024]⟩
abbrev S4608x2048 : Shape := ⟨2, ![4608, 2048]⟩
abbrev S1x2048 : Shape := ⟨2, ![1, 2048]⟩
abbrev S4608 : Shape := ⟨1, ![4608]⟩
abbrev S4608x1 : Shape := ⟨2, ![4608, 1]⟩

abbrev nBuf : Space → Nat
  | .hbm => 101
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S2x4608x1024, .f32⟩
  | .hbm, ⟨2, _⟩ => ⟨S2x8x6144, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1024, .f32⟩
  | .hbm, ⟨7, _⟩ => ⟨S1024, .f32⟩
  | .hbm, ⟨8, _⟩ => ⟨S1x8x6144, .f32⟩
  | .hbm, ⟨9, _⟩ => ⟨S8x6144, .f32⟩
  | .hbm, ⟨10, _⟩ => ⟨S1x8x1x6144, .f32⟩
  | .hbm, ⟨11, _⟩ => ⟨S64x8x1x6144, .f32⟩
  | .hbm, ⟨12, _⟩ => ⟨S512x6144, .f32⟩
  | .hbm, ⟨13, _⟩ => ⟨S1x8x6144, .f32⟩
  | .hbm, ⟨14, _⟩ => ⟨S8x6144, .f32⟩
  | .hbm, ⟨15, _⟩ => ⟨S1x8x1x6144, .f32⟩
  | .hbm, ⟨16, _⟩ => ⟨S512x8x1x6144, .f32⟩
  | .hbm, ⟨17, _⟩ => ⟨S4096x6144, .f32⟩
  | .hbm, ⟨18, _⟩ => ⟨S4608x6144, .f32⟩
  | .hbm, ⟨19, _⟩ => ⟨S4608x1024, .f32⟩
  | .hbm, ⟨20, _⟩ => ⟨S4608x1024, .f32⟩
  | .hbm, ⟨21, _⟩ => ⟨S4608x1024, .f32⟩
  | .hbm, ⟨22, _⟩ => ⟨S4608x1024, .f32⟩
  | .hbm, ⟨23, _⟩ => ⟨S4608x1024, .f32⟩
  | .hbm, ⟨24, _⟩ => ⟨S4608x1024, .f32⟩
  | .hbm, ⟨25, _⟩ => ⟨S_, .f32⟩
  | .hbm, ⟨26, _⟩ => ⟨S4608x1024, .f32⟩
  | .hbm, ⟨27, _⟩ => ⟨S4608x1024, .f32⟩
  | .hbm, ⟨28, _⟩ => ⟨S4608x1024, .f32⟩
  | .hbm, ⟨29, _⟩ => ⟨S4608x1024, .f32⟩
  | .hbm, ⟨30, _⟩ => ⟨S1x1024, .f32⟩
  | .hbm, ⟨31, _⟩ => ⟨S4608x1024, .f32⟩
  | .hbm, ⟨32, _⟩ => ⟨S4608x1024, .f32⟩
  | .hbm, ⟨33, _⟩ => ⟨S1x4608x1024, .f32⟩
  | .hbm, ⟨34, _⟩ => ⟨S4608x1024, .f32⟩
  | .hbm, ⟨35, _⟩ => ⟨S4608x1024, .f32⟩
  | .hbm, ⟨36, _⟩ => ⟨S1x4608x1024, .f32⟩
  | .hbm, ⟨37, _⟩ => ⟨S4608x1024, .f32⟩
  | .hbm, ⟨38, _⟩ => ⟨S4608x1024, .f32⟩
  | .hbm, ⟨39, _⟩ => ⟨S_, .f32⟩
  | .hbm, ⟨40, _⟩ => ⟨S4608x1024, .f32⟩
  | .hbm, ⟨41, _⟩ => ⟨S4608x1024, .f32⟩
  | .hbm, ⟨42, _⟩ => ⟨S4608x1024, .f32⟩
  | .hbm, ⟨43, _⟩ => ⟨S_, .f32⟩
  | .hbm, ⟨44, _⟩ => ⟨S4608x1024, .f32⟩
  | .hbm, ⟨45, _⟩ => ⟨S4608x1024, .f32⟩
  | .hbm, ⟨46, _⟩ => ⟨S4608x1024, .f32⟩
  | .hbm, ⟨47, _⟩ => ⟨S4608x1024, .f32⟩
  | .hbm, ⟨48, _⟩ => ⟨S4608x2048, .f32⟩
  | .hbm, ⟨49, _⟩ => ⟨S1x2048, .f32⟩
  | .hbm, ⟨50, _⟩ => ⟨S4608x2048, .f32⟩
  | .hbm, ⟨51, _⟩ => ⟨S4608x2048, .f32⟩
  | .hbm, ⟨52, _⟩ => ⟨S4608x1024, .f32⟩
  | .hbm, ⟨53, _⟩ => ⟨S4608x1024, .f32⟩
  | .hbm, ⟨54, _⟩ => ⟨S4608x1024, .f32⟩
  | .hbm, ⟨55, _⟩ => ⟨S4608x1024, .f32⟩
  | .hbm, ⟨56, _⟩ => ⟨S_, .f32⟩
  | .hbm, ⟨57, _⟩ => ⟨S4608x1024, .f32⟩
  | .hbm, ⟨58, _⟩ => ⟨S4608x1024, .f32⟩
  | .hbm, ⟨59, _⟩ => ⟨S_, .f32⟩
  | .hbm, ⟨60, _⟩ => ⟨S4608x1024, .f32⟩
  | .hbm, ⟨61, _⟩ => ⟨S4608x1024, .f32⟩
  | .hbm, ⟨62, _⟩ => ⟨S4608x1024, .f32⟩
  | .hbm, ⟨63, _⟩ => ⟨S_, .f32⟩
  | .hbm, ⟨64, _⟩ => ⟨S4608x1024, .f32⟩
  | .hbm, ⟨65, _⟩ => ⟨S4608x1024, .f32⟩
  | .hbm, ⟨66, _⟩ => ⟨S4608x1024, .f32⟩
  | .hbm, ⟨67, _⟩ => ⟨S4608x1024, .f32⟩
  | .hbm, ⟨68, _⟩ => ⟨S_, .f32⟩
  | .hbm, ⟨69, _⟩ => ⟨S4608, .f32⟩
  | .hbm, ⟨70, _⟩ => ⟨S4608x1, .f32⟩
  | .hbm, ⟨71, _⟩ => ⟨S_, .f32⟩
  | .hbm, ⟨72, _⟩ => ⟨S4608x1, .f32⟩
  | .hbm, ⟨73, _⟩ => ⟨S4608x1, .f32⟩
  | .hbm, ⟨74, _⟩ => ⟨S4608x1024, .f32⟩
  | .hbm, ⟨75, _⟩ => ⟨S4608x1024, .f32⟩
  | .hbm, ⟨76, _⟩ => ⟨S4608x1024, .f32⟩
  | .hbm, ⟨77, _⟩ => ⟨S_, .f32⟩
  | .hbm, ⟨78, _⟩ => ⟨S4608, .f32⟩
  | .hbm, ⟨79, _⟩ => ⟨S4608x1, .f32⟩
  | .hbm, ⟨80, _⟩ => ⟨S_, .f32⟩
  | .hbm, ⟨81, _⟩ => ⟨S4608x1, .f32⟩
  | .hbm, ⟨82, _⟩ => ⟨S4608x1, .f32⟩
  | .hbm, ⟨83, _⟩ => ⟨S4608x1024, .f32⟩
  | .hbm, ⟨84, _⟩ => ⟨S4608x1024, .f32⟩
  | .hbm, ⟨85, _⟩ => ⟨S_, .f32⟩
  | .hbm, ⟨86, _⟩ => ⟨S4608x1, .f32⟩
  | .hbm, ⟨87, _⟩ => ⟨S4608x1, .f32⟩
  | .hbm, ⟨88, _⟩ => ⟨S4608x1, .f32⟩
  | .hbm, ⟨89, _⟩ => ⟨S4608x1024, .f32⟩
  | .hbm, ⟨90, _⟩ => ⟨S4608x1024, .f32⟩
  | .hbm, ⟨91, _⟩ => ⟨S1x1024, .f32⟩
  | .hbm, ⟨92, _⟩ => ⟨S4608x1024, .f32⟩
  | .hbm, ⟨93, _⟩ => ⟨S4608x1024, .f32⟩
  | .hbm, ⟨94, _⟩ => ⟨S1x1024, .f32⟩
  | .hbm, ⟨95, _⟩ => ⟨S4608x1024, .f32⟩
  | .hbm, ⟨96, _⟩ => ⟨S4608x1024, .f32⟩
  | .hbm, ⟨97, _⟩ => ⟨S4608x1024, .bf16⟩
  | .hbm, ⟨98, _⟩ => ⟨S4608x2048, .bf16⟩
  | .hbm, ⟨99, _⟩ => ⟨S4608x1024, .bf16⟩
  | .hbm, ⟨100, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel21.lean ====
abbrev S4608x1024 : Shape := ⟨2, ![4608, 1024]⟩
abbrev S2x4608x1024 : Shape := ⟨3, ![2, 4608, 1024]⟩
abbrev S2x8x6144 : Shape := ⟨3, ![2, 8, 6144]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S1x2048 : Shape := ⟨2, ![1, 2048]⟩
abbrev S4608x2048 : Shape := ⟨2, ![4608, 2048]⟩
abbrev S512x1024 : Shape := ⟨2, ![512, 1024]⟩
abbrev S2x512x1024 : Shape := ⟨3, ![2, 512, 1024]⟩
abbrev S1x8x6144 : Shape := ⟨3, ![1, 8, 6144]⟩
abbrev S512x2048 : Shape := ⟨2, ![512, 2048]⟩
abbrev S1x8x1024 : Shape := ⟨3, ![1, 8, 1024]⟩
abbrev S8x1024 : Shape := ⟨2, ![8, 1024]⟩
abbrev S64x8x1024 : Shape := ⟨3, ![64, 8, 1024]⟩
abbrev S1x512x1024 : Shape := ⟨3, ![1, 512, 1024]⟩
abbrev S1x1x1024x512 : Shape := ⟨4, ![1, 1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 23
  | .smem => 0
  | _ => 0

abbrev bufTy : (tb : Table) → Fin (tcTables nBuf tb) → BufTy
  | .hbm, ⟨0, _⟩ => ⟨S4608x1024, .f32⟩
  | .hbm, ⟨1, _⟩ => ⟨S2x4608x1024, .f32⟩
  | .hbm, ⟨2, _⟩ => ⟨S2x8x6144, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x4x512, .f32⟩
  | .hbm, ⟨10, _⟩ => ⟨S4x1024x512, .f32⟩
  | .hbm, ⟨11, _⟩ => ⟨S4x1x1024x512, .f32⟩
  | .hbm, ⟨12, _⟩ => ⟨S4x1x1024x512, .bf16⟩
  | .hbm, ⟨13, _⟩ => ⟨S1x2048, .f32⟩
  | .hbm, ⟨14, _⟩ => ⟨S1x1024, .f32⟩
  | .hbm, ⟨15, _⟩ => ⟨S1x1024, .f32⟩
  | .hbm, ⟨16, _⟩ => ⟨S4608x1024, .f32⟩
  | .hbm, ⟨17, _⟩ => ⟨S4608x1024, .f32⟩
  | .hbm, ⟨18, _⟩ => ⟨S4608x1024, .bf16⟩
  | .hbm, ⟨19, _⟩ => ⟨S4608x2048, .bf16⟩
  | .hbm, ⟨20, _⟩ => ⟨S4608x1024, .bf16⟩
  | .hbm, ⟨21, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S2x512x1024, .f32⟩
  | .local _ .vmem, ⟨3, _⟩ => ⟨S2x512x1024, .f32⟩
  | .local _ .vmem, ⟨4, _⟩ => ⟨S1x8x6144, .f32⟩
  | .local _ .vmem, ⟨5, _⟩ => ⟨S1x8x6144, .f32⟩
  | .local _ .vmem, ⟨6, _⟩ => ⟨S1x1024, .f32⟩
  | .local _ .vmem, ⟨7, _⟩ => ⟨S4x1x1024x512, .bf16⟩
  | .local _ .vmem, ⟨8, _⟩ => ⟨S1x2048, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .sge v0 c1_i32_0
  let c1_i32_1 : BitVec 32 := 1#32
  let c0_i32 : BitVec 32 := 0#32
  let v2 : BitVec 32 := Scalar.select v1 c1_i32_1 c0_i32
  let c0_i32_2 : BitVec 32 := 0#32
  let c0_i32_3 : BitVec 32 := 0#32
  let c0_i32_4 : BitVec 32 := 0#32
  ![v2.toNat, c0_i32_2.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel18.lean ====
abbrev S4608x1024 : Shape := ⟨2, ![4608, 1024]⟩
abbrev S4608x2048 : Shape := ⟨2, ![4608, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S1x2048 : Shape := ⟨2, ![1, 2048]⟩
abbrev S512x1024 : Shape := ⟨2, ![512, 1024]⟩
abbrev S512x2048 : Shape := ⟨2, ![512, 2048]⟩
abbrev S8x2048 : Shape := ⟨2, ![8, 2048]⟩
abbrev S64x8x2048 : Shape := ⟨3, ![64, 8, 2048]⟩
abbrev S512x512 : Shape := ⟨2, ![512, 512]⟩
abbrev S1x1x1024x512 : Shape := ⟨4, ![1, 1, 1024, 512]⟩
abbrev S1024x512 : Shape := ⟨2, ![1024, 512]⟩
abbrev S2048 : Shape := ⟨1, ![2048]⟩

abbrev nBuf : Space → Nat
  | .hbm => 11
  | .vmem => 11
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S1024x2048, .f32⟩
  | .hbm, ⟨3, _⟩ => ⟨S4608x2048, .bf16⟩
  | .hbm, ⟨4, _⟩ => ⟨S1024x4x512, .f32⟩
  | .hbm, ⟨5, _⟩ => ⟨S4x1024x512, .f32⟩
  | .hbm, ⟨6, _⟩ => ⟨S4x1x1024x512, .f32⟩
  | .hbm, ⟨7, _⟩ => ⟨S4x1x1024x512, .bf16⟩
  | .hbm, ⟨8, _⟩ => ⟨S4608x1024, .f32⟩
  | .hbm, ⟨9, _⟩ => ⟨S4608x2048, .bf16⟩
  | .hbm, ⟨10, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S4x1x1024x512, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S8x2048, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v55 : BitVec 1 := Scalar.cmpi .eq arg0 c8_i32
  let v56 : BitVec 32 := Scalar.extui v55
  let c0_i32_35 : BitVec 32 := 0#32
  let v57 : BitVec 1 := Scalar.cmpi .ne v56 c0_i32_35
  v57

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S4608x1024 : Shape := ⟨2, ![4608, 1024]⟩
abbrev S4608x2048 : Shape := ⟨2, ![4608, 2048]⟩
abbrev S1024x2048 : Shape := ⟨2, ![1024, 2048]⟩
abbrev S_ : Shape := ⟨0, ![]⟩
abbrev S2048 : Shape := ⟨1, ![2048]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S1024x2048, .f32⟩
  | .hbm, ⟨3, _⟩ => ⟨S4608x1024, .f32⟩
  | .hbm, ⟨4, _⟩ => ⟨S4608x1024, .f32⟩
  | .hbm, ⟨5, _⟩ => ⟨S4608x1024, .f32⟩
  | .hbm, ⟨6, _⟩ => ⟨S4608x1024, .f32⟩
  | .hbm, ⟨7, _⟩ => ⟨S_, .f32⟩
  | .hbm, ⟨8, _⟩ => ⟨S4608x1024, .f32⟩
  | .hbm, ⟨9, _⟩ => ⟨S4608x1024, .f32⟩
  | .hbm, ⟨10, _⟩ => ⟨S_, .f32⟩
  | .hbm, ⟨11, _⟩ => ⟨S4608x1024, .f32⟩
  | .hbm, ⟨12, _⟩ => ⟨S4608x1024, .f32⟩
  | .hbm, ⟨13, _⟩ => ⟨S_, .f32⟩
  | .hbm, ⟨14, _⟩ => ⟨S4608x1024, .f32⟩
  | .hbm, ⟨15, _⟩ => ⟨S4608x1024, .f32⟩
  | .hbm, ⟨16, _⟩ => ⟨S4608x1024, .f32⟩
  | .hbm, ⟨17, _⟩ => ⟨S4608x1024, .f32⟩
  | .hbm, ⟨18, _⟩ => ⟨S4608x1024, .f32⟩
  | .hbm, ⟨19, _⟩ => ⟨S4608x1024, .f32⟩
  | .hbm, ⟨20, _⟩ => ⟨S4608x1024, .f32⟩
  | .hbm, ⟨21, _⟩ => ⟨S_, .f32⟩
  | .hbm, ⟨22, _⟩ => ⟨S4608x2048, .f32⟩
  | .hbm, ⟨23, _⟩ => ⟨S_, .f32⟩
  | .hbm, ⟨24, _⟩ => ⟨S4608x2048, .f32⟩
  | .hbm, ⟨25, _⟩ => ⟨S4608x2048, .f32⟩
  | .hbm, ⟨26, _⟩ => ⟨S_, .f32⟩
  | .hbm, ⟨27, _⟩ => ⟨S4608x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S_, .f32⟩
  | .hbm, ⟨34, _⟩ => ⟨S2048, .f32⟩
  | .hbm, ⟨35, _⟩ => ⟨S4608x1024, .f32⟩
  | .hbm, ⟨36, _⟩ => ⟨S4608x2048, .bf16⟩
  | .hbm, ⟨37, _⟩ => ⟨S1x2048, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel19.lean ====
abbrev S4608x1024 : Shape := ⟨2, ![4608, 1024]⟩
abbrev S4608x2048 : Shape := ⟨2, ![4608, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S1x2048 : Shape := ⟨2, ![1, 2048]⟩
abbrev S512x1024 : Shape := ⟨2, ![512, 1024]⟩
abbrev S512x2048 : Shape := ⟨2, ![512, 2048]⟩
abbrev S8x2048 : Shape := ⟨2, ![8, 2048]⟩
abbrev S64x8x2048 : Shape := ⟨3, ![64, 8, 2048]⟩
abbrev S512x512 : Shape := ⟨2, ![512, 512]⟩
abbrev S1x1x1024x512 : Shape := ⟨4, ![1, 1, 1024, 512]⟩
abbrev S1024x512 : Shape := ⟨2, ![1024, 512]⟩
abbrev S2048 : Shape := ⟨1, ![2048]⟩

abbrev nBuf : Space → Nat
  | .hbm => 11
  | .vmem => 11
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S1024x2048, .f32⟩
  | .hbm, ⟨3, _⟩ => ⟨S4608x2048, .bf16⟩
  | .hbm, ⟨4, _⟩ => ⟨S1024x4x512, .f32⟩
  | .hbm, ⟨5, _⟩ => ⟨S4x1024x512, .f32⟩
  | .hbm, ⟨6, _⟩ => ⟨S4x1x1024x512, .f32⟩
  | .hbm, ⟨7, _⟩ => ⟨S4x1x1024x512, .bf16⟩
  | .hbm, ⟨8, _⟩ => ⟨S4608x1024, .f32⟩
  | .hbm, ⟨9, _⟩ => ⟨S4608x2048, .bf16⟩
  | .hbm, ⟨10, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S4x1x1024x512, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S8x2048, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v55 : BitVec 1 := Scalar.cmpi .eq arg0 c7_i32
  let v56 : BitVec 32 := Scalar.extui v55
  let c0_i32_35 : BitVec 32 := 0#32
  let v57 : BitVec 1 := Scalar.cmpi .ne v56 c0_i32_35
  v57

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S4608x1024 : Shape := ⟨2, ![4608, 1024]⟩
abbrev S4608x2048 : Shape := ⟨2, ![4608, 2048]⟩
abbrev S1024x2048 : Shape := ⟨2, ![1024, 2048]⟩
abbrev S_ : Shape := ⟨0, ![]⟩
abbrev S2048 : Shape := ⟨1, ![2048]⟩
abbrev S1x2048 : Shape := ⟨2, ![1, 2048]⟩
abbrev S4096x2048 : Shape := ⟨2, ![4096, 2048]⟩
abbrev S4096x1024 : Shape := ⟨2, ![4096, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S1024x2048, .f32⟩
  | .hbm, ⟨3, _⟩ => ⟨S4608x1024, .f32⟩
  | .hbm, ⟨4, _⟩ => ⟨S4608x1024, .f32⟩
  | .hbm, ⟨5, _⟩ => ⟨S4608x1024, .f32⟩
  | .hbm, ⟨6, _⟩ => ⟨S4608x1024, .f32⟩
  | .hbm, ⟨7, _⟩ => ⟨S_, .f32⟩
  | .hbm, ⟨8, _⟩ => ⟨S4608x1024, .f32⟩
  | .hbm, ⟨9, _⟩ => ⟨S4608x1024, .f32⟩
  | .hbm, ⟨10, _⟩ => ⟨S_, .f32⟩
  | .hbm, ⟨11, _⟩ => ⟨S4608x1024, .f32⟩
  | .hbm, ⟨12, _⟩ => ⟨S4608x1024, .f32⟩
  | .hbm, ⟨13, _⟩ => ⟨S_, .f32⟩
  | .hbm, ⟨14, _⟩ => ⟨S4608x1024, .f32⟩
  | .hbm, ⟨15, _⟩ => ⟨S4608x1024, .f32⟩
  | .hbm, ⟨16, _⟩ => ⟨S4608x1024, .f32⟩
  | .hbm, ⟨17, _⟩ => ⟨S4608x1024, .f32⟩
  | .hbm, ⟨18, _⟩ => ⟨S4608x1024, .f32⟩
  | .hbm, ⟨19, _⟩ => ⟨S4608x1024, .f32⟩
  | .hbm, ⟨20, _⟩ => ⟨S4608x1024, .f32⟩
  | .hbm, ⟨21, _⟩ => ⟨S_, .f32⟩
  | .hbm, ⟨22, _⟩ => ⟨S4608x2048, .f32⟩
  | .hbm, ⟨23, _⟩ => ⟨S_, .f32⟩
  | .hbm, ⟨24, _⟩ => ⟨S4608x2048, .f32⟩
  | .hbm, ⟨25, _⟩ => ⟨S4608x2048, .f32⟩
  | .hbm, ⟨26, _⟩ => ⟨S_, .f32⟩
  | .hbm, ⟨27, _⟩ => ⟨S4608x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S_, .f32⟩
  | .hbm, ⟨34, _⟩ => ⟨S2048, .f32⟩
  | .hbm, ⟨35, _⟩ => ⟨S4608x1024, .f32⟩
  | .hbm, ⟨36, _⟩ => ⟨S4608x2048, .bf16⟩
  | .hbm, ⟨37, _⟩ => ⟨S1x2048, .f32⟩
  | .hbm, ⟨38, _⟩ => ⟨S4096x2048, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x2048, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S2048, .f32⟩
  | .hbm, ⟨65, _⟩ => ⟨S1x2048, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_cst_12 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Proof.Adj.Scalar.lean ====
/- The recurrence of the adjoint sweep on one pair of extended reals, and how its steps compose. -/
module

public import Idealize.ShloMosaic.PureOps.Ideal.Laws

@[expose] public section

noncomputable section

namespace Cert.Adj

/-- One step: the pair (real, imaginary) times the complex coefficient `a + i b`, plus the entering pair. -/
def cstep (a b zr zi : EReal) (s : EReal × EReal) : EReal × EReal :=
  (a * s.1 - b * s.2 + zr, a * s.2 + b * s.1 + zi)

/-- `n` steps, the entering pairs taken in order. -/
def run (a b : EReal) (zr zi : ℕ → EReal) (s : EReal × EReal) : ℕ → EReal × EReal
  | 0 => s
  | n + 1 => cstep a b (zr n) (zi n) (run a b zr zi s n)

/-- Four steps from position `p`. -/
def four (a b : EReal) (zr zi : ℕ → EReal) (p : ℕ) (s : EReal × EReal) : EReal × EReal :=
  cstep a b (zr (p + 3)) (zi (p + 3)) (cstep a b (zr (p + 2)) (zi (p + 2))
    (cstep a b (zr (p + 1)) (zi (p + 1)) (cstep a b (zr p) (zi p) s)))

/-- A state that advances four steps at a time has run `4 k` steps after `k` advances. -/
theorem eq_run_of_four (a b : EReal) (zr zi : ℕ → EReal) (st : ℕ → EReal × EReal) (K : ℕ)
    (h : ∀ k, k < K → st (k + 1) = four a b zr zi (4 * k) (st k)) (k : ℕ) (hk : k ≤ K) :
    st k = run a b zr zi (st 0) (4 * k) := by
  induction k with
  | zero => rfl
  | succ k ih => rw [h k (by omega), ih (by omega)]; rfl

/-- Running `m` steps and then `n` more is running `m + n`. -/
theorem run_add (a b : EReal) (zr zi : ℕ → EReal) (s : EReal × EReal) (m n : ℕ) :
    run a b (fun k => zr (m + k)) (fun k => zi (m + k)) (run a b zr zi s m) n = run a b zr zi s (m + n) := by
  induction n with
  | zero => rfl
  | succ n ih => show cstep _ _ _ _ _ = cstep _ _ _ _ _; rw [ih]; rfl

/-- The entering pairs matter only where they are read. -/
theorem run_congr (a b : EReal) (s : EReal × EReal) {zr zi zr' zi' : ℕ → EReal} (n : ℕ)
    (hr : ∀ k, k < n → zr k = zr' k) (hi : ∀ k, k < n → zi k = zi' k) : run a b zr zi s n = run a b zr' zi' s n := by
  induction n with
  | zero => rfl
  | succ n ih =>
    show cstep _ _ _ _ _ = cstep _ _ _ _ _
    rw [ih (fun k hk => hr k (by omega)) (fun k hk => hi k (by omega)), hr n (by omega), hi n (by omega)]

end Cert.Adj

end
-- ==== Proof.Adj.Spec.lean ====
/- The adjoint of the layer's complex recurrence over plain coordinates: the numbers both programs compute. -/
module

public import proofs.«01_k».proof.Proof.Adj.Scalar
public import Idealize.ShloMosaic.Lib.Pointwise.Index

@[expose] public section

noncomputable section

namespace Cert.Adj

open Idealize.ShloMosaic
open scoped BigOperators

/-- The token a direction meets at step `k` of 512: the first direction walks backwards. -/
def tok (d : Fin 2) (k : ℕ) : ℕ := if d.val = 0 then 511 - k else k

/-- The stream's cotangent at token `t` of sequence `u`, channel `e`; zero past the last token. -/
def tokenAt (X : (⟨3, ![2, 2048, 1024]⟩ : Shape).Idx → EReal) (t : ℕ) (u : Fin 8) (e : Fin 1024) : EReal :=
  if h : t < 512 then X (ix3 ⟨u.val / 4, by omega⟩ ⟨u.val % 4 * 512 + t, by omega⟩ e) else 0

/-- What enters state `q` at step `k`: the token's sixteen channels of the state's group through one output map. -/
def inflow (X : (⟨3, ![2, 2048, 1024]⟩ : Shape).Idx → EReal) (C : (⟨4, ![2, 64, 16, 64]⟩ : Shape).Idx → EReal)
    (d : Fin 2) (u : Fin 8) (q : Fin 4096) (k : ℕ) : EReal :=
  ∑ b : Fin 16, tokenAt X (tok d k) u ⟨q.val / 64 * 16 + b.val, by omega⟩ * C (ix4 d ⟨q.val / 64, by omega⟩ b ⟨q.val % 64, by omega⟩)

/-- A coefficient of direction `d` and state `q`. -/
def coefOf (A : (⟨2, ![64, 128]⟩ : Shape).Idx → EReal) (d : Fin 2) (q : Fin 4096) : EReal :=
  A (ix2 ⟨q.val % 64, by omega⟩ ⟨d.val * 64 + q.val / 64, by omega⟩)

/-- The adjoint state after `n` steps: the transposed recurrence runs with the conjugate coefficient, and the real part of an
    output sees the imaginary part of the state through minus the imaginary output map. -/
def adjoint (X : (⟨3, ![2, 2048, 1024]⟩ : Shape).Idx → EReal) (Cr Ci : (⟨4, ![2, 64, 16, 64]⟩ : Shape).Idx → EReal)
    (Ar Ai : (⟨2, ![64, 128]⟩ : Shape).Idx → EReal) (d : Fin 2) (u : Fin 8) (q : Fin 4096) (n : ℕ) : EReal × EReal :=
  run (coefOf Ar d q) (-coefOf Ai d q) (inflow X Cr d u q) (inflow X (fun i => -Ci i) d u q) (0, 0) n

end Cert.Adj

end
-- ==== Proof.Adj.Trip.lean ====
/- One trip of each of the kernel's four loops: four steps of the recurrence, on two groups of states at once. -/
module

public import proofs.«01_k».proof.Proof.Adj.Scalar
public import proofs.«01_k».proof.Proof.Gen.KernelIdeal.Value
public import Idealize.ShloMosaic.Lib.Pointwise

@[expose] public section

set_option maxRecDepth 16384

noncomputable section

namespace Cert.Adj

open Idealize.ShloMosaic Idealize.ShloMosaic.Tactic Cert.KernelIdeal Cert.KernelIdeal.Gen

/-- An entry of the buffer of entering pairs, at a row and a column. -/
def cell (A : FVec Ideal S256x8192 .f32) (p c : ℕ) : EReal :=
  if h : p < 256 ∧ c < 8192 then A (ix2 ⟨p, h.1⟩ ⟨c, h.2⟩) else 0

/-- The token a direction meets at step `n` of a block of 32: the first direction walks backwards. -/
def pos (i : grid0.Coords) (n : ℕ) : ℕ := if (i 0).val = 0 then 31 - n else n

/-- The word the kernel computes as the row of step `4 k + r`, from the direction, the trip and `r`. -/
def rowWord (i : grid0.Coords) (k : ℕ) (r : BitVec 32) : ℕ :=
  (Scalar.indexCast (Scalar.muli (Scalar.addi (Scalar.addi (Scalar.muli (Scf.iv 0#32 1#32 k) 4#32) r)
    (Scalar.muli (Scalar.subi 1#32 (BitVec.ofNat 32 (i 0).val))
      (Scalar.subi 31#32 (Scalar.muli 2#32 (Scalar.addi (Scalar.muli (Scf.iv 0#32 1#32 k) 4#32) r))))) 8#32)).toNat

/-- That word is eight times the token. -/
theorem rowWord_eq (i : grid0.Coords) (k : ℕ) (hk : k < 8) (r : ℕ) (hr : r < 4) :
    rowWord i k (BitVec.ofNat 32 r) = 8 * pos i (4 * k + r) := by
  have h : ∀ (d : Fin 2) (k : Fin 8) (r : Fin 4),
      (Scalar.indexCast (Scalar.muli (Scalar.addi (Scalar.addi (Scalar.muli (Scf.iv 0#32 1#32 k.val) 4#32) (BitVec.ofNat 32 r.val))
        (Scalar.muli (Scalar.subi 1#32 (BitVec.ofNat 32 d.val))
          (Scalar.subi 31#32 (Scalar.muli 2#32 (Scalar.addi (Scalar.muli (Scf.iv 0#32 1#32 k.val) 4#32) (BitVec.ofNat 32 r.val)))))) 8#32)).toNat
        = 8 * (if d.val = 0 then 31 - (4 * k.val + r.val) else 4 * k.val + r.val) := by decide +kernel
  exact h (i 0) ⟨k, hk⟩ ⟨r, hr⟩

/-- A load of eight rows and 512 columns of the buffer, at one of its elements. -/
theorem load_apply {κ : Kind} {sp : Space} (v : View sig κ sp S256x8192 .f32) (X : v.ty.Contents (Elt Ideal)) (off : Fin 2 → ℕ)
    (inb : ∀ a, off a + S8x512.size a ≤ S256x8192.size a) (y : S8x512.Idx) :
    v.readAt (Elt Ideal) (Rect.unit (s := S256x8192) off S8x512.size inb).toLoadRect X y
      = cell (v.read (Elt Ideal) X) (off 0 + (y 0).val) (off 1 + (y 1).val) := by
  have e0 : off 0 + 8 ≤ 256 := inb 0
  have e1 : off 1 + 512 ≤ 8192 := inb 1
  have y0 : (y 0).val < 8 := (y 0).isLt
  have y1 : (y 1).val < 512 := (y 1).isLt
  unfold cell
  rw [dif_pos ⟨by omega, by omega⟩, View.readAt_apply]
  refine congrArg _ (funext fun q => Fin.ext ?_)
  match q with
  | ⟨0, _⟩ => show off 0 + 1 * (y 0).val = off 0 + (y 0).val; omega
  | ⟨1, _⟩ => show off 1 + 1 * (y 1).val = off 1 + (y 1).val; omega

/-- The entering values of a group of states whose columns start at `c`, in the order of the steps, as element `y` sees them. -/
def enter (i : grid0.Coords) (A : FVec Ideal S256x8192 .f32) (c : ℕ) (y : S8x512.Idx) (n : ℕ) : EReal :=
  cell A (8 * pos i n + (y 0).val) (c + (y 1).val)

/-- Four steps whose entering values are loaded at the kernel's words are the four steps from position `4 k`. -/
theorem four_of_loads (i : grid0.Coords) (k : ℕ) (hk : k < 8) {κ : Kind} {sp : Space} (v : View sig κ sp S256x8192 .f32) (X : v.ty.Contents (Elt Ideal))
    (o o' : BitVec 32 → Fin 2 → ℕ) (n0 : ∀ a, o 0#32 a + S8x512.size a ≤ S256x8192.size a) (n1 : ∀ a, o 1#32 a + S8x512.size a ≤ S256x8192.size a)
    (n2 : ∀ a, o 2#32 a + S8x512.size a ≤ S256x8192.size a) (n3 : ∀ a, o 3#32 a + S8x512.size a ≤ S256x8192.size a)
    (n0' : ∀ a, o' 0#32 a + S8x512.size a ≤ S256x8192.size a) (n1' : ∀ a, o' 1#32 a + S8x512.size a ≤ S256x8192.size a)
    (n2' : ∀ a, o' 2#32 a + S8x512.size a ≤ S256x8192.size a) (n3' : ∀ a, o' 3#32 a + S8x512.size a ≤ S256x8192.size a) (col col' : ℕ)
    (h : ∀ r, o r 0 = rowWord i k r ∧ o r 1 = col) (h' : ∀ r, o' r 0 = rowWord i k r ∧ o' r 1 = col') (y : S8x512.Idx) (a b : EReal) (s : EReal × EReal) :
    cstep a b (v.readAt (Elt Ideal) (Rect.unit (s := S256x8192) (o 3#32) S8x512.size n3).toLoadRect X y)
        (v.readAt (Elt Ideal) (Rect.unit (s := S256x8192) (o' 3#32) S8x512.size n3').toLoadRect X y)
      (cstep a b (v.readAt (Elt Ideal) (Rect.unit (s := S256x8192) (o 2#32) S8x512.size n2).toLoadRect X y)
          (v.readAt (Elt Ideal) (Rect.unit (s := S256x8192) (o' 2#32) S8x512.size n2').toLoadRect X y)
        (cstep a b (v.readAt (Elt Ideal) (Rect.unit (s := S256x8192) (o 1#32) S8x512.size n1).toLoadRect X y)
            (v.readAt (Elt Ideal) (Rect.unit (s := S256x8192) (o' 1#32) S8x512.size n1').toLoadRect X y)
          (cstep a b (v.readAt (Elt Ideal) (Rect.unit (s := S256x8192) (o 0#32) S8x512.size n0).toLoadRect X y)
            (v.readAt (Elt Ideal) (Rect.unit (s := S256x8192) (o' 0#32) S8x512.size n0').toLoadRect X y) s)))
      = four a b (enter i (v.read (Elt Ideal) X) col y) (enter i (v.read (Elt Ideal) X) col' y) (4 * k) s := by
  have e : ∀ (p : BitVec 32 → Fin 2 → ℕ) (q r : ℕ) (hr : r < 4) (n : ∀ a, p (BitVec.ofNat 32 r) a + S8x512.size a ≤ S256x8192.size a)
      (_ : ∀ r, p r 0 = rowWord i k r ∧ p r 1 = q),
      v.readAt (Elt Ideal) (Rect.unit (s := S256x8192) (p (BitVec.ofNat 32 r)) S8x512.size n).toLoadRect X y
        = enter i (v.read (Elt Ideal) X) q y (4 * k + r) := fun p q r hr n hp => by
    rw [load_apply, (hp _).1, (hp _).2, rowWord_eq i k hk r hr]; rfl
  rw [e o col 3 (by decide) n3 h, e o col 2 (by decide) n2 h, e o col 1 (by decide) n1 h, e o col 0 (by decide) n0 h,
    e o' col' 3 (by decide) n3' h', e o' col' 2 (by decide) n2' h', e o' col' 1 (by decide) n1' h', e o' col' 0 (by decide) n0' h']
  rfl

variable (c : Dev nD) (i : grid0.Coords) (a2 : Memref sig .tc .vmem S256x1024 .f32) (h2 : a2.IsWhole) (a3 : Memref sig .tc .vmem S1x8x1024x128 .bf16) (h3 : a3.IsWhole) (a4 : Memref sig .tc .vmem S1x2x8x4096 .f32) (h4 : a4.IsWhole)
  (a5 : Memref sig .tc .vmem S1x2x8x4096 .f32) (h5 : a5.IsWhole) (a6 : Memref sig .tc .vmem S256x8192 .f32) (h6 : a6.IsWhole) (a7 : Memref sig .tc .vmem S2x8x4096 .f32) (h7 : a7.IsWhole)

/-- A coefficient row loaded as a 1×1×8×512 block, as the matrix the body makes of it. -/
def coef (v : Vec Ideal S1x1x8x512 .f32) : FVec Ideal S8x512 .f32 := shapeCast S8x512 v shapeCasts_S1x1x8x512_S8x512

/-- The first loop's trip. -/
theorem trip1 (v62 : BitVec 32) (v64 v66 v68 v70 v72 v74 v76 v78 : FVec Ideal S8x512 .f32) (w : BitVec 32) (X : BufTy.Contents (Elt Ideal) a6.view.ty)
    (k : Fin k0_t1_loop.trips) (acc : FVec Ideal S8x512 .f32 × FVec Ideal S8x512 .f32 × FVec Ideal S8x512 .f32 × FVec Ideal S8x512 .f32) (y : S8x512.Idx) :
    let f := tripR_k0_t1 (F := Ideal) .none c none i a2 h2 a3 h3 a4 h4 a5 h5 a6 h6 a7 h7 v62 v64 v66 v68 v70 v72 v74 v76 v78 w X k acc
    let A := a6.view.read (Elt Ideal) X
    (f.1 y, f.2.1 y) = four (v64 y) (v66 y) (enter i A 0 y) (enter i A 512 y) (4 * k.val) (acc.1 y, acc.2.1 y)
      ∧ (f.2.2.1 y, f.2.2.2 y) = four (v68 y) (v70 y) (enter i A 1024 y) (enter i A 1536 y) (4 * k.val) (acc.2.2.1 y, acc.2.2.2 y) := by
  have hk : k.val < 8 := Nat.lt_of_lt_of_le k.isLt k0_t1_abs.2.1
  unfold tripR_k0_t1 trip_k0_t1
  refine ⟨(Prod.ext ?_ ?_ : _ = _).trans (four_of_loads i k hk a6.view X (k0_off1 i k) (k0_off2 i k) (k0_off1_inb i k 0) (k0_off1_inb i k 1) (k0_off1_inb i k 2) (k0_off1_inb i k 3)
      (k0_off2_inb i k 0) (k0_off2_inb i k 1) (k0_off2_inb i k 2) (k0_off2_inb i k 3) _ _ (fun _ => ⟨rfl, rfl⟩) (fun _ => ⟨rfl, rfl⟩) y _ _ _),
    (Prod.ext ?_ ?_ : _ = _).trans (four_of_loads i k hk a6.view X (k0_off3 i k) (k0_off4 i k) (k0_off3_inb i k 0) (k0_off3_inb i k 1) (k0_off3_inb i k 2) (k0_off3_inb i k 3)
      (k0_off4_inb i k 0) (k0_off4_inb i k 1) (k0_off4_inb i k 2) (k0_off4_inb i k 3) _ _ (fun _ => ⟨rfl, rfl⟩) (fun _ => ⟨rfl, rfl⟩) y _ _ _)⟩
  · rfl
  · rfl
  · rfl
  · rfl

/-- The second loop's trip. -/
theorem trip2 (v62 : BitVec 32) (v94 v96 v98 v100 : FVec Ideal S8x512 .f32) (X : BufTy.Contents (Elt Ideal) a6.view.ty)
    (k : Fin k0_t2_loop.trips) (acc : FVec Ideal S8x512 .f32 × FVec Ideal S8x512 .f32 × FVec Ideal S8x512 .f32 × FVec Ideal S8x512 .f32) (y : S8x512.Idx) :
    let f := tripR_k0_t2 (F := Ideal) .none c none i a2 h2 a3 h3 a4 h4 a5 h5 a6 h6 a7 h7 v62 v94 v96 v98 v100 X k acc
    let A := a6.view.read (Elt Ideal) X
    (f.1 y, f.2.1 y) = four (v94 y) (v96 y) (enter i A 2048 y) (enter i A 2560 y) (4 * k.val) (acc.1 y, acc.2.1 y)
      ∧ (f.2.2.1 y, f.2.2.2 y) = four (v98 y) (v100 y) (enter i A 3072 y) (enter i A 3584 y) (4 * k.val) (acc.2.2.1 y, acc.2.2.2 y) := by
  have hk : k.val < 8 := Nat.lt_of_lt_of_le k.isLt k0_t2_abs.2.1
  unfold tripR_k0_t2 trip_k0_t2
  refine ⟨(Prod.ext ?_ ?_ : _ = _).trans (four_of_loads i k hk a6.view X (k0_off5 i k) (k0_off6 i k) (k0_off5_inb i k 0) (k0_off5_inb i k 1) (k0_off5_inb i k 2) (k0_off5_inb i k 3)
      (k0_off6_inb i k 0) (k0_off6_inb i k 1) (k0_off6_inb i k 2) (k0_off6_inb i k 3) _ _ (fun _ => ⟨rfl, rfl⟩) (fun _ => ⟨rfl, rfl⟩) y _ _ _),
    (Prod.ext ?_ ?_ : _ = _).trans (four_of_loads i k hk a6.view X (k0_off7 i k) (k0_off8 i k) (k0_off7_inb i k 0) (k0_off7_inb i k 1) (k0_off7_inb i k 2) (k0_off7_inb i k 3)
      (k0_off8_inb i k 0) (k0_off8_inb i k 1) (k0_off8_inb i k 2) (k0_off8_inb i k 3) _ _ (fun _ => ⟨rfl, rfl⟩) (fun _ => ⟨rfl, rfl⟩) y _ _ _)⟩
  · rfl
  · rfl
  · rfl
  · rfl

/-- The third loop's trip. -/
theorem trip3 (v62 : BitVec 32) (v124 : FVec Ideal S8x512 .f32) (v125 v127 v129 : Vec Ideal S1x1x8x512 .f32) (X : BufTy.Contents (Elt Ideal) a6.view.ty)
    (k : Fin k0_t3_loop.trips) (acc : FVec Ideal S8x512 .f32 × FVec Ideal S8x512 .f32 × FVec Ideal S8x512 .f32 × FVec Ideal S8x512 .f32) (y : S8x512.Idx) :
    let f := tripR_k0_t3 (F := Ideal) .none c none i a2 h2 a3 h3 a4 h4 a5 h5 a6 h6 a7 h7 v62 v124 v125 v127 v129 X k acc
    let A := a6.view.read (Elt Ideal) X
    (f.1 y, f.2.1 y) = four (v124 y) (coef v125 y) (enter i A 4096 y) (enter i A 4608 y) (4 * k.val) (acc.1 y, acc.2.1 y)
      ∧ (f.2.2.1 y, f.2.2.2 y) = four (coef v127 y) (coef v129 y) (enter i A 5120 y) (enter i A 5632 y) (4 * k.val) (acc.2.2.1 y, acc.2.2.2 y) := by
  have hk : k.val < 8 := Nat.lt_of_lt_of_le k.isLt k0_t3_abs.2.1
  unfold tripR_k0_t3 trip_k0_t3
  refine ⟨(Prod.ext ?_ ?_ : _ = _).trans (four_of_loads i k hk a6.view X (k0_off9 i k) (k0_off10 i k) (k0_off9_inb i k 0) (k0_off9_inb i k 1) (k0_off9_inb i k 2) (k0_off9_inb i k 3)
      (k0_off10_inb i k 0) (k0_off10_inb i k 1) (k0_off10_inb i k 2) (k0_off10_inb i k 3) _ _ (fun _ => ⟨rfl, rfl⟩) (fun _ => ⟨rfl, rfl⟩) y _ _ _),
    (Prod.ext ?_ ?_ : _ = _).trans (four_of_loads i k hk a6.view X (k0_off11 i k) (k0_off12 i k) (k0_off11_inb i k 0) (k0_off11_inb i k 1) (k0_off11_inb i k 2) (k0_off11_inb i k 3)
      (k0_off12_inb i k 0) (k0_off12_inb i k 1) (k0_off12_inb i k 2) (k0_off12_inb i k 3) _ _ (fun _ => ⟨rfl, rfl⟩) (fun _ => ⟨rfl, rfl⟩) y _ _ _)⟩
  · rfl
  · rfl
  · rfl
  · rfl

/-- The last loop's trip. -/
theorem trip4 (v62 : BitVec 32) (v140_2 v140_3 : FVec Ideal S8x512 .f32) (v153 v155 v157 v159 : Vec Ideal S1x1x8x512 .f32) (X : BufTy.Contents (Elt Ideal) a6.view.ty)
    (k : Fin k0_t4_loop.trips) (acc : FVec Ideal S8x512 .f32 × FVec Ideal S8x512 .f32 × FVec Ideal S8x512 .f32 × FVec Ideal S8x512 .f32) (y : S8x512.Idx) :
    let f := tripR_k0_t4 (F := Ideal) .none c none i a2 h2 a3 h3 a4 h4 a5 h5 a6 h6 a7 h7 v62 v140_2 v140_3 v153 v155 v157 v159 X k acc
    let A := a6.view.read (Elt Ideal) X
    (f.1 y, f.2.1 y) = four (coef v153 y) (coef v155 y) (enter i A 6144 y) (enter i A 6656 y) (4 * k.val) (acc.1 y, acc.2.1 y)
      ∧ (f.2.2.1 y, f.2.2.2 y) = four (coef v157 y) (coef v159 y) (enter i A 7168 y) (enter i A 7680 y) (4 * k.val) (acc.2.2.1 y, acc.2.2.2 y) := by
  have hk : k.val < 8 := Nat.lt_of_lt_of_le k.isLt k0_t4_abs.2.1
  unfold tripR_k0_t4 trip_k0_t4
  refine ⟨(Prod.ext ?_ ?_ : _ = _).trans (four_of_loads i k hk a6.view X (k0_off13 i k) (k0_off14 i k) (k0_off13_inb i k 0) (k0_off13_inb i k 1) (k0_off13_inb i k 2) (k0_off13_inb i k 3)
      (k0_off14_inb i k 0) (k0_off14_inb i k 1) (k0_off14_inb i k 2) (k0_off14_inb i k 3) _ _ (fun _ => ⟨rfl, rfl⟩) (fun _ => ⟨rfl, rfl⟩) y _ _ _),
    (Prod.ext ?_ ?_ : _ = _).trans (four_of_loads i k hk a6.view X (k0_off15 i k) (k0_off16 i k) (k0_off15_inb i k 0) (k0_off15_inb i k 1) (k0_off15_inb i k 2) (k0_off15_inb i k 3)
      (k0_off16_inb i k 0) (k0_off16_inb i k 1) (k0_off16_inb i k 2) (k0_off16_inb i k 3) _ _ (fun _ => ⟨rfl, rfl⟩) (fun _ => ⟨rfl, rfl⟩) y _ _ _)⟩
  · rfl
  · rfl
  · rfl
  · rfl

end Cert.Adj

end
-- ==== Proof.Adj.Loop.lean ====
/- Each of the kernel's four loops, run to its end: thirty-two steps of the recurrence on two groups of states. -/
module

public import proofs.«01_k».proof.Proof.Adj.Trip

@[expose] public section

set_option maxRecDepth 16384

noncomputable section

namespace Cert.Adj

open Idealize.ShloMosaic Idealize.ShloMosaic.Tactic Cert.KernelIdeal Cert.KernelIdeal.Gen

variable (c : Dev nD) (i : grid0.Coords) (a2 : Memref sig .tc .vmem S256x1024 .f32) (h2 : a2.IsWhole) (a3 : Memref sig .tc .vmem S1x8x1024x128 .bf16) (h3 : a3.IsWhole) (a4 : Memref sig .tc .vmem S1x2x8x4096 .f32) (h4 : a4.IsWhole)
  (a5 : Memref sig .tc .vmem S1x2x8x4096 .f32) (h5 : a5.IsWhole) (a6 : Memref sig .tc .vmem S256x8192 .f32) (h6 : a6.IsWhole) (a7 : Memref sig .tc .vmem S2x8x4096 .f32) (h7 : a7.IsWhole)

/-- Four numbers that advance four steps at a time, in two pairs, have run thirty-two steps after eight advances. -/
theorem pairs_run (a b a' b' : EReal) (zr zi zr' zi' : ℕ → EReal) (st : ℕ → (EReal × EReal) × (EReal × EReal))
    (h : ∀ k, k < 8 → (st (k + 1)).1 = four a b zr zi (4 * k) (st k).1 ∧ (st (k + 1)).2 = four a' b' zr' zi' (4 * k) (st k).2) :
    (st 8).1 = run a b zr zi (st 0).1 32 ∧ (st 8).2 = run a' b' zr' zi' (st 0).2 32 :=
  ⟨eq_run_of_four a b zr zi (fun k => (st k).1) 8 (fun k hk => (h k hk).1) 8 le_rfl,
    eq_run_of_four a' b' zr' zi' (fun k => (st k).2) 8 (fun k hk => (h k hk).2) 8 le_rfl⟩

/-- The first loop. -/
theorem loop1 (v62 : BitVec 32) (v64 v66 v68 v70 v72 v74 v76 v78 : FVec Ideal S8x512 .f32) (w : BitVec 32) (X : BufTy.Contents (Elt Ideal) a6.view.ty)
    (init : FVec Ideal S8x512 .f32 × FVec Ideal S8x512 .f32 × FVec Ideal S8x512 .f32 × FVec Ideal S8x512 .f32) (y : S8x512.Idx) :
    let f := st_k0_t1 (F := Ideal) .none c none i a2 h2 a3 h3 a4 h4 a5 h5 a6 h6 a7 h7 v62 v64 v66 v68 v70 v72 v74 v76 v78 w X init k0_t1_loop.trips
    let A := a6.view.read (Elt Ideal) X
    (f.1 y, f.2.1 y) = run (v64 y) (v66 y) (enter i A 0 y) (enter i A 512 y) (init.1 y, init.2.1 y) 32
      ∧ (f.2.2.1 y, f.2.2.2 y) = run (v68 y) (v70 y) (enter i A 1024 y) (enter i A 1536 y) (init.2.2.1 y, init.2.2.2 y) 32 := by
  have ht : k0_t1_loop.trips = 8 := by decide
  intro f A
  show _ ∧ _
  have h := pairs_run (v64 y) (v66 y) (v68 y) (v70 y) (enter i A 0 y) (enter i A 512 y) (enter i A 1024 y) (enter i A 1536 y)
    (fun k => let g := st_k0_t1 (F := Ideal) .none c none i a2 h2 a3 h3 a4 h4 a5 h5 a6 h6 a7 h7 v62 v64 v66 v68 v70 v72 v74 v76 v78 w X init k
      ((g.1 y, g.2.1 y), (g.2.2.1 y, g.2.2.2 y))) fun k hk => by
    dsimp only
    rw [st_k0_t1_succ .none c none i a2 h2 a3 h3 a4 h4 a5 h5 a6 h6 a7 h7 v62 v64 v66 v68 v70 v72 v74 v76 v78 w X init ⟨k, by omega⟩]
    exact trip1 c i a2 h2 a3 h3 a4 h4 a5 h5 a6 h6 a7 h7 v62 v64 v66 v68 v70 v72 v74 v76 v78 w X ⟨k, by omega⟩ _ y
  exact h

/-- The second loop. -/
theorem loop2 (v62 : BitVec 32) (v94 v96 v98 v100 : FVec Ideal S8x512 .f32) (X : BufTy.Contents (Elt Ideal) a6.view.ty)
    (init : FVec Ideal S8x512 .f32 × FVec Ideal S8x512 .f32 × FVec Ideal S8x512 .f32 × FVec Ideal S8x512 .f32) (y : S8x512.Idx) :
    let f := st_k0_t2 (F := Ideal) .none c none i a2 h2 a3 h3 a4 h4 a5 h5 a6 h6 a7 h7 v62 v94 v96 v98 v100 X init k0_t2_loop.trips
    let A := a6.view.read (Elt Ideal) X
    (f.1 y, f.2.1 y) = run (v94 y) (v96 y) (enter i A 2048 y) (enter i A 2560 y) (init.1 y, init.2.1 y) 32
      ∧ (f.2.2.1 y, f.2.2.2 y) = run (v98 y) (v100 y) (enter i A 3072 y) (enter i A 3584 y) (init.2.2.1 y, init.2.2.2 y) 32 := by
  have ht : k0_t2_loop.trips = 8 := by decide
  intro f A
  show _ ∧ _
  have h := pairs_run (v94 y) (v96 y) (v98 y) (v100 y) (enter i A 2048 y) (enter i A 2560 y) (enter i A 3072 y) (enter i A 3584 y)
    (fun k => let g := st_k0_t2 (F := Ideal) .none c none i a2 h2 a3 h3 a4 h4 a5 h5 a6 h6 a7 h7 v62 v94 v96 v98 v100 X init k
      ((g.1 y, g.2.1 y), (g.2.2.1 y, g.2.2.2 y))) fun k hk => by
    dsimp only
    rw [st_k0_t2_succ .none c none i a2 h2 a3 h3 a4 h4 a5 h5 a6 h6 a7 h7 v62 v94 v96 v98 v100 X init ⟨k, by omega⟩]
    exact trip2 c i a2 h2 a3 h3 a4 h4 a5 h5 a6 h6 a7 h7 v62 v94 v96 v98 v100 X ⟨k, by omega⟩ _ y
  exact h

/-- The third loop. -/
theorem loop3 (v62 : BitVec 32) (v124 : FVec Ideal S8x512 .f32) (v125 v127 v129 : Vec Ideal S1x1x8x512 .f32) (X : BufTy.Contents (Elt Ideal) a6.view.ty)
    (init : FVec Ideal S8x512 .f32 × FVec Ideal S8x512 .f32 × FVec Ideal S8x512 .f32 × FVec Ideal S8x512 .f32) (y : S8x512.Idx) :
    let f := st_k0_t3 (F := Ideal) .none c none i a2 h2 a3 h3 a4 h4 a5 h5 a6 h6 a7 h7 v62 v124 v125 v127 v129 X init k0_t3_loop.trips
    let A := a6.view.read (Elt Ideal) X
    (f.1 y, f.2.1 y) = run (v124 y) (coef v125 y) (enter i A 4096 y) (enter i A 4608 y) (init.1 y, init.2.1 y) 32
      ∧ (f.2.2.1 y, f.2.2.2 y) = run (coef v127 y) (coef v129 y) (enter i A 5120 y) (enter i A 5632 y) (init.2.2.1 y, init.2.2.2 y) 32 := by
  have ht : k0_t3_loop.trips = 8 := by decide
  intro f A
  show _ ∧ _
  have h := pairs_run (v124 y) (coef v125 y) (coef v127 y) (coef v129 y) (enter i A 4096 y) (enter i A 4608 y) (enter i A 5120 y) (enter i A 5632 y)
    (fun k => let g := st_k0_t3 (F := Ideal) .none c none i a2 h2 a3 h3 a4 h4 a5 h5 a6 h6 a7 h7 v62 v124 v125 v127 v129 X init k
      ((g.1 y, g.2.1 y), (g.2.2.1 y, g.2.2.2 y))) fun k hk => by
    dsimp only
    rw [st_k0_t3_succ .none c none i a2 h2 a3 h3 a4 h4 a5 h5 a6 h6 a7 h7 v62 v124 v125 v127 v129 X init ⟨k, by omega⟩]
    exact trip3 c i a2 h2 a3 h3 a4 h4 a5 h5 a6 h6 a7 h7 v62 v124 v125 v127 v129 X ⟨k, by omega⟩ _ y
  exact h

/-- The last loop. -/
theorem loop4 (v62 : BitVec 32) (v140_2 v140_3 : FVec Ideal S8x512 .f32) (v153 v155 v157 v159 : Vec Ideal S1x1x8x512 .f32) (X : BufTy.Contents (Elt Ideal) a6.view.ty)
    (init : FVec Ideal S8x512 .f32 × FVec Ideal S8x512 .f32 × FVec Ideal S8x512 .f32 × FVec Ideal S8x512 .f32) (y : S8x512.Idx) :
    let f := st_k0_t4 (F := Ideal) .none c none i a2 h2 a3 h3 a4 h4 a5 h5 a6 h6 a7 h7 v62 v140_2 v140_3 v153 v155 v157 v159 X init k0_t4_loop.trips
    let A := a6.view.read (Elt Ideal) X
    (f.1 y, f.2.1 y) = run (coef v153 y) (coef v155 y) (enter i A 6144 y) (enter i A 6656 y) (init.1 y, init.2.1 y) 32
      ∧ (f.2.2.1 y, f.2.2.2 y) = run (coef v157 y) (coef v159 y) (enter i A 7168 y) (enter i A 7680 y) (init.2.2.1 y, init.2.2.2 y) 32 := by
  have ht : k0_t4_loop.trips = 8 := by decide
  intro f A
  show _ ∧ _
  have h := pairs_run (coef v153 y) (coef v155 y) (coef v157 y) (coef v159 y) (enter i A 6144 y) (enter i A 6656 y) (enter i A 7168 y) (enter i A 7680 y)
    (fun k => let g := st_k0_t4 (F := Ideal) .none c none i a2 h2 a3 h3 a4 h4 a5 h5 a6 h6 a7 h7 v62 v140_2 v140_3 v153 v155 v157 v159 X init k
      ((g.1 y, g.2.1 y), (g.2.2.1 y, g.2.2.2 y))) fun k hk => by
    dsimp only
    rw [st_k0_t4_succ .none c none i a2 h2 a3 h3 a4 h4 a5 h5 a6 h6 a7 h7 v62 v140_2 v140_3 v153 v155 v157 v159 X init ⟨k, by omega⟩]
    exact trip4 c i a2 h2 a3 h3 a4 h4 a5 h5 a6 h6 a7 h7 v62 v140_2 v140_3 v153 v155 v157 v159 X ⟨k, by omega⟩ _ y
  exact h

end Cert.Adj

end
-- ==== Proof.Adj.Enter.lean ====
/- The buffer of entering pairs that a block of rows fills: the cotangent of each output row against the output matrices. -/
module

public import proofs.«01_k».proof.Proof.Adj.Trip
public import Idealize.ShloMosaic.Lib.Pipeline.ValueKit
public import Idealize.ShloMosaic.Lib.VecWindow

@[expose] public section

set_option maxRecDepth 16384

noncomputable section

namespace Cert.Adj

open Idealize.ShloMosaic Idealize.ShloMosaic.Tactic Cert.KernelIdeal Cert.KernelIdeal.Gen
open scoped BigOperators

variable (c : Dev nD) (i : grid0.Coords) (a2 : Memref sig .tc .vmem S256x1024 .f32) (h2 : a2.IsWhole) (a3 : Memref sig .tc .vmem S1x8x1024x128 .bf16) (h3 : a3.IsWhole) (a4 : Memref sig .tc .vmem S1x2x8x4096 .f32) (h4 : a4.IsWhole)
  (a5 : Memref sig .tc .vmem S1x2x8x4096 .f32) (h5 : a5.IsWhole) (a6 : Memref sig .tc .vmem S256x8192 .f32) (h6 : a6.IsWhole) (a7 : Memref sig .tc .vmem S2x8x4096 .f32) (h7 : a7.IsWhole)
  (x0 : Vec Ideal S256x1024 .f32) (x1 : Vec Ideal S1x8x1024x128 .bf16)

/-- The entering value of row `p` and column `q`: column block `q / 1024` takes its own 128 channels of the cotangent. -/
def enterBuf : FVec Ideal S256x8192 .f32 := fun j =>
  ∑ k : Fin 128, x0 (ix2 (j 0) ⟨(j 1).val / 1024 * 128 + k.val, by have : (j 1).val < 8192 := (j 1).isLt; omega⟩)
    * x1 (ix4 0 ⟨(j 1).val / 1024, by have : (j 1).val < 8192 := (j 1).isLt; omega⟩ ⟨(j 1).val % 1024, by omega⟩ k)

/-- A product of a block's channels `m … m + 127` with one output matrix, transposed. -/
theorem enterPay_apply (D : FVec Ideal S256x1024 .bf16) (w : FVec Ideal S1x1x1024x128 .bf16) (m : ℕ) (hm : m + 128 ≤ 1024)
    (sl : S256x1024.Slices ![0, m] S256x128) (p : Fin 256) (r : Fin 1024) :
    matmul dot_S256x128_S1024x128_S256x1024_1_1_0_0_n_n none (extractStridedSlice S256x128 ![0, m] D sl)
        (shapeCast S1024x128 w shapeCasts_S1x1x1024x128_S1024x128) (constant S256x1024 .f32 0x00000000#32) (ix2 p r)
      = ∑ k : Fin 128, D (ix2 p ⟨m + k.val, by omega⟩) * w (ix4 0 0 r k) := by
  pointwise

/-- The value the body stores of a block's channels `m … m + 127` and one output matrix. -/
def enterPay (D : FVec Ideal S256x1024 .bf16) (w : FVec Ideal S1x1x1024x128 .bf16) (m : ℕ) (sl : S256x1024.Slices ![0, m] S256x128) : FVec Ideal S256x1024 .f32 :=
  shapeCast S256x1024 (matmul dot_S256x128_S1024x128_S256x1024_1_1_0_0_n_n none (extractStridedSlice S256x128 ![0, m] D sl)
    (shapeCast S1024x128 w shapeCasts_S1x1x1024x128_S1024x128) (constant S256x1024 .f32 0x00000000#32)) shapeCasts_S256x1024_S256x1024

include h2 h3 in
/-- What one of the eight stores writes: its columns of `enterBuf`. -/
theorem enter_piece (o : Fin 8) (m n : ℕ) (hm : m = o.val * 128) (hn : n = o.val * 1024) (sl : S256x1024.Slices ![0, m] S256x128)
    (inb : ∀ a, (![0, n] : Fin 2 → ℕ) a + S256x1024.size a ≤ S256x8192.size a)
    (inb2 : ∀ a, (![0, 0] : Fin 2 → ℕ) a + S256x1024.size a ≤ S256x1024.size a)
    (inb3 : ∀ a, (![0, o.val, 0, 0] : Fin 4 → ℕ) a + S1x1x1024x128.size a ≤ S1x8x1024x128.size a) (y : S256x1024.Idx) :
    enterPay (k0_pay51 (F := Ideal) (View.readAt (Elt Ideal) a2.view (Rect.unit (s := S256x1024) ![0, 0] S256x1024.size inb2).toLoadRect (h2.unread x0)))
        (View.readAt (Elt Ideal) a3.view (Rect.unit (s := S1x8x1024x128) ![0, o.val, 0, 0] S1x1x1024x128.size inb3).toLoadRect (h3.unread x1)) m sl y
      = enterBuf x0 x1 ((Rect.unit (s := S256x8192) ![0, n] S256x1024.size inb).emb y) := by
  subst hm hn
  obtain ⟨p, r, rfl⟩ : ∃ p r, y = ix2 p r := ⟨y 0, y 1, eq_ix2 y⟩
  refine (congrFun (shapeCast_self _ _) _).trans ((enterPay_apply _ _ _ (by omega) _ _ _).trans ?_)
  have hd : (o.val * 1024 + 1 * r.val) / 1024 = o.val := by omega
  have hr : (o.val * 1024 + 1 * r.val) % 1024 = r.val := by omega
  refine Finset.sum_congr rfl fun k _ => congrArg₂ (· * ·) ?_ ?_
  · unfold k0_pay51
    rw [shapeCast_self, View.readAt_full, h2.read_unread]
    refine congrArg x0 (funext fun q => Fin.ext ?_)
    match q with
    | ⟨0, _⟩ => show p.val = 0 + 1 * p.val; omega
    | ⟨1, _⟩ => show o.val * 128 + k.val = (o.val * 1024 + 1 * r.val) / 1024 * 128 + k.val; rw [hd]
  · rw [View.readAt_apply, h3.read_unread]
    refine congrArg x1 (funext fun q => Fin.ext ?_)
    match q with
    | ⟨0, _⟩ => rfl
    | ⟨1, _⟩ => show o.val + 1 * 0 = (o.val * 1024 + 1 * r.val) / 1024; omega
    | ⟨2, _⟩ => show 0 + 1 * r.val = (o.val * 1024 + 1 * r.val) % 1024; omega
    | ⟨3, _⟩ => show 0 + 1 * k.val = k.val; omega

/-- The eight stores fill the buffer with `enterBuf`. -/
theorem enter_read (f : a6.view.ty.Contents (Elt Ideal)) :
    a6.view.read (Elt Ideal) (a6.view.writes (Elt Ideal) f (kernelRun0_B.sl.HS0_8 (F := Ideal) c a2 h2 a3 h3 x0 x1)) = enterBuf x0 x1 := by
  funext y
  have hc := View.cover_of_tiledL (kernelRun0_B.sl.HS0_8 (F := Ideal) c a2 h2 a3 h3 x0 x1) S256x1024.size (by sl_kernel_rfl)
  rw [View.read_writes_eq_canon _ _ _ hc]
  refine View.canon_apply_of_pieces (enterBuf x0 x1) _ (fun p hp => ?_) y (hc y)
  unfold kernelRun0_B.sl.HS0_8 at hp
  simp only [List.mem_cons, List.not_mem_nil, or_false] at hp
  rcases hp with rfl | rfl | rfl | rfl | rfl | rfl | rfl | rfl
  · exact enter_piece a2 h2 a3 h3 x0 x1 7 _ _ rfl rfl slices_S256x1024_o0_896_S256x128
      inb_S256x8192_S256x1024_0_7168 inb_S256x1024_S256x1024_0_0 inb_S1x8x1024x128_S1x1x1024x128_0_7_0_0
  · exact enter_piece a2 h2 a3 h3 x0 x1 6 _ _ rfl rfl slices_S256x1024_o0_768_S256x128
      inb_S256x8192_S256x1024_0_6144 inb_S256x1024_S256x1024_0_0 inb_S1x8x1024x128_S1x1x1024x128_0_6_0_0
  · exact enter_piece a2 h2 a3 h3 x0 x1 5 _ _ rfl rfl slices_S256x1024_o0_640_S256x128
      inb_S256x8192_S256x1024_0_5120 inb_S256x1024_S256x1024_0_0 inb_S1x8x1024x128_S1x1x1024x128_0_5_0_0
  · exact enter_piece a2 h2 a3 h3 x0 x1 4 _ _ rfl rfl slices_S256x1024_o0_512_S256x128
      inb_S256x8192_S256x1024_0_4096 inb_S256x1024_S256x1024_0_0 inb_S1x8x1024x128_S1x1x1024x128_0_4_0_0
  · exact enter_piece a2 h2 a3 h3 x0 x1 3 _ _ rfl rfl slices_S256x1024_o0_384_S256x128
      inb_S256x8192_S256x1024_0_3072 inb_S256x1024_S256x1024_0_0 inb_S1x8x1024x128_S1x1x1024x128_0_3_0_0
  · exact enter_piece a2 h2 a3 h3 x0 x1 2 _ _ rfl rfl slices_S256x1024_o0_256_S256x128
      inb_S256x8192_S256x1024_0_2048 inb_S256x1024_S256x1024_0_0 inb_S1x8x1024x128_S1x1x1024x128_0_2_0_0
  · exact enter_piece a2 h2 a3 h3 x0 x1 1 _ _ rfl rfl slices_S256x1024_o0_128_S256x128
      inb_S256x8192_S256x1024_0_1024 inb_S256x1024_S256x1024_0_0 inb_S1x8x1024x128_S1x1x1024x128_0_1_0_0
  · exact enter_piece a2 h2 a3 h3 x0 x1 0 _ _ rfl rfl slices_S256x1024_o0_0_S256x128
      inb_S256x8192_S256x1024_0_0 inb_S256x1024_S256x1024_0_0 inb_S1x8x1024x128_S1x1x1024x128_0_0_0_0

end Cert.Adj

end
-- ==== Proof.Adj.Block.lean ====
/- What one block of the rows leaves in the carried states, at a first point of a sweep, at a middle one and at a last one. -/
module

public import proofs.«01_k».proof.Proof.Adj.Loop
public import proofs.«01_k».proof.Proof.Adj.Enter
public import Idealize.ShloMosaic.Lib.Pipeline.CanonAppend

@[expose] public section

set_option maxRecDepth 16384

noncomputable section

namespace Cert.Adj

open Idealize.ShloMosaic Idealize.ShloMosaic.Tactic Cert.KernelIdeal Cert.KernelIdeal.Gen

variable (c : Dev nD) (i : grid0.Coords) (a2 : Memref sig .tc .vmem S256x1024 .f32) (h2 : a2.IsWhole) (a3 : Memref sig .tc .vmem S1x8x1024x128 .bf16) (h3 : a3.IsWhole) (a4 : Memref sig .tc .vmem S1x2x8x4096 .f32) (h4 : a4.IsWhole)
  (a5 : Memref sig .tc .vmem S1x2x8x4096 .f32) (h5 : a5.IsWhole) (a6 : Memref sig .tc .vmem S256x8192 .f32) (h6 : a6.IsWhole) (a7 : Memref sig .tc .vmem S2x8x4096 .f32) (h7 : a7.IsWhole)
  (x0 : Vec Ideal S256x1024 .f32) (x1 : Vec Ideal S1x8x1024x128 .bf16) (x2 : Vec Ideal S1x2x8x4096 .f32)

/-- State `(u, q)` (row `u` of eight, column `q` of 4096) after a block: thirty-two steps from the pair it held. -/
def blkRun (s : FVec Ideal S2x8x4096 .f32) (u : Fin 8) (q : Fin 4096) : EReal × EReal :=
  run (x2 (ix4 0 0 u q)) (x2 (ix4 0 1 u q))
    (fun n => cell (enterBuf x0 x1) (8 * pos i n + u.val) (q.val / 512 * 1024 + q.val % 512))
    (fun n => cell (enterBuf x0 x1) (8 * pos i n + u.val) (q.val / 512 * 1024 + 512 + q.val % 512))
    (s (ix3 0 u q), s (ix3 1 u q)) 32

/-- The carried states after a block: real parts in the first half, imaginary parts in the second. -/
def blkState (s : FVec Ideal S2x8x4096 .f32) : FVec Ideal S2x8x4096 .f32 := fun j =>
  if (j 0).val = 0 then (blkRun i x0 x1 x2 s (j 1) (j 2)).1 else (blkRun i x0 x1 x2 s (j 1) (j 2)).2

/-- Coefficients of one octet of the states. -/
def coefAt (off : Fin 4 → ℕ) (inb : ∀ a, off a + S1x1x8x512.size a ≤ S1x2x8x4096.size a) : Vec Ideal S1x1x8x512 .f32 :=
  View.readAt (Elt Ideal) a4.view (Rect.unit (s := S1x2x8x4096) off S1x1x8x512.size inb).toLoadRect (h4.unread x2)

/-- The carried values of one octet of the states. -/
def stateAt (Y : a7.view.ty.Contents (Elt Ideal)) (off : Fin 3 → ℕ) (inb : ∀ a, off a + S1x8x512.size a ≤ S2x8x4096.size a) : FVec Ideal S8x512 .f32 :=
  shapeCast S8x512 (View.readAt (Elt Ideal) a7.view (Rect.unit (s := S2x8x4096) off S1x8x512.size inb).toLoadRect Y : Vec Ideal S1x8x512 .f32) shapeCasts_S1x8x512_S8x512

/-- An octet of the states as it is stored. -/
def put (v : FVec Ideal S8x512 .f32) : FVec Ideal S1x8x512 .f32 := shapeCast S1x8x512 v shapeCasts_S8x512_S1x8x512

theorem put_apply (v : FVec Ideal S8x512 .f32) (y : S1x8x512.Idx) : put v y = v (ix2 (y 1) (y 2)) := by
  obtain ⟨p, q, r, rfl⟩ : ∃ p q r, y = ix3 p q r := ⟨y 0, y 1, y 2, eq_ix3 y⟩
  unfold put
  pointwise

theorem coef_apply (v : Vec Ideal S1x1x8x512 .f32) (y : S8x512.Idx) : coef v y = v (ix4 0 0 (y 0) (y 1)) := by
  obtain ⟨p, r, rfl⟩ : ∃ p r, y = ix2 p r := ⟨y 0, y 1, eq_ix2 y⟩
  unfold coef
  pointwise

theorem coefAt_apply (z : Fin 2) (n : ℕ) (off : Fin 4 → ℕ) (ho : off = ![0, z.val, 0, n]) (inb : ∀ a, off a + S1x1x8x512.size a ≤ S1x2x8x4096.size a)
    (y : S8x512.Idx) (q : Fin 4096) (hq : q.val = n + (y 1).val) : coef (coefAt a4 h4 x2 off inb) y = x2 (ix4 0 z (y 0) q) := by
  subst ho
  rw [coef_apply]
  unfold coefAt
  rw [View.readAt_apply, h4.read_unread]
  refine congrArg x2 (funext fun a => Fin.ext ?_)
  match a with
  | ⟨0, _⟩ => rfl
  | ⟨1, _⟩ => show z.val + 1 * 0 = z.val; omega
  | ⟨2, _⟩ => show 0 + 1 * (y 0).val = (y 0).val; omega
  | ⟨3, _⟩ => show n + 1 * (y 1).val = q.val; omega

theorem drop_apply (v : Vec Ideal S1x8x512 .f32) (y : S8x512.Idx) : (shapeCast S8x512 v shapeCasts_S1x8x512_S8x512 : FVec Ideal S8x512 .f32) y = v (ix3 0 (y 0) (y 1)) := by
  obtain ⟨p, r, rfl⟩ : ∃ p r, y = ix2 p r := ⟨y 0, y 1, eq_ix2 y⟩
  pointwise

theorem stateAt_apply (Y : a7.view.ty.Contents (Elt Ideal)) (z : Fin 2) (n : ℕ) (off : Fin 3 → ℕ) (ho : off = ![z.val, 0, n])
    (inb : ∀ a, off a + S1x8x512.size a ≤ S2x8x4096.size a) (y : S8x512.Idx) (q : Fin 4096) (hq : q.val = n + (y 1).val) :
    stateAt a7 Y off inb y = a7.view.read (Elt Ideal) Y (ix3 z (y 0) q) := by
  subst ho
  refine (drop_apply _ y).trans ?_
  rw [View.readAt_apply]
  refine congrArg (a7.view.read (Elt Ideal) Y) (funext fun a => Fin.ext ?_)
  match a with
  | ⟨0, _⟩ => show z.val + 1 * 0 = z.val; omega
  | ⟨1, _⟩ => show 0 + 1 * (y 0).val = (y 0).val; omega
  | ⟨2, _⟩ => show n + 1 * (y 1).val = q.val; omega

/-- The carried buffer holds `s` from column `n` on. -/
def Agrees (Y : a7.view.ty.Contents (Elt Ideal)) (s : FVec Ideal S2x8x4096 .f32) (n : ℕ) : Prop :=
  ∀ (z : Fin 2) (u : Fin 8) (q : Fin 4096), n ≤ q.val → a7.view.read (Elt Ideal) Y (ix3 z u q) = s (ix3 z u q)

/-- Two tiles hold the real and imaginary parts of the states of octet `o` after the block. -/
def Ran (s : FVec Ideal S2x8x4096 .f32) (o : ℕ) (f g : FVec Ideal S8x512 .f32) : Prop :=
  ∀ (y : S8x512.Idx) (q : Fin 4096), q.val = 512 * o + (y 1).val → (f y, g y) = blkRun i x0 x1 x2 s (y 0) q

/-- A pair of tiles run from the loaded states with the loaded coefficients is the block's result. -/
theorem ran_of (Y : a7.view.ty.Contents (Elt Ideal)) (o m m' : ℕ) (hm : m = 1024 * o) (hm' : m' = 1024 * o + 512) (f g : FVec Ideal S8x512 .f32)
    (p0 p1 : Fin 4 → ℕ) (r0 r1 : Fin 3 → ℕ) (hp0 : p0 = ![0, 0, 0, 512 * o]) (hp1 : p1 = ![0, 1, 0, 512 * o]) (hr0 : r0 = ![0, 0, 512 * o]) (hr1 : r1 = ![1, 0, 512 * o])
    (i0 : ∀ a, p0 a + S1x1x8x512.size a ≤ S1x2x8x4096.size a) (i1 : ∀ a, p1 a + S1x1x8x512.size a ≤ S1x2x8x4096.size a)
    (j0 : ∀ a, r0 a + S1x8x512.size a ≤ S2x8x4096.size a) (j1 : ∀ a, r1 a + S1x8x512.size a ≤ S2x8x4096.size a)
    (s : FVec Ideal S2x8x4096 .f32) (hs : Agrees a7 Y s (512 * o))
    (h : ∀ y, (f y, g y) = run (coef (coefAt a4 h4 x2 p0 i0) y) (coef (coefAt a4 h4 x2 p1 i1) y) (enter i (enterBuf x0 x1) m y) (enter i (enterBuf x0 x1) m' y)
      (stateAt a7 Y r0 j0 y, stateAt a7 Y r1 j1 y) 32) : Ran i x0 x1 x2 s o f g := by
  intro y q hq
  have hy : (y 1).val < 512 := (y 1).isLt
  rw [h y, coefAt_apply a4 h4 x2 0 _ p0 hp0 i0 y q hq, coefAt_apply a4 h4 x2 1 _ p1 hp1 i1 y q hq, stateAt_apply a7 Y 0 _ r0 hr0 j0 y q hq, stateAt_apply a7 Y 1 _ r1 hr1 j1 y q hq, hs 0 (y 0) q (by omega), hs 1 (y 0) q (by omega)]
  unfold blkRun enter
  have h1 : q.val / 512 = o := by omega
  have h2 : q.val % 512 = (y 1).val := by omega
  have e0 : m + (y 1).val = q.val / 512 * 1024 + q.val % 512 := by rw [h1, h2]; omega
  have e1 : m' + (y 1).val = q.val / 512 * 1024 + 512 + q.val % 512 := by rw [h1, h2]; omega
  rw [e0, e1]

/-- The stores of such a pair are the block's result at their places. -/
theorem put_of_ran (s : FVec Ideal S2x8x4096 .f32) (o : ℕ) (ho : o < 8) (f g : FVec Ideal S8x512 .f32) (h : Ran i x0 x1 x2 s o f g) (r0 r1 : Fin 3 → ℕ)
    (hr0 : r0 = ![0, 0, 512 * o]) (hr1 : r1 = ![1, 0, 512 * o])
    (j0 : ∀ a, r0 a + S1x8x512.size a ≤ S2x8x4096.size a) (j1 : ∀ a, r1 a + S1x8x512.size a ≤ S2x8x4096.size a) :
    (∀ y, put f y = blkState i x0 x1 x2 s ((Rect.unit (s := S2x8x4096) r0 S1x8x512.size j0).emb y))
      ∧ ∀ y, put g y = blkState i x0 x1 x2 s ((Rect.unit (s := S2x8x4096) r1 S1x8x512.size j1).emb y) := by
  subst hr0 hr1
  have key (z : Fin 2) (y : S1x8x512.Idx) (inb : ∀ a, (![z.val, 0, 512 * o] : Fin 3 → ℕ) a + S1x8x512.size a ≤ S2x8x4096.size a) :
      (Rect.unit (s := S2x8x4096) ![z.val, 0, 512 * o] S1x8x512.size inb).emb y
        = ix3 z (y 1) ⟨512 * o + (y 2).val, by have : (y 2).val < 512 := (y 2).isLt; omega⟩ := by
    refine funext fun a => Fin.ext ?_
    have : (y 0).val < 1 := (y 0).isLt
    match a with
    | ⟨0, _⟩ => show z.val + 1 * (y 0).val = z.val; omega
    | ⟨1, _⟩ => show 0 + 1 * (y 1).val = (y 1).val; omega
    | ⟨2, _⟩ => show 512 * o + 1 * (y 2).val = 512 * o + (y 2).val; omega
  refine ⟨fun y => ?_, fun y => ?_⟩
  · rw [put_apply]
    refine Eq.trans ?_ (congrArg (blkState i x0 x1 x2 s) (key 0 y j0)).symm
    exact congrArg Prod.fst (h (ix2 (y 1) (y 2)) ⟨512 * o + (y 2).val, by have : (y 2).val < 512 := (y 2).isLt; omega⟩ rfl)
  · rw [put_apply]
    refine Eq.trans ?_ (congrArg (blkState i x0 x1 x2 s) (key 1 y j1)).symm
    exact congrArg Prod.snd (h (ix2 (y 1) (y 2)) ⟨512 * o + (y 2).val, by have : (y 2).val < 512 := (y 2).isLt; omega⟩ rfl)

variable (X : a6.view.ty.Contents (Elt Ideal)) (Y : a7.view.ty.Contents (Elt Ideal))

/-- Four tiles. -/
abbrev Four : Type := FVec Ideal S8x512 .f32 × FVec Ideal S8x512 .f32 × FVec Ideal S8x512 .f32 × FVec Ideal S8x512 .f32

/-- Octets 0 and 1 of the states when the block's rows have been walked. -/
def end1 : Four :=
  st_k0_t1 (F := Ideal) .none c none i a2 h2 a3 h3 a4 h4 a5 h5 a6 h6 a7 h7 (Scalar.subi 1#32 (BitVec.ofNat 32 (i 0))) (coef (coefAt a4 h4 x2 ![0, 0, 0, 0] inb_S1x2x8x4096_S1x1x8x512_0_0_0_0)) (coef (coefAt a4 h4 x2 ![0, 1, 0, 0] inb_S1x2x8x4096_S1x1x8x512_0_1_0_0)) (coef (coefAt a4 h4 x2 ![0, 0, 0, 512] inb_S1x2x8x4096_S1x1x8x512_0_0_0_512)) (coef (coefAt a4 h4 x2 ![0, 1, 0, 512] inb_S1x2x8x4096_S1x1x8x512_0_1_0_512)) (stateAt a7 Y ![0, 0, 0] inb_S2x8x4096_S1x8x512_0_0_0) (stateAt a7 Y ![1, 0, 0] inb_S2x8x4096_S1x8x512_1_0_0) (stateAt a7 Y ![0, 0, 512] inb_S2x8x4096_S1x8x512_0_0_512) (stateAt a7 Y ![1, 0, 512] inb_S2x8x4096_S1x8x512_1_0_512) 0#32 X
    ((stateAt a7 Y ![0, 0, 0] inb_S2x8x4096_S1x8x512_0_0_0), (stateAt a7 Y ![1, 0, 0] inb_S2x8x4096_S1x8x512_1_0_0), (stateAt a7 Y ![0, 0, 512] inb_S2x8x4096_S1x8x512_0_0_512), (stateAt a7 Y ![1, 0, 512] inb_S2x8x4096_S1x8x512_1_0_512)) k0_t1_loop.trips

/-- Octets 2 and 3 of the states when the block's rows have been walked. -/
def end2 : Four :=
  st_k0_t2 (F := Ideal) .none c none i a2 h2 a3 h3 a4 h4 a5 h5 a6 h6 a7 h7 (Scalar.subi 1#32 (BitVec.ofNat 32 (i 0))) (coef (coefAt a4 h4 x2 ![0, 0, 0, 1024] inb_S1x2x8x4096_S1x1x8x512_0_0_0_1024)) (coef (coefAt a4 h4 x2 ![0, 1, 0, 1024] inb_S1x2x8x4096_S1x1x8x512_0_1_0_1024)) (coef (coefAt a4 h4 x2 ![0, 0, 0, 1536] inb_S1x2x8x4096_S1x1x8x512_0_0_0_1536)) (coef (coefAt a4 h4 x2 ![0, 1, 0, 1536] inb_S1x2x8x4096_S1x1x8x512_0_1_0_1536)) X
    ((stateAt a7 Y ![0, 0, 1024] inb_S2x8x4096_S1x8x512_0_0_1024), (stateAt a7 Y ![1, 0, 1024] inb_S2x8x4096_S1x8x512_1_0_1024), (stateAt a7 Y ![0, 0, 1536] inb_S2x8x4096_S1x8x512_0_0_1536), (stateAt a7 Y ![1, 0, 1536] inb_S2x8x4096_S1x8x512_1_0_1536)) k0_t2_loop.trips

/-- Octets 4 and 5 of the states when the block's rows have been walked. -/
def end3 : Four :=
  st_k0_t3 (F := Ideal) .none c none i a2 h2 a3 h3 a4 h4 a5 h5 a6 h6 a7 h7 (Scalar.subi 1#32 (BitVec.ofNat 32 (i 0))) (coef (coefAt a4 h4 x2 ![0, 0, 0, 2048] inb_S1x2x8x4096_S1x1x8x512_0_0_0_2048)) (coefAt a4 h4 x2 ![0, 1, 0, 2048] inb_S1x2x8x4096_S1x1x8x512_0_1_0_2048) (coefAt a4 h4 x2 ![0, 0, 0, 2560] inb_S1x2x8x4096_S1x1x8x512_0_0_0_2560) (coefAt a4 h4 x2 ![0, 1, 0, 2560] inb_S1x2x8x4096_S1x1x8x512_0_1_0_2560) X
    ((stateAt a7 Y ![0, 0, 2048] inb_S2x8x4096_S1x8x512_0_0_2048), (stateAt a7 Y ![1, 0, 2048] inb_S2x8x4096_S1x8x512_1_0_2048), (stateAt a7 Y ![0, 0, 2560] inb_S2x8x4096_S1x8x512_0_0_2560), (stateAt a7 Y ![1, 0, 2560] inb_S2x8x4096_S1x8x512_1_0_2560)) k0_t3_loop.trips

/-- Octets 6 and 7 of the states when the block's rows have been walked. -/
def end4 (u u' : FVec Ideal S8x512 .f32) : Four :=
  st_k0_t4 (F := Ideal) .none c none i a2 h2 a3 h3 a4 h4 a5 h5 a6 h6 a7 h7 (Scalar.subi 1#32 (BitVec.ofNat 32 (i 0))) u u' (coefAt a4 h4 x2 ![0, 0, 0, 3072] inb_S1x2x8x4096_S1x1x8x512_0_0_0_3072) (coefAt a4 h4 x2 ![0, 1, 0, 3072] inb_S1x2x8x4096_S1x1x8x512_0_1_0_3072) (coefAt a4 h4 x2 ![0, 0, 0, 3584] inb_S1x2x8x4096_S1x1x8x512_0_0_0_3584) (coefAt a4 h4 x2 ![0, 1, 0, 3584] inb_S1x2x8x4096_S1x1x8x512_0_1_0_3584) X
    ((stateAt a7 Y ![0, 0, 3072] inb_S2x8x4096_S1x8x512_0_0_3072), (stateAt a7 Y ![1, 0, 3072] inb_S2x8x4096_S1x8x512_1_0_3072), (stateAt a7 Y ![0, 0, 3584] inb_S2x8x4096_S1x8x512_0_0_3584), (stateAt a7 Y ![1, 0, 3584] inb_S2x8x4096_S1x8x512_1_0_3584)) k0_t4_loop.trips

theorem end1_run (s : FVec Ideal S2x8x4096 .f32) (hX : a6.view.read (Elt Ideal) X = enterBuf x0 x1) (hs : Agrees a7 Y s 0) :
    Ran i x0 x1 x2 s 0 (end1 c i a2 h2 a3 h3 a4 h4 a5 h5 a6 h6 a7 h7 x2 X Y).1 (end1 c i a2 h2 a3 h3 a4 h4 a5 h5 a6 h6 a7 h7 x2 X Y).2.1 ∧ Ran i x0 x1 x2 s 1 (end1 c i a2 h2 a3 h3 a4 h4 a5 h5 a6 h6 a7 h7 x2 X Y).2.2.1 (end1 c i a2 h2 a3 h3 a4 h4 a5 h5 a6 h6 a7 h7 x2 X Y).2.2.2 := by
  have h := loop1 c i a2 h2 a3 h3 a4 h4 a5 h5 a6 h6 a7 h7 (Scalar.subi 1#32 (BitVec.ofNat 32 (i 0))) (coef (coefAt a4 h4 x2 ![0, 0, 0, 0] inb_S1x2x8x4096_S1x1x8x512_0_0_0_0)) (coef (coefAt a4 h4 x2 ![0, 1, 0, 0] inb_S1x2x8x4096_S1x1x8x512_0_1_0_0)) (coef (coefAt a4 h4 x2 ![0, 0, 0, 512] inb_S1x2x8x4096_S1x1x8x512_0_0_0_512)) (coef (coefAt a4 h4 x2 ![0, 1, 0, 512] inb_S1x2x8x4096_S1x1x8x512_0_1_0_512)) (stateAt a7 Y ![0, 0, 0] inb_S2x8x4096_S1x8x512_0_0_0) (stateAt a7 Y ![1, 0, 0] inb_S2x8x4096_S1x8x512_1_0_0) (stateAt a7 Y ![0, 0, 512] inb_S2x8x4096_S1x8x512_0_0_512) (stateAt a7 Y ![1, 0, 512] inb_S2x8x4096_S1x8x512_1_0_512) 0#32 X ((stateAt a7 Y ![0, 0, 0] inb_S2x8x4096_S1x8x512_0_0_0), (stateAt a7 Y ![1, 0, 0] inb_S2x8x4096_S1x8x512_1_0_0), (stateAt a7 Y ![0, 0, 512] inb_S2x8x4096_S1x8x512_0_0_512), (stateAt a7 Y ![1, 0, 512] inb_S2x8x4096_S1x8x512_1_0_512))
  dsimp only at h
  rw [hX] at h
  exact ⟨ran_of i a4 h4 a7 x0 x1 x2 Y 0 _ _ rfl rfl _ _ _ _ _ _ rfl rfl rfl rfl inb_S1x2x8x4096_S1x1x8x512_0_0_0_0 inb_S1x2x8x4096_S1x1x8x512_0_1_0_0 inb_S2x8x4096_S1x8x512_0_0_0 inb_S2x8x4096_S1x8x512_1_0_0 s hs fun y => (h y).1,
    ran_of i a4 h4 a7 x0 x1 x2 Y 1 _ _ rfl rfl _ _ _ _ _ _ rfl rfl rfl rfl inb_S1x2x8x4096_S1x1x8x512_0_0_0_512 inb_S1x2x8x4096_S1x1x8x512_0_1_0_512 inb_S2x8x4096_S1x8x512_0_0_512 inb_S2x8x4096_S1x8x512_1_0_512 s (fun z u q hq => hs z u q (by omega)) fun y => (h y).2⟩

theorem end2_run (s : FVec Ideal S2x8x4096 .f32) (hX : a6.view.read (Elt Ideal) X = enterBuf x0 x1) (hs : Agrees a7 Y s 1024) :
    Ran i x0 x1 x2 s 2 (end2 c i a2 h2 a3 h3 a4 h4 a5 h5 a6 h6 a7 h7 x2 X Y).1 (end2 c i a2 h2 a3 h3 a4 h4 a5 h5 a6 h6 a7 h7 x2 X Y).2.1 ∧ Ran i x0 x1 x2 s 3 (end2 c i a2 h2 a3 h3 a4 h4 a5 h5 a6 h6 a7 h7 x2 X Y).2.2.1 (end2 c i a2 h2 a3 h3 a4 h4 a5 h5 a6 h6 a7 h7 x2 X Y).2.2.2 := by
  have h := loop2 c i a2 h2 a3 h3 a4 h4 a5 h5 a6 h6 a7 h7 (Scalar.subi 1#32 (BitVec.ofNat 32 (i 0))) (coef (coefAt a4 h4 x2 ![0, 0, 0, 1024] inb_S1x2x8x4096_S1x1x8x512_0_0_0_1024)) (coef (coefAt a4 h4 x2 ![0, 1, 0, 1024] inb_S1x2x8x4096_S1x1x8x512_0_1_0_1024)) (coef (coefAt a4 h4 x2 ![0, 0, 0, 1536] inb_S1x2x8x4096_S1x1x8x512_0_0_0_1536)) (coef (coefAt a4 h4 x2 ![0, 1, 0, 1536] inb_S1x2x8x4096_S1x1x8x512_0_1_0_1536)) X ((stateAt a7 Y ![0, 0, 1024] inb_S2x8x4096_S1x8x512_0_0_1024), (stateAt a7 Y ![1, 0, 1024] inb_S2x8x4096_S1x8x512_1_0_1024), (stateAt a7 Y ![0, 0, 1536] inb_S2x8x4096_S1x8x512_0_0_1536), (stateAt a7 Y ![1, 0, 1536] inb_S2x8x4096_S1x8x512_1_0_1536))
  dsimp only at h
  rw [hX] at h
  exact ⟨ran_of i a4 h4 a7 x0 x1 x2 Y 2 _ _ rfl rfl _ _ _ _ _ _ rfl rfl rfl rfl inb_S1x2x8x4096_S1x1x8x512_0_0_0_1024 inb_S1x2x8x4096_S1x1x8x512_0_1_0_1024 inb_S2x8x4096_S1x8x512_0_0_1024 inb_S2x8x4096_S1x8x512_1_0_1024 s hs fun y => (h y).1,
    ran_of i a4 h4 a7 x0 x1 x2 Y 3 _ _ rfl rfl _ _ _ _ _ _ rfl rfl rfl rfl inb_S1x2x8x4096_S1x1x8x512_0_0_0_1536 inb_S1x2x8x4096_S1x1x8x512_0_1_0_1536 inb_S2x8x4096_S1x8x512_0_0_1536 inb_S2x8x4096_S1x8x512_1_0_1536 s (fun z u q hq => hs z u q (by omega)) fun y => (h y).2⟩

theorem end3_run (s : FVec Ideal S2x8x4096 .f32) (hX : a6.view.read (Elt Ideal) X = enterBuf x0 x1) (hs : Agrees a7 Y s 2048) :
    Ran i x0 x1 x2 s 4 (end3 c i a2 h2 a3 h3 a4 h4 a5 h5 a6 h6 a7 h7 x2 X Y).1 (end3 c i a2 h2 a3 h3 a4 h4 a5 h5 a6 h6 a7 h7 x2 X Y).2.1 ∧ Ran i x0 x1 x2 s 5 (end3 c i a2 h2 a3 h3 a4 h4 a5 h5 a6 h6 a7 h7 x2 X Y).2.2.1 (end3 c i a2 h2 a3 h3 a4 h4 a5 h5 a6 h6 a7 h7 x2 X Y).2.2.2 := by
  have h := loop3 c i a2 h2 a3 h3 a4 h4 a5 h5 a6 h6 a7 h7 (Scalar.subi 1#32 (BitVec.ofNat 32 (i 0))) (coef (coefAt a4 h4 x2 ![0, 0, 0, 2048] inb_S1x2x8x4096_S1x1x8x512_0_0_0_2048)) (coefAt a4 h4 x2 ![0, 1, 0, 2048] inb_S1x2x8x4096_S1x1x8x512_0_1_0_2048) (coefAt a4 h4 x2 ![0, 0, 0, 2560] inb_S1x2x8x4096_S1x1x8x512_0_0_0_2560) (coefAt a4 h4 x2 ![0, 1, 0, 2560] inb_S1x2x8x4096_S1x1x8x512_0_1_0_2560) X ((stateAt a7 Y ![0, 0, 2048] inb_S2x8x4096_S1x8x512_0_0_2048), (stateAt a7 Y ![1, 0, 2048] inb_S2x8x4096_S1x8x512_1_0_2048), (stateAt a7 Y ![0, 0, 2560] inb_S2x8x4096_S1x8x512_0_0_2560), (stateAt a7 Y ![1, 0, 2560] inb_S2x8x4096_S1x8x512_1_0_2560))
  dsimp only at h
  rw [hX] at h
  exact ⟨ran_of i a4 h4 a7 x0 x1 x2 Y 4 _ _ rfl rfl _ _ _ _ _ _ rfl rfl rfl rfl inb_S1x2x8x4096_S1x1x8x512_0_0_0_2048 inb_S1x2x8x4096_S1x1x8x512_0_1_0_2048 inb_S2x8x4096_S1x8x512_0_0_2048 inb_S2x8x4096_S1x8x512_1_0_2048 s hs fun y => (h y).1,
    ran_of i a4 h4 a7 x0 x1 x2 Y 5 _ _ rfl rfl _ _ _ _ _ _ rfl rfl rfl rfl inb_S1x2x8x4096_S1x1x8x512_0_0_0_2560 inb_S1x2x8x4096_S1x1x8x512_0_1_0_2560 inb_S2x8x4096_S1x8x512_0_0_2560 inb_S2x8x4096_S1x8x512_1_0_2560 s (fun z u q hq => hs z u q (by omega)) fun y => (h y).2⟩

theorem end4_run (u u' : FVec Ideal S8x512 .f32) (s : FVec Ideal S2x8x4096 .f32) (hX : a6.view.read (Elt Ideal) X = enterBuf x0 x1) (hs : Agrees a7 Y s 3072) :
    Ran i x0 x1 x2 s 6 (end4 c i a2 h2 a3 h3 a4 h4 a5 h5 a6 h6 a7 h7 x2 X Y u u').1 (end4 c i a2 h2 a3 h3 a4 h4 a5 h5 a6 h6 a7 h7 x2 X Y u u').2.1 ∧ Ran i x0 x1 x2 s 7 (end4 c i a2 h2 a3 h3 a4 h4 a5 h5 a6 h6 a7 h7 x2 X Y u u').2.2.1 (end4 c i a2 h2 a3 h3 a4 h4 a5 h5 a6 h6 a7 h7 x2 X Y u u').2.2.2 := by
  have h := loop4 c i a2 h2 a3 h3 a4 h4 a5 h5 a6 h6 a7 h7 (Scalar.subi 1#32 (BitVec.ofNat 32 (i 0))) u u' (coefAt a4 h4 x2 ![0, 0, 0, 3072] inb_S1x2x8x4096_S1x1x8x512_0_0_0_3072) (coefAt a4 h4 x2 ![0, 1, 0, 3072] inb_S1x2x8x4096_S1x1x8x512_0_1_0_3072) (coefAt a4 h4 x2 ![0, 0, 0, 3584] inb_S1x2x8x4096_S1x1x8x512_0_0_0_3584) (coefAt a4 h4 x2 ![0, 1, 0, 3584] inb_S1x2x8x4096_S1x1x8x512_0_1_0_3584) X ((stateAt a7 Y ![0, 0, 3072] inb_S2x8x4096_S1x8x512_0_0_3072), (stateAt a7 Y ![1, 0, 3072] inb_S2x8x4096_S1x8x512_1_0_3072), (stateAt a7 Y ![0, 0, 3584] inb_S2x8x4096_S1x8x512_0_0_3584), (stateAt a7 Y ![1, 0, 3584] inb_S2x8x4096_S1x8x512_1_0_3584))
  dsimp only at h
  rw [hX] at h
  exact ⟨ran_of i a4 h4 a7 x0 x1 x2 Y 6 _ _ rfl rfl _ _ _ _ _ _ rfl rfl rfl rfl inb_S1x2x8x4096_S1x1x8x512_0_0_0_3072 inb_S1x2x8x4096_S1x1x8x512_0_1_0_3072 inb_S2x8x4096_S1x8x512_0_0_3072 inb_S2x8x4096_S1x8x512_1_0_3072 s hs fun y => (h y).1,
    ran_of i a4 h4 a7 x0 x1 x2 Y 7 _ _ rfl rfl _ _ _ _ _ _ rfl rfl rfl rfl inb_S1x2x8x4096_S1x1x8x512_0_0_0_3584 inb_S1x2x8x4096_S1x1x8x512_0_1_0_3584 inb_S2x8x4096_S1x8x512_0_0_3584 inb_S2x8x4096_S1x8x512_1_0_3584 s (fun z u q hq => hs z u q (by omega)) fun y => (h y).2⟩

/-- The stores of octets 0 and 1, last first. -/
def quad1 (v : Four) : List (View.Piece (Elt Ideal) S2x8x4096 .f32) :=
  [⟨Rect.unit (s := S2x8x4096) ![1, 0, 512] S1x8x512.size inb_S2x8x4096_S1x8x512_1_0_512, put v.2.2.2⟩,
    ⟨Rect.unit (s := S2x8x4096) ![0, 0, 512] S1x8x512.size inb_S2x8x4096_S1x8x512_0_0_512, put v.2.2.1⟩,
    ⟨Rect.unit (s := S2x8x4096) ![1, 0, 0] S1x8x512.size inb_S2x8x4096_S1x8x512_1_0_0, put v.2.1⟩,
    ⟨Rect.unit (s := S2x8x4096) ![0, 0, 0] S1x8x512.size inb_S2x8x4096_S1x8x512_0_0_0, put v.1⟩]

theorem quad1_eq (s : FVec Ideal S2x8x4096 .f32) (v : Four) (h : Ran i x0 x1 x2 s 0 v.1 v.2.1 ∧ Ran i x0 x1 x2 s 1 v.2.2.1 v.2.2.2) :
    ∀ p ∈ quad1 v, ∀ y, p.2 y = blkState i x0 x1 x2 s (p.1.emb y) := by
  intro p hp
  unfold quad1 at hp
  simp only [List.mem_cons, List.not_mem_nil, or_false] at hp
  rcases hp with rfl | rfl | rfl | rfl
  · exact (put_of_ran i x0 x1 x2 s 1 (by omega) _ _ h.2 _ _ rfl rfl inb_S2x8x4096_S1x8x512_0_0_512 inb_S2x8x4096_S1x8x512_1_0_512).2
  · exact (put_of_ran i x0 x1 x2 s 1 (by omega) _ _ h.2 _ _ rfl rfl inb_S2x8x4096_S1x8x512_0_0_512 inb_S2x8x4096_S1x8x512_1_0_512).1
  · exact (put_of_ran i x0 x1 x2 s 0 (by omega) _ _ h.1 _ _ rfl rfl inb_S2x8x4096_S1x8x512_0_0_0 inb_S2x8x4096_S1x8x512_1_0_0).2
  · exact (put_of_ran i x0 x1 x2 s 0 (by omega) _ _ h.1 _ _ rfl rfl inb_S2x8x4096_S1x8x512_0_0_0 inb_S2x8x4096_S1x8x512_1_0_0).1

/-- These stores touch no later octet. -/
theorem quad1_agrees (v : Four) (f : a7.view.ty.Contents (Elt Ideal)) (L : List (View.Piece (Elt Ideal) S2x8x4096 .f32)) (s : FVec Ideal S2x8x4096 .f32) (n : ℕ) (hn : n ≤ 1024)
    (h : Agrees a7 (a7.view.writes (Elt Ideal) f L) s n) : Agrees a7 (a7.view.writes (Elt Ideal) f (quad1 v ++ L)) s 1024 := by
  intro z u q hq
  refine Eq.trans ?_ (h z u q (by omega))
  unfold quad1
  simp only [List.cons_append, List.nil_append]
  rw [View.read_writes_cons_unit_of_not_mem _ _ _ _ _ _ rfl 2 (Or.inr (by show 512 + 512 ≤ q.val; omega)),
    View.read_writes_cons_unit_of_not_mem _ _ _ _ _ _ rfl 2 (Or.inr (by show 512 + 512 ≤ q.val; omega)),
    View.read_writes_cons_unit_of_not_mem _ _ _ _ _ _ rfl 2 (Or.inr (by show 0 + 512 ≤ q.val; omega)),
    View.read_writes_cons_unit_of_not_mem _ _ _ _ _ _ rfl 2 (Or.inr (by show 0 + 512 ≤ q.val; omega))]

/-- The stores of octets 2 and 3, last first. -/
def quad2 (v : Four) : List (View.Piece (Elt Ideal) S2x8x4096 .f32) :=
  [⟨Rect.unit (s := S2x8x4096) ![1, 0, 1536] S1x8x512.size inb_S2x8x4096_S1x8x512_1_0_1536, put v.2.2.2⟩,
    ⟨Rect.unit (s := S2x8x4096) ![0, 0, 1536] S1x8x512.size inb_S2x8x4096_S1x8x512_0_0_1536, put v.2.2.1⟩,
    ⟨Rect.unit (s := S2x8x4096) ![1, 0, 1024] S1x8x512.size inb_S2x8x4096_S1x8x512_1_0_1024, put v.2.1⟩,
    ⟨Rect.unit (s := S2x8x4096) ![0, 0, 1024] S1x8x512.size inb_S2x8x4096_S1x8x512_0_0_1024, put v.1⟩]

theorem quad2_eq (s : FVec Ideal S2x8x4096 .f32) (v : Four) (h : Ran i x0 x1 x2 s 2 v.1 v.2.1 ∧ Ran i x0 x1 x2 s 3 v.2.2.1 v.2.2.2) :
    ∀ p ∈ quad2 v, ∀ y, p.2 y = blkState i x0 x1 x2 s (p.1.emb y) := by
  intro p hp
  unfold quad2 at hp
  simp only [List.mem_cons, List.not_mem_nil, or_false] at hp
  rcases hp with rfl | rfl | rfl | rfl
  · exact (put_of_ran i x0 x1 x2 s 3 (by omega) _ _ h.2 _ _ rfl rfl inb_S2x8x4096_S1x8x512_0_0_1536 inb_S2x8x4096_S1x8x512_1_0_1536).2
  · exact (put_of_ran i x0 x1 x2 s 3 (by omega) _ _ h.2 _ _ rfl rfl inb_S2x8x4096_S1x8x512_0_0_1536 inb_S2x8x4096_S1x8x512_1_0_1536).1
  · exact (put_of_ran i x0 x1 x2 s 2 (by omega) _ _ h.1 _ _ rfl rfl inb_S2x8x4096_S1x8x512_0_0_1024 inb_S2x8x4096_S1x8x512_1_0_1024).2
  · exact (put_of_ran i x0 x1 x2 s 2 (by omega) _ _ h.1 _ _ rfl rfl inb_S2x8x4096_S1x8x512_0_0_1024 inb_S2x8x4096_S1x8x512_1_0_1024).1

/-- These stores touch no later octet. -/
theorem quad2_agrees (v : Four) (f : a7.view.ty.Contents (Elt Ideal)) (L : List (View.Piece (Elt Ideal) S2x8x4096 .f32)) (s : FVec Ideal S2x8x4096 .f32) (n : ℕ) (hn : n ≤ 2048)
    (h : Agrees a7 (a7.view.writes (Elt Ideal) f L) s n) : Agrees a7 (a7.view.writes (Elt Ideal) f (quad2 v ++ L)) s 2048 := by
  intro z u q hq
  refine Eq.trans ?_ (h z u q (by omega))
  unfold quad2
  simp only [List.cons_append, List.nil_append]
  rw [View.read_writes_cons_unit_of_not_mem _ _ _ _ _ _ rfl 2 (Or.inr (by show 1536 + 512 ≤ q.val; omega)),
    View.read_writes_cons_unit_of_not_mem _ _ _ _ _ _ rfl 2 (Or.inr (by show 1536 + 512 ≤ q.val; omega)),
    View.read_writes_cons_unit_of_not_mem _ _ _ _ _ _ rfl 2 (Or.inr (by show 1024 + 512 ≤ q.val; omega)),
    View.read_writes_cons_unit_of_not_mem _ _ _ _ _ _ rfl 2 (Or.inr (by show 1024 + 512 ≤ q.val; omega))]

/-- The stores of octets 4 and 5, last first. -/
def quad3 (v : Four) : List (View.Piece (Elt Ideal) S2x8x4096 .f32) :=
  [⟨Rect.unit (s := S2x8x4096) ![1, 0, 2560] S1x8x512.size inb_S2x8x4096_S1x8x512_1_0_2560, put v.2.2.2⟩,
    ⟨Rect.unit (s := S2x8x4096) ![0, 0, 2560] S1x8x512.size inb_S2x8x4096_S1x8x512_0_0_2560, put v.2.2.1⟩,
    ⟨Rect.unit (s := S2x8x4096) ![1, 0, 2048] S1x8x512.size inb_S2x8x4096_S1x8x512_1_0_2048, put v.2.1⟩,
    ⟨Rect.unit (s := S2x8x4096) ![0, 0, 2048] S1x8x512.size inb_S2x8x4096_S1x8x512_0_0_2048, put v.1⟩]

theorem quad3_eq (s : FVec Ideal S2x8x4096 .f32) (v : Four) (h : Ran i x0 x1 x2 s 4 v.1 v.2.1 ∧ Ran i x0 x1 x2 s 5 v.2.2.1 v.2.2.2) :
    ∀ p ∈ quad3 v, ∀ y, p.2 y = blkState i x0 x1 x2 s (p.1.emb y) := by
  intro p hp
  unfold quad3 at hp
  simp only [List.mem_cons, List.not_mem_nil, or_false] at hp
  rcases hp with rfl | rfl | rfl | rfl
  · exact (put_of_ran i x0 x1 x2 s 5 (by omega) _ _ h.2 _ _ rfl rfl inb_S2x8x4096_S1x8x512_0_0_2560 inb_S2x8x4096_S1x8x512_1_0_2560).2
  · exact (put_of_ran i x0 x1 x2 s 5 (by omega) _ _ h.2 _ _ rfl rfl inb_S2x8x4096_S1x8x512_0_0_2560 inb_S2x8x4096_S1x8x512_1_0_2560).1
  · exact (put_of_ran i x0 x1 x2 s 4 (by omega) _ _ h.1 _ _ rfl rfl inb_S2x8x4096_S1x8x512_0_0_2048 inb_S2x8x4096_S1x8x512_1_0_2048).2
  · exact (put_of_ran i x0 x1 x2 s 4 (by omega) _ _ h.1 _ _ rfl rfl inb_S2x8x4096_S1x8x512_0_0_2048 inb_S2x8x4096_S1x8x512_1_0_2048).1

/-- These stores touch no later octet. -/
theorem quad3_agrees (v : Four) (f : a7.view.ty.Contents (Elt Ideal)) (L : List (View.Piece (Elt Ideal) S2x8x4096 .f32)) (s : FVec Ideal S2x8x4096 .f32) (n : ℕ) (hn : n ≤ 3072)
    (h : Agrees a7 (a7.view.writes (Elt Ideal) f L) s n) : Agrees a7 (a7.view.writes (Elt Ideal) f (quad3 v ++ L)) s 3072 := by
  intro z u q hq
  refine Eq.trans ?_ (h z u q (by omega))
  unfold quad3
  simp only [List.cons_append, List.nil_append]
  rw [View.read_writes_cons_unit_of_not_mem _ _ _ _ _ _ rfl 2 (Or.inr (by show 2560 + 512 ≤ q.val; omega)),
    View.read_writes_cons_unit_of_not_mem _ _ _ _ _ _ rfl 2 (Or.inr (by show 2560 + 512 ≤ q.val; omega)),
    View.read_writes_cons_unit_of_not_mem _ _ _ _ _ _ rfl 2 (Or.inr (by show 2048 + 512 ≤ q.val; omega)),
    View.read_writes_cons_unit_of_not_mem _ _ _ _ _ _ rfl 2 (Or.inr (by show 2048 + 512 ≤ q.val; omega))]

/-- The stores of octets 6 and 7, last first. -/
def quad4 (v : Four) : List (View.Piece (Elt Ideal) S2x8x4096 .f32) :=
  [⟨Rect.unit (s := S2x8x4096) ![1, 0, 3584] S1x8x512.size inb_S2x8x4096_S1x8x512_1_0_3584, put v.2.2.2⟩,
    ⟨Rect.unit (s := S2x8x4096) ![0, 0, 3584] S1x8x512.size inb_S2x8x4096_S1x8x512_0_0_3584, put v.2.2.1⟩,
    ⟨Rect.unit (s := S2x8x4096) ![1, 0, 3072] S1x8x512.size inb_S2x8x4096_S1x8x512_1_0_3072, put v.2.1⟩,
    ⟨Rect.unit (s := S2x8x4096) ![0, 0, 3072] S1x8x512.size inb_S2x8x4096_S1x8x512_0_0_3072, put v.1⟩]

theorem quad4_eq (s : FVec Ideal S2x8x4096 .f32) (v : Four) (h : Ran i x0 x1 x2 s 6 v.1 v.2.1 ∧ Ran i x0 x1 x2 s 7 v.2.2.1 v.2.2.2) :
    ∀ p ∈ quad4 v, ∀ y, p.2 y = blkState i x0 x1 x2 s (p.1.emb y) := by
  intro p hp
  unfold quad4 at hp
  simp only [List.mem_cons, List.not_mem_nil, or_false] at hp
  rcases hp with rfl | rfl | rfl | rfl
  · exact (put_of_ran i x0 x1 x2 s 7 (by omega) _ _ h.2 _ _ rfl rfl inb_S2x8x4096_S1x8x512_0_0_3584 inb_S2x8x4096_S1x8x512_1_0_3584).2
  · exact (put_of_ran i x0 x1 x2 s 7 (by omega) _ _ h.2 _ _ rfl rfl inb_S2x8x4096_S1x8x512_0_0_3584 inb_S2x8x4096_S1x8x512_1_0_3584).1
  · exact (put_of_ran i x0 x1 x2 s 6 (by omega) _ _ h.1 _ _ rfl rfl inb_S2x8x4096_S1x8x512_0_0_3072 inb_S2x8x4096_S1x8x512_1_0_3072).2
  · exact (put_of_ran i x0 x1 x2 s 6 (by omega) _ _ h.1 _ _ rfl rfl inb_S2x8x4096_S1x8x512_0_0_3072 inb_S2x8x4096_S1x8x512_1_0_3072).1

/-- The sixteen stores of a block, last first, from what each loop finds in the carried buffer. -/
def blkPieces (Y1 Y2 Y3 Y4 : a7.view.ty.Contents (Elt Ideal)) : List (View.Piece (Elt Ideal) S2x8x4096 .f32) :=
  quad4 (end4 c i a2 h2 a3 h3 a4 h4 a5 h5 a6 h6 a7 h7 x2 X Y4 (end3 c i a2 h2 a3 h3 a4 h4 a5 h5 a6 h6 a7 h7 x2 X Y3).2.2.1 (end3 c i a2 h2 a3 h3 a4 h4 a5 h5 a6 h6 a7 h7 x2 X Y3).2.2.2) ++ (quad3 (end3 c i a2 h2 a3 h3 a4 h4 a5 h5 a6 h6 a7 h7 x2 X Y3) ++ (quad2 (end2 c i a2 h2 a3 h3 a4 h4 a5 h5 a6 h6 a7 h7 x2 X Y2) ++ quad1 (end1 c i a2 h2 a3 h3 a4 h4 a5 h5 a6 h6 a7 h7 x2 X Y1)))

/-- Each of the sixteen stores is the block's result at its place. -/
theorem blkPieces_eq (Y1 Y2 Y3 Y4 : a7.view.ty.Contents (Elt Ideal)) (s : FVec Ideal S2x8x4096 .f32) (hX : a6.view.read (Elt Ideal) X = enterBuf x0 x1)
    (s1 : Agrees a7 Y1 s 0) (s2 : Agrees a7 Y2 s 1024) (s3 : Agrees a7 Y3 s 2048) (s4 : Agrees a7 Y4 s 3072) :
    ∀ p ∈ blkPieces c i a2 h2 a3 h3 a4 h4 a5 h5 a6 h6 a7 h7 x2 X Y1 Y2 Y3 Y4, ∀ y, p.2 y = blkState i x0 x1 x2 s (p.1.emb y) := by
  intro p hp
  unfold blkPieces at hp
  rcases List.mem_append.1 hp with h | h
  · exact quad4_eq i x0 x1 x2 s _ (end4_run c i a2 h2 a3 h3 a4 h4 a5 h5 a6 h6 a7 h7 x0 x1 x2 X Y4 _ _ s hX s4) p h
  rcases List.mem_append.1 h with h | h
  · exact quad3_eq i x0 x1 x2 s _ (end3_run c i a2 h2 a3 h3 a4 h4 a5 h5 a6 h6 a7 h7 x0 x1 x2 X Y3 s hX s3) p h
  rcases List.mem_append.1 h with h | h
  · exact quad2_eq i x0 x1 x2 s _ (end2_run c i a2 h2 a3 h3 a4 h4 a5 h5 a6 h6 a7 h7 x0 x1 x2 X Y2 s hX s2) p h
  · exact quad1_eq i x0 x1 x2 s _ (end1_run c i a2 h2 a3 h3 a4 h4 a5 h5 a6 h6 a7 h7 x0 x1 x2 X Y1 s hX s1) p h

theorem blkPieces_cover (Y1 Y2 Y3 Y4 : a7.view.ty.Contents (Elt Ideal)) : ∀ y : S2x8x4096.Idx, ∃ p ∈ blkPieces c i a2 h2 a3 h3 a4 h4 a5 h5 a6 h6 a7 h7 x2 X Y1 Y2 Y3 Y4, y ∈ p.1.set :=
  View.cover_of_tiledL _ S1x8x512.size (by sl_kernel_rfl)

/-- What the products leave in the buffer of entering values. -/
def entered : a6.view.ty.Contents (Elt Ideal) :=
  a6.view.writes (Elt Ideal) a6.view.junk (kernelRun0_B.sl.HS0_8 (F := Ideal) c a2 h2 a3 h3 x0 x1)

/-- A middle point's stores. -/
theorem stores_middle (hc0 : ¬cond0_0 i) (hc1 : ¬cond0_1 i) (xs : Vec Ideal S2x8x4096 .f32) :
    (kernelRun0_B (F := Ideal) c i a2 h2 a3 h3 a4 h4 a5 h5 a6 h6 a7 h7 hc0 hc1 x0 x1 x2 xs).2.1
      = blkPieces c i a2 h2 a3 h3 a4 h4 a5 h5 a6 h6 a7 h7 x2 (entered c a2 h2 a3 h3 a6 x0 x1) (h7.unread xs) (h7.unread xs) (h7.unread xs) (h7.unread xs) := rfl

/-- A last point's stores. -/
theorem stores_last (hc0 : ¬cond0_0 i) (hc1 : cond0_1 i) (xs : Vec Ideal S2x8x4096 .f32) :
    (kernelRun0_C (F := Ideal) c i a2 h2 a3 h3 a4 h4 a5 h5 a6 h6 a7 h7 hc0 hc1 x0 x1 x2 xs).2.1
      = blkPieces c i a2 h2 a3 h3 a4 h4 a5 h5 a6 h6 a7 h7 x2 (entered c a2 h2 a3 h3 a6 x0 x1) (h7.unread xs) (h7.unread xs) (h7.unread xs) (h7.unread xs) := rfl

/-- The states' start, and what the first, second and third loop add to it. -/
def from1 : List (View.Piece (Elt Ideal) S2x8x4096 .f32) :=
  [⟨Rect.unit (s := S2x8x4096) ![0, 0, 0] S2x8x4096.size inb_S2x8x4096_S2x8x4096_0_0_0, k0_pay50 (F := Ideal)⟩]

def from2 : List (View.Piece (Elt Ideal) S2x8x4096 .f32) := quad1 (end1 c i a2 h2 a3 h3 a4 h4 a5 h5 a6 h6 a7 h7 x2 X (a7.view.writes (Elt Ideal) a7.view.junk from1)) ++ from1

def from3 : List (View.Piece (Elt Ideal) S2x8x4096 .f32) := quad2 (end2 c i a2 h2 a3 h3 a4 h4 a5 h5 a6 h6 a7 h7 x2 X (a7.view.writes (Elt Ideal) a7.view.junk (from2 c i a2 h2 a3 h3 a4 h4 a5 h5 a6 h6 a7 h7 x2 X))) ++ from2 c i a2 h2 a3 h3 a4 h4 a5 h5 a6 h6 a7 h7 x2 X

def from4 : List (View.Piece (Elt Ideal) S2x8x4096 .f32) := quad3 (end3 c i a2 h2 a3 h3 a4 h4 a5 h5 a6 h6 a7 h7 x2 X (a7.view.writes (Elt Ideal) a7.view.junk (from3 c i a2 h2 a3 h3 a4 h4 a5 h5 a6 h6 a7 h7 x2 X))) ++ from3 c i a2 h2 a3 h3 a4 h4 a5 h5 a6 h6 a7 h7 x2 X

theorem from1_agrees : Agrees a7 (a7.view.writes (Elt Ideal) a7.view.junk from1) (fun _ => (0 : EReal)) 0 := by
  intro z u q _
  unfold from1
  rw [View.read_writes_full]
  unfold k0_pay50
  pointwise

/-- A first point's stores. -/
theorem stores_first (hc0 : cond0_0 i) (hc1 : ¬cond0_1 i) :
    (kernelRun0_A (F := Ideal) c i a2 h2 a3 h3 a4 h4 a5 h5 a6 h6 a7 h7 hc0 hc1 x0 x1 x2).2.1 = blkPieces c i a2 h2 a3 h3 a4 h4 a5 h5 a6 h6 a7 h7 x2 (entered c a2 h2 a3 h3 a6 x0 x1)
      (a7.view.writes (Elt Ideal) a7.view.junk from1) (a7.view.writes (Elt Ideal) a7.view.junk (from2 c i a2 h2 a3 h3 a4 h4 a5 h5 a6 h6 a7 h7 x2 (entered c a2 h2 a3 h3 a6 x0 x1)))
      (a7.view.writes (Elt Ideal) a7.view.junk (from3 c i a2 h2 a3 h3 a4 h4 a5 h5 a6 h6 a7 h7 x2 (entered c a2 h2 a3 h3 a6 x0 x1))) (a7.view.writes (Elt Ideal) a7.view.junk (from4 c i a2 h2 a3 h3 a4 h4 a5 h5 a6 h6 a7 h7 x2 (entered c a2 h2 a3 h3 a6 x0 x1))) ++ from1 := rfl

theorem agrees_unread (xs : FVec Ideal S2x8x4096 .f32) (n : ℕ) : Agrees a7 (h7.unread xs) xs n := fun z u q _ =>
  congrFun (h7.read_unread (Val := Elt Ideal) xs) (ix3 z u q)

/-- A middle point carries on the states. -/
theorem sout_middle (hc0 : ¬cond0_0 i) (hc1 : ¬cond0_1 i) (xs : Vec Ideal S2x8x4096 .f32) :
    sout0_B_1 (F := Ideal) c i a2 h2 a3 h3 a4 h4 a5 h5 a6 h6 a7 h7 hc0 hc1 x0 x1 x2 xs = blkState i x0 x1 x2 xs := by
  unfold sout0_B_1
  rw [View.read_writes_eq_canon _ _ _ (scover0_B_1 (F := Ideal) c i a2 h2 a3 h3 a4 h4 a5 h5 a6 h6 a7 h7 hc0 hc1 x0 x1 x2 xs), stores_middle]
  funext y
  exact View.canon_apply_of_pieces _ _ (blkPieces_eq c i a2 h2 a3 h3 a4 h4 a5 h5 a6 h6 a7 h7 x0 x1 x2 _ _ _ _ _ xs (enter_read c a2 h2 a3 h3 a6 x0 x1 _)
    (agrees_unread a7 h7 xs _) (agrees_unread a7 h7 xs _) (agrees_unread a7 h7 xs _) (agrees_unread a7 h7 xs _)) y (blkPieces_cover c i a2 h2 a3 h3 a4 h4 a5 h5 a6 h6 a7 h7 x2 _ _ _ _ _ y)

/-- A last point carries on the states. -/
theorem sout_last (hc0 : ¬cond0_0 i) (hc1 : cond0_1 i) (xs : Vec Ideal S2x8x4096 .f32) :
    sout0_C_1 (F := Ideal) c i a2 h2 a3 h3 a4 h4 a5 h5 a6 h6 a7 h7 hc0 hc1 x0 x1 x2 xs = blkState i x0 x1 x2 xs := by
  unfold sout0_C_1
  rw [View.read_writes_eq_canon _ _ _ (scover0_C_1 (F := Ideal) c i a2 h2 a3 h3 a4 h4 a5 h5 a6 h6 a7 h7 hc0 hc1 x0 x1 x2 xs), stores_last]
  funext y
  exact View.canon_apply_of_pieces _ _ (blkPieces_eq c i a2 h2 a3 h3 a4 h4 a5 h5 a6 h6 a7 h7 x0 x1 x2 _ _ _ _ _ xs (enter_read c a2 h2 a3 h3 a6 x0 x1 _)
    (agrees_unread a7 h7 xs _) (agrees_unread a7 h7 xs _) (agrees_unread a7 h7 xs _) (agrees_unread a7 h7 xs _)) y (blkPieces_cover c i a2 h2 a3 h3 a4 h4 a5 h5 a6 h6 a7 h7 x2 _ _ _ _ _ y)

/-- A first point starts the states at zero. -/
theorem sout_first (hc0 : cond0_0 i) (hc1 : ¬cond0_1 i) :
    sout0_A_1 (F := Ideal) c i a2 h2 a3 h3 a4 h4 a5 h5 a6 h6 a7 h7 hc0 hc1 x0 x1 x2 = blkState i x0 x1 x2 (fun _ => (0 : EReal)) := by
  unfold sout0_A_1
  rw [View.read_writes_eq_canon _ _ _ (scover0_A_1 (F := Ideal) c i a2 h2 a3 h3 a4 h4 a5 h5 a6 h6 a7 h7 hc0 hc1 x0 x1 x2), stores_first]
  funext y
  have a1 := from1_agrees a7
  have a2' := quad1_agrees a7 (end1 c i a2 h2 a3 h3 a4 h4 a5 h5 a6 h6 a7 h7 x2 (entered c a2 h2 a3 h3 a6 x0 x1) (a7.view.writes (Elt Ideal) a7.view.junk from1)) a7.view.junk from1 _ 0 (by omega) a1
  have a3' := quad2_agrees a7 (end2 c i a2 h2 a3 h3 a4 h4 a5 h5 a6 h6 a7 h7 x2 (entered c a2 h2 a3 h3 a6 x0 x1) (a7.view.writes (Elt Ideal) a7.view.junk (from2 c i a2 h2 a3 h3 a4 h4 a5 h5 a6 h6 a7 h7 x2 (entered c a2 h2 a3 h3 a6 x0 x1)))) a7.view.junk (from2 c i a2 h2 a3 h3 a4 h4 a5 h5 a6 h6 a7 h7 x2 (entered c a2 h2 a3 h3 a6 x0 x1)) _ _ (by omega) a2'
  have a4' := quad3_agrees a7 (end3 c i a2 h2 a3 h3 a4 h4 a5 h5 a6 h6 a7 h7 x2 (entered c a2 h2 a3 h3 a6 x0 x1) (a7.view.writes (Elt Ideal) a7.view.junk (from3 c i a2 h2 a3 h3 a4 h4 a5 h5 a6 h6 a7 h7 x2 (entered c a2 h2 a3 h3 a6 x0 x1)))) a7.view.junk (from3 c i a2 h2 a3 h3 a4 h4 a5 h5 a6 h6 a7 h7 x2 (entered c a2 h2 a3 h3 a6 x0 x1)) _ _ (by omega) a3'
  exact View.canon_append_of_pieces _ _ _ (blkPieces_eq c i a2 h2 a3 h3 a4 h4 a5 h5 a6 h6 a7 h7 x0 x1 x2 _ _ _ _ _ _ (enter_read c a2 h2 a3 h3 a6 x0 x1 _) a1 a2' a3' a4') y (blkPieces_cover c i a2 h2 a3 h3 a4 h4 a5 h5 a6 h6 a7 h7 x2 _ _ _ _ _ y)

theorem lift_apply (v : Vec Ideal S2x8x4096 .f32) (y : S1x2x8x4096.Idx) : k0_pay5 (F := Ideal) v y = v (ix3 (y 1) (y 2) (y 3)) := by
  obtain ⟨p, q, r, s, rfl⟩ : ∃ p q r s, y = ix4 p q r s := ⟨y 0, y 1, y 2, y 3, eq_ix4 y⟩
  unfold k0_pay5
  pointwise

/-- A last point's store into the output. -/
theorem stores_out (hc0 : ¬cond0_0 i) (hc1 : cond0_1 i) (xs : Vec Ideal S2x8x4096 .f32) :
    (kernelRun0_C (F := Ideal) c i a2 h2 a3 h3 a4 h4 a5 h5 a6 h6 a7 h7 hc0 hc1 x0 x1 x2 xs).1
      = [⟨Rect.unit (s := S1x2x8x4096) ![0, 0, 0, 0] S1x2x8x4096.size inb_S1x2x8x4096_S1x2x8x4096_0_0_0_0,
          k0_pay5 (F := Ideal) (a7.view.readCov (blkPieces c i a2 h2 a3 h3 a4 h4 a5 h5 a6 h6 a7 h7 x2 (entered c a2 h2 a3 h3 a6 x0 x1) (h7.unread xs) (h7.unread xs) (h7.unread xs) (h7.unread xs))
            (Rect.unit (s := S2x8x4096) ![0, 0, 0] S2x8x4096.size inb_S2x8x4096_S2x8x4096_0_0_0).toLoadRect)⟩] := rfl

/-- A last point hands the states to the output. -/
theorem out_last (hc0 : ¬cond0_0 i) (hc1 : cond0_1 i) (xs : Vec Ideal S2x8x4096 .f32) (y : S1x2x8x4096.Idx) :
    out0_C_3 (F := Ideal) c i a2 h2 a3 h3 a4 h4 a5 h5 a6 h6 a7 h7 hc0 hc1 x0 x1 x2 xs y = blkState i x0 x1 x2 xs (ix3 (y 1) (y 2) (y 3)) := by
  unfold out0_C_3
  rw [stores_out, View.read_writes_full]
  refine (lift_apply _ y).trans ?_
  rw [View.readCov_eq_canon _ _ _ fun j => blkPieces_cover c i a2 h2 a3 h3 a4 h4 a5 h5 a6 h6 a7 h7 x2 _ _ _ _ _ _]
  refine (View.canon_apply_of_pieces _ _ (blkPieces_eq c i a2 h2 a3 h3 a4 h4 a5 h5 a6 h6 a7 h7 x0 x1 x2 _ _ _ _ _ xs (enter_read c a2 h2 a3 h3 a6 x0 x1 _)
    (agrees_unread a7 h7 xs _) (agrees_unread a7 h7 xs _) (agrees_unread a7 h7 xs _) (agrees_unread a7 h7 xs _)) _ (blkPieces_cover c i a2 h2 a3 h3 a4 h4 a5 h5 a6 h6 a7 h7 x2 _ _ _ _ _ _)).trans ?_
  refine congrArg (blkState i x0 x1 x2 xs) (funext fun a => Fin.ext ?_)
  match a with
  | ⟨0, _⟩ => show 0 + 1 * (y 1).val = (y 1).val; omega
  | ⟨1, _⟩ => show 0 + 1 * (y 2).val = (y 2).val; omega
  | ⟨2, _⟩ => show 0 + 1 * (y 3).val = (y 3).val; omega

end Cert.Adj

end
-- ==== Proof.Adj.Sweep.lean ====
/- The sixteen blocks of a direction's sweep: what the kernel leaves is the recurrence run over all 512 tokens. -/
module

public import proofs.«01_k».proof.Proof.Adj.Spec
public import proofs.«01_k».proof.Proof.Adj.Block
public import proofs.«01_k».proof.Proof.Gen.KernelIdeal.Value

@[expose] public section

set_option maxRecDepth 16384

noncomputable section

namespace Cert.Adj

open Idealize.ShloMosaic Idealize.ShloMosaic.Tactic Idealize.ShloMosaic.TcCoe Cert.KernelIdeal Cert.KernelIdeal.Gen Cert.KernelIdeal.Value
open scoped BigOperators

variable (m : (ℓ : Loc nD τ sig) → Buf (Elt Ideal) ℓ) (c : Dev nD)

/-- The entry of the cotangent rows at token `t`, row `u` of eight, channel `e`; zero past the last row. -/
def rowAt (D : FVec Ideal S4608x1024 .f32) (t : ℕ) (u : Fin 8) (e : Fin 1024) : EReal :=
  if h : t < 512 then D (ix2 ⟨512 + 8 * t + u.val, by omega⟩ e) else 0

/-- The entering value of state column `q`, for row `o` of its octet's output matrix. -/
def entering (D : FVec Ideal S4608x1024 .f32) (C : FVec Ideal S2x8x1024x128 .bf16) (d : Fin 2) (u : Fin 8) (q : Fin 4096) (o : Fin 1024) (k : ℕ) : EReal :=
  ∑ l : Fin 128, rowAt D (tok d k) u ⟨q.val / 512 * 128 + l.val, by omega⟩ * C (ix4 d ⟨q.val / 512, by omega⟩ o l)

/-- State `(u, q)` of direction `d` after `n` steps. -/
def swept (D : FVec Ideal S4608x1024 .f32) (C : FVec Ideal S2x8x1024x128 .bf16) (A : FVec Ideal S2x2x8x4096 .f32) (d : Fin 2) (u : Fin 8) (q : Fin 4096) (n : ℕ) : EReal × EReal :=
  run (A (ix4 d 0 u q)) (A (ix4 d 1 u q)) (entering D C d u q ⟨q.val % 512, by omega⟩) (entering D C d u q ⟨512 + q.val % 512, by omega⟩) (0, 0) n

/-! ## The windows' block indices -/

theorem idxRows : ∀ t : Fin cfg0.N, win0_0.index t = ![2 + (if t.val / 16 = 0 then 15 - t.val % 16 else t.val % 16), 0] :=
  (by decide +kernel : ∀ t : Fin grid0.N, win0_0.index t = ![2 + (if t.val / 16 = 0 then 15 - t.val % 16 else t.val % 16), 0])

theorem idxDir : ∀ t : Fin cfg0.N, win0_1.index t = ![t.val / 16, 0, 0, 0] ∧ win0_2.index t = ![t.val / 16, 0, 0, 0]
    ∧ win0_3.index t = ![t.val / 16, 0, 0, 0] ∧ (grid0.coords t 0).val = t.val / 16 :=
  (by decide +kernel : ∀ t : Fin grid0.N, win0_1.index t = ![t.val / 16, 0, 0, 0] ∧ win0_2.index t = ![t.val / 16, 0, 0, 0]
    ∧ win0_3.index t = ![t.val / 16, 0, 0, 0] ∧ (grid0.coords t 0).val = t.val / 16)

/-- Point `t`'s direction. -/
def dirOf (t : Fin cfg0.N) : Fin 2 := ⟨t.val / 16, by have h : t.val < 32 := lt_of_lt_of_eq t.isLt (by decide); omega⟩

/-! ## The blocks -/

theorem rows_block (t : Fin cfg0.N) (n : ℕ) (hn : n < 32) (u : Fin 8) (e : Fin 1024) :
    (iblk m c 0 t : FVec Ideal S256x1024 .f32) (ix2 ⟨8 * pos (grid0.coords t) n + u.val, by unfold pos; split <;> omega⟩ e)
      = rowAt (V m c main_v6) (tok (dirOf t) (32 * (t.val % 16) + n)) u e := by
  have hk : tok (dirOf t) (32 * (t.val % 16) + n) < 512 := by unfold tok; split <;> omega
  unfold rowAt
  rw [dif_pos hk]
  unfold iblk; rw [View.read_apply]
  show V m c main_v6 _ = _
  refine congrArg (V m c main_v6) ?_
  have hd : (grid0.coords t 0).val = t.val / 16 := (idxDir t).2.2.2
  have hp : (2 + (if t.val / 16 = 0 then 15 - t.val % 16 else t.val % 16)) * 256 + (8 * pos (grid0.coords t) n + u.val)
      = 512 + 8 * tok (dirOf t) (32 * (t.val % 16) + n) + u.val := by
    unfold pos tok dirOf
    rw [hd]
    dsimp only
    split <;> omega
  refine funext fun a => Fin.ext ?_
  match a with
  | ⟨0, _⟩ =>
    show win0_0.index t 0 * 256 + 1 * (8 * pos (grid0.coords t) n + u.val) = 512 + 8 * tok (dirOf t) (32 * (t.val % 16) + n) + u.val
    rw [idxRows]
    show (2 + (if t.val / 16 = 0 then 15 - t.val % 16 else t.val % 16)) * 256 + 1 * _ = _
    omega
  | ⟨1, _⟩ =>
    show win0_0.index t 1 * 1024 + 1 * e.val = e.val
    rw [idxRows]
    show 0 * 1024 + 1 * e.val = e.val
    rw [Nat.zero_mul, Nat.zero_add, Nat.one_mul]

theorem mats_block (t : Fin cfg0.N) (o : Fin 8) (r : Fin 1024) (k : Fin 128) :
    (iblk m c 1 t : FVec Ideal S1x8x1024x128 .bf16) (ix4 0 o r k) = (V m c main_v31 : FVec Ideal S2x8x1024x128 .bf16) (ix4 (dirOf t) o r k) := by
  unfold iblk; rw [View.read_apply]
  show V m c main_v31 _ = _
  refine congrArg (V m c main_v31) ?_
  blk_ext [(idxDir t).1, dirOf]

theorem coefs_block (t : Fin cfg0.N) (z : Fin 2) (u : Fin 8) (q : Fin 4096) :
    (iblk m c 2 t : FVec Ideal S1x2x8x4096 .f32) (ix4 0 z u q) = (V m c main_v43 : FVec Ideal S2x2x8x4096 .f32) (ix4 (dirOf t) z u q) := by
  unfold iblk; rw [View.read_apply]
  show V m c main_v43 _ = _
  refine congrArg (V m c main_v43) ?_
  blk_ext [(idxDir t).2.1, dirOf]

/-- A row of the buffer of entering values holds the entering values of its token. -/
theorem cell_eq (t : Fin cfg0.N) (n : ℕ) (hn : n < 32) (u : Fin 8) (q : Fin 4096) (o : Fin 1024) (w : ℕ) (hw : w = q.val / 512 * 1024 + o.val) :
    cell (enterBuf (iblk m c 0 t) (iblk m c 1 t)) (8 * pos (grid0.coords t) n + u.val) w
      = entering (V m c main_v6) (V m c main_v31) (dirOf t) u q o (32 * (t.val % 16) + n) := by
  have hp : 8 * pos (grid0.coords t) n + u.val < 256 := by unfold pos; split <;> omega
  have hw' : w < 8192 := by omega
  unfold cell
  rw [dif_pos ⟨hp, hw'⟩]
  unfold enterBuf entering
  have h1 : w / 1024 = q.val / 512 := by omega
  have h2 : w % 1024 = o.val := by omega
  refine Finset.sum_congr rfl fun l _ => congrArg₂ (· * ·) ?_ ?_
  · refine Eq.trans ?_ (rows_block m c t n hn u _)
    refine congrArg (iblk m c 0 t : FVec Ideal S256x1024 .f32) (funext fun a => Fin.ext ?_)
    match a with
    | ⟨0, _⟩ => rfl
    | ⟨1, _⟩ => show w / 1024 * 128 + l.val = q.val / 512 * 128 + l.val; rw [h1]
  · refine Eq.trans ?_ (mats_block m c t _ _ _)
    refine congrArg (iblk m c 1 t : FVec Ideal S1x8x1024x128 .bf16) (funext fun a => Fin.ext ?_)
    match a with
    | ⟨0, _⟩ => rfl
    | ⟨1, _⟩ => exact h1
    | ⟨2, _⟩ => exact h2
    | ⟨3, _⟩ => rfl

/-- The states of direction `d` after `n` steps, as an array. -/
def sweptArr (d : Fin 2) (n : ℕ) : FVec Ideal S2x8x4096 .f32 := fun j =>
  if (j 0).val = 0 then (swept (V m c main_v6) (V m c main_v31) (V m c main_v43) d (j 1) (j 2) n).1
  else (swept (V m c main_v6) (V m c main_v31) (V m c main_v43) d (j 1) (j 2) n).2

/-- A block carries the sweep thirty-two steps on. -/
theorem blkState_swept (t : Fin cfg0.N) (s : FVec Ideal S2x8x4096 .f32) (hs : s = sweptArr m c (dirOf t) (32 * (t.val % 16))) :
    blkState (grid0.coords t) (iblk m c 0 t) (iblk m c 1 t) (iblk m c 2 t) s = sweptArr m c (dirOf t) (32 * (t.val % 16 + 1)) := by
  have key (u : Fin 8) (q : Fin 4096) : blkRun (grid0.coords t) (iblk m c 0 t) (iblk m c 1 t) (iblk m c 2 t) s u q
      = swept (V m c main_v6) (V m c main_v31) (V m c main_v43) (dirOf t) u q (32 * (t.val % 16 + 1)) := by
    unfold blkRun
    rw [coefs_block, coefs_block, hs]
    refine (run_congr _ _ _ 32 (fun k hk => cell_eq m c t k hk u q ⟨q.val % 512, by omega⟩ (q.val / 512 * 1024 + q.val % 512) rfl)
      (fun k hk => cell_eq m c t k hk u q ⟨512 + q.val % 512, by omega⟩ (q.val / 512 * 1024 + 512 + q.val % 512) (by dsimp only; omega))).trans ?_
    exact run_add _ _ (entering (V m c main_v6) (V m c main_v31) (dirOf t) u q ⟨q.val % 512, by omega⟩)
      (entering (V m c main_v6) (V m c main_v31) (dirOf t) u q ⟨512 + q.val % 512, by omega⟩) (0, 0) (32 * (t.val % 16)) 32
  funext j
  exact congrArg (fun p : EReal × EReal => if (j 0).val = 0 then p.1 else p.2) (key (j 1) (j 2))

/-- A direction's first point. -/
theorem first_point (t : Fin cfg0.N) (h0 : t.val % 16 = 0) :
    (outsAt0 m c t.val t.isLt).2 = blkState (grid0.coords t) (iblk m c 0 t) (iblk m c 1 t) (iblk m c 2 t) (fun _ => (0 : EReal)) := by
  have h1 : ¬t.val % 16 = 15 := by omega
  rw [outsAt0_A m c t h0 h1]
  dsimp only
  exact sout_first c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) ((hcond0_0 t).mpr h0) (fun h => h1 ((hcond0_1 t).mp h))

/-- Every later point. -/
theorem later_point (t : Fin cfg0.N) (h0 : ¬t.val % 16 = 0) :
    (outsAt0 m c t.val t.isLt).2 = blkState (grid0.coords t) (iblk m c 0 t) (iblk m c 1 t) (iblk m c 2 t) (outsAt0 m c (t.val - 1) (Nat.lt_of_le_of_lt (Nat.sub_le _ _) t.isLt)).2 := by
  by_cases h1 : t.val % 16 = 15
  · rw [outsAt0_C m c t h0 h1]
    dsimp only
    exact sout_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (fun h => h0 ((hcond0_0 t).mp h)) ((hcond0_1 t).mpr h1) _
  · rw [outsAt0_B m c t h0 h1]
    dsimp only
    exact sout_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (fun h => h0 ((hcond0_0 t).mp h)) (fun h => h1 ((hcond0_1 t).mp h)) _

/-- A direction's last point hands over what it carries. -/
theorem last_point (t : Fin cfg0.N) (h1 : t.val % 16 = 15) (y : S1x2x8x4096.Idx) :
    (outsAt0 m c t.val t.isLt).1 y = (outsAt0 m c t.val t.isLt).2 (ix3 (y 1) (y 2) (y 3)) := by
  have h0 : ¬t.val % 16 = 0 := by omega
  rw [later_point m c t h0, outsAt0_C m c t h0 h1]
  dsimp only
  exact out_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (fun h => h0 ((hcond0_0 t).mp h)) ((hcond0_1 t).mpr h1) _ y

/-- The carried states after a point. -/
theorem carried : ∀ (j : ℕ) (t : Fin cfg0.N) (_ : t.val % 16 = j), (outsAt0 m c t.val t.isLt).2 = sweptArr m c (dirOf t) (32 * (j + 1))
  | 0, t, ht => by
    rw [first_point m c t ht, blkState_swept m c t _ ?_, ht]
    rw [ht]
    funext y
    unfold sweptArr
    split <;> rfl
  | j + 1, t, ht => by
    have hl : t.val - 1 < cfg0.N := Nat.lt_of_le_of_lt (Nat.sub_le _ _) t.isLt
    have ih := carried j ⟨t.val - 1, hl⟩ (by dsimp only; omega)
    have hd : dirOf ⟨t.val - 1, hl⟩ = dirOf t := Fin.ext (by show (t.val - 1) / 16 = t.val / 16; omega)
    rw [hd] at ih
    rw [later_point m c t (by omega), blkState_swept m c t _ ?_, ht]
    rw [ht]
    exact ih

/-- What the kernel leaves. -/
theorem final (d z : Fin 2) (u : Fin 8) (q : Fin 4096) : ((dats m 0 c).arrAt 3 cfg0.N : FVec Ideal S2x2x8x4096 .f32) (ix4 d z u q)
    = sweptArr m c d 512 (ix3 z u q) := by
  have h : (dats m 0 c).arrAt 3 cfg0.N = (fun i => sweptArr m c (i 0) 512 (ix3 (i 1) (i 2) (i 3)) : FVec Ideal S2x2x8x4096 .f32) := by
    refine (dats m 0 c).arrAt_eq_of_covers 3 _ (by decide +kernel) fun t hf y => ?_
    have ht : t.val % 16 = 15 := (flush0_3 t).mp hf
    blk_simp
    rw [after0_3]
    obtain ⟨a, z, u, q, rfl⟩ : ∃ a z u q, y = ix4 a z u q := ⟨y 0, y 1, y 2, y 3, eq_ix4 y⟩
    rw [last_point m c t ht, carried m c 15 t ht]
    have e : (win0_3.blk t).view.emb (ix4 a z u q) = ix4 (dirOf t) z u q := by blk_ext [(idxDir t).2.2.1, dirOf]
    rw [e]
    rfl
  rw [h]; rfl

end Cert.Adj

end
-- ==== Proof.Adj.Host.lean ====
/- The arrays the adjoint sweep's kernel reads, as its host code prepares them. -/
module

public import proofs.«01_k».proof.Proof.Gen.KernelIdeal.Value
public import Idealize.ShloMosaic.Lib.Pointwise
public import Idealize.ShloMosaic.Lib.StableHlo.Run

@[expose] public section

noncomputable section

namespace Cert.Adj

open Idealize.ShloMosaic Idealize.ShloMosaic.TcCoe Idealize.SL.Sem Cert.KernelIdeal Cert.KernelIdeal.Gen
open scoped BigOperators

variable (m : (ℓ : Loc nD τ sig) → Buf (Elt Ideal) ℓ) (c : Dev nD)

/-- The launch contents of the arguments: the cotangents of both streams, the output maps, the recurrence's coefficients. -/
abbrev argX : FVec Ideal S2x2048x1024 .f32 := m ((c : Thread nD τ).loc main_arg0)
abbrev argCtx : FVec Ideal S2x256x1024 .f32 := m ((c : Thread nD τ).loc main_arg1)
abbrev argCr : FVec Ideal S2x64x16x64 .f32 := m ((c : Thread nD τ).loc main_arg2)
abbrev argCi : FVec Ideal S2x64x16x64 .f32 := m ((c : Thread nD τ).loc main_arg3)
abbrev argAr : FVec Ideal S64x128 .f32 := m ((c : Thread nD τ).loc main_arg4)
abbrev argAi : FVec Ideal S64x128 .f32 := m ((c : Thread nD τ).loc main_arg5)

/-- The rows of both streams, one below the other. -/
theorem rows_eq : (V m c main_v6 : FVec Ideal S4608x1024 .f32) = concatenate S4608x1024 0
      [⟨S512x1024, shapeCast S512x1024 (transpose S64x8x1024 [1, 0, 2] (shapeCast S8x64x1024 (argCtx m c) shapeCasts_S2x256x1024_S8x64x1024) transposes_S8x64x1024_S64x8x1024_1_0_2) shapeCasts_S64x8x1024_S512x1024⟩,
       ⟨S4096x1024, shapeCast S4096x1024 (transpose S512x8x1024 [1, 0, 2] (shapeCast S8x512x1024 (argX m c) shapeCasts_S2x2048x1024_S8x512x1024) transposes_S8x512x1024_S512x8x1024_1_0_2) shapeCasts_S512x8x1024_S4096x1024⟩] concatenates_S512x1024_S4096x1024_S4608x1024_d0 := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

/-- From row 512 on, row `8 t + u` is token `t` of sequence `u`. -/
theorem rows_apply (t : Fin 512) (u : Fin 8) (e : Fin 1024) :
    (V m c main_v6 : FVec Ideal S4608x1024 .f32) (ix2 ⟨512 + 8 * t.val + u.val, by omega⟩ e)
      = argX m c (ix3 ⟨u.val / 4, by omega⟩ ⟨u.val % 4 * 512 + t.val, by omega⟩ e) := by
  rw [rows_eq]
  pointwise
  rw [dif_neg (by omega)]
  have h1 : (512 + 8 * t.val + u.val - 512) % 8 = u.val := by omega
  have h2 : (512 + 8 * t.val + u.val - 512) / 8 = t.val := by omega
  simp only [h1, h2]

/-- The coefficients: slot 0 the real part, slot 1 the imaginary part negated, of direction `d`, lane `q % 64`, group `q / 64`. -/
theorem coef_eq : (V m c main_v43 : FVec Ideal S2x2x8x4096 .f32) = broadcastInDim S2x2x8x4096 ![0, 1, 2, 3] bcast_S2x2x1x4096_S2x2x8x4096_0_1_2_3
      (broadcastInDim S2x2x1x4096 ![0, 1, 3] bcast_S2x2x4096_S2x2x1x4096_0_1_3 (concatenate S2x2x4096 1
        [⟨S2x1x4096, broadcastInDim S2x1x4096 ![0, 2] bcast_S2x4096_S2x1x4096_0_2 (shapeCast S2x4096 (transpose S2x64x64 [1, 2, 0] (shapeCast S64x2x64 (argAr m c) shapeCasts_S64x128_S64x2x64) transposes_S64x2x64_S2x64x64_1_2_0) shapeCasts_S2x64x64_S2x4096)⟩,
         ⟨S2x1x4096, broadcastInDim S2x1x4096 ![0, 2] bcast_S2x4096_S2x1x4096_0_2 (Host.negf (shapeCast S2x4096 (transpose S2x64x64 [1, 2, 0] (shapeCast S64x2x64 (argAi m c) shapeCasts_S64x128_S64x2x64) transposes_S64x2x64_S2x64x64_1_2_0) shapeCasts_S2x64x64_S2x4096))⟩] concatenates_S2x1x4096_S2x1x4096_S2x2x4096_d1)) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem coef_re (d : Fin 2) (u : Fin 8) (q : Fin 4096) :
    (V m c main_v43 : FVec Ideal S2x2x8x4096 .f32) (ix4 d 0 u q) = argAr m c (ix2 ⟨q.val % 64, by omega⟩ ⟨d.val * 64 + q.val / 64, by omega⟩) := by
  rw [coef_eq]
  pointwise

theorem coef_im (d : Fin 2) (u : Fin 8) (q : Fin 4096) :
    (V m c main_v43 : FVec Ideal S2x2x8x4096 .f32) (ix4 d 1 u q) = -argAi m c (ix2 ⟨q.val % 64, by omega⟩ ⟨d.val * 64 + q.val / 64, by omega⟩) := by
  rw [coef_eq]
  pointwise

/-- The identity matrix of the eight groups of an octet. -/
abbrev eyeArr : FVec Ideal S8x8 .f32 := uitofp .f32 (cmpi .eq (addi (iotaInDim S8x8 32 0) (broadcastInDim S8x8 ![] bcast_S_S8x8 (constantI S_ 32 0#32))) (iotaInDim S8x8 32 1))

/-- An output map set out block-diagonally, eight groups to a block. -/
abbrev diagArr (x : FVec Ideal S2x64x16x64 .f32) : FVec Ideal S2x8x512x128 .f32 :=
  shapeCast S2x8x512x128 (mulf
    (broadcastInDim S2x8x8x64x8x16 ![0, 1, 2, 3, 4, 5] bcast_S2x8x8x64x1x16_S2x8x8x64x8x16_0_1_2_3_4_5 (broadcastInDim S2x8x8x64x1x16 ![0, 1, 2, 3, 5] bcast_S2x8x8x64x16_S2x8x8x64x1x16_0_1_2_3_5 (shapeCast S2x8x8x64x16 (transpose S2x64x64x16 [0, 1, 3, 2] x transposes_S2x64x16x64_S2x64x64x16_0_1_3_2) shapeCasts_S2x64x64x16_S2x8x8x64x16)))
    (broadcastInDim S2x8x8x64x8x16 ![0, 1, 2, 3, 4, 5] bcast_S1x1x8x1x8x1_S2x8x8x64x8x16_0_1_2_3_4_5 (broadcastInDim S1x1x8x1x8x1 ![2, 4] bcast_S8x8_S1x1x8x1x8x1_2_4 eyeArr))) shapeCasts_S2x8x8x64x8x16_S2x8x512x128

theorem maps_eq : (V m c main_v31 : FVec Ideal S2x8x1024x128 .bf16) = truncf .bf16 (concatenate S2x8x1024x128 2
      [⟨S2x8x512x128, diagArr (argCr m c)⟩, ⟨S2x8x512x128, Host.negf (diagArr (argCi m c))⟩] concatenates_S2x8x512x128_S2x8x512x128_S2x8x1024x128_d2) bitsLt_bf16_f32 := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem eye_bit : ∀ a b : Fin 8, IntOp.cmpi .eq (IntOp.addi (BitVec.ofNat 32 a.val) 0#32) (BitVec.ofNat 32 b.val) = if a = b then 1#1 else 0#1 := by
  decide

theorem eye_apply (a b : Fin 8) : eyeArr (ix2 a b) = if a = b then (1 : EReal) else 0 := by
  unfold eyeArr
  pointwise
  rw [eye_bit]
  split
  · show ((((1#1 : BitVec 1).toNat : ℝ)) : EReal) = 1
    simp
  · show ((((0#1 : BitVec 1).toNat : ℝ)) : EReal) = 0
    simp

/-- A block's entry: zero off its diagonal. -/
theorem diag_apply (x : FVec Ideal S2x64x16x64 .f32) (d : Fin 2) (o : Fin 8) (r : Fin 512) (a : Fin 8) (b : Fin 16) :
    diagArr x (ix4 d o r ⟨a.val * 16 + b.val, by omega⟩)
      = x (ix4 d ⟨o.val * 8 + r.val / 64, by omega⟩ b ⟨r.val % 64, by omega⟩) * eyeArr (ix2 ⟨r.val / 64, by omega⟩ a) := by
  unfold diagArr
  generalize eyeArr = E
  pointwise

theorem maps_re (d : Fin 2) (o : Fin 8) (r : Fin 512) (l : Fin 128) :
    (V m c main_v31 : FVec Ideal S2x8x1024x128 .bf16) (ix4 d o ⟨r.val, by omega⟩ l) = diagArr (argCr m c) (ix4 d o r l) := by
  rw [maps_eq]
  generalize diagArr (argCr m c) = P
  generalize diagArr (argCi m c) = Q
  pointwise

theorem maps_im (d : Fin 2) (o : Fin 8) (r : Fin 512) (l : Fin 128) :
    (V m c main_v31 : FVec Ideal S2x8x1024x128 .bf16) (ix4 d o ⟨512 + r.val, by omega⟩ l) = -diagArr (argCi m c) (ix4 d o r l) := by
  rw [maps_eq]
  generalize diagArr (argCr m c) = P
  generalize diagArr (argCi m c) = Q
  pointwise

end Cert.Adj

end
-- ==== Proof.Adj.Swept.lean ====
/- The kernel's sweep of its prepared arrays is the adjoint recurrence of the arguments. -/
module

public import proofs.«01_k».proof.Proof.Adj.Sweep
public import proofs.«01_k».proof.Proof.Adj.Host
public import Idealize.ShloMosaic.Lib.Pipeline.ValueKit

@[expose] public section

noncomputable section

namespace Cert.Adj

open Idealize.ShloMosaic Idealize.ShloMosaic.TcCoe Idealize.SL.Sem Cert.KernelIdeal Cert.KernelIdeal.Gen
open scoped BigOperators

variable (m : (ℓ : Loc nD τ sig) → Buf (Elt Ideal) ℓ) (c : Dev nD)

theorem rowAt_eq (t : ℕ) (u : Fin 8) (e : Fin 1024) : rowAt (V m c main_v6) t u e = tokenAt (argX m c) t u e := by
  unfold rowAt tokenAt
  by_cases h : t < 512
  · rw [dif_pos h, dif_pos h]; exact rows_apply m c ⟨t, h⟩ u e
  · rw [dif_neg h, dif_neg h]

/-- A row of a block-diagonal map, summed against 128 channels, sees the sixteen channels of its own group. -/
theorem sum_diag (x : FVec Ideal S2x64x16x64 .f32) (f : Fin 1024 → EReal) (d : Fin 2) (q : Fin 4096) :
    ∑ l : Fin 128, f ⟨q.val / 512 * 128 + l.val, by omega⟩ * diagArr x (ix4 d ⟨q.val / 512, by omega⟩ ⟨q.val % 512, by omega⟩ l)
      = ∑ b : Fin 16, f ⟨q.val / 64 * 16 + b.val, by omega⟩ * x (ix4 d ⟨q.val / 64, by omega⟩ b ⟨q.val % 64, by omega⟩) := by
  rw [← Fin.sum_mul_add_fin 8 16 (fun l : Fin 128 => f ⟨q.val / 512 * 128 + l.val, by omega⟩ * diagArr x (ix4 d ⟨q.val / 512, by omega⟩ ⟨q.val % 512, by omega⟩ l))]
  rw [Finset.sum_eq_single (⟨q.val % 512 / 64, by omega⟩ : Fin 8)]
  · refine Finset.sum_congr rfl fun b _ => ?_
    rw [diag_apply, eye_apply, if_pos rfl, mul_one]
    have h1 : q.val / 512 * 128 + (q.val % 512 / 64 * 16 + b.val) = q.val / 64 * 16 + b.val := by omega
    have h2 : q.val / 512 * 8 + q.val % 512 / 64 = q.val / 64 := by omega
    have h3 : q.val % 512 % 64 = q.val % 64 := by omega
    simp only [h1, h2, h3]
  · intro a _ ha
    refine Finset.sum_eq_zero fun b _ => ?_
    rw [diag_apply, eye_apply, if_neg (Ne.symm ha), mul_zero, mul_zero]
  · intro h; exact absurd (Finset.mem_univ _) h

theorem diag_neg (x : FVec Ideal S2x64x16x64 .f32) (d : Fin 2) (o : Fin 8) (r : Fin 512) (l : Fin 128) :
    -diagArr x (ix4 d o r l) = diagArr (fun i => -x i : FVec Ideal S2x64x16x64 .f32) (ix4 d o r l) := by
  obtain ⟨a, b, rfl⟩ : ∃ (a : Fin 8) (b : Fin 16), l = ⟨a.val * 16 + b.val, by omega⟩ :=
    ⟨⟨l.val / 16, by omega⟩, ⟨l.val % 16, by omega⟩, Fin.ext (by dsimp only; omega)⟩
  rw [diag_apply, diag_apply, EReal.neg_mul]

theorem entering_re (d : Fin 2) (u : Fin 8) (q : Fin 4096) (k : ℕ) :
    entering (V m c main_v6) (V m c main_v31) d u q ⟨q.val % 512, by omega⟩ k = inflow (argX m c) (argCr m c) d u q k := by
  unfold entering inflow
  refine Eq.trans ?_ (sum_diag (argCr m c) (fun e => tokenAt (argX m c) (tok d k) u e) d q)
  refine Finset.sum_congr rfl fun l _ => ?_
  rw [rowAt_eq]
  exact congrArg (_ * ·) (maps_re m c d _ ⟨q.val % 512, by omega⟩ l)

theorem entering_im (d : Fin 2) (u : Fin 8) (q : Fin 4096) (k : ℕ) :
    entering (V m c main_v6) (V m c main_v31) d u q ⟨512 + q.val % 512, by omega⟩ k = inflow (argX m c) (fun i => -argCi m c i) d u q k := by
  unfold entering inflow
  refine Eq.trans ?_ (sum_diag (fun i => -argCi m c i) (fun e => tokenAt (argX m c) (tok d k) u e) d q)
  refine Finset.sum_congr rfl fun l _ => ?_
  rw [rowAt_eq]
  exact congrArg (_ * ·) ((maps_im m c d _ ⟨q.val % 512, by omega⟩ l).trans (diag_neg (argCi m c) d _ _ l))

/-- The sweep of the prepared arrays. -/
theorem swept_eq (d : Fin 2) (u : Fin 8) (q : Fin 4096) (n : ℕ) :
    swept (V m c main_v6) (V m c main_v31) (V m c main_v43) d u q n
      = adjoint (argX m c) (argCr m c) (argCi m c) (argAr m c) (argAi m c) d u q n := by
  unfold swept adjoint
  rw [coef_re, coef_im]
  exact run_congr _ _ _ n (fun k _ => entering_re m c d u q k) (fun k _ => entering_im m c d u q k)

/-- What the kernel leaves, of the arguments. -/
theorem kernel_final (d z : Fin 2) (u : Fin 8) (q : Fin 4096) :
    ((Cert.KernelIdeal.Gen.dats m 0 c).arrAt 3 cfg0.N : FVec Ideal S2x2x8x4096 .f32) (ix4 d z u q)
      = if z.val = 0 then (adjoint (argX m c) (argCr m c) (argCi m c) (argAr m c) (argAi m c) d u q 512).1
        else (adjoint (argX m c) (argCr m c) (argCi m c) (argAr m c) (argAi m c) d u q 512).2 := by
  rw [final m c d z u q]
  show (if z.val = 0 then (swept (V m c main_v6) (V m c main_v31) (V m c main_v43) d u q 512).1
      else (swept (V m c main_v6) (V m c main_v31) (V m c main_v43) d u q 512).2) = _
  rw [swept_eq]

end Cert.Adj

end
-- ==== Proof.Adj.Reference.lean ====
/- The reference's 512 trips, one entry at a time: its state is the adjoint recurrence's. -/
module

public import proofs.«01_k».proof.Proof.Adj.Spec
public import proofs.«01_k».proof.Proof.Gen.ReferenceIdeal.StepRun
public import Idealize.ShloMosaic.Lib.Pointwise

@[expose] public section

noncomputable section

namespace Cert.Adj

open Idealize.ShloMosaic Idealize.ShloMosaic.TcCoe Cert.ReferenceIdeal Cert.ReferenceIdeal.Gen Cert.ReferenceIdeal.Step
open scoped BigOperators

variable (X : FVec Ideal S2x2048x1024 .f32) (Cr Ci : FVec Ideal S2x64x16x64 .f32) (Ar Ai : FVec Ideal S64x128 .f32)

theorem coef_re_apply (d : Fin 2) (g p : Fin 64) (a b : Fin 1) :
    (A_main_v2 (F := Ideal) X Ar Ai : FVec Ideal S2x1x1x64x64 .f32) (ix5 d a b g p) = Ar (ix2 p ⟨d.val * 64 + g.val, by omega⟩) := by
  unfold A_main_v2 A_main_v1 A_main_v0
  pointwise

theorem coef_im_apply (d : Fin 2) (g p : Fin 64) (a b : Fin 1) :
    (A_main_v5 (F := Ideal) X Ar Ai : FVec Ideal S2x1x1x64x64 .f32) (ix5 d a b g p) = Ai (ix2 p ⟨d.val * 64 + g.val, by omega⟩) := by
  unfold A_main_v5 A_main_v4 A_main_v3
  pointwise

/-- Both directions' cotangents in the order the reference lays them out: the second direction's reversed. -/
theorem stream_apply (t : Fin 512) (d b : Fin 2) (k : Fin 4) (g : Fin 64) (ch : Fin 16) :
    (A_main_v14 (F := Ideal) X Ar Ai : FVec Ideal S512x2x2x4x64x16 .f32) (ix6 t d b k g ch)
      = X (ix3 b ⟨k.val * 512 + (if d.val = 0 then t.val else 511 - t.val), by split <;> omega⟩ ⟨g.val * 16 + ch.val, by omega⟩) := by
  unfold A_main_v14 A_main_v13 A_main_v12 A_main_v11 A_main_v10 A_main_v9 A_main_v8 A_main_v7 K_main_cst_0 K_main_cst_1
  pointwise
  match d with
  | ⟨0, _⟩ =>
    rw [dif_neg (by simp), dif_pos (by simp), zero_add]
    rfl
  | ⟨1, _⟩ =>
    rw [dif_pos (by simp), dif_neg (by simp), add_zero]
    have h : t.rev.val = 511 - t.val := by rw [Fin.val_rev]; omega
    refine congrArg X ?_
    refine congrArg (fun y => ix3 b y _) (Fin.ext ?_)
    exact congrArg (fun y => k.val * 512 + y) h

variable (j : ℕ) (s : State Ideal)

theorem row_starts (hj : j < 512) : ∀ k : Fin 6, ((((![(b3 j s), (b4 j s), (b5 j s), (b6 j s), (b7 j s), (b8 j s)] : Fin 6 → (⟨S_, .i32⟩ : BufTy).Contents (Elt Ideal))) k (Shape.Idx.first h_S_))).toInt
    = ((if k.val = 0 then 511 - j else 0 : ℕ) : ℤ) := by
  have h : ∀ j : Fin 512, ((512#32 - BitVec.ofNat 32 j.val) - 1#32).toInt = ((511 - j.val : ℕ) : ℤ) := by decide +kernel
  intro k
  match k with
  | ⟨0, _⟩ => exact h ⟨j, hj⟩
  | ⟨1, _⟩ => rfl
  | ⟨2, _⟩ => rfl
  | ⟨3, _⟩ => rfl
  | ⟨4, _⟩ => rfl
  | ⟨5, _⟩ => rfl

/-- The row a trip reads. -/
theorem slice_apply (x : FVec Ideal S512x2x2x4x64x16 .f32) (f : Fin 6 → ℤ) (t : Fin 512) (hf : ∀ k : Fin 6, f k = ((if k.val = 0 then t.val else 0 : ℕ) : ℤ))
    (a : Fin 1) (d b : Fin 2) (k : Fin 4) (g : Fin 64) (ch : Fin 16) :
    Host.dynamicSlice S1x2x2x4x64x16 x f sliceFits_S512x2x2x4x64x16_S1x2x2x4x64x16 (ix6 a d b k g ch) = x (ix6 t d b k g ch) := by
  have h0 : Host.clampedStart S512x2x2x4x64x16 S1x2x2x4x64x16 rfl f 0 = t.val := Host.clampedStart_of_le (s := S512x2x2x4x64x16) (t := S1x2x2x4x64x16) rfl f 0 t.val (hf 0) (Nat.succ_le_of_lt t.isLt)
  have h1 : Host.clampedStart S512x2x2x4x64x16 S1x2x2x4x64x16 rfl f 1 = 0 := Host.clampedStart_of_le (s := S512x2x2x4x64x16) (t := S1x2x2x4x64x16) rfl f 1 0 (hf 1) (by decide)
  have h2 : Host.clampedStart S512x2x2x4x64x16 S1x2x2x4x64x16 rfl f 2 = 0 := Host.clampedStart_of_le (s := S512x2x2x4x64x16) (t := S1x2x2x4x64x16) rfl f 2 0 (hf 2) (by decide)
  have h3 : Host.clampedStart S512x2x2x4x64x16 S1x2x2x4x64x16 rfl f 3 = 0 := Host.clampedStart_of_le (s := S512x2x2x4x64x16) (t := S1x2x2x4x64x16) rfl f 3 0 (hf 3) (by decide)
  have h4 : Host.clampedStart S512x2x2x4x64x16 S1x2x2x4x64x16 rfl f 4 = 0 := Host.clampedStart_of_le (s := S512x2x2x4x64x16) (t := S1x2x2x4x64x16) rfl f 4 0 (hf 4) (by decide)
  have h5 : Host.clampedStart S512x2x2x4x64x16 S1x2x2x4x64x16 rfl f 5 = 0 := Host.clampedStart_of_le (s := S512x2x2x4x64x16) (t := S1x2x2x4x64x16) rfl f 5 0 (hf 5) (by decide)
  pointwise
  simp only [h0, h1, h2, h3, h4, h5, Nat.zero_add]

theorem b10_apply (hj : j < 512) (d b : Fin 2) (k : Fin 4) (g : Fin 64) (ch : Fin 16) :
    b10 j s (ix5 d b k g ch) = s.main_v17_0 (ix6 ⟨511 - j, by omega⟩ d b k g ch) := by
  have e : b10 j s (ix5 d b k g ch) = b9 j s (ix6 0 d b k g ch) := by
    unfold b10
    generalize b9 j s = w
    pointwise
  rw [e]
  exact slice_apply s.main_v17_0 _ ⟨511 - j, by omega⟩ (row_starts j s hj) 0 d b k g ch

theorem b29_apply (d b : Fin 2) (k : Fin 4) (g p : Fin 64) :
    b29 j s (ix5 d b k g p) = ∑ ch : Fin 16, b10 j s (ix5 d b k g ch) * s.main_v17_3 (ix4 d g ch p) := by
  unfold b29 b28 b27
  generalize b10 j s = w
  pointwise

theorem b25_apply (d b : Fin 2) (k : Fin 4) (g p : Fin 64) :
    b25 j s (ix5 d b k g p) = ∑ ch : Fin 16, -b10 j s (ix5 d b k g ch) * s.main_v17_4 (ix4 d g ch p) := by
  unfold b25 b24 b23 b22
  generalize b10 j s = w
  pointwise

theorem b30_apply (d b : Fin 2) (k : Fin 4) (g p : Fin 64) :
    b30 j s (ix5 d b k g p) = s.main_v17_2 (ix5 d 0 0 g p) * s.main_v17_7 (ix5 d b k g p) + s.main_v17_1 (ix5 d 0 0 g p) * s.main_v17_6 (ix5 d b k g p)
      + b29 j s (ix5 d b k g p) := by
  unfold b30 b21 b20 b19 b12 b11
  generalize b29 j s = w
  pointwise

theorem b26_apply (d b : Fin 2) (k : Fin 4) (g p : Fin 64) :
    b26 j s (ix5 d b k g p) = s.main_v17_1 (ix5 d 0 0 g p) * s.main_v17_7 (ix5 d b k g p) + s.main_v17_2 (ix5 d 0 0 g p) * -s.main_v17_6 (ix5 d b k g p)
      + b25 j s (ix5 d b k g p) := by
  unfold b26 b18 b17 b16 b15 b14 b13
  generalize b25 j s = w
  pointwise

theorem result_apply (d z : Fin 2) (u : Fin 8) (q : Fin 4096) :
    (R_main_v21 s : FVec Ideal S2x2x8x4096 .f32) (ix4 d z u q)
      = if z.val = 0 then s.main_v17_6 (ix5 d ⟨u.val / 4, by omega⟩ ⟨u.val % 4, by omega⟩ ⟨q.val / 64, by omega⟩ ⟨q.val % 64, by omega⟩)
        else s.main_v17_7 (ix5 d ⟨u.val / 4, by omega⟩ ⟨u.val % 4, by omega⟩ ⟨q.val / 64, by omega⟩ ⟨q.val % 64, by omega⟩) := by
  unfold R_main_v21
  pointwise
  by_cases h : z.val = 0
  · rw [dif_pos (by omega), if_pos h]
  · rw [dif_neg (by omega), if_neg h]

/-- The states the trips go through. -/
def states : ℕ → State Ideal
  | 0 => init Cr Ci X Ar Ai
  | n + 1 => step n (states n)

/-- What no trip changes. -/
theorem states_fixed (n : ℕ) : (states X Cr Ci Ar Ai n).main_v17_0 = A_main_v14 (F := Ideal) X Ar Ai ∧ (states X Cr Ci Ar Ai n).main_v17_1 = A_main_v2 (F := Ideal) X Ar Ai
    ∧ (states X Cr Ci Ar Ai n).main_v17_2 = A_main_v5 (F := Ideal) X Ar Ai ∧ (states X Cr Ci Ar Ai n).main_v17_3 = Cr ∧ (states X Cr Ci Ar Ai n).main_v17_4 = Ci := by
  induction n with
  | zero => exact ⟨rfl, rfl, rfl, rfl, rfl⟩
  | succ n ih => exact ih

/-- The place of state `(u, q)` in the carried arrays. -/
abbrev place (d : Fin 2) (u : Fin 8) (q : Fin 4096) : S2x2x4x64x64.Idx :=
  ix5 d ⟨u.val / 4, by omega⟩ ⟨u.val % 4, by omega⟩ ⟨q.val / 64, by omega⟩ ⟨q.val % 64, by omega⟩

/-- The row trip `n` reads holds the token the direction meets at step `n`. -/
theorem row_apply (n : ℕ) (hn : n < 512) (d : Fin 2) (u : Fin 8) (g : Fin 64) (ch : Fin 16) :
    b10 n (states X Cr Ci Ar Ai n) (ix5 d ⟨u.val / 4, by omega⟩ ⟨u.val % 4, by omega⟩ g ch)
      = tokenAt X (tok d n) u ⟨g.val * 16 + ch.val, by omega⟩ := by
  have ht : tok d n < 512 := by unfold tok; split <;> omega
  have e : (if d.val = 0 then 511 - n else 511 - (511 - n)) = tok d n := by unfold tok; split <;> omega
  rw [b10_apply _ _ hn, (states_fixed X Cr Ci Ar Ai n).1, stream_apply]
  unfold tokenAt
  rw [dif_pos ht]
  simp only [e]

/-- The carried arrays hold the adjoint recurrence's state. -/
theorem states_eq (n : ℕ) (hn : n ≤ 512) (d : Fin 2) (u : Fin 8) (q : Fin 4096) :
    ((states X Cr Ci Ar Ai n).main_v17_6 (place d u q), (states X Cr Ci Ar Ai n).main_v17_7 (place d u q)) = adjoint X Cr Ci Ar Ai d u q n := by
  induction n with
  | zero =>
    show (K_main_v15 (F := Ideal) (place d u q), K_main_v16 (F := Ideal) (place d u q)) = (0, 0)
    unfold K_main_v15 K_main_v16 K_main_cst_2 K_main_cst_3
    refine Prod.ext ?_ ?_ <;> pointwise
  | succ n ih =>
    obtain ⟨f0, f1, f2, f3, f4⟩ := states_fixed X Cr Ci Ar Ai n
    have ih' := ih (by omega)
    have i1 := congrArg Prod.fst ih'
    have i2 := congrArg Prod.snd ih'
    dsimp only at i1 i2
    show (b30 n (states X Cr Ci Ar Ai n) (place d u q), b26 n (states X Cr Ci Ar Ai n) (place d u q)) = cstep _ _ _ _ (adjoint X Cr Ci Ar Ai d u q n)
    unfold cstep place at *
    rw [b30_apply, b26_apply, b29_apply, b25_apply, f1, f2, f3, f4, i1, i2]
    simp only [row_apply X Cr Ci Ar Ai n (by omega), coef_re_apply, coef_im_apply]
    refine Prod.ext ?_ ?_
    · show _ = coefOf Ar d q * _ - -coefOf Ai d q * _ + inflow X Cr d u q n
      rw [sub_eq_add_neg, EReal.neg_mul, neg_neg, add_comm (coefOf Ar d q * _)]
      rfl
    · show _ = coefOf Ar d q * _ + -coefOf Ai d q * _ + inflow X (fun i => -Ci i) d u q n
      unfold inflow
      simp only [EReal.neg_mul, mul_neg]
      rfl

end Cert.Adj

end
-- ==== Proof.Adj.Equation.lean ====
/- The adjoint recurrence kernel and its reference leave the same numbers over the extended reals. -/
module

public import proofs.«01_k».proof.Defs
public import proofs.«01_k».proof.Proof.Adj.Swept
public import proofs.«01_k».proof.Proof.Adj.Reference

@[expose] public section

noncomputable section

namespace Cert.Adj

open Idealize.ShloMosaic Idealize.ShloMosaic.TcCoe Idealize.SL.Sem

/-- From the same arguments, both programs finish with the same adjoint states. -/
theorem algebraic : Cert.algebraic_KernelIdeal_ReferenceIdeal := by
  intro m g m' g' _ hargs
  refine ⟨_, Cert.KernelIdeal.Value.run_blocks m g, ?_⟩
  refine (θ_run Cert.ReferenceIdeal.defs _ _).mono (fun r h c => ⟨(h c).1.trans ?_, (h c).2⟩)
    (Cert.ReferenceIdeal.StepRun.run_iter m' g' (fun c => states (m' ((c.tc : Thread _ _).loc Cert.ReferenceIdeal.main_arg0))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5)))
      (fun _ => rfl) (fun _ _ => rfl))
  obtain ⟨e0, e1, e2, e3, e4, e5⟩ := hargs c
  rw [e0, e2, e3, e4, e5]
  funext i
  obtain ⟨d, z, u, q, rfl⟩ : ∃ d z u q, i = ix4 d z u q := ⟨i 0, i 1, i 2, i 3, eq_ix4 i⟩
  refine Eq.trans ?_ (kernel_final m c d z u q).symm
  rw [result_apply]
  have h := states_eq (argX m c) (argCr m c) (argCi m c) (argAr m c) (argAi m c) 512 (le_refl _) d u q
  rw [← h]

end Cert.Adj

end
-- ==== Proof.Mlp.Spec.lean ====
/- The squared-ReLU MLP's gradients as sums over plain coordinates: the numbers both programs compute. -/
module

public import Idealize.ShloMosaic.PureOps.Ideal.Laws
public import Idealize.ShloMosaic.Lib.Pointwise.Index

@[expose] public section

noncomputable section

namespace Cert.Mlp

open Idealize.ShloMosaic
open scoped BigOperators

/-- A matrix of extended reals: the contents of a two-axis float array over the reals. -/
abbrev Mat (n k : ℕ) : Type := (⟨2, ![n, k]⟩ : Shape).Idx → EReal

variable {T D H : ℕ}

/-- The hidden layer before its activation, `h · w1`. -/
def hidden (h : Mat T D) (w1 : Mat D H) (t : Fin T) (f : Fin H) : EReal :=
  ∑ k : Fin D, h (ix2 t k) * w1 (ix2 k f)

/-- The cotangent of the activated hidden layer, `ct · w2ᵀ`. -/
def dAct (w2 : Mat H D) (ct : Mat T D) (t : Fin T) (f : Fin H) : EReal :=
  ∑ d : Fin D, ct (ix2 t d) * w2 (ix2 f d)

/-- The gradient of the hidden layer: the derivative of the squared ReLU is twice the ReLU. -/
def dHidden (h : Mat T D) (w1 : Mat D H) (w2 : Mat H D) (ct : Mat T D) (t : Fin T) (f : Fin H) : EReal :=
  dAct w2 ct t f * (2 * max (hidden h w1 t f) 0)

/-- The gradient of the MLP's input, `dHidden · w1ᵀ`. -/
def dInput (h : Mat T D) (w1 : Mat D H) (w2 : Mat H D) (ct : Mat T D) (t : Fin T) (k : Fin D) : EReal :=
  ∑ f : Fin H, dHidden h w1 w2 ct t f * w1 (ix2 k f)

/-- The gradient of a weight: `xᵀ · g`, of the product's input `x` and its output's cotangent `g`. -/
def dWeight {K N : ℕ} (x : Mat T K) (g : Mat T N) (k : Fin K) (n : Fin N) : EReal :=
  ∑ t : Fin T, x (ix2 t k) * g (ix2 t n)

end Cert.Mlp

end
-- ==== Proof.Mlp.Scalar.lean ====
/- Facts about single extended reals: the constant two, and the root of a squared ReLU. -/
module

public import Idealize.ShloMosaic.PureOps.Ideal.Laws

@[expose] public section

noncomputable section

namespace Cert.Mlp

open Idealize.ShloMosaic

/-- The float word of 2.0 denotes two. -/
theorem ofBits_two : Ideal.ofBits .f32 0x40000000#32 = 2 := by
  simp [Ideal.ofBits, Ideal.ieee]
  norm_num
  exact (congrArg ((↑) : ℝ → EReal) (by norm_num : (8388608 * (1 / 4194304) : ℝ) = 2)).trans rfl

/-- The root of the square of a non-negative extended real is the number itself. -/
theorem sqrt_mul_self (x : EReal) (h : 0 ≤ x) : Ideal.sqrt (x * x) = x := by
  induction x using EReal.rec with
  | bot => simp at h
  | top => simp
  | coe r =>
    have hr : 0 ≤ r := by exact_mod_cast h
    rw [← EReal.coe_mul, Ideal.sqrt_coe, if_neg (not_lt.mpr (mul_nonneg hr hr)), Real.sqrt_mul_self hr]

/-- A product with the ReLU, taken where the ReLU is on and zero elsewhere, is the product itself. -/
theorem ite_relu (p a : EReal) : (if 0 < p then a * (2 * max p 0) else 0) = a * (2 * max p 0) := by
  by_cases h : 0 < p
  · rw [if_pos h]
  · rw [if_neg h, max_eq_right (not_lt.mp h), mul_zero, mul_zero]

end Cert.Mlp

end
-- ==== Proof.Mlp.Host.lean ====
/- The arrays the MLP's backward kernel reads, as its host code prepares them. -/
module

public import proofs.«01_k».proof.Proof.Mlp.Spec
public import proofs.«01_k».proof.Proof.Mlp.Scalar
public import proofs.«01_k».proof.Proof.Gen.Kernel2Ideal.Value
public import Idealize.ShloMosaic.Lib.Pointwise
public import Idealize.ShloMosaic.Lib.StableHlo.Run

@[expose] public section

noncomputable section

namespace Cert.Mlp

open Idealize.ShloMosaic Idealize.ShloMosaic.TcCoe Idealize.SL.Sem Cert.Kernel2Ideal Cert.Kernel2Ideal.Gen
open scoped BigOperators

/-- The saved activation, as the host code computes it: the square of the hidden layer's ReLU. -/
abbrev savedArr (h : FVec Ideal S4608x1024 .f32) (w1 : FVec Ideal S1024x4096 .f32) : FVec Ideal S4608x4096 .bf16 :=
  truncf .bf16 (mulf
      (maximumf (Host.dotGeneral dot_S4608x1024_S1024x4096_S4608x4096_1_0_0_1_n_n none h w1) (broadcastInDim S4608x4096 ![] bcast_S_S4608x4096 (constant S_ .f32 0x00000000#32)))
      (maximumf (Host.dotGeneral dot_S4608x1024_S1024x4096_S4608x4096_1_0_0_1_n_n none h w1) (broadcastInDim S4608x4096 ![] bcast_S_S4608x4096 (constant S_ .f32 0x00000000#32)))) bitsLt_bf16_f32

theorem savedArr_apply (h : FVec Ideal S4608x1024 .f32) (w1 : FVec Ideal S1024x4096 .f32) (t : Fin 4608) (f : Fin 4096) :
    savedArr h w1 (ix2 t f) = max (hidden h w1 t f) 0 * max (hidden h w1 t f) 0 := by
  unfold savedArr
  pointwise
  rfl

/-- The weights' shards side by side, as the host code lays them out. -/
abbrev familyArr (w1 : FVec Ideal S1024x4096 .f32) (w2 : FVec Ideal S4096x1024 .f32) : FVec Ideal S4x2x1024x1024 .bf16 :=
  truncf .bf16 (concatenate S4x2x1024x1024 1
      [⟨S4x1x1024x1024, broadcastInDim S4x1x1024x1024 ![0, 2, 3] bcast_S4x1024x1024_S4x1x1024x1024_0_2_3 (transpose S4x1024x1024 [1, 0, 2] (shapeCast S1024x4x1024 w1 shapeCasts_S1024x4096_S1024x4x1024) transposes_S1024x4x1024_S4x1024x1024_1_0_2)⟩,
       ⟨S4x1x1024x1024, broadcastInDim S4x1x1024x1024 ![0, 2, 3] bcast_S4x1024x1024_S4x1x1024x1024_0_2_3 (shapeCast S4x1024x1024 w2 shapeCasts_S4096x1024_S4x1024x1024)⟩] concatenates_S4x1x1024x1024_S4x1x1024x1024_S4x2x1024x1024_d1) bitsLt_bf16_f32

/-- Slot 0 holds the first weight's column shards. -/
theorem familyArr_w1 (w1 : FVec Ideal S1024x4096 .f32) (w2 : FVec Ideal S4096x1024 .f32) (s : Fin 4) (k j : Fin 1024) :
    familyArr w1 w2 (ix4 s 0 k j) = w1 (ix2 k ⟨s.val * 1024 + j.val, by omega⟩) := by
  unfold familyArr
  pointwise

/-- Slot 1 holds the second weight's row shards. -/
theorem familyArr_w2 (w1 : FVec Ideal S1024x4096 .f32) (w2 : FVec Ideal S4096x1024 .f32) (s : Fin 4) (j k : Fin 1024) :
    familyArr w1 w2 (ix4 s 1 j k) = w2 (ix2 ⟨s.val * 1024 + j.val, by omega⟩ k) := by
  unfold familyArr
  pointwise

variable (m : (ℓ : Loc nD τ sig) → Buf (Elt Ideal) ℓ) (c : Dev nD)

/-- The launch contents of the arguments. -/
abbrev argH : FVec Ideal S4608x1024 .f32 := m ((c : Thread nD τ).loc main_arg0)
abbrev argW1 : FVec Ideal S1024x4096 .f32 := m ((c : Thread nD τ).loc main_arg1)
abbrev argW2 : FVec Ideal S4096x1024 .f32 := m ((c : Thread nD τ).loc main_arg2)
abbrev argCt : FVec Ideal S4608x1024 .f32 := m ((c : Thread nD τ).loc main_arg3)

theorem saved_eq : (V m c main_v3 : FVec Ideal S4608x4096 .bf16) = savedArr (argH m c) (argW1 m c) := by
  unfold V
  simp only [hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results

theorem family_eq : (V m c main_v10 : FVec Ideal S4x2x1024x1024 .bf16) = familyArr (argW1 m c) (argW2 m c) := by
  unfold V
  simp only [hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

end Cert.Mlp

end
-- ==== Proof.Mlp.Block.lean ====
/- What one block of rows of the MLP's backward kernel leaves in its outputs. -/
module

public import proofs.«01_k».proof.Proof.Mlp.Spec
public import proofs.«01_k».proof.Proof.Mlp.Scalar
public import proofs.«01_k».proof.Proof.Gen.Kernel2Ideal.Value
public import Idealize.ShloMosaic.Lib.Pointwise

@[expose] public section

noncomputable section

namespace Cert.Mlp

open Idealize.ShloMosaic Cert.Kernel2Ideal Cert.Kernel2Ideal.Gen
open scoped BigOperators

variable (x0 : Vec Ideal S512x1024 .f32) (x1 : Vec Ideal S512x4096 .bf16) (x2 x3 : Vec Ideal S4x1x1024x1024 .bf16)

/-- The hidden gradient of a block of rows: the cotangent `x0` against shard `s` of the second weight, times twice the root of
    the saved activation. -/
def blkHidden (r : Fin 512) (s : Fin 4) (j : Fin 1024) : EReal :=
  (∑ k : Fin 1024, x0 (ix2 r k) * x3 (ix4 s 0 j k)) * (2 * Ideal.sqrt (x1 (ix2 r ⟨s * 1024 + j, by omega⟩)))

/-- A shard loaded as a 1×1×1024×1024 block is read as a matrix. -/
theorem matrix_apply (v : FVec Ideal S1x1x1024x1024 .bf16) (a b : Fin 1024) :
    shapeCast S1024x1024 v shapeCasts_S1x1x1024x1024_S1024x1024 (ix2 a b) = v (ix4 0 0 a b) := by
  pointwise

/-- A shard of a weight read through the rectangle that loads it. -/
theorem shard_ld (x : Vec Ideal S4x1x1024x1024 .bf16) (s : Fin 4) (inb) (a b : Fin 1024) :
    View.ld x (Rect.unit (s := S4x1x1024x1024) ![s.val, 0, 0, 0] S1x1x1024x1024.size inb) (ix4 0 0 a b) = x (ix4 s 0 a b) := by
  refine congrArg x (funext fun q => Fin.ext ?_)
  match q with
  | ⟨0, _⟩ => show s.val + 1 * 0 = s.val; omega
  | ⟨1, _⟩ => rfl
  | ⟨2, _⟩ => show 0 + 1 * a.val = a.val; omega
  | ⟨3, _⟩ => show 0 + 1 * b.val = b.val; omega

/-- A column block of the saved activation read through the rectangle that loads it. -/
theorem cols_ld (x : Vec Ideal S512x4096 .bf16) (o : ℕ) (inb) (r : Fin 512) (j : Fin 1024) (h : o + j.val < 4096) :
    View.ld x (Rect.unit (s := S512x4096) ![0, o] S512x1024.size inb) (ix2 r j) = x (ix2 r ⟨o + j, h⟩) := by
  refine congrArg x (funext fun q => Fin.ext ?_)
  match q with
  | ⟨0, _⟩ => show 0 + 1 * r.val = r.val; omega
  | ⟨1, _⟩ => show o + 1 * j.val = o + j.val; omega

/-- What the body computes of a block's cotangent `v0`, a shard `v3` and a column block `v6` of the activation. -/
theorem hiddenPay_apply (v1 : FVec Ideal S512x1024 .bf16) (v3 : Vec Ideal S1x1x1024x1024 .bf16) (v6 : Vec Ideal S512x1024 .bf16)
    (r : Fin 512) (j : Fin 1024) :
    k0_pay7 v1 v3 v6 (ix2 r j)
      = (∑ k : Fin 1024, v1 (ix2 r k) * v3 (ix4 0 0 j k)) * (2 * Ideal.sqrt (v6 (ix2 r j))) := by
  unfold k0_pay7
  rw [shapeCast_self]
  pointwise
  simp only [matrix_apply, ofBits_two]

/-- The product of a hidden gradient with a shard of the first weight, transposed. -/
theorem inputPay_apply (g : FVec Ideal S512x1024 .bf16) (v : FVec Ideal S1x1x1024x1024 .bf16) (r : Fin 512) (k : Fin 1024) :
    matmul dot_S512x1024_S1024x1024_S512x1024_1_1_0_0_n_n none g (shapeCast S1024x1024 v shapeCasts_S1x1x1024x1024_S1024x1024)
        (constant S512x1024 .f32 0x00000000#32) (ix2 r k)
      = ∑ j : Fin 1024, g (ix2 r j) * v (ix4 0 0 k j) := by
  pointwise

/-- Shard `s`'s column block of the hidden gradient, as the body computes it from the shard and column block it loads. -/
theorem hiddenPay_ld (s : Fin 4) (o : ℕ) (ho : o = s.val * 1024) (inb inb') (r : Fin 512) (j : Fin 1024) :
    k0_pay7 (k0_pay3 (View.ld x0 r0_0))
        (View.ld x3 (Rect.unit (s := S4x1x1024x1024) ![s.val, 0, 0, 0] S1x1x1024x1024.size inb))
        (View.ld x1 (Rect.unit (s := S512x4096) ![0, o] S512x1024.size inb')) (ix2 r j)
      = blkHidden x0 x1 x3 r s j := by
  subst ho
  rw [hiddenPay_apply, cols_ld x1 _ _ r j (by omega)]
  unfold k0_pay3 blkHidden
  refine congrArg (· * _) (Finset.sum_congr rfl fun k _ => congrArg₂ (· * ·) ?_ (shard_ld x3 s inb j k))
  exact congrArg x0 (funext fun q => Fin.ext (by
    match q with
    | ⟨0, _⟩ => show 0 + 1 * r.val = r.val; omega
    | ⟨1, _⟩ => show 0 + 1 * k.val = k.val; omega))

/-- The block's hidden gradient by column. -/
def blkHiddenCol (r : Fin 512) (f : Fin 4096) : EReal :=
  blkHidden x0 x1 x3 r ⟨f.val / 1024, by omega⟩ ⟨f.val % 1024, by omega⟩

theorem blkHiddenCol_apply (r : Fin 512) (s : Fin 4) (j : Fin 1024) (h : s.val * 1024 + j.val < 4096) :
    blkHiddenCol x0 x1 x3 r ⟨s.val * 1024 + j.val, h⟩ = blkHidden x0 x1 x3 r s j := by
  unfold blkHiddenCol
  congr 1
  · exact Fin.ext (by show (s.val * 1024 + j.val) / 1024 = s.val; omega)
  · exact Fin.ext (by show (s.val * 1024 + j.val) % 1024 = j.val; omega)

/-- The second output's block: the hidden gradient. -/
theorem out5_apply (r : Fin 512) (f : Fin 4096) :
    out0_5 x0 x1 x2 x3 (ix2 r f) = blkHiddenCol x0 x1 x3 r f := by
  unfold out0_5 k0_pay12 k0_pay13 k0_pay14 k0_pay11
  rw [View.canon_apply_of_pieces (fun i => blkHiddenCol x0 x1 x3 (i 0) (i 1)) _ _ _ (cover0_5 _ _ _ _ _)]
  · rfl
  · intro p hp y
    have hy : ∀ (o : ℕ) (s : Fin 4) (_ : o = s.val * 1024) (inb) (y : S512x1024.Idx),
        blkHiddenCol x0 x1 x3 ((Rect.unit (s := S512x4096) ![0, o] S512x1024.size inb).emb y 0)
          ((Rect.unit (s := S512x4096) ![0, o] S512x1024.size inb).emb y 1) = blkHidden x0 x1 x3 (y 0) s (y 1) := by
      intro o s ho inb y
      subst ho
      have hb : (y 1).val < 1024 := (y 1).isLt
      rw [← blkHiddenCol_apply x0 x1 x3 (y 0) s (y 1) (by omega)]
      congr 1
      · exact Fin.ext (by show 0 + 1 * (y 0).val = (y 0).val; omega)
      · exact Fin.ext (by show s.val * 1024 + 1 * (y 1).val = s.val * 1024 + (y 1).val; omega)
    have he : ∀ (o : ℕ) (s : Fin 4) (ho : o = s.val * 1024) (inb inb') (y : S512x1024.Idx),
        k0_pay7 (k0_pay3 (View.ld x0 r0_0))
          (View.ld x3 (Rect.unit (s := S4x1x1024x1024) ![s.val, 0, 0, 0] S1x1x1024x1024.size inb))
          (View.ld x1 (Rect.unit (s := S512x4096) ![0, o] S512x1024.size inb')) y = blkHidden x0 x1 x3 (y 0) s (y 1) := by
      intro o s ho inb inb' y
      conv_lhs => rw [eq_ix2 y]
      exact hiddenPay_ld x0 x1 x3 s o ho inb inb' (y 0) (y 1)
    simp only [List.mem_cons, List.not_mem_nil, or_false] at hp
    rcases hp with rfl | rfl | rfl | rfl
    · exact (he 3072 3 rfl _ _ y).trans (hy 3072 3 rfl inb_S512x4096_S512x1024_0_3072 y).symm
    · exact (he 2048 2 rfl _ _ y).trans (hy 2048 2 rfl inb_S512x4096_S512x1024_0_2048 y).symm
    · exact (he 1024 1 rfl _ _ y).trans (hy 1024 1 rfl inb_S512x4096_S512x1024_0_1024 y).symm
    · exact (he 0 0 rfl _ _ y).trans (hy 0 0 rfl inb_S512x4096_S512x1024_0_0 y).symm

/-- The first output's block: the hidden gradient times the first weight, transposed, a shard after another. -/
theorem out4_apply (r : Fin 512) (k : Fin 1024) :
    out0_4 x0 x1 x2 x3 (ix2 r k) = ∑ s : Fin 4, ∑ j : Fin 1024, blkHidden x0 x1 x3 r s j * x2 (ix4 s 0 k j) := by
  unfold out0_4 k0_pay12 k0_pay13 k0_pay14 k0_pay11
  rw [View.canon_unit_zero (funext fun a => by fin_cases a <;> rfl)]
  have hs : ∀ (g : FVec Ideal S512x1024 .bf16) (s : Fin 4) (inb) (h : ∀ j, g (ix2 r j) = blkHidden x0 x1 x3 r s j),
      ∑ j : Fin 1024, g (ix2 r j) * View.ld x2 (Rect.unit (s := S4x1x1024x1024) ![s.val, 0, 0, 0] S1x1x1024x1024.size inb) (ix4 0 0 k j)
        = ∑ j : Fin 1024, blkHidden x0 x1 x3 r s j * x2 (ix4 s 0 k j) := fun g s inb h =>
    Finset.sum_congr rfl fun j _ => by rw [h, shard_ld]
  have h4 : ∀ f : Fin 4 → EReal, ∑ s, f s = 0 + f 0 + f 1 + f 2 + f 3 := fun f => by rw [Fin.sum_univ_four, zero_add]
  rw [h4, ← hs (k0_pay4 (View.ld x0 r0_0) (View.ld x3 r0_1) (View.ld x1 r0_2)) 0 inb_S4x1x1024x1024_S1x1x1024x1024_0_0_0_0 (fun j => hiddenPay_ld x0 x1 x3 0 0 rfl _ _ r j),
    ← hs (k0_pay6 (View.ld x0 r0_0) (View.ld x3 r0_3) (View.ld x1 r0_4)) 1 inb_S4x1x1024x1024_S1x1x1024x1024_1_0_0_0 (fun j => hiddenPay_ld x0 x1 x3 1 1024 rfl _ _ r j),
    ← hs (k0_pay7 (k0_pay3 (View.ld x0 r0_0)) (View.ld x3 r0_5) (View.ld x1 r0_6)) 2 inb_S4x1x1024x1024_S1x1x1024x1024_2_0_0_0 (fun j => hiddenPay_ld x0 x1 x3 2 2048 rfl _ _ r j),
    ← hs (k0_pay1 (k0_pay9 (k0_pay3 (View.ld x0 r0_0)) (View.ld x3 r0_7)) (k0_pay10 (View.ld x1 r0_8))) 3 inb_S4x1x1024x1024_S1x1x1024x1024_3_0_0_0 (fun j => hiddenPay_ld x0 x1 x3 3 3072 rfl _ _ r j)]
  unfold k0_pay2 k0_pay8 k0_pay5
  dsimp only
  simp only [addf, inputPay_apply]
  have hz : (broadcast S512x1024 (Scalar.ofBits .f32 0x00000000#32) : FVec Ideal S512x1024 .f32) (ix2 r k) = 0 := by pointwise
  simp only [Ideal.addf_def, hz]
  rfl

/-- The third output's block: the cotangent. -/
theorem out6_apply (r : Fin 512) (k : Fin 1024) : out0_6 x0 x1 x2 x3 (ix2 r k) = x0 (ix2 r k) := by
  unfold out0_6 k0_pay11
  rw [View.canon_unit_zero (funext fun a => by fin_cases a <;> rfl)]
  unfold k0_pay3
  exact congrArg x0 (funext fun q => Fin.ext (by
    match q with
    | ⟨0, _⟩ => show 0 + 1 * r.val = r.val; omega
    | ⟨1, _⟩ => show 0 + 1 * k.val = k.val; omega))

end Cert.Mlp

end
-- ==== Proof.Mlp.Tile.lean ====
/- A tile of 512 token rows of the MLP's backward kernel, wherever its rows lie in the arrays. -/
module

public import proofs.«01_k».proof.Proof.Mlp.Block
public import Idealize.ShloMosaic.Lib.Pipeline.ValueKit

@[expose] public section

noncomputable section

namespace Cert.Mlp

open Idealize.ShloMosaic Cert.Kernel2Ideal Cert.Kernel2Ideal.Gen
open scoped BigOperators

/-- The blocks hold the rows `row r` of the cotangent and of the saved activation, and the weights' shards. -/
structure IsTile (h ct : FVec Ideal S4608x1024 .f32) (w1 : FVec Ideal S1024x4096 .f32) (w2 : FVec Ideal S4096x1024 .f32) (row : Fin 512 → Fin 4608)
    (x0 : Vec Ideal S512x1024 .f32) (x1 : Vec Ideal S512x4096 .bf16) (x2 x3 : Vec Ideal S4x1x1024x1024 .bf16) : Prop where
  ct_rows : ∀ r k, x0 (ix2 r k) = ct (ix2 (row r) k)
  saved_rows : ∀ r f, x1 (ix2 r f) = max (hidden h w1 (row r) f) 0 * max (hidden h w1 (row r) f) 0
  w1_shards : ∀ (s : Fin 4) (k j : Fin 1024), x2 (ix4 s 0 k j) = w1 (ix2 k ⟨s.val * 1024 + j.val, by omega⟩)
  w2_shards : ∀ (s : Fin 4) (j k : Fin 1024), x3 (ix4 s 0 j k) = w2 (ix2 ⟨s.val * 1024 + j.val, by omega⟩ k)

variable {h ct : FVec Ideal S4608x1024 .f32} {w1 : FVec Ideal S1024x4096 .f32} {w2 : FVec Ideal S4096x1024 .f32} {row : Fin 512 → Fin 4608}
  {x0 : Vec Ideal S512x1024 .f32} {x1 : Vec Ideal S512x4096 .bf16} {x2 x3 : Vec Ideal S4x1x1024x1024 .bf16}
  (ht : IsTile h ct w1 w2 row x0 x1 x2 x3)

include ht

/-- A tile's hidden gradient is the reference's: the kernel's twice the root of the saved square is twice the ReLU. -/
theorem blkHidden_eq (r : Fin 512) (s : Fin 4) (j : Fin 1024) :
    blkHidden x0 x1 x3 r s j = dHidden h w1 w2 ct (row r) ⟨s.val * 1024 + j.val, by omega⟩ := by
  unfold blkHidden dHidden dAct
  rw [ht.saved_rows, sqrt_mul_self _ (le_max_right _ _)]
  refine congrArg (· * _) (Finset.sum_congr rfl fun k _ => ?_)
  rw [ht.ct_rows, ht.w2_shards]

/-- The tile's input gradient. -/
theorem tile_input (r : Fin 512) (k : Fin 1024) : out0_4 x0 x1 x2 x3 (ix2 r k) = dInput h w1 w2 ct (row r) k := by
  rw [out4_apply]
  unfold dInput
  refine Eq.trans ?_ (Fin.sum_mul_add_fin (S := 4) (n := 1024) (fun f => dHidden h w1 w2 ct (row r) f * w1 (ix2 k f)))
  refine Finset.sum_congr rfl fun s _ => Finset.sum_congr rfl fun j _ => ?_
  rw [blkHidden_eq ht, ht.w1_shards]

/-- The tile's hidden gradient, by column. -/
theorem tile_hidden (r : Fin 512) (f : Fin 4096) : out0_5 x0 x1 x2 x3 (ix2 r f) = dHidden h w1 w2 ct (row r) f := by
  rw [out5_apply]
  unfold blkHiddenCol
  rw [blkHidden_eq ht]
  congr 1
  exact Fin.ext (by show f.val / 1024 * 1024 + f.val % 1024 = f.val; omega)

/-- The tile's cotangent. -/
theorem tile_ct (r : Fin 512) (k : Fin 1024) : out0_6 x0 x1 x2 x3 (ix2 r k) = ct (ix2 (row r) k) := by
  rw [out6_apply, ht.ct_rows]

end Cert.Mlp

end
-- ==== Proof.Mlp.Array.lean ====
/- What the MLP's backward kernel leaves in its three result arrays. -/
module

public import proofs.«01_k».proof.Proof.Mlp.Host
public import proofs.«01_k».proof.Proof.Mlp.Tile
public import Idealize.ShloMosaic.Lib.Pipeline.ValueKit

@[expose] public section

noncomputable section

namespace Cert.Mlp

open Idealize.ShloMosaic Idealize.ShloMosaic.TcCoe Idealize.SL.Sem Cert.Kernel2Ideal Cert.Kernel2Ideal.Gen Cert.Kernel2Ideal.Value
open scoped BigOperators

variable (m : (ℓ : Loc nD τ sig) → Buf (Elt Ideal) ℓ) (c : Dev nD)

/-! ## The windows' block indices: the token windows take the point's 512 rows, the weight windows a whole slot. -/

theorem idxTok : ∀ t : Fin cfg0.N, win0_0.index t = ![t.val, 0] ∧ win0_1.index t = ![t.val, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0]
    ∧ win0_4.index t = ![t.val, 0] ∧ win0_5.index t = ![t.val, 0] ∧ win0_6.index t = ![t.val, 0])

theorem idxW : ∀ t : Fin cfg0.N, win0_2.index t = ![0, 0, 0, 0] ∧ win0_3.index t = ![0, 1, 0, 0] :=
  (by decide +kernel : ∀ t : Fin grid0.N, win0_2.index t = ![0, 0, 0, 0] ∧ win0_3.index t = ![0, 1, 0, 0])

/-- Row `r` of point `t`'s tile. -/
def row (t : Fin cfg0.N) (r : Fin 512) : Fin 4608 :=
  ⟨t.val * 512 + r.val, by have h : t.val < 9 := lt_of_lt_of_eq t.isLt (by decide); omega⟩

theorem ct_block (t : Fin cfg0.N) (r : Fin 512) (k : Fin 1024) :
    (iblk m c 0 t : FVec Ideal S512x1024 .f32) (ix2 r k) = argCt m c (ix2 (row t r) k) := by
  show _ = m ((c : Thread nD τ).loc main_arg3) _
  rw [← V_main_arg3 m c]
  unfold iblk; rw [View.read_apply]
  show V m c main_arg3 _ = _
  refine congrArg (V m c main_arg3) ?_
  blk_ext [(idxTok t).1, row]

theorem saved_block (t : Fin cfg0.N) (r : Fin 512) (f : Fin 4096) :
    (iblk m c 1 t : FVec Ideal S512x4096 .bf16) (ix2 r f)
      = max (hidden (argH m c) (argW1 m c) (row t r) f) 0 * max (hidden (argH m c) (argW1 m c) (row t r) f) 0 := by
  rw [← savedArr_apply, ← saved_eq]
  unfold iblk; rw [View.read_apply]
  show V m c main_v3 _ = _
  refine congrArg (V m c main_v3) ?_
  blk_ext [(idxTok t).2.1, row]

theorem w1_block (t : Fin cfg0.N) (s : Fin 4) (k j : Fin 1024) :
    (iblk m c 2 t : FVec Ideal S4x1x1024x1024 .bf16) (ix4 s 0 k j) = argW1 m c (ix2 k ⟨s.val * 1024 + j.val, by omega⟩) := by
  rw [← familyArr_w1 (argW1 m c) (argW2 m c), ← family_eq]
  unfold iblk; rw [View.read_apply]
  show V m c main_v10 _ = _
  refine congrArg (V m c main_v10) ?_
  blk_ext [(idxW t).1]

theorem w2_block (t : Fin cfg0.N) (s : Fin 4) (j k : Fin 1024) :
    (iblk m c 3 t : FVec Ideal S4x1x1024x1024 .bf16) (ix4 s 0 j k) = argW2 m c (ix2 ⟨s.val * 1024 + j.val, by omega⟩ k) := by
  rw [← familyArr_w2 (argW1 m c) (argW2 m c), ← family_eq]
  unfold iblk; rw [View.read_apply]
  show V m c main_v10 _ = _
  refine congrArg (V m c main_v10) ?_
  blk_ext [(idxW t).2]

theorem isTile (t : Fin cfg0.N) : IsTile (argH m c) (argCt m c) (argW1 m c) (argW2 m c) (row t) (iblk m c 0 t) (iblk m c 1 t) (iblk m c 2 t) (iblk m c 3 t) :=
  ⟨ct_block m c t, saved_block m c t, w1_block m c t, w2_block m c t⟩

/-! ## The arrays -/

theorem final4 (t : Fin 4608) (k : Fin 1024) : ((dats m 0 c).arrAt 4 cfg0.N : FVec Ideal S4608x1024 .f32) (ix2 t k)
    = dInput (argH m c) (argW1 m c) (argW2 m c) (argCt m c) t k := by
  have h : (dats m 0 c).arrAt 4 cfg0.N
      = (fun i => dInput (argH m c) (argW1 m c) (argW2 m c) (argCt m c) (i 0) (i 1) : FVec Ideal S4608x1024 .f32) := by
    refine (dats m 0 c).arrAt_eq_of_covers 4 _ (by decide +kernel) fun t hf y => ?_
    blk_simp
    rw [after0_4]
    obtain ⟨r, k, rfl⟩ : ∃ r k, y = ix2 r k := ⟨y 0, y 1, (eq_ix2 y)⟩
    have e : (win0_4.blk t).view.emb (ix2 r k) = ix2 (row t r) k := by blk_ext [(idxTok t).2.2.1, row]
    rw [e]
    exact tile_input (isTile m c t) r k
  rw [h]; rfl

theorem final5 (t : Fin 4608) (f : Fin 4096) : ((dats m 0 c).arrAt 5 cfg0.N : FVec Ideal S4608x4096 .bf16) (ix2 t f)
    = dHidden (argH m c) (argW1 m c) (argW2 m c) (argCt m c) t f := by
  have h : (dats m 0 c).arrAt 5 cfg0.N
      = (fun i => dHidden (argH m c) (argW1 m c) (argW2 m c) (argCt m c) (i 0) (i 1) : FVec Ideal S4608x4096 .bf16) := by
    refine (dats m 0 c).arrAt_eq_of_covers 5 _ (by decide +kernel) fun t hf y => ?_
    blk_simp
    rw [after0_5]
    obtain ⟨r, f, rfl⟩ : ∃ r f, y = ix2 r f := ⟨y 0, y 1, (eq_ix2 y)⟩
    have e : (win0_5.blk t).view.emb (ix2 r f) = ix2 (row t r) f := by blk_ext [(idxTok t).2.2.2.1, row]
    rw [e]
    exact tile_hidden (isTile m c t) r f
  rw [h]; rfl

theorem final6 (t : Fin 4608) (k : Fin 1024) : ((dats m 0 c).arrAt 6 cfg0.N : FVec Ideal S4608x1024 .bf16) (ix2 t k)
    = argCt m c (ix2 t k) := by
  have h : (dats m 0 c).arrAt 6 cfg0.N = (argCt m c : FVec Ideal S4608x1024 .bf16) := by
    refine (dats m 0 c).arrAt_eq_of_covers 6 _ (by decide +kernel) fun t hf y => ?_
    blk_simp
    rw [after0_6]
    obtain ⟨r, k, rfl⟩ : ∃ r k, y = ix2 r k := ⟨y 0, y 1, (eq_ix2 y)⟩
    have e : (win0_6.blk t).view.emb (ix2 r k) = ix2 (row t r) k := by blk_ext [(idxTok t).2.2.2.2, row]
    rw [e]
    exact tile_ct (isTile m c t) r k
  rw [h]

end Cert.Mlp

end
-- ==== Proof.Mlp.Reference.lean ====
/- What the reference's gradients hold at an index. -/
module

public import proofs.«01_k».proof.Proof.Mlp.Spec
public import proofs.«01_k».proof.Proof.Mlp.Scalar
public import proofs.«01_k».proof.Proof.Gen.Reference2Ideal.Run
public import Idealize.ShloMosaic.Lib.Pointwise

@[expose] public section

noncomputable section

namespace Cert.Mlp

open Idealize.ShloMosaic Cert.Reference2Ideal Cert.Reference2Ideal.Gen
open scoped BigOperators

variable (h : FVec Ideal S4608x1024 .f32) (w1 : FVec Ideal S1024x4096 .f32) (w2 : FVec Ideal S4096x1024 .f32)
  (ct : FVec Ideal S4608x1024 .f32)

/-- The hidden layer before its activation. -/
theorem refHidden_apply (t : Fin 4608) (f : Fin 4096) :
    Host.dotGeneral dot_S4608x1024_S1024x4096_S4608x4096_1_0_0_1_n_n none h w1 (ix2 t f) = hidden h w1 t f := by
  pointwise
  rfl

/-- The reference's gradient of the hidden layer, as printed. -/
abbrev refDHidden : FVec Ideal S4608x4096 .f32 :=
  select (cmpf .ogt (Host.dotGeneral dot_S4608x1024_S1024x4096_S4608x4096_1_0_0_1_n_n none h w1) (broadcastInDim S4608x4096 ![] bcast_S_S4608x4096 (constant S_ .f32 0x00000000#32))) (mulf (Host.dotGeneral dot_S4608x1024_S4096x1024_S4608x4096_1_1_0_0_n_n none ct w2) (mulf (broadcastInDim S4608x4096 ![] bcast_S_S4608x4096 (constant S_ .f32 0x40000000#32)) (maximumf (Host.dotGeneral dot_S4608x1024_S1024x4096_S4608x4096_1_0_0_1_n_n none h w1) (broadcastInDim S4608x4096 ![] bcast_S_S4608x4096 (constant S_ .f32 0x00000000#32))))) (broadcastInDim S4608x4096 ![] bcast_S_S4608x4096 (constant S_ .f32 0x00000000#32))

/-- It is twice the ReLU times the activation's cotangent: where the ReLU is off both sides are zero. -/
theorem refDHidden_apply (t : Fin 4608) (f : Fin 4096) :
    refDHidden h w1 w2 ct (ix2 t f) = dHidden h w1 w2 ct t f := by
  unfold refDHidden
  pointwise
  rw [ofBits_two]
  exact ite_relu _ _

/-- The reference's gradient of the input. -/
theorem refDInput_apply (t : Fin 4608) (k : Fin 1024) :
    Host.dotGeneral dot_S4608x4096_S1024x4096_S4608x1024_1_1_0_0_n_n none (refDHidden h w1 w2 ct) w1 (ix2 t k)
      = dInput h w1 w2 ct t k := by
  have e : ∀ g : FVec Ideal S4608x4096 .f32,
      Host.dotGeneral dot_S4608x4096_S1024x4096_S4608x1024_1_1_0_0_n_n none g w1 (ix2 t k)
        = ∑ f : Fin 4096, g (ix2 t f) * w1 (ix2 k f) := fun g => by pointwise
  rw [e]
  exact Finset.sum_congr rfl fun f _ => by rw [refDHidden_apply]

end Cert.Mlp

end
-- ==== Proof.Mlp.Equation.lean ====
/- The MLP's backward kernel and the reference's derivative compute the same three arrays. -/
module

public import proofs.«01_k».proof.Defs
public import proofs.«01_k».proof.Proof.Mlp.Array
public import proofs.«01_k».proof.Proof.Mlp.Reference
public import proofs.«01_k».proof.Proof.Gen.Reference2Ideal.Run

@[expose] public section

noncomputable section

namespace Cert.Mlp

open Idealize.ShloMosaic Idealize.ShloMosaic.TcCoe Idealize.SL.Sem
open scoped BigOperators

theorem algebraic : Cert.algebraic_Kernel2Ideal_Reference2Ideal := by
  intro m g m' g' _ hargs
  refine ⟨_, _, _, Cert.Kernel2Ideal.Value.run_blocks m g, ?_⟩
  refine (θ_run Cert.Reference2Ideal.defs _ _).mono (fun r h c => ?_) (Cert.Reference2Ideal.Value.run (F := Ideal) m' g')
  obtain ⟨h0, h1, h2, hk⟩ := h c
  obtain ⟨e0, e1, e2, e3⟩ := hargs c
  refine ⟨h0.trans ?_, h1.trans ?_, h2.trans ?_, hk⟩
  · rw [e0, e1, e2, e3]
    funext i
    obtain ⟨t, k, rfl⟩ : ∃ t k, i = ix2 t k := ⟨i 0, i 1, eq_ix2 i⟩
    exact (refDInput_apply _ _ _ _ t k).trans (final4 m c t k).symm
  · rw [e0, e1, e2, e3]
    funext i
    obtain ⟨t, f, rfl⟩ : ∃ t f, i = ix2 t f := ⟨i 0, i 1, eq_ix2 i⟩
    exact (refDHidden_apply _ _ _ _ t f).trans (final5 m c t f).symm
  · rw [e3]
    funext i
    obtain ⟨t, k, rfl⟩ : ∃ t k, i = ix2 t k := ⟨i 0, i 1, eq_ix2 i⟩
    exact (final6 m c t k).symm

end Cert.Mlp

end
-- ==== Proof.Mlp.Tokens.lean ====
/- The sum over the 4608 token rows, walked as three points of three tiles of 512 rows. -/
module

public import proofs.«01_k».proof.Proof.Mlp.Spec
public import Idealize.ShloMosaic.Lib.Pipeline.ValueKit

@[expose] public section

noncomputable section

namespace Cert.Mlp

open Idealize.ShloMosaic
open scoped BigOperators

/-- Row `r` of tile `e` of point `s`. -/
def tok (s e : Fin 3) (r : Fin 512) : Fin 4608 := ⟨(3 * s.val + e.val) * 512 + r.val, by omega⟩

theorem sum_tokens (f : Fin 4608 → EReal) :
    ∑ s : Fin 3, ((∑ r, f (tok s 0 r)) + (∑ r, f (tok s 1 r)) + ∑ r, f (tok s 2 r)) = ∑ t, f t := by
  rw [← Fin.sum_mul_add_fin (S := 9) (n := 512) f,
    ← Fin.sum_mul_add_fin (S := 3) (n := 3) (fun q : Fin 9 => ∑ r : Fin 512, f ⟨q.val * 512 + r.val, by omega⟩)]
  refine Finset.sum_congr rfl fun s _ => ?_
  rw [Fin.sum_univ_three]
  have e : ∀ e : Fin 3, ∀ r : Fin 512, tok s e r = ⟨(s.val * 3 + e.val) * 512 + r.val, by omega⟩ := fun e r =>
    Fin.ext (by show (3 * s.val + e.val) * 512 + r.val = _; rw [Nat.mul_comm 3])
  simp only [e]

end Cert.Mlp

end
-- ==== Proof.Mlp.WeightOne.lean ====
/- The first weight's gradient: what the kernel leaves in the shards' first slot. -/
module

public import proofs.«01_k».proof.Proof.Mlp.Tokens
public import proofs.«01_k».proof.Proof.Gen.Kernel3Ideal.Value
public import Idealize.ShloMosaic.Lib.Pointwise

@[expose] public section

noncomputable section

namespace Cert.MlpW1

open Idealize.ShloMosaic Idealize.ShloMosaic.TcCoe Idealize.SL.Sem Cert.Kernel3Ideal Cert.Kernel3Ideal.Gen Cert.Kernel3Ideal.Value
open Cert.Mlp
open scoped BigOperators

variable (m : (ℓ : Loc nD τ sig) → Buf (Elt Ideal) ℓ) (c : Dev nD)

abbrev argX : FVec Ideal S4608x1024 .f32 := m ((c : Thread nD τ).loc main_arg0)
abbrev argG : FVec Ideal S4608x4096 .f32 := m ((c : Thread nD τ).loc main_arg1)

/-- One point's contribution: three tiles of 512 rows. -/
def part (a0 a1 a2 b0 b1 b2 : FVec Ideal S512x1024 .bf16) (i : S1x1x1024x1024.Idx) : EReal :=
  (∑ r : Fin 512, a0 (ix2 r (i 2)) * b0 (ix2 r (i 3))) + (∑ r : Fin 512, a1 (ix2 r (i 2)) * b1 (ix2 r (i 3)))
    + ∑ r : Fin 512, a2 (ix2 r (i 2)) * b2 (ix2 r (i 3))

theorem pay1_apply (a0 a1 a2 b0 b1 b2 : FVec Ideal S512x1024 .bf16) (k n : Fin 1024) :
    k0_pay1 (F := Ideal) a0 b0 a1 b1 a2 b2 (ix2 k n) = part a0 a1 a2 b0 b1 b2 (ix4 0 0 k n) := by
  unfold k0_pay1 part
  pointwise

theorem pay2_apply (a0 a1 a2 b0 b1 b2 : FVec Ideal S512x1024 .bf16) (i : S1x1x1024x1024.Idx) :
    k0_pay2 (F := Ideal) a0 b0 a1 b1 a2 b2 i = part a0 a1 a2 b0 b1 b2 i := by
  obtain ⟨s, u, k, n, rfl⟩ : ∃ s u k n, i = ix4 s u k n := ⟨i 0, i 1, i 2, i 3, eq_ix4 i⟩
  unfold k0_pay2
  generalize hp : k0_pay1 (F := Ideal) a0 b0 a1 b1 a2 b2 = p
  pointwise
  rw [← hp, pay1_apply]
  rfl

theorem pay3_apply (a0 a1 a2 b0 b1 b2 : FVec Ideal S512x1024 .bf16) (o : FVec Ideal S1x1x1024x1024 .f32) (i : S1x1x1024x1024.Idx) :
    k0_pay3 (F := Ideal) a0 b0 a1 b1 a2 b2 o i = o i + part a0 a1 a2 b0 b1 b2 i := by
  obtain ⟨s, u, k, n, rfl⟩ : ∃ s u k n, i = ix4 s u k n := ⟨i 0, i 1, i 2, i 3, eq_ix4 i⟩
  obtain rfl : s = 0 := Subsingleton.elim _ _
  obtain rfl : u = 0 := Subsingleton.elim _ _
  unfold k0_pay3
  generalize hp : k0_pay1 (F := Ideal) a0 b0 a1 b1 a2 b2 = p
  pointwise
  rw [← hp, pay1_apply]

/-! ## The windows' blocks -/

theorem idxX : ∀ t : Fin cfg0.N, win0_0.index t = ![3 * (t.val % 3) + 0, 0] ∧ win0_1.index t = ![3 * (t.val % 3) + 1, 0]
    ∧ win0_2.index t = ![3 * (t.val % 3) + 2, 0] :=
  (by decide +kernel : ∀ t : Fin grid0.N, win0_0.index t = ![3 * (t.val % 3) + 0, 0] ∧ win0_1.index t = ![3 * (t.val % 3) + 1, 0]
    ∧ win0_2.index t = ![3 * (t.val % 3) + 2, 0])

theorem idxG : ∀ t : Fin cfg0.N, win0_3.index t = ![3 * (t.val % 3) + 0, t.val / 3] ∧ win0_4.index t = ![3 * (t.val % 3) + 1, t.val / 3]
    ∧ win0_5.index t = ![3 * (t.val % 3) + 2, t.val / 3] :=
  (by decide +kernel : ∀ t : Fin grid0.N, win0_3.index t = ![3 * (t.val % 3) + 0, t.val / 3] ∧ win0_4.index t = ![3 * (t.val % 3) + 1, t.val / 3]
    ∧ win0_5.index t = ![3 * (t.val % 3) + 2, t.val / 3])

theorem idxO : ∀ t : Fin cfg0.N, win0_6.index t = ![t.val / 3, 0, 0, 0] :=
  (by decide +kernel : ∀ t : Fin grid0.N, win0_6.index t = ![t.val / 3, 0, 0, 0])

theorem lt12 (t : Fin cfg0.N) : t.val < 12 := lt_of_lt_of_eq t.isLt (by decide)

/-- The point's place in its run of three, and the run's shard. -/
def pl (t : Fin cfg0.N) : Fin 3 := ⟨t.val % 3, by omega⟩
def sh (t : Fin cfg0.N) : Fin 4 := ⟨t.val / 3, by have := lt12 t; omega⟩

/-- Column `n` of shard `s` of the hidden axis. -/
def col (s : Fin 4) (n : Fin 1024) : Fin 4096 := ⟨s.val * 1024 + n.val, by omega⟩

theorem V_x : (V m c main_v0 : FVec Ideal S4608x1024 .bf16) = argX m c := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem V_g : (V m c main_v1 : FVec Ideal S4608x4096 .bf16) = argG m c := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem part_eq (t : Fin cfg0.N) (i : S1x1x1024x1024.Idx) :
    part (iblk m c 0 t) (iblk m c 1 t) (iblk m c 2 t) (iblk m c 3 t) (iblk m c 4 t) (iblk m c 5 t) i
      = (∑ r, argX m c (ix2 (tok (pl t) 0 r) (i 2)) * argG m c (ix2 (tok (pl t) 0 r) (col (sh t) (i 3))))
        + (∑ r, argX m c (ix2 (tok (pl t) 1 r) (i 2)) * argG m c (ix2 (tok (pl t) 1 r) (col (sh t) (i 3))))
        + ∑ r, argX m c (ix2 (tok (pl t) 2 r) (i 2)) * argG m c (ix2 (tok (pl t) 2 r) (col (sh t) (i 3))) := by
  unfold part
  have hx := idxX t
  have hg := idxG t
  rw [← V_x, ← V_g]
  unfold iblk
  simp only [View.read_apply]
  refine congrArg₂ (· + ·) (congrArg₂ (· + ·) ?_ ?_) ?_ <;> refine Finset.sum_congr rfl fun r _ => congrArg₂ (· * ·) ?_ ?_
  · refine congrArg (V m c main_v0) ?_
    blk_ext [hx.1, tok, pl]
  · refine congrArg (V m c main_v1) ?_
    blk_ext [hg.1, tok, pl, sh, col]
  · refine congrArg (V m c main_v0) ?_
    blk_ext [hx.2.1, tok, pl]
  · refine congrArg (V m c main_v1) ?_
    blk_ext [hg.2.1, tok, pl, sh, col]
  · refine congrArg (V m c main_v0) ?_
    blk_ext [hx.2.2, tok, pl]
  · refine congrArg (V m c main_v1) ?_
    blk_ext [hg.2.2, tok, pl, sh, col]

/-- The block a run of three points leaves: the gradient's shard. -/
theorem outs_eq (t : Fin cfg0.N) (hr : t.val % 3 = 2) (i : S1x1x1024x1024.Idx) :
    outsAt0 m c t.val t.isLt i = dWeight (argX m c) (argG m c) (i 2) (col (sh t) (i 3)) := by
  rw [Pipeline.eq_sum_fin_of_reset_step_apply_of_flush (fun n h => outsAt0 m c n h) 3 (fun _ => (0 : EReal))
      (fun t i => part (iblk m c 0 t) (iblk m c 1 t) (iblk m c 2 t) (iblk m c 3 t) (iblk m c 4 t) (iblk m c 5 t) i)
    (fun t h j => by rw [outsAt0_A m c t h (by omega)]; frame_out; rw [pay2_apply, zero_add])
    (fun t h j => by rw [outsAt0_B m c t h (by omega)]; frame_out; rw [pay3_apply]) t hr i, zero_add]
  unfold dWeight
  rw [← sum_tokens]
  refine Finset.sum_congr rfl fun s _ => ?_
  rw [part_eq]
  have e1 : pl ⟨3 * (t.val / 3) + s.val, Pipeline.run_point_lt_of_flush t hr s⟩ = s := Fin.ext (by
    show (3 * (t.val / 3) + s.val) % 3 = s.val; omega)
  have e2 : sh ⟨3 * (t.val / 3) + s.val, Pipeline.run_point_lt_of_flush t hr s⟩ = sh t := Fin.ext (by
    show (3 * (t.val / 3) + s.val) / 3 = t.val / 3; omega)
  rw [e1, e2]

/-- The array the run leaves, on its first slot. -/
theorem final (s : Fin 4) (k n : Fin 1024) : ((dats m 0 c).arrAt 6 cfg0.N : FVec Ideal S4x2x1024x1024 .f32) (ix4 s 0 k n)
    = dWeight (argX m c) (argG m c) k (col s n) := by
  have h := (dats m 0 c).arrAt_emb_eq_of_coversWhere 6
    (fun i => dWeight (argX m c) (argG m c) (i 2) (col (i 0) (i 3)) : FVec Ideal S4x2x1024x1024 .f32)
    (fun β => β (1 : Fin 4) = 0) (by decide +kernel) (fun t hf y => by
      blk_simp
      rw [after0_6, outs_eq m c t ((flush0_6 t).mp hf)]
      have e2 : ((win0_6.blk t).view.emb y) 2 = y 2 := Fin.ext (by blk_simp [idxO t])
      have e3 : ((win0_6.blk t).view.emb y) 3 = y 3 := Fin.ext (by blk_simp [idxO t])
      have e0 : ((win0_6.blk t).view.emb y) 0 = sh t := Fin.ext (by blk_simp [idxO t]; have : (y 0).val < 1 := (y 0).isLt; simp [sh])
      rw [e2, e3, e0]) (ix4 s 0 k n)
  refine h.trans (if_pos ?_)
  show (0 : ℕ) / 1 = 0
  rfl

end Cert.MlpW1

end
-- ==== Proof.Mlp.EquationOne.lean ====
/- The first weight's gradient: the kernel and the reference agree on the slot the kernel fills. -/
module

public import proofs.«01_k».proof.Defs
public import proofs.«01_k».proof.Proof.Mlp.WeightOne
public import proofs.«01_k».proof.Proof.Gen.Reference3Ideal.Run
public import proofs.«01_k».proof.Proof.Gen.On_first_slot

@[expose] public section

noncomputable section

namespace Cert.MlpW1

open Idealize.ShloMosaic Idealize.ShloMosaic.TcCoe Idealize.SL.Sem
open Cert.Mlp
open scoped BigOperators

section
open Cert.Reference3Ideal Cert.Reference3Ideal.Gen

/-- A weight's gradient laid out as column shards in the first slot, as printed. -/
abbrev refShards (d : FVec Ideal S4096x1024 .f32) : FVec Ideal S4x2x1024x1024 .f32 :=
  concatenate S4x2x1024x1024 1 [⟨S4x1x1024x1024, (broadcastInDim S4x1x1024x1024 ![0, 2, 3] bcast_S4x1024x1024_S4x1x1024x1024_0_2_3 (transpose S4x1024x1024 [1, 0, 2] (shapeCast S1024x4x1024 (transpose S1024x4096 [1, 0] d transposes_S4096x1024_S1024x4096_1_0) shapeCasts_S1024x4096_S1024x4x1024) transposes_S1024x4x1024_S4x1024x1024_1_0_2))⟩, ⟨S4x1x1024x1024, (broadcastInDim S4x1x1024x1024 ![0, 2, 3] bcast_S4x1024x1024_S4x1x1024x1024_0_2_3 (broadcastInDim S4x1024x1024 ![] bcast_S_S4x1024x1024 (constant S_ .f32 0x00000000#32)))⟩] concatenates_S4x1x1024x1024_S4x1x1024x1024_S4x2x1024x1024_d1

theorem refShards_zero (d : FVec Ideal S4096x1024 .f32) (s : Fin 4) (k n : Fin 1024) :
    refShards d (ix4 s 0 k n) = d (ix2 (col s n) k) := by
  unfold refShards
  pointwise
  rfl

theorem refArray_apply (x : FVec Ideal S4608x1024 .f32) (g : FVec Ideal S4608x4096 .f32) (s : Fin 4) (k n : Fin 1024) :
    refShards (Host.dotGeneral dot_S4608x4096_S4608x1024_S4096x1024_0_0_1_1_n_n none g x) (ix4 s 0 k n) = dWeight x g k (col s n) := by
  rw [refShards_zero]
  unfold dWeight
  have e : ∀ f : Fin 4096, Host.dotGeneral dot_S4608x4096_S4608x1024_S4096x1024_0_0_1_1_n_n none g x (ix2 f k)
      = ∑ t : Fin 4608, g (ix2 t f) * x (ix2 t k) := fun f => by pointwise
  rw [e]
  exact Finset.sum_congr rfl fun t _ => mul_comm _ _

end

/-- The mask selects the first slot only. -/
theorem mask (x : FVec Ideal Cert.On_first_slot.S4608x1024 .f32) (g : FVec Ideal Cert.On_first_slot.S4608x4096 .f32)
    (s : Fin 4) (u : Fin 2) (k n : Fin 1024) (h : Cert.On_first_slot.fn (F := Ideal) x g (ix4 s u k n) = 1#1) : u = 0 := by
  by_contra hu
  obtain rfl : u = 1 := by omega
  have e : Cert.On_first_slot.fn (F := Ideal) x g (ix4 s 1 k n) = 0#1 := by
    unfold Cert.On_first_slot.fn
    rfl
  exact absurd (e.symm.trans h) (by decide)

theorem algebraic : Cert.algebraic_Kernel3Ideal_Reference3Ideal_on_first_slot := by
  intro m g m' g' _ hargs
  refine ⟨fun c => (Cert.Kernel3Ideal.Gen.dats m 0 c).arrAt 6 Cert.Kernel3Ideal.cfg0.N, ?_, ?_⟩
  · refine (θ_run Cert.Kernel3Ideal.defs _ _).mono (fun r h c => ⟨fun i _ => ?_, (h c).2⟩) (Cert.Kernel3Ideal.Value.run_blocks m g)
    exact congrFun (h c).1 i
  · refine (θ_run Cert.Reference3Ideal.defs _ _).mono (fun r h c => ⟨fun i hi => ?_, (h c).2⟩) (Cert.Reference3Ideal.Value.run (F := Ideal) m' g')
    obtain ⟨e0, e1⟩ := hargs c
    refine (congrFun (h c).1 i).trans ?_
    rw [e0, e1]
    obtain ⟨s, u, k, n, rfl⟩ : ∃ s u k n, i = ix4 s u k n := ⟨i 0, i 1, i 2, i 3, eq_ix4 i⟩
    obtain rfl := mask _ _ s u k n hi
    exact (refArray_apply _ _ s k n).trans (final m c s k n).symm

end Cert.MlpW1

end
-- ==== Proof.Mlp.WeightTwo.lean ====
/- The second weight's gradient: what the kernel leaves in the family's array, whose other slot it keeps. -/
module

public import proofs.«01_k».proof.Proof.Mlp.WeightOne
public import proofs.«01_k».proof.Proof.Gen.Kernel4Ideal.Value

@[expose] public section

noncomputable section

namespace Cert.MlpW2

open Idealize.ShloMosaic Idealize.ShloMosaic.TcCoe Idealize.SL.Sem Cert.Kernel4Ideal Cert.Kernel4Ideal.Gen Cert.Kernel4Ideal.Value
open Cert.Mlp
open Cert.MlpW1 (part col)
open scoped BigOperators

variable (m : (ℓ : Loc nD τ sig) → Buf (Elt Ideal) ℓ) (c : Dev nD)

abbrev argPre : FVec Ideal S4608x4096 .f32 := m ((c : Thread nD τ).loc main_arg0)
abbrev argCt : FVec Ideal S4608x1024 .f32 := m ((c : Thread nD τ).loc main_arg1)
abbrev argFam : FVec Ideal S4x2x1024x1024 .f32 := m ((c : Thread nD τ).loc main_arg2)

/-- The squared ReLU of the hidden layer. -/
def act (pre : FVec Ideal S4608x4096 .f32) : Mat 4608 4096 := fun i => max (pre i) 0 * max (pre i) 0

/-- The payloads are the first weight's. -/
theorem pay2_apply (a0 a1 a2 b0 b1 b2 : FVec Ideal S512x1024 .bf16) (i : S1x1x1024x1024.Idx) :
    k0_pay2 (F := Ideal) a0 b0 a1 b1 a2 b2 i = part a0 a1 a2 b0 b1 b2 i := Cert.MlpW1.pay2_apply a0 a1 a2 b0 b1 b2 i

theorem pay3_apply (a0 a1 a2 b0 b1 b2 : FVec Ideal S512x1024 .bf16) (o : FVec Ideal S1x1x1024x1024 .f32) (i : S1x1x1024x1024.Idx) :
    k0_pay3 (F := Ideal) a0 b0 a1 b1 a2 b2 o i = o i + part a0 a1 a2 b0 b1 b2 i := Cert.MlpW1.pay3_apply a0 a1 a2 b0 b1 b2 o i

/-! ## The windows' blocks -/

theorem idxX : ∀ t : Fin cfg0.N, win0_0.index t = ![3 * (t.val % 3) + 0, t.val / 3] ∧ win0_1.index t = ![3 * (t.val % 3) + 1, t.val / 3]
    ∧ win0_2.index t = ![3 * (t.val % 3) + 2, t.val / 3] :=
  (by decide +kernel : ∀ t : Fin grid0.N, win0_0.index t = ![3 * (t.val % 3) + 0, t.val / 3] ∧ win0_1.index t = ![3 * (t.val % 3) + 1, t.val / 3]
    ∧ win0_2.index t = ![3 * (t.val % 3) + 2, t.val / 3])

theorem idxG : ∀ t : Fin cfg0.N, win0_3.index t = ![3 * (t.val % 3) + 0, 0] ∧ win0_4.index t = ![3 * (t.val % 3) + 1, 0]
    ∧ win0_5.index t = ![3 * (t.val % 3) + 2, 0] :=
  (by decide +kernel : ∀ t : Fin grid0.N, win0_3.index t = ![3 * (t.val % 3) + 0, 0] ∧ win0_4.index t = ![3 * (t.val % 3) + 1, 0]
    ∧ win0_5.index t = ![3 * (t.val % 3) + 2, 0])

theorem idxO : ∀ t : Fin cfg0.N, win0_6.index t = ![t.val / 3, 1, 0, 0] :=
  (by decide +kernel : ∀ t : Fin grid0.N, win0_6.index t = ![t.val / 3, 1, 0, 0])

theorem lt12 (t : Fin cfg0.N) : t.val < 12 := lt_of_lt_of_eq t.isLt (by decide)

/-- The point's place in its run of three, and the run's shard. -/
def pl (t : Fin cfg0.N) : Fin 3 := ⟨t.val % 3, by omega⟩
def sh (t : Fin cfg0.N) : Fin 4 := ⟨t.val / 3, by have := lt12 t; omega⟩

theorem V_x : (V m c main_v2 : FVec Ideal S4608x4096 .bf16) = act (argPre m c) := by
  have e : (V m c main_v2 : FVec Ideal S4608x4096 .bf16) = truncf .bf16 (mulf
      (maximumf (argPre m c) (broadcastInDim S4608x4096 ![] bcast_S_S4608x4096 (constant S_ .f32 0x00000000#32)))
      (maximumf (argPre m c) (broadcastInDim S4608x4096 ![] bcast_S_S4608x4096 (constant S_ .f32 0x00000000#32)))) bitsLt_bf16_f32 := by
    unfold V
    simp only [hostOps0, hostOps0_1, List.flatten_cons, List.flatten_nil, List.append_nil, List.cons_append,
      List.nil_append, StableHlo.TRef.binary, StableHlo.TRef.nullary, StableHlo.TRef.unary, StableHlo.TRef.toBuf, StableHlo.TRef.ofBuf, cast_eq]
    after_results
  rw [e]
  funext i
  obtain ⟨t, f, rfl⟩ : ∃ t f, i = ix2 t f := ⟨i 0, i 1, eq_ix2 i⟩
  unfold act
  pointwise

theorem V_g : (V m c main_v3 : FVec Ideal S4608x1024 .bf16) = argCt m c := by
  unfold V
  simp only [hostOps0, hostOps0_1, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem V_fam : (V m c main_v4 : FVec Ideal S4x2x1024x1024 .f32) = argFam m c := by
  unfold V
  simp only [hostOps0, hostOps0_1, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem part_eq (t : Fin cfg0.N) (i : S1x1x1024x1024.Idx) :
    part (iblk m c 0 t) (iblk m c 1 t) (iblk m c 2 t) (iblk m c 3 t) (iblk m c 4 t) (iblk m c 5 t) i
      = (∑ r, act (argPre m c) (ix2 (tok (pl t) 0 r) (col (sh t) (i 2))) * argCt m c (ix2 (tok (pl t) 0 r) (i 3)))
        + (∑ r, act (argPre m c) (ix2 (tok (pl t) 1 r) (col (sh t) (i 2))) * argCt m c (ix2 (tok (pl t) 1 r) (i 3)))
        + ∑ r, act (argPre m c) (ix2 (tok (pl t) 2 r) (col (sh t) (i 2))) * argCt m c (ix2 (tok (pl t) 2 r) (i 3)) := by
  unfold part
  have hx := idxX t
  have hg := idxG t
  rw [← V_x, ← V_g]
  unfold iblk
  simp only [View.read_apply]
  refine congrArg₂ (· + ·) (congrArg₂ (· + ·) ?_ ?_) ?_ <;> refine Finset.sum_congr rfl fun r _ => congrArg₂ (· * ·) ?_ ?_
  · refine congrArg (V m c main_v2) ?_
    blk_ext [hx.1, tok, pl, sh, col]
  · refine congrArg (V m c main_v3) ?_
    blk_ext [hg.1, tok, pl]
  · refine congrArg (V m c main_v2) ?_
    blk_ext [hx.2.1, tok, pl, sh, col]
  · refine congrArg (V m c main_v3) ?_
    blk_ext [hg.2.1, tok, pl]
  · refine congrArg (V m c main_v2) ?_
    blk_ext [hx.2.2, tok, pl, sh, col]
  · refine congrArg (V m c main_v3) ?_
    blk_ext [hg.2.2, tok, pl]

/-- The block a run of three points leaves: the gradient's shard. -/
theorem outs_eq (t : Fin cfg0.N) (hr : t.val % 3 = 2) (i : S1x1x1024x1024.Idx) :
    outsAt0 m c t.val t.isLt i = dWeight (act (argPre m c)) (argCt m c) (col (sh t) (i 2)) (i 3) := by
  rw [Pipeline.eq_sum_fin_of_reset_step_apply_of_flush (fun n h => outsAt0 m c n h) 3 (fun _ => (0 : EReal))
      (fun t i => part (iblk m c 0 t) (iblk m c 1 t) (iblk m c 2 t) (iblk m c 3 t) (iblk m c 4 t) (iblk m c 5 t) i)
    (fun t h j => by rw [outsAt0_A m c t h (by omega)]; frame_out; rw [pay2_apply, zero_add])
    (fun t h j => by rw [outsAt0_B m c t h (by omega)]; frame_out; rw [pay3_apply]) t hr i, zero_add]
  unfold dWeight
  rw [← sum_tokens]
  refine Finset.sum_congr rfl fun s _ => ?_
  rw [part_eq]
  have e1 : pl ⟨3 * (t.val / 3) + s.val, Pipeline.run_point_lt_of_flush t hr s⟩ = s := Fin.ext (by
    show (3 * (t.val / 3) + s.val) % 3 = s.val; omega)
  have e2 : sh ⟨3 * (t.val / 3) + s.val, Pipeline.run_point_lt_of_flush t hr s⟩ = sh t := Fin.ext (by
    show (3 * (t.val / 3) + s.val) / 3 = t.val / 3; omega)
  rw [e1, e2]

/-- The array the run leaves: the gradient on its second slot, what was there on its first. -/
theorem final (s : Fin 4) (u : Fin 2) (k n : Fin 1024) : ((dats m 0 c).arrAt 6 cfg0.N : FVec Ideal S4x2x1024x1024 .f32) (ix4 s u k n)
    = if u = 1 then dWeight (act (argPre m c)) (argCt m c) (col s k) n else argFam m c (ix4 s u k n) := by
  have h := (dats m 0 c).arrAt_emb_eq_of_coversWhere 6
    (fun i => dWeight (act (argPre m c)) (argCt m c) (col (i 0) (i 2)) (i 3) : FVec Ideal S4x2x1024x1024 .f32)
    (fun β => β (1 : Fin 4) = 1) (by decide +kernel) (fun t hf y => by
      blk_simp
      rw [after0_6, outs_eq m c t ((flush0_6 t).mp hf)]
      have e2 : ((win0_6.blk t).view.emb y) 2 = y 2 := Fin.ext (by blk_simp [idxO t])
      have e3 : ((win0_6.blk t).view.emb y) 3 = y 3 := Fin.ext (by blk_simp [idxO t])
      have e0 : ((win0_6.blk t).view.emb y) 0 = sh t := Fin.ext (by blk_simp [idxO t]; have : (y 0).val < 1 := (y 0).isLt; simp [sh])
      rw [e2, e3, e0]) (ix4 s u k n)
  refine h.trans ?_
  by_cases hu : u = 1
  · subst hu
    rw [if_pos rfl]
    exact if_pos (by show (1 : ℕ) / 1 = 1; rfl)
  · rw [if_neg hu]
    refine (if_neg (fun h1 => hu (Fin.ext ?_))).trans ?_
    · have h2 : u.val / 1 = 1 := h1
      rwa [Nat.div_one] at h2
    · rw [A_eq]
      exact congrFun (V_fam m c) _

end Cert.MlpW2

end
-- ==== Proof.Mlp.EquationTwo.lean ====
/- The second weight's gradient: the kernel and the reference leave the same array. -/
module

public import proofs.«01_k».proof.Defs
public import proofs.«01_k».proof.Proof.Mlp.WeightTwo
public import proofs.«01_k».proof.Proof.Gen.Reference4Ideal.Run

@[expose] public section

noncomputable section

namespace Cert.MlpW2

open Idealize.ShloMosaic Idealize.ShloMosaic.TcCoe Idealize.SL.Sem
open Cert.Mlp
open Cert.MlpW1 (col)
open scoped BigOperators

section
open Cert.Reference4Ideal Cert.Reference4Ideal.Gen

/-- The family with its second slot replaced by the shards of a weight, as printed. -/
abbrev refFamily (fam : FVec Ideal S4x2x1024x1024 .f32) (d : FVec Ideal S1024x4096 .f32) : FVec Ideal S4x2x1024x1024 .f32 :=
  concatenate S4x2x1024x1024 1 [⟨S4x1x1024x1024, (broadcastInDim S4x1x1024x1024 ![0, 2, 3] bcast_S4x1024x1024_S4x1x1024x1024_0_2_3 (shapeCast S4x1024x1024 (extractStridedSlice S4x1x1024x1024 ![0, 0, 0, 0] fam slices_S4x2x1024x1024_S4x1x1024x1024_0_0_0_0) shapeCasts_S4x1x1024x1024_S4x1024x1024))⟩, ⟨S4x1x1024x1024, (broadcastInDim S4x1x1024x1024 ![0, 2, 3] bcast_S4x1024x1024_S4x1x1024x1024_0_2_3 (shapeCast S4x1024x1024 (transpose S4096x1024 [1, 0] d transposes_S1024x4096_S4096x1024_1_0) shapeCasts_S4096x1024_S4x1024x1024))⟩] concatenates_S4x1x1024x1024_S4x1x1024x1024_S4x2x1024x1024_d1

theorem refFamily_zero (fam : FVec Ideal S4x2x1024x1024 .f32) (d : FVec Ideal S1024x4096 .f32) (s : Fin 4) (k n : Fin 1024) :
    refFamily fam d (ix4 s 0 k n) = fam (ix4 s 0 k n) := by
  unfold refFamily
  pointwise

theorem refFamily_one (fam : FVec Ideal S4x2x1024x1024 .f32) (d : FVec Ideal S1024x4096 .f32) (s : Fin 4) (k n : Fin 1024) :
    refFamily fam d (ix4 s 1 k n) = d (ix2 n (col s k)) := by
  unfold refFamily
  pointwise
  rfl

/-- The reference's gradient before its transposition, as printed. -/
abbrev refGrad (pre : FVec Ideal S4608x4096 .f32) (ct : FVec Ideal S4608x1024 .f32) : FVec Ideal S1024x4096 .f32 :=
  Host.dotGeneral dot_S4608x1024_S4608x4096_S1024x4096_0_0_1_1_n_n none ct (mulf (maximumf pre (broadcastInDim S4608x4096 ![] bcast_S_S4608x4096 (constant S_ .f32 0x00000000#32))) (maximumf pre (broadcastInDim S4608x4096 ![] bcast_S_S4608x4096 (constant S_ .f32 0x00000000#32))))

theorem refGrad_apply (pre : FVec Ideal S4608x4096 .f32) (ct : FVec Ideal S4608x1024 .f32) (n : Fin 1024) (f : Fin 4096) :
    refGrad pre ct (ix2 n f) = dWeight (act pre) ct f n := by
  unfold refGrad dWeight act
  pointwise
  exact Finset.sum_congr rfl fun t _ => mul_comm _ _

end

theorem algebraic : Cert.algebraic_Kernel4Ideal_Reference4Ideal := by
  intro m g m' g' _ hargs
  refine ⟨_, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨e0, e1, e2⟩ := hargs c
  rw [e0, e1, e2]
  funext i
  obtain ⟨s, u, k, n, rfl⟩ : ∃ s u k n, i = ix4 s u k n := ⟨i 0, i 1, i 2, i 3, eq_ix4 i⟩
  refine Eq.trans ?_ (final m c s u k n).symm
  by_cases hu : u = 1
  · subst hu
    rw [if_pos rfl]
    exact (refFamily_one _ _ s k n).trans (refGrad_apply _ _ n (col s k))
  · obtain rfl : u = 0 := by omega
    rw [if_neg (by decide)]
    exact refFamily_zero _ _ s k n

end Cert.MlpW2

end
-- ==== Proof.Late.Block.lean ====
/- The MLP's backward kernel of the later layers computes, tile by tile, what the earlier layers' does. -/
module

public import proofs.«01_k».proof.Proof.Gen.Kernel5Ideal.Value
public import proofs.«01_k».proof.Proof.Mlp.Tile

@[expose] public section

noncomputable section

namespace Cert.Late

open Idealize.ShloMosaic Cert.Mlp

variable {h ct : FVec Ideal Cert.Kernel2Ideal.S4608x1024 .f32} {w1 : FVec Ideal Cert.Kernel2Ideal.S1024x4096 .f32} {w2 : FVec Ideal Cert.Kernel2Ideal.S4096x1024 .f32}
  {row : Fin 512 → Fin 4608} {x0 : Vec Ideal Cert.Kernel5Ideal.S512x1024 .f32} {x1 : Vec Ideal Cert.Kernel5Ideal.S512x4096 .bf16}
  {x2 x3 : Vec Ideal Cert.Kernel5Ideal.S4x1x1024x1024 .bf16} (ht : IsTile h ct w1 w2 row x0 x1 x2 x3)

include ht

theorem input (r : Fin 512) (k : Fin 1024) : Cert.Kernel5Ideal.Gen.out0_4 x0 x1 x2 x3 (ix2 r k) = dInput h w1 w2 ct (row r) k :=
  tile_input ht r k

theorem hidden (r : Fin 512) (f : Fin 4096) : Cert.Kernel5Ideal.Gen.out0_5 x0 x1 x2 x3 (ix2 r f) = dHidden h w1 w2 ct (row r) f :=
  tile_hidden ht r f

theorem cotangent (r : Fin 512) (k : Fin 1024) : Cert.Kernel5Ideal.Gen.out0_6 x0 x1 x2 x3 (ix2 r k) = ct (ix2 (row r) k) :=
  tile_ct ht r k

end Cert.Late

end
-- ==== Proof.Late.Array.lean ====
/- What the later layers' MLP backward kernel leaves on the latent tokens' rows, the only rows it writes. -/
module

public import proofs.«01_k».proof.Proof.Late.Block
public import proofs.«01_k».proof.Proof.Mlp.Host
public import Idealize.ShloMosaic.Lib.StableHlo.Run

@[expose] public section

noncomputable section

namespace Cert.Late

open Idealize.ShloMosaic Idealize.ShloMosaic.TcCoe Idealize.SL.Sem Cert.Kernel5Ideal Cert.Kernel5Ideal.Gen Cert.Kernel5Ideal.Value
open Cert.Mlp (IsTile savedArr savedArr_apply familyArr familyArr_w1 familyArr_w2 dInput dHidden)
open scoped BigOperators

variable (m : (ℓ : Loc nD τ sig) → Buf (Elt Ideal) ℓ) (c : Dev nD)

/-- The launch contents of the arguments. -/
abbrev argH : FVec Ideal S4608x1024 .f32 := m ((c : Thread nD τ).loc main_arg0)
abbrev argW1 : FVec Ideal S1024x4096 .f32 := m ((c : Thread nD τ).loc main_arg1)
abbrev argW2 : FVec Ideal S4096x1024 .f32 := m ((c : Thread nD τ).loc main_arg2)
abbrev argCt : FVec Ideal S4608x1024 .f32 := m ((c : Thread nD τ).loc main_arg3)

theorem saved_eq : (V m c main_v3 : FVec Ideal S4608x4096 .bf16) = savedArr (argH m c) (argW1 m c) := by
  unfold V
  simp only [hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem family_eq : (V m c main_v10 : FVec Ideal S4x2x1024x1024 .bf16) = familyArr (argW1 m c) (argW2 m c) := by
  unfold V
  simp only [hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

/-! ## The windows' block indices: the token windows skip the context's 512 rows. -/

theorem idxTok : ∀ t : Fin cfg0.N, win0_0.index t = ![t.val + 1, 0] ∧ win0_1.index t = ![t.val + 1, 0]
    ∧ win0_4.index t = ![t.val + 1, 0] ∧ win0_5.index t = ![t.val + 1, 0] ∧ win0_6.index t = ![t.val + 1, 0] :=
  (by decide +kernel : ∀ t : Fin grid0.N, win0_0.index t = ![t.val + 1, 0] ∧ win0_1.index t = ![t.val + 1, 0]
    ∧ win0_4.index t = ![t.val + 1, 0] ∧ win0_5.index t = ![t.val + 1, 0] ∧ win0_6.index t = ![t.val + 1, 0])

theorem idxW : ∀ t : Fin cfg0.N, win0_2.index t = ![0, 0, 0, 0] ∧ win0_3.index t = ![0, 1, 0, 0] :=
  (by decide +kernel : ∀ t : Fin grid0.N, win0_2.index t = ![0, 0, 0, 0] ∧ win0_3.index t = ![0, 1, 0, 0])

/-- Row `r` of point `t`'s tile. -/
def row (t : Fin cfg0.N) (r : Fin 512) : Fin 4608 :=
  ⟨(t.val + 1) * 512 + r.val, by have h : t.val < 8 := lt_of_lt_of_eq t.isLt (by decide); omega⟩

/-- The blocks of a point are a tile of the arguments. -/
theorem isTile (t : Fin cfg0.N) : IsTile (argH m c) (argCt m c) (argW1 m c) (argW2 m c) (row t) (iblk m c 0 t) (iblk m c 1 t) (iblk m c 2 t) (iblk m c 3 t) := by
  refine ⟨fun r k => ?_, fun r f => ?_, fun s k j => ?_, fun s j k => ?_⟩
  · show _ = m ((c : Thread nD τ).loc main_arg3) _
    rw [← V_main_arg3 m c]
    unfold iblk; rw [View.read_apply]
    show V m c main_arg3 _ = _
    refine congrArg (V m c main_arg3) ?_
    blk_ext [(idxTok t).1, row]
  · rw [← savedArr_apply, ← saved_eq]
    unfold iblk; rw [View.read_apply]
    show V m c main_v3 _ = _
    refine congrArg (V m c main_v3) ?_
    blk_ext [(idxTok t).2.1, row]
  · rw [← familyArr_w1 (argW1 m c) (argW2 m c), ← family_eq]
    unfold iblk; rw [View.read_apply]
    show V m c main_v10 _ = _
    refine congrArg (V m c main_v10) ?_
    blk_ext [(idxW t).1]
  · rw [← familyArr_w2 (argW1 m c) (argW2 m c), ← family_eq]
    unfold iblk; rw [View.read_apply]
    show V m c main_v10 _ = _
    refine congrArg (V m c main_v10) ?_
    blk_ext [(idxW t).2]

/-! ## The arrays on the latent rows -/

theorem final4 (t : Fin 4608) (ht : 512 ≤ t.val) (k : Fin 1024) : ((dats m 0 c).arrAt 4 cfg0.N : FVec Ideal S4608x1024 .f32) (ix2 t k)
    = dInput (argH m c) (argW1 m c) (argW2 m c) (argCt m c) t k := by
  have h := (dats m 0 c).arrAt_emb_eq_of_coversWhere 4
    (fun i => dInput (argH m c) (argW1 m c) (argW2 m c) (argCt m c) (i 0) (i 1) : FVec Ideal S4608x1024 .f32)
    (fun β => 1 ≤ β (0 : Fin 2)) (by decide +kernel) (fun t hf y => by
      blk_simp
      rw [after0_4]
      obtain ⟨r, k, rfl⟩ : ∃ r k, y = ix2 r k := ⟨y 0, y 1, (eq_ix2 y)⟩
      have e : (win0_4.blk t).view.emb (ix2 r k) = ix2 (row t r) k := by blk_ext [(idxTok t).2.2.1, row]
      rw [e]
      exact input (isTile m c t) r k) (ix2 t k)
  refine h.trans (if_pos ?_)
  show 1 ≤ t.val / 512
  omega

theorem final5 (t : Fin 4608) (ht : 512 ≤ t.val) (f : Fin 4096) : ((dats m 0 c).arrAt 5 cfg0.N : FVec Ideal S4608x4096 .bf16) (ix2 t f)
    = dHidden (argH m c) (argW1 m c) (argW2 m c) (argCt m c) t f := by
  have h := (dats m 0 c).arrAt_emb_eq_of_coversWhere 5
    (fun i => dHidden (argH m c) (argW1 m c) (argW2 m c) (argCt m c) (i 0) (i 1) : FVec Ideal S4608x4096 .bf16)
    (fun β => 1 ≤ β (0 : Fin 2)) (by decide +kernel) (fun t hf y => by
      blk_simp
      rw [after0_5]
      obtain ⟨r, f, rfl⟩ : ∃ r f, y = ix2 r f := ⟨y 0, y 1, (eq_ix2 y)⟩
      have e : (win0_5.blk t).view.emb (ix2 r f) = ix2 (row t r) f := by blk_ext [(idxTok t).2.2.2.1, row]
      rw [e]
      exact hidden (isTile m c t) r f) (ix2 t f)
  refine h.trans (if_pos ?_)
  show 1 ≤ t.val / 512
  omega

theorem final6 (t : Fin 4608) (ht : 512 ≤ t.val) (k : Fin 1024) : ((dats m 0 c).arrAt 6 cfg0.N : FVec Ideal S4608x1024 .bf16) (ix2 t k)
    = argCt m c (ix2 t k) := by
  have h := (dats m 0 c).arrAt_emb_eq_of_coversWhere 6
    (argCt m c : FVec Ideal S4608x1024 .bf16)
    (fun β => 1 ≤ β (0 : Fin 2)) (by decide +kernel) (fun t hf y => by
      blk_simp
      rw [after0_6]
      obtain ⟨r, k, rfl⟩ : ∃ r k, y = ix2 r k := ⟨y 0, y 1, (eq_ix2 y)⟩
      have e : (win0_6.blk t).view.emb (ix2 r k) = ix2 (row t r) k := by blk_ext [(idxTok t).2.2.2.2, row]
      rw [e]
      exact cotangent (isTile m c t) r k) (ix2 t k)
  refine h.trans (if_pos ?_)
  show 1 ≤ t.val / 512
  omega

end Cert.Late

end
-- ==== Proof.Late.Equation.lean ====
/- The later layers' MLP backward kernel: on the latent tokens' rows it leaves the reference's three arrays. -/
module

public import proofs.«01_k».proof.Defs
public import proofs.«01_k».proof.Proof.Late.Array
public import proofs.«01_k».proof.Proof.Mlp.Reference
public import proofs.«01_k».proof.Proof.Gen.Reference2Ideal.Run
public import proofs.«01_k».proof.Proof.Gen.On_latent_rows

@[expose] public section

noncomputable section

namespace Cert.Late

open Idealize.ShloMosaic Idealize.ShloMosaic.TcCoe Idealize.SL.Sem
open Cert.Mlp (refDInput_apply refDHidden_apply)
open scoped BigOperators

section
open Cert.On_latent_rows

variable (h ct : FVec Ideal S4608x1024 .f32) (w1 : FVec Ideal S1024x4096 .f32) (w2 : FVec Ideal S4096x1024 .f32)

theorem latent_of_bit (t : Fin 4608) (h : BitVec.ofBool ((512#32).sle (BitVec.ofNat 32 t.val)) = 1#1) : 512 ≤ t.val := by
  have h2 : (512#32).sle (BitVec.ofNat 32 t.val) = true := by
    cases hb : (512#32).sle (BitVec.ofNat 32 t.val) with
    | true => rfl
    | false => rw [hb] at h; exact absurd h (by decide)
  have h3 := BitVec.sle_iff_toInt_le.mp h2
  have ht := t.isLt
  have h4 : (512#32).toInt = 512 := by decide
  have h5 : (BitVec.ofNat 32 t.val).toInt = t.val := by
    rw [BitVec.toInt_eq_toNat_of_lt (by rw [BitVec.toNat_ofNat]; omega), BitVec.toNat_ofNat]
    omega
  omega

/-! The masks select the latent tokens' rows only. -/

theorem mask1 (t : Fin 4608) (k : Fin 1024) (hm : (fn (F := Ideal) h w1 w2 ct).1 (ix2 t k) = 1#1) : 512 ≤ t.val :=
  latent_of_bit t hm

theorem mask2 (t : Fin 4608) (f : Fin 4096) (hm : (fn (F := Ideal) h w1 w2 ct).2.1 (ix2 t f) = 1#1) : 512 ≤ t.val :=
  latent_of_bit t hm

theorem mask3 (t : Fin 4608) (k : Fin 1024) (hm : (fn (F := Ideal) h w1 w2 ct).2.2 (ix2 t k) = 1#1) : 512 ≤ t.val :=
  latent_of_bit t hm

end

theorem algebraic : Cert.algebraic_Kernel5Ideal_Reference2Ideal_on_latent_rows := by
  intro m g m' g' _ hargs
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    fun c => (Cert.Kernel5Ideal.Gen.dats m 0 c).arrAt 6 Cert.Kernel5Ideal.cfg0.N, ?_, ?_⟩
  · refine (θ_run Cert.Kernel5Ideal.defs _ _).mono (fun r h c => ⟨fun i _ => ?_, fun i _ => ?_, fun i _ => ?_, (h c).2.2.2⟩) (Cert.Kernel5Ideal.Value.run_blocks m g)
    · exact congrFun (h c).1 i
    · exact congrFun (h c).2.1 i
    · exact congrFun (h c).2.2.1 i
  · refine (θ_run Cert.Reference2Ideal.defs _ _).mono (fun r h c => ?_) (Cert.Reference2Ideal.Value.run (F := Ideal) m' g')
    obtain ⟨h0, h1, h2, hk⟩ := h c
    obtain ⟨e0, e1, e2, e3⟩ := hargs c
    refine ⟨fun i hi => (congrFun h0 i).trans ?_, fun i hi => (congrFun h1 i).trans ?_, fun i hi => (congrFun h2 i).trans ?_, hk⟩
    · rw [e0, e1, e2, e3]
      obtain ⟨t, k, rfl⟩ : ∃ t k, i = ix2 t k := ⟨i 0, i 1, eq_ix2 i⟩
      exact (refDInput_apply _ _ _ _ t k).trans (final4 m c t (mask1 _ _ _ _ t k hi) k).symm
    · rw [e0, e1, e2, e3]
      obtain ⟨t, f, rfl⟩ : ∃ t f, i = ix2 t f := ⟨i 0, i 1, eq_ix2 i⟩
      exact (refDHidden_apply _ _ _ _ t f).trans (final5 m c t (mask2 _ _ _ _ t f hi) f).symm
    · rw [e3]
      obtain ⟨t, k, rfl⟩ : ∃ t k, i = ix2 t k := ⟨i 0, i 1, eq_ix2 i⟩
      exact (final6 m c t (mask3 _ _ _ _ t k hi) k).symm

end Cert.Late

end
-- ==== Proof.Late.Tokens.lean ====
/- The latent tokens' rows, walked as two points of four tiles of 512 rows. -/
module

public import proofs.«01_k».proof.Proof.Mlp.Spec
public import Idealize.ShloMosaic.Lib.Pipeline.ValueKit

@[expose] public section

noncomputable section

namespace Cert.Late

open Idealize.ShloMosaic Cert.Mlp
open scoped BigOperators

/-- The latent tokens' rows of an array: those after the 512 context rows. -/
def latent {n : ℕ} (x : Mat 4608 n) : Mat 4096 n := fun i => x (ix2 ⟨512 + (i 0).val, by have : (i 0).val < 4096 := (i 0).isLt; omega⟩ (i 1))

/-- Row `r` of tile `e` of point `s`, among the latent rows. -/
def tok (s : Fin 2) (e : Fin 4) (r : Fin 512) : Fin 4096 := ⟨(4 * s.val + e.val) * 512 + r.val, by omega⟩

theorem sum_tokens (f : Fin 4096 → EReal) :
    ∑ s : Fin 2, ((∑ r, f (tok s 0 r)) + (∑ r, f (tok s 1 r)) + (∑ r, f (tok s 2 r)) + ∑ r, f (tok s 3 r)) = ∑ t, f t := by
  rw [← Fin.sum_mul_add_fin (S := 8) (n := 512) f,
    ← Fin.sum_mul_add_fin (S := 2) (n := 4) (fun q : Fin 8 => ∑ r : Fin 512, f ⟨q.val * 512 + r.val, by omega⟩)]
  refine Finset.sum_congr rfl fun s _ => ?_
  rw [Fin.sum_univ_four]
  have e : ∀ e : Fin 4, ∀ r : Fin 512, tok s e r = ⟨(s.val * 4 + e.val) * 512 + r.val, by omega⟩ := fun e r =>
    Fin.ext (by show (4 * s.val + e.val) * 512 + r.val = _; rw [Nat.mul_comm 4])
  simp only [e]

end Cert.Late

end
-- ==== Proof.Late.WeightOne.lean ====
/- The later layers' first weight's gradient, over the latent tokens: what the kernel leaves in the shards' first slot. -/
module

public import proofs.«01_k».proof.Proof.Late.Tokens
public import proofs.«01_k».proof.Proof.Mlp.WeightOne
public import proofs.«01_k».proof.Proof.Gen.Kernel6Ideal.Value
public import Idealize.ShloMosaic.Lib.Pointwise

@[expose] public section

noncomputable section

namespace Cert.LateW1

open Idealize.ShloMosaic Idealize.ShloMosaic.TcCoe Idealize.SL.Sem Cert.Kernel6Ideal Cert.Kernel6Ideal.Gen Cert.Kernel6Ideal.Value
open Cert.Mlp (Mat dWeight)
open Cert.Late (latent tok sum_tokens)
open Cert.MlpW1 (col)
open scoped BigOperators

variable (m : (ℓ : Loc nD τ sig) → Buf (Elt Ideal) ℓ) (c : Dev nD)

abbrev argX : FVec Ideal S4608x1024 .f32 := m ((c : Thread nD τ).loc main_arg0)
abbrev argG : FVec Ideal S4608x4096 .f32 := m ((c : Thread nD τ).loc main_arg1)

/-- One point's contribution: four tiles of 512 rows. -/
def part (a0 a1 a2 a3 b0 b1 b2 b3 : FVec Ideal S512x1024 .bf16) (i : S1x1x1024x1024.Idx) : EReal :=
  (∑ r : Fin 512, a0 (ix2 r (i 2)) * b0 (ix2 r (i 3))) + (∑ r : Fin 512, a1 (ix2 r (i 2)) * b1 (ix2 r (i 3)))
    + (∑ r : Fin 512, a2 (ix2 r (i 2)) * b2 (ix2 r (i 3))) + ∑ r : Fin 512, a3 (ix2 r (i 2)) * b3 (ix2 r (i 3))

theorem pay1_apply (a0 a1 a2 a3 b0 b1 b2 b3 : FVec Ideal S512x1024 .bf16) (k n : Fin 1024) :
    k0_pay1 (F := Ideal) a0 b0 a1 b1 a2 b2 a3 b3 (ix2 k n) = part a0 a1 a2 a3 b0 b1 b2 b3 (ix4 0 0 k n) := by
  unfold k0_pay1 part
  pointwise

theorem pay2_apply (a0 a1 a2 a3 b0 b1 b2 b3 : FVec Ideal S512x1024 .bf16) (i : S1x1x1024x1024.Idx) :
    k0_pay2 (F := Ideal) a0 b0 a1 b1 a2 b2 a3 b3 i = part a0 a1 a2 a3 b0 b1 b2 b3 i := by
  obtain ⟨s, u, k, n, rfl⟩ : ∃ s u k n, i = ix4 s u k n := ⟨i 0, i 1, i 2, i 3, eq_ix4 i⟩
  unfold k0_pay2
  generalize hp : k0_pay1 (F := Ideal) a0 b0 a1 b1 a2 b2 a3 b3 = p
  pointwise
  rw [← hp, pay1_apply]
  rfl

theorem pay3_apply (a0 a1 a2 a3 b0 b1 b2 b3 : FVec Ideal S512x1024 .bf16) (o : FVec Ideal S1x1x1024x1024 .f32) (i : S1x1x1024x1024.Idx) :
    k0_pay3 (F := Ideal) a0 b0 a1 b1 a2 b2 a3 b3 o i = o i + part a0 a1 a2 a3 b0 b1 b2 b3 i := by
  obtain ⟨s, u, k, n, rfl⟩ : ∃ s u k n, i = ix4 s u k n := ⟨i 0, i 1, i 2, i 3, eq_ix4 i⟩
  obtain rfl : s = 0 := Subsingleton.elim _ _
  obtain rfl : u = 0 := Subsingleton.elim _ _
  unfold k0_pay3
  generalize hp : k0_pay1 (F := Ideal) a0 b0 a1 b1 a2 b2 a3 b3 = p
  pointwise
  rw [← hp, pay1_apply]

/-! ## The windows' blocks -/

theorem idxX : ∀ t : Fin cfg0.N, win0_0.index t = ![4 * (t.val % 2) + 1, 0] ∧ win0_1.index t = ![4 * (t.val % 2) + 2, 0]
    ∧ win0_2.index t = ![4 * (t.val % 2) + 3, 0] ∧ win0_3.index t = ![4 * (t.val % 2) + 4, 0] :=
  (by decide +kernel : ∀ t : Fin grid0.N, win0_0.index t = ![4 * (t.val % 2) + 1, 0] ∧ win0_1.index t = ![4 * (t.val % 2) + 2, 0]
    ∧ win0_2.index t = ![4 * (t.val % 2) + 3, 0] ∧ win0_3.index t = ![4 * (t.val % 2) + 4, 0])

theorem idxG : ∀ t : Fin cfg0.N, win0_4.index t = ![4 * (t.val % 2) + 1, t.val / 2] ∧ win0_5.index t = ![4 * (t.val % 2) + 2, t.val / 2]
    ∧ win0_6.index t = ![4 * (t.val % 2) + 3, t.val / 2] ∧ win0_7.index t = ![4 * (t.val % 2) + 4, t.val / 2] :=
  (by decide +kernel : ∀ t : Fin grid0.N, win0_4.index t = ![4 * (t.val % 2) + 1, t.val / 2] ∧ win0_5.index t = ![4 * (t.val % 2) + 2, t.val / 2]
    ∧ win0_6.index t = ![4 * (t.val % 2) + 3, t.val / 2] ∧ win0_7.index t = ![4 * (t.val % 2) + 4, t.val / 2])

theorem idxO : ∀ t : Fin cfg0.N, win0_8.index t = ![t.val / 2, 0, 0, 0] :=
  (by decide +kernel : ∀ t : Fin grid0.N, win0_8.index t = ![t.val / 2, 0, 0, 0])

theorem lt8 (t : Fin cfg0.N) : t.val < 8 := lt_of_lt_of_eq t.isLt (by decide)

/-- The point's place in its run of two, and the run's shard. -/
def pl (t : Fin cfg0.N) : Fin 2 := ⟨t.val % 2, by omega⟩
def sh (t : Fin cfg0.N) : Fin 4 := ⟨t.val / 2, by have := lt8 t; omega⟩

theorem V_x : (V m c main_v0 : FVec Ideal S4608x1024 .bf16) = argX m c := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem V_g : (V m c main_v1 : FVec Ideal S4608x4096 .bf16) = argG m c := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem part_eq (t : Fin cfg0.N) (i : S1x1x1024x1024.Idx) :
    part (iblk m c 0 t) (iblk m c 1 t) (iblk m c 2 t) (iblk m c 3 t) (iblk m c 4 t) (iblk m c 5 t) (iblk m c 6 t) (iblk m c 7 t) i
      = (∑ r, latent (argX m c) (ix2 (tok (pl t) 0 r) (i 2)) * latent (argG m c) (ix2 (tok (pl t) 0 r) (col (sh t) (i 3))))
        + (∑ r, latent (argX m c) (ix2 (tok (pl t) 1 r) (i 2)) * latent (argG m c) (ix2 (tok (pl t) 1 r) (col (sh t) (i 3))))
        + (∑ r, latent (argX m c) (ix2 (tok (pl t) 2 r) (i 2)) * latent (argG m c) (ix2 (tok (pl t) 2 r) (col (sh t) (i 3))))
        + ∑ r, latent (argX m c) (ix2 (tok (pl t) 3 r) (i 2)) * latent (argG m c) (ix2 (tok (pl t) 3 r) (col (sh t) (i 3))) := by
  unfold part latent
  have hx := idxX t
  have hg := idxG t
  rw [← V_x, ← V_g]
  unfold iblk
  simp only [View.read_apply]
  refine congrArg₂ (· + ·) (congrArg₂ (· + ·) (congrArg₂ (· + ·) ?_ ?_) ?_) ?_ <;> refine Finset.sum_congr rfl fun r _ => congrArg₂ (· * ·) ?_ ?_
  · refine congrArg (V m c main_v0) ?_
    blk_ext [hx.1, tok, pl]
  · refine congrArg (V m c main_v1) ?_
    blk_ext [hg.1, tok, pl, sh, col]
  · refine congrArg (V m c main_v0) ?_
    blk_ext [hx.2.1, tok, pl]
  · refine congrArg (V m c main_v1) ?_
    blk_ext [hg.2.1, tok, pl, sh, col]
  · refine congrArg (V m c main_v0) ?_
    blk_ext [hx.2.2.1, tok, pl]
  · refine congrArg (V m c main_v1) ?_
    blk_ext [hg.2.2.1, tok, pl, sh, col]
  · refine congrArg (V m c main_v0) ?_
    blk_ext [hx.2.2.2, tok, pl]
  · refine congrArg (V m c main_v1) ?_
    blk_ext [hg.2.2.2, tok, pl, sh, col]

/-- The block a run of two points leaves: the gradient's shard. -/
theorem outs_eq (t : Fin cfg0.N) (hr : t.val % 2 = 1) (i : S1x1x1024x1024.Idx) :
    outsAt0 m c t.val t.isLt i = dWeight (latent (argX m c)) (latent (argG m c)) (i 2) (col (sh t) (i 3)) := by
  rw [Pipeline.eq_sum_fin_of_reset_step_apply_of_flush (fun n h => outsAt0 m c n h) 2 (fun _ => (0 : EReal))
      (fun t i => part (iblk m c 0 t) (iblk m c 1 t) (iblk m c 2 t) (iblk m c 3 t) (iblk m c 4 t) (iblk m c 5 t) (iblk m c 6 t) (iblk m c 7 t) i)
    (fun t h j => by rw [outsAt0_A m c t h (by omega)]; frame_out; rw [pay2_apply, zero_add])
    (fun t h j => by rw [outsAt0_B m c t h (by omega)]; frame_out; rw [pay3_apply]) t hr i, zero_add]
  unfold dWeight
  rw [← sum_tokens]
  refine Finset.sum_congr rfl fun s _ => ?_
  rw [part_eq]
  have e1 : pl ⟨2 * (t.val / 2) + s.val, Pipeline.run_point_lt_of_flush t hr s⟩ = s := Fin.ext (by
    show (2 * (t.val / 2) + s.val) % 2 = s.val; omega)
  have e2 : sh ⟨2 * (t.val / 2) + s.val, Pipeline.run_point_lt_of_flush t hr s⟩ = sh t := Fin.ext (by
    show (2 * (t.val / 2) + s.val) / 2 = t.val / 2; omega)
  rw [e1, e2]

/-- The array the run leaves, on its first slot. -/
theorem final (s : Fin 4) (k n : Fin 1024) : ((dats m 0 c).arrAt 8 cfg0.N : FVec Ideal S4x2x1024x1024 .f32) (ix4 s 0 k n)
    = dWeight (latent (argX m c)) (latent (argG m c)) k (col s n) := by
  have h := (dats m 0 c).arrAt_emb_eq_of_coversWhere 8
    (fun i => dWeight (latent (argX m c)) (latent (argG m c)) (i 2) (col (i 0) (i 3)) : FVec Ideal S4x2x1024x1024 .f32)
    (fun β => β (1 : Fin 4) = 0) (by decide +kernel) (fun t hf y => by
      blk_simp
      rw [after0_8, outs_eq m c t ((flush0_8 t).mp hf)]
      have e2 : ((win0_8.blk t).view.emb y) 2 = y 2 := Fin.ext (by blk_simp [idxO t])
      have e3 : ((win0_8.blk t).view.emb y) 3 = y 3 := Fin.ext (by blk_simp [idxO t])
      have e0 : ((win0_8.blk t).view.emb y) 0 = sh t := Fin.ext (by blk_simp [idxO t]; have : (y 0).val < 1 := (y 0).isLt; simp [sh])
      rw [e2, e3, e0]) (ix4 s 0 k n)
  refine h.trans (if_pos ?_)
  show (0 : ℕ) / 1 = 0
  rfl

end Cert.LateW1

end
-- ==== Proof.Late.EquationOne.lean ====
/- The later layers' first weight's gradient: the kernel and the reference agree on the slot the kernel fills. -/
module

public import proofs.«01_k».proof.Defs
public import proofs.«01_k».proof.Proof.Late.WeightOne
public import proofs.«01_k».proof.Proof.Mlp.EquationOne
public import proofs.«01_k».proof.Proof.Gen.Reference6Ideal.Run
public import proofs.«01_k».proof.Proof.Gen.On_first_slot

@[expose] public section

noncomputable section

namespace Cert.LateW1

open Idealize.ShloMosaic Idealize.ShloMosaic.TcCoe Idealize.SL.Sem
open Cert.Mlp (dWeight)
open Cert.Late (latent)
open Cert.MlpW1 (col refShards refShards_zero mask)
open scoped BigOperators

section
open Cert.Reference6Ideal Cert.Reference6Ideal.Gen

/-- The reference's gradient before its layout, as printed: over the latent rows. -/
abbrev refGrad (x : FVec Ideal S4608x1024 .f32) (g : FVec Ideal S4608x4096 .f32) : FVec Ideal S4096x1024 .f32 :=
  Host.dotGeneral dot_S4096x4096_S4096x1024_S4096x1024_0_0_1_1_n_n none (extractStridedSlice S4096x4096 ![512, 0] g slices_S4608x4096_S4096x4096_512_0) (extractStridedSlice S4096x1024 ![512, 0] x slices_S4608x1024_S4096x1024_512_0)

theorem refGrad_apply (x : FVec Ideal S4608x1024 .f32) (g : FVec Ideal S4608x4096 .f32) (k : Fin 1024) (f : Fin 4096) :
    refGrad x g (ix2 f k) = dWeight (latent x) (latent g) k f := by
  unfold refGrad dWeight latent
  pointwise
  exact Finset.sum_congr rfl fun t _ => mul_comm _ _

end

theorem algebraic : Cert.algebraic_Kernel6Ideal_Reference6Ideal_on_first_slot := by
  intro m g m' g' _ hargs
  refine ⟨fun c => (Cert.Kernel6Ideal.Gen.dats m 0 c).arrAt 8 Cert.Kernel6Ideal.cfg0.N, ?_, ?_⟩
  · refine (θ_run Cert.Kernel6Ideal.defs _ _).mono (fun r h c => ⟨fun i _ => ?_, (h c).2⟩) (Cert.Kernel6Ideal.Value.run_blocks m g)
    exact congrFun (h c).1 i
  · refine (θ_run Cert.Reference6Ideal.defs _ _).mono (fun r h c => ⟨fun i hi => ?_, (h c).2⟩) (Cert.Reference6Ideal.Value.run (F := Ideal) m' g')
    obtain ⟨e0, e1⟩ := hargs c
    refine (congrFun (h c).1 i).trans ?_
    rw [e0, e1]
    obtain ⟨s, u, k, n, rfl⟩ : ∃ s u k n, i = ix4 s u k n := ⟨i 0, i 1, i 2, i 3, eq_ix4 i⟩
    obtain rfl := mask _ _ s u k n hi
    exact ((refShards_zero _ s k n).trans (refGrad_apply _ _ k (col s n))).trans (final m c s k n).symm

end Cert.LateW1

end
-- ==== Proof.Late.WeightTwo.lean ====
/- The later layers' second weight's gradient, over the latent tokens: what the kernel leaves in the family's array, whose other slot it keeps. -/
module

public import proofs.«01_k».proof.Proof.Late.WeightOne
public import proofs.«01_k».proof.Proof.Mlp.WeightTwo
public import proofs.«01_k».proof.Proof.Gen.Kernel7Ideal.Value

@[expose] public section

noncomputable section

namespace Cert.LateW2

open Idealize.ShloMosaic Idealize.ShloMosaic.TcCoe Idealize.SL.Sem Cert.Kernel7Ideal Cert.Kernel7Ideal.Gen Cert.Kernel7Ideal.Value
open Cert.Mlp (Mat dWeight)
open Cert.Late (latent tok sum_tokens)
open Cert.MlpW2 (act)
open Cert.LateW1 (part)
open Cert.MlpW1 (col)
open scoped BigOperators

variable (m : (ℓ : Loc nD τ sig) → Buf (Elt Ideal) ℓ) (c : Dev nD)

abbrev argPre : FVec Ideal S4608x4096 .f32 := m ((c : Thread nD τ).loc main_arg0)
abbrev argCt : FVec Ideal S4608x1024 .f32 := m ((c : Thread nD τ).loc main_arg1)
abbrev argFam : FVec Ideal S4x2x1024x1024 .f32 := m ((c : Thread nD τ).loc main_arg2)

/-- The payloads are the first weight's. -/
theorem pay2_apply (a0 a1 a2 a3 b0 b1 b2 b3 : FVec Ideal S512x1024 .bf16) (i : S1x1x1024x1024.Idx) :
    k0_pay2 (F := Ideal) a0 b0 a1 b1 a2 b2 a3 b3 i = part a0 a1 a2 a3 b0 b1 b2 b3 i := Cert.LateW1.pay2_apply a0 a1 a2 a3 b0 b1 b2 b3 i

theorem pay3_apply (a0 a1 a2 a3 b0 b1 b2 b3 : FVec Ideal S512x1024 .bf16) (o : FVec Ideal S1x1x1024x1024 .f32) (i : S1x1x1024x1024.Idx) :
    k0_pay3 (F := Ideal) a0 b0 a1 b1 a2 b2 a3 b3 o i = o i + part a0 a1 a2 a3 b0 b1 b2 b3 i := Cert.LateW1.pay3_apply a0 a1 a2 a3 b0 b1 b2 b3 o i

/-! ## The windows' blocks -/

theorem idxX : ∀ t : Fin cfg0.N, win0_0.index t = ![4 * (t.val % 2) + 1, t.val / 2] ∧ win0_1.index t = ![4 * (t.val % 2) + 2, t.val / 2]
    ∧ win0_2.index t = ![4 * (t.val % 2) + 3, t.val / 2] ∧ win0_3.index t = ![4 * (t.val % 2) + 4, t.val / 2] :=
  (by decide +kernel : ∀ t : Fin grid0.N, win0_0.index t = ![4 * (t.val % 2) + 1, t.val / 2] ∧ win0_1.index t = ![4 * (t.val % 2) + 2, t.val / 2]
    ∧ win0_2.index t = ![4 * (t.val % 2) + 3, t.val / 2] ∧ win0_3.index t = ![4 * (t.val % 2) + 4, t.val / 2])

theorem idxG : ∀ t : Fin cfg0.N, win0_4.index t = ![4 * (t.val % 2) + 1, 0] ∧ win0_5.index t = ![4 * (t.val % 2) + 2, 0]
    ∧ win0_6.index t = ![4 * (t.val % 2) + 3, 0] ∧ win0_7.index t = ![4 * (t.val % 2) + 4, 0] :=
  (by decide +kernel : ∀ t : Fin grid0.N, win0_4.index t = ![4 * (t.val % 2) + 1, 0] ∧ win0_5.index t = ![4 * (t.val % 2) + 2, 0]
    ∧ win0_6.index t = ![4 * (t.val % 2) + 3, 0] ∧ win0_7.index t = ![4 * (t.val % 2) + 4, 0])

theorem idxO : ∀ t : Fin cfg0.N, win0_8.index t = ![t.val / 2, 1, 0, 0] :=
  (by decide +kernel : ∀ t : Fin grid0.N, win0_8.index t = ![t.val / 2, 1, 0, 0])

theorem lt8 (t : Fin cfg0.N) : t.val < 8 := lt_of_lt_of_eq t.isLt (by decide)

/-- The point's place in its run of two, and the run's shard. -/
def pl (t : Fin cfg0.N) : Fin 2 := ⟨t.val % 2, by omega⟩
def sh (t : Fin cfg0.N) : Fin 4 := ⟨t.val / 2, by have := lt8 t; omega⟩

theorem V_x : (V m c main_v2 : FVec Ideal S4608x4096 .bf16) = act (argPre m c) := by
  have e : (V m c main_v2 : FVec Ideal S4608x4096 .bf16) = truncf .bf16 (mulf
      (maximumf (argPre m c) (broadcastInDim S4608x4096 ![] bcast_S_S4608x4096 (constant S_ .f32 0x00000000#32)))
      (maximumf (argPre m c) (broadcastInDim S4608x4096 ![] bcast_S_S4608x4096 (constant S_ .f32 0x00000000#32)))) bitsLt_bf16_f32 := by
    unfold V
    simp only [hostOps0, hostOps0_1, List.flatten_cons, List.flatten_nil, List.append_nil, List.cons_append,
      List.nil_append, StableHlo.TRef.binary, StableHlo.TRef.nullary, StableHlo.TRef.unary, StableHlo.TRef.toBuf, StableHlo.TRef.ofBuf, cast_eq]
    after_results
  rw [e]
  funext i
  obtain ⟨t, f, rfl⟩ : ∃ t f, i = ix2 t f := ⟨i 0, i 1, eq_ix2 i⟩
  unfold act
  pointwise

theorem V_g : (V m c main_v3 : FVec Ideal S4608x1024 .bf16) = argCt m c := by
  unfold V
  simp only [hostOps0, hostOps0_1, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem V_fam : (V m c main_v4 : FVec Ideal S4x2x1024x1024 .f32) = argFam m c := by
  unfold V
  simp only [hostOps0, hostOps0_1, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem x_blocks (t : Fin cfg0.N) (r : Fin 512) (k : Fin 1024) :
    (iblk m c 0 t : FVec Ideal S512x1024 .bf16) (ix2 r k) = latent (act (argPre m c)) (ix2 (tok (pl t) 0 r) (col (sh t) k))
      ∧ (iblk m c 1 t : FVec Ideal S512x1024 .bf16) (ix2 r k) = latent (act (argPre m c)) (ix2 (tok (pl t) 1 r) (col (sh t) k))
      ∧ (iblk m c 2 t : FVec Ideal S512x1024 .bf16) (ix2 r k) = latent (act (argPre m c)) (ix2 (tok (pl t) 2 r) (col (sh t) k))
      ∧ (iblk m c 3 t : FVec Ideal S512x1024 .bf16) (ix2 r k) = latent (act (argPre m c)) (ix2 (tok (pl t) 3 r) (col (sh t) k)) := by
  rw [← V_x]
  unfold iblk latent
  simp only [View.read_apply]
  refine ⟨?_, ?_, ?_, ?_⟩
  · refine congrArg (V m c main_v2) ?_
    blk_ext [(idxX t).1, tok, pl, sh, col]
  · refine congrArg (V m c main_v2) ?_
    blk_ext [(idxX t).2.1, tok, pl, sh, col]
  · refine congrArg (V m c main_v2) ?_
    blk_ext [(idxX t).2.2.1, tok, pl, sh, col]
  · refine congrArg (V m c main_v2) ?_
    blk_ext [(idxX t).2.2.2, tok, pl, sh, col]

theorem g_blocks (t : Fin cfg0.N) (r : Fin 512) (k : Fin 1024) :
    (iblk m c 4 t : FVec Ideal S512x1024 .bf16) (ix2 r k) = latent (argCt m c) (ix2 (tok (pl t) 0 r) k)
      ∧ (iblk m c 5 t : FVec Ideal S512x1024 .bf16) (ix2 r k) = latent (argCt m c) (ix2 (tok (pl t) 1 r) k)
      ∧ (iblk m c 6 t : FVec Ideal S512x1024 .bf16) (ix2 r k) = latent (argCt m c) (ix2 (tok (pl t) 2 r) k)
      ∧ (iblk m c 7 t : FVec Ideal S512x1024 .bf16) (ix2 r k) = latent (argCt m c) (ix2 (tok (pl t) 3 r) k) := by
  rw [← V_g]
  unfold iblk latent
  simp only [View.read_apply]
  refine ⟨?_, ?_, ?_, ?_⟩
  · refine congrArg (V m c main_v3) ?_
    blk_ext [(idxG t).1, tok, pl]
  · refine congrArg (V m c main_v3) ?_
    blk_ext [(idxG t).2.1, tok, pl]
  · refine congrArg (V m c main_v3) ?_
    blk_ext [(idxG t).2.2.1, tok, pl]
  · refine congrArg (V m c main_v3) ?_
    blk_ext [(idxG t).2.2.2, tok, pl]

theorem part_eq (t : Fin cfg0.N) (i : S1x1x1024x1024.Idx) :
    part (iblk m c 0 t) (iblk m c 1 t) (iblk m c 2 t) (iblk m c 3 t) (iblk m c 4 t) (iblk m c 5 t) (iblk m c 6 t) (iblk m c 7 t) i
      = (∑ r, latent (act (argPre m c)) (ix2 (tok (pl t) 0 r) (col (sh t) (i 2))) * latent (argCt m c) (ix2 (tok (pl t) 0 r) (i 3)))
        + (∑ r, latent (act (argPre m c)) (ix2 (tok (pl t) 1 r) (col (sh t) (i 2))) * latent (argCt m c) (ix2 (tok (pl t) 1 r) (i 3)))
        + (∑ r, latent (act (argPre m c)) (ix2 (tok (pl t) 2 r) (col (sh t) (i 2))) * latent (argCt m c) (ix2 (tok (pl t) 2 r) (i 3)))
        + ∑ r, latent (act (argPre m c)) (ix2 (tok (pl t) 3 r) (col (sh t) (i 2))) * latent (argCt m c) (ix2 (tok (pl t) 3 r) (i 3)) := by
  unfold part
  refine congrArg₂ (· + ·) (congrArg₂ (· + ·) (congrArg₂ (· + ·) ?_ ?_) ?_) ?_ <;> refine Finset.sum_congr rfl fun r _ => congrArg₂ (· * ·) ?_ ?_
  · exact (x_blocks m c t r (i 2)).1
  · exact (g_blocks m c t r (i 3)).1
  · exact (x_blocks m c t r (i 2)).2.1
  · exact (g_blocks m c t r (i 3)).2.1
  · exact (x_blocks m c t r (i 2)).2.2.1
  · exact (g_blocks m c t r (i 3)).2.2.1
  · exact (x_blocks m c t r (i 2)).2.2.2
  · exact (g_blocks m c t r (i 3)).2.2.2

/-- The block a run of two points leaves: the gradient's shard. -/
theorem outs_eq (t : Fin cfg0.N) (hr : t.val % 2 = 1) (i : S1x1x1024x1024.Idx) :
    outsAt0 m c t.val t.isLt i = dWeight (latent (act (argPre m c))) (latent (argCt m c)) (col (sh t) (i 2)) (i 3) := by
  rw [Pipeline.eq_sum_fin_of_reset_step_apply_of_flush (fun n h => outsAt0 m c n h) 2 (fun _ => (0 : EReal))
      (fun t i => part (iblk m c 0 t) (iblk m c 1 t) (iblk m c 2 t) (iblk m c 3 t) (iblk m c 4 t) (iblk m c 5 t) (iblk m c 6 t) (iblk m c 7 t) i)
    (fun t h j => by rw [outsAt0_A m c t h (by omega)]; frame_out; rw [pay2_apply, zero_add])
    (fun t h j => by rw [outsAt0_B m c t h (by omega)]; frame_out; rw [pay3_apply]) t hr i, zero_add]
  unfold dWeight
  rw [← sum_tokens]
  refine Finset.sum_congr rfl fun s _ => ?_
  rw [part_eq]
  have e1 : pl ⟨2 * (t.val / 2) + s.val, Pipeline.run_point_lt_of_flush t hr s⟩ = s := Fin.ext (by
    show (2 * (t.val / 2) + s.val) % 2 = s.val; omega)
  have e2 : sh ⟨2 * (t.val / 2) + s.val, Pipeline.run_point_lt_of_flush t hr s⟩ = sh t := Fin.ext (by
    show (2 * (t.val / 2) + s.val) / 2 = t.val / 2; omega)
  rw [e1, e2]

/-- The array the run leaves: the gradient on its second slot, what was there on its first. -/
theorem final (s : Fin 4) (u : Fin 2) (k n : Fin 1024) : ((dats m 0 c).arrAt 8 cfg0.N : FVec Ideal S4x2x1024x1024 .f32) (ix4 s u k n)
    = if u = 1 then dWeight (latent (act (argPre m c))) (latent (argCt m c)) (col s k) n else argFam m c (ix4 s u k n) := by
  have h := (dats m 0 c).arrAt_emb_eq_of_coversWhere 8
    (fun i => dWeight (latent (act (argPre m c))) (latent (argCt m c)) (col (i 0) (i 2)) (i 3) : FVec Ideal S4x2x1024x1024 .f32)
    (fun β => β (1 : Fin 4) = 1) (by decide +kernel) (fun t hf y => by
      blk_simp
      rw [after0_8, outs_eq m c t ((flush0_8 t).mp hf)]
      have e2 : ((win0_8.blk t).view.emb y) 2 = y 2 := Fin.ext (by blk_simp [idxO t])
      have e3 : ((win0_8.blk t).view.emb y) 3 = y 3 := Fin.ext (by blk_simp [idxO t])
      have e0 : ((win0_8.blk t).view.emb y) 0 = sh t := Fin.ext (by blk_simp [idxO t]; have : (y 0).val < 1 := (y 0).isLt; simp [sh])
      rw [e2, e3, e0]) (ix4 s u k n)
  refine h.trans ?_
  by_cases hu : u = 1
  · subst hu
    rw [if_pos rfl]
    exact if_pos (by show (1 : ℕ) / 1 = 1; rfl)
  · rw [if_neg hu]
    refine (if_neg (fun h1 => hu (Fin.ext ?_))).trans ?_
    · have h2 : u.val / 1 = 1 := h1
      rwa [Nat.div_one] at h2
    · rw [A_eq]
      exact congrFun (V_fam m c) _

end Cert.LateW2

end
-- ==== Proof.Late.EquationTwo.lean ====
/- The later layers' second weight's gradient: the kernel and the reference leave the same array. -/
module

public import proofs.«01_k».proof.Defs
public import proofs.«01_k».proof.Proof.Late.WeightTwo
public import proofs.«01_k».proof.Proof.Mlp.EquationTwo
public import proofs.«01_k».proof.Proof.Gen.Reference7Ideal.Run

@[expose] public section

noncomputable section

namespace Cert.LateW2

open Idealize.ShloMosaic Idealize.ShloMosaic.TcCoe Idealize.SL.Sem
open Cert.Mlp (dWeight)
open Cert.Late (latent)
open Cert.MlpW2 (act refFamily refFamily_zero refFamily_one)
open Cert.MlpW1 (col)
open scoped BigOperators

section
open Cert.Reference7Ideal Cert.Reference7Ideal.Gen

/-- The reference's gradient before its transposition, as printed: over the latent rows. -/
abbrev refGrad (pre : FVec Ideal S4608x4096 .f32) (ct : FVec Ideal S4608x1024 .f32) : FVec Ideal S1024x4096 .f32 :=
  Host.dotGeneral dot_S4096x1024_S4096x4096_S1024x4096_0_0_1_1_n_n none (extractStridedSlice S4096x1024 ![512, 0] ct slices_S4608x1024_S4096x1024_512_0) (mulf (maximumf (extractStridedSlice S4096x4096 ![512, 0] pre slices_S4608x4096_S4096x4096_512_0) (broadcastInDim S4096x4096 ![] bcast_S_S4096x4096 (constant S_ .f32 0x00000000#32))) (maximumf (extractStridedSlice S4096x4096 ![512, 0] pre slices_S4608x4096_S4096x4096_512_0) (broadcastInDim S4096x4096 ![] bcast_S_S4096x4096 (constant S_ .f32 0x00000000#32))))

theorem refGrad_apply (pre : FVec Ideal S4608x4096 .f32) (ct : FVec Ideal S4608x1024 .f32) (n : Fin 1024) (f : Fin 4096) :
    refGrad pre ct (ix2 n f) = dWeight (latent (act pre)) (latent ct) f n := by
  unfold refGrad dWeight latent act
  pointwise
  exact Finset.sum_congr rfl fun t _ => mul_comm _ _

end

theorem algebraic : Cert.algebraic_Kernel7Ideal_Reference7Ideal := by
  intro m g m' g' _ hargs
  refine ⟨_, Cert.Kernel7Ideal.Value.run_blocks m g, ?_⟩
  refine (θ_run Cert.Reference7Ideal.defs _ _).mono (fun r h c => ⟨(h c).1.trans ?_, (h c).2⟩) (Cert.Reference7Ideal.Value.run (F := Ideal) m' g')
  obtain ⟨e0, e1, e2⟩ := hargs c
  rw [e0, e1, e2]
  funext i
  obtain ⟨s, u, k, n, rfl⟩ : ∃ s u k n, i = ix4 s u k n := ⟨i 0, i 1, i 2, i 3, eq_ix4 i⟩
  refine Eq.trans ?_ (final m c s u k n).symm
  by_cases hu : u = 1
  · subst hu
    rw [if_pos rfl]
    exact (refFamily_one _ _ s k n).trans (refGrad_apply _ _ n (col s k))
  · obtain rfl : u = 0 := by omega
    rw [if_neg (by decide)]
    exact refFamily_zero _ _ s k n

end Cert.LateW2

end
-- ==== Proof.Fwd.Spec.lean ====
/- The MLP sublayer's forward pass as formulas over plain coordinates: the numbers both programs compute. -/
module

public import proofs.«01_k».proof.Proof.Mlp.Spec

@[expose] public section

noncomputable section

namespace Cert.Fwd

open Idealize.ShloMosaic Cert.Mlp
open scoped BigOperators

/-- A modulation table: six rows' worth of columns for each of eight phases of each of two streams. -/
abbrev Mods : Type := (⟨3, ![2, 8, 6144]⟩ : Shape).Idx → EReal

/-- A vector of 1024 extended reals, as an array. -/
abbrev Row : Type := (⟨1, ![1024]⟩ : Shape).Idx → EReal

/-- A token's stream: the first 512 tokens are context, the others latents. -/
def stream (t : Fin 4608) : Fin 2 := if t.val < 512 then 0 else 1

/-- The table's entry for token `t` in column `o`: the phase is the token's index modulo eight. -/
def modAt (v : Mods) (t : Fin 4608) (o : Fin 6144) : EReal := v (ix3 (stream t) ⟨t.val % 8, Nat.mod_lt _ (by decide)⟩ o)

variable (x : Mat 4608 1024) (v : Mods) (w1 : Mat 1024 4096) (w2 : Mat 4096 1024) (g b : Row)

/-- The sublayer's input: each token scaled by one plus its scale, and shifted. -/
def modulated (t : Fin 4608) (k : Fin 1024) : EReal :=
  x (ix2 t k) * (1 + modAt v t ⟨4096 + k.val, by omega⟩) + modAt v t ⟨3072 + k.val, by omega⟩

/-- The hidden layer's activation, the square of its ReLU. -/
def act (t : Fin 4608) (f : Fin 4096) : EReal :=
  max (∑ k : Fin 1024, modulated x v t k * w1 (ix2 k f)) 0 * max (∑ k : Fin 1024, modulated x v t k * w1 (ix2 k f)) 0

/-- The MLP's output. -/
def mlpOut (t : Fin 4608) (k : Fin 1024) : EReal := ∑ f : Fin 4096, act x v w1 t f * w2 (ix2 f k)

/-- The residual stream after the sublayer: the weighted input plus the gated output. -/
def resid (t : Fin 4608) (k : Fin 1024) : EReal :=
  Ideal.ofBits .f32 0x3FD744FD#32 * x (ix2 t k) + modAt v t ⟨5120 + k.val, by omega⟩ * mlpOut x v w1 w2 t k

/-- A row less its mean. -/
def centred (y : Fin 1024 → EReal) (k : Fin 1024) : EReal := y k - Ideal.div (∑ j : Fin 1024, y j) (Ideal.ofBits .f32 0x44800000#32)

/-- A row's layer normalisation, with gain and bias. -/
def layerNorm (y : Fin 1024 → EReal) (k : Fin 1024) : EReal :=
  centred y k * Ideal.rsqrt (Ideal.div (∑ j : Fin 1024, centred y j * centred y j) (Ideal.ofBits .f32 0x44800000#32) + Ideal.ofBits .f32 0x3727C5AC#32)
    * g (ix1 k) + b (ix1 k)

end Cert.Fwd

end
-- ==== Proof.Fwd.Block.lean ====
/- What one tile of 512 tokens of the MLP's forward kernel leaves in its outputs. -/
module

public import proofs.«01_k».proof.Proof.Fwd.Spec
public import proofs.«01_k».proof.Proof.Mlp.Block
public import proofs.«01_k».proof.Proof.Gen.Kernel8Ideal.Value
public import Idealize.ShloMosaic.Lib.Pointwise
public import Idealize.ShloMosaic.Lib.Pipeline.ValueKit

@[expose] public section

noncomputable section

namespace Cert.Fwd

open Idealize.ShloMosaic Cert.Mlp Cert.Kernel8Ideal Cert.Kernel8Ideal.Gen
open scoped BigOperators

/-! ## What the body computes of the values it loads -/

/-- The modulated tokens: row `r` is of phase `r` modulo eight. -/
theorem modPay_apply (v0 : Vec Ideal S512x1024 .f32) (v1 v3 : Vec Ideal S1x8x1024 .f32) (r : Fin 512) (k : Fin 1024) :
    k0_pay2 v0 v1 v3 (ix2 r k)
      = v0 (ix2 r k) * (1 + v3 (ix3 0 ⟨r.val % 8, by omega⟩ k)) + v1 (ix3 0 ⟨r.val % 8, by omega⟩ k) := by
  unfold k0_pay2
  pointwise

/-- The activation in one shard's columns. -/
theorem actPay_apply (h : FVec Ideal S512x1024 .bf16) (w : FVec Ideal S1x1x1024x1024 .bf16) (r : Fin 512) (j : Fin 1024) :
    k0_pay7 h w (ix2 r j)
      = max (∑ k : Fin 1024, h (ix2 r k) * w (ix4 0 0 k j)) 0 * max (∑ k : Fin 1024, h (ix2 r k) * w (ix4 0 0 k j)) 0 := by
  unfold k0_pay7
  pointwise

/-- The product of an activation with a shard of the second weight. -/
theorem outPay_apply (a : FVec Ideal S512x1024 .bf16) (w : FVec Ideal S1x1x1024x1024 .bf16) (r : Fin 512) (k : Fin 1024) :
    matmul dot_S512x1024_S1024x1024_S512x1024_1_0_0_1_n_n none a (shapeCast S1024x1024 w shapeCasts_S1x1x1024x1024_S1024x1024)
        (constant S512x1024 .f32 0x00000000#32) (ix2 r k)
      = ∑ j : Fin 1024, a (ix2 r j) * w (ix4 0 0 j k) := by
  pointwise

/-- The residual stream. -/
theorem residPay_apply (v0 : Vec Ideal S512x1024 .f32) (v52 : FVec Ideal S512x1024 .f32) (v59 : FVec Ideal S512x1024 .bf16)
    (v61 : Vec Ideal S1x1x1024x1024 .bf16) (v67 : Vec Ideal S1x8x1024 .f32) (r : Fin 512) (k : Fin 1024) :
    k0_pay11 v0 v52 v59 v61 v67 (ix2 r k)
      = Ideal.ofBits .f32 0x3FD744FD#32 * v0 (ix2 r k) + k0_pay10 v52 v59 v61 (ix2 r k) * v67 (ix3 0 ⟨r.val % 8, by omega⟩ k) := by
  unfold k0_pay11
  pointwise

/-- The normalised residual stream. -/
theorem normPay_apply (v0 : Vec Ideal S512x1024 .f32) (v52 : FVec Ideal S512x1024 .f32) (v59 : FVec Ideal S512x1024 .bf16)
    (v61 : Vec Ideal S1x1x1024x1024 .bf16) (v67 : Vec Ideal S1x8x1024 .f32) (v91 v95 : Vec Ideal S1x1024 .f32) (r : Fin 512) (k : Fin 1024) :
    k0_pay12 v0 v52 v59 v61 v67 v91 v95 (ix2 r k)
      = layerNorm (fun i => v91 (ix2 0 (i 0))) (fun i => v95 (ix2 0 (i 0))) (fun j => k0_pay11 v0 v52 v59 v61 v67 (ix2 r j)) k := by
  unfold k0_pay12
  generalize k0_pay11 v0 v52 v59 v61 v67 = y
  pointwise
  rfl

/-! ## Loads -/

/-- A block loaded whole. -/
theorem whole_ld (x : Vec Ideal S512x1024 .f32) : View.ld x r0_0 = x :=
  funext fun i => congrArg x (funext fun q => Fin.ext (by
    match q with
    | ⟨0, _⟩ => show 0 + 1 * (i 0).val = (i 0).val; omega
    | ⟨1, _⟩ => show 0 + 1 * (i 1).val = (i 1).val; omega))

/-- A row loaded whole. -/
theorem row_ld (x : Vec Ideal S1x1024 .f32) : View.ld x r0_12 = x :=
  funext fun i => congrArg x (funext fun q => Fin.ext (by
    match q with
    | ⟨0, _⟩ => show 0 + 1 * (i 0).val = (i 0).val; omega
    | ⟨1, _⟩ => show 0 + 1 * (i 1).val = (i 1).val; omega))

/-- A thousand columns of the modulation block, read through the rectangle that loads them. -/
theorem mod_ld (x : Vec Ideal S1x8x6144 .f32) (o : ℕ) (inb) (p : Fin 8) (k : Fin 1024) (h : o + k.val < 6144) :
    View.ld x (Rect.unit (s := S1x8x6144) ![0, 0, o] S1x8x1024.size inb) (ix3 0 p k) = x (ix3 0 p ⟨o + k.val, h⟩) := by
  refine congrArg x (funext fun q => Fin.ext ?_)
  match q with
  | ⟨0, _⟩ => rfl
  | ⟨1, _⟩ => show 0 + 1 * p.val = p.val; omega
  | ⟨2, _⟩ => show o + 1 * k.val = o + k.val; omega

/-! ## The tile -/

/-- The blocks hold the rows `row r` of the tokens and of the modulation table, the weights' shards, and the gain and bias. -/
structure IsTile (x : Mat 4608 1024) (v : Mods) (w1 : Mat 1024 4096) (w2 : Mat 4096 1024) (g b : Row) (row : Fin 512 → Fin 4608)
    (x0 : Vec Ideal S512x1024 .f32) (x1 : Vec Ideal S1x8x6144 .f32) (x2 x3 : Vec Ideal S4x1x1024x1024 .bf16) (x4 x5 : Vec Ideal S1x1024 .f32) : Prop where
  rows : ∀ r k, x0 (ix2 r k) = x (ix2 (row r) k)
  mods : ∀ (r : Fin 512) (o : Fin 6144), x1 (ix3 0 ⟨r.val % 8, by omega⟩ o) = modAt v (row r) o
  w1_shards : ∀ (s : Fin 4) (k j : Fin 1024), x2 (ix4 s 0 k j) = w1 (ix2 k ⟨s.val * 1024 + j.val, by omega⟩)
  w2_shards : ∀ (s : Fin 4) (j k : Fin 1024), x3 (ix4 s 0 j k) = w2 (ix2 ⟨s.val * 1024 + j.val, by omega⟩ k)
  gain : ∀ k, x4 (ix2 0 k) = g (ix1 k)
  bias : ∀ k, x5 (ix2 0 k) = b (ix1 k)

variable {x : Mat 4608 1024} {v : Mods} {w1 : Mat 1024 4096} {w2 : Mat 4096 1024} {g b : Row} {row : Fin 512 → Fin 4608}
  {x0 : Vec Ideal S512x1024 .f32} {x1 : Vec Ideal S1x8x6144 .f32} {x2 x3 : Vec Ideal S4x1x1024x1024 .bf16} {x4 x5 : Vec Ideal S1x1024 .f32}
  (ht : IsTile x v w1 w2 g b row x0 x1 x2 x3 x4 x5)

include ht

theorem tile_modPay (r : Fin 512) (k : Fin 1024) : k0_pay13 x0 x1 x2 x3 x4 x5 (ix2 r k) = modulated x v (row r) k := by
  unfold k0_pay13
  rw [modPay_apply, whole_ld, mod_ld x1 3072 _ _ k (by omega), mod_ld x1 4096 _ _ k (by omega), ht.rows, ht.mods, ht.mods]
  rfl

/-- Shard `s`'s columns of the activation. -/
theorem tile_actPay (s : Fin 4) (inb) (r : Fin 512) (j : Fin 1024) :
    k0_pay7 (k0_pay13 x0 x1 x2 x3 x4 x5) (View.ld x2 (Rect.unit (s := S4x1x1024x1024) ![s.val, 0, 0, 0] S1x1x1024x1024.size inb)) (ix2 r j)
      = act x v w1 (row r) ⟨s.val * 1024 + j.val, by omega⟩ := by
  rw [actPay_apply]
  unfold act
  have e : ∀ k : Fin 1024, k0_pay13 x0 x1 x2 x3 x4 x5 (ix2 r k)
        * View.ld x2 (Rect.unit (s := S4x1x1024x1024) ![s.val, 0, 0, 0] S1x1x1024x1024.size inb) (ix4 0 0 k j)
      = modulated x v (row r) k * w1 (ix2 k ⟨s.val * 1024 + j.val, by omega⟩) := fun k => by
    rw [tile_modPay ht, shard_ld, ht.w1_shards]
  simp only [e]

/-- The MLP's output, one shard's product after another. -/
theorem tile_outPay (r : Fin 512) (k : Fin 1024) :
    k0_pay10 (k0_pay15 x0 x1 x2 x3 x4 x5) (k0_pay16 x0 x1 x2 x3 x4 x5) (View.ld x3 r0_9) (ix2 r k) = mlpOut x v w1 w2 (row r) k := by
  have hs : ∀ (a : FVec Ideal S512x1024 .bf16) (s : Fin 4) (inb) (h : ∀ j : Fin 1024, a (ix2 r j) = act x v w1 (row r) ⟨s.val * 1024 + j.val, by omega⟩),
      ∑ j : Fin 1024, a (ix2 r j) * View.ld x3 (Rect.unit (s := S4x1x1024x1024) ![s.val, 0, 0, 0] S1x1x1024x1024.size inb) (ix4 0 0 j k)
        = ∑ j : Fin 1024, act x v w1 (row r) ⟨s.val * 1024 + j.val, by omega⟩ * w2 (ix2 ⟨s.val * 1024 + j.val, by omega⟩ k) := fun a s inb h =>
    Finset.sum_congr rfl fun j _ => by rw [h, shard_ld, ht.w2_shards]
  have h4 : ∀ f : Fin 4 → EReal, ∑ s, f s = 0 + f 0 + f 1 + f 2 + f 3 := fun f => by rw [Fin.sum_univ_four, zero_add]
  unfold mlpOut
  rw [← Fin.sum_mul_add_fin (S := 4) (n := 1024) (fun f => act x v w1 (row r) f * w2 (ix2 f k)), h4,
    ← hs (k0_pay3 (View.ld x0 r0_0) (View.ld x1 r0_1) (View.ld x1 r0_2) (View.ld x2 r0_3)) 0 inb_S4x1x1024x1024_S1x1x1024x1024_0_0_0_0 (fun j => tile_actPay ht 0 _ r j),
    ← hs (k0_pay6 (k0_pay13 x0 x1 x2 x3 x4 x5) (k0_pay14 x0 x1 x2 x3 x4 x5)) 1 inb_S4x1x1024x1024_S1x1x1024x1024_1_0_0_0 (fun j => tile_actPay ht 1 _ r j),
    ← hs (k0_pay7 (k0_pay13 x0 x1 x2 x3 x4 x5) (View.ld x2 r0_7)) 2 inb_S4x1x1024x1024_S1x1x1024x1024_2_0_0_0 (fun j => tile_actPay ht 2 _ r j),
    ← hs (k0_pay16 x0 x1 x2 x3 x4 x5) 3 inb_S4x1x1024x1024_S1x1x1024x1024_3_0_0_0 (fun j => tile_actPay ht 3 _ r j)]
  unfold k0_pay10 k0_pay15 k0_pay8 k0_pay4
  dsimp only
  simp only [addf, outPay_apply]
  have hz : (broadcast S512x1024 (Scalar.ofBits .f32 0x00000000#32) : FVec Ideal S512x1024 .f32) (ix2 r k) = 0 := by pointwise
  simp only [Ideal.addf_def, hz]
  rfl

theorem tile_residPay (r : Fin 512) (k : Fin 1024) :
    k0_pay11 (View.ld x0 r0_0) (k0_pay15 x0 x1 x2 x3 x4 x5) (k0_pay16 x0 x1 x2 x3 x4 x5) (View.ld x3 r0_9) (View.ld x1 r0_11) (ix2 r k)
      = resid x v w1 w2 (row r) k := by
  rw [residPay_apply, tile_outPay ht, whole_ld, mod_ld x1 5120 _ _ k (by omega), ht.rows, ht.mods, mul_comm (mlpOut x v w1 w2 (row r) k)]
  rfl

/-! ## The five outputs -/

theorem tile_norm (r : Fin 512) (k : Fin 1024) :
    out0_6 x0 x1 x2 x3 x4 x5 (ix2 r k) = layerNorm g b (resid x v w1 w2 (row r)) k := by
  unfold out0_6
  rw [View.canon_unit_zero (funext fun a => by fin_cases a <;> rfl), normPay_apply, row_ld, row_ld]
  have hg : (fun i => x4 (ix2 0 (i 0)) : Row) = g := funext fun i => (ht.gain (i 0)).trans (congrArg g (eq_ix1 i).symm)
  have hb : (fun i => x5 (ix2 0 (i 0)) : Row) = b := funext fun i => (ht.bias (i 0)).trans (congrArg b (eq_ix1 i).symm)
  have hr : (fun j => k0_pay11 (View.ld x0 r0_0) (k0_pay15 x0 x1 x2 x3 x4 x5) (k0_pay16 x0 x1 x2 x3 x4 x5) (View.ld x3 r0_9) (View.ld x1 r0_11) (ix2 r j))
      = resid x v w1 w2 (row r) := funext fun j => tile_residPay ht r j
  rw [hg, hb, hr]

theorem tile_resid (r : Fin 512) (k : Fin 1024) : out0_7 x0 x1 x2 x3 x4 x5 (ix2 r k) = resid x v w1 w2 (row r) k := by
  unfold out0_7
  rw [View.canon_unit_zero (funext fun a => by fin_cases a <;> rfl), tile_residPay ht]

theorem tile_out (r : Fin 512) (k : Fin 1024) : out0_8 x0 x1 x2 x3 x4 x5 (ix2 r k) = mlpOut x v w1 w2 (row r) k := by
  unfold out0_8
  rw [View.canon_unit_zero (funext fun a => by fin_cases a <;> rfl)]
  exact tile_outPay ht r k

theorem tile_act (r : Fin 512) (f : Fin 4096) : out0_9 x0 x1 x2 x3 x4 x5 (ix2 r f) = act x v w1 (row r) f := by
  unfold out0_9
  rw [View.canon_apply_of_pieces (fun i => act x v w1 (row (i 0)) (i 1)) _ _ _ (cover0_9 _ _ _ _ _)]
  · rfl
  · intro p hp y
    have hy : ∀ (o : ℕ) (s : Fin 4) (_ : o = s.val * 1024) (inb) (inb') (y : S512x1024.Idx),
        k0_pay7 (k0_pay13 x0 x1 x2 x3 x4 x5) (View.ld x2 (Rect.unit (s := S4x1x1024x1024) ![s.val, 0, 0, 0] S1x1x1024x1024.size inb')) y
          = act x v w1 (row ((Rect.unit (s := S512x4096) ![0, o] S512x1024.size inb).emb y 0))
              ((Rect.unit (s := S512x4096) ![0, o] S512x1024.size inb).emb y 1) := by
      intro o s ho inb inb' y
      subst ho
      conv_lhs => rw [eq_ix2 y]
      refine (tile_actPay ht s inb' (y 0) (y 1)).trans ?_
      congr 1
      · exact congrArg row (Fin.ext (by show (y 0).val = 0 + 1 * (y 0).val; omega))
      · exact Fin.ext (by show s.val * 1024 + (y 1).val = s.val * 1024 + 1 * (y 1).val; omega)
    simp only [List.mem_cons, List.not_mem_nil, or_false] at hp
    rcases hp with rfl | rfl | rfl | rfl
    · exact hy 3072 3 rfl inb_S512x4096_S512x1024_0_3072 _ y
    · exact hy 2048 2 rfl inb_S512x4096_S512x1024_0_2048 _ y
    · exact hy 1024 1 rfl inb_S512x4096_S512x1024_0_1024 _ y
    · exact hy 0 0 rfl inb_S512x4096_S512x1024_0_0 _ y

theorem tile_mod (r : Fin 512) (k : Fin 1024) : out0_10 x0 x1 x2 x3 x4 x5 (ix2 r k) = modulated x v (row r) k := by
  unfold out0_10
  rw [View.canon_unit_zero (funext fun a => by fin_cases a <;> rfl), tile_modPay ht]

end Cert.Fwd

end
-- ==== Proof.Fwd.Array.lean ====
/- What the first layers' forward MLP kernel leaves in its five result arrays. -/
module

public import proofs.«01_k».proof.Proof.Fwd.Block
public import proofs.«01_k».proof.Proof.Mlp.Host
public import Idealize.ShloMosaic.Lib.StableHlo.Run

@[expose] public section

noncomputable section

namespace Cert.Fwd

open Idealize.ShloMosaic Idealize.ShloMosaic.TcCoe Idealize.SL.Sem Cert.Kernel8Ideal Cert.Kernel8Ideal.Gen Cert.Kernel8Ideal.Value
open Cert.Mlp (familyArr familyArr_w1 familyArr_w2)
open scoped BigOperators

variable (m : (ℓ : Loc nD τ sig) → Buf (Elt Ideal) ℓ) (c : Dev nD)

/-- The launch contents of the arguments. -/
abbrev argX : FVec Ideal S4608x1024 .f32 := m ((c : Thread nD τ).loc main_arg0)
abbrev argV : FVec Ideal S2x8x6144 .f32 := m ((c : Thread nD τ).loc main_arg1)
abbrev argW1 : FVec Ideal S1024x4096 .f32 := m ((c : Thread nD τ).loc main_arg2)
abbrev argW2 : FVec Ideal S4096x1024 .f32 := m ((c : Thread nD τ).loc main_arg3)
abbrev argG : FVec Ideal S1024 .f32 := m ((c : Thread nD τ).loc main_arg4)
abbrev argB : FVec Ideal S1024 .f32 := m ((c : Thread nD τ).loc main_arg5)

theorem family_eq : (V m c main_v6 : FVec Ideal S4x2x1024x1024 .bf16) = familyArr (argW1 m c) (argW2 m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

/-- The gain as a one-row array. -/
theorem gain_apply (k : Fin 1024) : (V m c main_v7 : FVec Ideal S1x1024 .f32) (ix2 0 k) = argG m c (ix1 k) := by
  have e : (V m c main_v7 : FVec Ideal S1x1024 .f32) = broadcastInDim S1x1024 ![1] bcast_S1024_S1x1024_1 (argG m c) := by
    unfold V
    after_results
  rw [e]
  pointwise

/-- The bias as a one-row array. -/
theorem bias_apply (k : Fin 1024) : (V m c main_v8 : FVec Ideal S1x1024 .f32) (ix2 0 k) = argB m c (ix1 k) := by
  have e : (V m c main_v8 : FVec Ideal S1x1024 .f32) = broadcastInDim S1x1024 ![1] bcast_S1024_S1x1024_1 (argB m c) := by
    unfold V
    after_results
  rw [e]
  pointwise

/-! ## The windows' block indices: the first tile's modulation is the context's, the others' the latents'. -/

theorem idxTok : ∀ t : Fin cfg0.N, win0_0.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, win0_0.index t = ![t.val, 0] ∧ win0_6.index t = ![t.val, 0] ∧ win0_7.index t = ![t.val, 0] ∧ win0_8.index t = ![t.val, 0] ∧ win0_9.index t = ![t.val, 0] ∧ win0_10.index t = ![t.val, 0])

theorem idxMod : ∀ t : Fin cfg0.N, win0_1.index t = ![if t.val = 0 then 0 else 1, 0, 0] :=
  (by decide +kernel : ∀ t : Fin grid0.N, win0_1.index t = ![if t.val = 0 then 0 else 1, 0, 0])

theorem idxW : ∀ t : Fin cfg0.N, win0_2.index t = ![0, 0, 0, 0] ∧ win0_3.index t = ![0, 1, 0, 0] ∧ win0_4.index t = ![0, 0] ∧ win0_5.index t = ![0, 0] :=
  (by decide +kernel : ∀ t : Fin grid0.N, win0_2.index t = ![0, 0, 0, 0] ∧ win0_3.index t = ![0, 1, 0, 0] ∧ win0_4.index t = ![0, 0] ∧ win0_5.index t = ![0, 0])

/-- Row `r` of point `t`'s tile. -/
def row (t : Fin cfg0.N) (r : Fin 512) : Fin 4608 :=
  ⟨t.val * 512 + r.val, by have h : t.val < 9 := lt_of_lt_of_eq t.isLt (by decide); omega⟩

theorem row_block (t : Fin cfg0.N) (r : Fin 512) (k : Fin 1024) :
    (iblk m c 0 t : FVec Ideal S512x1024 .f32) (ix2 r k) = argX m c (ix2 (row t r) k) := by
  show _ = m ((c : Thread nD τ).loc main_arg0) _
  rw [← V_main_arg0 m c]
  unfold iblk; rw [View.read_apply]
  show V m c main_arg0 _ = _
  refine congrArg (V m c main_arg0) ?_
  blk_ext [(idxTok t).1, row]

/-- The stream of a point's rows. -/
theorem stream_row (t : Fin cfg0.N) (r : Fin 512) : stream (row t r) = ⟨if t.val = 0 then 0 else 1, by split <;> decide⟩ := by
  unfold stream
  refine Fin.ext ?_
  show ((if t.val * 512 + r.val < 512 then 0 else 1 : Fin 2)).val = if t.val = 0 then 0 else 1
  split <;> split <;> first | rfl | omega

/-- Its rows' phases, and the stream its modulation block is of. -/
theorem mod_block (t : Fin cfg0.N) (r : Fin 512) (o : Fin 6144) :
    (iblk m c 1 t : FVec Ideal S1x8x6144 .f32) (ix3 0 ⟨r.val % 8, by omega⟩ o) = modAt (argV m c) (row t r) o := by
  unfold modAt
  rw [stream_row]
  show _ = m ((c : Thread nD τ).loc main_arg1) _
  rw [← V_main_arg1 m c]
  unfold iblk; rw [View.read_apply]
  show V m c main_arg1 _ = _
  refine congrArg (V m c main_arg1) ?_
  blk_ext [idxMod t, row]

theorem w1_block (t : Fin cfg0.N) (s : Fin 4) (k j : Fin 1024) :
    (iblk m c 2 t : FVec Ideal S4x1x1024x1024 .bf16) (ix4 s 0 k j) = argW1 m c (ix2 k ⟨s.val * 1024 + j.val, by omega⟩) := by
  rw [← familyArr_w1 (argW1 m c) (argW2 m c), ← family_eq]
  unfold iblk; rw [View.read_apply]
  show V m c main_v6 _ = _
  refine congrArg (V m c main_v6) ?_
  blk_ext [(idxW t).1]

theorem w2_block (t : Fin cfg0.N) (s : Fin 4) (j k : Fin 1024) :
    (iblk m c 3 t : FVec Ideal S4x1x1024x1024 .bf16) (ix4 s 0 j k) = argW2 m c (ix2 ⟨s.val * 1024 + j.val, by omega⟩ k) := by
  rw [← familyArr_w2 (argW1 m c) (argW2 m c), ← family_eq]
  unfold iblk; rw [View.read_apply]
  show V m c main_v6 _ = _
  refine congrArg (V m c main_v6) ?_
  blk_ext [(idxW t).2.1]

theorem gain_block (t : Fin cfg0.N) (k : Fin 1024) : (iblk m c 4 t : FVec Ideal S1x1024 .f32) (ix2 0 k) = argG m c (ix1 k) := by
  rw [← gain_apply]
  unfold iblk; rw [View.read_apply]
  show V m c main_v7 _ = _
  refine congrArg (V m c main_v7) ?_
  blk_ext [(idxW t).2.2.1]

theorem bias_block (t : Fin cfg0.N) (k : Fin 1024) : (iblk m c 5 t : FVec Ideal S1x1024 .f32) (ix2 0 k) = argB m c (ix1 k) := by
  rw [← bias_apply]
  unfold iblk; rw [View.read_apply]
  show V m c main_v8 _ = _
  refine congrArg (V m c main_v8) ?_
  blk_ext [(idxW t).2.2.2]

/-- The blocks of a point are a tile of the arguments. -/
theorem isTile (t : Fin cfg0.N) : IsTile (argX m c) (argV m c) (argW1 m c) (argW2 m c) (argG m c) (argB m c) (row t)
    (iblk m c 0 t) (iblk m c 1 t) (iblk m c 2 t) (iblk m c 3 t) (iblk m c 4 t) (iblk m c 5 t) :=
  ⟨row_block m c t, mod_block m c t, w1_block m c t, w2_block m c t, gain_block m c t, bias_block m c t⟩

/-! ## The arrays -/

theorem final6 (t : Fin 4608) (k : Fin 1024) : ((dats m 0 c).arrAt 6 cfg0.N : FVec Ideal S4608x1024 .f32) (ix2 t k)
    = layerNorm (argG m c) (argB m c) (resid (argX m c) (argV m c) (argW1 m c) (argW2 m c) t) k := by
  have h : (dats m 0 c).arrAt 6 cfg0.N
      = (fun i => layerNorm (argG m c) (argB m c) (resid (argX m c) (argV m c) (argW1 m c) (argW2 m c) (i 0)) (i 1) : FVec Ideal S4608x1024 .f32) := by
    refine (dats m 0 c).arrAt_eq_of_covers 6 _ (by decide +kernel) fun t hf y => ?_
    blk_simp
    rw [after0_6]
    obtain ⟨r, k, rfl⟩ : ∃ r k, y = ix2 r k := ⟨y 0, y 1, (eq_ix2 y)⟩
    have e : (win0_6.blk t).view.emb (ix2 r k) = ix2 (row t r) k := by blk_ext [(idxTok t).2.1, row]
    rw [e]
    exact tile_norm (isTile m c t) r k
  rw [h]; rfl

theorem final7 (t : Fin 4608) (k : Fin 1024) : ((dats m 0 c).arrAt 7 cfg0.N : FVec Ideal S4608x1024 .f32) (ix2 t k)
    = resid (argX m c) (argV m c) (argW1 m c) (argW2 m c) t k := by
  have h : (dats m 0 c).arrAt 7 cfg0.N
      = (fun i => resid (argX m c) (argV m c) (argW1 m c) (argW2 m c) (i 0) (i 1) : FVec Ideal S4608x1024 .f32) := by
    refine (dats m 0 c).arrAt_eq_of_covers 7 _ (by decide +kernel) fun t hf y => ?_
    blk_simp
    rw [after0_7]
    obtain ⟨r, k, rfl⟩ : ∃ r k, y = ix2 r k := ⟨y 0, y 1, (eq_ix2 y)⟩
    have e : (win0_7.blk t).view.emb (ix2 r k) = ix2 (row t r) k := by blk_ext [(idxTok t).2.2.1, row]
    rw [e]
    exact tile_resid (isTile m c t) r k
  rw [h]; rfl

theorem final8 (t : Fin 4608) (k : Fin 1024) : ((dats m 0 c).arrAt 8 cfg0.N : FVec Ideal S4608x1024 .bf16) (ix2 t k)
    = mlpOut (argX m c) (argV m c) (argW1 m c) (argW2 m c) t k := by
  have h : (dats m 0 c).arrAt 8 cfg0.N
      = (fun i => mlpOut (argX m c) (argV m c) (argW1 m c) (argW2 m c) (i 0) (i 1) : FVec Ideal S4608x1024 .bf16) := by
    refine (dats m 0 c).arrAt_eq_of_covers 8 _ (by decide +kernel) fun t hf y => ?_
    blk_simp
    rw [after0_8]
    obtain ⟨r, k, rfl⟩ : ∃ r k, y = ix2 r k := ⟨y 0, y 1, (eq_ix2 y)⟩
    have e : (win0_8.blk t).view.emb (ix2 r k) = ix2 (row t r) k := by blk_ext [(idxTok t).2.2.2.1, row]
    rw [e]
    exact tile_out (isTile m c t) r k
  rw [h]; rfl

theorem final9 (t : Fin 4608) (f : Fin 4096) : ((dats m 0 c).arrAt 9 cfg0.N : FVec Ideal S4608x4096 .bf16) (ix2 t f)
    = act (argX m c) (argV m c) (argW1 m c) t f := by
  have h : (dats m 0 c).arrAt 9 cfg0.N
      = (fun i => act (argX m c) (argV m c) (argW1 m c) (i 0) (i 1) : FVec Ideal S4608x4096 .bf16) := by
    refine (dats m 0 c).arrAt_eq_of_covers 9 _ (by decide +kernel) fun t hf y => ?_
    blk_simp
    rw [after0_9]
    obtain ⟨r, f, rfl⟩ : ∃ r f, y = ix2 r f := ⟨y 0, y 1, (eq_ix2 y)⟩
    have e : (win0_9.blk t).view.emb (ix2 r f) = ix2 (row t r) f := by blk_ext [(idxTok t).2.2.2.2.1, row]
    rw [e]
    exact tile_act (isTile m c t) r f
  rw [h]; rfl

theorem final10 (t : Fin 4608) (k : Fin 1024) : ((dats m 0 c).arrAt 10 cfg0.N : FVec Ideal S4608x1024 .bf16) (ix2 t k)
    = modulated (argX m c) (argV m c) t k := by
  have h : (dats m 0 c).arrAt 10 cfg0.N
      = (fun i => modulated (argX m c) (argV m c) (i 0) (i 1) : FVec Ideal S4608x1024 .bf16) := by
    refine (dats m 0 c).arrAt_eq_of_covers 10 _ (by decide +kernel) fun t hf y => ?_
    blk_simp
    rw [after0_10]
    obtain ⟨r, k, rfl⟩ : ∃ r k, y = ix2 r k := ⟨y 0, y 1, (eq_ix2 y)⟩
    have e : (win0_10.blk t).view.emb (ix2 r k) = ix2 (row t r) k := by blk_ext [(idxTok t).2.2.2.2.2, row]
    rw [e]
    exact tile_mod (isTile m c t) r k
  rw [h]; rfl

end Cert.Fwd

end
-- ==== Proof.Fwd.Reference.lean ====
/- What the reference's forward pass holds at an index. -/
module

public import proofs.«01_k».proof.Proof.Fwd.Spec
public import proofs.«01_k».proof.Proof.Gen.Reference8Ideal.Run
public import Idealize.ShloMosaic.Lib.Pointwise

@[expose] public section

noncomputable section

namespace Cert.Fwd

open Idealize.ShloMosaic Cert.Reference8Ideal Cert.Reference8Ideal.Gen
open scoped BigOperators

variable (x : FVec Ideal S4608x1024 .f32) (v : FVec Ideal S2x8x6144 .f32) (w1 : FVec Ideal S1024x4096 .f32) (w2 : FVec Ideal S4096x1024 .f32)
  (g b : FVec Ideal S1024 .f32)

/-- The modulation table by token, as printed: each stream's eight phases repeated over its tokens. -/
abbrev refTable : FVec Ideal S4608x6144 .f32 :=
  concatenate S4608x6144 0 [⟨S512x6144, (shapeCast _ (broadcastInDim S64x8x1x6144 ![0, 1, 2, 3] bcast_S1x8x1x6144_S64x8x1x6144_0_1_2_3 (shapeCast _ (shapeCast _ (extractStridedSlice S1x8x6144 ![0, 0, 0] v slices_S2x8x6144_S1x8x6144_0_0_0) shapeCasts_S1x8x6144_S8x6144) shapeCasts_S8x6144_S1x8x1x6144)) shapeCasts_S64x8x1x6144_S512x6144)⟩, ⟨S4096x6144, (shapeCast _ (broadcastInDim S512x8x1x6144 ![0, 1, 2, 3] bcast_S1x8x1x6144_S512x8x1x6144_0_1_2_3 (shapeCast _ (shapeCast _ (extractStridedSlice S1x8x6144 ![1, 0, 0] v slices_S2x8x6144_S1x8x6144_1_0_0) shapeCasts_S1x8x6144_S8x6144) shapeCasts_S8x6144_S1x8x1x6144)) shapeCasts_S512x8x1x6144_S4096x6144)⟩] concatenates_S512x6144_S4096x6144_S4608x6144_d0

theorem refTable_apply (t : Fin 4608) (o : Fin 6144) : refTable v (ix2 t o) = modAt v t o := by
  unfold refTable
  pointwise
  unfold modAt stream
  split
  · rfl
  · exact congrArg (fun p => v (ix3 1 p o)) (Fin.ext (by show (t.val - 512) % 8 = t.val % 8; omega))

/-- The modulated tokens, as printed. -/
abbrev refMod : FVec Ideal S4608x1024 .f32 :=
  addf (mulf x (addf (broadcastInDim S4608x1024 ![] bcast_S_S4608x1024 (constant S_ .f32 0x3F800000#32)) (extractStridedSlice S4608x1024 ![0, 4096] (refTable v) slices_S4608x6144_S4608x1024_0_4096))) (extractStridedSlice S4608x1024 ![0, 3072] (refTable v) slices_S4608x6144_S4608x1024_0_3072)

theorem refMod_apply (t : Fin 4608) (k : Fin 1024) : refMod x v (ix2 t k) = modulated x v t k := by
  unfold refMod modulated
  rw [← refTable_apply, ← refTable_apply]
  generalize refTable v = y
  pointwise

/-- The activation, as printed, of the modulated tokens `h`. -/
abbrev refAct (h : FVec Ideal S4608x1024 .f32) : FVec Ideal S4608x4096 .f32 :=
  mulf (maximumf (Host.dotGeneral dot_S4608x1024_S1024x4096_S4608x4096_1_0_0_1_n_n none h w1) (broadcastInDim S4608x4096 ![] bcast_S_S4608x4096 (constant S_ .f32 0x00000000#32))) (maximumf (Host.dotGeneral dot_S4608x1024_S1024x4096_S4608x4096_1_0_0_1_n_n none h w1) (broadcastInDim S4608x4096 ![] bcast_S_S4608x4096 (constant S_ .f32 0x00000000#32)))

theorem refAct_apply (t : Fin 4608) (f : Fin 4096) : refAct w1 (refMod x v) (ix2 t f) = act x v w1 t f := by
  have e : ∀ h : FVec Ideal S4608x1024 .f32, refAct w1 h (ix2 t f)
      = max (∑ k : Fin 1024, h (ix2 t k) * w1 (ix2 k f)) 0 * max (∑ k : Fin 1024, h (ix2 t k) * w1 (ix2 k f)) 0 := fun h => by
    unfold refAct
    pointwise
  rw [e]
  unfold act
  simp only [refMod_apply]

/-- The product of an activation with the second weight. -/
abbrev refOut (a : FVec Ideal S4608x4096 .f32) : FVec Ideal S4608x1024 .f32 :=
  Host.dotGeneral dot_S4608x4096_S4096x1024_S4608x1024_1_0_0_1_n_n none a w2

theorem refOut_apply (t : Fin 4608) (k : Fin 1024) : refOut w2 (refAct w1 (refMod x v)) (ix2 t k) = mlpOut x v w1 w2 t k := by
  have e : ∀ a : FVec Ideal S4608x4096 .f32, refOut w2 a (ix2 t k) = ∑ f : Fin 4096, a (ix2 t f) * w2 (ix2 f k) := fun a => by
    unfold refOut
    pointwise
  rw [e]
  exact Finset.sum_congr rfl fun f _ => by rw [refAct_apply]

/-- The residual stream, as printed, of the MLP's output `o`. -/
abbrev refResid (o : FVec Ideal S4608x1024 .f32) : FVec Ideal S4608x1024 .f32 :=
  addf (mulf (broadcastInDim S4608x1024 ![] bcast_S_S4608x1024 (constant S_ .f32 0x3FD744FD#32)) x) (mulf (extractStridedSlice S4608x1024 ![0, 5120] (refTable v) slices_S4608x6144_S4608x1024_0_5120) o)

theorem refResid_apply (t : Fin 4608) (k : Fin 1024) :
    refResid x v (refOut w2 (refAct w1 (refMod x v))) (ix2 t k) = resid x v w1 w2 t k := by
  unfold resid
  rw [← refOut_apply, ← refTable_apply]
  unfold refResid
  generalize refOut w2 (refAct w1 (refMod x v)) = o
  generalize refTable v = y
  pointwise

/-- The rows less their means, as printed. -/
abbrev refCentred (y : FVec Ideal S4608x1024 .f32) : FVec Ideal S4608x1024 .f32 :=
  subf y (broadcastInDim S4608x1024 ![0, 1] bcast_S4608x1_S4608x1024_0_1 (Host.divf (broadcastInDim S4608x1 ![0] bcast_S4608_S4608x1_0 (Host.reduceAdd y (constant S_ .f32 0x00000000#32) reducesTo_S4608x1024_S4608_d1 h_S_)) (broadcastInDim S4608x1 ![] bcast_S_S4608x1 (constant S_ .f32 0x44800000#32))))

theorem refCentred_apply (y : FVec Ideal S4608x1024 .f32) (t : Fin 4608) (k : Fin 1024) :
    refCentred y (ix2 t k) = centred (fun j => y (ix2 t j)) k := by
  unfold refCentred
  pointwise
  rfl

/-- The layer normalisation, as printed. -/
abbrev refNorm (y : FVec Ideal S4608x1024 .f32) : FVec Ideal S4608x1024 .f32 :=
  addf (mulf (mulf (refCentred y) (broadcastInDim S4608x1024 ![0, 1] bcast_S4608x1_S4608x1024_0_1 (Host.rsqrt (addf (Host.divf (broadcastInDim S4608x1 ![0] bcast_S4608_S4608x1_0 (Host.reduceAdd (mulf (refCentred y) (refCentred y)) (constant S_ .f32 0x00000000#32) reducesTo_S4608x1024_S4608_d1 h_S_)) (broadcastInDim S4608x1 ![] bcast_S_S4608x1 (constant S_ .f32 0x44800000#32))) (broadcastInDim S4608x1 ![] bcast_S_S4608x1 (constant S_ .f32 0x3727C5AC#32)))))) (broadcastInDim S4608x1024 ![0, 1] bcast_S1x1024_S4608x1024_0_1 (broadcastInDim S1x1024 ![1] bcast_S1024_S1x1024_1 g))) (broadcastInDim S4608x1024 ![0, 1] bcast_S1x1024_S4608x1024_0_1 (broadcastInDim S1x1024 ![1] bcast_S1024_S1x1024_1 b))

theorem refNorm_rows (y : FVec Ideal S4608x1024 .f32) (t : Fin 4608) (k : Fin 1024) :
    refNorm g b y (ix2 t k) = layerNorm g b (fun j => y (ix2 t j)) k := by
  unfold layerNorm
  simp only [← refCentred_apply]
  unfold refNorm
  generalize refCentred y = z
  pointwise

theorem refNorm_apply (t : Fin 4608) (k : Fin 1024) :
    refNorm g b (refResid x v (refOut w2 (refAct w1 (refMod x v)))) (ix2 t k) = layerNorm g b (resid x v w1 w2 t) k := by
  rw [refNorm_rows]
  exact congrArg (fun z => layerNorm g b z k) (funext fun j => refResid_apply x v w1 w2 t j)

end Cert.Fwd

end
-- ==== Proof.Fwd.Equation.lean ====
/- The first layers' forward MLP kernel and the reference compute the same five arrays. -/
module

public import proofs.«01_k».proof.Defs
public import proofs.«01_k».proof.Proof.Fwd.Array
public import proofs.«01_k».proof.Proof.Fwd.Reference

@[expose] public section

noncomputable section

namespace Cert.Fwd

open Idealize.ShloMosaic Idealize.ShloMosaic.TcCoe Idealize.SL.Sem
open scoped BigOperators

theorem algebraic : Cert.algebraic_Kernel8Ideal_Reference8Ideal := by
  intro m g m' g' _ hargs
  refine ⟨_, _, _, _, _, Cert.Kernel8Ideal.Value.run_blocks m g, ?_⟩
  refine (θ_run Cert.Reference8Ideal.defs _ _).mono (fun r h c => ?_) (Cert.Reference8Ideal.Value.run (F := Ideal) m' g')
  obtain ⟨h0, h1, h2, h3, h4, hk⟩ := h c
  obtain ⟨e0, e1, e2, e3, e4, e5⟩ := hargs c
  refine ⟨h0.trans ?_, h1.trans ?_, h2.trans ?_, h3.trans ?_, h4.trans ?_, hk⟩
  · unfold Cert.Reference8Ideal.Value.res_main_v52
    rw [e0, e1, e2, e3, e4, e5]
    funext i
    obtain ⟨t, k, rfl⟩ : ∃ t k, i = ix2 t k := ⟨i 0, i 1, eq_ix2 i⟩
    exact (refNorm_apply _ _ _ _ _ _ t k).trans (final6 m c t k).symm
  · unfold Cert.Reference8Ideal.Value.res_main_v28
    rw [e0, e1, e2, e3]
    funext i
    obtain ⟨t, k, rfl⟩ : ∃ t k, i = ix2 t k := ⟨i 0, i 1, eq_ix2 i⟩
    exact (refResid_apply _ _ _ _ t k).trans (final7 m c t k).symm
  · unfold Cert.Reference8Ideal.Value.res_main_v53
    rw [e0, e1, e2, e3]
    funext i
    obtain ⟨t, k, rfl⟩ : ∃ t k, i = ix2 t k := ⟨i 0, i 1, eq_ix2 i⟩
    exact (refOut_apply _ _ _ _ t k).trans (final8 m c t k).symm
  · unfold Cert.Reference8Ideal.Value.res_main_v56
    rw [e0, e1, e2]
    funext i
    obtain ⟨t, f, rfl⟩ : ∃ t f, i = ix2 t f := ⟨i 0, i 1, eq_ix2 i⟩
    exact (refAct_apply _ _ _ t f).trans (final9 m c t f).symm
  · rw [e0, e1]
    funext i
    obtain ⟨t, k, rfl⟩ : ∃ t k, i = ix2 t k := ⟨i 0, i 1, eq_ix2 i⟩
    exact (refMod_apply _ _ t k).trans (final10 m c t k).symm

end Cert.Fwd

end
-- ==== Proof.LateFwd.Array.lean ====
/- What the later layers' forward MLP kernel leaves on the latent tokens' rows, the only rows it writes. -/
module

public import proofs.«01_k».proof.Proof.Gen.Kernel9Ideal.Value
public import proofs.«01_k».proof.Proof.Fwd.Block
public import proofs.«01_k».proof.Proof.Mlp.Host
public import Idealize.ShloMosaic.Lib.StableHlo.Run

@[expose] public section

noncomputable section

namespace Cert.LateFwd

open Idealize.ShloMosaic Idealize.ShloMosaic.TcCoe Idealize.SL.Sem Cert.Kernel9Ideal Cert.Kernel9Ideal.Gen Cert.Kernel9Ideal.Value
open Cert.Mlp (familyArr familyArr_w1 familyArr_w2)
open Cert.Fwd
open scoped BigOperators

variable (m : (ℓ : Loc nD τ sig) → Buf (Elt Ideal) ℓ) (c : Dev nD)

/-- The launch contents of the arguments. -/
abbrev argX : FVec Ideal S4608x1024 .f32 := m ((c : Thread nD τ).loc main_arg0)
abbrev argV : FVec Ideal S2x8x6144 .f32 := m ((c : Thread nD τ).loc main_arg1)
abbrev argW1 : FVec Ideal S1024x4096 .f32 := m ((c : Thread nD τ).loc main_arg2)
abbrev argW2 : FVec Ideal S4096x1024 .f32 := m ((c : Thread nD τ).loc main_arg3)
abbrev argG : FVec Ideal S1024 .f32 := m ((c : Thread nD τ).loc main_arg4)
abbrev argB : FVec Ideal S1024 .f32 := m ((c : Thread nD τ).loc main_arg5)

theorem family_eq : (V m c main_v6 : FVec Ideal S4x2x1024x1024 .bf16) = familyArr (argW1 m c) (argW2 m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

/-- The gain as a one-row array. -/
theorem gain_apply (k : Fin 1024) : (V m c main_v7 : FVec Ideal S1x1024 .f32) (ix2 0 k) = argG m c (ix1 k) := by
  have e : (V m c main_v7 : FVec Ideal S1x1024 .f32) = broadcastInDim S1x1024 ![1] bcast_S1024_S1x1024_1 (argG m c) := by
    unfold V
    after_results
  rw [e]
  pointwise

/-- The bias as a one-row array. -/
theorem bias_apply (k : Fin 1024) : (V m c main_v8 : FVec Ideal S1x1024 .f32) (ix2 0 k) = argB m c (ix1 k) := by
  have e : (V m c main_v8 : FVec Ideal S1x1024 .f32) = broadcastInDim S1x1024 ![1] bcast_S1024_S1x1024_1 (argB m c) := by
    unfold V
    after_results
  rw [e]
  pointwise

/-! ## The windows' block indices: the token windows skip the context's 512 rows, and the modulation is the latents'. -/

theorem idxTok : ∀ t : Fin cfg0.N, win0_0.index t = ![t.val + 1, 0] ∧ win0_6.index t = ![t.val + 1, 0] ∧ win0_7.index t = ![t.val + 1, 0] ∧ win0_8.index t = ![t.val + 1, 0] ∧ win0_9.index t = ![t.val + 1, 0] ∧ win0_10.index t = ![t.val + 1, 0] :=
  (by decide +kernel : ∀ t : Fin grid0.N, win0_0.index t = ![t.val + 1, 0] ∧ win0_6.index t = ![t.val + 1, 0] ∧ win0_7.index t = ![t.val + 1, 0] ∧ win0_8.index t = ![t.val + 1, 0] ∧ win0_9.index t = ![t.val + 1, 0] ∧ win0_10.index t = ![t.val + 1, 0])

theorem idxMod : ∀ t : Fin cfg0.N, win0_1.index t = ![1, 0, 0] :=
  (by decide +kernel : ∀ t : Fin grid0.N, win0_1.index t = ![1, 0, 0])

theorem idxW : ∀ t : Fin cfg0.N, win0_2.index t = ![0, 0, 0, 0] ∧ win0_3.index t = ![0, 1, 0, 0] ∧ win0_4.index t = ![0, 0] ∧ win0_5.index t = ![0, 0] :=
  (by decide +kernel : ∀ t : Fin grid0.N, win0_2.index t = ![0, 0, 0, 0] ∧ win0_3.index t = ![0, 1, 0, 0] ∧ win0_4.index t = ![0, 0] ∧ win0_5.index t = ![0, 0])

/-- Row `r` of point `t`'s tile. -/
def row (t : Fin cfg0.N) (r : Fin 512) : Fin 4608 :=
  ⟨(t.val + 1) * 512 + r.val, by have h : t.val < 8 := lt_of_lt_of_eq t.isLt (by decide); omega⟩

theorem row_block (t : Fin cfg0.N) (r : Fin 512) (k : Fin 1024) :
    (iblk m c 0 t : FVec Ideal S512x1024 .f32) (ix2 r k) = argX m c (ix2 (row t r) k) := by
  show _ = m ((c : Thread nD τ).loc main_arg0) _
  rw [← V_main_arg0 m c]
  unfold iblk; rw [View.read_apply]
  show V m c main_arg0 _ = _
  refine congrArg (V m c main_arg0) ?_
  blk_ext [(idxTok t).1, row]

/-- The stream of a point's rows. -/
theorem stream_row (t : Fin cfg0.N) (r : Fin 512) : stream (row t r) = 1 := by
  unfold stream
  exact if_neg (by show ¬ (t.val + 1) * 512 + r.val < 512; omega)

/-- Its rows' phases, and the stream its modulation block is of. -/
theorem mod_block (t : Fin cfg0.N) (r : Fin 512) (o : Fin 6144) :
    (iblk m c 1 t : FVec Ideal S1x8x6144 .f32) (ix3 0 ⟨r.val % 8, by omega⟩ o) = modAt (argV m c) (row t r) o := by
  unfold modAt
  rw [stream_row]
  show _ = m ((c : Thread nD τ).loc main_arg1) _
  rw [← V_main_arg1 m c]
  unfold iblk; rw [View.read_apply]
  show V m c main_arg1 _ = _
  refine congrArg (V m c main_arg1) ?_
  blk_ext [idxMod t, row]

theorem w1_block (t : Fin cfg0.N) (s : Fin 4) (k j : Fin 1024) :
    (iblk m c 2 t : FVec Ideal S4x1x1024x1024 .bf16) (ix4 s 0 k j) = argW1 m c (ix2 k ⟨s.val * 1024 + j.val, by omega⟩) := by
  rw [← familyArr_w1 (argW1 m c) (argW2 m c), ← family_eq]
  unfold iblk; rw [View.read_apply]
  show V m c main_v6 _ = _
  refine congrArg (V m c main_v6) ?_
  blk_ext [(idxW t).1]

theorem w2_block (t : Fin cfg0.N) (s : Fin 4) (j k : Fin 1024) :
    (iblk m c 3 t : FVec Ideal S4x1x1024x1024 .bf16) (ix4 s 0 j k) = argW2 m c (ix2 ⟨s.val * 1024 + j.val, by omega⟩ k) := by
  rw [← familyArr_w2 (argW1 m c) (argW2 m c), ← family_eq]
  unfold iblk; rw [View.read_apply]
  show V m c main_v6 _ = _
  refine congrArg (V m c main_v6) ?_
  blk_ext [(idxW t).2.1]

theorem gain_block (t : Fin cfg0.N) (k : Fin 1024) : (iblk m c 4 t : FVec Ideal S1x1024 .f32) (ix2 0 k) = argG m c (ix1 k) := by
  rw [← gain_apply]
  unfold iblk; rw [View.read_apply]
  show V m c main_v7 _ = _
  refine congrArg (V m c main_v7) ?_
  blk_ext [(idxW t).2.2.1]

theorem bias_block (t : Fin cfg0.N) (k : Fin 1024) : (iblk m c 5 t : FVec Ideal S1x1024 .f32) (ix2 0 k) = argB m c (ix1 k) := by
  rw [← bias_apply]
  unfold iblk; rw [View.read_apply]
  show V m c main_v8 _ = _
  refine congrArg (V m c main_v8) ?_
  blk_ext [(idxW t).2.2.2]

/-- The blocks of a point are a tile of the arguments. -/
theorem isTile (t : Fin cfg0.N) : IsTile (argX m c) (argV m c) (argW1 m c) (argW2 m c) (argG m c) (argB m c) (row t)
    (iblk m c 0 t) (iblk m c 1 t) (iblk m c 2 t) (iblk m c 3 t) (iblk m c 4 t) (iblk m c 5 t) :=
  ⟨row_block m c t, mod_block m c t, w1_block m c t, w2_block m c t, gain_block m c t, bias_block m c t⟩

/-! ## The arrays on the latent rows -/

theorem final6 (t : Fin 4608) (ht : 512 ≤ t.val) (k : Fin 1024) : ((dats m 0 c).arrAt 6 cfg0.N : FVec Ideal S4608x1024 .f32) (ix2 t k)
    = layerNorm (argG m c) (argB m c) (resid (argX m c) (argV m c) (argW1 m c) (argW2 m c) t) k := by
  have h := (dats m 0 c).arrAt_emb_eq_of_coversWhere 6
    (fun i => layerNorm (argG m c) (argB m c) (resid (argX m c) (argV m c) (argW1 m c) (argW2 m c) (i 0)) (i 1) : FVec Ideal S4608x1024 .f32)
    (fun β => 1 ≤ β (0 : Fin 2)) (by decide +kernel) (fun t hf y => by
      blk_simp
      rw [after0_6]
      obtain ⟨r, k, rfl⟩ : ∃ r k, y = ix2 r k := ⟨y 0, y 1, (eq_ix2 y)⟩
      have e : (win0_6.blk t).view.emb (ix2 r k) = ix2 (row t r) k := by blk_ext [(idxTok t).2.1, row]
      rw [e]
      exact tile_norm (isTile m c t) r k) (ix2 t k)
  refine h.trans (if_pos ?_)
  show 1 ≤ t.val / 512
  omega

theorem final7 (t : Fin 4608) (ht : 512 ≤ t.val) (k : Fin 1024) : ((dats m 0 c).arrAt 7 cfg0.N : FVec Ideal S4608x1024 .f32) (ix2 t k)
    = resid (argX m c) (argV m c) (argW1 m c) (argW2 m c) t k := by
  have h := (dats m 0 c).arrAt_emb_eq_of_coversWhere 7
    (fun i => resid (argX m c) (argV m c) (argW1 m c) (argW2 m c) (i 0) (i 1) : FVec Ideal S4608x1024 .f32)
    (fun β => 1 ≤ β (0 : Fin 2)) (by decide +kernel) (fun t hf y => by
      blk_simp
      rw [after0_7]
      obtain ⟨r, k, rfl⟩ : ∃ r k, y = ix2 r k := ⟨y 0, y 1, (eq_ix2 y)⟩
      have e : (win0_7.blk t).view.emb (ix2 r k) = ix2 (row t r) k := by blk_ext [(idxTok t).2.2.1, row]
      rw [e]
      exact tile_resid (isTile m c t) r k) (ix2 t k)
  refine h.trans (if_pos ?_)
  show 1 ≤ t.val / 512
  omega

theorem final8 (t : Fin 4608) (ht : 512 ≤ t.val) (k : Fin 1024) : ((dats m 0 c).arrAt 8 cfg0.N : FVec Ideal S4608x1024 .bf16) (ix2 t k)
    = mlpOut (argX m c) (argV m c) (argW1 m c) (argW2 m c) t k := by
  have h := (dats m 0 c).arrAt_emb_eq_of_coversWhere 8
    (fun i => mlpOut (argX m c) (argV m c) (argW1 m c) (argW2 m c) (i 0) (i 1) : FVec Ideal S4608x1024 .bf16)
    (fun β => 1 ≤ β (0 : Fin 2)) (by decide +kernel) (fun t hf y => by
      blk_simp
      rw [after0_8]
      obtain ⟨r, k, rfl⟩ : ∃ r k, y = ix2 r k := ⟨y 0, y 1, (eq_ix2 y)⟩
      have e : (win0_8.blk t).view.emb (ix2 r k) = ix2 (row t r) k := by blk_ext [(idxTok t).2.2.2.1, row]
      rw [e]
      exact tile_out (isTile m c t) r k) (ix2 t k)
  refine h.trans (if_pos ?_)
  show 1 ≤ t.val / 512
  omega

theorem final9 (t : Fin 4608) (ht : 512 ≤ t.val) (f : Fin 4096) : ((dats m 0 c).arrAt 9 cfg0.N : FVec Ideal S4608x4096 .bf16) (ix2 t f)
    = act (argX m c) (argV m c) (argW1 m c) t f := by
  have h := (dats m 0 c).arrAt_emb_eq_of_coversWhere 9
    (fun i => act (argX m c) (argV m c) (argW1 m c) (i 0) (i 1) : FVec Ideal S4608x4096 .bf16)
    (fun β => 1 ≤ β (0 : Fin 2)) (by decide +kernel) (fun t hf y => by
      blk_simp
      rw [after0_9]
      obtain ⟨r, f, rfl⟩ : ∃ r f, y = ix2 r f := ⟨y 0, y 1, (eq_ix2 y)⟩
      have e : (win0_9.blk t).view.emb (ix2 r f) = ix2 (row t r) f := by blk_ext [(idxTok t).2.2.2.2.1, row]
      rw [e]
      exact tile_act (isTile m c t) r f) (ix2 t f)
  refine h.trans (if_pos ?_)
  show 1 ≤ t.val / 512
  omega

theorem final10 (t : Fin 4608) (ht : 512 ≤ t.val) (k : Fin 1024) : ((dats m 0 c).arrAt 10 cfg0.N : FVec Ideal S4608x1024 .bf16) (ix2 t k)
    = modulated (argX m c) (argV m c) t k := by
  have h := (dats m 0 c).arrAt_emb_eq_of_coversWhere 10
    (fun i => modulated (argX m c) (argV m c) (i 0) (i 1) : FVec Ideal S4608x1024 .bf16)
    (fun β => 1 ≤ β (0 : Fin 2)) (by decide +kernel) (fun t hf y => by
      blk_simp
      rw [after0_10]
      obtain ⟨r, k, rfl⟩ : ∃ r k, y = ix2 r k := ⟨y 0, y 1, (eq_ix2 y)⟩
      have e : (win0_10.blk t).view.emb (ix2 r k) = ix2 (row t r) k := by blk_ext [(idxTok t).2.2.2.2.2, row]
      rw [e]
      exact tile_mod (isTile m c t) r k) (ix2 t k)
  refine h.trans (if_pos ?_)
  show 1 ≤ t.val / 512
  omega

end Cert.LateFwd

end
-- ==== Proof.LateFwd.Equation.lean ====
/- The later layers' forward MLP kernel: on the latent tokens' rows it leaves the reference's five arrays. -/
module

public import proofs.«01_k».proof.Defs
public import proofs.«01_k».proof.Proof.LateFwd.Array
public import proofs.«01_k».proof.Proof.Fwd.Reference
public import proofs.«01_k».proof.Proof.Late.Equation
public import proofs.«01_k».proof.Proof.Gen.On_latent_rows9

@[expose] public section

noncomputable section

namespace Cert.LateFwd

open Idealize.ShloMosaic Idealize.ShloMosaic.TcCoe Idealize.SL.Sem Cert.Fwd
open Cert.Late (latent_of_bit)
open scoped BigOperators

theorem algebraic : Cert.algebraic_Kernel9Ideal_Reference8Ideal_on_latent_rows9 := by
  intro m g m' g' _ hargs
  refine ⟨fun c => (Cert.Kernel9Ideal.Gen.dats m 0 c).arrAt 6 Cert.Kernel9Ideal.cfg0.N,
    fun c => (Cert.Kernel9Ideal.Gen.dats m 0 c).arrAt 7 Cert.Kernel9Ideal.cfg0.N,
    fun c => (Cert.Kernel9Ideal.Gen.dats m 0 c).arrAt 8 Cert.Kernel9Ideal.cfg0.N,
    fun c => (Cert.Kernel9Ideal.Gen.dats m 0 c).arrAt 9 Cert.Kernel9Ideal.cfg0.N,
    fun c => (Cert.Kernel9Ideal.Gen.dats m 0 c).arrAt 10 Cert.Kernel9Ideal.cfg0.N, ?_, ?_⟩
  · refine (θ_run Cert.Kernel9Ideal.defs _ _).mono (fun r h c => ?_) (Cert.Kernel9Ideal.Value.run_blocks m g)
    obtain ⟨h0, h1, h2, h3, h4, hk⟩ := h c
    exact ⟨fun i _ => congrFun h0 i, fun i _ => congrFun h1 i, fun i _ => congrFun h2 i, fun i _ => congrFun h3 i, fun i _ => congrFun h4 i, hk⟩
  · refine (θ_run Cert.Reference8Ideal.defs _ _).mono (fun r h c => ?_) (Cert.Reference8Ideal.Value.run (F := Ideal) m' g')
    obtain ⟨h0, h1, h2, h3, h4, hk⟩ := h c
    obtain ⟨e0, e1, e2, e3, e4, e5⟩ := hargs c
    refine ⟨fun i hi => (congrFun h0 i).trans ?_, fun i hi => (congrFun h1 i).trans ?_, fun i hi => (congrFun h2 i).trans ?_,
      fun i hi => (congrFun h3 i).trans ?_, fun i hi => (congrFun h4 i).trans ?_, hk⟩
    · unfold Cert.Reference8Ideal.Value.res_main_v52
      rw [e0, e1, e2, e3, e4, e5]
      obtain ⟨t, k, rfl⟩ : ∃ t k, i = ix2 t k := ⟨i 0, i 1, eq_ix2 i⟩
      exact (refNorm_apply _ _ _ _ _ _ t k).trans (final6 m c t (latent_of_bit t hi) k).symm
    · unfold Cert.Reference8Ideal.Value.res_main_v28
      rw [e0, e1, e2, e3]
      obtain ⟨t, k, rfl⟩ : ∃ t k, i = ix2 t k := ⟨i 0, i 1, eq_ix2 i⟩
      exact (refResid_apply _ _ _ _ t k).trans (final7 m c t (latent_of_bit t hi) k).symm
    · unfold Cert.Reference8Ideal.Value.res_main_v53
      rw [e0, e1, e2, e3]
      obtain ⟨t, k, rfl⟩ : ∃ t k, i = ix2 t k := ⟨i 0, i 1, eq_ix2 i⟩
      exact (refOut_apply _ _ _ _ t k).trans (final8 m c t (latent_of_bit t hi) k).symm
    · unfold Cert.Reference8Ideal.Value.res_main_v56
      rw [e0, e1, e2]
      obtain ⟨t, f, rfl⟩ : ∃ t f, i = ix2 t f := ⟨i 0, i 1, eq_ix2 i⟩
      exact (refAct_apply _ _ _ t f).trans (final9 m c t (latent_of_bit t hi) f).symm
    · rw [e0, e1]
      obtain ⟨t, k, rfl⟩ : ∃ t k, i = ix2 t k := ⟨i 0, i 1, eq_ix2 i⟩
      exact (refMod_apply _ _ t k).trans (final10 m c t (latent_of_bit t hi) k).symm

end Cert.LateFwd

end
-- ==== Proof.Wgrad.Parts.lean ====
/- A weight's gradient as a sum over runs of grid points, each point adding a few tiles of 512 token rows. -/
module

public import proofs.«01_k».proof.Proof.Mlp.Tokens
public import proofs.«01_k».proof.Proof.Late.Tokens

@[expose] public section

noncomputable section

namespace Cert.Wgrad

open Idealize.ShloMosaic Cert.Mlp
open scoped BigOperators

variable {T K N K' N' : ℕ}

/-- The rows `row r` of an array, and of its columns those that `col` names. -/
def tile (x : Mat T K') (row : Fin 512 → Fin T) (col : Fin K → Fin K') : Mat 512 K := fun i => x (ix2 (row (i 0)) (col (i 1)))

/-- One tile's product: the block of `xᵀ · g` over its 512 rows. -/
def prod (a : Mat 512 K) (b : Mat 512 N) (k : Fin K) (n : Fin N) : EReal := ∑ r : Fin 512, a (ix2 r k) * b (ix2 r n)

/-- What a point of three tiles contributes. -/
def part3 (a0 a1 a2 : Mat 512 K) (b0 b1 b2 : Mat 512 N) (k : Fin K) (n : Fin N) : EReal :=
  prod a0 b0 k n + prod a1 b1 k n + prod a2 b2 k n

/-- What a point of four tiles contributes. -/
def part4 (a0 a1 a2 a3 : Mat 512 K) (b0 b1 b2 b3 : Mat 512 N) (k : Fin K) (n : Fin N) : EReal :=
  prod a0 b0 k n + prod a1 b1 k n + prod a2 b2 k n + prod a3 b3 k n

/-- Three points of three tiles run over all the tokens. -/
theorem sum_part3 (x : Mat 4608 K') (g : Mat 4608 N') (c : Fin K → Fin K') (d : Fin N → Fin N') (k : Fin K) (n : Fin N) :
    ∑ s : Fin 3, part3 (tile x (tok s 0) c) (tile x (tok s 1) c) (tile x (tok s 2) c)
        (tile g (tok s 0) d) (tile g (tok s 1) d) (tile g (tok s 2) d) k n = dWeight x g (c k) (d n) :=
  sum_tokens fun t => x (ix2 t (c k)) * g (ix2 t (d n))

/-- Two points of four tiles run over the latent tokens. -/
theorem sum_part4 (x : Mat 4096 K') (g : Mat 4096 N') (c : Fin K → Fin K') (d : Fin N → Fin N') (k : Fin K) (n : Fin N) :
    ∑ s : Fin 2, part4 (tile x (Late.tok s 0) c) (tile x (Late.tok s 1) c) (tile x (Late.tok s 2) c) (tile x (Late.tok s 3) c)
        (tile g (Late.tok s 0) d) (tile g (Late.tok s 1) d) (tile g (Late.tok s 2) d) (tile g (Late.tok s 3) d) k n = dWeight x g (c k) (d n) :=
  Late.sum_tokens fun t => x (ix2 t (c k)) * g (ix2 t (d n))

/-- Column `n` of shard `s`, of shards of `N` columns. -/
def shardCol (s : Fin 4) (n : Fin N) : Fin (4 * N) := ⟨s.val * N + n.val, by have := n.isLt; have := s.isLt; nlinarith⟩

end Cert.Wgrad

end
-- ==== Proof.Wgrad.Glu.lean ====
/- The gated unit's input weight's gradient over all the tokens, in column shards. -/
module

public import proofs.«01_k».proof.Proof.Wgrad.Parts
public import proofs.«01_k».proof.Proof.Gen.Kernel10Ideal.Value
public import Idealize.ShloMosaic.Lib.Pointwise

@[expose] public section

noncomputable section

namespace Cert.WgradGlu

open Idealize.ShloMosaic Idealize.ShloMosaic.TcCoe Idealize.SL.Sem Cert.Kernel10Ideal Cert.Kernel10Ideal.Gen Cert.Kernel10Ideal.Value
open Cert.Wgrad
open Cert.Mlp (Mat dWeight tok)
open Cert.Late (latent)
open scoped BigOperators

variable (m : (ℓ : Loc nD τ sig) → Buf (Elt Ideal) ℓ) (c : Dev nD)

/-- The launch contents of the arguments: the product's input and its output's cotangent. -/
abbrev argX : FVec Ideal S4608x1024 .f32 := m ((c : Thread nD τ).loc main_arg0)
abbrev argG : FVec Ideal S4608x2048 .f32 := m ((c : Thread nD τ).loc main_arg1)

/-! ## What the body computes of its tiles -/

theorem pay1_apply (a0 a1 a2 : FVec Ideal S512x1024 .bf16) (b0 b1 b2 : FVec Ideal S512x512 .bf16) (k : Fin 1024) (n : Fin 512) :
    k0_pay1 (F := Ideal) a0 b0 a1 b1 a2 b2 (ix2 k n) = part3 a0 a1 a2 b0 b1 b2 k n := by
  unfold k0_pay1 part3 prod
  pointwise

theorem pay2_apply (a0 a1 a2 : FVec Ideal S512x1024 .bf16) (b0 b1 b2 : FVec Ideal S512x512 .bf16) (i : S1x1x1024x512.Idx) :
    k0_pay2 (F := Ideal) a0 b0 a1 b1 a2 b2 i = part3 a0 a1 a2 b0 b1 b2 (i 2) (i 3) := by
  obtain ⟨s, u, k, n, rfl⟩ : ∃ s u k n, i = ix4 s u k n := ⟨i 0, i 1, i 2, i 3, eq_ix4 i⟩
  refine Eq.trans ?_ (pay1_apply a0 a1 a2 b0 b1 b2 k n)
  unfold k0_pay2
  generalize k0_pay1 (F := Ideal) a0 b0 a1 b1 a2 b2 = p
  pointwise

theorem pay3_apply (a0 a1 a2 : FVec Ideal S512x1024 .bf16) (b0 b1 b2 : FVec Ideal S512x512 .bf16) (o : FVec Ideal S1x1x1024x512 .f32) (i : S1x1x1024x512.Idx) :
    k0_pay3 (F := Ideal) a0 b0 a1 b1 a2 b2 o i = o i + part3 a0 a1 a2 b0 b1 b2 (i 2) (i 3) := by
  obtain ⟨s, u, k, n, rfl⟩ : ∃ s u k n, i = ix4 s u k n := ⟨i 0, i 1, i 2, i 3, eq_ix4 i⟩
  obtain rfl : s = 0 := Subsingleton.elim _ _
  obtain rfl : u = 0 := Subsingleton.elim _ _
  refine Eq.trans ?_ (congrArg (o (ix4 0 0 k n) + ·) (pay1_apply a0 a1 a2 b0 b1 b2 k n))
  unfold k0_pay3
  generalize k0_pay1 (F := Ideal) a0 b0 a1 b1 a2 b2 = p
  pointwise

/-! ## The windows' blocks -/

theorem idxX : ∀ t : Fin cfg0.N, win0_0.index t = ![3 * (t.val % 3) + 0, 0] ∧ win0_1.index t = ![3 * (t.val % 3) + 1, 0] ∧ win0_2.index t = ![3 * (t.val % 3) + 2, 0] :=
  (by decide +kernel : ∀ t : Fin grid0.N, win0_0.index t = ![3 * (t.val % 3) + 0, 0] ∧ win0_1.index t = ![3 * (t.val % 3) + 1, 0] ∧ win0_2.index t = ![3 * (t.val % 3) + 2, 0])

theorem idxG : ∀ t : Fin cfg0.N, win0_3.index t = ![3 * (t.val % 3) + 0, t.val / 3] ∧ win0_4.index t = ![3 * (t.val % 3) + 1, t.val / 3] ∧ win0_5.index t = ![3 * (t.val % 3) + 2, t.val / 3] :=
  (by decide +kernel : ∀ t : Fin grid0.N, win0_3.index t = ![3 * (t.val % 3) + 0, t.val / 3] ∧ win0_4.index t = ![3 * (t.val % 3) + 1, t.val / 3] ∧ win0_5.index t = ![3 * (t.val % 3) + 2, t.val / 3])

theorem idxO : ∀ t : Fin cfg0.N, win0_6.index t = ![t.val / 3, 0, 0, 0] :=
  (by decide +kernel : ∀ t : Fin grid0.N, win0_6.index t = ![t.val / 3, 0, 0, 0])

/-- The point's place in its run, and the run's shard. -/
def pl (t : Fin cfg0.N) : Fin 3 := ⟨t.val % 3, by omega⟩
def sh (t : Fin cfg0.N) : Fin 4 := ⟨t.val / 3, by have : t.val < 12 := lt_of_lt_of_eq t.isLt (by decide); omega⟩

theorem V_x : (V m c main_v0 : FVec Ideal S4608x1024 .bf16) = argX m c := by
  unfold V
  after_results
  rfl

theorem V_g : (V m c main_v1 : FVec Ideal S4608x2048 .bf16) = argG m c := by
  unfold V
  after_results
  rfl

theorem x_tiles (t : Fin cfg0.N) :
    (iblk m c 0 t : FVec Ideal S512x1024 .bf16) = tile (argX m c) (tok (pl t) 0) (fun j => j)
      ∧ (iblk m c 1 t : FVec Ideal S512x1024 .bf16) = tile (argX m c) (tok (pl t) 1) (fun j => j)
      ∧ (iblk m c 2 t : FVec Ideal S512x1024 .bf16) = tile (argX m c) (tok (pl t) 2) (fun j => j) := by
  have h := idxX t
  rw [← V_x]
  refine ⟨?_, ?_, ?_⟩ <;> funext i <;> unfold iblk <;> rw [View.read_apply] <;> refine congrArg (V m c main_v0) ?_
  · blk_ext [h.1, tok, pl]
  · blk_ext [h.2.1, tok, pl]
  · blk_ext [h.2.2, tok, pl]

theorem g_tiles (t : Fin cfg0.N) :
    (iblk m c 3 t : FVec Ideal S512x512 .bf16) = tile (argG m c) (tok (pl t) 0) (shardCol (sh t))
      ∧ (iblk m c 4 t : FVec Ideal S512x512 .bf16) = tile (argG m c) (tok (pl t) 1) (shardCol (sh t))
      ∧ (iblk m c 5 t : FVec Ideal S512x512 .bf16) = tile (argG m c) (tok (pl t) 2) (shardCol (sh t)) := by
  have h := idxG t
  rw [← V_g]
  refine ⟨?_, ?_, ?_⟩ <;> funext i <;> unfold iblk <;> rw [View.read_apply] <;> refine congrArg (V m c main_v1) ?_
  · blk_ext [h.1, tok, pl, sh, shardCol]
  · blk_ext [h.2.1, tok, pl, sh, shardCol]
  · blk_ext [h.2.2, tok, pl, sh, shardCol]

/-- The block a run of points leaves: the gradient's shard. -/
theorem outs_eq (t : Fin cfg0.N) (hr : t.val % 3 = 2) (i : S1x1x1024x512.Idx) :
    outsAt0 m c t.val t.isLt i = dWeight (argX m c) (argG m c) (i 2) (shardCol (sh t) (i 3)) := by
  rw [Pipeline.eq_sum_fin_of_reset_step_apply_of_flush (fun n h => outsAt0 m c n h) 3 (fun _ => (0 : EReal))
      (fun t i => part3 (iblk m c 0 t) (iblk m c 1 t) (iblk m c 2 t) (iblk m c 3 t) (iblk m c 4 t) (iblk m c 5 t) (i 2) (i 3))
    (fun t h j => by rw [outsAt0_A m c t h (by omega)]; frame_out; rw [pay2_apply, zero_add])
    (fun t h j => by rw [outsAt0_B m c t h (by omega)]; frame_out; rw [pay3_apply]) t hr i, zero_add]
  refine Eq.trans (Finset.sum_congr rfl fun s _ => ?_) (sum_part3 (argX m c) (argG m c) (fun j => j) (shardCol (sh t)) (i 2) (i 3))
  have e1 : pl ⟨3 * (t.val / 3) + s.val, Pipeline.run_point_lt_of_flush t hr s⟩ = s := Fin.ext (by
    show (3 * (t.val / 3) + s.val) % 3 = s.val; omega)
  have e2 : sh ⟨3 * (t.val / 3) + s.val, Pipeline.run_point_lt_of_flush t hr s⟩ = sh t := Fin.ext (by
    show (3 * (t.val / 3) + s.val) / 3 = t.val / 3; omega)
  obtain ⟨hx0, hx1, hx2⟩ := x_tiles m c ⟨3 * (t.val / 3) + s.val, Pipeline.run_point_lt_of_flush t hr s⟩
  obtain ⟨hg0, hg1, hg2⟩ := g_tiles m c ⟨3 * (t.val / 3) + s.val, Pipeline.run_point_lt_of_flush t hr s⟩
  rw [hx0, hx1, hx2, hg0, hg1, hg2, e1, e2]
  rfl

/-- The array the run leaves: the gradient, shard by shard. -/
theorem final (s : Fin 4) (u : Fin 1) (k : Fin 1024) (n : Fin 512) : ((dats m 0 c).arrAt 6 cfg0.N : FVec Ideal S4x1x1024x512 .f32) (ix4 s u k n)
    = dWeight (argX m c) (argG m c) k (shardCol s n) := by
  have h : (dats m 0 c).arrAt 6 cfg0.N
      = (fun i => dWeight (argX m c) (argG m c) (i 2) (shardCol (i 0) (i 3)) : FVec Ideal S4x1x1024x512 .f32) := by
    refine (dats m 0 c).arrAt_eq_of_covers 6 _ (by decide +kernel) fun t hf y => ?_
    blk_simp
    rw [after0_6, outs_eq m c t ((flush0_6 t).mp hf)]
    have e2 : ((win0_6.blk t).view.emb y) 2 = y 2 := Fin.ext (by blk_simp [idxO t])
    have e3 : ((win0_6.blk t).view.emb y) 3 = y 3 := Fin.ext (by blk_simp [idxO t])
    have e0 : ((win0_6.blk t).view.emb y) 0 = sh t := Fin.ext (by blk_simp [idxO t]; have : (y 0).val < 1 := (y 0).isLt; simp [sh])
    rw [e2, e3, e0]
    rfl
  rw [h]; rfl

end Cert.WgradGlu

end
-- ==== Proof.Wgrad.LateGlu.lean ====
/- The gated unit's input weight's gradient over the latent tokens, in column shards. -/
module

public import proofs.«01_k».proof.Proof.Wgrad.Parts
public import proofs.«01_k».proof.Proof.Gen.Kernel11Ideal.Value
public import Idealize.ShloMosaic.Lib.Pointwise

@[expose] public section

noncomputable section

namespace Cert.WgradLateGlu

open Idealize.ShloMosaic Idealize.ShloMosaic.TcCoe Idealize.SL.Sem Cert.Kernel11Ideal Cert.Kernel11Ideal.Gen Cert.Kernel11Ideal.Value
open Cert.Wgrad
open Cert.Mlp (Mat dWeight tok)
open Cert.Late (latent)
open scoped BigOperators

variable (m : (ℓ : Loc nD τ sig) → Buf (Elt Ideal) ℓ) (c : Dev nD)

/-- The launch contents of the arguments: the product's input and its output's cotangent. -/
abbrev argX : FVec Ideal S4608x1024 .f32 := m ((c : Thread nD τ).loc main_arg0)
abbrev argG : FVec Ideal S4608x2048 .f32 := m ((c : Thread nD τ).loc main_arg1)

/-! ## What the body computes of its tiles -/

theorem pay1_apply (a0 a1 a2 a3 : FVec Ideal S512x1024 .bf16) (b0 b1 b2 b3 : FVec Ideal S512x512 .bf16) (k : Fin 1024) (n : Fin 512) :
    k0_pay1 (F := Ideal) a0 b0 a1 b1 a2 b2 a3 b3 (ix2 k n) = part4 a0 a1 a2 a3 b0 b1 b2 b3 k n := by
  unfold k0_pay1 part4 prod
  pointwise

theorem pay2_apply (a0 a1 a2 a3 : FVec Ideal S512x1024 .bf16) (b0 b1 b2 b3 : FVec Ideal S512x512 .bf16) (i : S1x1x1024x512.Idx) :
    k0_pay2 (F := Ideal) a0 b0 a1 b1 a2 b2 a3 b3 i = part4 a0 a1 a2 a3 b0 b1 b2 b3 (i 2) (i 3) := by
  obtain ⟨s, u, k, n, rfl⟩ : ∃ s u k n, i = ix4 s u k n := ⟨i 0, i 1, i 2, i 3, eq_ix4 i⟩
  refine Eq.trans ?_ (pay1_apply a0 a1 a2 a3 b0 b1 b2 b3 k n)
  unfold k0_pay2
  generalize k0_pay1 (F := Ideal) a0 b0 a1 b1 a2 b2 a3 b3 = p
  pointwise

theorem pay3_apply (a0 a1 a2 a3 : FVec Ideal S512x1024 .bf16) (b0 b1 b2 b3 : FVec Ideal S512x512 .bf16) (o : FVec Ideal S1x1x1024x512 .f32) (i : S1x1x1024x512.Idx) :
    k0_pay3 (F := Ideal) a0 b0 a1 b1 a2 b2 a3 b3 o i = o i + part4 a0 a1 a2 a3 b0 b1 b2 b3 (i 2) (i 3) := by
  obtain ⟨s, u, k, n, rfl⟩ : ∃ s u k n, i = ix4 s u k n := ⟨i 0, i 1, i 2, i 3, eq_ix4 i⟩
  obtain rfl : s = 0 := Subsingleton.elim _ _
  obtain rfl : u = 0 := Subsingleton.elim _ _
  refine Eq.trans ?_ (congrArg (o (ix4 0 0 k n) + ·) (pay1_apply a0 a1 a2 a3 b0 b1 b2 b3 k n))
  unfold k0_pay3
  generalize k0_pay1 (F := Ideal) a0 b0 a1 b1 a2 b2 a3 b3 = p
  pointwise

/-! ## The windows' blocks -/

theorem idxX : ∀ t : Fin cfg0.N, win0_0.index t = ![4 * (t.val % 2) + 1, 0] ∧ win0_1.index t = ![4 * (t.val % 2) + 2, 0] ∧ win0_2.index t = ![4 * (t.val % 2) + 3, 0] ∧ win0_3.index t = ![4 * (t.val % 2) + 4, 0] :=
  (by decide +kernel : ∀ t : Fin grid0.N, win0_0.index t = ![4 * (t.val % 2) + 1, 0] ∧ win0_1.index t = ![4 * (t.val % 2) + 2, 0] ∧ win0_2.index t = ![4 * (t.val % 2) + 3, 0] ∧ win0_3.index t = ![4 * (t.val % 2) + 4, 0])

theorem idxG : ∀ t : Fin cfg0.N, win0_4.index t = ![4 * (t.val % 2) + 1, t.val / 2] ∧ win0_5.index t = ![4 * (t.val % 2) + 2, t.val / 2] ∧ win0_6.index t = ![4 * (t.val % 2) + 3, t.val / 2] ∧ win0_7.index t = ![4 * (t.val % 2) + 4, t.val / 2] :=
  (by decide +kernel : ∀ t : Fin grid0.N, win0_4.index t = ![4 * (t.val % 2) + 1, t.val / 2] ∧ win0_5.index t = ![4 * (t.val % 2) + 2, t.val / 2] ∧ win0_6.index t = ![4 * (t.val % 2) + 3, t.val / 2] ∧ win0_7.index t = ![4 * (t.val % 2) + 4, t.val / 2])

theorem idxO : ∀ t : Fin cfg0.N, win0_8.index t = ![t.val / 2, 0, 0, 0] :=
  (by decide +kernel : ∀ t : Fin grid0.N, win0_8.index t = ![t.val / 2, 0, 0, 0])

/-- The point's place in its run, and the run's shard. -/
def pl (t : Fin cfg0.N) : Fin 2 := ⟨t.val % 2, by omega⟩
def sh (t : Fin cfg0.N) : Fin 4 := ⟨t.val / 2, by have : t.val < 8 := lt_of_lt_of_eq t.isLt (by decide); omega⟩

theorem V_x : (V m c main_v0 : FVec Ideal S4608x1024 .bf16) = argX m c := by
  unfold V
  after_results
  rfl

theorem V_g : (V m c main_v1 : FVec Ideal S4608x2048 .bf16) = argG m c := by
  unfold V
  after_results
  rfl

theorem x_tiles (t : Fin cfg0.N) :
    (iblk m c 0 t : FVec Ideal S512x1024 .bf16) = tile (latent (argX m c)) (Late.tok (pl t) 0) (fun j => j)
      ∧ (iblk m c 1 t : FVec Ideal S512x1024 .bf16) = tile (latent (argX m c)) (Late.tok (pl t) 1) (fun j => j)
      ∧ (iblk m c 2 t : FVec Ideal S512x1024 .bf16) = tile (latent (argX m c)) (Late.tok (pl t) 2) (fun j => j)
      ∧ (iblk m c 3 t : FVec Ideal S512x1024 .bf16) = tile (latent (argX m c)) (Late.tok (pl t) 3) (fun j => j) := by
  have h := idxX t
  rw [← V_x]
  refine ⟨?_, ?_, ?_, ?_⟩ <;> funext i <;> unfold iblk <;> rw [View.read_apply] <;> refine congrArg (V m c main_v0) ?_
  · blk_ext [h.1, Late.tok, pl]
  · blk_ext [h.2.1, Late.tok, pl]
  · blk_ext [h.2.2.1, Late.tok, pl]
  · blk_ext [h.2.2.2, Late.tok, pl]

theorem g_tiles (t : Fin cfg0.N) :
    (iblk m c 4 t : FVec Ideal S512x512 .bf16) = tile (latent (argG m c)) (Late.tok (pl t) 0) (shardCol (sh t))
      ∧ (iblk m c 5 t : FVec Ideal S512x512 .bf16) = tile (latent (argG m c)) (Late.tok (pl t) 1) (shardCol (sh t))
      ∧ (iblk m c 6 t : FVec Ideal S512x512 .bf16) = tile (latent (argG m c)) (Late.tok (pl t) 2) (shardCol (sh t))
      ∧ (iblk m c 7 t : FVec Ideal S512x512 .bf16) = tile (latent (argG m c)) (Late.tok (pl t) 3) (shardCol (sh t)) := by
  have h := idxG t
  rw [← V_g]
  refine ⟨?_, ?_, ?_, ?_⟩ <;> funext i <;> unfold iblk <;> rw [View.read_apply] <;> refine congrArg (V m c main_v1) ?_
  · blk_ext [h.1, Late.tok, pl, sh, shardCol]
  · blk_ext [h.2.1, Late.tok, pl, sh, shardCol]
  · blk_ext [h.2.2.1, Late.tok, pl, sh, shardCol]
  · blk_ext [h.2.2.2, Late.tok, pl, sh, shardCol]

/-- The block a run of points leaves: the gradient's shard. -/
theorem outs_eq (t : Fin cfg0.N) (hr : t.val % 2 = 1) (i : S1x1x1024x512.Idx) :
    outsAt0 m c t.val t.isLt i = dWeight (latent (argX m c)) (latent (argG m c)) (i 2) (shardCol (sh t) (i 3)) := by
  rw [Pipeline.eq_sum_fin_of_reset_step_apply_of_flush (fun n h => outsAt0 m c n h) 2 (fun _ => (0 : EReal))
      (fun t i => part4 (iblk m c 0 t) (iblk m c 1 t) (iblk m c 2 t) (iblk m c 3 t) (iblk m c 4 t) (iblk m c 5 t) (iblk m c 6 t) (iblk m c 7 t) (i 2) (i 3))
    (fun t h j => by rw [outsAt0_A m c t h (by omega)]; frame_out; rw [pay2_apply, zero_add])
    (fun t h j => by rw [outsAt0_B m c t h (by omega)]; frame_out; rw [pay3_apply]) t hr i, zero_add]
  refine Eq.trans (Finset.sum_congr rfl fun s _ => ?_) (sum_part4 (latent (argX m c)) (latent (argG m c)) (fun j => j) (shardCol (sh t)) (i 2) (i 3))
  have e1 : pl ⟨2 * (t.val / 2) + s.val, Pipeline.run_point_lt_of_flush t hr s⟩ = s := Fin.ext (by
    show (2 * (t.val / 2) + s.val) % 2 = s.val; omega)
  have e2 : sh ⟨2 * (t.val / 2) + s.val, Pipeline.run_point_lt_of_flush t hr s⟩ = sh t := Fin.ext (by
    show (2 * (t.val / 2) + s.val) / 2 = t.val / 2; omega)
  obtain ⟨hx0, hx1, hx2, hx3⟩ := x_tiles m c ⟨2 * (t.val / 2) + s.val, Pipeline.run_point_lt_of_flush t hr s⟩
  obtain ⟨hg0, hg1, hg2, hg3⟩ := g_tiles m c ⟨2 * (t.val / 2) + s.val, Pipeline.run_point_lt_of_flush t hr s⟩
  rw [hx0, hx1, hx2, hx3, hg0, hg1, hg2, hg3, e1, e2]
  rfl

/-- The array the run leaves: the gradient, shard by shard. -/
theorem final (s : Fin 4) (u : Fin 1) (k : Fin 1024) (n : Fin 512) : ((dats m 0 c).arrAt 8 cfg0.N : FVec Ideal S4x1x1024x512 .f32) (ix4 s u k n)
    = dWeight (latent (argX m c)) (latent (argG m c)) k (shardCol s n) := by
  have h : (dats m 0 c).arrAt 8 cfg0.N
      = (fun i => dWeight (latent (argX m c)) (latent (argG m c)) (i 2) (shardCol (i 0) (i 3)) : FVec Ideal S4x1x1024x512 .f32) := by
    refine (dats m 0 c).arrAt_eq_of_covers 8 _ (by decide +kernel) fun t hf y => ?_
    blk_simp
    rw [after0_8, outs_eq m c t ((flush0_8 t).mp hf)]
    have e2 : ((win0_8.blk t).view.emb y) 2 = y 2 := Fin.ext (by blk_simp [idxO t])
    have e3 : ((win0_8.blk t).view.emb y) 3 = y 3 := Fin.ext (by blk_simp [idxO t])
    have e0 : ((win0_8.blk t).view.emb y) 0 = sh t := Fin.ext (by blk_simp [idxO t]; have : (y 0).val < 1 := (y 0).isLt; simp [sh])
    rw [e2, e3, e0]
    rfl
  rw [h]; rfl

end Cert.WgradLateGlu

end
-- ==== Proof.Wgrad.EquationGlu.lean ====
/- The gated unit's input weight's gradient: kernel and reference agree, over all the tokens and over the latents. -/
module

public import proofs.«01_k».proof.Defs
public import proofs.«01_k».proof.Proof.Wgrad.Glu
public import proofs.«01_k».proof.Proof.Gen.Reference10Ideal.Run
public import proofs.«01_k».proof.Proof.Wgrad.LateGlu
public import proofs.«01_k».proof.Proof.Gen.Reference11Ideal.Run

@[expose] public section

noncomputable section

namespace Cert.WgradGluEq

open Idealize.ShloMosaic Idealize.ShloMosaic.TcCoe Idealize.SL.Sem
open Cert.Wgrad (shardCol)
open Cert.Mlp (dWeight)
open Cert.Late (latent)
open scoped BigOperators

section
open Cert.Reference10Ideal Cert.Reference10Ideal.Gen

/-- A transposed gradient laid out in shards, as printed. -/
abbrev refShards (d : FVec Ideal S2048x1024 .f32) : FVec Ideal S4x1x1024x512 .f32 :=
  broadcastInDim S4x1x1024x512 ![0, 2, 3] bcast_S4x1024x512_S4x1x1024x512_0_2_3 (transpose S4x1024x512 [1, 0, 2] (shapeCast S1024x4x512 (transpose S1024x2048 [1, 0] d transposes_S2048x1024_S1024x2048_1_0) shapeCasts_S1024x2048_S1024x4x512) transposes_S1024x4x512_S4x1024x512_1_0_2)

theorem refShards_apply (d : FVec Ideal S2048x1024 .f32) (s : Fin 4) (u : Fin 1) (k : Fin 1024) (n : Fin 512) :
    refShards d (ix4 s u k n) = d (ix2 (shardCol s n) k) := by
  unfold refShards
  pointwise
  rfl

/-- The gradient over all the tokens. -/
theorem refAll_apply (x : FVec Ideal S4608x1024 .f32) (g : FVec Ideal S4608x2048 .f32) (k : Fin 1024) (f : Fin 2048) :
    Host.dotGeneral dot_S4608x2048_S4608x1024_S2048x1024_0_0_1_1_n_n none g x (ix2 f k) = dWeight x g k f := by
  unfold dWeight
  pointwise
  exact Finset.sum_congr rfl fun t _ => mul_comm _ _

end

section
open Cert.Reference11Ideal Cert.Reference11Ideal.Gen

/-- The gradient over the latent tokens. -/
theorem refLatent_apply (x : FVec Ideal S4608x1024 .f32) (g : FVec Ideal S4608x2048 .f32) (k : Fin 1024) (f : Fin 2048) :
    Host.dotGeneral dot_S4096x2048_S4096x1024_S2048x1024_0_0_1_1_n_n none (extractStridedSlice S4096x2048 ![512, 0] g slices_S4608x2048_S4096x2048_512_0) (extractStridedSlice S4096x1024 ![512, 0] x slices_S4608x1024_S4096x1024_512_0) (ix2 f k)
      = dWeight (latent x) (latent g) k f := by
  unfold dWeight latent
  pointwise
  exact Finset.sum_congr rfl fun t _ => mul_comm _ _

end

theorem algebraic : Cert.algebraic_Kernel10Ideal_Reference10Ideal := by
  intro m g m' g' _ hargs
  refine ⟨_, Cert.Kernel10Ideal.Value.run_blocks m g, ?_⟩
  refine (θ_run Cert.Reference10Ideal.defs _ _).mono (fun r h c => ⟨(h c).1.trans ?_, (h c).2⟩) (Cert.Reference10Ideal.Value.run (F := Ideal) m' g')
  obtain ⟨e0, e1⟩ := hargs c
  rw [e0, e1]
  funext i
  obtain ⟨s, u, k, n, rfl⟩ : ∃ s u k n, i = ix4 s u k n := ⟨i 0, i 1, i 2, i 3, eq_ix4 i⟩
  exact ((refShards_apply _ s u k n).trans (refAll_apply _ _ k (shardCol s n))).trans (Cert.WgradGlu.final m c s u k n).symm

theorem algebraic_latent : Cert.algebraic_Kernel11Ideal_Reference11Ideal := by
  intro m g m' g' _ hargs
  refine ⟨_, Cert.Kernel11Ideal.Value.run_blocks m g, ?_⟩
  refine (θ_run Cert.Reference11Ideal.defs _ _).mono (fun r h c => ⟨(h c).1.trans ?_, (h c).2⟩) (Cert.Reference11Ideal.Value.run (F := Ideal) m' g')
  obtain ⟨e0, e1⟩ := hargs c
  rw [e0, e1]
  funext i
  obtain ⟨s, u, k, n, rfl⟩ : ∃ s u k n, i = ix4 s u k n := ⟨i 0, i 1, i 2, i 3, eq_ix4 i⟩
  exact ((refShards_apply _ s u k n).trans (refLatent_apply _ _ k (shardCol s n))).trans (Cert.WgradLateGlu.final m c s u k n).symm

end Cert.WgradGluEq

end
-- ==== Proof.Wgrad.Mix.lean ====
/- The convolution sublayer's output weight's gradient over all the tokens, in row shards. -/
module

public import proofs.«01_k».proof.Proof.Wgrad.Parts
public import proofs.«01_k».proof.Proof.Gen.Kernel12Ideal.Value
public import Idealize.ShloMosaic.Lib.Pointwise

@[expose] public section

noncomputable section

namespace Cert.WgradMix

open Idealize.ShloMosaic Idealize.ShloMosaic.TcCoe Idealize.SL.Sem Cert.Kernel12Ideal Cert.Kernel12Ideal.Gen Cert.Kernel12Ideal.Value
open Cert.Wgrad
open Cert.Mlp (Mat dWeight tok)
open Cert.Late (latent)
open scoped BigOperators

variable (m : (ℓ : Loc nD τ sig) → Buf (Elt Ideal) ℓ) (c : Dev nD)

/-- The launch contents of the arguments: the product's input and its output's cotangent. -/
abbrev argX : FVec Ideal S4608x1024 .f32 := m ((c : Thread nD τ).loc main_arg0)
abbrev argG : FVec Ideal S4608x1024 .f32 := m ((c : Thread nD τ).loc main_arg1)

/-! ## What the body computes of its tiles -/

theorem pay1_apply (a0 a1 a2 : FVec Ideal S512x256 .bf16) (b0 b1 b2 : FVec Ideal S512x1024 .bf16) (k : Fin 256) (n : Fin 1024) :
    k0_pay1 (F := Ideal) a0 b0 a1 b1 a2 b2 (ix2 k n) = part3 a0 a1 a2 b0 b1 b2 k n := by
  unfold k0_pay1 part3 prod
  pointwise

theorem pay2_apply (a0 a1 a2 : FVec Ideal S512x256 .bf16) (b0 b1 b2 : FVec Ideal S512x1024 .bf16) (i : S1x1x256x1024.Idx) :
    k0_pay2 (F := Ideal) a0 b0 a1 b1 a2 b2 i = part3 a0 a1 a2 b0 b1 b2 (i 2) (i 3) := by
  obtain ⟨s, u, k, n, rfl⟩ : ∃ s u k n, i = ix4 s u k n := ⟨i 0, i 1, i 2, i 3, eq_ix4 i⟩
  refine Eq.trans ?_ (pay1_apply a0 a1 a2 b0 b1 b2 k n)
  unfold k0_pay2
  generalize k0_pay1 (F := Ideal) a0 b0 a1 b1 a2 b2 = p
  pointwise

theorem pay3_apply (a0 a1 a2 : FVec Ideal S512x256 .bf16) (b0 b1 b2 : FVec Ideal S512x1024 .bf16) (o : FVec Ideal S1x1x256x1024 .f32) (i : S1x1x256x1024.Idx) :
    k0_pay3 (F := Ideal) a0 b0 a1 b1 a2 b2 o i = o i + part3 a0 a1 a2 b0 b1 b2 (i 2) (i 3) := by
  obtain ⟨s, u, k, n, rfl⟩ : ∃ s u k n, i = ix4 s u k n := ⟨i 0, i 1, i 2, i 3, eq_ix4 i⟩
  obtain rfl : s = 0 := Subsingleton.elim _ _
  obtain rfl : u = 0 := Subsingleton.elim _ _
  refine Eq.trans ?_ (congrArg (o (ix4 0 0 k n) + ·) (pay1_apply a0 a1 a2 b0 b1 b2 k n))
  unfold k0_pay3
  generalize k0_pay1 (F := Ideal) a0 b0 a1 b1 a2 b2 = p
  pointwise

/-! ## The windows' blocks -/

theorem idxX : ∀ t : Fin cfg0.N, win0_0.index t = ![3 * (t.val % 3) + 0, t.val / 3] ∧ win0_1.index t = ![3 * (t.val % 3) + 1, t.val / 3] ∧ win0_2.index t = ![3 * (t.val % 3) + 2, t.val / 3] :=
  (by decide +kernel : ∀ t : Fin grid0.N, win0_0.index t = ![3 * (t.val % 3) + 0, t.val / 3] ∧ win0_1.index t = ![3 * (t.val % 3) + 1, t.val / 3] ∧ win0_2.index t = ![3 * (t.val % 3) + 2, t.val / 3])

theorem idxG : ∀ t : Fin cfg0.N, win0_3.index t = ![3 * (t.val % 3) + 0, 0] ∧ win0_4.index t = ![3 * (t.val % 3) + 1, 0] ∧ win0_5.index t = ![3 * (t.val % 3) + 2, 0] :=
  (by decide +kernel : ∀ t : Fin grid0.N, win0_3.index t = ![3 * (t.val % 3) + 0, 0] ∧ win0_4.index t = ![3 * (t.val % 3) + 1, 0] ∧ win0_5.index t = ![3 * (t.val % 3) + 2, 0])

theorem idxO : ∀ t : Fin cfg0.N, win0_6.index t = ![t.val / 3, 0, 0, 0] :=
  (by decide +kernel : ∀ t : Fin grid0.N, win0_6.index t = ![t.val / 3, 0, 0, 0])

/-- The point's place in its run, and the run's shard. -/
def pl (t : Fin cfg0.N) : Fin 3 := ⟨t.val % 3, by omega⟩
def sh (t : Fin cfg0.N) : Fin 4 := ⟨t.val / 3, by have : t.val < 12 := lt_of_lt_of_eq t.isLt (by decide); omega⟩

theorem V_x : (V m c main_v0 : FVec Ideal S4608x1024 .bf16) = argX m c := by
  unfold V
  after_results
  rfl

theorem V_g : (V m c main_v1 : FVec Ideal S4608x1024 .bf16) = argG m c := by
  unfold V
  after_results
  rfl

theorem x_tiles (t : Fin cfg0.N) :
    (iblk m c 0 t : FVec Ideal S512x256 .bf16) = tile (argX m c) (tok (pl t) 0) (shardCol (sh t))
      ∧ (iblk m c 1 t : FVec Ideal S512x256 .bf16) = tile (argX m c) (tok (pl t) 1) (shardCol (sh t))
      ∧ (iblk m c 2 t : FVec Ideal S512x256 .bf16) = tile (argX m c) (tok (pl t) 2) (shardCol (sh t)) := by
  have h := idxX t
  rw [← V_x]
  refine ⟨?_, ?_, ?_⟩ <;> funext i <;> unfold iblk <;> rw [View.read_apply] <;> refine congrArg (V m c main_v0) ?_
  · blk_ext [h.1, tok, pl, sh, shardCol]
  · blk_ext [h.2.1, tok, pl, sh, shardCol]
  · blk_ext [h.2.2, tok, pl, sh, shardCol]

theorem g_tiles (t : Fin cfg0.N) :
    (iblk m c 3 t : FVec Ideal S512x1024 .bf16) = tile (argG m c) (tok (pl t) 0) (fun j => j)
      ∧ (iblk m c 4 t : FVec Ideal S512x1024 .bf16) = tile (argG m c) (tok (pl t) 1) (fun j => j)
      ∧ (iblk m c 5 t : FVec Ideal S512x1024 .bf16) = tile (argG m c) (tok (pl t) 2) (fun j => j) := by
  have h := idxG t
  rw [← V_g]
  refine ⟨?_, ?_, ?_⟩ <;> funext i <;> unfold iblk <;> rw [View.read_apply] <;> refine congrArg (V m c main_v1) ?_
  · blk_ext [h.1, tok, pl]
  · blk_ext [h.2.1, tok, pl]
  · blk_ext [h.2.2, tok, pl]

/-- The block a run of points leaves: the gradient's shard. -/
theorem outs_eq (t : Fin cfg0.N) (hr : t.val % 3 = 2) (i : S1x1x256x1024.Idx) :
    outsAt0 m c t.val t.isLt i = dWeight (argX m c) (argG m c) (shardCol (sh t) (i 2)) (i 3) := by
  rw [Pipeline.eq_sum_fin_of_reset_step_apply_of_flush (fun n h => outsAt0 m c n h) 3 (fun _ => (0 : EReal))
      (fun t i => part3 (iblk m c 0 t) (iblk m c 1 t) (iblk m c 2 t) (iblk m c 3 t) (iblk m c 4 t) (iblk m c 5 t) (i 2) (i 3))
    (fun t h j => by rw [outsAt0_A m c t h (by omega)]; frame_out; rw [pay2_apply, zero_add])
    (fun t h j => by rw [outsAt0_B m c t h (by omega)]; frame_out; rw [pay3_apply]) t hr i, zero_add]
  refine Eq.trans (Finset.sum_congr rfl fun s _ => ?_) (sum_part3 (argX m c) (argG m c) (shardCol (sh t)) (fun j => j) (i 2) (i 3))
  have e1 : pl ⟨3 * (t.val / 3) + s.val, Pipeline.run_point_lt_of_flush t hr s⟩ = s := Fin.ext (by
    show (3 * (t.val / 3) + s.val) % 3 = s.val; omega)
  have e2 : sh ⟨3 * (t.val / 3) + s.val, Pipeline.run_point_lt_of_flush t hr s⟩ = sh t := Fin.ext (by
    show (3 * (t.val / 3) + s.val) / 3 = t.val / 3; omega)
  obtain ⟨hx0, hx1, hx2⟩ := x_tiles m c ⟨3 * (t.val / 3) + s.val, Pipeline.run_point_lt_of_flush t hr s⟩
  obtain ⟨hg0, hg1, hg2⟩ := g_tiles m c ⟨3 * (t.val / 3) + s.val, Pipeline.run_point_lt_of_flush t hr s⟩
  rw [hx0, hx1, hx2, hg0, hg1, hg2, e1, e2]
  rfl

/-- The array the run leaves: the gradient, shard by shard. -/
theorem final (s : Fin 4) (u : Fin 1) (k : Fin 256) (n : Fin 1024) : ((dats m 0 c).arrAt 6 cfg0.N : FVec Ideal S4x1x256x1024 .f32) (ix4 s u k n)
    = dWeight (argX m c) (argG m c) (shardCol s k) n := by
  have h : (dats m 0 c).arrAt 6 cfg0.N
      = (fun i => dWeight (argX m c) (argG m c) (shardCol (i 0) (i 2)) (i 3) : FVec Ideal S4x1x256x1024 .f32) := by
    refine (dats m 0 c).arrAt_eq_of_covers 6 _ (by decide +kernel) fun t hf y => ?_
    blk_simp
    rw [after0_6, outs_eq m c t ((flush0_6 t).mp hf)]
    have e2 : ((win0_6.blk t).view.emb y) 2 = y 2 := Fin.ext (by blk_simp [idxO t])
    have e3 : ((win0_6.blk t).view.emb y) 3 = y 3 := Fin.ext (by blk_simp [idxO t])
    have e0 : ((win0_6.blk t).view.emb y) 0 = sh t := Fin.ext (by blk_simp [idxO t]; have : (y 0).val < 1 := (y 0).isLt; simp [sh])
    rw [e2, e3, e0]
    rfl
  rw [h]; rfl

end Cert.WgradMix

end
-- ==== Proof.Wgrad.LateMix.lean ====
/- The convolution sublayer's output weight's gradient over the latent tokens, in row shards. -/
module

public import proofs.«01_k».proof.Proof.Wgrad.Parts
public import proofs.«01_k».proof.Proof.Gen.Kernel13Ideal.Value
public import Idealize.ShloMosaic.Lib.Pointwise

@[expose] public section

noncomputable section

namespace Cert.WgradLateMix

open Idealize.ShloMosaic Idealize.ShloMosaic.TcCoe Idealize.SL.Sem Cert.Kernel13Ideal Cert.Kernel13Ideal.Gen Cert.Kernel13Ideal.Value
open Cert.Wgrad
open Cert.Mlp (Mat dWeight tok)
open Cert.Late (latent)
open scoped BigOperators

variable (m : (ℓ : Loc nD τ sig) → Buf (Elt Ideal) ℓ) (c : Dev nD)

/-- The launch contents of the arguments: the product's input and its output's cotangent. -/
abbrev argX : FVec Ideal S4608x1024 .f32 := m ((c : Thread nD τ).loc main_arg0)
abbrev argG : FVec Ideal S4608x1024 .f32 := m ((c : Thread nD τ).loc main_arg1)

/-! ## What the body computes of its tiles -/

theorem pay1_apply (a0 a1 a2 a3 : FVec Ideal S512x256 .bf16) (b0 b1 b2 b3 : FVec Ideal S512x1024 .bf16) (k : Fin 256) (n : Fin 1024) :
    k0_pay1 (F := Ideal) a0 b0 a1 b1 a2 b2 a3 b3 (ix2 k n) = part4 a0 a1 a2 a3 b0 b1 b2 b3 k n := by
  unfold k0_pay1 part4 prod
  pointwise

theorem pay2_apply (a0 a1 a2 a3 : FVec Ideal S512x256 .bf16) (b0 b1 b2 b3 : FVec Ideal S512x1024 .bf16) (i : S1x1x256x1024.Idx) :
    k0_pay2 (F := Ideal) a0 b0 a1 b1 a2 b2 a3 b3 i = part4 a0 a1 a2 a3 b0 b1 b2 b3 (i 2) (i 3) := by
  obtain ⟨s, u, k, n, rfl⟩ : ∃ s u k n, i = ix4 s u k n := ⟨i 0, i 1, i 2, i 3, eq_ix4 i⟩
  refine Eq.trans ?_ (pay1_apply a0 a1 a2 a3 b0 b1 b2 b3 k n)
  unfold k0_pay2
  generalize k0_pay1 (F := Ideal) a0 b0 a1 b1 a2 b2 a3 b3 = p
  pointwise

theorem pay3_apply (a0 a1 a2 a3 : FVec Ideal S512x256 .bf16) (b0 b1 b2 b3 : FVec Ideal S512x1024 .bf16) (o : FVec Ideal S1x1x256x1024 .f32) (i : S1x1x256x1024.Idx) :
    k0_pay3 (F := Ideal) a0 b0 a1 b1 a2 b2 a3 b3 o i = o i + part4 a0 a1 a2 a3 b0 b1 b2 b3 (i 2) (i 3) := by
  obtain ⟨s, u, k, n, rfl⟩ : ∃ s u k n, i = ix4 s u k n := ⟨i 0, i 1, i 2, i 3, eq_ix4 i⟩
  obtain rfl : s = 0 := Subsingleton.elim _ _
  obtain rfl : u = 0 := Subsingleton.elim _ _
  refine Eq.trans ?_ (congrArg (o (ix4 0 0 k n) + ·) (pay1_apply a0 a1 a2 a3 b0 b1 b2 b3 k n))
  unfold k0_pay3
  generalize k0_pay1 (F := Ideal) a0 b0 a1 b1 a2 b2 a3 b3 = p
  pointwise

/-! ## The windows' blocks -/

theorem idxX : ∀ t : Fin cfg0.N, win0_0.index t = ![4 * (t.val % 2) + 1, t.val / 2] ∧ win0_1.index t = ![4 * (t.val % 2) + 2, t.val / 2] ∧ win0_2.index t = ![4 * (t.val % 2) + 3, t.val / 2] ∧ win0_3.index t = ![4 * (t.val % 2) + 4, t.val / 2] :=
  (by decide +kernel : ∀ t : Fin grid0.N, win0_0.index t = ![4 * (t.val % 2) + 1, t.val / 2] ∧ win0_1.index t = ![4 * (t.val % 2) + 2, t.val / 2] ∧ win0_2.index t = ![4 * (t.val % 2) + 3, t.val / 2] ∧ win0_3.index t = ![4 * (t.val % 2) + 4, t.val / 2])

theorem idxG : ∀ t : Fin cfg0.N, win0_4.index t = ![4 * (t.val % 2) + 1, 0] ∧ win0_5.index t = ![4 * (t.val % 2) + 2, 0] ∧ win0_6.index t = ![4 * (t.val % 2) + 3, 0] ∧ win0_7.index t = ![4 * (t.val % 2) + 4, 0] :=
  (by decide +kernel : ∀ t : Fin grid0.N, win0_4.index t = ![4 * (t.val % 2) + 1, 0] ∧ win0_5.index t = ![4 * (t.val % 2) + 2, 0] ∧ win0_6.index t = ![4 * (t.val % 2) + 3, 0] ∧ win0_7.index t = ![4 * (t.val % 2) + 4, 0])

theorem idxO : ∀ t : Fin cfg0.N, win0_8.index t = ![t.val / 2, 0, 0, 0] :=
  (by decide +kernel : ∀ t : Fin grid0.N, win0_8.index t = ![t.val / 2, 0, 0, 0])

/-- The point's place in its run, and the run's shard. -/
def pl (t : Fin cfg0.N) : Fin 2 := ⟨t.val % 2, by omega⟩
def sh (t : Fin cfg0.N) : Fin 4 := ⟨t.val / 2, by have : t.val < 8 := lt_of_lt_of_eq t.isLt (by decide); omega⟩

theorem V_x : (V m c main_v0 : FVec Ideal S4608x1024 .bf16) = argX m c := by
  unfold V
  after_results
  rfl

theorem V_g : (V m c main_v1 : FVec Ideal S4608x1024 .bf16) = argG m c := by
  unfold V
  after_results
  rfl

theorem x_tiles (t : Fin cfg0.N) :
    (iblk m c 0 t : FVec Ideal S512x256 .bf16) = tile (latent (argX m c)) (Late.tok (pl t) 0) (shardCol (sh t))
      ∧ (iblk m c 1 t : FVec Ideal S512x256 .bf16) = tile (latent (argX m c)) (Late.tok (pl t) 1) (shardCol (sh t))
      ∧ (iblk m c 2 t : FVec Ideal S512x256 .bf16) = tile (latent (argX m c)) (Late.tok (pl t) 2) (shardCol (sh t))
      ∧ (iblk m c 3 t : FVec Ideal S512x256 .bf16) = tile (latent (argX m c)) (Late.tok (pl t) 3) (shardCol (sh t)) := by
  have h := idxX t
  rw [← V_x]
  refine ⟨?_, ?_, ?_, ?_⟩ <;> funext i <;> unfold iblk <;> rw [View.read_apply] <;> refine congrArg (V m c main_v0) ?_
  · blk_ext [h.1, Late.tok, pl, sh, shardCol]
  · blk_ext [h.2.1, Late.tok, pl, sh, shardCol]
  · blk_ext [h.2.2.1, Late.tok, pl, sh, shardCol]
  · blk_ext [h.2.2.2, Late.tok, pl, sh, shardCol]

theorem g_tiles (t : Fin cfg0.N) :
    (iblk m c 4 t : FVec Ideal S512x1024 .bf16) = tile (latent (argG m c)) (Late.tok (pl t) 0) (fun j => j)
      ∧ (iblk m c 5 t : FVec Ideal S512x1024 .bf16) = tile (latent (argG m c)) (Late.tok (pl t) 1) (fun j => j)
      ∧ (iblk m c 6 t : FVec Ideal S512x1024 .bf16) = tile (latent (argG m c)) (Late.tok (pl t) 2) (fun j => j)
      ∧ (iblk m c 7 t : FVec Ideal S512x1024 .bf16) = tile (latent (argG m c)) (Late.tok (pl t) 3) (fun j => j) := by
  have h := idxG t
  rw [← V_g]
  refine ⟨?_, ?_, ?_, ?_⟩ <;> funext i <;> unfold iblk <;> rw [View.read_apply] <;> refine congrArg (V m c main_v1) ?_
  · blk_ext [h.1, Late.tok, pl]
  · blk_ext [h.2.1, Late.tok, pl]
  · blk_ext [h.2.2.1, Late.tok, pl]
  · blk_ext [h.2.2.2, Late.tok, pl]

/-- The block a run of points leaves: the gradient's shard. -/
theorem outs_eq (t : Fin cfg0.N) (hr : t.val % 2 = 1) (i : S1x1x256x1024.Idx) :
    outsAt0 m c t.val t.isLt i = dWeight (latent (argX m c)) (latent (argG m c)) (shardCol (sh t) (i 2)) (i 3) := by
  rw [Pipeline.eq_sum_fin_of_reset_step_apply_of_flush (fun n h => outsAt0 m c n h) 2 (fun _ => (0 : EReal))
      (fun t i => part4 (iblk m c 0 t) (iblk m c 1 t) (iblk m c 2 t) (iblk m c 3 t) (iblk m c 4 t) (iblk m c 5 t) (iblk m c 6 t) (iblk m c 7 t) (i 2) (i 3))
    (fun t h j => by rw [outsAt0_A m c t h (by omega)]; frame_out; rw [pay2_apply, zero_add])
    (fun t h j => by rw [outsAt0_B m c t h (by omega)]; frame_out; rw [pay3_apply]) t hr i, zero_add]
  refine Eq.trans (Finset.sum_congr rfl fun s _ => ?_) (sum_part4 (latent (argX m c)) (latent (argG m c)) (shardCol (sh t)) (fun j => j) (i 2) (i 3))
  have e1 : pl ⟨2 * (t.val / 2) + s.val, Pipeline.run_point_lt_of_flush t hr s⟩ = s := Fin.ext (by
    show (2 * (t.val / 2) + s.val) % 2 = s.val; omega)
  have e2 : sh ⟨2 * (t.val / 2) + s.val, Pipeline.run_point_lt_of_flush t hr s⟩ = sh t := Fin.ext (by
    show (2 * (t.val / 2) + s.val) / 2 = t.val / 2; omega)
  obtain ⟨hx0, hx1, hx2, hx3⟩ := x_tiles m c ⟨2 * (t.val / 2) + s.val, Pipeline.run_point_lt_of_flush t hr s⟩
  obtain ⟨hg0, hg1, hg2, hg3⟩ := g_tiles m c ⟨2 * (t.val / 2) + s.val, Pipeline.run_point_lt_of_flush t hr s⟩
  rw [hx0, hx1, hx2, hx3, hg0, hg1, hg2, hg3, e1, e2]
  rfl

/-- The array the run leaves: the gradient, shard by shard. -/
theorem final (s : Fin 4) (u : Fin 1) (k : Fin 256) (n : Fin 1024) : ((dats m 0 c).arrAt 8 cfg0.N : FVec Ideal S4x1x256x1024 .f32) (ix4 s u k n)
    = dWeight (latent (argX m c)) (latent (argG m c)) (shardCol s k) n := by
  have h : (dats m 0 c).arrAt 8 cfg0.N
      = (fun i => dWeight (latent (argX m c)) (latent (argG m c)) (shardCol (i 0) (i 2)) (i 3) : FVec Ideal S4x1x256x1024 .f32) := by
    refine (dats m 0 c).arrAt_eq_of_covers 8 _ (by decide +kernel) fun t hf y => ?_
    blk_simp
    rw [after0_8, outs_eq m c t ((flush0_8 t).mp hf)]
    have e2 : ((win0_8.blk t).view.emb y) 2 = y 2 := Fin.ext (by blk_simp [idxO t])
    have e3 : ((win0_8.blk t).view.emb y) 3 = y 3 := Fin.ext (by blk_simp [idxO t])
    have e0 : ((win0_8.blk t).view.emb y) 0 = sh t := Fin.ext (by blk_simp [idxO t]; have : (y 0).val < 1 := (y 0).isLt; simp [sh])
    rw [e2, e3, e0]
    rfl
  rw [h]; rfl

end Cert.WgradLateMix

end
-- ==== Proof.Wgrad.EquationMix.lean ====
/- The convolution sublayer's output weight's gradient: kernel and reference agree, over all the tokens and over the latents. -/
module

public import proofs.«01_k».proof.Defs
public import proofs.«01_k».proof.Proof.Wgrad.Mix
public import proofs.«01_k».proof.Proof.Gen.Reference12Ideal.Run
public import proofs.«01_k».proof.Proof.Wgrad.LateMix
public import proofs.«01_k».proof.Proof.Gen.Reference13Ideal.Run

@[expose] public section

noncomputable section

namespace Cert.WgradMixEq

open Idealize.ShloMosaic Idealize.ShloMosaic.TcCoe Idealize.SL.Sem
open Cert.Wgrad (shardCol)
open Cert.Mlp (dWeight)
open Cert.Late (latent)
open scoped BigOperators

section
open Cert.Reference12Ideal Cert.Reference12Ideal.Gen

/-- A transposed gradient laid out in shards, as printed. -/
abbrev refShards (d : FVec Ideal S1024x1024 .f32) : FVec Ideal S4x1x256x1024 .f32 :=
  shapeCast S4x1x256x1024 (transpose S1024x1024 [1, 0] d transposes_S1024x1024_S1024x1024_1_0) shapeCasts_S1024x1024_S4x1x256x1024

theorem refShards_apply (d : FVec Ideal S1024x1024 .f32) (s : Fin 4) (u : Fin 1) (k : Fin 256) (n : Fin 1024) :
    refShards d (ix4 s u k n) = d (ix2 n (shardCol s k)) := by
  unfold refShards
  pointwise
  rfl

/-- The gradient over all the tokens. -/
theorem refAll_apply (x : FVec Ideal S4608x1024 .f32) (g : FVec Ideal S4608x1024 .f32) (k : Fin 1024) (f : Fin 1024) :
    Host.dotGeneral dot_S4608x1024_S4608x1024_S1024x1024_0_0_1_1_n_n none g x (ix2 f k) = dWeight x g k f := by
  unfold dWeight
  pointwise
  exact Finset.sum_congr rfl fun t _ => mul_comm _ _

end

section
open Cert.Reference13Ideal Cert.Reference13Ideal.Gen

/-- The gradient over the latent tokens. -/
theorem refLatent_apply (x : FVec Ideal S4608x1024 .f32) (g : FVec Ideal S4608x1024 .f32) (k : Fin 1024) (f : Fin 1024) :
    Host.dotGeneral dot_S4096x1024_S4096x1024_S1024x1024_0_0_1_1_n_n none (extractStridedSlice S4096x1024 ![512, 0] g slices_S4608x1024_S4096x1024_512_0) (extractStridedSlice S4096x1024 ![512, 0] x slices_S4608x1024_S4096x1024_512_0) (ix2 f k)
      = dWeight (latent x) (latent g) k f := by
  unfold dWeight latent
  pointwise
  exact Finset.sum_congr rfl fun t _ => mul_comm _ _

end

theorem algebraic : Cert.algebraic_Kernel12Ideal_Reference12Ideal := by
  intro m g m' g' _ hargs
  refine ⟨_, Cert.Kernel12Ideal.Value.run_blocks m g, ?_⟩
  refine (θ_run Cert.Reference12Ideal.defs _ _).mono (fun r h c => ⟨(h c).1.trans ?_, (h c).2⟩) (Cert.Reference12Ideal.Value.run (F := Ideal) m' g')
  obtain ⟨e0, e1⟩ := hargs c
  rw [e0, e1]
  funext i
  obtain ⟨s, u, k, n, rfl⟩ : ∃ s u k n, i = ix4 s u k n := ⟨i 0, i 1, i 2, i 3, eq_ix4 i⟩
  exact ((refShards_apply _ s u k n).trans (refAll_apply _ _ (shardCol s k) n)).trans (Cert.WgradMix.final m c s u k n).symm

theorem algebraic_latent : Cert.algebraic_Kernel13Ideal_Reference13Ideal := by
  intro m g m' g' _ hargs
  refine ⟨_, Cert.Kernel13Ideal.Value.run_blocks m g, ?_⟩
  refine (θ_run Cert.Reference13Ideal.defs _ _).mono (fun r h c => ⟨(h c).1.trans ?_, (h c).2⟩) (Cert.Reference13Ideal.Value.run (F := Ideal) m' g')
  obtain ⟨e0, e1⟩ := hargs c
  rw [e0, e1]
  funext i
  obtain ⟨s, u, k, n, rfl⟩ : ∃ s u k n, i = ix4 s u k n := ⟨i 0, i 1, i 2, i 3, eq_ix4 i⟩
  exact ((refShards_apply _ s u k n).trans (refLatent_apply _ _ (shardCol s k) n)).trans (Cert.WgradLateMix.final m c s u k n).symm

end Cert.WgradMixEq

end
-- ==== Proof.Glu.Spec.lean ====
/- The gated unit's forward pass as formulas over plain coordinates: the numbers both programs compute. -/
module

public import proofs.«01_k».proof.Proof.Fwd.Spec

@[expose] public section

noncomputable section

namespace Cert.Glu

open Idealize.ShloMosaic Cert.Mlp Cert.Fwd
open scoped BigOperators

/-- A vector of 2048 extended reals, as an array. -/
abbrev Wide : Type := (⟨1, ![2048]⟩ : Shape).Idx → EReal

/-- Two scans' outputs over the tokens. -/
abbrev Scans : Type := (⟨3, ![2, 4608, 1024]⟩ : Shape).Idx → EReal

/-- The sublayer's input: each token scaled by one plus its scale, and shifted. -/
def modulated (x : Mat 4608 1024) (v : Mods) (t : Fin 4608) (k : Fin 1024) : EReal :=
  x (ix2 t k) * (1 + modAt v t ⟨1024 + k.val, by omega⟩) + modAt v t ⟨k.val, by omega⟩

/-- A linear layer with bias, of one row. -/
def linear {d e : ℕ} (w : Mat d e) (b : (⟨1, ![e]⟩ : Shape).Idx → EReal) (z : Fin d → EReal) (f : Fin e) : EReal :=
  (∑ k : Fin d, z k * w (ix2 k f)) + b (ix1 f)

/-- The logistic function. -/
def sigmoid (p : EReal) : EReal := Ideal.div 1 (1 + Ideal.exp (-p))

/-- The gated unit: the row's first half times the logistic function of its second. -/
def gated (p : Fin 2048 → EReal) (k : Fin 1024) : EReal :=
  p ⟨k.val, by omega⟩ * sigmoid (p ⟨1024 + k.val, by omega⟩)

/-- The residual stream after the sublayer: the weighted input plus the gated output. -/
def resid (x : Mat 4608 1024) (v : Mods) (o : Fin 1024 → EReal) (t : Fin 4608) (k : Fin 1024) : EReal :=
  Ideal.ofBits .f32 0x3FD744FD#32 * x (ix2 t k) + modAt v t ⟨2048 + k.val, by omega⟩ * o k

/-- The state space model's output: the two scans' and the input's share. -/
def skipped (x : Mat 4608 1024) (v : Mods) (ds : Row) (y : Scans) (t : Fin 4608) (k : Fin 1024) : EReal :=
  ds (ix1 k) * modulated x v t k + y (ix3 0 t k) + y (ix3 1 t k)

/-- The Gaussian error linear unit. -/
def gelu (y : EReal) : EReal :=
  Ideal.ofBits .f32 0x3F000000#32 * y * (1 + Ideal.erf (y * Ideal.ofBits .f32 0x3F3504F3#32))

end Cert.Glu

end
-- ==== Proof.Glu.Pw1Block.lean ====
/- What one tile of 512 tokens of the gated unit's forward kernel leaves in its outputs. -/
module

public import proofs.«01_k».proof.Proof.Glu.Spec
public import proofs.«01_k».proof.Proof.Fwd.Block
public import proofs.«01_k».proof.Proof.Gen.Kernel14Ideal.Frame
public import Idealize.ShloMosaic.Lib.Pointwise
public import Idealize.ShloMosaic.Lib.Pipeline.ValueKit

@[expose] public section

noncomputable section

namespace Cert.Glu

open Idealize.ShloMosaic Cert.Mlp Cert.Kernel14Ideal Cert.Kernel14Ideal.Gen
open Cert.Fwd (Mods modAt whole_ld mod_ld)
open scoped BigOperators

/-! ## What the body computes of the values it loads -/

/-- The modulated tokens: row `r` is of phase `r` modulo eight. -/
theorem modPay_apply (v0 : Vec Ideal S512x1024 .f32) (v1 v3 : Vec Ideal S1x8x1024 .f32) (r : Fin 512) (k : Fin 1024) :
    k0_pay4 v0 v1 v3 (ix2 r k)
      = v0 (ix2 r k) * (1 + v3 (ix3 0 ⟨r.val % 8, by omega⟩ k)) + v1 (ix3 0 ⟨r.val % 8, by omega⟩ k) := by
  unfold k0_pay4
  pointwise

/-- Four products side by side are the product with the weight whose columns the four shards hold. -/
theorem concat_apply (h : FVec Ideal S512x1024 .bf16) (w : Mat 1024 2048) (w0 w1 w2 w3 : FVec Ideal S1x1x1024x512 .bf16)
    (e0 : ∀ (k : Fin 1024) (n : Fin 512), w0 (ix4 0 0 k n) = w (ix2 k ⟨n.val, by omega⟩))
    (e1 : ∀ (k : Fin 1024) (n : Fin 512), w1 (ix4 0 0 k n) = w (ix2 k ⟨512 + n.val, by omega⟩))
    (e2 : ∀ (k : Fin 1024) (n : Fin 512), w2 (ix4 0 0 k n) = w (ix2 k ⟨1024 + n.val, by omega⟩))
    (e3 : ∀ (k : Fin 1024) (n : Fin 512), w3 (ix4 0 0 k n) = w (ix2 k ⟨1536 + n.val, by omega⟩)) (r : Fin 512) (f : Fin 2048) :
    concatenate S512x2048 1
        [⟨S512x512, matmul dot_S512x1024_S1024x512_S512x512_1_0_0_1_n_n none h (shapeCast S1024x512 w0 shapeCasts_S1x1x1024x512_S1024x512) (constant S512x512 .f32 0x00000000#32)⟩,
         ⟨S512x512, matmul dot_S512x1024_S1024x512_S512x512_1_0_0_1_n_n none h (shapeCast S1024x512 w1 shapeCasts_S1x1x1024x512_S1024x512) (constant S512x512 .f32 0x00000000#32)⟩,
         ⟨S512x512, matmul dot_S512x1024_S1024x512_S512x512_1_0_0_1_n_n none h (shapeCast S1024x512 w2 shapeCasts_S1x1x1024x512_S1024x512) (constant S512x512 .f32 0x00000000#32)⟩,
         ⟨S512x512, matmul dot_S512x1024_S1024x512_S512x512_1_0_0_1_n_n none h (shapeCast S1024x512 w3 shapeCasts_S1x1x1024x512_S1024x512) (constant S512x512 .f32 0x00000000#32)⟩]
        concatenates_S512x512_S512x512_S512x512_S512x512_S512x2048_d1 (ix2 r f)
      = ∑ k : Fin 1024, h (ix2 r k) * w (ix2 k f) := by
  pointwise
  split
  · exact Finset.sum_congr rfl fun k _ => by rw [e0]
  · split
    · exact Finset.sum_congr rfl fun k _ => by rw [e1]; exact congrArg (fun j => _ * w (ix2 k j)) (Fin.ext (by dsimp only; omega))
    · split
      · exact Finset.sum_congr rfl fun k _ => by rw [e2]; exact congrArg (fun j => _ * w (ix2 k j)) (Fin.ext (by dsimp only; omega))
      · exact Finset.sum_congr rfl fun k _ => by rw [e3]; exact congrArg (fun j => _ * w (ix2 k j)) (Fin.ext (by dsimp only; omega))

/-- The linear layer's bias added to every row. -/
theorem biasPay_apply (p : FVec Ideal S512x2048 .f32) (b : Vec Ideal S1x2048 .f32) (r : Fin 512) (f : Fin 2048) :
    k0_pay1 p b (ix2 r f) = p (ix2 r f) + b (ix2 0 f) := by
  unfold k0_pay1
  pointwise

/-- The gated unit. -/
theorem gatedPay_apply (p : FVec Ideal S512x2048 .f32) (b : Vec Ideal S1x2048 .f32) (r : Fin 512) (k : Fin 1024) :
    k0_pay3 p b (ix2 r k) = gated (fun f => k0_pay1 p b (ix2 r f)) k := by
  unfold k0_pay3 gated sigmoid
  generalize k0_pay1 p b = y
  pointwise
  simp only [sub_eq_add_neg, zero_add]

/-! ## Loads -/

/-- A wide row loaded whole. -/
theorem wide_ld (x : Vec Ideal S1x2048 .f32) : View.ld x r0_7 = x :=
  funext fun i => congrArg x (funext fun q => Fin.ext (by
    match q with
    | ⟨0, _⟩ => show 0 + 1 * (i 0).val = (i 0).val; omega
    | ⟨1, _⟩ => show 0 + 1 * (i 1).val = (i 1).val; omega))

/-- A column shard of the weight read through the rectangle that loads it. -/
theorem colShard_ld (x : Vec Ideal S4x1x1024x512 .bf16) (s : Fin 4) (inb) (k : Fin 1024) (n : Fin 512) :
    View.ld x (Rect.unit (s := S4x1x1024x512) ![s.val, 0, 0, 0] S1x1x1024x512.size inb) (ix4 0 0 k n) = x (ix4 s 0 k n) := by
  refine congrArg x (funext fun q => Fin.ext ?_)
  match q with
  | ⟨0, _⟩ => show s.val + 1 * 0 = s.val; omega
  | ⟨1, _⟩ => rfl
  | ⟨2, _⟩ => show 0 + 1 * k.val = k.val; omega
  | ⟨3, _⟩ => show 0 + 1 * n.val = n.val; omega

/-! ## The tile -/

/-- The blocks hold the rows `row r` of the tokens and of the modulation table, the weight's column shards, and the bias. -/
structure IsPw1 (x : Mat 4608 1024) (v : Mods) (w : Mat 1024 2048) (b : Wide) (row : Fin 512 → Fin 4608)
    (x0 : Vec Ideal S512x1024 .f32) (x1 : Vec Ideal S1x8x6144 .f32) (x2 : Vec Ideal S4x1x1024x512 .bf16) (x3 : Vec Ideal S1x2048 .f32) : Prop where
  rows : ∀ r k, x0 (ix2 r k) = x (ix2 (row r) k)
  mods : ∀ (r : Fin 512) (o : Fin 6144), x1 (ix3 0 ⟨r.val % 8, by omega⟩ o) = modAt v (row r) o
  shards : ∀ (s : Fin 4) (k : Fin 1024) (n : Fin 512), x2 (ix4 s 0 k n) = w (ix2 k ⟨s.val * 512 + n.val, by omega⟩)
  bias : ∀ f, x3 (ix2 0 f) = b (ix1 f)

variable {x : Mat 4608 1024} {v : Mods} {w : Mat 1024 2048} {b : Wide} {row : Fin 512 → Fin 4608}
  {x0 : Vec Ideal S512x1024 .f32} {x1 : Vec Ideal S1x8x6144 .f32} {x2 : Vec Ideal S4x1x1024x512 .bf16} {x3 : Vec Ideal S1x2048 .f32}
  (ht : IsPw1 x v w b row x0 x1 x2 x3)

include ht

theorem pw1_mod (r : Fin 512) (k : Fin 1024) : k0_pay4 (View.ld x0 r0_0) (View.ld x1 r0_1) (View.ld x1 r0_2) (ix2 r k) = modulated x v (row r) k := by
  rw [modPay_apply, whole_ld, mod_ld x1 0 _ _ k (by omega), mod_ld x1 1024 _ _ k (by omega), ht.rows, ht.mods, ht.mods]
  unfold modulated
  congr 2
  exact Fin.ext (Nat.zero_add _)

/-- The linear layer. -/
theorem pw1_pre (r : Fin 512) (f : Fin 2048) :
    k0_pay1 (k0_pay6 x0 x1 x2 x3) (View.ld x3 r0_7) (ix2 r f) = linear w b (modulated x v (row r)) f := by
  have hs : ∀ (s : Fin 4) (inb) (k : Fin 1024) (n : Fin 512),
      View.ld x2 (Rect.unit (s := S4x1x1024x512) ![s.val, 0, 0, 0] S1x1x1024x512.size inb) (ix4 0 0 k n) = w (ix2 k ⟨s.val * 512 + n.val, by omega⟩) :=
    fun s inb k n => (colShard_ld x2 s inb k n).trans (ht.shards s k n)
  rw [biasPay_apply, wide_ld, ht.bias]
  unfold linear k0_pay6 k0_pay5
  refine congrArg (· + b (ix1 f)) ?_
  refine (concat_apply _ w _ _ _ _ (fun k n => (hs 0 _ k n).trans ?_) (hs 1 _) (hs 2 _) (hs 3 _) r f).trans ?_
  · exact congrArg (fun j => w (ix2 k j)) (Fin.ext (by show 0 * 512 + n.val = n.val; omega))
  · exact Finset.sum_congr rfl fun k _ => by rw [pw1_mod ht]

/-! ## The three outputs -/

theorem pw1_out4 (r : Fin 512) (f : Fin 2048) : out0_4 x0 x1 x2 x3 (ix2 r f) = linear w b (modulated x v (row r)) f := by
  unfold out0_4
  rw [View.canon_unit_zero (funext fun a => by fin_cases a <;> rfl)]
  exact pw1_pre ht r f

theorem pw1_out5 (r : Fin 512) (k : Fin 1024) : out0_5 x0 x1 x2 x3 (ix2 r k) = gated (linear w b (modulated x v (row r))) k := by
  unfold out0_5
  rw [View.canon_unit_zero (funext fun a => by fin_cases a <;> rfl), gatedPay_apply]
  exact congrArg (fun p => gated p k) (funext fun f => pw1_pre ht r f)

theorem pw1_out6 (r : Fin 512) (k : Fin 1024) : out0_6 x0 x1 x2 x3 (ix2 r k) = modulated x v (row r) k := by
  unfold out0_6
  rw [View.canon_unit_zero (funext fun a => by fin_cases a <;> rfl)]
  exact pw1_mod ht r k

end Cert.Glu

end
-- ==== Proof.Glu.Host.lean ====
/- The layouts in which the host hands the kernels the gated unit's weights. -/
module

public import proofs.«01_k».proof.Proof.Glu.Spec
public import proofs.«01_k».proof.Proof.Gen.Kernel14Ideal.Frame
public import proofs.«01_k».proof.Proof.Gen.Kernel16Ideal.Frame
public import Idealize.ShloMosaic.Lib.Pointwise

@[expose] public section

noncomputable section

namespace Cert.Glu

open Idealize.ShloMosaic

section
open Cert.Kernel14Ideal Cert.Kernel14Ideal.Gen

/-- The first linear layer's weight in four shards of 512 columns. -/
abbrev colShards (w : FVec Ideal S1024x2048 .f32) : FVec Ideal S4x1x1024x512 .bf16 :=
  truncf .bf16 (broadcastInDim S4x1x1024x512 ![0, 2, 3] bcast_S4x1024x512_S4x1x1024x512_0_2_3 (transpose S4x1024x512 [1, 0, 2] (shapeCast S1024x4x512 w shapeCasts_S1024x2048_S1024x4x512) transposes_S1024x4x512_S4x1024x512_1_0_2)) bitsLt_bf16_f32

theorem colShards_apply (w : FVec Ideal S1024x2048 .f32) (s : Fin 4) (k : Fin 1024) (n : Fin 512) :
    colShards w (ix4 s 0 k n) = w (ix2 k ⟨s.val * 512 + n.val, by omega⟩) := by
  unfold colShards
  pointwise

end

section
open Cert.Kernel16Ideal Cert.Kernel16Ideal.Gen

/-- The second linear layer's weight in four shards of 256 rows. -/
abbrev rowShards (w : FVec Ideal S1024x1024 .f32) : FVec Ideal S4x1x256x1024 .bf16 :=
  truncf .bf16 (shapeCast S4x1x256x1024 w shapeCasts_S1024x1024_S4x1x256x1024) bitsLt_bf16_f32

theorem rowShards_apply (w : FVec Ideal S1024x1024 .f32) (s : Fin 4) (j : Fin 256) (k : Fin 1024) :
    rowShards w (ix4 s 0 j k) = w (ix2 ⟨s.val * 256 + j.val, by omega⟩ k) := by
  unfold rowShards
  pointwise

end

end Cert.Glu

end
-- ==== Proof.Glu.Pw1.lean ====
/- What the first layers' gated-unit kernel leaves in its three result arrays. -/
module

public import proofs.«01_k».proof.Proof.Glu.Pw1Block
public import proofs.«01_k».proof.Proof.Gen.Kernel14Ideal.Frame
public import proofs.«01_k».proof.Proof.Glu.Host
public import Idealize.ShloMosaic.Lib.StableHlo.Run

@[expose] public section

noncomputable section

namespace Cert.GluPw1

open Idealize.ShloMosaic Idealize.ShloMosaic.TcCoe Idealize.SL.Sem Cert.Kernel14Ideal Cert.Kernel14Ideal.Gen Cert.Glu
open Cert.Fwd (modAt stream layerNorm)
open scoped BigOperators

variable (m : (ℓ : Loc nD τ sig) → Buf (Elt Ideal) ℓ) (c : Dev nD)

/-- The launch contents of the arguments. -/
abbrev argX : FVec Ideal S4608x1024 .f32 := m ((c : Thread nD τ).loc main_arg0)
abbrev argV : FVec Ideal S2x8x6144 .f32 := m ((c : Thread nD τ).loc main_arg1)
abbrev argW : FVec Ideal S1024x2048 .f32 := m ((c : Thread nD τ).loc main_arg2)
abbrev argB : FVec Ideal S2048 .f32 := m ((c : Thread nD τ).loc main_arg3)

/-! ## What the host lays out -/

theorem family_eq : (V m c main_v3 : FVec Ideal S4x1x1024x512 .bf16) = colShards (argW m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem bias_eq : (V m c main_v4 : FVec Ideal S1x2048 .f32) = broadcastInDim S1x2048 ![1] bcast_S2048_S1x2048_1 (argB m c) := by
  unfold V
  after_results

/-! ## The windows' block indices: the first tile's modulation is the context's, the others' the latents'. -/

theorem idxTok : ∀ t : Fin cfg0.N, win0_0.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_4.index t = ![t.val, 0] ∧ win0_5.index t = ![t.val, 0] ∧ win0_6.index t = ![t.val, 0])

theorem idxMod : ∀ t : Fin cfg0.N, win0_1.index t = ![if t.val = 0 then 0 else 1, 0, 0] :=
  (by decide +kernel : ∀ t : Fin grid0.N, win0_1.index t = ![if t.val = 0 then 0 else 1, 0, 0])

theorem idxW : ∀ t : Fin cfg0.N, win0_2.index t = ![0, 0, 0, 0] ∧ win0_3.index t = ![0, 0] :=
  (by decide +kernel : ∀ t : Fin grid0.N, win0_2.index t = ![0, 0, 0, 0] ∧ win0_3.index t = ![0, 0])

/-- Row `r` of point `t`'s tile. -/
def row (t : Fin cfg0.N) (r : Fin 512) : Fin 4608 :=
  ⟨t.val * 512 + r.val, by have h : t.val < 9 := lt_of_lt_of_eq t.isLt (by decide); omega⟩

/-- The stream of a point's rows. -/
theorem stream_row (t : Fin cfg0.N) (r : Fin 512) : stream (row t r) = ⟨if t.val = 0 then 0 else 1, by split <;> decide⟩ := by
  unfold stream
  refine Fin.ext ?_
  show ((if t.val * 512 + r.val < 512 then 0 else 1 : Fin 2)).val = if t.val = 0 then 0 else 1
  split <;> split <;> first | rfl | omega

/-! ## The blocks -/

theorem block0 (t : Fin cfg0.N) (r : Fin 512) (k : Fin 1024) : (iblk m c 0 t : FVec Ideal S512x1024 .f32) (ix2 r k) = argX m c (ix2 (row t r) k) := by
  show _ = m ((c : Thread nD τ).loc main_arg0) _
  rw [← V_main_arg0 m c]
  unfold iblk; rw [View.read_apply]
  show V m c main_arg0 _ = _
  refine congrArg (V m c main_arg0) ?_
  blk_ext [(idxTok t).1, row]

theorem block1 (t : Fin cfg0.N) (r : Fin 512) (o : Fin 6144) :
    (iblk m c 1 t : FVec Ideal S1x8x6144 .f32) (ix3 0 ⟨r.val % 8, by omega⟩ o) = modAt (argV m c) (row t r) o := by
  unfold modAt
  rw [stream_row]
  show _ = m ((c : Thread nD τ).loc main_arg1) _
  rw [← V_main_arg1 m c]
  unfold iblk; rw [View.read_apply]
  show V m c main_arg1 _ = _
  refine congrArg (V m c main_arg1) ?_
  blk_ext [idxMod t, row]

theorem block2 (t : Fin cfg0.N) (s : Fin 4) (k : Fin 1024) (n : Fin 512) :
    (iblk m c 2 t : FVec Ideal S4x1x1024x512 .bf16) (ix4 s 0 k n) = argW m c (ix2 k ⟨s.val * 512 + n.val, by omega⟩) := by
  rw [← colShards_apply (argW m c), ← family_eq]
  unfold iblk; rw [View.read_apply]
  show V m c main_v3 _ = _
  refine congrArg (V m c main_v3) ?_
  blk_ext [(idxW t).1]

theorem block3 (t : Fin cfg0.N) (k : Fin 2048) : (iblk m c 3 t : FVec Ideal S1x2048 .f32) (ix2 0 k) = argB m c (ix1 k) := by
  refine Eq.trans ?_ ((congrFun (bias_eq m c) (ix2 0 k)).trans (by pointwise))
  unfold iblk; rw [View.read_apply]
  show V m c main_v4 _ = _
  refine congrArg (V m c main_v4) ?_
  blk_ext [(idxW t).2]

/-- The blocks of a point are a tile of the arguments. -/
theorem isTile (t : Fin cfg0.N) : IsPw1 (argX m c) (argV m c) (argW m c) (argB m c) (row t)
    (iblk m c 0 t) (iblk m c 1 t) (iblk m c 2 t) (iblk m c 3 t) :=
  ⟨block0 m c t, block1 m c t, block2 m c t, block3 m c t⟩

/-! ## The arrays -/

theorem final4 (t : Fin 4608) (f : Fin 2048) : ((dats m 0 c).arrAt 4 cfg0.N : FVec Ideal S4608x2048 .bf16) (ix2 t f)
    = linear (argW m c) (argB m c) (modulated (argX m c) (argV m c) t) f := by
  have h : (dats m 0 c).arrAt 4 cfg0.N
      = (fun i => linear (argW m c) (argB m c) (modulated (argX m c) (argV m c) (i 0)) (i 1) : FVec Ideal S4608x2048 .bf16) := by
    refine (dats m 0 c).arrAt_eq_of_covers 4 _ (by decide +kernel) fun t hf y => ?_
    blk_simp
    rw [after0_4]
    obtain ⟨r, f, rfl⟩ : ∃ r f, y = ix2 r f := ⟨y 0, y 1, (eq_ix2 y)⟩
    have e : (win0_4.blk t).view.emb (ix2 r f) = ix2 (row t r) f := by blk_ext [(idxTok t).2.1, row]
    rw [e]
    exact pw1_out4 (isTile m c t) r f
  rw [h]; rfl

theorem final5 (t : Fin 4608) (k : Fin 1024) : ((dats m 0 c).arrAt 5 cfg0.N : FVec Ideal S4608x1024 .f32) (ix2 t k)
    = gated (linear (argW m c) (argB m c) (modulated (argX m c) (argV m c) t)) k := by
  have h : (dats m 0 c).arrAt 5 cfg0.N
      = (fun i => gated (linear (argW m c) (argB m c) (modulated (argX m c) (argV m c) (i 0))) (i 1) : FVec Ideal S4608x1024 .f32) := by
    refine (dats m 0 c).arrAt_eq_of_covers 5 _ (by decide +kernel) fun t hf y => ?_
    blk_simp
    rw [after0_5]
    obtain ⟨r, k, rfl⟩ : ∃ r k, y = ix2 r k := ⟨y 0, y 1, (eq_ix2 y)⟩
    have e : (win0_5.blk t).view.emb (ix2 r k) = ix2 (row t r) k := by blk_ext [(idxTok t).2.2.1, row]
    rw [e]
    exact pw1_out5 (isTile m c t) r k
  rw [h]; rfl

theorem final6 (t : Fin 4608) (k : Fin 1024) : ((dats m 0 c).arrAt 6 cfg0.N : FVec Ideal S4608x1024 .bf16) (ix2 t k)
    = modulated (argX m c) (argV m c) t k := by
  have h : (dats m 0 c).arrAt 6 cfg0.N
      = (fun i => modulated (argX m c) (argV m c) (i 0) (i 1) : FVec Ideal S4608x1024 .bf16) := by
    refine (dats m 0 c).arrAt_eq_of_covers 6 _ (by decide +kernel) fun t hf y => ?_
    blk_simp
    rw [after0_6]
    obtain ⟨r, k, rfl⟩ : ∃ r k, y = ix2 r k := ⟨y 0, y 1, (eq_ix2 y)⟩
    have e : (win0_6.blk t).view.emb (ix2 r k) = ix2 (row t r) k := by blk_ext [(idxTok t).2.2.2, row]
    rw [e]
    exact pw1_out6 (isTile m c t) r k
  rw [h]; rfl

/-! ## The run -/

/-- Every run ends with the 3 result arrays at what the grid leaves in them and the arguments as launched. -/
theorem run (ρ : Dev nD → PrngReg) : θ_run defs (onTc (τ := τ) (main (F := Ideal))) ⟨m, fun _ => 0, ρ⟩ fun r => ∀ c : Dev nD,
    r.2.mem ((c : Thread nD τ).loc main_v5_0) = (dats m 0 c).arrAt 4 cfg0.N
      ∧ r.2.mem ((c : Thread nD τ).loc main_v5_1) = (dats m 0 c).arrAt 5 cfg0.N
      ∧ r.2.mem ((c : Thread nD τ).loc main_v5_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    have staged {w : Fin cfg0.W} (hw : (cfg0.win w).isOut = false) := ((h c).1 w).trans (((dats m 0 c).arrAt_in w hw _).trans (A_eq m c w))
    ⟨(h c).1 4, (h c).1 5, (h c).1 6, (staged (w := 0) rfl).trans (V_main_arg0 m c), (staged (w := 1) rfl).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c)⟩)
    (run_main m ρ)

end Cert.GluPw1

end
-- ==== Proof.Glu.Pw1Late.lean ====
/- What the later layers' gated-unit kernel leaves on the latent tokens' rows, the only rows it writes. -/
module

public import proofs.«01_k».proof.Proof.Glu.Pw1Block
public import proofs.«01_k».proof.Proof.Gen.Kernel15Ideal.Frame
public import proofs.«01_k».proof.Proof.Glu.Host
public import Idealize.ShloMosaic.Lib.StableHlo.Run

@[expose] public section

noncomputable section

namespace Cert.GluPw1Late

open Idealize.ShloMosaic Idealize.ShloMosaic.TcCoe Idealize.SL.Sem Cert.Kernel15Ideal Cert.Kernel15Ideal.Gen Cert.Glu
open Cert.Fwd (modAt stream layerNorm)
open scoped BigOperators

variable (m : (ℓ : Loc nD τ sig) → Buf (Elt Ideal) ℓ) (c : Dev nD)

/-- The launch contents of the arguments. -/
abbrev argX : FVec Ideal S4608x1024 .f32 := m ((c : Thread nD τ).loc main_arg0)
abbrev argV : FVec Ideal S2x8x6144 .f32 := m ((c : Thread nD τ).loc main_arg1)
abbrev argW : FVec Ideal S1024x2048 .f32 := m ((c : Thread nD τ).loc main_arg2)
abbrev argB : FVec Ideal S2048 .f32 := m ((c : Thread nD τ).loc main_arg3)

/-! ## What the host lays out -/

theorem family_eq : (V m c main_v3 : FVec Ideal S4x1x1024x512 .bf16) = colShards (argW m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem bias_eq : (V m c main_v4 : FVec Ideal S1x2048 .f32) = broadcastInDim S1x2048 ![1] bcast_S2048_S1x2048_1 (argB m c) := by
  unfold V
  after_results

/-! ## The windows' block indices: the token windows skip the context's 512 rows, and the modulation is the latents'. -/

theorem idxTok : ∀ t : Fin cfg0.N, win0_0.index t = ![t.val + 1, 0] ∧ win0_4.index t = ![t.val + 1, 0] ∧ win0_5.index t = ![t.val + 1, 0] ∧ win0_6.index t = ![t.val + 1, 0] :=
  (by decide +kernel : ∀ t : Fin grid0.N, win0_0.index t = ![t.val + 1, 0] ∧ win0_4.index t = ![t.val + 1, 0] ∧ win0_5.index t = ![t.val + 1, 0] ∧ win0_6.index t = ![t.val + 1, 0])

theorem idxMod : ∀ t : Fin cfg0.N, win0_1.index t = ![1, 0, 0] :=
  (by decide +kernel : ∀ t : Fin grid0.N, win0_1.index t = ![1, 0, 0])

theorem idxW : ∀ t : Fin cfg0.N, win0_2.index t = ![0, 0, 0, 0] ∧ win0_3.index t = ![0, 0] :=
  (by decide +kernel : ∀ t : Fin grid0.N, win0_2.index t = ![0, 0, 0, 0] ∧ win0_3.index t = ![0, 0])

/-- Row `r` of point `t`'s tile. -/
def row (t : Fin cfg0.N) (r : Fin 512) : Fin 4608 :=
  ⟨(t.val + 1) * 512 + r.val, by have h : t.val < 8 := lt_of_lt_of_eq t.isLt (by decide); omega⟩

/-- The stream of a point's rows. -/
theorem stream_row (t : Fin cfg0.N) (r : Fin 512) : stream (row t r) = 1 := by
  unfold stream
  exact if_neg (by show ¬ (t.val + 1) * 512 + r.val < 512; omega)

/-! ## The blocks -/

theorem block0 (t : Fin cfg0.N) (r : Fin 512) (k : Fin 1024) : (iblk m c 0 t : FVec Ideal S512x1024 .f32) (ix2 r k) = argX m c (ix2 (row t r) k) := by
  show _ = m ((c : Thread nD τ).loc main_arg0) _
  rw [← V_main_arg0 m c]
  unfold iblk; rw [View.read_apply]
  show V m c main_arg0 _ = _
  refine congrArg (V m c main_arg0) ?_
  blk_ext [(idxTok t).1, row]

theorem block1 (t : Fin cfg0.N) (r : Fin 512) (o : Fin 6144) :
    (iblk m c 1 t : FVec Ideal S1x8x6144 .f32) (ix3 0 ⟨r.val % 8, by omega⟩ o) = modAt (argV m c) (row t r) o := by
  unfold modAt
  rw [stream_row]
  show _ = m ((c : Thread nD τ).loc main_arg1) _
  rw [← V_main_arg1 m c]
  unfold iblk; rw [View.read_apply]
  show V m c main_arg1 _ = _
  refine congrArg (V m c main_arg1) ?_
  blk_ext [idxMod t, row]

theorem block2 (t : Fin cfg0.N) (s : Fin 4) (k : Fin 1024) (n : Fin 512) :
    (iblk m c 2 t : FVec Ideal S4x1x1024x512 .bf16) (ix4 s 0 k n) = argW m c (ix2 k ⟨s.val * 512 + n.val, by omega⟩) := by
  rw [← colShards_apply (argW m c), ← family_eq]
  unfold iblk; rw [View.read_apply]
  show V m c main_v3 _ = _
  refine congrArg (V m c main_v3) ?_
  blk_ext [(idxW t).1]

theorem block3 (t : Fin cfg0.N) (k : Fin 2048) : (iblk m c 3 t : FVec Ideal S1x2048 .f32) (ix2 0 k) = argB m c (ix1 k) := by
  refine Eq.trans ?_ ((congrFun (bias_eq m c) (ix2 0 k)).trans (by pointwise))
  unfold iblk; rw [View.read_apply]
  show V m c main_v4 _ = _
  refine congrArg (V m c main_v4) ?_
  blk_ext [(idxW t).2]

/-- The blocks of a point are a tile of the arguments. -/
theorem isTile (t : Fin cfg0.N) : IsPw1 (argX m c) (argV m c) (argW m c) (argB m c) (row t)
    (iblk m c 0 t) (iblk m c 1 t) (iblk m c 2 t) (iblk m c 3 t) :=
  ⟨block0 m c t, block1 m c t, block2 m c t, block3 m c t⟩

/-! ## The arrays on the latent rows -/

theorem final4 (t : Fin 4608) (ht : 512 ≤ t.val) (f : Fin 2048) : ((dats m 0 c).arrAt 4 cfg0.N : FVec Ideal S4608x2048 .bf16) (ix2 t f)
    = linear (argW m c) (argB m c) (modulated (argX m c) (argV m c) t) f := by
  have h := (dats m 0 c).arrAt_emb_eq_of_coversWhere 4
    (fun i => linear (argW m c) (argB m c) (modulated (argX m c) (argV m c) (i 0)) (i 1) : FVec Ideal S4608x2048 .bf16)
    (fun β => 1 ≤ β (0 : Fin 2)) (by decide +kernel) (fun t hf y => by
      blk_simp
      rw [after0_4]
      obtain ⟨r, f, rfl⟩ : ∃ r f, y = ix2 r f := ⟨y 0, y 1, (eq_ix2 y)⟩
      have e : (win0_4.blk t).view.emb (ix2 r f) = ix2 (row t r) f := by blk_ext [(idxTok t).2.1, row]
      rw [e]
      exact pw1_out4 (isTile m c t) r f) (ix2 t f)
  refine h.trans (if_pos ?_)
  show 1 ≤ t.val / 512
  omega

theorem final5 (t : Fin 4608) (ht : 512 ≤ t.val) (k : Fin 1024) : ((dats m 0 c).arrAt 5 cfg0.N : FVec Ideal S4608x1024 .f32) (ix2 t k)
    = gated (linear (argW m c) (argB m c) (modulated (argX m c) (argV m c) t)) k := by
  have h := (dats m 0 c).arrAt_emb_eq_of_coversWhere 5
    (fun i => gated (linear (argW m c) (argB m c) (modulated (argX m c) (argV m c) (i 0))) (i 1) : FVec Ideal S4608x1024 .f32)
    (fun β => 1 ≤ β (0 : Fin 2)) (by decide +kernel) (fun t hf y => by
      blk_simp
      rw [after0_5]
      obtain ⟨r, k, rfl⟩ : ∃ r k, y = ix2 r k := ⟨y 0, y 1, (eq_ix2 y)⟩
      have e : (win0_5.blk t).view.emb (ix2 r k) = ix2 (row t r) k := by blk_ext [(idxTok t).2.2.1, row]
      rw [e]
      exact pw1_out5 (isTile m c t) r k) (ix2 t k)
  refine h.trans (if_pos ?_)
  show 1 ≤ t.val / 512
  omega

theorem final6 (t : Fin 4608) (ht : 512 ≤ t.val) (k : Fin 1024) : ((dats m 0 c).arrAt 6 cfg0.N : FVec Ideal S4608x1024 .bf16) (ix2 t k)
    = modulated (argX m c) (argV m c) t k := by
  have h := (dats m 0 c).arrAt_emb_eq_of_coversWhere 6
    (fun i => modulated (argX m c) (argV m c) (i 0) (i 1) : FVec Ideal S4608x1024 .bf16)
    (fun β => 1 ≤ β (0 : Fin 2)) (by decide +kernel) (fun t hf y => by
      blk_simp
      rw [after0_6]
      obtain ⟨r, k, rfl⟩ : ∃ r k, y = ix2 r k := ⟨y 0, y 1, (eq_ix2 y)⟩
      have e : (win0_6.blk t).view.emb (ix2 r k) = ix2 (row t r) k := by blk_ext [(idxTok t).2.2.2, row]
      rw [e]
      exact pw1_out6 (isTile m c t) r k) (ix2 t k)
  refine h.trans (if_pos ?_)
  show 1 ≤ t.val / 512
  omega

/-! ## The run -/

/-- Every run ends with the 3 result arrays at what the grid leaves in them and the arguments as launched. -/
theorem run (ρ : Dev nD → PrngReg) : θ_run defs (onTc (τ := τ) (main (F := Ideal))) ⟨m, fun _ => 0, ρ⟩ fun r => ∀ c : Dev nD,
    r.2.mem ((c : Thread nD τ).loc main_v5_0) = (dats m 0 c).arrAt 4 cfg0.N
      ∧ r.2.mem ((c : Thread nD τ).loc main_v5_1) = (dats m 0 c).arrAt 5 cfg0.N
      ∧ r.2.mem ((c : Thread nD τ).loc main_v5_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    have staged {w : Fin cfg0.W} (hw : (cfg0.win w).isOut = false) := ((h c).1 w).trans (((dats m 0 c).arrAt_in w hw _).trans (A_eq m c w))
    ⟨(h c).1 4, (h c).1 5, (h c).1 6, (staged (w := 0) rfl).trans (V_main_arg0 m c), (staged (w := 1) rfl).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c)⟩)
    (run_main m ρ)

end Cert.GluPw1Late

end
-- ==== Proof.Glu.Reference.lean ====
/- What the references' gated unit, residual stream and normalisation hold at an index. -/
module

public import proofs.«01_k».proof.Proof.Glu.Spec
public import proofs.«01_k».proof.Proof.Fwd.Reference
public import proofs.«01_k».proof.Proof.Gen.Reference14Ideal.Run
public import proofs.«01_k».proof.Proof.Gen.Reference16Ideal.Run

@[expose] public section

noncomputable section

namespace Cert.Glu

open Idealize.ShloMosaic
open Cert.Fwd (refTable refTable_apply modAt)
open scoped BigOperators

section
open Cert.Reference14Ideal Cert.Reference14Ideal.Gen

variable (x : FVec Ideal S4608x1024 .f32) (v : FVec Ideal S2x8x6144 .f32) (w : FVec Ideal S1024x2048 .f32) (b : FVec Ideal S2048 .f32)

/-- The modulated tokens, as printed. -/
abbrev refMod : FVec Ideal S4608x1024 .f32 :=
  addf (mulf x (addf (broadcastInDim S4608x1024 ![] bcast_S_S4608x1024 (constant S_ .f32 0x3F800000#32)) (extractStridedSlice S4608x1024 ![0, 1024] (refTable v) slices_S4608x6144_S4608x1024_0_1024))) (extractStridedSlice S4608x1024 ![0, 0] (refTable v) slices_S4608x6144_S4608x1024_0_0)

theorem refMod_apply (t : Fin 4608) (k : Fin 1024) : refMod x v (ix2 t k) = modulated x v t k := by
  unfold refMod modulated
  rw [← refTable_apply, ← refTable_apply]
  generalize refTable v = y
  pointwise

/-- The gated unit's linear layer, as printed, of the rows `h`. -/
abbrev refPre (h : FVec Ideal S4608x1024 .f32) : FVec Ideal S4608x2048 .f32 :=
  addf (Host.dotGeneral dot_S4608x1024_S1024x2048_S4608x2048_1_0_0_1_n_n none h w) (broadcastInDim S4608x2048 ![0, 1] bcast_S1x2048_S4608x2048_0_1 (broadcastInDim S1x2048 ![1] bcast_S2048_S1x2048_1 b))

theorem refPre_apply (h : FVec Ideal S4608x1024 .f32) (t : Fin 4608) (f : Fin 2048) :
    refPre w b h (ix2 t f) = linear w b (fun k => h (ix2 t k)) f := by
  unfold refPre linear
  pointwise

/-- The gated unit, as printed. -/
abbrev refGated (p : FVec Ideal S4608x2048 .f32) : FVec Ideal S4608x1024 .f32 :=
  mulf (extractStridedSlice S4608x1024 ![0, 0] p slices_S4608x2048_S4608x1024_0_0) (Host.divf (broadcastInDim S4608x1024 ![] bcast_S_S4608x1024 (constant S_ .f32 0x3F800000#32)) (addf (broadcastInDim S4608x1024 ![] bcast_S_S4608x1024 (constant S_ .f32 0x3F800000#32)) (Host.exp (Host.negf (extractStridedSlice S4608x1024 ![0, 1024] p slices_S4608x2048_S4608x1024_0_1024)))))

theorem refGated_apply (p : FVec Ideal S4608x2048 .f32) (t : Fin 4608) (k : Fin 1024) :
    refGated p (ix2 t k) = gated (fun f => p (ix2 t f)) k := by
  unfold refGated gated sigmoid
  pointwise

end

section
open Cert.Reference16Ideal Cert.Reference16Ideal.Gen

variable (x : FVec Ideal S4608x1024 .f32) (v : FVec Ideal S2x8x6144 .f32) (w : FVec Ideal S1024x1024 .f32) (b : FVec Ideal S1024 .f32)

/-- The second linear layer, as printed. -/
abbrev refOut (s : FVec Ideal S4608x1024 .f32) : FVec Ideal S4608x1024 .f32 :=
  addf (Host.dotGeneral dot_S4608x1024_S1024x1024_S4608x1024_1_0_0_1_n_n none s w) (broadcastInDim S4608x1024 ![0, 1] bcast_S1x1024_S4608x1024_0_1 (broadcastInDim S1x1024 ![1] bcast_S1024_S1x1024_1 b))

theorem refOut_apply (s : FVec Ideal S4608x1024 .f32) (t : Fin 4608) (k : Fin 1024) :
    refOut w b s (ix2 t k) = linear w b (fun j => s (ix2 t j)) k := by
  unfold refOut linear
  pointwise

/-- The residual stream, as printed, of the sublayer's output `o`. -/
abbrev refResid (o : FVec Ideal S4608x1024 .f32) : FVec Ideal S4608x1024 .f32 :=
  addf (mulf (broadcastInDim S4608x1024 ![] bcast_S_S4608x1024 (constant S_ .f32 0x3FD744FD#32)) x) (mulf (extractStridedSlice S4608x1024 ![0, 2048] (refTable v) slices_S4608x6144_S4608x1024_0_2048) o)

theorem refResid_apply (o : FVec Ideal S4608x1024 .f32) (t : Fin 4608) (k : Fin 1024) :
    refResid x v o (ix2 t k) = resid x v (fun j => o (ix2 t j)) t k := by
  unfold resid
  rw [← refTable_apply]
  unfold refResid
  generalize refTable v = y
  pointwise

end

end Cert.Glu

end
-- ==== Proof.Glu.Results.lean ====
/- The references' outputs composed: each printed result at an index is the formula of the arguments. -/
module

public import proofs.«01_k».proof.Proof.Glu.Reference
public import proofs.«01_k».proof.Proof.Gen.Reference20Ideal.Run

@[expose] public section

noncomputable section

namespace Cert.Glu

open Idealize.ShloMosaic
open Cert.Fwd (refNorm refNorm_rows layerNorm)
open scoped BigOperators

/-! ## The first linear layer and its gated unit -/

section
open Cert.Reference14Ideal

variable (x : FVec Ideal S4608x1024 .f32) (v : FVec Ideal S2x8x6144 .f32) (w : FVec Ideal S1024x2048 .f32) (b : FVec Ideal S2048 .f32)

theorem refPre_mod (t : Fin 4608) (f : Fin 2048) : refPre w b (refMod x v) (ix2 t f) = linear w b (modulated x v t) f :=
  (refPre_apply w b _ t f).trans (congrArg (fun z => linear w b z f) (funext fun k => refMod_apply x v t k))

theorem refGated_mod (t : Fin 4608) (k : Fin 1024) : refGated (refPre w b (refMod x v)) (ix2 t k) = gated (linear w b (modulated x v t)) k :=
  (refGated_apply _ t k).trans (congrArg (fun p => gated p k) (funext fun f => refPre_mod x v w b t f))

end

/-! ## The second linear layer, the residual stream and its normalisation -/

section
open Cert.Reference16Ideal

variable (s x : FVec Ideal S4608x1024 .f32) (v : FVec Ideal S2x8x6144 .f32) (w : FVec Ideal S1024x1024 .f32) (b g nb : FVec Ideal S1024 .f32)

theorem refResid_out (t : Fin 4608) (k : Fin 1024) :
    refResid x v (refOut w b s) (ix2 t k) = resid x v (linear w b (fun j => s (ix2 t j))) t k :=
  (refResid_apply x v _ t k).trans (congrArg (fun o => resid x v o t k) (funext fun j => refOut_apply w b s t j))

theorem refNorm_out (t : Fin 4608) (k : Fin 1024) :
    refNorm g nb (refResid x v (refOut w b s)) (ix2 t k) = layerNorm g nb (resid x v (linear w b (fun j => s (ix2 t j))) t) k :=
  (refNorm_rows g nb _ t k).trans (congrArg (fun y => layerNorm g nb y k) (funext fun j => refResid_out s x v w b t j))

end

/-! ## The state-space layer's output -/

section
open Cert.Reference20Ideal Cert.Reference20Ideal.Gen

variable (x : FVec Ideal S4608x1024 .f32) (y : FVec Ideal S2x4608x1024 .f32) (v : FVec Ideal S2x8x6144 .f32) (ds : FVec Ideal S1024 .f32)
  (w : FVec Ideal S1024x2048 .f32) (b : FVec Ideal S2048 .f32) (g nb : FVec Ideal S1024 .f32)

/-- The state space model's output, as printed. -/
abbrev refSkip : FVec Ideal S4608x1024 .f32 :=
  addf (addf (mulf (broadcastInDim S4608x1024 ![0, 1] bcast_S1x1024_S4608x1024_0_1 (broadcastInDim S1x1024 ![1] bcast_S1024_S1x1024_1 ds)) (refMod x v)) (shapeCast S4608x1024 (extractStridedSlice S1x4608x1024 ![0, 0, 0] y slices_S2x4608x1024_S1x4608x1024_0_0_0) shapeCasts_S1x4608x1024_S4608x1024)) (shapeCast S4608x1024 (extractStridedSlice S1x4608x1024 ![1, 0, 0] y slices_S2x4608x1024_S1x4608x1024_1_0_0) shapeCasts_S1x4608x1024_S4608x1024)

theorem refSkip_apply (t : Fin 4608) (k : Fin 1024) : refSkip x y v ds (ix2 t k) = skipped x v ds y t k := by
  unfold skipped
  rw [← refMod_apply]
  unfold refSkip
  generalize refMod x v = z
  pointwise

/-- The Gaussian error linear unit, as printed: by the complementary error function of the negated argument. -/
abbrev refGelu (h : FVec Ideal S4608x1024 .f32) : FVec Ideal S4608x1024 .f32 :=
  mulf (mulf (broadcastInDim S4608x1024 ![] bcast_S_S4608x1024 (constant S_ .f32 0x3F000000#32)) h) (Host.erfc (mulf (Host.negf h) (broadcastInDim S4608x1024 ![] bcast_S_S4608x1024 (constant S_ .f32 0x3F3504F3#32))))

theorem refGelu_apply (h : FVec Ideal S4608x1024 .f32) (t : Fin 4608) (k : Fin 1024) : refGelu h (ix2 t k) = gelu (h (ix2 t k)) := by
  unfold refGelu gelu
  rw [← Ideal.erfc_neg, ← neg_mul]
  pointwise

theorem refGelu_skip (t : Fin 4608) (k : Fin 1024) : refGelu (refSkip x y v ds) (ix2 t k) = gelu (skipped x v ds y t k) := by
  rw [refGelu_apply, refSkip_apply]

theorem refPre_gelu (t : Fin 4608) (f : Fin 2048) :
    refPre w b (refGelu (refSkip x y v ds)) (ix2 t f) = linear w b (fun j => gelu (skipped x v ds y t j)) f :=
  (refPre_apply w b _ t f).trans (congrArg (fun z => linear w b z f) (funext fun k => refGelu_skip x y v ds t k))

theorem refGated_gelu (t : Fin 4608) (k : Fin 1024) :
    refGated (refPre w b (refGelu (refSkip x y v ds))) (ix2 t k) = gated (linear w b (fun j => gelu (skipped x v ds y t j))) k :=
  (refGated_apply _ t k).trans (congrArg (fun p => gated p k) (funext fun f => refPre_gelu x y v ds w b t f))

theorem refResid_gated (t : Fin 4608) (k : Fin 1024) :
    refResid x v (refGated (refPre w b (refGelu (refSkip x y v ds)))) (ix2 t k)
      = resid x v (gated (linear w b (fun j => gelu (skipped x v ds y t j)))) t k :=
  (refResid_apply x v _ t k).trans (congrArg (fun o => resid x v o t k) (funext fun j => refGated_gelu x y v ds w b t j))

theorem refNorm_gated (t : Fin 4608) (k : Fin 1024) :
    refNorm g nb (refResid x v (refGated (refPre w b (refGelu (refSkip x y v ds))))) (ix2 t k)
      = layerNorm g nb (resid x v (gated (linear w b (fun j => gelu (skipped x v ds y t j)))) t) k :=
  (refNorm_rows g nb _ t k).trans (congrArg (fun z => layerNorm g nb z k) (funext fun j => refResid_gated x y v ds w b t j))

end

end Cert.Glu

end
-- ==== Proof.Glu.Pw1Equation.lean ====
/- The gated unit kernels and the reference compute the same three arrays. -/
module

public import proofs.«01_k».proof.Defs
public import proofs.«01_k».proof.Proof.Glu.Pw1
public import proofs.«01_k».proof.Proof.Glu.Pw1Late
public import proofs.«01_k».proof.Proof.Glu.Results
public import proofs.«01_k».proof.Proof.Late.Equation
public import proofs.«01_k».proof.Proof.Gen.On_latent_rows15

@[expose] public section

noncomputable section

open Idealize.ShloMosaic Idealize.ShloMosaic.TcCoe Idealize.SL.Sem Cert.Glu
open Cert.Late (latent_of_bit)
open scoped BigOperators

/-- The first layers' kernel leaves the reference's arrays. -/
theorem Cert.GluPw1.algebraic : Cert.algebraic_Kernel14Ideal_Reference14Ideal := by
  intro m g m' g' _ hargs
  refine ⟨_, _, _, Cert.GluPw1.run m g, ?_⟩
  refine (θ_run Cert.Reference14Ideal.defs _ _).mono (fun r h c => ?_) (Cert.Reference14Ideal.Value.run (F := Ideal) m' g')
  obtain ⟨h0, h1, h2, hk⟩ := h c
  obtain ⟨e0, e1, e2, e3⟩ := hargs c
  refine ⟨h0.trans ?_, h1.trans ?_, h2.trans ?_, hk⟩
  · rw [e0, e1, e2, e3]
    funext i
    obtain ⟨t, f, rfl⟩ : ∃ t f, i = ix2 t f := ⟨i 0, i 1, eq_ix2 i⟩
    exact (refPre_mod _ _ _ _ t f).trans (Cert.GluPw1.final4 m c t f).symm
  · unfold Cert.Reference14Ideal.Value.res_main_v34
    rw [e0, e1, e2, e3]
    funext i
    obtain ⟨t, k, rfl⟩ : ∃ t k, i = ix2 t k := ⟨i 0, i 1, eq_ix2 i⟩
    exact (refGated_mod _ _ _ _ t k).trans (Cert.GluPw1.final5 m c t k).symm
  · rw [e0, e1]
    funext i
    obtain ⟨t, k, rfl⟩ : ∃ t k, i = ix2 t k := ⟨i 0, i 1, eq_ix2 i⟩
    exact (refMod_apply _ _ t k).trans (Cert.GluPw1.final6 m c t k).symm

/-- The later layers' kernel leaves the reference's arrays on the latent tokens' rows. -/
theorem Cert.GluPw1Late.algebraic : Cert.algebraic_Kernel15Ideal_Reference14Ideal_on_latent_rows15 := by
  intro m g m' g' _ hargs
  refine ⟨fun c => (Cert.Kernel15Ideal.Gen.dats m 0 c).arrAt 4 Cert.Kernel15Ideal.cfg0.N,
    fun c => (Cert.Kernel15Ideal.Gen.dats m 0 c).arrAt 5 Cert.Kernel15Ideal.cfg0.N,
    fun c => (Cert.Kernel15Ideal.Gen.dats m 0 c).arrAt 6 Cert.Kernel15Ideal.cfg0.N, ?_, ?_⟩
  · refine (θ_run Cert.Kernel15Ideal.defs _ _).mono (fun r h c => ?_) (Cert.GluPw1Late.run m g)
    obtain ⟨h0, h1, h2, hk⟩ := h c
    exact ⟨fun i _ => congrFun h0 i, fun i _ => congrFun h1 i, fun i _ => congrFun h2 i, hk⟩
  · refine (θ_run Cert.Reference14Ideal.defs _ _).mono (fun r h c => ?_) (Cert.Reference14Ideal.Value.run (F := Ideal) m' g')
    obtain ⟨h0, h1, h2, hk⟩ := h c
    obtain ⟨e0, e1, e2, e3⟩ := hargs c
    refine ⟨fun i hi => (congrFun h0 i).trans ?_, fun i hi => (congrFun h1 i).trans ?_, fun i hi => (congrFun h2 i).trans ?_, hk⟩
    · rw [e0, e1, e2, e3]
      obtain ⟨t, f, rfl⟩ : ∃ t f, i = ix2 t f := ⟨i 0, i 1, eq_ix2 i⟩
      exact (refPre_mod _ _ _ _ t f).trans (Cert.GluPw1Late.final4 m c t (latent_of_bit t hi) f).symm
    · unfold Cert.Reference14Ideal.Value.res_main_v34
      rw [e0, e1, e2, e3]
      obtain ⟨t, k, rfl⟩ : ∃ t k, i = ix2 t k := ⟨i 0, i 1, eq_ix2 i⟩
      exact (refGated_mod _ _ _ _ t k).trans (Cert.GluPw1Late.final5 m c t (latent_of_bit t hi) k).symm
    · rw [e0, e1]
      obtain ⟨t, k, rfl⟩ : ∃ t k, i = ix2 t k := ⟨i 0, i 1, eq_ix2 i⟩
      exact (refMod_apply _ _ t k).trans (Cert.GluPw1Late.final6 m c t (latent_of_bit t hi) k).symm

end
-- ==== Proof.Glu.Pw2Block.lean ====
/- What one tile of 512 tokens of the second linear layer's kernel leaves in its outputs. -/
module

public import proofs.«01_k».proof.Proof.Glu.Spec
public import proofs.«01_k».proof.Proof.Fwd.Block
public import proofs.«01_k».proof.Proof.Gen.Kernel16Ideal.Value
public import Idealize.ShloMosaic.Lib.Pointwise
public import Idealize.ShloMosaic.Lib.Pipeline.ValueKit

@[expose] public section

noncomputable section

namespace Cert.GluPw2

open Idealize.ShloMosaic Cert.Mlp Cert.Glu Cert.Kernel16Ideal Cert.Kernel16Ideal.Gen
open Cert.Fwd (Mods Row modAt layerNorm whole_ld row_ld mod_ld)
open scoped BigOperators

/-! ## What the body computes of the values it loads -/

/-- The product of 256 of the rows' columns, from column `o` on, with a shard of the weight. -/
theorem shardPay_apply (h : FVec Ideal S512x1024 .bf16) (w : FVec Ideal S1x1x256x1024 .bf16) (o : ℕ) (hs) (r : Fin 512) (k : Fin 1024)
    (ho : o + 256 ≤ 1024) :
    matmul dot_S512x256_S256x1024_S512x1024_1_0_0_1_n_n none
        (extractStridedSlice S512x256 ![0, o] (shapeCast S512x1024 h shapeCasts_S512x1024_S512x1024) hs : FVec Ideal S512x256 .bf16)
        (shapeCast S256x1024 w shapeCasts_S1x1x256x1024_S256x1024) (constant S512x1024 .f32 0x00000000#32) (ix2 r k)
      = ∑ j : Fin 256, h (ix2 r ⟨o + j.val, by omega⟩) * w (ix4 0 0 j k) := by
  pointwise

/-- The linear layer: its bias, and one shard's product after another. -/
theorem linearPay_apply (h : FVec Ideal S512x1024 .bf16) (b : Vec Ideal S1x1024 .f32) (w0 w1 w2 w3 : Vec Ideal S1x1x256x1024 .bf16)
    (w : Mat 1024 1024)
    (e0 : ∀ (j : Fin 256) (k : Fin 1024), w0 (ix4 0 0 j k) = w (ix2 ⟨0 * 256 + j.val, by omega⟩ k))
    (e1 : ∀ (j : Fin 256) (k : Fin 1024), w1 (ix4 0 0 j k) = w (ix2 ⟨1 * 256 + j.val, by omega⟩ k))
    (e2 : ∀ (j : Fin 256) (k : Fin 1024), w2 (ix4 0 0 j k) = w (ix2 ⟨2 * 256 + j.val, by omega⟩ k))
    (e3 : ∀ (j : Fin 256) (k : Fin 1024), w3 (ix4 0 0 j k) = w (ix2 ⟨3 * 256 + j.val, by omega⟩ k)) (r : Fin 512) (k : Fin 1024) :
    k0_pay4 h b w0 w1 w2 w3 (ix2 r k) = linear w (fun i => b (ix2 0 (i 0))) (fun j => h (ix2 r j)) k := by
  have hb : (broadcastTo S512x1024 (shapeCast S1x1024 b shapeCasts_S1x1024_S1x1024) broadcasts_S1x1024_S512x1024 : FVec Ideal S512x1024 .f32) (ix2 r k)
      = b (ix2 0 k) := by pointwise
  have hz : (broadcast S512x1024 (Scalar.ofBits .f32 0x00000000#32) : FVec Ideal S512x1024 .f32) (ix2 r k) = 0 := by pointwise
  unfold k0_pay4 linear
  dsimp only
  simp only [addf, Ideal.addf_def, hb, hz]
  rw [shardPay_apply h w0 0 _ r k (by omega), shardPay_apply h w1 256 _ r k (by omega), shardPay_apply h w2 512 _ r k (by omega),
    shardPay_apply h w3 768 _ r k (by omega), ← Fin.sum_mul_add_fin (S := 4) (n := 256) (fun j => h (ix2 r j) * w (ix2 j k)), Fin.sum_univ_four]
  simp only [e0, e1, e2, e3]
  rw [add_zero]
  refine Eq.trans ?_ (add_comm (b (ix2 0 k)) _)
  simp only [← add_assoc]
  rfl

/-- The residual stream. -/
theorem residPay_apply (o a : FVec Ideal S512x1024 .f32) (gate : Vec Ideal S1x8x1024 .f32) (r : Fin 512) (k : Fin 1024) :
    k0_pay1 o a gate (ix2 r k) = a (ix2 r k) + o (ix2 r k) * gate (ix3 0 ⟨r.val % 8, by omega⟩ k) := by
  unfold k0_pay1
  pointwise

/-- The weighted input. -/
theorem weightedPay_apply (x : Vec Ideal S512x1024 .f32) (r : Fin 512) (k : Fin 1024) :
    k0_pay5 x (ix2 r k) = Ideal.ofBits .f32 0x3FD744FD#32 * x (ix2 r k) := by
  unfold k0_pay5
  pointwise

/-- The normalised residual stream. -/
theorem normPay_apply (o a : FVec Ideal S512x1024 .f32) (gate : Vec Ideal S1x8x1024 .f32) (g b : Vec Ideal S1x1024 .f32) (r : Fin 512) (k : Fin 1024) :
    k0_pay2 o a gate g b (ix2 r k)
      = layerNorm (fun i => g (ix2 0 (i 0))) (fun i => b (ix2 0 (i 0))) (fun j => k0_pay1 o a gate (ix2 r j)) k := by
  unfold k0_pay2
  generalize k0_pay1 o a gate = y
  pointwise
  rfl

/-! ## Loads -/

/-- A block of rounded rows loaded whole. -/
theorem rounded_ld (x : Vec Ideal S512x1024 .bf16) : View.ld x r0_0 = x :=
  funext fun i => congrArg x (funext fun q => Fin.ext (by
    match q with
    | ⟨0, _⟩ => show 0 + 1 * (i 0).val = (i 0).val; omega
    | ⟨1, _⟩ => show 0 + 1 * (i 1).val = (i 1).val; omega))

/-- A row shard of the weight read through the rectangle that loads it. -/
theorem rowShard_ld (x : Vec Ideal S4x1x256x1024 .bf16) (s : Fin 4) (inb) (j : Fin 256) (k : Fin 1024) :
    View.ld x (Rect.unit (s := S4x1x256x1024) ![s.val, 0, 0, 0] S1x1x256x1024.size inb) (ix4 0 0 j k) = x (ix4 s 0 j k) := by
  refine congrArg x (funext fun q => Fin.ext ?_)
  match q with
  | ⟨0, _⟩ => show s.val + 1 * 0 = s.val; omega
  | ⟨1, _⟩ => rfl
  | ⟨2, _⟩ => show 0 + 1 * j.val = j.val; omega
  | ⟨3, _⟩ => show 0 + 1 * k.val = k.val; omega

/-! ## The tile -/

/-- The blocks hold the rows `row r` of the layer's input, of the tokens and of the modulation table, the weight's row shards, and the
biases and the gain. -/
structure IsPw2 (s x : Mat 4608 1024) (v : Mods) (w : Mat 1024 1024) (b g nb : Row) (row : Fin 512 → Fin 4608)
    (x0 : Vec Ideal S512x1024 .bf16) (x1 : Vec Ideal S512x1024 .f32) (x2 : Vec Ideal S1x8x6144 .f32) (x3 : Vec Ideal S4x1x256x1024 .bf16)
    (x4 x5 x6 : Vec Ideal S1x1024 .f32) : Prop where
  inner : ∀ r k, x0 (ix2 r k) = s (ix2 (row r) k)
  rows : ∀ r k, x1 (ix2 r k) = x (ix2 (row r) k)
  mods : ∀ (r : Fin 512) (o : Fin 6144), x2 (ix3 0 ⟨r.val % 8, by omega⟩ o) = modAt v (row r) o
  shards : ∀ (q : Fin 4) (j : Fin 256) (k : Fin 1024), x3 (ix4 q 0 j k) = w (ix2 ⟨q.val * 256 + j.val, by omega⟩ k)
  layerBias : ∀ k, x4 (ix2 0 k) = b (ix1 k)
  gain : ∀ k, x5 (ix2 0 k) = g (ix1 k)
  normBias : ∀ k, x6 (ix2 0 k) = nb (ix1 k)

variable {s x : Mat 4608 1024} {v : Mods} {w : Mat 1024 1024} {b g nb : Row} {row : Fin 512 → Fin 4608}
  {x0 : Vec Ideal S512x1024 .bf16} {x1 : Vec Ideal S512x1024 .f32} {x2 : Vec Ideal S1x8x6144 .f32} {x3 : Vec Ideal S4x1x256x1024 .bf16}
  {x4 x5 x6 : Vec Ideal S1x1024 .f32} (ht : IsPw2 s x v w b g nb row x0 x1 x2 x3 x4 x5 x6)

/-- A one-row block of a vector is the vector. -/
theorem row_eq {z : Vec Ideal S1x1024 .f32} {y : Row} (h : ∀ k, z (ix2 0 k) = y (ix1 k)) : (fun i => z (ix2 0 (i 0)) : Row) = y :=
  funext fun i => (h (i 0)).trans (congrArg y (eq_ix1 i).symm)

include ht

/-- The linear layer. -/
theorem pw2_linear (r : Fin 512) (k : Fin 1024) :
    k0_pay6 x0 x1 x2 x3 x4 x5 x6 (ix2 r k) = linear w b (fun j => s (ix2 (row r) j)) k := by
  have hs : ∀ (q : Fin 4) (inb) (j : Fin 256) (k : Fin 1024),
      View.ld x3 (Rect.unit (s := S4x1x256x1024) ![q.val, 0, 0, 0] S1x1x256x1024.size inb) (ix4 0 0 j k) = w (ix2 ⟨q.val * 256 + j.val, by omega⟩ k) :=
    fun q inb j k => (rowShard_ld x3 q inb j k).trans (ht.shards q j k)
  unfold k0_pay6
  refine (linearPay_apply _ _ _ _ _ _ w (hs 0 _) (hs 1 _) (hs 2 _) (hs 3 _) r k).trans ?_
  rw [row_ld, rounded_ld, row_eq ht.layerBias]
  exact congrArg (fun z => linear w b z k) (funext fun j => ht.inner r j)

theorem pw2_resid (r : Fin 512) (k : Fin 1024) :
    k0_pay1 (k0_pay6 x0 x1 x2 x3 x4 x5 x6) (k0_pay7 x0 x1 x2 x3 x4 x5 x6) (View.ld x2 r0_6) (ix2 r k)
      = resid x v (linear w b (fun j => s (ix2 (row r) j))) (row r) k := by
  rw [residPay_apply, pw2_linear ht, mod_ld x2 2048 _ _ k (by omega), ht.mods]
  unfold k0_pay7 resid
  rw [weightedPay_apply, whole_ld, ht.rows, mul_comm (linear w b _ k)]

/-! ## The three outputs -/

theorem pw2_out7 (r : Fin 512) (k : Fin 1024) :
    out0_7 x0 x1 x2 x3 x4 x5 x6 (ix2 r k) = layerNorm g nb (resid x v (linear w b (fun j => s (ix2 (row r) j))) (row r)) k := by
  unfold out0_7
  rw [View.canon_unit_zero (funext fun a => by fin_cases a <;> rfl), normPay_apply, row_ld, row_ld, row_eq ht.gain, row_eq ht.normBias]
  exact congrArg (fun z => layerNorm g nb z k) (funext fun j => pw2_resid ht r j)

theorem pw2_out8 (r : Fin 512) (k : Fin 1024) :
    out0_8 x0 x1 x2 x3 x4 x5 x6 (ix2 r k) = resid x v (linear w b (fun j => s (ix2 (row r) j))) (row r) k := by
  unfold out0_8
  rw [View.canon_unit_zero (funext fun a => by fin_cases a <;> rfl)]
  exact pw2_resid ht r k

theorem pw2_out9 (r : Fin 512) (k : Fin 1024) :
    out0_9 x0 x1 x2 x3 x4 x5 x6 (ix2 r k) = linear w b (fun j => s (ix2 (row r) j)) k := by
  unfold out0_9
  rw [View.canon_unit_zero (funext fun a => by fin_cases a <;> rfl)]
  exact pw2_linear ht r k

end Cert.GluPw2

end
-- ==== Proof.Glu.Pw2.lean ====
/- What the first layers' second-linear-layer kernel leaves in its three result arrays. -/
module

public import proofs.«01_k».proof.Proof.Glu.Pw2Block
public import proofs.«01_k».proof.Proof.Glu.Host
public import Idealize.ShloMosaic.Lib.StableHlo.Run

@[expose] public section

noncomputable section

namespace Cert.GluPw2

open Idealize.ShloMosaic Idealize.ShloMosaic.TcCoe Idealize.SL.Sem Cert.Kernel16Ideal Cert.Kernel16Ideal.Gen Cert.Glu
open Cert.Fwd (modAt stream layerNorm)
open scoped BigOperators

variable (m : (ℓ : Loc nD τ sig) → Buf (Elt Ideal) ℓ) (c : Dev nD)

/-- The launch contents of the arguments. -/
abbrev argS : FVec Ideal S4608x1024 .f32 := m ((c : Thread nD τ).loc main_arg0)
abbrev argX : FVec Ideal S4608x1024 .f32 := m ((c : Thread nD τ).loc main_arg1)
abbrev argV : FVec Ideal S2x8x6144 .f32 := m ((c : Thread nD τ).loc main_arg2)
abbrev argW : FVec Ideal S1024x1024 .f32 := m ((c : Thread nD τ).loc main_arg3)
abbrev argB : FVec Ideal S1024 .f32 := m ((c : Thread nD τ).loc main_arg4)
abbrev argGain : FVec Ideal S1024 .f32 := m ((c : Thread nD τ).loc main_arg5)
abbrev argBias : FVec Ideal S1024 .f32 := m ((c : Thread nD τ).loc main_arg6)

/-! ## What the host lays out -/

/-- The rows rounded, which changes no extended real. -/
theorem rounded_eq : (V m c main_v2 : FVec Ideal S4608x1024 .bf16) = truncf .bf16 (argS m c) bitsLt_bf16_f32 := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results

theorem family_eq : (V m c main_v1 : FVec Ideal S4x1x256x1024 .bf16) = rowShards (argW m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem layerBias_eq : (V m c main_v3 : FVec Ideal S1x1024 .f32) = broadcastInDim S1x1024 ![1] bcast_S1024_S1x1024_1 (argB m c) := by
  unfold V
  after_results

theorem gain_eq : (V m c main_v4 : FVec Ideal S1x1024 .f32) = broadcastInDim S1x1024 ![1] bcast_S1024_S1x1024_1 (argGain m c) := by
  unfold V
  after_results

theorem normBias_eq : (V m c main_v5 : FVec Ideal S1x1024 .f32) = broadcastInDim S1x1024 ![1] bcast_S1024_S1x1024_1 (argBias m c) := by
  unfold V
  after_results

/-! ## The windows' block indices: the first tile's modulation is the context's, the others' the latents'. -/

theorem idxTok : ∀ t : Fin cfg0.N, win0_0.index t = ![t.val, 0] ∧ win0_1.index t = ![t.val, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_7.index t = ![t.val, 0] ∧ win0_8.index t = ![t.val, 0] ∧ win0_9.index t = ![t.val, 0])

theorem idxMod : ∀ t : Fin cfg0.N, win0_2.index t = ![if t.val = 0 then 0 else 1, 0, 0] :=
  (by decide +kernel : ∀ t : Fin grid0.N, win0_2.index t = ![if t.val = 0 then 0 else 1, 0, 0])

theorem idxW : ∀ t : Fin cfg0.N, win0_3.index t = ![0, 0, 0, 0] ∧ win0_4.index t = ![0, 0] ∧ win0_5.index t = ![0, 0] ∧ win0_6.index t = ![0, 0] :=
  (by decide +kernel : ∀ t : Fin grid0.N, win0_3.index t = ![0, 0, 0, 0] ∧ win0_4.index t = ![0, 0] ∧ win0_5.index t = ![0, 0] ∧ win0_6.index t = ![0, 0])

/-- Row `r` of point `t`'s tile. -/
def row (t : Fin cfg0.N) (r : Fin 512) : Fin 4608 :=
  ⟨t.val * 512 + r.val, by have h : t.val < 9 := lt_of_lt_of_eq t.isLt (by decide); omega⟩

/-- The stream of a point's rows. -/
theorem stream_row (t : Fin cfg0.N) (r : Fin 512) : stream (row t r) = ⟨if t.val = 0 then 0 else 1, by split <;> decide⟩ := by
  unfold stream
  refine Fin.ext ?_
  show ((if t.val * 512 + r.val < 512 then 0 else 1 : Fin 2)).val = if t.val = 0 then 0 else 1
  split <;> split <;> first | rfl | omega

/-! ## The blocks -/

theorem block0 (t : Fin cfg0.N) (r : Fin 512) (k : Fin 1024) : (iblk m c 0 t : FVec Ideal S512x1024 .bf16) (ix2 r k) = argS m c (ix2 (row t r) k) := by
  show _ = truncf .bf16 (argS m c) bitsLt_bf16_f32 (ix2 (row t r) k)
  rw [← rounded_eq]
  unfold iblk; rw [View.read_apply]
  show V m c main_v2 _ = _
  refine congrArg (V m c main_v2) ?_
  blk_ext [(idxTok t).1, row]

theorem block1 (t : Fin cfg0.N) (r : Fin 512) (k : Fin 1024) : (iblk m c 1 t : FVec Ideal S512x1024 .f32) (ix2 r k) = argX m c (ix2 (row t r) k) := by
  show _ = m ((c : Thread nD τ).loc main_arg1) _
  rw [← V_main_arg1 m c]
  unfold iblk; rw [View.read_apply]
  show V m c main_arg1 _ = _
  refine congrArg (V m c main_arg1) ?_
  blk_ext [(idxTok t).2.1, row]

theorem block2 (t : Fin cfg0.N) (r : Fin 512) (o : Fin 6144) :
    (iblk m c 2 t : FVec Ideal S1x8x6144 .f32) (ix3 0 ⟨r.val % 8, by omega⟩ o) = modAt (argV m c) (row t r) o := by
  unfold modAt
  rw [stream_row]
  show _ = m ((c : Thread nD τ).loc main_arg2) _
  rw [← V_main_arg2 m c]
  unfold iblk; rw [View.read_apply]
  show V m c main_arg2 _ = _
  refine congrArg (V m c main_arg2) ?_
  blk_ext [idxMod t, row]

theorem block3 (t : Fin cfg0.N) (s : Fin 4) (j : Fin 256) (k : Fin 1024) :
    (iblk m c 3 t : FVec Ideal S4x1x256x1024 .bf16) (ix4 s 0 j k) = argW m c (ix2 ⟨s.val * 256 + j.val, by omega⟩ k) := by
  rw [← rowShards_apply (argW m c), ← family_eq]
  unfold iblk; rw [View.read_apply]
  show V m c main_v1 _ = _
  refine congrArg (V m c main_v1) ?_
  blk_ext [(idxW t).1]

theorem block4 (t : Fin cfg0.N) (k : Fin 1024) : (iblk m c 4 t : FVec Ideal S1x1024 .f32) (ix2 0 k) = argB m c (ix1 k) := by
  refine Eq.trans ?_ ((congrFun (layerBias_eq m c) (ix2 0 k)).trans (by pointwise))
  unfold iblk; rw [View.read_apply]
  show V m c main_v3 _ = _
  refine congrArg (V m c main_v3) ?_
  blk_ext [(idxW t).2.1]

theorem block5 (t : Fin cfg0.N) (k : Fin 1024) : (iblk m c 5 t : FVec Ideal S1x1024 .f32) (ix2 0 k) = argGain m c (ix1 k) := by
  refine Eq.trans ?_ ((congrFun (gain_eq m c) (ix2 0 k)).trans (by pointwise))
  unfold iblk; rw [View.read_apply]
  show V m c main_v4 _ = _
  refine congrArg (V m c main_v4) ?_
  blk_ext [(idxW t).2.2.1]

theorem block6 (t : Fin cfg0.N) (k : Fin 1024) : (iblk m c 6 t : FVec Ideal S1x1024 .f32) (ix2 0 k) = argBias m c (ix1 k) := by
  refine Eq.trans ?_ ((congrFun (normBias_eq m c) (ix2 0 k)).trans (by pointwise))
  unfold iblk; rw [View.read_apply]
  show V m c main_v5 _ = _
  refine congrArg (V m c main_v5) ?_
  blk_ext [(idxW t).2.2.2]

/-- The blocks of a point are a tile of the arguments. -/
theorem isTile (t : Fin cfg0.N) : IsPw2 (argS m c) (argX m c) (argV m c) (argW m c) (argB m c) (argGain m c) (argBias m c) (row t)
    (iblk m c 0 t) (iblk m c 1 t) (iblk m c 2 t) (iblk m c 3 t) (iblk m c 4 t) (iblk m c 5 t) (iblk m c 6 t) :=
  ⟨block0 m c t, block1 m c t, block2 m c t, block3 m c t, block4 m c t, block5 m c t, block6 m c t⟩

/-! ## The arrays -/

theorem final7 (t : Fin 4608) (k : Fin 1024) : ((dats m 0 c).arrAt 7 cfg0.N : FVec Ideal S4608x1024 .f32) (ix2 t k)
    = layerNorm (argGain m c) (argBias m c) (resid (argX m c) (argV m c) (linear (argW m c) (argB m c) (fun j => argS m c (ix2 t j))) t) k := by
  have h : (dats m 0 c).arrAt 7 cfg0.N
      = (fun i => layerNorm (argGain m c) (argBias m c) (resid (argX m c) (argV m c) (linear (argW m c) (argB m c) (fun j => argS m c (ix2 (i 0) j))) (i 0)) (i 1) : FVec Ideal S4608x1024 .f32) := by
    refine (dats m 0 c).arrAt_eq_of_covers 7 _ (by decide +kernel) fun t hf y => ?_
    blk_simp
    rw [after0_7]
    obtain ⟨r, k, rfl⟩ : ∃ r k, y = ix2 r k := ⟨y 0, y 1, (eq_ix2 y)⟩
    have e : (win0_7.blk t).view.emb (ix2 r k) = ix2 (row t r) k := by blk_ext [(idxTok t).2.2.1, row]
    rw [e]
    exact pw2_out7 (isTile m c t) r k
  rw [h]; rfl

theorem final8 (t : Fin 4608) (k : Fin 1024) : ((dats m 0 c).arrAt 8 cfg0.N : FVec Ideal S4608x1024 .f32) (ix2 t k)
    = resid (argX m c) (argV m c) (linear (argW m c) (argB m c) (fun j => argS m c (ix2 t j))) t k := by
  have h : (dats m 0 c).arrAt 8 cfg0.N
      = (fun i => resid (argX m c) (argV m c) (linear (argW m c) (argB m c) (fun j => argS m c (ix2 (i 0) j))) (i 0) (i 1) : FVec Ideal S4608x1024 .f32) := by
    refine (dats m 0 c).arrAt_eq_of_covers 8 _ (by decide +kernel) fun t hf y => ?_
    blk_simp
    rw [after0_8]
    obtain ⟨r, k, rfl⟩ : ∃ r k, y = ix2 r k := ⟨y 0, y 1, (eq_ix2 y)⟩
    have e : (win0_8.blk t).view.emb (ix2 r k) = ix2 (row t r) k := by blk_ext [(idxTok t).2.2.2.1, row]
    rw [e]
    exact pw2_out8 (isTile m c t) r k
  rw [h]; rfl

theorem final9 (t : Fin 4608) (k : Fin 1024) : ((dats m 0 c).arrAt 9 cfg0.N : FVec Ideal S4608x1024 .bf16) (ix2 t k)
    = linear (argW m c) (argB m c) (fun j => argS m c (ix2 t j)) k := by
  have h : (dats m 0 c).arrAt 9 cfg0.N
      = (fun i => linear (argW m c) (argB m c) (fun j => argS m c (ix2 (i 0) j)) (i 1) : FVec Ideal S4608x1024 .bf16) := by
    refine (dats m 0 c).arrAt_eq_of_covers 9 _ (by decide +kernel) fun t hf y => ?_
    blk_simp
    rw [after0_9]
    obtain ⟨r, k, rfl⟩ : ∃ r k, y = ix2 r k := ⟨y 0, y 1, (eq_ix2 y)⟩
    have e : (win0_9.blk t).view.emb (ix2 r k) = ix2 (row t r) k := by blk_ext [(idxTok t).2.2.2.2, row]
    rw [e]
    exact pw2_out9 (isTile m c t) r k
  rw [h]; rfl

end Cert.GluPw2

end
-- ==== Proof.Glu.Pw2Late.lean ====
/- What the later layers' second-linear-layer kernel leaves on the latent tokens' rows, the only rows it writes. -/
module

public import proofs.«01_k».proof.Proof.Glu.Pw2Block
public import proofs.«01_k».proof.Proof.Gen.Kernel17Ideal.Value
public import proofs.«01_k».proof.Proof.Glu.Host
public import Idealize.ShloMosaic.Lib.StableHlo.Run

@[expose] public section

noncomputable section

namespace Cert.GluPw2Late

open Idealize.ShloMosaic Idealize.ShloMosaic.TcCoe Idealize.SL.Sem Cert.Kernel17Ideal Cert.Kernel17Ideal.Gen Cert.Glu
open Cert.Fwd (modAt stream layerNorm)
open Cert.GluPw2 (IsPw2 pw2_out7 pw2_out8 pw2_out9)
open scoped BigOperators

variable (m : (ℓ : Loc nD τ sig) → Buf (Elt Ideal) ℓ) (c : Dev nD)

/-- The launch contents of the arguments. -/
abbrev argS : FVec Ideal S4608x1024 .f32 := m ((c : Thread nD τ).loc main_arg0)
abbrev argX : FVec Ideal S4608x1024 .f32 := m ((c : Thread nD τ).loc main_arg1)
abbrev argV : FVec Ideal S2x8x6144 .f32 := m ((c : Thread nD τ).loc main_arg2)
abbrev argW : FVec Ideal S1024x1024 .f32 := m ((c : Thread nD τ).loc main_arg3)
abbrev argB : FVec Ideal S1024 .f32 := m ((c : Thread nD τ).loc main_arg4)
abbrev argGain : FVec Ideal S1024 .f32 := m ((c : Thread nD τ).loc main_arg5)
abbrev argBias : FVec Ideal S1024 .f32 := m ((c : Thread nD τ).loc main_arg6)

/-! ## What the host lays out -/

/-- The rows rounded, which changes no extended real. -/
theorem rounded_eq : (V m c main_v2 : FVec Ideal S4608x1024 .bf16) = truncf .bf16 (argS m c) bitsLt_bf16_f32 := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results

theorem family_eq : (V m c main_v1 : FVec Ideal S4x1x256x1024 .bf16) = rowShards (argW m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem layerBias_eq : (V m c main_v3 : FVec Ideal S1x1024 .f32) = broadcastInDim S1x1024 ![1] bcast_S1024_S1x1024_1 (argB m c) := by
  unfold V
  after_results

theorem gain_eq : (V m c main_v4 : FVec Ideal S1x1024 .f32) = broadcastInDim S1x1024 ![1] bcast_S1024_S1x1024_1 (argGain m c) := by
  unfold V
  after_results

theorem normBias_eq : (V m c main_v5 : FVec Ideal S1x1024 .f32) = broadcastInDim S1x1024 ![1] bcast_S1024_S1x1024_1 (argBias m c) := by
  unfold V
  after_results

/-! ## The windows' block indices: the token windows skip the context's 512 rows, and the modulation is the latents'. -/

theorem idxTok : ∀ t : Fin cfg0.N, win0_0.index t = ![t.val + 1, 0] ∧ win0_1.index t = ![t.val + 1, 0] ∧ win0_7.index t = ![t.val + 1, 0] ∧ win0_8.index t = ![t.val + 1, 0] ∧ win0_9.index t = ![t.val + 1, 0] :=
  (by decide +kernel : ∀ t : Fin grid0.N, win0_0.index t = ![t.val + 1, 0] ∧ win0_1.index t = ![t.val + 1, 0] ∧ win0_7.index t = ![t.val + 1, 0] ∧ win0_8.index t = ![t.val + 1, 0] ∧ win0_9.index t = ![t.val + 1, 0])

theorem idxMod : ∀ t : Fin cfg0.N, win0_2.index t = ![1, 0, 0] :=
  (by decide +kernel : ∀ t : Fin grid0.N, win0_2.index t = ![1, 0, 0])

theorem idxW : ∀ t : Fin cfg0.N, win0_3.index t = ![0, 0, 0, 0] ∧ win0_4.index t = ![0, 0] ∧ win0_5.index t = ![0, 0] ∧ win0_6.index t = ![0, 0] :=
  (by decide +kernel : ∀ t : Fin grid0.N, win0_3.index t = ![0, 0, 0, 0] ∧ win0_4.index t = ![0, 0] ∧ win0_5.index t = ![0, 0] ∧ win0_6.index t = ![0, 0])

/-- Row `r` of point `t`'s tile. -/
def row (t : Fin cfg0.N) (r : Fin 512) : Fin 4608 :=
  ⟨(t.val + 1) * 512 + r.val, by have h : t.val < 8 := lt_of_lt_of_eq t.isLt (by decide); omega⟩

/-- The stream of a point's rows. -/
theorem stream_row (t : Fin cfg0.N) (r : Fin 512) : stream (row t r) = 1 := by
  unfold stream
  exact if_neg (by show ¬ (t.val + 1) * 512 + r.val < 512; omega)

/-! ## The blocks -/

theorem block0 (t : Fin cfg0.N) (r : Fin 512) (k : Fin 1024) : (iblk m c 0 t : FVec Ideal S512x1024 .bf16) (ix2 r k) = argS m c (ix2 (row t r) k) := by
  show _ = truncf .bf16 (argS m c) bitsLt_bf16_f32 (ix2 (row t r) k)
  rw [← rounded_eq]
  unfold iblk; rw [View.read_apply]
  show V m c main_v2 _ = _
  refine congrArg (V m c main_v2) ?_
  blk_ext [(idxTok t).1, row]

theorem block1 (t : Fin cfg0.N) (r : Fin 512) (k : Fin 1024) : (iblk m c 1 t : FVec Ideal S512x1024 .f32) (ix2 r k) = argX m c (ix2 (row t r) k) := by
  show _ = m ((c : Thread nD τ).loc main_arg1) _
  rw [← V_main_arg1 m c]
  unfold iblk; rw [View.read_apply]
  show V m c main_arg1 _ = _
  refine congrArg (V m c main_arg1) ?_
  blk_ext [(idxTok t).2.1, row]

theorem block2 (t : Fin cfg0.N) (r : Fin 512) (o : Fin 6144) :
    (iblk m c 2 t : FVec Ideal S1x8x6144 .f32) (ix3 0 ⟨r.val % 8, by omega⟩ o) = modAt (argV m c) (row t r) o := by
  unfold modAt
  rw [stream_row]
  show _ = m ((c : Thread nD τ).loc main_arg2) _
  rw [← V_main_arg2 m c]
  unfold iblk; rw [View.read_apply]
  show V m c main_arg2 _ = _
  refine congrArg (V m c main_arg2) ?_
  blk_ext [idxMod t, row]

theorem block3 (t : Fin cfg0.N) (s : Fin 4) (j : Fin 256) (k : Fin 1024) :
    (iblk m c 3 t : FVec Ideal S4x1x256x1024 .bf16) (ix4 s 0 j k) = argW m c (ix2 ⟨s.val * 256 + j.val, by omega⟩ k) := by
  rw [← rowShards_apply (argW m c), ← family_eq]
  unfold iblk; rw [View.read_apply]
  show V m c main_v1 _ = _
  refine congrArg (V m c main_v1) ?_
  blk_ext [(idxW t).1]

theorem block4 (t : Fin cfg0.N) (k : Fin 1024) : (iblk m c 4 t : FVec Ideal S1x1024 .f32) (ix2 0 k) = argB m c (ix1 k) := by
  refine Eq.trans ?_ ((congrFun (layerBias_eq m c) (ix2 0 k)).trans (by pointwise))
  unfold iblk; rw [View.read_apply]
  show V m c main_v3 _ = _
  refine congrArg (V m c main_v3) ?_
  blk_ext [(idxW t).2.1]

theorem block5 (t : Fin cfg0.N) (k : Fin 1024) : (iblk m c 5 t : FVec Ideal S1x1024 .f32) (ix2 0 k) = argGain m c (ix1 k) := by
  refine Eq.trans ?_ ((congrFun (gain_eq m c) (ix2 0 k)).trans (by pointwise))
  unfold iblk; rw [View.read_apply]
  show V m c main_v4 _ = _
  refine congrArg (V m c main_v4) ?_
  blk_ext [(idxW t).2.2.1]

theorem block6 (t : Fin cfg0.N) (k : Fin 1024) : (iblk m c 6 t : FVec Ideal S1x1024 .f32) (ix2 0 k) = argBias m c (ix1 k) := by
  refine Eq.trans ?_ ((congrFun (normBias_eq m c) (ix2 0 k)).trans (by pointwise))
  unfold iblk; rw [View.read_apply]
  show V m c main_v5 _ = _
  refine congrArg (V m c main_v5) ?_
  blk_ext [(idxW t).2.2.2]

/-- The blocks of a point are a tile of the arguments. -/
theorem isTile (t : Fin cfg0.N) : IsPw2 (argS m c) (argX m c) (argV m c) (argW m c) (argB m c) (argGain m c) (argBias m c) (row t)
    (iblk m c 0 t) (iblk m c 1 t) (iblk m c 2 t) (iblk m c 3 t) (iblk m c 4 t) (iblk m c 5 t) (iblk m c 6 t) :=
  ⟨block0 m c t, block1 m c t, block2 m c t, block3 m c t, block4 m c t, block5 m c t, block6 m c t⟩

/-! ## The arrays on the latent rows -/

theorem final7 (t : Fin 4608) (ht : 512 ≤ t.val) (k : Fin 1024) : ((dats m 0 c).arrAt 7 cfg0.N : FVec Ideal S4608x1024 .f32) (ix2 t k)
    = layerNorm (argGain m c) (argBias m c) (resid (argX m c) (argV m c) (linear (argW m c) (argB m c) (fun j => argS m c (ix2 t j))) t) k := by
  have h := (dats m 0 c).arrAt_emb_eq_of_coversWhere 7
    (fun i => layerNorm (argGain m c) (argBias m c) (resid (argX m c) (argV m c) (linear (argW m c) (argB m c) (fun j => argS m c (ix2 (i 0) j))) (i 0)) (i 1) : FVec Ideal S4608x1024 .f32)
    (fun β => 1 ≤ β (0 : Fin 2)) (by decide +kernel) (fun t hf y => by
      blk_simp
      rw [after0_7]
      obtain ⟨r, k, rfl⟩ : ∃ r k, y = ix2 r k := ⟨y 0, y 1, (eq_ix2 y)⟩
      have e : (win0_7.blk t).view.emb (ix2 r k) = ix2 (row t r) k := by blk_ext [(idxTok t).2.2.1, row]
      rw [e]
      exact pw2_out7 (isTile m c t) r k) (ix2 t k)
  refine h.trans (if_pos ?_)
  show 1 ≤ t.val / 512
  omega

theorem final8 (t : Fin 4608) (ht : 512 ≤ t.val) (k : Fin 1024) : ((dats m 0 c).arrAt 8 cfg0.N : FVec Ideal S4608x1024 .f32) (ix2 t k)
    = resid (argX m c) (argV m c) (linear (argW m c) (argB m c) (fun j => argS m c (ix2 t j))) t k := by
  have h := (dats m 0 c).arrAt_emb_eq_of_coversWhere 8
    (fun i => resid (argX m c) (argV m c) (linear (argW m c) (argB m c) (fun j => argS m c (ix2 (i 0) j))) (i 0) (i 1) : FVec Ideal S4608x1024 .f32)
    (fun β => 1 ≤ β (0 : Fin 2)) (by decide +kernel) (fun t hf y => by
      blk_simp
      rw [after0_8]
      obtain ⟨r, k, rfl⟩ : ∃ r k, y = ix2 r k := ⟨y 0, y 1, (eq_ix2 y)⟩
      have e : (win0_8.blk t).view.emb (ix2 r k) = ix2 (row t r) k := by blk_ext [(idxTok t).2.2.2.1, row]
      rw [e]
      exact pw2_out8 (isTile m c t) r k) (ix2 t k)
  refine h.trans (if_pos ?_)
  show 1 ≤ t.val / 512
  omega

theorem final9 (t : Fin 4608) (ht : 512 ≤ t.val) (k : Fin 1024) : ((dats m 0 c).arrAt 9 cfg0.N : FVec Ideal S4608x1024 .bf16) (ix2 t k)
    = linear (argW m c) (argB m c) (fun j => argS m c (ix2 t j)) k := by
  have h := (dats m 0 c).arrAt_emb_eq_of_coversWhere 9
    (fun i => linear (argW m c) (argB m c) (fun j => argS m c (ix2 (i 0) j)) (i 1) : FVec Ideal S4608x1024 .bf16)
    (fun β => 1 ≤ β (0 : Fin 2)) (by decide +kernel) (fun t hf y => by
      blk_simp
      rw [after0_9]
      obtain ⟨r, k, rfl⟩ : ∃ r k, y = ix2 r k := ⟨y 0, y 1, (eq_ix2 y)⟩
      have e : (win0_9.blk t).view.emb (ix2 r k) = ix2 (row t r) k := by blk_ext [(idxTok t).2.2.2.2, row]
      rw [e]
      exact pw2_out9 (isTile m c t) r k) (ix2 t k)
  refine h.trans (if_pos ?_)
  show 1 ≤ t.val / 512
  omega

end Cert.GluPw2Late

end
-- ==== Proof.Glu.Pw2Equation.lean ====
/- The second linear layer's kernels and the reference compute the same three arrays. -/
module

public import proofs.«01_k».proof.Defs
public import proofs.«01_k».proof.Proof.Glu.Pw2
public import proofs.«01_k».proof.Proof.Glu.Pw2Late
public import proofs.«01_k».proof.Proof.Glu.Results
public import proofs.«01_k».proof.Proof.Late.Equation
public import proofs.«01_k».proof.Proof.Gen.On_latent_rows17

@[expose] public section

noncomputable section

open Idealize.ShloMosaic Idealize.ShloMosaic.TcCoe Idealize.SL.Sem Cert.Glu
open Cert.Late (latent_of_bit)
open scoped BigOperators

/-- The first layers' kernel leaves the reference's arrays. -/
theorem Cert.GluPw2.algebraic : Cert.algebraic_Kernel16Ideal_Reference16Ideal := by
  intro m g m' g' _ hargs
  refine ⟨_, _, _, Cert.Kernel16Ideal.Value.run_blocks m g, ?_⟩
  refine (θ_run Cert.Reference16Ideal.defs _ _).mono (fun r h c => ?_) (Cert.Reference16Ideal.Value.run (F := Ideal) m' g')
  obtain ⟨h0, h1, h2, hk⟩ := h c
  obtain ⟨e0, e1, e2, e3, e4, e5, e6⟩ := hargs c
  refine ⟨h0.trans ?_, h1.trans ?_, h2.trans ?_, hk⟩
  · unfold Cert.Reference16Ideal.Value.res_main_v48
    rw [e0, e1, e2, e3, e4, e5, e6]
    funext i
    obtain ⟨t, k, rfl⟩ : ∃ t k, i = ix2 t k := ⟨i 0, i 1, eq_ix2 i⟩
    exact (refNorm_out _ _ _ _ _ _ _ t k).trans (Cert.GluPw2.final7 m c t k).symm
  · rw [e0, e1, e2, e3, e4]
    funext i
    obtain ⟨t, k, rfl⟩ : ∃ t k, i = ix2 t k := ⟨i 0, i 1, eq_ix2 i⟩
    exact (refResid_out _ _ _ _ _ t k).trans (Cert.GluPw2.final8 m c t k).symm
  · rw [e0, e3, e4]
    funext i
    obtain ⟨t, k, rfl⟩ : ∃ t k, i = ix2 t k := ⟨i 0, i 1, eq_ix2 i⟩
    exact (refOut_apply _ _ _ t k).trans (Cert.GluPw2.final9 m c t k).symm

/-- The later layers' kernel leaves the reference's arrays on the latent tokens' rows. -/
theorem Cert.GluPw2Late.algebraic : Cert.algebraic_Kernel17Ideal_Reference16Ideal_on_latent_rows17 := by
  intro m g m' g' _ hargs
  refine ⟨fun c => (Cert.Kernel17Ideal.Gen.dats m 0 c).arrAt 7 Cert.Kernel17Ideal.cfg0.N,
    fun c => (Cert.Kernel17Ideal.Gen.dats m 0 c).arrAt 8 Cert.Kernel17Ideal.cfg0.N,
    fun c => (Cert.Kernel17Ideal.Gen.dats m 0 c).arrAt 9 Cert.Kernel17Ideal.cfg0.N, ?_, ?_⟩
  · refine (θ_run Cert.Kernel17Ideal.defs _ _).mono (fun r h c => ?_) (Cert.Kernel17Ideal.Value.run_blocks m g)
    obtain ⟨h0, h1, h2, hk⟩ := h c
    exact ⟨fun i _ => congrFun h0 i, fun i _ => congrFun h1 i, fun i _ => congrFun h2 i, hk⟩
  · refine (θ_run Cert.Reference16Ideal.defs _ _).mono (fun r h c => ?_) (Cert.Reference16Ideal.Value.run (F := Ideal) m' g')
    obtain ⟨h0, h1, h2, hk⟩ := h c
    obtain ⟨e0, e1, e2, e3, e4, e5, e6⟩ := hargs c
    refine ⟨fun i hi => (congrFun h0 i).trans ?_, fun i hi => (congrFun h1 i).trans ?_, fun i hi => (congrFun h2 i).trans ?_, hk⟩
    · unfold Cert.Reference16Ideal.Value.res_main_v48
      rw [e0, e1, e2, e3, e4, e5, e6]
      obtain ⟨t, k, rfl⟩ : ∃ t k, i = ix2 t k := ⟨i 0, i 1, eq_ix2 i⟩
      exact (refNorm_out _ _ _ _ _ _ _ t k).trans (Cert.GluPw2Late.final7 m c t (latent_of_bit t hi) k).symm
    · rw [e0, e1, e2, e3, e4]
      obtain ⟨t, k, rfl⟩ : ∃ t k, i = ix2 t k := ⟨i 0, i 1, eq_ix2 i⟩
      exact (refResid_out _ _ _ _ _ t k).trans (Cert.GluPw2Late.final8 m c t (latent_of_bit t hi) k).symm
    · rw [e0, e3, e4]
      obtain ⟨t, k, rfl⟩ : ∃ t k, i = ix2 t k := ⟨i 0, i 1, eq_ix2 i⟩
      exact (refOut_apply _ _ _ t k).trans (Cert.GluPw2Late.final9 m c t (latent_of_bit t hi) k).symm

end
-- ==== Proof.Glu.SsmBlock.lean ====
/- What one tile of 512 tokens of the state-space layer's output kernel leaves in its outputs. -/
module

public import proofs.«01_k».proof.Proof.Glu.Pw1Block
public import proofs.«01_k».proof.Proof.Gen.Kernel20Ideal.Value

@[expose] public section

noncomputable section

namespace Cert.GluSsm

open Idealize.ShloMosaic Cert.Mlp Cert.Glu Cert.Kernel20Ideal Cert.Kernel20Ideal.Gen
open Cert.Fwd (Mods Row modAt layerNorm whole_ld row_ld mod_ld)
open scoped BigOperators

/-! ## What the body computes of the values it loads -/

/-- The state space model's output: the modulated tokens weighted, and the two scans'. -/
theorem skipPay_apply (v0 : Vec Ideal S512x1024 .f32) (v1 v3 : Vec Ideal S1x8x1024 .f32) (ds : Vec Ideal S1x1024 .f32)
    (y0 y1 : Vec Ideal S1x512x1024 .f32) (r : Fin 512) (k : Fin 1024) :
    k0_pay1 v0 v1 v3 ds y0 y1 (ix2 r k)
      = ds (ix2 0 k) * (v0 (ix2 r k) * (1 + v3 (ix3 0 ⟨r.val % 8, by omega⟩ k)) + v1 (ix3 0 ⟨r.val % 8, by omega⟩ k))
        + y0 (ix3 0 r k) + y1 (ix3 0 r k) := by
  unfold k0_pay1
  pointwise

/-- The linear unit of it. -/
theorem geluPay_apply (v0 : Vec Ideal S512x1024 .f32) (v1 v3 : Vec Ideal S1x8x1024 .f32) (ds : Vec Ideal S1x1024 .f32)
    (y0 y1 : Vec Ideal S1x512x1024 .f32) (r : Fin 512) (k : Fin 1024) :
    k0_pay2 v0 v1 v3 ds y0 y1 (ix2 r k) = gelu (k0_pay1 v0 v1 v3 ds y0 y1 (ix2 r k)) := by
  unfold k0_pay2 gelu
  generalize k0_pay1 v0 v1 v3 ds y0 y1 = y
  pointwise
  rfl

/-- The gated unit. -/
theorem gatedPay_apply (h : FVec Ideal S512x1024 .bf16) (w0 w1 w2 w3 : Vec Ideal S1x1x1024x512 .bf16) (b : Vec Ideal S1x2048 .f32) (r : Fin 512) (k : Fin 1024) :
    k0_pay4 h w0 w1 w2 w3 b (ix2 r k) = gated (fun f => k0_pay3 h w0 w1 w2 w3 b (ix2 r f)) k := by
  unfold k0_pay4 gated sigmoid
  generalize k0_pay3 h w0 w1 w2 w3 b = y
  pointwise
  simp only [sub_eq_add_neg, zero_add]

/-- The gated unit's rows, each column by its phase's gate. -/
theorem gatePay_apply (h : FVec Ideal S512x1024 .bf16) (w0 w1 w2 w3 : Vec Ideal S1x1x1024x512 .bf16) (b : Vec Ideal S1x2048 .f32)
    (gate : Vec Ideal S1x8x1024 .f32) (r : Fin 512) (k : Fin 1024) :
    k0_pay6 h w0 w1 w2 w3 b gate (ix2 r k) = k0_pay4 h w0 w1 w2 w3 b (ix2 r k) * gate (ix3 0 ⟨r.val % 8, by omega⟩ k) := by
  unfold k0_pay6
  generalize k0_pay4 h w0 w1 w2 w3 b = y
  pointwise

/-- The weighted input. -/
theorem weightedPay_apply (x : Vec Ideal S512x1024 .f32) (r : Fin 512) (k : Fin 1024) :
    k0_pay5 x (ix2 r k) = Ideal.ofBits .f32 0x3FD744FD#32 * x (ix2 r k) := by
  unfold k0_pay5
  pointwise

/-- The normalised residual stream. -/
theorem normPay_apply (a o : FVec Ideal S512x1024 .f32) (g b : Vec Ideal S1x1024 .f32) (r : Fin 512) (k : Fin 1024) :
    k0_pay8 a o g b (ix2 r k)
      = layerNorm (fun i => g (ix2 0 (i 0))) (fun i => b (ix2 0 (i 0))) (fun j => k0_pay7 a o (ix2 r j)) k := by
  unfold k0_pay8
  generalize k0_pay7 a o = y
  pointwise
  rfl

/-! ## Loads -/

/-- One scan's rows read through the rectangle that loads them. -/
theorem scan_ld (x : Vec Ideal S2x512x1024 .f32) (d : Fin 2) (inb) (r : Fin 512) (k : Fin 1024) :
    View.ld x (Rect.unit (s := S2x512x1024) ![d.val, 0, 0] S1x512x1024.size inb) (ix3 0 r k) = x (ix3 d r k) := by
  refine congrArg x (funext fun q => Fin.ext ?_)
  match q with
  | ⟨0, _⟩ => show d.val + 1 * 0 = d.val; omega
  | ⟨1, _⟩ => show 0 + 1 * r.val = r.val; omega
  | ⟨2, _⟩ => show 0 + 1 * k.val = k.val; omega

/-! ## The tile -/

/-- The blocks hold the rows `row r` of the tokens, of the scans and of the modulation table, the weight's column shards, and the
weights of the input, the biases and the gain. -/
structure IsSsm (x : Mat 4608 1024) (y : Scans) (v : Mods) (ds : Row) (w : Mat 1024 2048) (b : Wide) (g nb : Row) (row : Fin 512 → Fin 4608)
    (x0 : Vec Ideal S512x1024 .f32) (x1 : Vec Ideal S2x512x1024 .f32) (x2 : Vec Ideal S1x8x6144 .f32) (x3 : Vec Ideal S1x1024 .f32)
    (x4 : Vec Ideal S4x1x1024x512 .bf16) (x5 : Vec Ideal S1x2048 .f32) (x6 x7 : Vec Ideal S1x1024 .f32) : Prop where
  rows : ∀ r k, x0 (ix2 r k) = x (ix2 (row r) k)
  scans : ∀ d r k, x1 (ix3 d r k) = y (ix3 d (row r) k)
  mods : ∀ (r : Fin 512) (o : Fin 6144), x2 (ix3 0 ⟨r.val % 8, by omega⟩ o) = modAt v (row r) o
  skip : ∀ k, x3 (ix2 0 k) = ds (ix1 k)
  shards : ∀ (s : Fin 4) (k : Fin 1024) (n : Fin 512), x4 (ix4 s 0 k n) = w (ix2 k ⟨s.val * 512 + n.val, by omega⟩)
  layerBias : ∀ f, x5 (ix2 0 f) = b (ix1 f)
  gain : ∀ k, x6 (ix2 0 k) = g (ix1 k)
  normBias : ∀ k, x7 (ix2 0 k) = nb (ix1 k)

variable {x : Mat 4608 1024} {y : Scans} {v : Mods} {ds : Row} {w : Mat 1024 2048} {b : Wide} {g nb : Row} {row : Fin 512 → Fin 4608}
  {x0 : Vec Ideal S512x1024 .f32} {x1 : Vec Ideal S2x512x1024 .f32} {x2 : Vec Ideal S1x8x6144 .f32} {x3 : Vec Ideal S1x1024 .f32}
  {x4 : Vec Ideal S4x1x1024x512 .bf16} {x5 : Vec Ideal S1x2048 .f32} {x6 x7 : Vec Ideal S1x1024 .f32}
  (ht : IsSsm x y v ds w b g nb row x0 x1 x2 x3 x4 x5 x6 x7)

/-- A one-row block of a vector is the vector. -/
theorem row_eq {z : Vec Ideal S1x1024 .f32} {u : Row} (h : ∀ k, z (ix2 0 k) = u (ix1 k)) : (fun i => z (ix2 0 (i 0)) : Row) = u :=
  funext fun i => (h (i 0)).trans (congrArg u (eq_ix1 i).symm)

include ht

theorem ssm_skip (r : Fin 512) (k : Fin 1024) :
    k0_pay1 (View.ld x0 r0_0) (View.ld x2 r0_1) (View.ld x2 r0_2) (View.ld x3 r0_3) (View.ld x1 r0_4) (View.ld x1 r0_5) (ix2 r k)
      = skipped x v ds y (row r) k := by
  have h0 : View.ld x1 r0_4 (ix3 0 r k) = x1 (ix3 0 r k) := scan_ld x1 0 _ r k
  have h1 : View.ld x1 r0_5 (ix3 0 r k) = x1 (ix3 1 r k) := scan_ld x1 1 _ r k
  rw [skipPay_apply, whole_ld, row_ld, mod_ld x2 0 _ _ k (by omega), mod_ld x2 1024 _ _ k (by omega), ht.rows, ht.mods, ht.mods, ht.skip,
    h0, h1, ht.scans, ht.scans]
  unfold skipped modulated
  congr 5
  exact Fin.ext (Nat.zero_add _)

theorem ssm_gelu (r : Fin 512) (k : Fin 1024) :
    k0_pay12 x0 x1 x2 x3 x4 x5 x6 x7 (ix2 r k) = gelu (skipped x v ds y (row r) k) := by
  unfold k0_pay12
  rw [geluPay_apply, ssm_skip ht]

/-- The linear layer. -/
theorem ssm_pre (r : Fin 512) (f : Fin 2048) :
    k0_pay3 (k0_pay12 x0 x1 x2 x3 x4 x5 x6 x7) (View.ld x4 r0_6) (View.ld x4 r0_7) (View.ld x4 r0_8) (View.ld x4 r0_9) (View.ld x5 r0_10) (ix2 r f)
      = linear w b (fun j => gelu (skipped x v ds y (row r) j)) f := by
  have hs : ∀ (s : Fin 4) (inb) (k : Fin 1024) (n : Fin 512),
      View.ld x4 (Rect.unit (s := S4x1x1024x512) ![s.val, 0, 0, 0] S1x1x1024x512.size inb) (ix4 0 0 k n) = w (ix2 k ⟨s.val * 512 + n.val, by omega⟩) :=
    fun s inb k n => (colShard_ld x4 s inb k n).trans (ht.shards s k n)
  refine (biasPay_apply _ _ r f).trans ?_
  rw [wide_ld, ht.layerBias]
  unfold linear
  refine congrArg (· + b (ix1 f)) ?_
  refine (concat_apply _ w _ _ _ _ (fun k n => (hs 0 _ k n).trans ?_) (hs 1 _) (hs 2 _) (hs 3 _) r f).trans ?_
  · exact congrArg (fun j => w (ix2 k j)) (Fin.ext (by show 0 * 512 + n.val = n.val; omega))
  · exact Finset.sum_congr rfl fun k _ => by rw [ssm_gelu ht]

theorem ssm_gated (r : Fin 512) (k : Fin 1024) :
    k0_pay4 (k0_pay12 x0 x1 x2 x3 x4 x5 x6 x7) (View.ld x4 r0_6) (View.ld x4 r0_7) (View.ld x4 r0_8) (View.ld x4 r0_9) (View.ld x5 r0_10) (ix2 r k)
      = gated (linear w b (fun j => gelu (skipped x v ds y (row r) j))) k := by
  rw [gatedPay_apply]
  exact congrArg (fun p => gated p k) (funext fun f => ssm_pre ht r f)

theorem ssm_resid (r : Fin 512) (k : Fin 1024) :
    k0_pay7 (k0_pay13 x0 x1 x2 x3 x4 x5 x6 x7) (k0_pay14 x0 x1 x2 x3 x4 x5 x6 x7) (ix2 r k)
      = resid x v (gated (linear w b (fun j => gelu (skipped x v ds y (row r) j)))) (row r) k := by
  unfold k0_pay7 k0_pay13 k0_pay14 resid
  show k0_pay5 (View.ld x0 r0_0) (ix2 r k) + k0_pay6 (k0_pay12 x0 x1 x2 x3 x4 x5 x6 x7) (View.ld x4 r0_6) (View.ld x4 r0_7) (View.ld x4 r0_8)
    (View.ld x4 r0_9) (View.ld x5 r0_10) (View.ld x2 r0_11) (ix2 r k) = _
  rw [weightedPay_apply, gatePay_apply, ssm_gated ht, whole_ld, mod_ld x2 2048 _ _ k (by omega), ht.mods, ht.rows, mul_comm (gated _ k)]

/-! ## The six outputs -/

theorem ssm_out8 (r : Fin 512) (k : Fin 1024) : out0_8 x0 x1 x2 x3 x4 x5 x6 x7 (ix2 r k)
    = layerNorm g nb (resid x v (gated (linear w b (fun j => gelu (skipped x v ds y (row r) j)))) (row r)) k := by
  unfold out0_8
  rw [View.canon_unit_zero (funext fun a => by fin_cases a <;> rfl), normPay_apply, row_ld, row_ld, row_eq ht.gain, row_eq ht.normBias]
  exact congrArg (fun z => layerNorm g nb z k) (funext fun j => ssm_resid ht r j)

theorem ssm_out9 (r : Fin 512) (k : Fin 1024) : out0_9 x0 x1 x2 x3 x4 x5 x6 x7 (ix2 r k)
    = resid x v (gated (linear w b (fun j => gelu (skipped x v ds y (row r) j)))) (row r) k := by
  unfold out0_9
  rw [View.canon_unit_zero (funext fun a => by fin_cases a <;> rfl)]
  exact ssm_resid ht r k

theorem ssm_out10 (r : Fin 512) (k : Fin 1024) : out0_10 x0 x1 x2 x3 x4 x5 x6 x7 (ix2 r k)
    = gated (linear w b (fun j => gelu (skipped x v ds y (row r) j))) k := by
  unfold out0_10
  rw [View.canon_unit_zero (funext fun a => by fin_cases a <;> rfl)]
  exact ssm_gated ht r k

theorem ssm_out11 (r : Fin 512) (f : Fin 2048) : out0_11 x0 x1 x2 x3 x4 x5 x6 x7 (ix2 r f)
    = linear w b (fun j => gelu (skipped x v ds y (row r) j)) f := by
  unfold out0_11
  rw [View.canon_unit_zero (funext fun a => by fin_cases a <;> rfl)]
  exact ssm_pre ht r f

theorem ssm_out12 (r : Fin 512) (k : Fin 1024) : out0_12 x0 x1 x2 x3 x4 x5 x6 x7 (ix2 r k) = gelu (skipped x v ds y (row r) k) := by
  unfold out0_12
  rw [View.canon_unit_zero (funext fun a => by fin_cases a <;> rfl)]
  exact ssm_gelu ht r k

theorem ssm_out13 (r : Fin 512) (k : Fin 1024) : out0_13 x0 x1 x2 x3 x4 x5 x6 x7 (ix2 r k) = skipped x v ds y (row r) k := by
  unfold out0_13
  rw [View.canon_unit_zero (funext fun a => by fin_cases a <;> rfl)]
  exact ssm_skip ht r k

end Cert.GluSsm

end
-- ==== Proof.Glu.Ssm.lean ====
/- What the first state-space layer's output kernel leaves in its six result arrays. -/
module

public import proofs.«01_k».proof.Proof.Glu.SsmBlock
public import proofs.«01_k».proof.Proof.Glu.Host
public import Idealize.ShloMosaic.Lib.StableHlo.Run

@[expose] public section

noncomputable section

namespace Cert.GluSsm

open Idealize.ShloMosaic Idealize.ShloMosaic.TcCoe Idealize.SL.Sem Cert.Kernel20Ideal Cert.Kernel20Ideal.Gen Cert.Glu
open Cert.Fwd (modAt stream layerNorm)
open scoped BigOperators

variable (m : (ℓ : Loc nD τ sig) → Buf (Elt Ideal) ℓ) (c : Dev nD)

/-- The launch contents of the arguments. -/
abbrev argX : FVec Ideal S4608x1024 .f32 := m ((c : Thread nD τ).loc main_arg0)
abbrev argY : FVec Ideal S2x4608x1024 .f32 := m ((c : Thread nD τ).loc main_arg1)
abbrev argV : FVec Ideal S2x8x6144 .f32 := m ((c : Thread nD τ).loc main_arg2)
abbrev argDs : FVec Ideal S1024 .f32 := m ((c : Thread nD τ).loc main_arg3)
abbrev argW : FVec Ideal S1024x2048 .f32 := m ((c : Thread nD τ).loc main_arg4)
abbrev argB : FVec Ideal S2048 .f32 := m ((c : Thread nD τ).loc main_arg5)
abbrev argGain : FVec Ideal S1024 .f32 := m ((c : Thread nD τ).loc main_arg6)
abbrev argBias : FVec Ideal S1024 .f32 := m ((c : Thread nD τ).loc main_arg7)

/-! ## What the host lays out -/

theorem skip_eq : (V m c main_v0 : FVec Ideal S1x1024 .f32) = broadcastInDim S1x1024 ![1] bcast_S1024_S1x1024_1 (argDs m c) := by
  unfold V
  after_results

theorem family_eq : (V m c main_v4 : FVec Ideal S4x1x1024x512 .bf16) = colShards (argW m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem layerBias_eq : (V m c main_v5 : FVec Ideal S1x2048 .f32) = broadcastInDim S1x2048 ![1] bcast_S2048_S1x2048_1 (argB m c) := by
  unfold V
  after_results

theorem gain_eq : (V m c main_v6 : FVec Ideal S1x1024 .f32) = broadcastInDim S1x1024 ![1] bcast_S1024_S1x1024_1 (argGain m c) := by
  unfold V
  after_results

theorem normBias_eq : (V m c main_v7 : FVec Ideal S1x1024 .f32) = broadcastInDim S1x1024 ![1] bcast_S1024_S1x1024_1 (argBias m c) := by
  unfold V
  after_results

/-! ## The windows' block indices: the first tile's modulation is the context's, the others' the latents'. -/

theorem idxTok : ∀ t : Fin cfg0.N, win0_0.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, win0_0.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0])

theorem idxMod : ∀ t : Fin cfg0.N, win0_2.index t = ![if t.val = 0 then 0 else 1, 0, 0] :=
  (by decide +kernel : ∀ t : Fin grid0.N, win0_2.index t = ![if t.val = 0 then 0 else 1, 0, 0])

theorem idxW : ∀ t : Fin cfg0.N, win0_3.index t = ![0, 0] ∧ win0_4.index t = ![0, 0, 0, 0] ∧ win0_5.index t = ![0, 0] ∧ win0_6.index t = ![0, 0] ∧ win0_7.index t = ![0, 0] :=
  (by decide +kernel : ∀ t : Fin grid0.N, win0_3.index t = ![0, 0] ∧ win0_4.index t = ![0, 0, 0, 0] ∧ win0_5.index t = ![0, 0] ∧ win0_6.index t = ![0, 0] ∧ win0_7.index t = ![0, 0])

theorem idxScan : ∀ t : Fin cfg0.N, win0_1.index t = ![0, t.val, 0] :=
  (by decide +kernel : ∀ t : Fin grid0.N, win0_1.index t = ![0, t.val, 0])

/-- Row `r` of point `t`'s tile. -/
def row (t : Fin cfg0.N) (r : Fin 512) : Fin 4608 :=
  ⟨t.val * 512 + r.val, by have h : t.val < 9 := lt_of_lt_of_eq t.isLt (by decide); omega⟩

/-- The stream of a point's rows. -/
theorem stream_row (t : Fin cfg0.N) (r : Fin 512) : stream (row t r) = ⟨if t.val = 0 then 0 else 1, by split <;> decide⟩ := by
  unfold stream
  refine Fin.ext ?_
  show ((if t.val * 512 + r.val < 512 then 0 else 1 : Fin 2)).val = if t.val = 0 then 0 else 1
  split <;> split <;> first | rfl | omega

/-! ## The blocks -/

theorem block0 (t : Fin cfg0.N) (r : Fin 512) (k : Fin 1024) : (iblk m c 0 t : FVec Ideal S512x1024 .f32) (ix2 r k) = argX m c (ix2 (row t r) k) := by
  show _ = m ((c : Thread nD τ).loc main_arg0) _
  rw [← V_main_arg0 m c]
  unfold iblk; rw [View.read_apply]
  show V m c main_arg0 _ = _
  refine congrArg (V m c main_arg0) ?_
  blk_ext [(idxTok t).1, row]

theorem block1 (t : Fin cfg0.N) (d : Fin 2) (r : Fin 512) (k : Fin 1024) : (iblk m c 1 t : FVec Ideal S2x512x1024 .f32) (ix3 d r k) = argY m c (ix3 d (row t r) k) := by
  show _ = m ((c : Thread nD τ).loc main_arg1) _
  rw [← V_main_arg1 m c]
  unfold iblk; rw [View.read_apply]
  show V m c main_arg1 _ = _
  refine congrArg (V m c main_arg1) ?_
  blk_ext [idxScan t, row]

theorem block2 (t : Fin cfg0.N) (r : Fin 512) (o : Fin 6144) :
    (iblk m c 2 t : FVec Ideal S1x8x6144 .f32) (ix3 0 ⟨r.val % 8, by omega⟩ o) = modAt (argV m c) (row t r) o := by
  unfold modAt
  rw [stream_row]
  show _ = m ((c : Thread nD τ).loc main_arg2) _
  rw [← V_main_arg2 m c]
  unfold iblk; rw [View.read_apply]
  show V m c main_arg2 _ = _
  refine congrArg (V m c main_arg2) ?_
  blk_ext [idxMod t, row]

theorem block3 (t : Fin cfg0.N) (k : Fin 1024) : (iblk m c 3 t : FVec Ideal S1x1024 .f32) (ix2 0 k) = argDs m c (ix1 k) := by
  refine Eq.trans ?_ ((congrFun (skip_eq m c) (ix2 0 k)).trans (by pointwise))
  unfold iblk; rw [View.read_apply]
  show V m c main_v0 _ = _
  refine congrArg (V m c main_v0) ?_
  blk_ext [(idxW t).1]

theorem block4 (t : Fin cfg0.N) (s : Fin 4) (k : Fin 1024) (n : Fin 512) :
    (iblk m c 4 t : FVec Ideal S4x1x1024x512 .bf16) (ix4 s 0 k n) = argW m c (ix2 k ⟨s.val * 512 + n.val, by omega⟩) := by
  rw [← colShards_apply (argW m c), ← family_eq]
  unfold iblk; rw [View.read_apply]
  show V m c main_v4 _ = _
  refine congrArg (V m c main_v4) ?_
  blk_ext [(idxW t).2.1]

theorem block5 (t : Fin cfg0.N) (k : Fin 2048) : (iblk m c 5 t : FVec Ideal S1x2048 .f32) (ix2 0 k) = argB m c (ix1 k) := by
  refine Eq.trans ?_ ((congrFun (layerBias_eq m c) (ix2 0 k)).trans (by pointwise))
  unfold iblk; rw [View.read_apply]
  show V m c main_v5 _ = _
  refine congrArg (V m c main_v5) ?_
  blk_ext [(idxW t).2.2.1]

theorem block6 (t : Fin cfg0.N) (k : Fin 1024) : (iblk m c 6 t : FVec Ideal S1x1024 .f32) (ix2 0 k) = argGain m c (ix1 k) := by
  refine Eq.trans ?_ ((congrFun (gain_eq m c) (ix2 0 k)).trans (by pointwise))
  unfold iblk; rw [View.read_apply]
  show V m c main_v6 _ = _
  refine congrArg (V m c main_v6) ?_
  blk_ext [(idxW t).2.2.2.1]

theorem block7 (t : Fin cfg0.N) (k : Fin 1024) : (iblk m c 7 t : FVec Ideal S1x1024 .f32) (ix2 0 k) = argBias m c (ix1 k) := by
  refine Eq.trans ?_ ((congrFun (normBias_eq m c) (ix2 0 k)).trans (by pointwise))
  unfold iblk; rw [View.read_apply]
  show V m c main_v7 _ = _
  refine congrArg (V m c main_v7) ?_
  blk_ext [(idxW t).2.2.2.2]

/-- The blocks of a point are a tile of the arguments. -/
theorem isTile (t : Fin cfg0.N) : IsSsm (argX m c) (argY m c) (argV m c) (argDs m c) (argW m c) (argB m c) (argGain m c) (argBias m c) (row t)
    (iblk m c 0 t) (iblk m c 1 t) (iblk m c 2 t) (iblk m c 3 t) (iblk m c 4 t) (iblk m c 5 t) (iblk m c 6 t) (iblk m c 7 t) :=
  ⟨block0 m c t, block1 m c t, block2 m c t, block3 m c t, block4 m c t, block5 m c t, block6 m c t, block7 m c t⟩

/-! ## The arrays -/

theorem final8 (t : Fin 4608) (k : Fin 1024) : ((dats m 0 c).arrAt 8 cfg0.N : FVec Ideal S4608x1024 .f32) (ix2 t k)
    = layerNorm (argGain m c) (argBias m c) (resid (argX m c) (argV m c) (gated (linear (argW m c) (argB m c) (fun j => gelu (skipped (argX m c) (argV m c) (argDs m c) (argY m c) t j)))) t) k := by
  have h : (dats m 0 c).arrAt 8 cfg0.N
      = (fun i => layerNorm (argGain m c) (argBias m c) (resid (argX m c) (argV m c) (gated (linear (argW m c) (argB m c) (fun j => gelu (skipped (argX m c) (argV m c) (argDs m c) (argY m c) (i 0) j)))) (i 0)) (i 1) : FVec Ideal S4608x1024 .f32) := by
    refine (dats m 0 c).arrAt_eq_of_covers 8 _ (by decide +kernel) fun t hf y => ?_
    blk_simp
    rw [after0_8]
    obtain ⟨r, k, rfl⟩ : ∃ r k, y = ix2 r k := ⟨y 0, y 1, (eq_ix2 y)⟩
    have e : (win0_8.blk t).view.emb (ix2 r k) = ix2 (row t r) k := by blk_ext [(idxTok t).2.1, row]
    rw [e]
    exact ssm_out8 (isTile m c t) r k
  rw [h]; rfl

theorem final9 (t : Fin 4608) (k : Fin 1024) : ((dats m 0 c).arrAt 9 cfg0.N : FVec Ideal S4608x1024 .f32) (ix2 t k)
    = resid (argX m c) (argV m c) (gated (linear (argW m c) (argB m c) (fun j => gelu (skipped (argX m c) (argV m c) (argDs m c) (argY m c) t j)))) t k := by
  have h : (dats m 0 c).arrAt 9 cfg0.N
      = (fun i => resid (argX m c) (argV m c) (gated (linear (argW m c) (argB m c) (fun j => gelu (skipped (argX m c) (argV m c) (argDs m c) (argY m c) (i 0) j)))) (i 0) (i 1) : FVec Ideal S4608x1024 .f32) := by
    refine (dats m 0 c).arrAt_eq_of_covers 9 _ (by decide +kernel) fun t hf y => ?_
    blk_simp
    rw [after0_9]
    obtain ⟨r, k, rfl⟩ : ∃ r k, y = ix2 r k := ⟨y 0, y 1, (eq_ix2 y)⟩
    have e : (win0_9.blk t).view.emb (ix2 r k) = ix2 (row t r) k := by blk_ext [(idxTok t).2.2.1, row]
    rw [e]
    exact ssm_out9 (isTile m c t) r k
  rw [h]; rfl

theorem final10 (t : Fin 4608) (k : Fin 1024) : ((dats m 0 c).arrAt 10 cfg0.N : FVec Ideal S4608x1024 .bf16) (ix2 t k)
    = gated (linear (argW m c) (argB m c) (fun j => gelu (skipped (argX m c) (argV m c) (argDs m c) (argY m c) t j))) k := by
  have h : (dats m 0 c).arrAt 10 cfg0.N
      = (fun i => gated (linear (argW m c) (argB m c) (fun j => gelu (skipped (argX m c) (argV m c) (argDs m c) (argY m c) (i 0) j))) (i 1) : FVec Ideal S4608x1024 .bf16) := by
    refine (dats m 0 c).arrAt_eq_of_covers 10 _ (by decide +kernel) fun t hf y => ?_
    blk_simp
    rw [after0_10]
    obtain ⟨r, k, rfl⟩ : ∃ r k, y = ix2 r k := ⟨y 0, y 1, (eq_ix2 y)⟩
    have e : (win0_10.blk t).view.emb (ix2 r k) = ix2 (row t r) k := by blk_ext [(idxTok t).2.2.2.1, row]
    rw [e]
    exact ssm_out10 (isTile m c t) r k
  rw [h]; rfl

theorem final11 (t : Fin 4608) (f : Fin 2048) : ((dats m 0 c).arrAt 11 cfg0.N : FVec Ideal S4608x2048 .bf16) (ix2 t f)
    = linear (argW m c) (argB m c) (fun j => gelu (skipped (argX m c) (argV m c) (argDs m c) (argY m c) t j)) f := by
  have h : (dats m 0 c).arrAt 11 cfg0.N
      = (fun i => linear (argW m c) (argB m c) (fun j => gelu (skipped (argX m c) (argV m c) (argDs m c) (argY m c) (i 0) j)) (i 1) : FVec Ideal S4608x2048 .bf16) := by
    refine (dats m 0 c).arrAt_eq_of_covers 11 _ (by decide +kernel) fun t hf y => ?_
    blk_simp
    rw [after0_11]
    obtain ⟨r, f, rfl⟩ : ∃ r f, y = ix2 r f := ⟨y 0, y 1, (eq_ix2 y)⟩
    have e : (win0_11.blk t).view.emb (ix2 r f) = ix2 (row t r) f := by blk_ext [(idxTok t).2.2.2.2.1, row]
    rw [e]
    exact ssm_out11 (isTile m c t) r f
  rw [h]; rfl

theorem final12 (t : Fin 4608) (k : Fin 1024) : ((dats m 0 c).arrAt 12 cfg0.N : FVec Ideal S4608x1024 .bf16) (ix2 t k)
    = gelu (skipped (argX m c) (argV m c) (argDs m c) (argY m c) t k) := by
  have h : (dats m 0 c).arrAt 12 cfg0.N
      = (fun i => gelu (skipped (argX m c) (argV m c) (argDs m c) (argY m c) (i 0) (i 1)) : FVec Ideal S4608x1024 .bf16) := by
    refine (dats m 0 c).arrAt_eq_of_covers 12 _ (by decide +kernel) fun t hf y => ?_
    blk_simp
    rw [after0_12]
    obtain ⟨r, k, rfl⟩ : ∃ r k, y = ix2 r k := ⟨y 0, y 1, (eq_ix2 y)⟩
    have e : (win0_12.blk t).view.emb (ix2 r k) = ix2 (row t r) k := by blk_ext [(idxTok t).2.2.2.2.2.1, row]
    rw [e]
    exact ssm_out12 (isTile m c t) r k
  rw [h]; rfl

theorem final13 (t : Fin 4608) (k : Fin 1024) : ((dats m 0 c).arrAt 13 cfg0.N : FVec Ideal S4608x1024 .bf16) (ix2 t k)
    = skipped (argX m c) (argV m c) (argDs m c) (argY m c) t k := by
  have h : (dats m 0 c).arrAt 13 cfg0.N
      = (fun i => skipped (argX m c) (argV m c) (argDs m c) (argY m c) (i 0) (i 1) : FVec Ideal S4608x1024 .bf16) := by
    refine (dats m 0 c).arrAt_eq_of_covers 13 _ (by decide +kernel) fun t hf y => ?_
    blk_simp
    rw [after0_13]
    obtain ⟨r, k, rfl⟩ : ∃ r k, y = ix2 r k := ⟨y 0, y 1, (eq_ix2 y)⟩
    have e : (win0_13.blk t).view.emb (ix2 r k) = ix2 (row t r) k := by blk_ext [(idxTok t).2.2.2.2.2.2, row]
    rw [e]
    exact ssm_out13 (isTile m c t) r k
  rw [h]; rfl

end Cert.GluSsm

end
-- ==== Proof.Glu.SsmLate.lean ====
/- What the later state-space layer's output kernel leaves on the latent tokens' rows, the only rows it writes. -/
module

public import proofs.«01_k».proof.Proof.Glu.SsmBlock
public import proofs.«01_k».proof.Proof.Gen.Kernel21Ideal.Value
public import proofs.«01_k».proof.Proof.Glu.Host
public import Idealize.ShloMosaic.Lib.StableHlo.Run

@[expose] public section

noncomputable section

namespace Cert.GluSsmLate

open Idealize.ShloMosaic Idealize.ShloMosaic.TcCoe Idealize.SL.Sem Cert.Kernel21Ideal Cert.Kernel21Ideal.Gen Cert.Glu
open Cert.Fwd (modAt stream layerNorm)
open Cert.GluSsm (IsSsm ssm_out8 ssm_out9 ssm_out10 ssm_out11 ssm_out12 ssm_out13)
open scoped BigOperators

variable (m : (ℓ : Loc nD τ sig) → Buf (Elt Ideal) ℓ) (c : Dev nD)

/-- The launch contents of the arguments. -/
abbrev argX : FVec Ideal S4608x1024 .f32 := m ((c : Thread nD τ).loc main_arg0)
abbrev argY : FVec Ideal S2x4608x1024 .f32 := m ((c : Thread nD τ).loc main_arg1)
abbrev argV : FVec Ideal S2x8x6144 .f32 := m ((c : Thread nD τ).loc main_arg2)
abbrev argDs : FVec Ideal S1024 .f32 := m ((c : Thread nD τ).loc main_arg3)
abbrev argW : FVec Ideal S1024x2048 .f32 := m ((c : Thread nD τ).loc main_arg4)
abbrev argB : FVec Ideal S2048 .f32 := m ((c : Thread nD τ).loc main_arg5)
abbrev argGain : FVec Ideal S1024 .f32 := m ((c : Thread nD τ).loc main_arg6)
abbrev argBias : FVec Ideal S1024 .f32 := m ((c : Thread nD τ).loc main_arg7)

/-! ## What the host lays out -/

theorem skip_eq : (V m c main_v0 : FVec Ideal S1x1024 .f32) = broadcastInDim S1x1024 ![1] bcast_S1024_S1x1024_1 (argDs m c) := by
  unfold V
  after_results

theorem family_eq : (V m c main_v4 : FVec Ideal S4x1x1024x512 .bf16) = colShards (argW m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem layerBias_eq : (V m c main_v5 : FVec Ideal S1x2048 .f32) = broadcastInDim S1x2048 ![1] bcast_S2048_S1x2048_1 (argB m c) := by
  unfold V
  after_results

theorem gain_eq : (V m c main_v6 : FVec Ideal S1x1024 .f32) = broadcastInDim S1x1024 ![1] bcast_S1024_S1x1024_1 (argGain m c) := by
  unfold V
  after_results

theorem normBias_eq : (V m c main_v7 : FVec Ideal S1x1024 .f32) = broadcastInDim S1x1024 ![1] bcast_S1024_S1x1024_1 (argBias m c) := by
  unfold V
  after_results

/-! ## The windows' block indices: the token windows skip the context's 512 rows, and the modulation is the latents'. -/

theorem idxTok : ∀ t : Fin cfg0.N, win0_0.index t = ![t.val + 1, 0] ∧ win0_8.index t = ![t.val + 1, 0] ∧ win0_9.index t = ![t.val + 1, 0] ∧ win0_10.index t = ![t.val + 1, 0] ∧ win0_11.index t = ![t.val + 1, 0] ∧ win0_12.index t = ![t.val + 1, 0] ∧ win0_13.index t = ![t.val + 1, 0] :=
  (by decide +kernel : ∀ t : Fin grid0.N, win0_0.index t = ![t.val + 1, 0] ∧ win0_8.index t = ![t.val + 1, 0] ∧ win0_9.index t = ![t.val + 1, 0] ∧ win0_10.index t = ![t.val + 1, 0] ∧ win0_11.index t = ![t.val + 1, 0] ∧ win0_12.index t = ![t.val + 1, 0] ∧ win0_13.index t = ![t.val + 1, 0])

theorem idxMod : ∀ t : Fin cfg0.N, win0_2.index t = ![1, 0, 0] :=
  (by decide +kernel : ∀ t : Fin grid0.N, win0_2.index t = ![1, 0, 0])

theorem idxW : ∀ t : Fin cfg0.N, win0_3.index t = ![0, 0] ∧ win0_4.index t = ![0, 0, 0, 0] ∧ win0_5.index t = ![0, 0] ∧ win0_6.index t = ![0, 0] ∧ win0_7.index t = ![0, 0] :=
  (by decide +kernel : ∀ t : Fin grid0.N, win0_3.index t = ![0, 0] ∧ win0_4.index t = ![0, 0, 0, 0] ∧ win0_5.index t = ![0, 0] ∧ win0_6.index t = ![0, 0] ∧ win0_7.index t = ![0, 0])

theorem idxScan : ∀ t : Fin cfg0.N, win0_1.index t = ![0, t.val + 1, 0] :=
  (by decide +kernel : ∀ t : Fin grid0.N, win0_1.index t = ![0, t.val + 1, 0])

/-- Row `r` of point `t`'s tile. -/
def row (t : Fin cfg0.N) (r : Fin 512) : Fin 4608 :=
  ⟨(t.val + 1) * 512 + r.val, by have h : t.val < 8 := lt_of_lt_of_eq t.isLt (by decide); omega⟩

/-- The stream of a point's rows. -/
theorem stream_row (t : Fin cfg0.N) (r : Fin 512) : stream (row t r) = 1 := by
  unfold stream
  exact if_neg (by show ¬ (t.val + 1) * 512 + r.val < 512; omega)

/-! ## The blocks -/

theorem block0 (t : Fin cfg0.N) (r : Fin 512) (k : Fin 1024) : (iblk m c 0 t : FVec Ideal S512x1024 .f32) (ix2 r k) = argX m c (ix2 (row t r) k) := by
  show _ = m ((c : Thread nD τ).loc main_arg0) _
  rw [← V_main_arg0 m c]
  unfold iblk; rw [View.read_apply]
  show V m c main_arg0 _ = _
  refine congrArg (V m c main_arg0) ?_
  blk_ext [(idxTok t).1, row]

theorem block1 (t : Fin cfg0.N) (d : Fin 2) (r : Fin 512) (k : Fin 1024) : (iblk m c 1 t : FVec Ideal S2x512x1024 .f32) (ix3 d r k) = argY m c (ix3 d (row t r) k) := by
  show _ = m ((c : Thread nD τ).loc main_arg1) _
  rw [← V_main_arg1 m c]
  unfold iblk; rw [View.read_apply]
  show V m c main_arg1 _ = _
  refine congrArg (V m c main_arg1) ?_
  blk_ext [idxScan t, row]

theorem block2 (t : Fin cfg0.N) (r : Fin 512) (o : Fin 6144) :
    (iblk m c 2 t : FVec Ideal S1x8x6144 .f32) (ix3 0 ⟨r.val % 8, by omega⟩ o) = modAt (argV m c) (row t r) o := by
  unfold modAt
  rw [stream_row]
  show _ = m ((c : Thread nD τ).loc main_arg2) _
  rw [← V_main_arg2 m c]
  unfold iblk; rw [View.read_apply]
  show V m c main_arg2 _ = _
  refine congrArg (V m c main_arg2) ?_
  blk_ext [idxMod t, row]

theorem block3 (t : Fin cfg0.N) (k : Fin 1024) : (iblk m c 3 t : FVec Ideal S1x1024 .f32) (ix2 0 k) = argDs m c (ix1 k) := by
  refine Eq.trans ?_ ((congrFun (skip_eq m c) (ix2 0 k)).trans (by pointwise))
  unfold iblk; rw [View.read_apply]
  show V m c main_v0 _ = _
  refine congrArg (V m c main_v0) ?_
  blk_ext [(idxW t).1]

theorem block4 (t : Fin cfg0.N) (s : Fin 4) (k : Fin 1024) (n : Fin 512) :
    (iblk m c 4 t : FVec Ideal S4x1x1024x512 .bf16) (ix4 s 0 k n) = argW m c (ix2 k ⟨s.val * 512 + n.val, by omega⟩) := by
  rw [← colShards_apply (argW m c), ← family_eq]
  unfold iblk; rw [View.read_apply]
  show V m c main_v4 _ = _
  refine congrArg (V m c main_v4) ?_
  blk_ext [(idxW t).2.1]

theorem block5 (t : Fin cfg0.N) (k : Fin 2048) : (iblk m c 5 t : FVec Ideal S1x2048 .f32) (ix2 0 k) = argB m c (ix1 k) := by
  refine Eq.trans ?_ ((congrFun (layerBias_eq m c) (ix2 0 k)).trans (by pointwise))
  unfold iblk; rw [View.read_apply]
  show V m c main_v5 _ = _
  refine congrArg (V m c main_v5) ?_
  blk_ext [(idxW t).2.2.1]

theorem block6 (t : Fin cfg0.N) (k : Fin 1024) : (iblk m c 6 t : FVec Ideal S1x1024 .f32) (ix2 0 k) = argGain m c (ix1 k) := by
  refine Eq.trans ?_ ((congrFun (gain_eq m c) (ix2 0 k)).trans (by pointwise))
  unfold iblk; rw [View.read_apply]
  show V m c main_v6 _ = _
  refine congrArg (V m c main_v6) ?_
  blk_ext [(idxW t).2.2.2.1]

theorem block7 (t : Fin cfg0.N) (k : Fin 1024) : (iblk m c 7 t : FVec Ideal S1x1024 .f32) (ix2 0 k) = argBias m c (ix1 k) := by
  refine Eq.trans ?_ ((congrFun (normBias_eq m c) (ix2 0 k)).trans (by pointwise))
  unfold iblk; rw [View.read_apply]
  show V m c main_v7 _ = _
  refine congrArg (V m c main_v7) ?_
  blk_ext [(idxW t).2.2.2.2]

/-- The blocks of a point are a tile of the arguments. -/
theorem isTile (t : Fin cfg0.N) : IsSsm (argX m c) (argY m c) (argV m c) (argDs m c) (argW m c) (argB m c) (argGain m c) (argBias m c) (row t)
    (iblk m c 0 t) (iblk m c 1 t) (iblk m c 2 t) (iblk m c 3 t) (iblk m c 4 t) (iblk m c 5 t) (iblk m c 6 t) (iblk m c 7 t) :=
  ⟨block0 m c t, block1 m c t, block2 m c t, block3 m c t, block4 m c t, block5 m c t, block6 m c t, block7 m c t⟩

/-! ## The arrays on the latent rows -/

theorem final8 (t : Fin 4608) (ht : 512 ≤ t.val) (k : Fin 1024) : ((dats m 0 c).arrAt 8 cfg0.N : FVec Ideal S4608x1024 .f32) (ix2 t k)
    = layerNorm (argGain m c) (argBias m c) (resid (argX m c) (argV m c) (gated (linear (argW m c) (argB m c) (fun j => gelu (skipped (argX m c) (argV m c) (argDs m c) (argY m c) t j)))) t) k := by
  have h := (dats m 0 c).arrAt_emb_eq_of_coversWhere 8
    (fun i => layerNorm (argGain m c) (argBias m c) (resid (argX m c) (argV m c) (gated (linear (argW m c) (argB m c) (fun j => gelu (skipped (argX m c) (argV m c) (argDs m c) (argY m c) (i 0) j)))) (i 0)) (i 1) : FVec Ideal S4608x1024 .f32)
    (fun β => 1 ≤ β (0 : Fin 2)) (by decide +kernel) (fun t hf y => by
      blk_simp
      rw [after0_8]
      obtain ⟨r, k, rfl⟩ : ∃ r k, y = ix2 r k := ⟨y 0, y 1, (eq_ix2 y)⟩
      have e : (win0_8.blk t).view.emb (ix2 r k) = ix2 (row t r) k := by blk_ext [(idxTok t).2.1, row]
      rw [e]
      exact ssm_out8 (isTile m c t) r k) (ix2 t k)
  refine h.trans (if_pos ?_)
  show 1 ≤ t.val / 512
  omega

theorem final9 (t : Fin 4608) (ht : 512 ≤ t.val) (k : Fin 1024) : ((dats m 0 c).arrAt 9 cfg0.N : FVec Ideal S4608x1024 .f32) (ix2 t k)
    = resid (argX m c) (argV m c) (gated (linear (argW m c) (argB m c) (fun j => gelu (skipped (argX m c) (argV m c) (argDs m c) (argY m c) t j)))) t k := by
  have h := (dats m 0 c).arrAt_emb_eq_of_coversWhere 9
    (fun i => resid (argX m c) (argV m c) (gated (linear (argW m c) (argB m c) (fun j => gelu (skipped (argX m c) (argV m c) (argDs m c) (argY m c) (i 0) j)))) (i 0) (i 1) : FVec Ideal S4608x1024 .f32)
    (fun β => 1 ≤ β (0 : Fin 2)) (by decide +kernel) (fun t hf y => by
      blk_simp
      rw [after0_9]
      obtain ⟨r, k, rfl⟩ : ∃ r k, y = ix2 r k := ⟨y 0, y 1, (eq_ix2 y)⟩
      have e : (win0_9.blk t).view.emb (ix2 r k) = ix2 (row t r) k := by blk_ext [(idxTok t).2.2.1, row]
      rw [e]
      exact ssm_out9 (isTile m c t) r k) (ix2 t k)
  refine h.trans (if_pos ?_)
  show 1 ≤ t.val / 512
  omega

theorem final10 (t : Fin 4608) (ht : 512 ≤ t.val) (k : Fin 1024) : ((dats m 0 c).arrAt 10 cfg0.N : FVec Ideal S4608x1024 .bf16) (ix2 t k)
    = gated (linear (argW m c) (argB m c) (fun j => gelu (skipped (argX m c) (argV m c) (argDs m c) (argY m c) t j))) k := by
  have h := (dats m 0 c).arrAt_emb_eq_of_coversWhere 10
    (fun i => gated (linear (argW m c) (argB m c) (fun j => gelu (skipped (argX m c) (argV m c) (argDs m c) (argY m c) (i 0) j))) (i 1) : FVec Ideal S4608x1024 .bf16)
    (fun β => 1 ≤ β (0 : Fin 2)) (by decide +kernel) (fun t hf y => by
      blk_simp
      rw [after0_10]
      obtain ⟨r, k, rfl⟩ : ∃ r k, y = ix2 r k := ⟨y 0, y 1, (eq_ix2 y)⟩
      have e : (win0_10.blk t).view.emb (ix2 r k) = ix2 (row t r) k := by blk_ext [(idxTok t).2.2.2.1, row]
      rw [e]
      exact ssm_out10 (isTile m c t) r k) (ix2 t k)
  refine h.trans (if_pos ?_)
  show 1 ≤ t.val / 512
  omega

theorem final11 (t : Fin 4608) (ht : 512 ≤ t.val) (f : Fin 2048) : ((dats m 0 c).arrAt 11 cfg0.N : FVec Ideal S4608x2048 .bf16) (ix2 t f)
    = linear (argW m c) (argB m c) (fun j => gelu (skipped (argX m c) (argV m c) (argDs m c) (argY m c) t j)) f := by
  have h := (dats m 0 c).arrAt_emb_eq_of_coversWhere 11
    (fun i => linear (argW m c) (argB m c) (fun j => gelu (skipped (argX m c) (argV m c) (argDs m c) (argY m c) (i 0) j)) (i 1) : FVec Ideal S4608x2048 .bf16)
    (fun β => 1 ≤ β (0 : Fin 2)) (by decide +kernel) (fun t hf y => by
      blk_simp
      rw [after0_11]
      obtain ⟨r, f, rfl⟩ : ∃ r f, y = ix2 r f := ⟨y 0, y 1, (eq_ix2 y)⟩
      have e : (win0_11.blk t).view.emb (ix2 r f) = ix2 (row t r) f := by blk_ext [(idxTok t).2.2.2.2.1, row]
      rw [e]
      exact ssm_out11 (isTile m c t) r f) (ix2 t f)
  refine h.trans (if_pos ?_)
  show 1 ≤ t.val / 512
  omega

theorem final12 (t : Fin 4608) (ht : 512 ≤ t.val) (k : Fin 1024) : ((dats m 0 c).arrAt 12 cfg0.N : FVec Ideal S4608x1024 .bf16) (ix2 t k)
    = gelu (skipped (argX m c) (argV m c) (argDs m c) (argY m c) t k) := by
  have h := (dats m 0 c).arrAt_emb_eq_of_coversWhere 12
    (fun i => gelu (skipped (argX m c) (argV m c) (argDs m c) (argY m c) (i 0) (i 1)) : FVec Ideal S4608x1024 .bf16)
    (fun β => 1 ≤ β (0 : Fin 2)) (by decide +kernel) (fun t hf y => by
      blk_simp
      rw [after0_12]
      obtain ⟨r, k, rfl⟩ : ∃ r k, y = ix2 r k := ⟨y 0, y 1, (eq_ix2 y)⟩
      have e : (win0_12.blk t).view.emb (ix2 r k) = ix2 (row t r) k := by blk_ext [(idxTok t).2.2.2.2.2.1, row]
      rw [e]
      exact ssm_out12 (isTile m c t) r k) (ix2 t k)
  refine h.trans (if_pos ?_)
  show 1 ≤ t.val / 512
  omega

theorem final13 (t : Fin 4608) (ht : 512 ≤ t.val) (k : Fin 1024) : ((dats m 0 c).arrAt 13 cfg0.N : FVec Ideal S4608x1024 .bf16) (ix2 t k)
    = skipped (argX m c) (argV m c) (argDs m c) (argY m c) t k := by
  have h := (dats m 0 c).arrAt_emb_eq_of_coversWhere 13
    (fun i => skipped (argX m c) (argV m c) (argDs m c) (argY m c) (i 0) (i 1) : FVec Ideal S4608x1024 .bf16)
    (fun β => 1 ≤ β (0 : Fin 2)) (by decide +kernel) (fun t hf y => by
      blk_simp
      rw [after0_13]
      obtain ⟨r, k, rfl⟩ : ∃ r k, y = ix2 r k := ⟨y 0, y 1, (eq_ix2 y)⟩
      have e : (win0_13.blk t).view.emb (ix2 r k) = ix2 (row t r) k := by blk_ext [(idxTok t).2.2.2.2.2.2, row]
      rw [e]
      exact ssm_out13 (isTile m c t) r k) (ix2 t k)
  refine h.trans (if_pos ?_)
  show 1 ≤ t.val / 512
  omega

end Cert.GluSsmLate

end
-- ==== Proof.Glu.SsmEquation.lean ====
/- The state-space layer's output kernels and the reference compute the same six arrays. -/
module

public import proofs.«01_k».proof.Defs
public import proofs.«01_k».proof.Proof.Glu.Ssm
public import proofs.«01_k».proof.Proof.Glu.SsmLate
public import proofs.«01_k».proof.Proof.Glu.Results
public import proofs.«01_k».proof.Proof.Late.Equation
public import proofs.«01_k».proof.Proof.Gen.On_latent_rows21

@[expose] public section

noncomputable section

open Idealize.ShloMosaic Idealize.ShloMosaic.TcCoe Idealize.SL.Sem Cert.Glu
open Cert.Late (latent_of_bit)
open scoped BigOperators

/-! ## The reference's results at an index -/

namespace Cert.GluSsmRef

open Cert.Reference20Ideal Cert.Reference20Ideal.Value
open Cert.Fwd (layerNorm)

variable (m : (ℓ : Loc nD τ sig) → Buf (Elt Ideal) ℓ) (c : Dev nD)

/-- The launch contents of the arguments. -/
abbrev argX : FVec Ideal S4608x1024 .f32 := m ((c : Thread nD τ).loc main_arg0)
abbrev argY : FVec Ideal S2x4608x1024 .f32 := m ((c : Thread nD τ).loc main_arg1)
abbrev argV : FVec Ideal S2x8x6144 .f32 := m ((c : Thread nD τ).loc main_arg2)
abbrev argDs : FVec Ideal S1024 .f32 := m ((c : Thread nD τ).loc main_arg3)
abbrev argW : FVec Ideal S1024x2048 .f32 := m ((c : Thread nD τ).loc main_arg4)
abbrev argB : FVec Ideal S2048 .f32 := m ((c : Thread nD τ).loc main_arg5)
abbrev argGain : FVec Ideal S1024 .f32 := m ((c : Thread nD τ).loc main_arg6)
abbrev argBias : FVec Ideal S1024 .f32 := m ((c : Thread nD τ).loc main_arg7)

set_option maxHeartbeats 2000000 in
theorem norm (t : Fin 4608) (k : Fin 1024) : (res_main_v77 m c : FVec Ideal S4608x1024 .f32) (ix2 t k)
    = layerNorm (argGain m c) (argBias m c) (resid (argX m c) (argV m c) (gated (linear (argW m c) (argB m c) (fun j => gelu (skipped (argX m c) (argV m c) (argDs m c) (argY m c) t j)))) t) k := by
  unfold res_main_v77
  exact refNorm_gated (argX m c) (argY m c) (argV m c) (argDs m c) (argW m c) (argB m c) (argGain m c) (argBias m c) t k

set_option maxHeartbeats 2000000 in
theorem resid (t : Fin 4608) (k : Fin 1024) : (res_main_v53 m c : FVec Ideal S4608x1024 .f32) (ix2 t k)
    = resid (argX m c) (argV m c) (gated (linear (argW m c) (argB m c) (fun j => gelu (skipped (argX m c) (argV m c) (argDs m c) (argY m c) t j)))) t k := by
  unfold res_main_v53
  exact refResid_gated (argX m c) (argY m c) (argV m c) (argDs m c) (argW m c) (argB m c) t k

set_option maxHeartbeats 2000000 in
theorem gated (t : Fin 4608) (k : Fin 1024) : (res_main_v78 m c : FVec Ideal S4608x1024 .bf16) (ix2 t k)
    = gated (linear (argW m c) (argB m c) (fun j => gelu (skipped (argX m c) (argV m c) (argDs m c) (argY m c) t j))) k := by
  unfold res_main_v78
  exact refGated_gelu (argX m c) (argY m c) (argV m c) (argDs m c) (argW m c) (argB m c) t k

set_option maxHeartbeats 2000000 in
theorem linear (t : Fin 4608) (f : Fin 2048) : (res_main_v79 m c : FVec Ideal S4608x2048 .bf16) (ix2 t f)
    = linear (argW m c) (argB m c) (fun j => gelu (skipped (argX m c) (argV m c) (argDs m c) (argY m c) t j)) f := by
  unfold res_main_v79
  exact refPre_gelu (argX m c) (argY m c) (argV m c) (argDs m c) (argW m c) (argB m c) t f

set_option maxHeartbeats 2000000 in
theorem gelu (t : Fin 4608) (k : Fin 1024) : (res_main_v80 m c : FVec Ideal S4608x1024 .bf16) (ix2 t k)
    = gelu (skipped (argX m c) (argV m c) (argDs m c) (argY m c) t k) := by
  unfold res_main_v80
  exact refGelu_skip (argX m c) (argY m c) (argV m c) (argDs m c) t k

end Cert.GluSsmRef

namespace Cert

/-- The first layers' kernel leaves the reference's arrays. -/
theorem GluSsm.algebraic : Cert.algebraic_Kernel20Ideal_Reference20Ideal := by
  intro m g m' g' _ hargs
  refine ⟨_, _, _, _, _, _, Cert.Kernel20Ideal.Value.run_blocks m g, ?_⟩
  refine (θ_run Cert.Reference20Ideal.defs _ _).mono (fun r h c => ?_) (Cert.Reference20Ideal.Value.run (F := Ideal) m' g')
  obtain ⟨h0, h1, h2, h3, h4, h5, hk⟩ := h c
  obtain ⟨e0, e1, e2, e3, e4, e5, e6, e7⟩ := hargs c
  refine ⟨h0.trans ?_, h1.trans ?_, h2.trans ?_, h3.trans ?_, h4.trans ?_, h5.trans ?_, hk⟩
  · funext i
    obtain ⟨t, k, rfl⟩ : ∃ t k, i = ix2 t k := ⟨i 0, i 1, eq_ix2 i⟩
    refine (GluSsmRef.norm m' c t k).trans (Eq.trans ?_ (GluSsm.final8 m c t k).symm)
    unfold GluSsmRef.argX GluSsmRef.argY GluSsmRef.argV GluSsmRef.argDs GluSsmRef.argW GluSsmRef.argB GluSsmRef.argGain GluSsmRef.argBias
    rw [e0, e1, e2, e3, e4, e5, e6, e7]
  · funext i
    obtain ⟨t, k, rfl⟩ : ∃ t k, i = ix2 t k := ⟨i 0, i 1, eq_ix2 i⟩
    refine (GluSsmRef.resid m' c t k).trans (Eq.trans ?_ (GluSsm.final9 m c t k).symm)
    unfold GluSsmRef.argX GluSsmRef.argY GluSsmRef.argV GluSsmRef.argDs GluSsmRef.argW GluSsmRef.argB
    rw [e0, e1, e2, e3, e4, e5]
  · funext i
    obtain ⟨t, k, rfl⟩ : ∃ t k, i = ix2 t k := ⟨i 0, i 1, eq_ix2 i⟩
    refine (GluSsmRef.gated m' c t k).trans (Eq.trans ?_ (GluSsm.final10 m c t k).symm)
    unfold GluSsmRef.argX GluSsmRef.argY GluSsmRef.argV GluSsmRef.argDs GluSsmRef.argW GluSsmRef.argB
    rw [e0, e1, e2, e3, e4, e5]
  · funext i
    obtain ⟨t, f, rfl⟩ : ∃ t f, i = ix2 t f := ⟨i 0, i 1, eq_ix2 i⟩
    refine (GluSsmRef.linear m' c t f).trans (Eq.trans ?_ (GluSsm.final11 m c t f).symm)
    unfold GluSsmRef.argX GluSsmRef.argY GluSsmRef.argV GluSsmRef.argDs GluSsmRef.argW GluSsmRef.argB
    rw [e0, e1, e2, e3, e4, e5]
  · funext i
    obtain ⟨t, k, rfl⟩ : ∃ t k, i = ix2 t k := ⟨i 0, i 1, eq_ix2 i⟩
    refine (GluSsmRef.gelu m' c t k).trans (Eq.trans ?_ (GluSsm.final12 m c t k).symm)
    unfold GluSsmRef.argX GluSsmRef.argY GluSsmRef.argV GluSsmRef.argDs
    rw [e0, e1, e2, e3]
  · rw [e0, e1, e2, e3]
    funext i
    obtain ⟨t, k, rfl⟩ : ∃ t k, i = ix2 t k := ⟨i 0, i 1, eq_ix2 i⟩
    exact (refSkip_apply _ _ _ _ t k).trans (GluSsm.final13 m c t k).symm

/-- The later layers' kernel leaves the reference's arrays on the latent tokens' rows. -/
theorem GluSsmLate.algebraic : Cert.algebraic_Kernel21Ideal_Reference20Ideal_on_latent_rows21 := by
  intro m g m' g' _ hargs
  refine ⟨fun c => (Cert.Kernel21Ideal.Gen.dats m 0 c).arrAt 8 Cert.Kernel21Ideal.cfg0.N,
    fun c => (Cert.Kernel21Ideal.Gen.dats m 0 c).arrAt 9 Cert.Kernel21Ideal.cfg0.N,
    fun c => (Cert.Kernel21Ideal.Gen.dats m 0 c).arrAt 10 Cert.Kernel21Ideal.cfg0.N,
    fun c => (Cert.Kernel21Ideal.Gen.dats m 0 c).arrAt 11 Cert.Kernel21Ideal.cfg0.N,
    fun c => (Cert.Kernel21Ideal.Gen.dats m 0 c).arrAt 12 Cert.Kernel21Ideal.cfg0.N,
    fun c => (Cert.Kernel21Ideal.Gen.dats m 0 c).arrAt 13 Cert.Kernel21Ideal.cfg0.N, ?_, ?_⟩
  · refine (θ_run Cert.Kernel21Ideal.defs _ _).mono (fun r h c => ?_) (Cert.Kernel21Ideal.Value.run_blocks m g)
    obtain ⟨h0, h1, h2, h3, h4, h5, hk⟩ := h c
    exact ⟨fun i _ => congrFun h0 i, fun i _ => congrFun h1 i, fun i _ => congrFun h2 i, fun i _ => congrFun h3 i, fun i _ => congrFun h4 i, fun i _ => congrFun h5 i, hk⟩
  · refine (θ_run Cert.Reference20Ideal.defs _ _).mono (fun r h c => ?_) (Cert.Reference20Ideal.Value.run (F := Ideal) m' g')
    obtain ⟨h0, h1, h2, h3, h4, h5, hk⟩ := h c
    obtain ⟨e0, e1, e2, e3, e4, e5, e6, e7⟩ := hargs c
    refine ⟨fun i hi => (congrFun h0 i).trans ?_, fun i hi => (congrFun h1 i).trans ?_, fun i hi => (congrFun h2 i).trans ?_, fun i hi => (congrFun h3 i).trans ?_, fun i hi => (congrFun h4 i).trans ?_, fun i hi => (congrFun h5 i).trans ?_, hk⟩
    · obtain ⟨t, k, rfl⟩ : ∃ t k, i = ix2 t k := ⟨i 0, i 1, eq_ix2 i⟩
      refine (GluSsmRef.norm m' c t k).trans (Eq.trans ?_ (GluSsmLate.final8 m c t (latent_of_bit t hi) k).symm)
      unfold GluSsmRef.argX GluSsmRef.argY GluSsmRef.argV GluSsmRef.argDs GluSsmRef.argW GluSsmRef.argB GluSsmRef.argGain GluSsmRef.argBias
      rw [e0, e1, e2, e3, e4, e5, e6, e7]
    · obtain ⟨t, k, rfl⟩ : ∃ t k, i = ix2 t k := ⟨i 0, i 1, eq_ix2 i⟩
      refine (GluSsmRef.resid m' c t k).trans (Eq.trans ?_ (GluSsmLate.final9 m c t (latent_of_bit t hi) k).symm)
      unfold GluSsmRef.argX GluSsmRef.argY GluSsmRef.argV GluSsmRef.argDs GluSsmRef.argW GluSsmRef.argB
      rw [e0, e1, e2, e3, e4, e5]
    · obtain ⟨t, k, rfl⟩ : ∃ t k, i = ix2 t k := ⟨i 0, i 1, eq_ix2 i⟩
      refine (GluSsmRef.gated m' c t k).trans (Eq.trans ?_ (GluSsmLate.final10 m c t (latent_of_bit t hi) k).symm)
      unfold GluSsmRef.argX GluSsmRef.argY GluSsmRef.argV GluSsmRef.argDs GluSsmRef.argW GluSsmRef.argB
      rw [e0, e1, e2, e3, e4, e5]
    · obtain ⟨t, f, rfl⟩ : ∃ t f, i = ix2 t f := ⟨i 0, i 1, eq_ix2 i⟩
      refine (GluSsmRef.linear m' c t f).trans (Eq.trans ?_ (GluSsmLate.final11 m c t (latent_of_bit t hi) f).symm)
      unfold GluSsmRef.argX GluSsmRef.argY GluSsmRef.argV GluSsmRef.argDs GluSsmRef.argW GluSsmRef.argB
      rw [e0, e1, e2, e3, e4, e5]
    · obtain ⟨t, k, rfl⟩ : ∃ t k, i = ix2 t k := ⟨i 0, i 1, eq_ix2 i⟩
      refine (GluSsmRef.gelu m' c t k).trans (Eq.trans ?_ (GluSsmLate.final12 m c t (latent_of_bit t hi) k).symm)
      unfold GluSsmRef.argX GluSsmRef.argY GluSsmRef.argV GluSsmRef.argDs
      rw [e0, e1, e2, e3]
    · rw [e0, e1, e2, e3]
      obtain ⟨t, k, rfl⟩ : ∃ t k, i = ix2 t k := ⟨i 0, i 1, eq_ix2 i⟩
      exact (refSkip_apply _ _ _ _ t k).trans (GluSsmLate.final13 m c t (latent_of_bit t hi) k).symm

end Cert

end
-- ==== Proof.Glu.BwdBlock.lean ====
/- What one tile of 512 tokens of the gated unit's backward kernel computes of the values it loads. -/
module

public import proofs.«01_k».proof.Proof.Glu.Spec
public import proofs.«01_k».proof.Proof.Gen.Kernel18Ideal.Frame
public import Idealize.ShloMosaic.Lib.Pointwise
public import Idealize.ShloMosaic.Lib.Pipeline.ValueKit

@[expose] public section

noncomputable section

namespace Cert.GluBwd

open Idealize.ShloMosaic Cert.Mlp Cert.Glu Cert.Kernel18Ideal Cert.Kernel18Ideal.Gen
open scoped BigOperators

/-! ## The numbers both programs compute -/

/-- The cotangent of a row `p` before the gated unit, whose output's cotangent is `ct`: the first half is scaled by the
gate, the second half is the gate's. -/
def gradPre (ct : Fin 1024 → EReal) (p : Fin 2048 → EReal) (f : Fin 2048) : EReal :=
  if h : f.val < 1024 then ct ⟨f.val, h⟩ * sigmoid (p ⟨1024 + f.val, by omega⟩)
  else ct ⟨f.val - 1024, by omega⟩ * p ⟨f.val - 1024, by omega⟩ * sigmoid (p f) * (1 - sigmoid (p f))

/-- The same over the tokens. -/
def dPre {n : ℕ} (ct : Mat n 1024) (a : Mat n 2048) (t : Fin n) (f : Fin 2048) : EReal :=
  gradPre (fun k => ct (ix2 t k)) (fun g => a (ix2 t g)) f

/-- The cotangent of the linear layer's input. -/
def dIn (ct : Mat 4608 1024) (a : Mat 4608 2048) (w : Mat 1024 2048) (t : Fin 4608) (k : Fin 1024) : EReal :=
  ∑ f : Fin 2048, dPre ct a t f * w (ix2 k f)

/-! ## What the body computes -/

/-- The cotangent before the gated unit, of a row whose two halves are loaded apart. -/
theorem pay3_apply (v0 : Vec Ideal S512x1024 .f32) (v1 v4 : Vec Ideal S512x1024 .bf16) (p : Fin 2048 → EReal) (r : Fin 512)
    (h1 : ∀ k : Fin 1024, v1 (ix2 r k) = p ⟨k.val, by omega⟩) (h4 : ∀ k : Fin 1024, v4 (ix2 r k) = p ⟨1024 + k.val, by omega⟩) (f : Fin 2048) :
    k0_pay3 v0 v1 v4 (ix2 r f) = gradPre (fun k => v0 (ix2 r k)) p f := by
  unfold k0_pay3 gradPre sigmoid
  pointwise
  split
  · rw [h4]
    simp only [sub_eq_add_neg, zero_add]
  · have e : (⟨1024 + (f.val - 1024), by omega⟩ : Fin 2048) = f := Fin.ext (by show 1024 + (f.val - 1024) = f.val; omega)
    rw [h1, h4, e]
    simp only [sub_eq_add_neg, zero_add]

/-- The input's cotangent, a product over the four column shards of the weight. -/
theorem pay1_apply (v0 : Vec Ideal S512x1024 .f32) (v1 v4 : Vec Ideal S512x1024 .bf16) (w : Mat 1024 2048)
    (w0 w1 w2 w3 : Vec Ideal S1x1x1024x512 .bf16)
    (e0 : ∀ (k : Fin 1024) (n : Fin 512), w0 (ix4 0 0 k n) = w (ix2 k ⟨n.val, by omega⟩))
    (e1 : ∀ (k : Fin 1024) (n : Fin 512), w1 (ix4 0 0 k n) = w (ix2 k ⟨512 + n.val, by omega⟩))
    (e2 : ∀ (k : Fin 1024) (n : Fin 512), w2 (ix4 0 0 k n) = w (ix2 k ⟨1024 + n.val, by omega⟩))
    (e3 : ∀ (k : Fin 1024) (n : Fin 512), w3 (ix4 0 0 k n) = w (ix2 k ⟨1536 + n.val, by omega⟩)) (r : Fin 512) (k : Fin 1024) :
    k0_pay1 (k0_pay6 v0 v1 v4) k0_pay7 (k0_pay8 v0 v1 v4) w0 w1 w2 w3 (ix2 r k)
      = ∑ f : Fin 2048, k0_pay3 v0 v1 v4 (ix2 r f) * w (ix2 k f) := by
  unfold k0_pay1 k0_pay8 k0_pay6 k0_pay7
  generalize k0_pay3 v0 v1 v4 = g
  rw [← Fin.sum_mul_add_fin (S := 4) (n := 512) (fun f => g (ix2 r f) * w (ix2 k f)), Fin.sum_univ_four]
  pointwise
  simp only [e0, e1, e2, e3]

/-- The eight accumulated rows' sum. -/
theorem pay2_apply (v : Vec Ideal S8x2048 .f32) (f : Fin 2048) : k0_pay2 v (ix2 0 f) = ∑ g : Fin 8, v (ix2 g f) := by
  unfold k0_pay2
  pointwise

/-- The accumulator's first contents. -/
theorem pay4_apply (g : Fin 8) (f : Fin 2048) : k0_pay4 (F := Ideal) (ix2 g f) = 0 := by
  unfold k0_pay4
  pointwise

/-- A point adds the rows of its tile, eight apart. -/
theorem pay5_apply (v0 : Vec Ideal S512x1024 .f32) (v1 v4 : Vec Ideal S512x1024 .bf16) (s : Vec Ideal S8x2048 .f32) (g : Fin 8) (f : Fin 2048) :
    k0_pay5 v0 v1 v4 s (ix2 g f) = s (ix2 g f) + ∑ a : Fin 64, k0_pay3 v0 v1 v4 (ix2 ⟨a.val * 8 + g.val, by omega⟩ f) := by
  unfold k0_pay5
  generalize k0_pay3 v0 v1 v4 = x
  pointwise

/-! ## The tile -/

/-- The tile's first and second halves of columns. -/
abbrev halfL (x : Vec Ideal S512x2048 .bf16) : Vec Ideal S512x1024 .bf16 := View.ld x (Rect.unit ![0, 0] ![512, 1024] inb_S512x2048_S512x1024_0_0)
abbrev halfR (x : Vec Ideal S512x2048 .bf16) : Vec Ideal S512x1024 .bf16 := View.ld x (Rect.unit ![0, 1024] ![512, 1024] inb_S512x2048_S512x1024_0_1024)

theorem halfL_apply (x : Vec Ideal S512x2048 .bf16) (r : Fin 512) (k : Fin 1024) : halfL x (ix2 r k) = x (ix2 r ⟨k.val, by omega⟩) := by
  refine congrArg x (funext fun q => Fin.ext ?_)
  match q with
  | ⟨0, _⟩ => show 0 + 1 * r.val = r.val; omega
  | ⟨1, _⟩ => show 0 + 1 * k.val = k.val; omega

theorem halfR_apply (x : Vec Ideal S512x2048 .bf16) (r : Fin 512) (k : Fin 1024) : halfR x (ix2 r k) = x (ix2 r ⟨1024 + k.val, by omega⟩) := by
  refine congrArg x (funext fun q => Fin.ext ?_)
  match q with
  | ⟨0, _⟩ => show 0 + 1 * r.val = r.val; omega
  | ⟨1, _⟩ => show 1024 + 1 * k.val = 1024 + k.val; omega

/-- A column shard of the weight. -/
abbrev shard (x : Vec Ideal S4x1x1024x512 .bf16) (s : Fin 4) (inb) :=
  View.ld x (Rect.unit (s := S4x1x1024x512) ![s.val, 0, 0, 0] ![1, 1, 1024, 512] inb)

theorem shard_apply (x : Vec Ideal S4x1x1024x512 .bf16) (s : Fin 4) (inb) (k : Fin 1024) (n : Fin 512) : shard x s inb (ix4 0 0 k n) = x (ix4 s 0 k n) := by
  refine congrArg x (funext fun q => Fin.ext ?_)
  match q with
  | ⟨0, _⟩ => show s.val + 1 * 0 = s.val; omega
  | ⟨1, _⟩ => rfl
  | ⟨2, _⟩ => show 0 + 1 * k.val = k.val; omega
  | ⟨3, _⟩ => show 0 + 1 * n.val = n.val; omega

/-- The blocks hold the rows `row r` of the two token arrays, and the weight's column shards. -/
structure IsTile (ct : Mat 4608 1024) (a : Mat 4608 2048) (w : Mat 1024 2048) (row : Fin 512 → Fin 4608)
    (x0 : Vec Ideal S512x1024 .f32) (x1 : Vec Ideal S512x2048 .bf16) (x2 : Vec Ideal S4x1x1024x512 .bf16) : Prop where
  cots : ∀ r k, x0 (ix2 r k) = ct (ix2 (row r) k)
  pres : ∀ r f, x1 (ix2 r f) = a (ix2 (row r) f)
  shards : ∀ (s : Fin 4) (k : Fin 1024) (n : Fin 512), x2 (ix4 s 0 k n) = w (ix2 k ⟨s.val * 512 + n.val, by omega⟩)

variable {ct : Mat 4608 1024} {a : Mat 4608 2048} {w : Mat 1024 2048} {row : Fin 512 → Fin 4608}
  {x0 : Vec Ideal S512x1024 .f32} {x1 : Vec Ideal S512x2048 .bf16} {x2 : Vec Ideal S4x1x1024x512 .bf16}
  (ht : IsTile ct a w row x0 x1 x2)

include ht

theorem tile_pre (r : Fin 512) (f : Fin 2048) : k0_pay3 x0 (halfL x1) (halfR x1) (ix2 r f) = dPre ct a (row r) f := by
  rw [pay3_apply x0 (halfL x1) (halfR x1) (fun g => a (ix2 (row r) g)) r (fun k => (halfL_apply x1 r k).trans (ht.pres r _))
    (fun k => (halfR_apply x1 r k).trans (ht.pres r _))]
  unfold dPre
  exact congrArg (fun d => gradPre d _ f) (funext fun k => ht.cots r k)

theorem tile_pay6 (r : Fin 512) (f : Fin 2048) : k0_pay6 x0 (halfL x1) (halfR x1) (ix2 r f) = dPre ct a (row r) f :=
  tile_pre ht r f

theorem tile_pay1 (i0 i1 i2 i3) (r : Fin 512) (k : Fin 1024) :
    k0_pay1 (k0_pay6 x0 (halfL x1) (halfR x1)) k0_pay7 (k0_pay8 x0 (halfL x1) (halfR x1)) (shard x2 0 i0) (shard x2 1 i1) (shard x2 2 i2) (shard x2 3 i3) (ix2 r k)
      = dIn ct a w (row r) k := by
  have hs : ∀ (s : Fin 4) (inb) (k : Fin 1024) (n : Fin 512), shard x2 s inb (ix4 0 0 k n) = w (ix2 k ⟨s.val * 512 + n.val, by omega⟩) :=
    fun s inb k n => (shard_apply x2 s inb k n).trans (ht.shards s k n)
  refine (pay1_apply x0 (halfL x1) (halfR x1) w _ _ _ _ (fun k n => (hs 0 _ k n).trans ?_) (hs 1 _) (hs 2 _) (hs 3 _) r k).trans ?_
  · exact congrArg (fun j => w (ix2 k j)) (Fin.ext (by show 0 * 512 + n.val = n.val; omega))
  · exact Finset.sum_congr rfl fun f _ => by rw [tile_pre ht]

theorem tile_pay5 (s : Vec Ideal S8x2048 .f32) (g : Fin 8) (f : Fin 2048) :
    k0_pay5 x0 (halfL x1) (halfR x1) s (ix2 g f) = s (ix2 g f) + ∑ j : Fin 64, dPre ct a (row ⟨j.val * 8 + g.val, by omega⟩) f := by
  rw [pay5_apply]
  exact congrArg (s (ix2 g f) + ·) (Finset.sum_congr rfl fun j _ => tile_pre ht _ f)

omit ht

/-! ## The sum over tiles, and within a tile over the rows eight apart, is the sum over the tokens. -/

theorem sum_tiles {N : ℕ} (S : ℕ) (hN : N = S * 512) (F : Fin N → EReal) :
    ∑ g : Fin 8, ∑ s : Fin S, ∑ j : Fin 64, F ⟨s.val * 512 + (j.val * 8 + g.val), by have := s.isLt; omega⟩ = ∑ t, F t := by
  rw [← Fin.sum_mul_add_fin S 512 F hN, Finset.sum_comm]
  refine Finset.sum_congr rfl fun s _ => ?_
  rw [Finset.sum_comm]
  exact Fin.sum_mul_add_fin 64 8 (fun r : Fin 512 => F ⟨s.val * 512 + r.val, by have := s.isLt; omega⟩)

end Cert.GluBwd

end
-- ==== Proof.Glu.Bwd.lean ====
/- What the first layers' gated-unit backward kernel leaves in its three result arrays. -/
module

public import proofs.«01_k».proof.Proof.Glu.BwdBlock
public import proofs.«01_k».proof.Proof.Glu.Host
public import Idealize.ShloMosaic.Lib.StableHlo.Run

@[expose] public section

noncomputable section

namespace Cert.GluBwd

open Idealize.ShloMosaic Idealize.ShloMosaic.TcCoe Idealize.SL.Sem Cert.Mlp Cert.Kernel18Ideal Cert.Kernel18Ideal.Gen Cert.Glu
open scoped BigOperators

variable (m : (ℓ : Loc nD τ sig) → Buf (Elt Ideal) ℓ) (c : Dev nD)

/-- The launch contents of the arguments: the unit's output's cotangent, the linear layer's output, and its weight. -/
abbrev argC : FVec Ideal S4608x1024 .f32 := m ((c : Thread nD τ).loc main_arg0)
abbrev argA : FVec Ideal S4608x2048 .f32 := m ((c : Thread nD τ).loc main_arg1)
abbrev argW : FVec Ideal S1024x2048 .f32 := m ((c : Thread nD τ).loc main_arg2)

/-! ## What the host lays out -/

theorem family_eq : (V m c main_v4 : FVec Ideal S4x1x1024x512 .bf16) = colShards (argW m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem pre_eq : (V m c main_v0 : FVec Ideal S4608x2048 .bf16) = argA m c := by
  unfold V
  after_results
  rfl

/-! ## The windows' block indices -/

theorem idxTok : ∀ t : Fin cfg0.N, win0_0.index t = ![t.val, 0] ∧ win0_1.index t = ![t.val, 0] ∧ win0_3.index t = ![t.val, 0] ∧ win0_4.index t = ![t.val, 0] :=
  (by decide +kernel : ∀ t : Fin grid0.N, win0_0.index t = ![t.val, 0] ∧ win0_1.index t = ![t.val, 0] ∧ win0_3.index t = ![t.val, 0] ∧ win0_4.index t = ![t.val, 0])

theorem idxW : ∀ t : Fin cfg0.N, win0_2.index t = ![0, 0, 0, 0] ∧ win0_5.index t = ![0, 0] :=
  (by decide +kernel : ∀ t : Fin grid0.N, win0_2.index t = ![0, 0, 0, 0] ∧ win0_5.index t = ![0, 0])

/-- Row `r` of point `t`'s tile. -/
def row (t : Fin cfg0.N) (r : Fin 512) : Fin 4608 :=
  ⟨t.val * 512 + r.val, by have h : t.val < 9 := lt_of_lt_of_eq t.isLt (by decide); omega⟩

/-! ## The blocks -/

theorem block0 (t : Fin cfg0.N) (r : Fin 512) (k : Fin 1024) : (iblk m c 0 t : FVec Ideal S512x1024 .f32) (ix2 r k) = argC m c (ix2 (row t r) k) := by
  show _ = m ((c : Thread nD τ).loc main_arg0) _
  rw [← V_main_arg0 m c]
  unfold iblk; rw [View.read_apply]
  show V m c main_arg0 _ = _
  refine congrArg (V m c main_arg0) ?_
  blk_ext [(idxTok t).1, row]

theorem block1 (t : Fin cfg0.N) (r : Fin 512) (f : Fin 2048) : (iblk m c 1 t : FVec Ideal S512x2048 .bf16) (ix2 r f) = argA m c (ix2 (row t r) f) := by
  rw [← pre_eq]
  unfold iblk; rw [View.read_apply]
  show V m c main_v0 _ = _
  refine congrArg (V m c main_v0) ?_
  blk_ext [(idxTok t).2.1, row]

theorem block2 (t : Fin cfg0.N) (s : Fin 4) (k : Fin 1024) (n : Fin 512) :
    (iblk m c 2 t : FVec Ideal S4x1x1024x512 .bf16) (ix4 s 0 k n) = argW m c (ix2 k ⟨s.val * 512 + n.val, by omega⟩) := by
  rw [← colShards_apply (argW m c), ← family_eq]
  unfold iblk; rw [View.read_apply]
  show V m c main_v4 _ = _
  refine congrArg (V m c main_v4) ?_
  blk_ext [(idxW t).1]

/-- The blocks of a point are a tile of the arguments. -/
theorem isTile (t : Fin cfg0.N) : IsTile (argC m c) (argA m c) (argW m c) (row t) (iblk m c 0 t) (iblk m c 1 t) (iblk m c 2 t) :=
  ⟨block0 m c t, block1 m c t, block2 m c t⟩

/-! ## The points -/

/-- Every point writes its rows' input cotangent. -/
theorem outs_in (t : Fin cfg0.N) (r : Fin 512) (k : Fin 1024) :
    (outsAt0 m c t.val t.isLt).1 (ix2 r k) = dIn (argC m c) (argA m c) (argW m c) (row t r) k := by
  by_cases h0 : t.val % 9 = 0
  · rw [outsAt0_A m c t h0 (by omega)]
    dsimp only
    frame_out
    exact tile_pay1 (isTile m c t) _ _ _ _ r k
  · by_cases h1 : t.val % 9 = 8
    · rw [outsAt0_C m c t h0 h1]
      dsimp only
      frame_out
      exact tile_pay1 (isTile m c t) _ _ _ _ r k
    · rw [outsAt0_B m c t h0 h1]
      dsimp only
      frame_out
      exact tile_pay1 (isTile m c t) _ _ _ _ r k

/-- Every point writes its rows' cotangent before the gated unit. -/
theorem outs_pre (t : Fin cfg0.N) (r : Fin 512) (f : Fin 2048) :
    (outsAt0 m c t.val t.isLt).2.1 (ix2 r f) = dPre (argC m c) (argA m c) (row t r) f := by
  by_cases h0 : t.val % 9 = 0
  · rw [outsAt0_A m c t h0 (by omega)]
    dsimp only
    frame_out
    exact tile_pay6 (isTile m c t) r f
  · by_cases h1 : t.val % 9 = 8
    · rw [outsAt0_C m c t h0 h1]
      dsimp only
      frame_out
      exact tile_pay6 (isTile m c t) r f
    · rw [outsAt0_B m c t h0 h1]
      dsimp only
      frame_out
      exact tile_pay6 (isTile m c t) r f

/-- What a point adds to the accumulator. -/
def added (t : Fin cfg0.N) (i : S8x2048.Idx) : EReal :=
  ∑ j : Fin 64, dPre (argC m c) (argA m c) (row t ⟨j.val * 8 + (i 0).val, by have : (i 0).val < 8 := (i 0).isLt; omega⟩) (i 1)

theorem acc_first (t : Fin cfg0.N) (h0 : t.val % 9 = 0) (i : S8x2048.Idx) :
    (outsAt0 m c t.val t.isLt).2.2.2 i = 0 + added m c t i := by
  obtain ⟨g, f, rfl⟩ : ∃ g f, i = ix2 g f := ⟨i 0, i 1, eq_ix2 i⟩
  rw [outsAt0_A m c t h0 (by omega)]
  dsimp only
  frame_out
  exact (tile_pay5 (isTile m c t) _ g f).trans (congrArg (· + added m c t (ix2 g f)) (pay4_apply g f))

theorem acc_step (t : Fin cfg0.N) (h0 : ¬t.val % 9 = 0) (i : S8x2048.Idx) :
    (outsAt0 m c t.val t.isLt).2.2.2 i
      = (outsAt0 m c (t.val - 1) (Nat.lt_of_le_of_lt (Nat.sub_le _ _) t.isLt)).2.2.2 i + added m c t i := by
  obtain ⟨g, f, rfl⟩ : ∃ g f, i = ix2 g f := ⟨i 0, i 1, eq_ix2 i⟩
  by_cases h1 : t.val % 9 = 8
  · rw [outsAt0_C m c t h0 h1]
    dsimp only
    frame_out
    exact (tile_pay5 (isTile m c t) _ g f).trans (congrArg (· + added m c t (ix2 g f)) (congrFun ((Memref.isWhole_whole cc0_scratch0).read_unread (Val := Elt Ideal) _) (ix2 g f)))
  · rw [outsAt0_B m c t h0 h1]
    dsimp only
    frame_out
    exact (tile_pay5 (isTile m c t) _ g f).trans (congrArg (· + added m c t (ix2 g f)) (congrFun ((Memref.isWhole_whole cc0_scratch0).read_unread (Val := Elt Ideal) _) (ix2 g f)))

/-- The last point sums the accumulator's eight rows. -/
theorem last_point (t : Fin cfg0.N) (h1 : t.val % 9 = 8) (f : Fin 2048) :
    (outsAt0 m c t.val t.isLt).2.2.1 (ix2 0 f) = ∑ g : Fin 8, (outsAt0 m c t.val t.isLt).2.2.2 (ix2 g f) := by
  have h0 : ¬t.val % 9 = 0 := by omega
  refine Eq.trans ?_ (Finset.sum_congr rfl fun g _ => (acc_step m c t h0 (ix2 g f)).symm)
  rw [outsAt0_C m c t h0 h1]
  dsimp only
  frame_out
  exact (pay2_apply _ f).trans (Finset.sum_congr rfl fun g _ => (tile_pay5 (isTile m c t) _ g f).trans
    (congrArg (· + added m c t (ix2 g f)) (congrFun ((Memref.isWhole_whole cc0_scratch0).read_unread (Val := Elt Ideal) _) (ix2 g f))))

/-- What it leaves: the sum over the tokens. -/
theorem outs_bias (t : Fin cfg0.N) (h1 : t.val % 9 = 8) (f : Fin 2048) :
    (outsAt0 m c t.val t.isLt).2.2.1 (ix2 0 f) = ∑ q : Fin 4608, dPre (argC m c) (argA m c) q f := by
  rw [last_point m c t h1, ← sum_tiles 9 rfl (fun q : Fin 4608 => dPre (argC m c) (argA m c) q f)]
  refine Finset.sum_congr rfl fun g _ => ?_
  have e := Pipeline.eq_sum_fin_of_reset_step_apply_of_flush (fun n h => (outsAt0 m c n h).2.2.2) 9 (fun _ => (0 : EReal))
    (added m c) (acc_first m c) (acc_step m c) t h1 (ix2 g f)
  rw [e, zero_add]
  refine Finset.sum_congr rfl fun s _ => Finset.sum_congr rfl fun j _ => ?_
  refine congrArg (fun q => dPre (argC m c) (argA m c) q f) (Fin.ext ?_)
  have ht : t.val < 9 := lt_of_lt_of_eq t.isLt (by decide)
  show (9 * (t.val / 9) + s.val) * 512 + (j.val * 8 + g.val) = s.val * 512 + (j.val * 8 + g.val)
  omega

/-! ## The arrays -/

theorem final3 (t : Fin 4608) (k : Fin 1024) : ((dats m 0 c).arrAt 3 cfg0.N : FVec Ideal S4608x1024 .f32) (ix2 t k)
    = dIn (argC m c) (argA m c) (argW m c) t k := by
  have h : (dats m 0 c).arrAt 3 cfg0.N
      = (fun i => dIn (argC m c) (argA m c) (argW m c) (i 0) (i 1) : FVec Ideal S4608x1024 .f32) := by
    refine (dats m 0 c).arrAt_eq_of_covers 3 _ (by decide +kernel) fun t hf y => ?_
    blk_simp
    rw [after0_3]
    obtain ⟨r, k, rfl⟩ : ∃ r k, y = ix2 r k := ⟨y 0, y 1, (eq_ix2 y)⟩
    have e : (win0_3.blk t).view.emb (ix2 r k) = ix2 (row t r) k := by blk_ext [(idxTok t).2.2.1, row]
    rw [e]
    exact outs_in m c t r k
  rw [h]; rfl

theorem final4 (t : Fin 4608) (f : Fin 2048) : ((dats m 0 c).arrAt 4 cfg0.N : FVec Ideal S4608x2048 .bf16) (ix2 t f)
    = dPre (argC m c) (argA m c) t f := by
  have h : (dats m 0 c).arrAt 4 cfg0.N
      = (fun i => dPre (argC m c) (argA m c) (i 0) (i 1) : FVec Ideal S4608x2048 .bf16) := by
    refine (dats m 0 c).arrAt_eq_of_covers 4 _ (by decide +kernel) fun t hf y => ?_
    blk_simp
    rw [after0_4]
    obtain ⟨r, f, rfl⟩ : ∃ r f, y = ix2 r f := ⟨y 0, y 1, (eq_ix2 y)⟩
    have e : (win0_4.blk t).view.emb (ix2 r f) = ix2 (row t r) f := by blk_ext [(idxTok t).2.2.2, row]
    rw [e]
    exact outs_pre m c t r f
  rw [h]; rfl

theorem final5 (f : Fin 2048) : ((dats m 0 c).arrAt 5 cfg0.N : FVec Ideal S1x2048 .f32) (ix2 0 f)
    = ∑ q : Fin 4608, dPre (argC m c) (argA m c) q f := by
  have h : (dats m 0 c).arrAt 5 cfg0.N = (fun i => ∑ q : Fin 4608, dPre (argC m c) (argA m c) q (i 1) : FVec Ideal S1x2048 .f32) := by
    refine (dats m 0 c).arrAt_eq_of_covers 5 _ (by decide +kernel) fun t hf y => ?_
    blk_simp
    rw [after0_5]
    obtain ⟨u, f, rfl⟩ : ∃ u f, y = ix2 u f := ⟨y 0, y 1, (eq_ix2 y)⟩
    obtain rfl : u = 0 := Subsingleton.elim _ _
    have e : (win0_5.blk t).view.emb (ix2 0 f) = ix2 0 f := by blk_ext [(idxW t).2]
    rw [e]
    exact outs_bias m c t ((flush0_5 t).mp hf) f
  rw [h]; rfl

/-! ## The run -/

/-- Every run ends with the 3 result arrays at what the grid leaves in them and the arguments as launched. -/
theorem run (ρ : Dev nD → PrngReg) : θ_run defs (onTc (τ := τ) (main (F := Ideal))) ⟨m, fun _ => 0, ρ⟩ fun r => ∀ c : Dev nD,
    r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_v5_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    have staged {w : Fin cfg0.W} (hw : (cfg0.win w).isOut = false) := ((h c).1 w).trans (((dats m 0 c).arrAt_in w hw _).trans (A_eq m c w))
    ⟨(h c).1 3, (h c).1 4, (h c).1 5, (staged (w := 0) rfl).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c)⟩)
    (run_main m ρ)

end Cert.GluBwd

end
-- ==== Proof.Glu.BwdLate.lean ====
/- What the later layers' gated-unit backward kernel leaves in its three result arrays. -/
module

public import proofs.«01_k».proof.Proof.Glu.BwdBlock
public import proofs.«01_k».proof.Proof.Glu.Host
public import proofs.«01_k».proof.Proof.Gen.Kernel19Ideal.Frame
public import Idealize.ShloMosaic.Lib.StableHlo.Run

@[expose] public section

noncomputable section

namespace Cert.GluBwdLate

open Idealize.ShloMosaic Idealize.ShloMosaic.TcCoe Idealize.SL.Sem Cert.GluBwd Cert.Mlp Cert.Kernel19Ideal Cert.Kernel19Ideal.Gen Cert.Glu
open scoped BigOperators

variable (m : (ℓ : Loc nD τ sig) → Buf (Elt Ideal) ℓ) (c : Dev nD)

/-- The launch contents of the arguments: the unit's output's cotangent, the linear layer's output, and its weight. -/
abbrev argC : FVec Ideal S4608x1024 .f32 := m ((c : Thread nD τ).loc main_arg0)
abbrev argA : FVec Ideal S4608x2048 .f32 := m ((c : Thread nD τ).loc main_arg1)
abbrev argW : FVec Ideal S1024x2048 .f32 := m ((c : Thread nD τ).loc main_arg2)

/-! ## What the host lays out -/

theorem family_eq : (V m c main_v4 : FVec Ideal S4x1x1024x512 .bf16) = colShards (argW m c) := by
  unfold V
  simp only [hostOps0, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

theorem pre_eq : (V m c main_v0 : FVec Ideal S4608x2048 .bf16) = argA m c := by
  unfold V
  after_results
  rfl

/-! ## The windows' block indices -/

theorem idxTok : ∀ t : Fin cfg0.N, win0_0.index t = ![t.val + 1, 0] ∧ win0_1.index t = ![t.val + 1, 0] ∧ win0_3.index t = ![t.val + 1, 0] ∧ win0_4.index t = ![t.val + 1, 0] :=
  (by decide +kernel : ∀ t : Fin grid0.N, win0_0.index t = ![t.val + 1, 0] ∧ win0_1.index t = ![t.val + 1, 0] ∧ win0_3.index t = ![t.val + 1, 0] ∧ win0_4.index t = ![t.val + 1, 0])

theorem idxW : ∀ t : Fin cfg0.N, win0_2.index t = ![0, 0, 0, 0] ∧ win0_5.index t = ![0, 0] :=
  (by decide +kernel : ∀ t : Fin grid0.N, win0_2.index t = ![0, 0, 0, 0] ∧ win0_5.index t = ![0, 0])

/-- Row `r` of point `t`'s tile, the latent tokens' rows beginning at 512. -/
def row (t : Fin cfg0.N) (r : Fin 512) : Fin 4608 :=
  ⟨(t.val + 1) * 512 + r.val, by have h : t.val < 8 := lt_of_lt_of_eq t.isLt (by decide); omega⟩

/-! ## The blocks -/

theorem block0 (t : Fin cfg0.N) (r : Fin 512) (k : Fin 1024) : (iblk m c 0 t : FVec Ideal S512x1024 .f32) (ix2 r k) = argC m c (ix2 (row t r) k) := by
  show _ = m ((c : Thread nD τ).loc main_arg0) _
  rw [← V_main_arg0 m c]
  unfold iblk; rw [View.read_apply]
  show V m c main_arg0 _ = _
  refine congrArg (V m c main_arg0) ?_
  blk_ext [(idxTok t).1, row]

theorem block1 (t : Fin cfg0.N) (r : Fin 512) (f : Fin 2048) : (iblk m c 1 t : FVec Ideal S512x2048 .bf16) (ix2 r f) = argA m c (ix2 (row t r) f) := by
  rw [← pre_eq]
  unfold iblk; rw [View.read_apply]
  show V m c main_v0 _ = _
  refine congrArg (V m c main_v0) ?_
  blk_ext [(idxTok t).2.1, row]

theorem block2 (t : Fin cfg0.N) (s : Fin 4) (k : Fin 1024) (n : Fin 512) :
    (iblk m c 2 t : FVec Ideal S4x1x1024x512 .bf16) (ix4 s 0 k n) = argW m c (ix2 k ⟨s.val * 512 + n.val, by omega⟩) := by
  rw [← colShards_apply (argW m c), ← family_eq]
  unfold iblk; rw [View.read_apply]
  show V m c main_v4 _ = _
  refine congrArg (V m c main_v4) ?_
  blk_ext [(idxW t).1]

/-- The blocks of a point are a tile of the arguments. -/
theorem isTile (t : Fin cfg0.N) : IsTile (argC m c) (argA m c) (argW m c) (row t) (iblk m c 0 t) (iblk m c 1 t) (iblk m c 2 t) :=
  ⟨block0 m c t, block1 m c t, block2 m c t⟩

/-! ## The points -/

/-- Every point writes its rows' input cotangent. -/
theorem outs_in (t : Fin cfg0.N) (r : Fin 512) (k : Fin 1024) :
    (outsAt0 m c t.val t.isLt).1 (ix2 r k) = dIn (argC m c) (argA m c) (argW m c) (row t r) k := by
  by_cases h0 : t.val % 8 = 0
  · rw [outsAt0_A m c t h0 (by omega)]
    dsimp only
    frame_out
    exact tile_pay1 (isTile m c t) _ _ _ _ r k
  · by_cases h1 : t.val % 8 = 7
    · rw [outsAt0_C m c t h0 h1]
      dsimp only
      frame_out
      exact tile_pay1 (isTile m c t) _ _ _ _ r k
    · rw [outsAt0_B m c t h0 h1]
      dsimp only
      frame_out
      exact tile_pay1 (isTile m c t) _ _ _ _ r k

/-- Every point writes its rows' cotangent before the gated unit. -/
theorem outs_pre (t : Fin cfg0.N) (r : Fin 512) (f : Fin 2048) :
    (outsAt0 m c t.val t.isLt).2.1 (ix2 r f) = dPre (argC m c) (argA m c) (row t r) f := by
  by_cases h0 : t.val % 8 = 0
  · rw [outsAt0_A m c t h0 (by omega)]
    dsimp only
    frame_out
    exact tile_pay6 (isTile m c t) r f
  · by_cases h1 : t.val % 8 = 7
    · rw [outsAt0_C m c t h0 h1]
      dsimp only
      frame_out
      exact tile_pay6 (isTile m c t) r f
    · rw [outsAt0_B m c t h0 h1]
      dsimp only
      frame_out
      exact tile_pay6 (isTile m c t) r f

/-- What a point adds to the accumulator. -/
def added (t : Fin cfg0.N) (i : S8x2048.Idx) : EReal :=
  ∑ j : Fin 64, dPre (argC m c) (argA m c) (row t ⟨j.val * 8 + (i 0).val, by have : (i 0).val < 8 := (i 0).isLt; omega⟩) (i 1)

theorem acc_first (t : Fin cfg0.N) (h0 : t.val % 8 = 0) (i : S8x2048.Idx) :
    (outsAt0 m c t.val t.isLt).2.2.2 i = 0 + added m c t i := by
  obtain ⟨g, f, rfl⟩ : ∃ g f, i = ix2 g f := ⟨i 0, i 1, eq_ix2 i⟩
  rw [outsAt0_A m c t h0 (by omega)]
  dsimp only
  frame_out
  exact (tile_pay5 (isTile m c t) _ g f).trans (congrArg (· + added m c t (ix2 g f)) (pay4_apply g f))

theorem acc_step (t : Fin cfg0.N) (h0 : ¬t.val % 8 = 0) (i : S8x2048.Idx) :
    (outsAt0 m c t.val t.isLt).2.2.2 i
      = (outsAt0 m c (t.val - 1) (Nat.lt_of_le_of_lt (Nat.sub_le _ _) t.isLt)).2.2.2 i + added m c t i := by
  obtain ⟨g, f, rfl⟩ : ∃ g f, i = ix2 g f := ⟨i 0, i 1, eq_ix2 i⟩
  by_cases h1 : t.val % 8 = 7
  · rw [outsAt0_C m c t h0 h1]
    dsimp only
    frame_out
    exact (tile_pay5 (isTile m c t) _ g f).trans (congrArg (· + added m c t (ix2 g f)) (congrFun ((Memref.isWhole_whole cc0_scratch0).read_unread (Val := Elt Ideal) _) (ix2 g f)))
  · rw [outsAt0_B m c t h0 h1]
    dsimp only
    frame_out
    exact (tile_pay5 (isTile m c t) _ g f).trans (congrArg (· + added m c t (ix2 g f)) (congrFun ((Memref.isWhole_whole cc0_scratch0).read_unread (Val := Elt Ideal) _) (ix2 g f)))

/-- The last point sums the accumulator's eight rows. -/
theorem last_point (t : Fin cfg0.N) (h1 : t.val % 8 = 7) (f : Fin 2048) :
    (outsAt0 m c t.val t.isLt).2.2.1 (ix2 0 f) = ∑ g : Fin 8, (outsAt0 m c t.val t.isLt).2.2.2 (ix2 g f) := by
  have h0 : ¬t.val % 8 = 0 := by omega
  refine Eq.trans ?_ (Finset.sum_congr rfl fun g _ => (acc_step m c t h0 (ix2 g f)).symm)
  rw [outsAt0_C m c t h0 h1]
  dsimp only
  frame_out
  exact (pay2_apply _ f).trans (Finset.sum_congr rfl fun g _ => (tile_pay5 (isTile m c t) _ g f).trans
    (congrArg (· + added m c t (ix2 g f)) (congrFun ((Memref.isWhole_whole cc0_scratch0).read_unread (Val := Elt Ideal) _) (ix2 g f))))

/-- What it leaves: the sum over the latent tokens. -/
theorem outs_bias (t : Fin cfg0.N) (h1 : t.val % 8 = 7) (f : Fin 2048) :
    (outsAt0 m c t.val t.isLt).2.2.1 (ix2 0 f) = ∑ q : Fin 4096, dPre (argC m c) (argA m c) ⟨512 + q.val, by omega⟩ f := by
  rw [last_point m c t h1, ← sum_tiles 8 rfl (fun q : Fin 4096 => dPre (argC m c) (argA m c) ⟨512 + q.val, by omega⟩ f)]
  refine Finset.sum_congr rfl fun g _ => ?_
  have e := Pipeline.eq_sum_fin_of_reset_step_apply_of_flush (fun n h => (outsAt0 m c n h).2.2.2) 8 (fun _ => (0 : EReal))
    (added m c) (acc_first m c) (acc_step m c) t h1 (ix2 g f)
  rw [e, zero_add]
  refine Finset.sum_congr rfl fun s _ => Finset.sum_congr rfl fun j _ => ?_
  refine congrArg (fun q => dPre (argC m c) (argA m c) q f) (Fin.ext ?_)
  have ht : t.val < 8 := lt_of_lt_of_eq t.isLt (by decide)
  show (8 * (t.val / 8) + s.val + 1) * 512 + (j.val * 8 + g.val) = 512 + (s.val * 512 + (j.val * 8 + g.val))
  omega

/-! ## The arrays -/

theorem final3 (t : Fin 4608) (ht : 512 ≤ t.val) (k : Fin 1024) : ((dats m 0 c).arrAt 3 cfg0.N : FVec Ideal S4608x1024 .f32) (ix2 t k)
    = dIn (argC m c) (argA m c) (argW m c) t k := by
  have h := (dats m 0 c).arrAt_emb_eq_of_coversWhere 3 (fun i => dIn (argC m c) (argA m c) (argW m c) (i 0) (i 1) : FVec Ideal S4608x1024 .f32)
    (fun β => 1 ≤ β (0 : Fin 2)) (by decide +kernel) (fun t hf y => by
      blk_simp
      rw [after0_3]
      obtain ⟨r, k, rfl⟩ : ∃ r k, y = ix2 r k := ⟨y 0, y 1, (eq_ix2 y)⟩
      have e : (win0_3.blk t).view.emb (ix2 r k) = ix2 (row t r) k := by blk_ext [(idxTok t).2.2.1, row]
      rw [e]
      exact outs_in m c t r k) (ix2 t k)
  refine h.trans (if_pos ?_)
  show 1 ≤ t.val / 512
  omega

theorem final4 (t : Fin 4608) (ht : 512 ≤ t.val) (f : Fin 2048) : ((dats m 0 c).arrAt 4 cfg0.N : FVec Ideal S4608x2048 .bf16) (ix2 t f)
    = dPre (argC m c) (argA m c) t f := by
  have h := (dats m 0 c).arrAt_emb_eq_of_coversWhere 4 (fun i => dPre (argC m c) (argA m c) (i 0) (i 1) : FVec Ideal S4608x2048 .bf16)
    (fun β => 1 ≤ β (0 : Fin 2)) (by decide +kernel) (fun t hf y => by
      blk_simp
      rw [after0_4]
      obtain ⟨r, f, rfl⟩ : ∃ r f, y = ix2 r f := ⟨y 0, y 1, (eq_ix2 y)⟩
      have e : (win0_4.blk t).view.emb (ix2 r f) = ix2 (row t r) f := by blk_ext [(idxTok t).2.2.2, row]
      rw [e]
      exact outs_pre m c t r f) (ix2 t f)
  refine h.trans (if_pos ?_)
  show 1 ≤ t.val / 512
  omega

theorem final5 (f : Fin 2048) : ((dats m 0 c).arrAt 5 cfg0.N : FVec Ideal S1x2048 .f32) (ix2 0 f)
    = ∑ q : Fin 4096, dPre (argC m c) (argA m c) ⟨512 + q.val, by omega⟩ f := by
  have h : (dats m 0 c).arrAt 5 cfg0.N = (fun i => ∑ q : Fin 4096, dPre (argC m c) (argA m c) ⟨512 + q.val, by omega⟩ (i 1) : FVec Ideal S1x2048 .f32) := by
    refine (dats m 0 c).arrAt_eq_of_covers 5 _ (by decide +kernel) fun t hf y => ?_
    blk_simp
    rw [after0_5]
    obtain ⟨u, f, rfl⟩ : ∃ u f, y = ix2 u f := ⟨y 0, y 1, (eq_ix2 y)⟩
    obtain rfl : u = 0 := Subsingleton.elim _ _
    have e : (win0_5.blk t).view.emb (ix2 0 f) = ix2 0 f := by blk_ext [(idxW t).2]
    rw [e]
    exact outs_bias m c t ((flush0_5 t).mp hf) f
  rw [h]; rfl

/-! ## The run -/

/-- Every run ends with the 3 result arrays at what the grid leaves in them and the arguments as launched. -/
theorem run (ρ : Dev nD → PrngReg) : θ_run defs (onTc (τ := τ) (main (F := Ideal))) ⟨m, fun _ => 0, ρ⟩ fun r => ∀ c : Dev nD,
    r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_v5_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    have staged {w : Fin cfg0.W} (hw : (cfg0.win w).isOut = false) := ((h c).1 w).trans (((dats m 0 c).arrAt_in w hw _).trans (A_eq m c w))
    ⟨(h c).1 3, (h c).1 4, (h c).1 5, (staged (w := 0) rfl).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c)⟩)
    (run_main m ρ)

end Cert.GluBwdLate

end
-- ==== Proof.Glu.BwdReference.lean ====
/- What the references' backward pass of the gated unit holds at an index. -/
module

public import proofs.«01_k».proof.Proof.Glu.BwdBlock
public import proofs.«01_k».proof.Proof.Gen.Reference18Ideal.Run
public import proofs.«01_k».proof.Proof.Gen.Reference19Ideal.Run
public import Idealize.ShloMosaic.Lib.KernelVsHost

@[expose] public section

noncomputable section

namespace Cert.GluBwd

open Idealize.ShloMosaic Cert.Mlp Cert.Glu
open scoped BigOperators

/-! ## Rows padded to twice their width -/

/-- A row padded on its left. -/
theorem padRight_apply {n : ℕ} (x : Mat n 1024) {u : Shape} (v : u.Idx → EReal)
    (h : (⟨2, ![n, 1024]⟩ : Shape).Pads ![0, 1024] ![0, 0] ![0, 0] (⟨2, ![n, 2048]⟩ : Shape)) (hu : 0 < u.numel) (t : Fin n) (f : Fin 2048) :
    pad (⟨2, ![n, 2048]⟩ : Shape) ![0, 1024] ![0, 0] ![0, 0] x v h hu (ix2 t f)
      = if hf : f.val < 1024 then v (Shape.Idx.first hu) else x (ix2 t ⟨f.val - 1024, by omega⟩) := by
  split
  · rename_i hf
    exact pad_apply_of_not_inside _ _ _ x v h hu (ix2 t f) 1 (fun hh => by
      have h1 : 1024 ≤ f.val := hh.1
      omega)
  · rename_i hf
    exact pad_apply_of_inside _ _ _ x v h hu (ix2 t f) (ix2 t ⟨f.val - 1024, by omega⟩) (fun q => match q with
      | ⟨0, _⟩ => by show t.val = 0 + t.val * (0 + 1); omega
      | ⟨1, _⟩ => by show f.val = 1024 + (f.val - 1024) * (0 + 1); omega)

/-- A row padded on its right. -/
theorem padLeft_apply {n : ℕ} (x : Mat n 1024) {u : Shape} (v : u.Idx → EReal)
    (h : (⟨2, ![n, 1024]⟩ : Shape).Pads ![0, 0] ![0, 1024] ![0, 0] (⟨2, ![n, 2048]⟩ : Shape)) (hu : 0 < u.numel) (t : Fin n) (f : Fin 2048) :
    pad (⟨2, ![n, 2048]⟩ : Shape) ![0, 0] ![0, 1024] ![0, 0] x v h hu (ix2 t f)
      = if hf : f.val < 1024 then x (ix2 t ⟨f.val, hf⟩) else v (Shape.Idx.first hu) := by
  split
  · rename_i hf
    exact pad_apply_of_inside _ _ _ x v h hu (ix2 t f) (ix2 t ⟨f.val, hf⟩) (fun q => match q with
      | ⟨0, _⟩ => by show t.val = 0 + t.val * (0 + 1); omega
      | ⟨1, _⟩ => by show f.val = 0 + f.val * (0 + 1); omega)
  · rename_i hf
    exact pad_apply_of_not_inside _ _ _ x v h hu (ix2 t f) 1 (fun hh => by
      have h1 : (f.val - 0) / (0 + 1) < 1024 := hh.2.2
      omega)

section
open Cert.Reference18Ideal Cert.Reference18Ideal.Gen

variable (ct : FVec Ideal S4608x1024 .f32) (a : FVec Ideal S4608x2048 .f32)

/-- The gate of the tokens, as printed. -/
abbrev refGate : FVec Ideal S4608x1024 .f32 :=
  Host.divf (broadcastInDim S4608x1024 ![] bcast_S_S4608x1024 (constant S_ .f32 0x3F800000#32)) (addf (broadcastInDim S4608x1024 ![] bcast_S_S4608x1024 (constant S_ .f32 0x3F800000#32)) (Host.exp (Host.negf (extractStridedSlice S4608x1024 ![0, 1024] a slices_S4608x2048_S4608x1024_0_1024))))

theorem refGate_apply (t : Fin 4608) (k : Fin 1024) : refGate a (ix2 t k) = sigmoid (a (ix2 t ⟨1024 + k.val, by omega⟩)) := by
  unfold refGate sigmoid
  pointwise

/-- The second half of the cotangent before the gated unit, as printed. -/
abbrev refHalf : FVec Ideal S4608x1024 .f32 :=
  mulf (mulf (extractStridedSlice S4608x1024 ![0, 0] a slices_S4608x2048_S4608x1024_0_0) ct) (mulf (refGate a) (subf (broadcastInDim S4608x1024 ![] bcast_S_S4608x1024 (constant S_ .f32 0x3F800000#32)) (refGate a)))

theorem refHalf_apply (t : Fin 4608) (k : Fin 1024) : refHalf ct a (ix2 t k)
    = a (ix2 t ⟨k.val, by omega⟩) * ct (ix2 t k) * (sigmoid (a (ix2 t ⟨1024 + k.val, by omega⟩)) * (1 - sigmoid (a (ix2 t ⟨1024 + k.val, by omega⟩)))) := by
  rw [← refGate_apply]
  unfold refHalf
  generalize refGate a = y
  pointwise

/-- The cotangent before the gated unit, as printed: its two halves, each padded to the row. -/
abbrev refDPre : FVec Ideal S4608x2048 .f32 :=
  addf (pad S4608x2048 ![0, 1024] ![0, 0] ![0, 0] (refHalf ct a) (constant S_ .f32 0x00000000#32) pads_S4608x1024_S4608x2048_000_102400 h_S_)
    (pad S4608x2048 ![0, 0] ![0, 1024] ![0, 0] (mulf ct (refGate a)) (constant S_ .f32 0x00000000#32) pads_S4608x1024_S4608x2048_000_010240 h_S_)

theorem refDPre_apply (t : Fin 4608) (f : Fin 2048) : refDPre ct a (ix2 t f) = dPre ct a t f := by
  have hz : ∀ i, (constant S_ .f32 0x00000000#32 : FVec Ideal S_ .f32) i = 0 := fun i => by pointwise
  refine (congrArg₂ (· + ·) (padRight_apply (refHalf ct a) _ _ h_S_ t f) (padLeft_apply (mulf ct (refGate a)) _ _ h_S_ t f)).trans ?_
  rw [hz]
  unfold dPre gradPre
  by_cases hf : f.val < 1024
  · rw [dif_pos hf, dif_pos hf, dif_pos hf]
    show 0 + ct (ix2 t ⟨f.val, hf⟩) * refGate a (ix2 t ⟨f.val, hf⟩) = _
    rw [refGate_apply, zero_add]
  · rw [dif_neg hf, dif_neg hf, dif_neg hf, refHalf_apply, add_zero]
    have e : (⟨1024 + (f.val - 1024), by omega⟩ : Fin 2048) = f := Fin.ext (by show 1024 + (f.val - 1024) = f.val; omega)
    dsimp only
    rw [e, mul_comm (a _) (ct _), mul_assoc (ct _ * a _)]

/-- The linear layer's input's cotangent, as printed. -/
theorem refDIn_apply (w : FVec Ideal S1024x2048 .f32) (t : Fin 4608) (k : Fin 1024) :
    Host.dotGeneral dot_S4608x2048_S1024x2048_S4608x1024_1_1_0_0_n_n none (refDPre ct a) w (ix2 t k) = dIn ct a w t k := by
  have h : ∀ f, dPre ct a t f = refDPre ct a (ix2 t f) := fun f => (refDPre_apply ct a t f).symm
  unfold dIn
  simp only [h]
  generalize refDPre ct a = y
  pointwise

/-- The bias's cotangent, as printed: the sum over the tokens. -/
theorem refDBias_apply (f : Fin 2048) :
    broadcastInDim S1x2048 ![1] bcast_S2048_S1x2048_1 (Host.reduceAdd (shapeCast _ (Host.reduceAdd (refDPre ct a) (constant S_ .f32 0x00000000#32) reducesTo_S4608x2048_S2048_d0 h_S_) shapeCasts_S2048_S1x2048) (constant S_ .f32 0x00000000#32) reducesTo_S1x2048_S2048_d0 h_S_) (ix2 0 f)
      = ∑ q : Fin 4608, dPre ct a q f := by
  have h : ∀ q, dPre ct a q f = refDPre ct a (ix2 q f) := fun q => (refDPre_apply ct a q f).symm
  simp only [h]
  generalize refDPre ct a = y
  pointwise
  exact Fin.sum_univ_one _

end

section
open Cert.Reference19Ideal Cert.Reference19Ideal.Gen

variable (ct : FVec Ideal S4096x1024 .f32) (a : FVec Ideal S4096x2048 .f32)

/-- The gate of the latent tokens, as printed. -/
abbrev refGateLate : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] a slices_S4096x2048_S4096x1024_0_1024))))

theorem refGateLate_apply (t : Fin 4096) (k : Fin 1024) : refGateLate a (ix2 t k) = sigmoid (a (ix2 t ⟨1024 + k.val, by omega⟩)) := by
  unfold refGateLate sigmoid
  pointwise

/-- The second half of the cotangent before the gated unit, as printed. -/
abbrev refHalfLate : FVec Ideal S4096x1024 .f32 :=
  mulf (mulf (extractStridedSlice S4096x1024 ![0, 0] a slices_S4096x2048_S4096x1024_0_0) ct) (mulf (refGateLate a) (subf (broadcastInDim S4096x1024 ![] bcast_S_S4096x1024 (constant S_ .f32 0x3F800000#32)) (refGateLate a)))

theorem refHalfLate_apply (t : Fin 4096) (k : Fin 1024) : refHalfLate ct a (ix2 t k)
    = a (ix2 t ⟨k.val, by omega⟩) * ct (ix2 t k) * (sigmoid (a (ix2 t ⟨1024 + k.val, by omega⟩)) * (1 - sigmoid (a (ix2 t ⟨1024 + k.val, by omega⟩)))) := by
  rw [← refGateLate_apply]
  unfold refHalfLate
  generalize refGateLate a = y
  pointwise

/-- The cotangent before the gated unit, as printed: its two halves, each padded to the row. -/
abbrev refDPreLate : FVec Ideal S4096x2048 .f32 :=
  addf (pad S4096x2048 ![0, 1024] ![0, 0] ![0, 0] (refHalfLate ct a) (constant S_ .f32 0x00000000#32) pads_S4096x1024_S4096x2048_000_102400 h_S_)
    (pad S4096x2048 ![0, 0] ![0, 1024] ![0, 0] (mulf ct (refGateLate a)) (constant S_ .f32 0x00000000#32) pads_S4096x1024_S4096x2048_000_010240 h_S_)

theorem refDPreLate_apply (t : Fin 4096) (f : Fin 2048) : refDPreLate ct a (ix2 t f) = dPre ct a t f := by
  have hz : ∀ i, (constant S_ .f32 0x00000000#32 : FVec Ideal S_ .f32) i = 0 := fun i => by pointwise
  refine (congrArg₂ (· + ·) (padRight_apply (refHalfLate ct a) _ _ h_S_ t f) (padLeft_apply (mulf ct (refGateLate a)) _ _ h_S_ t f)).trans ?_
  rw [hz]
  unfold dPre gradPre
  by_cases hf : f.val < 1024
  · rw [dif_pos hf, dif_pos hf, dif_pos hf]
    show 0 + ct (ix2 t ⟨f.val, hf⟩) * refGateLate a (ix2 t ⟨f.val, hf⟩) = _
    rw [refGateLate_apply, zero_add]
  · rw [dif_neg hf, dif_neg hf, dif_neg hf, refHalfLate_apply, add_zero]
    have e : (⟨1024 + (f.val - 1024), by omega⟩ : Fin 2048) = f := Fin.ext (by show 1024 + (f.val - 1024) = f.val; omega)
    dsimp only
    rw [e, mul_comm (a _) (ct _), mul_assoc (ct _ * a _)]

/-- The latent tokens' rows. -/
abbrev latentC (ct : FVec Ideal S4608x1024 .f32) : FVec Ideal S4096x1024 .f32 := extractStridedSlice S4096x1024 ![512, 0] ct slices_S4608x1024_S4096x1024_512_0
abbrev latentA (a : FVec Ideal S4608x2048 .f32) : FVec Ideal S4096x2048 .f32 := extractStridedSlice S4096x2048 ![512, 0] a slices_S4608x2048_S4096x2048_512_0

theorem dPre_latent (ct : FVec Ideal S4608x1024 .f32) (a : FVec Ideal S4608x2048 .f32) (q : Fin 4096) (f : Fin 2048) :
    dPre (latentC ct) (latentA a) q f = dPre ct a ⟨512 + q.val, by omega⟩ f := by
  unfold dPre
  refine congrArg₂ (fun d p => gradPre d p f) (funext fun k => ?_) (funext fun g => ?_)
  · unfold latentC
    pointwise
  · unfold latentA
    pointwise

/-- The bias's cotangent, as printed: the sum over the latent tokens. -/
theorem refDBiasLate_apply (ct : FVec Ideal S4608x1024 .f32) (a : FVec Ideal S4608x2048 .f32) (f : Fin 2048) :
    broadcastInDim S1x2048 ![1] bcast_S2048_S1x2048_1 (Host.reduceAdd (refDPreLate (latentC ct) (latentA a)) (constant S_ .f32 0x00000000#32) reducesTo_S4096x2048_S2048_d0 h_S_) (ix2 0 f)
      = ∑ q : Fin 4096, dPre ct a ⟨512 + q.val, by omega⟩ f := by
  have h : ∀ q : Fin 4096, dPre ct a ⟨512 + q.val, by omega⟩ f = refDPreLate (latentC ct) (latentA a) (ix2 q f) :=
    fun q => (dPre_latent ct a q f).symm.trans (refDPreLate_apply _ _ q f).symm
  simp only [h]
  generalize refDPreLate (latentC ct) (latentA a) = y
  pointwise

end

end Cert.GluBwd

end
-- ==== Proof.Glu.BwdEquation.lean ====
/- The gated unit's backward kernels and the references compute the same three arrays. -/
module

public import proofs.«01_k».proof.Defs
public import proofs.«01_k».proof.Proof.Glu.Bwd
public import proofs.«01_k».proof.Proof.Glu.BwdLate
public import proofs.«01_k».proof.Proof.Glu.BwdReference
public import proofs.«01_k».proof.Proof.Late.Equation
public import proofs.«01_k».proof.Proof.Gen.On_latent_rows19

@[expose] public section

noncomputable section

open Idealize.ShloMosaic Idealize.ShloMosaic.TcCoe Idealize.SL.Sem Cert.GluBwd
open Cert.Late (latent_of_bit)
open scoped BigOperators

/-- The first layers' kernel leaves the reference's arrays. -/
theorem Cert.GluBwd.algebraic : Cert.algebraic_Kernel18Ideal_Reference18Ideal := by
  intro m g m' g' _ hargs
  refine ⟨_, _, _, Cert.GluBwd.run m g, ?_⟩
  refine (θ_run Cert.Reference18Ideal.defs _ _).mono (fun r h c => ?_) (Cert.Reference18Ideal.Value.run (F := Ideal) m' g')
  obtain ⟨h0, h1, h2, hk⟩ := h c
  obtain ⟨e0, e1, e2⟩ := hargs c
  refine ⟨h0.trans ?_, h1.trans ?_, h2.trans ?_, hk⟩
  · rw [e0, e1, e2]
    funext i
    obtain ⟨t, k, rfl⟩ : ∃ t k, i = ix2 t k := ⟨i 0, i 1, eq_ix2 i⟩
    exact (refDIn_apply _ _ _ t k).trans (Cert.GluBwd.final3 m c t k).symm
  · rw [e0, e1]
    funext i
    obtain ⟨t, f, rfl⟩ : ∃ t f, i = ix2 t f := ⟨i 0, i 1, eq_ix2 i⟩
    exact (refDPre_apply _ _ t f).trans (Cert.GluBwd.final4 m c t f).symm
  · rw [e0, e1]
    funext i
    obtain ⟨u, f, rfl⟩ : ∃ u f, i = ix2 u f := ⟨i 0, i 1, eq_ix2 i⟩
    obtain rfl : u = 0 := Subsingleton.elim _ _
    exact (refDBias_apply _ _ f).trans (Cert.GluBwd.final5 m c f).symm

/-- The later layers' kernel leaves the reference's arrays: the first two on the latent tokens' rows, the bias's cotangent whole. -/
theorem Cert.GluBwdLate.algebraic : Cert.algebraic_Kernel19Ideal_Reference19Ideal_on_latent_rows19 := by
  intro m g m' g' _ hargs
  refine ⟨fun c => (Cert.Kernel19Ideal.Gen.dats m 0 c).arrAt 3 Cert.Kernel19Ideal.cfg0.N,
    fun c => (Cert.Kernel19Ideal.Gen.dats m 0 c).arrAt 4 Cert.Kernel19Ideal.cfg0.N,
    fun c => (Cert.Kernel19Ideal.Gen.dats m 0 c).arrAt 5 Cert.Kernel19Ideal.cfg0.N, ?_, ?_⟩
  · refine (θ_run Cert.Kernel19Ideal.defs _ _).mono (fun r h c => ?_) (Cert.GluBwdLate.run m g)
    obtain ⟨h0, h1, h2, hk⟩ := h c
    exact ⟨fun i _ => congrFun h0 i, fun i _ => congrFun h1 i, fun i _ => congrFun h2 i, hk⟩
  · refine (θ_run Cert.Reference19Ideal.defs _ _).mono (fun r h c => ?_) (Cert.Reference19Ideal.Value.run (F := Ideal) m' g')
    obtain ⟨h0, h1, h2, hk⟩ := h c
    obtain ⟨e0, e1, e2⟩ := hargs c
    refine ⟨fun i hi => (congrFun h0 i).trans ?_, fun i hi => (congrFun h1 i).trans ?_, fun i _ => (congrFun h2 i).trans ?_, hk⟩
    · rw [e0, e1, e2]
      obtain ⟨t, k, rfl⟩ : ∃ t k, i = ix2 t k := ⟨i 0, i 1, eq_ix2 i⟩
      exact (refDIn_apply _ _ _ t k).trans (Cert.GluBwdLate.final3 m c t (latent_of_bit t hi) k).symm
    · rw [e0, e1]
      obtain ⟨t, f, rfl⟩ : ∃ t f, i = ix2 t f := ⟨i 0, i 1, eq_ix2 i⟩
      exact (refDPre_apply _ _ t f).trans (Cert.GluBwdLate.final4 m c t (latent_of_bit t hi) f).symm
    · rw [e0, e1]
      obtain ⟨u, f, rfl⟩ : ∃ u f, i = ix2 u f := ⟨i 0, i 1, eq_ix2 i⟩
      obtain rfl : u = 0 := Subsingleton.elim _ _
      exact (refDBiasLate_apply _ _ f).trans (Cert.GluBwdLate.final5 m c f).symm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.On_first_slot
public import proofs.«01_k».proof.Proof.Gen.On_latent_rows
public import proofs.«01_k».proof.Proof.Gen.On_latent_rows9
public import proofs.«01_k».proof.Proof.Gen.Kernel5
public import proofs.«01_k».proof.Proof.Gen.Kernel5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.KernelIdeal.Value
public import proofs.«01_k».proof.Proof.Gen.ReferenceIdeal.StepRun
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Kernel6.Frame
public import proofs.«01_k».proof.Proof.Gen.Kernel6Ideal.Value
public import proofs.«01_k».proof.Proof.Gen.Kernel5.Frame
public import proofs.«01_k».proof.Proof.Gen.Kernel5Ideal.Value
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.On_latent_rows15
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.On_latent_rows17
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.On_latent_rows21
public import proofs.«01_k».proof.Proof.Adj.Equation
public import proofs.«01_k».proof.Proof.Mlp.Equation
public import proofs.«01_k».proof.Proof.Mlp.EquationOne
public import proofs.«01_k».proof.Proof.Mlp.EquationTwo
public import proofs.«01_k».proof.Proof.Late.Equation
public import proofs.«01_k».proof.Proof.Late.EquationOne
public import proofs.«01_k».proof.Proof.Late.EquationTwo
public import proofs.«01_k».proof.Proof.Fwd.Equation
public import proofs.«01_k».proof.Proof.LateFwd.Equation
public import proofs.«01_k».proof.Proof.Wgrad.EquationGlu
public import proofs.«01_k».proof.Proof.Wgrad.EquationMix
public import proofs.«01_k».proof.Proof.Glu.Pw1Equation
public import proofs.«01_k».proof.Proof.Glu.Pw2Equation
public import proofs.«01_k».proof.Proof.Glu.SsmEquation
public import proofs.«01_k».proof.Proof.Glu.BwdEquation
public import Idealize.ShloMosaic.Adequacy
public import Idealize.ShloMosaic.Init
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.On_latent_rows19

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Kernel16.Gen.facts, Cert.Kernel16Ideal.Gen.facts, Cert.Reference16Ideal.Gen.facts, Cert.Kernel17.Gen.facts, Cert.Kernel17Ideal.Gen.facts, Cert.Kernel20.Gen.facts, Cert.Kernel20Ideal.Gen.facts, Cert.Reference20Ideal.Gen.facts, Cert.Kernel21.Gen.facts, Cert.Kernel21Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.On_first_slot.Gen.facts, Cert.On_latent_rows.Gen.facts, Cert.On_latent_rows9.Gen.facts, Cert.On_latent_rows15.Gen.facts, Cert.On_latent_rows17.Gen.facts, Cert.On_latent_rows21.Gen.facts, Cert.On_latent_rows19.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m ρ _ => (θ_run Cert.ReferenceIdeal.defs _ _).mono
      (fun r h => ⟨fun c => (h c).2, sem_eq_zero_of_no_sems (by decide) r.2⟩) (Cert.ReferenceIdeal.Value.run m ρ)
  · exact fun m ρ _ => Cert.Kernel2.Gen.frame m ρ
  · exact fun m ρ _ => Cert.Kernel2Ideal.Gen.frame m ρ
  · exact fun m ρ _ => (θ_run Cert.Reference2Ideal.defs _ _).mono
      (fun r h => ⟨fun c => (h c).2.2.2, sem_eq_zero_of_no_sems (by decide) r.2⟩) (Cert.Reference2Ideal.Value.run m ρ)
  · exact fun m ρ _ => Cert.Kernel3.Gen.frame m ρ
  · exact fun m ρ _ => Cert.Kernel3Ideal.Gen.frame m ρ
  · exact fun m ρ _ => (θ_run Cert.Reference3Ideal.defs _ _).mono
      (fun r h => ⟨fun c => (h c).2, sem_eq_zero_of_no_sems (by decide) r.2⟩) (Cert.Reference3Ideal.Value.run m ρ)
  · exact fun m ρ _ => Cert.Kernel4.Gen.frame m ρ
  · exact fun m ρ _ => Cert.Kernel4Ideal.Gen.frame m ρ
  · exact fun m ρ _ => (θ_run Cert.Reference4Ideal.defs _ _).mono
      (fun r h => ⟨fun c => (h c).2, sem_eq_zero_of_no_sems (by decide) r.2⟩) (Cert.Reference4Ideal.Value.run m ρ)
  · exact fun m ρ _ => Cert.Kernel5.Gen.frame m ρ
  · exact fun m ρ _ => Cert.Kernel5Ideal.Gen.frame m ρ
  · exact fun m ρ _ => Cert.Kernel6.Gen.frame m ρ
  · exact fun m ρ _ => Cert.Kernel6Ideal.Gen.frame m ρ
  · exact fun m ρ _ => (θ_run Cert.Reference6Ideal.defs _ _).mono
      (fun r h => ⟨fun c => (h c).2, sem_eq_zero_of_no_sems (by decide) r.2⟩) (Cert.Reference6Ideal.Value.run m ρ)
  · exact fun m ρ _ => Cert.Kernel7.Gen.frame m ρ
  · exact fun m ρ _ => Cert.Kernel7Ideal.Gen.frame m ρ
  · exact fun m ρ _ => (θ_run Cert.Reference7Ideal.defs _ _).mono
      (fun r h => ⟨fun c => (h c).2, sem_eq_zero_of_no_sems (by decide) r.2⟩) (Cert.Reference7Ideal.Value.run m ρ)
  · exact fun m ρ _ => Cert.Kernel8.Gen.frame m ρ
  · exact fun m ρ _ => Cert.Kernel8Ideal.Gen.frame m ρ
  · exact fun m ρ _ => (θ_run Cert.Reference8Ideal.defs _ _).mono
      (fun r h => ⟨fun c => (h c).2.2.2.2.2, sem_eq_zero_of_no_sems (by decide) r.2⟩) (Cert.Reference8Ideal.Value.run m ρ)
  · exact fun m ρ _ => Cert.Kernel9.Gen.frame m ρ
  · exact fun m ρ _ => Cert.Kernel9Ideal.Gen.frame m ρ
  · exact fun m ρ _ => Cert.Kernel10.Gen.frame m ρ
  · exact fun m ρ _ => Cert.Kernel10Ideal.Gen.frame m ρ
  · exact fun m ρ _ => (θ_run Cert.Reference10Ideal.defs _ _).mono
      (fun r h => ⟨fun c => (h c).2, sem_eq_zero_of_no_sems (by decide) r.2⟩) (Cert.Reference10Ideal.Value.run m ρ)
  · exact fun m ρ _ => Cert.Kernel11.Gen.frame m ρ
  · exact fun m ρ _ => Cert.Kernel11Ideal.Gen.frame m ρ
  · exact fun m ρ _ => (θ_run Cert.Reference11Ideal.defs _ _).mono
      (fun r h => ⟨fun c => (h c).2, sem_eq_zero_of_no_sems (by decide) r.2⟩) (Cert.Reference11Ideal.Value.run m ρ)
  · exact fun m ρ _ => Cert.Kernel12.Gen.frame m ρ
  · exact fun m ρ _ => Cert.Kernel12Ideal.Gen.frame m ρ
  · exact fun m ρ _ => (θ_run Cert.Reference12Ideal.defs _ _).mono
      (fun r h => ⟨fun c => (h c).2, sem_eq_zero_of_no_sems (by decide) r.2⟩) (Cert.Reference12Ideal.Value.run m ρ)
  · exact fun m ρ _ => Cert.Kernel13.Gen.frame m ρ
  · exact fun m ρ _ => Cert.Kernel13Ideal.Gen.frame m ρ
  · exact fun m ρ _ => (θ_run Cert.Reference13Ideal.defs _ _).mono
      (fun r h => ⟨fun c => (h c).2, sem_eq_zero_of_no_sems (by decide) r.2⟩) (Cert.Reference13Ideal.Value.run m ρ)
  · exact fun m ρ _ => Cert.Kernel14.Gen.frame m ρ
  · exact fun m ρ _ => Cert.Kernel14Ideal.Gen.frame m ρ
  · exact fun m ρ _ => (θ_run Cert.Reference14Ideal.defs _ _).mono
      (fun r h => ⟨fun c => (h c).2.2.2, sem_eq_zero_of_no_sems (by decide) r.2⟩) (Cert.Reference14Ideal.Value.run m ρ)
  · exact fun m ρ _ => Cert.Kernel15.Gen.frame m ρ
  · exact fun m ρ _ => Cert.Kernel15Ideal.Gen.frame m ρ
  · exact fun m ρ _ => Cert.Kernel16.Gen.frame m ρ
  · exact fun m ρ _ => Cert.Kernel16Ideal.Gen.frame m ρ
  · exact fun m ρ _ => (θ_run Cert.Reference16Ideal.defs _ _).mono
      (fun r h => ⟨fun c => (h c).2.2.2, sem_eq_zero_of_no_sems (by decide) r.2⟩) (Cert.Reference16Ideal.Value.run m ρ)
  · exact fun m ρ _ => Cert.Kernel17.Gen.frame m ρ
  · exact fun m ρ _ => Cert.Kernel17Ideal.Gen.frame m ρ
  · exact fun m ρ _ => Cert.Kernel20.Gen.frame m ρ
  · exact fun m ρ _ => Cert.Kernel20Ideal.Gen.frame m ρ
  · exact fun m ρ _ => (θ_run Cert.Reference20Ideal.defs _ _).mono
      (fun r h => ⟨fun c => (h c).2.2.2.2.2.2, sem_eq_zero_of_no_sems (by decide) r.2⟩) (Cert.Reference20Ideal.Value.run m ρ)
  · exact fun m ρ _ => Cert.Kernel21.Gen.frame m ρ
  · exact fun m ρ _ => Cert.Kernel21Ideal.Gen.frame m ρ
  · exact fun m ρ _ => Cert.Kernel18.Gen.frame m ρ
  · exact fun m ρ _ => Cert.Kernel18Ideal.Gen.frame m ρ
  · exact fun m ρ _ => (θ_run Cert.Reference18Ideal.defs _ _).mono
      (fun r h => ⟨fun c => (h c).2.2.2, sem_eq_zero_of_no_sems (by decide) r.2⟩) (Cert.Reference18Ideal.Value.run m ρ)
  · exact fun m ρ _ => Cert.Kernel19.Gen.frame m ρ
  · exact fun m ρ _ => Cert.Kernel19Ideal.Gen.frame m ρ
  · exact fun m ρ _ => (θ_run Cert.Reference19Ideal.defs _ _).mono
      (fun r h => ⟨fun c => (h c).2.2.2, sem_eq_zero_of_no_sems (by decide) r.2⟩) (Cert.Reference19Ideal.Value.run m ρ)
  · trivial
  · exact Cert.Adj.algebraic
  · trivial
  · exact Cert.Mlp.algebraic
  · trivial
  · exact Cert.MlpW1.algebraic
  · trivial
  · exact Cert.MlpW2.algebraic
  · trivial
  · exact Cert.Late.algebraic
  · trivial
  · exact Cert.LateW1.algebraic
  · trivial
  · exact Cert.LateW2.algebraic
  · trivial
  · exact Cert.Fwd.algebraic
  · trivial
  · exact Cert.LateFwd.algebraic
  · trivial
  · exact Cert.WgradGluEq.algebraic
  · trivial
  · exact Cert.WgradGluEq.algebraic_latent
  · trivial
  · exact Cert.WgradMixEq.algebraic
  · trivial
  · exact Cert.WgradMixEq.algebraic_latent
  · trivial
  · exact Cert.GluPw1.algebraic
  · trivial
  · exact Cert.GluPw1Late.algebraic
  · trivial
  · exact Cert.GluPw2.algebraic
  · trivial
  · exact Cert.GluPw2Late.algebraic
  · trivial
  · exact Cert.GluSsm.algebraic
  · trivial
  · exact Cert.GluSsmLate.algebraic
  · trivial
  · exact Cert.GluBwd.algebraic
  · trivial
  · exact Cert.GluBwdLate.algebraic⟩

end Cert.Proof

end
